-- ==== Defs.lean ====
def Pre_Kernel (m : (ℓ : Loc Cert.Kernel.nD Cert.Kernel.τ Cert.Kernel.sig) → Buf (Elt Bits) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInReferenceIdeal (m : (ℓ : Loc Cert.FfnInReferenceIdeal.nD Cert.FfnInReferenceIdeal.τ Cert.FfnInReferenceIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownReferenceIdeal (m : (ℓ : Loc Cert.FfnDownReferenceIdeal.nD Cert.FfnDownReferenceIdeal.τ Cert.FfnDownReferenceIdeal.sig) → Buf (Elt Ideal) ℓ) : Prop :=
  True

def Pre_InZ (m : (ℓ : Loc Cert.InZ.nD Cert.InZ.τ Cert.InZ.sig) → Buf (Elt Bits) ℓ) : Prop :=
  True

def Pre_InZIdeal (m : (ℓ : Loc Cert.InZIdeal.nD Cert.InZIdeal.τ Cert.InZIdeal.sig) → Buf (Elt Ideal) ℓ) : Prop :=
  True

def Pre_InZReferenceIdeal (m : (ℓ : Loc Cert.InZReferenceIdeal.nD Cert.InZReferenceIdeal.τ Cert.InZReferenceIdeal.sig) → Buf (Elt Ideal) ℓ) : Prop :=
  True

def Pre_InGates (m : (ℓ : Loc Cert.InGates.nD Cert.InGates.τ Cert.InGates.sig) → Buf (Elt Bits) ℓ) : Prop :=
  True

def Pre_InGatesIdeal (m : (ℓ : Loc Cert.InGatesIdeal.nD Cert.InGatesIdeal.τ Cert.InGatesIdeal.sig) → Buf (Elt Ideal) ℓ) : Prop :=
  True

def Pre_InGatesReferenceIdeal (m : (ℓ : Loc Cert.InGatesReferenceIdeal.nD Cert.InGatesReferenceIdeal.τ Cert.InGatesReferenceIdeal.sig) → Buf (Elt Ideal) ℓ) : Prop :=
  True

def Pre_ProjAb (m : (ℓ : Loc Cert.ProjAb.nD Cert.ProjAb.τ Cert.ProjAb.sig) → Buf (Elt Bits) ℓ) : Prop :=
  True

def Pre_ProjAbIdeal (m : (ℓ : Loc Cert.ProjAbIdeal.nD Cert.ProjAbIdeal.τ Cert.ProjAbIdeal.sig) → Buf (Elt Ideal) ℓ) : Prop :=
  True

def Pre_ProjAbReferenceIdeal (m : (ℓ : Loc Cert.ProjAbReferenceIdeal.nD Cert.ProjAbReferenceIdeal.τ Cert.ProjAbReferenceIdeal.sig) → Buf (Elt Ideal) ℓ) : Prop :=
  True

def Pre_WOut (m : (ℓ : Loc Cert.WOut.nD Cert.WOut.τ Cert.WOut.sig) → Buf (Elt Bits) ℓ) : Prop :=
  True

def Pre_WOutIdeal (m : (ℓ : Loc Cert.WOutIdeal.nD Cert.WOutIdeal.τ Cert.WOutIdeal.sig) → Buf (Elt Ideal) ℓ) : Prop :=
  True

def Pre_WOutReferenceIdeal (m : (ℓ : Loc Cert.WOutReferenceIdeal.nD Cert.WOutReferenceIdeal.τ Cert.WOutReferenceIdeal.sig) → Buf (Elt Ideal) ℓ) : Prop :=
  True

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInReferenceIdeal (m : (ℓ : Loc Cert.NormInReferenceIdeal.nD Cert.NormInReferenceIdeal.τ Cert.NormInReferenceIdeal.sig) → Buf (Elt Ideal) ℓ) : Prop :=
  True

def Pre_XbcConv (m : (ℓ : Loc Cert.XbcConv.nD Cert.XbcConv.τ Cert.XbcConv.sig) → Buf (Elt Bits) ℓ) : Prop :=
  True

def Pre_XbcConvIdeal (m : (ℓ : Loc Cert.XbcConvIdeal.nD Cert.XbcConvIdeal.τ Cert.XbcConvIdeal.sig) → Buf (Elt Ideal) ℓ) : Prop :=
  True

def Pre_XbcConvReferenceIdeal (m : (ℓ : Loc Cert.XbcConvReferenceIdeal.nD Cert.XbcConvReferenceIdeal.τ Cert.XbcConvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4))
      ∧ r.2.sem = fun _ => 0)

def quiescent_FfnInReferenceIdeal [hFfnInReferenceIdeal : Cert.FfnInReferenceIdeal.Facts] : Prop :=
  ∀ (m : (ℓ : Loc Cert.FfnInReferenceIdeal.nD Cert.FfnInReferenceIdeal.τ Cert.FfnInReferenceIdeal.sig) → Buf (Elt Ideal) ℓ) (g : Dev Cert.FfnInReferenceIdeal.nD → PrngReg), Pre_FfnInReferenceIdeal m →
    θ_run (Cert.FfnInReferenceIdeal.defs (F := Ideal)) (onTc (τ := Cert.FfnInReferenceIdeal.τ) (Cert.FfnInReferenceIdeal.main (F := Ideal))) ⟨m, fun _ => 0, g⟩ (fun r => (∀ c : Dev Cert.FfnInReferenceIdeal.nD,
      r.2.mem ((c.tc : Thread Cert.FfnInReferenceIdeal.nD Cert.FfnInReferenceIdeal.τ).loc Cert.FfnInReferenceIdeal.main_arg0) = m ((c.tc : Thread Cert.FfnInReferenceIdeal.nD Cert.FfnInReferenceIdeal.τ).loc Cert.FfnInReferenceIdeal.main_arg0)
      ∧ r.2.mem ((c.tc : Thread Cert.FfnInReferenceIdeal.nD Cert.FfnInReferenceIdeal.τ).loc Cert.FfnInReferenceIdeal.main_arg1) = m ((c.tc : Thread Cert.FfnInReferenceIdeal.nD Cert.FfnInReferenceIdeal.τ).loc Cert.FfnInReferenceIdeal.main_arg1)
      ∧ r.2.mem ((c.tc : Thread Cert.FfnInReferenceIdeal.nD Cert.FfnInReferenceIdeal.τ).loc Cert.FfnInReferenceIdeal.main_arg2) = m ((c.tc : Thread Cert.FfnInReferenceIdeal.nD Cert.FfnInReferenceIdeal.τ).loc Cert.FfnInReferenceIdeal.main_arg2)
      ∧ r.2.mem ((c.tc : Thread Cert.FfnInReferenceIdeal.nD Cert.FfnInReferenceIdeal.τ).loc Cert.FfnInReferenceIdeal.main_arg3) = m ((c.tc : Thread Cert.FfnInReferenceIdeal.nD Cert.FfnInReferenceIdeal.τ).loc Cert.FfnInReferenceIdeal.main_arg3)
      ∧ r.2.mem ((c.tc : Thread Cert.FfnInReferenceIdeal.nD Cert.FfnInReferenceIdeal.τ).loc Cert.FfnInReferenceIdeal.main_arg4) = m ((c.tc : Thread Cert.FfnInReferenceIdeal.nD Cert.FfnInReferenceIdeal.τ).loc Cert.FfnInReferenceIdeal.main_arg4))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3)
      ∧ r.2.mem ((c.tc : Thread Cert.FfnDown.nD Cert.FfnDown.τ).loc Cert.FfnDown.main_arg4) = m ((c.tc : Thread Cert.FfnDown.nD Cert.FfnDown.τ).loc Cert.FfnDown.main_arg4))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
      ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4))
      ∧ r.2.sem = fun _ => 0)

def quiescent_FfnDownReferenceIdeal [hFfnDownReferenceIdeal : Cert.FfnDownReferenceIdeal.Facts] : Prop :=
  ∀ (m : (ℓ : Loc Cert.FfnDownReferenceIdeal.nD Cert.FfnDownReferenceIdeal.τ Cert.FfnDownReferenceIdeal.sig) → Buf (Elt Ideal) ℓ) (g : Dev Cert.FfnDownReferenceIdeal.nD → PrngReg), Pre_FfnDownReferenceIdeal m →
    θ_run (Cert.FfnDownReferenceIdeal.defs (F := Ideal)) (onTc (τ := Cert.FfnDownReferenceIdeal.τ) (Cert.FfnDownReferenceIdeal.main (F := Ideal))) ⟨m, fun _ => 0, g⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1)
      ∧ r.2.mem ((c.tc : Thread Cert.FfnDownReferenceIdeal.nD Cert.FfnDownReferenceIdeal.τ).loc Cert.FfnDownReferenceIdeal.main_arg2) = m ((c.tc : Thread Cert.FfnDownReferenceIdeal.nD Cert.FfnDownReferenceIdeal.τ).loc Cert.FfnDownReferenceIdeal.main_arg2)
      ∧ r.2.mem ((c.tc : Thread Cert.FfnDownReferenceIdeal.nD Cert.FfnDownReferenceIdeal.τ).loc Cert.FfnDownReferenceIdeal.main_arg3) = m ((c.tc : Thread Cert.FfnDownReferenceIdeal.nD Cert.FfnDownReferenceIdeal.τ).loc Cert.FfnDownReferenceIdeal.main_arg3)
      ∧ r.2.mem ((c.tc : Thread Cert.FfnDownReferenceIdeal.nD Cert.FfnDownReferenceIdeal.τ).loc Cert.FfnDownReferenceIdeal.main_arg4) = m ((c.tc : Thread Cert.FfnDownReferenceIdeal.nD Cert.FfnDownReferenceIdeal.τ).loc Cert.FfnDownReferenceIdeal.main_arg4))
      ∧ r.2.sem = fun _ => 0)

def quiescent_InZ [hInZ : Cert.InZ.Facts] : Prop :=
  ∀ (m : (ℓ : Loc Cert.InZ.nD Cert.InZ.τ Cert.InZ.sig) → Buf (Elt Bits) ℓ) (g : Dev Cert.InZ.nD → PrngReg), Pre_InZ m →
    θ_run (Cert.InZ.defs (F := Bits)) (onTc (τ := Cert.InZ.τ) (Cert.InZ.main (F := Bits))) ⟨m, fun _ => 0, g⟩ (fun r => (∀ c : Dev Cert.InZ.nD,
      r.2.mem ((c.tc : Thread Cert.InZ.nD Cert.InZ.τ).loc Cert.InZ.main_arg0) = m ((c.tc : Thread Cert.InZ.nD Cert.InZ.τ).loc Cert.InZ.main_arg0)
      ∧ r.2.mem ((c.tc : Thread Cert.InZ.nD Cert.InZ.τ).loc Cert.InZ.main_arg1) = m ((c.tc : Thread Cert.InZ.nD Cert.InZ.τ).loc Cert.InZ.main_arg1))
      ∧ r.2.sem = fun _ => 0)

def quiescent_InZIdeal [hInZIdeal : Cert.InZIdeal.Facts] : Prop :=
  ∀ (m : (ℓ : Loc Cert.InZIdeal.nD Cert.InZIdeal.τ Cert.InZIdeal.sig) → Buf (Elt Ideal) ℓ) (g : Dev Cert.InZIdeal.nD → PrngReg), Pre_InZIdeal m →
    θ_run (Cert.InZIdeal.defs (F := Ideal)) (onTc (τ := Cert.InZIdeal.τ) (Cert.InZIdeal.main (F := Ideal))) ⟨m, fun _ => 0, g⟩ (fun r => (∀ c : Dev Cert.InZIdeal.nD,
      r.2.mem ((c.tc : Thread Cert.InZIdeal.nD Cert.InZIdeal.τ).loc Cert.InZIdeal.main_arg0) = m ((c.tc : Thread Cert.InZIdeal.nD Cert.InZIdeal.τ).loc Cert.InZIdeal.main_arg0)
      ∧ r.2.mem ((c.tc : Thread Cert.InZIdeal.nD Cert.InZIdeal.τ).loc Cert.InZIdeal.main_arg1) = m ((c.tc : Thread Cert.InZIdeal.nD Cert.InZIdeal.τ).loc Cert.InZIdeal.main_arg1))
      ∧ r.2.sem = fun _ => 0)

def quiescent_InZReferenceIdeal [hInZReferenceIdeal : Cert.InZReferenceIdeal.Facts] : Prop :=
  ∀ (m : (ℓ : Loc Cert.InZReferenceIdeal.nD Cert.InZReferenceIdeal.τ Cert.InZReferenceIdeal.sig) → Buf (Elt Ideal) ℓ) (g : Dev Cert.InZReferenceIdeal.nD → PrngReg), Pre_InZReferenceIdeal m →
    θ_run (Cert.InZReferenceIdeal.defs (F := Ideal)) (onTc (τ := Cert.InZReferenceIdeal.τ) (Cert.InZReferenceIdeal.main (F := Ideal))) ⟨m, fun _ => 0, g⟩ (fun r => (∀ c : Dev Cert.InZReferenceIdeal.nD,
      r.2.mem ((c.tc : Thread Cert.InZReferenceIdeal.nD Cert.InZReferenceIdeal.τ).loc Cert.InZReferenceIdeal.main_arg0) = m ((c.tc : Thread Cert.InZReferenceIdeal.nD Cert.InZReferenceIdeal.τ).loc Cert.InZReferenceIdeal.main_arg0)
      ∧ r.2.mem ((c.tc : Thread Cert.InZReferenceIdeal.nD Cert.InZReferenceIdeal.τ).loc Cert.InZReferenceIdeal.main_arg1) = m ((c.tc : Thread Cert.InZReferenceIdeal.nD Cert.InZReferenceIdeal.τ).loc Cert.InZReferenceIdeal.main_arg1))
      ∧ r.2.sem = fun _ => 0)

def quiescent_InGates [hInGates : Cert.InGates.Facts] : Prop :=
  ∀ (m : (ℓ : Loc Cert.InGates.nD Cert.InGates.τ Cert.InGates.sig) → Buf (Elt Bits) ℓ) (g : Dev Cert.InGates.nD → PrngReg), Pre_InGates m →
    θ_run (Cert.InGates.defs (F := Bits)) (onTc (τ := Cert.InGates.τ) (Cert.InGates.main (F := Bits))) ⟨m, fun _ => 0, g⟩ (fun r => (∀ c : Dev Cert.InGates.nD,
      r.2.mem ((c.tc : Thread Cert.InGates.nD Cert.InGates.τ).loc Cert.InGates.main_arg0) = m ((c.tc : Thread Cert.InGates.nD Cert.InGates.τ).loc Cert.InGates.main_arg0)
      ∧ r.2.mem ((c.tc : Thread Cert.InGates.nD Cert.InGates.τ).loc Cert.InGates.main_arg1) = m ((c.tc : Thread Cert.InGates.nD Cert.InGates.τ).loc Cert.InGates.main_arg1))
      ∧ r.2.sem = fun _ => 0)

def quiescent_InGatesIdeal [hInGatesIdeal : Cert.InGatesIdeal.Facts] : Prop :=
  ∀ (m : (ℓ : Loc Cert.InGatesIdeal.nD Cert.InGatesIdeal.τ Cert.InGatesIdeal.sig) → Buf (Elt Ideal) ℓ) (g : Dev Cert.InGatesIdeal.nD → PrngReg), Pre_InGatesIdeal m →
    θ_run (Cert.InGatesIdeal.defs (F := Ideal)) (onTc (τ := Cert.InGatesIdeal.τ) (Cert.InGatesIdeal.main (F := Ideal))) ⟨m, fun _ => 0, g⟩ (fun r => (∀ c : Dev Cert.InGatesIdeal.nD,
      r.2.mem ((c.tc : Thread Cert.InGatesIdeal.nD Cert.InGatesIdeal.τ).loc Cert.InGatesIdeal.main_arg0) = m ((c.tc : Thread Cert.InGatesIdeal.nD Cert.InGatesIdeal.τ).loc Cert.InGatesIdeal.main_arg0)
      ∧ r.2.mem ((c.tc : Thread Cert.InGatesIdeal.nD Cert.InGatesIdeal.τ).loc Cert.InGatesIdeal.main_arg1) = m ((c.tc : Thread Cert.InGatesIdeal.nD Cert.InGatesIdeal.τ).loc Cert.InGatesIdeal.main_arg1))
      ∧ r.2.sem = fun _ => 0)

def quiescent_InGatesReferenceIdeal [hInGatesReferenceIdeal : Cert.InGatesReferenceIdeal.Facts] : Prop :=
  ∀ (m : (ℓ : Loc Cert.InGatesReferenceIdeal.nD Cert.InGatesReferenceIdeal.τ Cert.InGatesReferenceIdeal.sig) → Buf (Elt Ideal) ℓ) (g : Dev Cert.InGatesReferenceIdeal.nD → PrngReg), Pre_InGatesReferenceIdeal m →
    θ_run (Cert.InGatesReferenceIdeal.defs (F := Ideal)) (onTc (τ := Cert.InGatesReferenceIdeal.τ) (Cert.InGatesReferenceIdeal.main (F := Ideal))) ⟨m, fun _ => 0, g⟩ (fun r => (∀ c : Dev Cert.InGatesReferenceIdeal.nD,
      r.2.mem ((c.tc : Thread Cert.InGatesReferenceIdeal.nD Cert.InGatesReferenceIdeal.τ).loc Cert.InGatesReferenceIdeal.main_arg0) = m ((c.tc : Thread Cert.InGatesReferenceIdeal.nD Cert.InGatesReferenceIdeal.τ).loc Cert.InGatesReferenceIdeal.main_arg0)
      ∧ r.2.mem ((c.tc : Thread Cert.InGatesReferenceIdeal.nD Cert.InGatesReferenceIdeal.τ).loc Cert.InGatesReferenceIdeal.main_arg1) = m ((c.tc : Thread Cert.InGatesReferenceIdeal.nD Cert.InGatesReferenceIdeal.τ).loc Cert.InGatesReferenceIdeal.main_arg1))
      ∧ r.2.sem = fun _ => 0)

def quiescent_ProjAb [hProjAb : Cert.ProjAb.Facts] : Prop :=
  ∀ (m : (ℓ : Loc Cert.ProjAb.nD Cert.ProjAb.τ Cert.ProjAb.sig) → Buf (Elt Bits) ℓ) (g : Dev Cert.ProjAb.nD → PrngReg), Pre_ProjAb m →
    θ_run (Cert.ProjAb.defs (F := Bits)) (onTc (τ := Cert.ProjAb.τ) (Cert.ProjAb.main (F := Bits))) ⟨m, fun _ => 0, g⟩ (fun r => (∀ c : Dev Cert.ProjAb.nD,
      r.2.mem ((c.tc : Thread Cert.ProjAb.nD Cert.ProjAb.τ).loc Cert.ProjAb.main_arg0) = m ((c.tc : Thread Cert.ProjAb.nD Cert.ProjAb.τ).loc Cert.ProjAb.main_arg0)
      ∧ r.2.mem ((c.tc : Thread Cert.ProjAb.nD Cert.ProjAb.τ).loc Cert.ProjAb.main_arg1) = m ((c.tc : Thread Cert.ProjAb.nD Cert.ProjAb.τ).loc Cert.ProjAb.main_arg1)
      ∧ r.2.mem ((c.tc : Thread Cert.ProjAb.nD Cert.ProjAb.τ).loc Cert.ProjAb.main_arg2) = m ((c.tc : Thread Cert.ProjAb.nD Cert.ProjAb.τ).loc Cert.ProjAb.main_arg2)
      ∧ r.2.mem ((c.tc : Thread Cert.ProjAb.nD Cert.ProjAb.τ).loc Cert.ProjAb.main_arg3) = m ((c.tc : Thread Cert.ProjAb.nD Cert.ProjAb.τ).loc Cert.ProjAb.main_arg3)
      ∧ r.2.mem ((c.tc : Thread Cert.ProjAb.nD Cert.ProjAb.τ).loc Cert.ProjAb.main_arg4) = m ((c.tc : Thread Cert.ProjAb.nD Cert.ProjAb.τ).loc Cert.ProjAb.main_arg4))
      ∧ r.2.sem = fun _ => 0)

def quiescent_ProjAbIdeal [hProjAbIdeal : Cert.ProjAbIdeal.Facts] : Prop :=
  ∀ (m : (ℓ : Loc Cert.ProjAbIdeal.nD Cert.ProjAbIdeal.τ Cert.ProjAbIdeal.sig) → Buf (Elt Ideal) ℓ) (g : Dev Cert.ProjAbIdeal.nD → PrngReg), Pre_ProjAbIdeal m →
    θ_run (Cert.ProjAbIdeal.defs (F := Ideal)) (onTc (τ := Cert.ProjAbIdeal.τ) (Cert.ProjAbIdeal.main (F := Ideal))) ⟨m, fun _ => 0, g⟩ (fun r => (∀ c : Dev Cert.ProjAbIdeal.nD,
      r.2.mem ((c.tc : Thread Cert.ProjAbIdeal.nD Cert.ProjAbIdeal.τ).loc Cert.ProjAbIdeal.main_arg0) = m ((c.tc : Thread Cert.ProjAbIdeal.nD Cert.ProjAbIdeal.τ).loc Cert.ProjAbIdeal.main_arg0)
      ∧ r.2.mem ((c.tc : Thread Cert.ProjAbIdeal.nD Cert.ProjAbIdeal.τ).loc Cert.ProjAbIdeal.main_arg1) = m ((c.tc : Thread Cert.ProjAbIdeal.nD Cert.ProjAbIdeal.τ).loc Cert.ProjAbIdeal.main_arg1)
      ∧ r.2.mem ((c.tc : Thread Cert.ProjAbIdeal.nD Cert.ProjAbIdeal.τ).loc Cert.ProjAbIdeal.main_arg2) = m ((c.tc : Thread Cert.ProjAbIdeal.nD Cert.ProjAbIdeal.τ).loc Cert.ProjAbIdeal.main_arg2)
      ∧ r.2.mem ((c.tc : Thread Cert.ProjAbIdeal.nD Cert.ProjAbIdeal.τ).loc Cert.ProjAbIdeal.main_arg3) = m ((c.tc : Thread Cert.ProjAbIdeal.nD Cert.ProjAbIdeal.τ).loc Cert.ProjAbIdeal.main_arg3)
      ∧ r.2.mem ((c.tc : Thread Cert.ProjAbIdeal.nD Cert.ProjAbIdeal.τ).loc Cert.ProjAbIdeal.main_arg4) = m ((c.tc : Thread Cert.ProjAbIdeal.nD Cert.ProjAbIdeal.τ).loc Cert.ProjAbIdeal.main_arg4))
      ∧ r.2.sem = fun _ => 0)

def quiescent_ProjAbReferenceIdeal [hProjAbReferenceIdeal : Cert.ProjAbReferenceIdeal.Facts] : Prop :=
  ∀ (m : (ℓ : Loc Cert.ProjAbReferenceIdeal.nD Cert.ProjAbReferenceIdeal.τ Cert.ProjAbReferenceIdeal.sig) → Buf (Elt Ideal) ℓ) (g : Dev Cert.ProjAbReferenceIdeal.nD → PrngReg), Pre_ProjAbReferenceIdeal m →
    θ_run (Cert.ProjAbReferenceIdeal.defs (F := Ideal)) (onTc (τ := Cert.ProjAbReferenceIdeal.τ) (Cert.ProjAbReferenceIdeal.main (F := Ideal))) ⟨m, fun _ => 0, g⟩ (fun r => (∀ c : Dev Cert.ProjAbReferenceIdeal.nD,
      r.2.mem ((c.tc : Thread Cert.ProjAbReferenceIdeal.nD Cert.ProjAbReferenceIdeal.τ).loc Cert.ProjAbReferenceIdeal.main_arg0) = m ((c.tc : Thread Cert.ProjAbReferenceIdeal.nD Cert.ProjAbReferenceIdeal.τ).loc Cert.ProjAbReferenceIdeal.main_arg0)
      ∧ r.2.mem ((c.tc : Thread Cert.ProjAbReferenceIdeal.nD Cert.ProjAbReferenceIdeal.τ).loc Cert.ProjAbReferenceIdeal.main_arg1) = m ((c.tc : Thread Cert.ProjAbReferenceIdeal.nD Cert.ProjAbReferenceIdeal.τ).loc Cert.ProjAbReferenceIdeal.main_arg1)
      ∧ r.2.mem ((c.tc : Thread Cert.ProjAbReferenceIdeal.nD Cert.ProjAbReferenceIdeal.τ).loc Cert.ProjAbReferenceIdeal.main_arg2) = m ((c.tc : Thread Cert.ProjAbReferenceIdeal.nD Cert.ProjAbReferenceIdeal.τ).loc Cert.ProjAbReferenceIdeal.main_arg2)
      ∧ r.2.mem ((c.tc : Thread Cert.ProjAbReferenceIdeal.nD Cert.ProjAbReferenceIdeal.τ).loc Cert.ProjAbReferenceIdeal.main_arg3) = m ((c.tc : Thread Cert.ProjAbReferenceIdeal.nD Cert.ProjAbReferenceIdeal.τ).loc Cert.ProjAbReferenceIdeal.main_arg3)
      ∧ r.2.mem ((c.tc : Thread Cert.ProjAbReferenceIdeal.nD Cert.ProjAbReferenceIdeal.τ).loc Cert.ProjAbReferenceIdeal.main_arg4) = m ((c.tc : Thread Cert.ProjAbReferenceIdeal.nD Cert.ProjAbReferenceIdeal.τ).loc Cert.ProjAbReferenceIdeal.main_arg4))
      ∧ r.2.sem = fun _ => 0)

def quiescent_WOut [hWOut : Cert.WOut.Facts] : Prop :=
  ∀ (m : (ℓ : Loc Cert.WOut.nD Cert.WOut.τ Cert.WOut.sig) → Buf (Elt Bits) ℓ) (g : Dev Cert.WOut.nD → PrngReg), Pre_WOut m →
    θ_run (Cert.WOut.defs (F := Bits)) (onTc (τ := Cert.WOut.τ) (Cert.WOut.main (F := Bits))) ⟨m, fun _ => 0, g⟩ (fun r => (∀ c : Dev Cert.WOut.nD,
      r.2.mem ((c.tc : Thread Cert.WOut.nD Cert.WOut.τ).loc Cert.WOut.main_arg0) = m ((c.tc : Thread Cert.WOut.nD Cert.WOut.τ).loc Cert.WOut.main_arg0)
      ∧ r.2.mem ((c.tc : Thread Cert.WOut.nD Cert.WOut.τ).loc Cert.WOut.main_arg1) = m ((c.tc : Thread Cert.WOut.nD Cert.WOut.τ).loc Cert.WOut.main_arg1)
      ∧ r.2.mem ((c.tc : Thread Cert.WOut.nD Cert.WOut.τ).loc Cert.WOut.main_arg2) = m ((c.tc : Thread Cert.WOut.nD Cert.WOut.τ).loc Cert.WOut.main_arg2)
      ∧ r.2.mem ((c.tc : Thread Cert.WOut.nD Cert.WOut.τ).loc Cert.WOut.main_arg3) = m ((c.tc : Thread Cert.WOut.nD Cert.WOut.τ).loc Cert.WOut.main_arg3))
      ∧ r.2.sem = fun _ => 0)

def quiescent_WOutIdeal [hWOutIdeal : Cert.WOutIdeal.Facts] : Prop :=
  ∀ (m : (ℓ : Loc Cert.WOutIdeal.nD Cert.WOutIdeal.τ Cert.WOutIdeal.sig) → Buf (Elt Ideal) ℓ) (g : Dev Cert.WOutIdeal.nD → PrngReg), Pre_WOutIdeal m →
    θ_run (Cert.WOutIdeal.defs (F := Ideal)) (onTc (τ := Cert.WOutIdeal.τ) (Cert.WOutIdeal.main (F := Ideal))) ⟨m, fun _ => 0, g⟩ (fun r => (∀ c : Dev Cert.WOutIdeal.nD,
      r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
      ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1)
      ∧ r.2.mem ((c.tc : Thread Cert.WOutIdeal.nD Cert.WOutIdeal.τ).loc Cert.WOutIdeal.main_arg2) = m ((c.tc : Thread Cert.WOutIdeal.nD Cert.WOutIdeal.τ).loc Cert.WOutIdeal.main_arg2)
      ∧ r.2.mem ((c.tc : Thread Cert.WOutIdeal.nD Cert.WOutIdeal.τ).loc Cert.WOutIdeal.main_arg3) = m ((c.tc : Thread Cert.WOutIdeal.nD Cert.WOutIdeal.τ).loc Cert.WOutIdeal.main_arg3))
      ∧ r.2.sem = fun _ => 0)

def quiescent_WOutReferenceIdeal [hWOutReferenceIdeal : Cert.WOutReferenceIdeal.Facts] : Prop :=
  ∀ (m : (ℓ : Loc Cert.WOutReferenceIdeal.nD Cert.WOutReferenceIdeal.τ Cert.WOutReferenceIdeal.sig) → Buf (Elt Ideal) ℓ) (g : Dev Cert.WOutReferenceIdeal.nD → PrngReg), Pre_WOutReferenceIdeal m →
    θ_run (Cert.WOutReferenceIdeal.defs (F := Ideal)) (onTc (τ := Cert.WOutReferenceIdeal.τ) (Cert.WOutReferenceIdeal.main (F := Ideal))) ⟨m, fun _ => 0, g⟩ (fun r => (∀ c : Dev Cert.WOutReferenceIdeal.nD,
      r.2.mem ((c.tc : Thread Cert.WOutReferenceIdeal.nD Cert.WOutReferenceIdeal.τ).loc Cert.WOutReferenceIdeal.main_arg0) = m ((c.tc : Thread Cert.WOutReferenceIdeal.nD Cert.WOutReferenceIdeal.τ).loc Cert.WOutReferenceIdeal.main_arg0)
      ∧ r.2.mem ((c.tc : Thread Cert.WOutReferenceIdeal.nD Cert.WOutReferenceIdeal.τ).loc Cert.WOutReferenceIdeal.main_arg1) = m ((c.tc : Thread Cert.WOutReferenceIdeal.nD Cert.WOutReferenceIdeal.τ).loc Cert.WOutReferenceIdeal.main_arg1)
      ∧ r.2.mem ((c.tc : Thread Cert.WOutReferenceIdeal.nD Cert.WOutReferenceIdeal.τ).loc Cert.WOutReferenceIdeal.main_arg2) = m ((c.tc : Thread Cert.WOutReferenceIdeal.nD Cert.WOutReferenceIdeal.τ).loc Cert.WOutReferenceIdeal.main_arg2)
      ∧ r.2.mem ((c.tc : Thread Cert.WOutReferenceIdeal.nD Cert.WOutReferenceIdeal.τ).loc Cert.WOutReferenceIdeal.main_arg3) = m ((c.tc : Thread Cert.WOutReferenceIdeal.nD Cert.WOutReferenceIdeal.τ).loc Cert.WOutReferenceIdeal.main_arg3))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1)
      ∧ r.2.mem ((c.tc : Thread Cert.NormIn.nD Cert.NormIn.τ).loc Cert.NormIn.main_arg2) = m ((c.tc : Thread Cert.NormIn.nD Cert.NormIn.τ).loc Cert.NormIn.main_arg2)
      ∧ r.2.mem ((c.tc : Thread Cert.NormIn.nD Cert.NormIn.τ).loc Cert.NormIn.main_arg3) = m ((c.tc : Thread Cert.NormIn.nD Cert.NormIn.τ).loc Cert.NormIn.main_arg3))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
      ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
      ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3))
      ∧ r.2.sem = fun _ => 0)

def quiescent_NormInReferenceIdeal [hNormInReferenceIdeal : Cert.NormInReferenceIdeal.Facts] : Prop :=
  ∀ (m : (ℓ : Loc Cert.NormInReferenceIdeal.nD Cert.NormInReferenceIdeal.τ Cert.NormInReferenceIdeal.sig) → Buf (Elt Ideal) ℓ) (g : Dev Cert.NormInReferenceIdeal.nD → PrngReg), Pre_NormInReferenceIdeal m →
    θ_run (Cert.NormInReferenceIdeal.defs (F := Ideal)) (onTc (τ := Cert.NormInReferenceIdeal.τ) (Cert.NormInReferenceIdeal.main (F := Ideal))) ⟨m, fun _ => 0, g⟩ (fun r => (∀ c : Dev Cert.NormInReferenceIdeal.nD,
      r.2.mem ((c.tc : Thread Cert.NormInReferenceIdeal.nD Cert.NormInReferenceIdeal.τ).loc Cert.NormInReferenceIdeal.main_arg0) = m ((c.tc : Thread Cert.NormInReferenceIdeal.nD Cert.NormInReferenceIdeal.τ).loc Cert.NormInReferenceIdeal.main_arg0)
      ∧ r.2.mem ((c.tc : Thread Cert.NormInReferenceIdeal.nD Cert.NormInReferenceIdeal.τ).loc Cert.NormInReferenceIdeal.main_arg1) = m ((c.tc : Thread Cert.NormInReferenceIdeal.nD Cert.NormInReferenceIdeal.τ).loc Cert.NormInReferenceIdeal.main_arg1)
      ∧ r.2.mem ((c.tc : Thread Cert.NormInReferenceIdeal.nD Cert.NormInReferenceIdeal.τ).loc Cert.NormInReferenceIdeal.main_arg2) = m ((c.tc : Thread Cert.NormInReferenceIdeal.nD Cert.NormInReferenceIdeal.τ).loc Cert.NormInReferenceIdeal.main_arg2)
      ∧ r.2.mem ((c.tc : Thread Cert.NormInReferenceIdeal.nD Cert.NormInReferenceIdeal.τ).loc Cert.NormInReferenceIdeal.main_arg3) = m ((c.tc : Thread Cert.NormInReferenceIdeal.nD Cert.NormInReferenceIdeal.τ).loc Cert.NormInReferenceIdeal.main_arg3))
      ∧ r.2.sem = fun _ => 0)

def quiescent_XbcConv [hXbcConv : Cert.XbcConv.Facts] : Prop :=
  ∀ (m : (ℓ : Loc Cert.XbcConv.nD Cert.XbcConv.τ Cert.XbcConv.sig) → Buf (Elt Bits) ℓ) (g : Dev Cert.XbcConv.nD → PrngReg), Pre_XbcConv m →
    θ_run (Cert.XbcConv.defs (F := Bits)) (onTc (τ := Cert.XbcConv.τ) (Cert.XbcConv.main (F := Bits))) ⟨m, fun _ => 0, g⟩ (fun r => (∀ c : Dev Cert.XbcConv.nD,
      r.2.mem ((c.tc : Thread Cert.XbcConv.nD Cert.XbcConv.τ).loc Cert.XbcConv.main_arg0) = m ((c.tc : Thread Cert.XbcConv.nD Cert.XbcConv.τ).loc Cert.XbcConv.main_arg0)
      ∧ r.2.mem ((c.tc : Thread Cert.XbcConv.nD Cert.XbcConv.τ).loc Cert.XbcConv.main_arg1) = m ((c.tc : Thread Cert.XbcConv.nD Cert.XbcConv.τ).loc Cert.XbcConv.main_arg1)
      ∧ r.2.mem ((c.tc : Thread Cert.XbcConv.nD Cert.XbcConv.τ).loc Cert.XbcConv.main_arg2) = m ((c.tc : Thread Cert.XbcConv.nD Cert.XbcConv.τ).loc Cert.XbcConv.main_arg2)
      ∧ r.2.mem ((c.tc : Thread Cert.XbcConv.nD Cert.XbcConv.τ).loc Cert.XbcConv.main_arg3) = m ((c.tc : Thread Cert.XbcConv.nD Cert.XbcConv.τ).loc Cert.XbcConv.main_arg3))
      ∧ r.2.sem = fun _ => 0)

def quiescent_XbcConvIdeal [hXbcConvIdeal : Cert.XbcConvIdeal.Facts] : Prop :=
  ∀ (m : (ℓ : Loc Cert.XbcConvIdeal.nD Cert.XbcConvIdeal.τ Cert.XbcConvIdeal.sig) → Buf (Elt Ideal) ℓ) (g : Dev Cert.XbcConvIdeal.nD → PrngReg), Pre_XbcConvIdeal m →
    θ_run (Cert.XbcConvIdeal.defs (F := Ideal)) (onTc (τ := Cert.XbcConvIdeal.τ) (Cert.XbcConvIdeal.main (F := Ideal))) ⟨m, fun _ => 0, g⟩ (fun r => (∀ c : Dev Cert.XbcConvIdeal.nD,
      r.2.mem ((c.tc : Thread Cert.XbcConvIdeal.nD Cert.XbcConvIdeal.τ).loc Cert.XbcConvIdeal.main_arg0) = m ((c.tc : Thread Cert.XbcConvIdeal.nD Cert.XbcConvIdeal.τ).loc Cert.XbcConvIdeal.main_arg0)
      ∧ r.2.mem ((c.tc : Thread Cert.XbcConvIdeal.nD Cert.XbcConvIdeal.τ).loc Cert.XbcConvIdeal.main_arg1) = m ((c.tc : Thread Cert.XbcConvIdeal.nD Cert.XbcConvIdeal.τ).loc Cert.XbcConvIdeal.main_arg1)
      ∧ r.2.mem ((c.tc : Thread Cert.XbcConvIdeal.nD Cert.XbcConvIdeal.τ).loc Cert.XbcConvIdeal.main_arg2) = m ((c.tc : Thread Cert.XbcConvIdeal.nD Cert.XbcConvIdeal.τ).loc Cert.XbcConvIdeal.main_arg2)
      ∧ r.2.mem ((c.tc : Thread Cert.XbcConvIdeal.nD Cert.XbcConvIdeal.τ).loc Cert.XbcConvIdeal.main_arg3) = m ((c.tc : Thread Cert.XbcConvIdeal.nD Cert.XbcConvIdeal.τ).loc Cert.XbcConvIdeal.main_arg3))
      ∧ r.2.sem = fun _ => 0)

def quiescent_XbcConvReferenceIdeal [hXbcConvReferenceIdeal : Cert.XbcConvReferenceIdeal.Facts] : Prop :=
  ∀ (m : (ℓ : Loc Cert.XbcConvReferenceIdeal.nD Cert.XbcConvReferenceIdeal.τ Cert.XbcConvReferenceIdeal.sig) → Buf (Elt Ideal) ℓ) (g : Dev Cert.XbcConvReferenceIdeal.nD → PrngReg), Pre_XbcConvReferenceIdeal m →
    θ_run (Cert.XbcConvReferenceIdeal.defs (F := Ideal)) (onTc (τ := Cert.XbcConvReferenceIdeal.τ) (Cert.XbcConvReferenceIdeal.main (F := Ideal))) ⟨m, fun _ => 0, g⟩ (fun r => (∀ c : Dev Cert.XbcConvReferenceIdeal.nD,
      r.2.mem ((c.tc : Thread Cert.XbcConvReferenceIdeal.nD Cert.XbcConvReferenceIdeal.τ).loc Cert.XbcConvReferenceIdeal.main_arg0) = m ((c.tc : Thread Cert.XbcConvReferenceIdeal.nD Cert.XbcConvReferenceIdeal.τ).loc Cert.XbcConvReferenceIdeal.main_arg0)
      ∧ r.2.mem ((c.tc : Thread Cert.XbcConvReferenceIdeal.nD Cert.XbcConvReferenceIdeal.τ).loc Cert.XbcConvReferenceIdeal.main_arg1) = m ((c.tc : Thread Cert.XbcConvReferenceIdeal.nD Cert.XbcConvReferenceIdeal.τ).loc Cert.XbcConvReferenceIdeal.main_arg1)
      ∧ r.2.mem ((c.tc : Thread Cert.XbcConvReferenceIdeal.nD Cert.XbcConvReferenceIdeal.τ).loc Cert.XbcConvReferenceIdeal.main_arg2) = m ((c.tc : Thread Cert.XbcConvReferenceIdeal.nD Cert.XbcConvReferenceIdeal.τ).loc Cert.XbcConvReferenceIdeal.main_arg2)
      ∧ r.2.mem ((c.tc : Thread Cert.XbcConvReferenceIdeal.nD Cert.XbcConvReferenceIdeal.τ).loc Cert.XbcConvReferenceIdeal.main_arg3) = m ((c.tc : Thread Cert.XbcConvReferenceIdeal.nD Cert.XbcConvReferenceIdeal.τ).loc Cert.XbcConvReferenceIdeal.main_arg3))
      ∧ r.2.sem = fun _ => 0)

def preserves_FfnIn_FfnInIdeal : Prop :=
  True

def algebraic_FfnInIdeal_FfnInReferenceIdeal [hFfnInIdeal : Cert.FfnInIdeal.Facts] [hFfnInReferenceIdeal : Cert.FfnInReferenceIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInReferenceIdeal.nD Cert.FfnInReferenceIdeal.τ Cert.FfnInReferenceIdeal.sig) → Buf (Elt Ideal) ℓ) (g' : Dev Cert.FfnInReferenceIdeal.nD → PrngReg), Pre_FfnInIdeal m →
    (∀ c : Dev Cert.FfnInIdeal.nD,
      m' ((c.tc : Thread Cert.FfnInReferenceIdeal.nD Cert.FfnInReferenceIdeal.τ).loc Cert.FfnInReferenceIdeal.main_arg0) = m ((c.tc : Thread Cert.FfnInIdeal.nD Cert.FfnInIdeal.τ).loc Cert.FfnInIdeal.main_arg0)
      ∧ m' ((c.tc : Thread Cert.FfnInReferenceIdeal.nD Cert.FfnInReferenceIdeal.τ).loc Cert.FfnInReferenceIdeal.main_arg1) = m ((c.tc : Thread Cert.FfnInIdeal.nD Cert.FfnInIdeal.τ).loc Cert.FfnInIdeal.main_arg1)
      ∧ m' ((c.tc : Thread Cert.FfnInReferenceIdeal.nD Cert.FfnInReferenceIdeal.τ).loc Cert.FfnInReferenceIdeal.main_arg2) = m ((c.tc : Thread Cert.FfnInIdeal.nD Cert.FfnInIdeal.τ).loc Cert.FfnInIdeal.main_arg2)
      ∧ m' ((c.tc : Thread Cert.FfnInReferenceIdeal.nD Cert.FfnInReferenceIdeal.τ).loc Cert.FfnInReferenceIdeal.main_arg3) = m ((c.tc : Thread Cert.FfnInIdeal.nD Cert.FfnInIdeal.τ).loc Cert.FfnInIdeal.main_arg3)
      ∧ m' ((c.tc : Thread Cert.FfnInReferenceIdeal.nD Cert.FfnInReferenceIdeal.τ).loc Cert.FfnInReferenceIdeal.main_arg4) = m ((c.tc : Thread Cert.FfnInIdeal.nD Cert.FfnInIdeal.τ).loc Cert.FfnInIdeal.main_arg4)) →
    ∃ (v0 : (c : Dev Cert.FfnInIdeal.nD) → Buf (Elt Ideal) ((c.tc : Thread Cert.FfnInIdeal.nD Cert.FfnInIdeal.τ).loc Cert.FfnInIdeal.main_v13)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v13) = v0 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4))
      ∧ θ_run (Cert.FfnInReferenceIdeal.defs (F := Ideal)) (onTc (τ := Cert.FfnInReferenceIdeal.τ) (Cert.FfnInReferenceIdeal.main (F := Ideal))) ⟨m', fun _ => 0, g'⟩ (fun r => ∀ c : Dev Cert.FfnInReferenceIdeal.nD,
          r.2.mem ((c.tc : Thread Cert.FfnInReferenceIdeal.nD Cert.FfnInReferenceIdeal.τ).loc Cert.FfnInReferenceIdeal.main_v34) = v0 c
          ∧ r.2.mem ((c.tc : Thread Cert.FfnInReferenceIdeal.nD Cert.FfnInReferenceIdeal.τ).loc Cert.FfnInReferenceIdeal.main_arg0) = m' ((c.tc : Thread Cert.FfnInReferenceIdeal.nD Cert.FfnInReferenceIdeal.τ).loc Cert.FfnInReferenceIdeal.main_arg0)
          ∧ r.2.mem ((c.tc : Thread Cert.FfnInReferenceIdeal.nD Cert.FfnInReferenceIdeal.τ).loc Cert.FfnInReferenceIdeal.main_arg1) = m' ((c.tc : Thread Cert.FfnInReferenceIdeal.nD Cert.FfnInReferenceIdeal.τ).loc Cert.FfnInReferenceIdeal.main_arg1)
          ∧ r.2.mem ((c.tc : Thread Cert.FfnInReferenceIdeal.nD Cert.FfnInReferenceIdeal.τ).loc Cert.FfnInReferenceIdeal.main_arg2) = m' ((c.tc : Thread Cert.FfnInReferenceIdeal.nD Cert.FfnInReferenceIdeal.τ).loc Cert.FfnInReferenceIdeal.main_arg2)
          ∧ r.2.mem ((c.tc : Thread Cert.FfnInReferenceIdeal.nD Cert.FfnInReferenceIdeal.τ).loc Cert.FfnInReferenceIdeal.main_arg3) = m' ((c.tc : Thread Cert.FfnInReferenceIdeal.nD Cert.FfnInReferenceIdeal.τ).loc Cert.FfnInReferenceIdeal.main_arg3)
          ∧ r.2.mem ((c.tc : Thread Cert.FfnInReferenceIdeal.nD Cert.FfnInReferenceIdeal.τ).loc Cert.FfnInReferenceIdeal.main_arg4) = m' ((c.tc : Thread Cert.FfnInReferenceIdeal.nD Cert.FfnInReferenceIdeal.τ).loc Cert.FfnInReferenceIdeal.main_arg4))

def preserves_FfnDown_FfnDownIdeal : Prop :=
  True

def algebraic_FfnDownIdeal_FfnDownReferenceIdeal [hFfnDownIdeal : Cert.FfnDownIdeal.Facts] [hFfnDownReferenceIdeal : Cert.FfnDownReferenceIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownReferenceIdeal.nD Cert.FfnDownReferenceIdeal.τ Cert.FfnDownReferenceIdeal.sig) → Buf (Elt Ideal) ℓ) (g' : Dev Cert.FfnDownReferenceIdeal.nD → PrngReg), Pre_FfnDownIdeal m →
    (∀ c : Dev Cert.FfnDownIdeal.nD,
      m' ((c.tc : Thread Cert.FfnDownReferenceIdeal.nD Cert.FfnDownReferenceIdeal.τ).loc Cert.FfnDownReferenceIdeal.main_arg0) = m ((c.tc : Thread Cert.FfnDownIdeal.nD Cert.FfnDownIdeal.τ).loc Cert.FfnDownIdeal.main_arg0)
      ∧ m' ((c.tc : Thread Cert.FfnDownReferenceIdeal.nD Cert.FfnDownReferenceIdeal.τ).loc Cert.FfnDownReferenceIdeal.main_arg1) = m ((c.tc : Thread Cert.FfnDownIdeal.nD Cert.FfnDownIdeal.τ).loc Cert.FfnDownIdeal.main_arg1)
      ∧ m' ((c.tc : Thread Cert.FfnDownReferenceIdeal.nD Cert.FfnDownReferenceIdeal.τ).loc Cert.FfnDownReferenceIdeal.main_arg2) = m ((c.tc : Thread Cert.FfnDownIdeal.nD Cert.FfnDownIdeal.τ).loc Cert.FfnDownIdeal.main_arg2)
      ∧ m' ((c.tc : Thread Cert.FfnDownReferenceIdeal.nD Cert.FfnDownReferenceIdeal.τ).loc Cert.FfnDownReferenceIdeal.main_arg3) = m ((c.tc : Thread Cert.FfnDownIdeal.nD Cert.FfnDownIdeal.τ).loc Cert.FfnDownIdeal.main_arg3)
      ∧ m' ((c.tc : Thread Cert.FfnDownReferenceIdeal.nD Cert.FfnDownReferenceIdeal.τ).loc Cert.FfnDownReferenceIdeal.main_arg4) = m ((c.tc : Thread Cert.FfnDownIdeal.nD Cert.FfnDownIdeal.τ).loc Cert.FfnDownIdeal.main_arg4)) →
    ∃ (v0 : (c : Dev Cert.FfnDownIdeal.nD) → Buf (Elt Ideal) ((c.tc : Thread Cert.FfnDownIdeal.nD Cert.FfnDownIdeal.τ).loc Cert.FfnDownIdeal.main_v13)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v13) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
          ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4))
      ∧ θ_run (Cert.FfnDownReferenceIdeal.defs (F := Ideal)) (onTc (τ := Cert.FfnDownReferenceIdeal.τ) (Cert.FfnDownReferenceIdeal.main (F := Ideal))) ⟨m', fun _ => 0, g'⟩ (fun r => ∀ c : Dev Cert.FfnDownReferenceIdeal.nD,
          r.2.mem ((c.tc : Thread Cert.FfnDownReferenceIdeal.nD Cert.FfnDownReferenceIdeal.τ).loc Cert.FfnDownReferenceIdeal.main_v25) = v0 c
          ∧ r.2.mem ((c.tc : Thread Cert.FfnDownReferenceIdeal.nD Cert.FfnDownReferenceIdeal.τ).loc Cert.FfnDownReferenceIdeal.main_arg0) = m' ((c.tc : Thread Cert.FfnDownReferenceIdeal.nD Cert.FfnDownReferenceIdeal.τ).loc Cert.FfnDownReferenceIdeal.main_arg0)
          ∧ r.2.mem ((c.tc : Thread Cert.FfnDownReferenceIdeal.nD Cert.FfnDownReferenceIdeal.τ).loc Cert.FfnDownReferenceIdeal.main_arg1) = m' ((c.tc : Thread Cert.FfnDownReferenceIdeal.nD Cert.FfnDownReferenceIdeal.τ).loc Cert.FfnDownReferenceIdeal.main_arg1)
          ∧ r.2.mem ((c.tc : Thread Cert.FfnDownReferenceIdeal.nD Cert.FfnDownReferenceIdeal.τ).loc Cert.FfnDownReferenceIdeal.main_arg2) = m' ((c.tc : Thread Cert.FfnDownReferenceIdeal.nD Cert.FfnDownReferenceIdeal.τ).loc Cert.FfnDownReferenceIdeal.main_arg2)
          ∧ r.2.mem ((c.tc : Thread Cert.FfnDownReferenceIdeal.nD Cert.FfnDownReferenceIdeal.τ).loc Cert.FfnDownReferenceIdeal.main_arg3) = m' ((c.tc : Thread Cert.FfnDownReferenceIdeal.nD Cert.FfnDownReferenceIdeal.τ).loc Cert.FfnDownReferenceIdeal.main_arg3)
          ∧ r.2.mem ((c.tc : Thread Cert.FfnDownReferenceIdeal.nD Cert.FfnDownReferenceIdeal.τ).loc Cert.FfnDownReferenceIdeal.main_arg4) = m' ((c.tc : Thread Cert.FfnDownReferenceIdeal.nD Cert.FfnDownReferenceIdeal.τ).loc Cert.FfnDownReferenceIdeal.main_arg4))

def preserves_InZ_InZIdeal : Prop :=
  True

def algebraic_InZIdeal_InZReferenceIdeal [hInZIdeal : Cert.InZIdeal.Facts] [hInZReferenceIdeal : Cert.InZReferenceIdeal.Facts] : Prop :=
  ∀ (m : (ℓ : Loc Cert.InZIdeal.nD Cert.InZIdeal.τ Cert.InZIdeal.sig) → Buf (Elt Ideal) ℓ) (g : Dev Cert.InZIdeal.nD → PrngReg)
    (m' : (ℓ : Loc Cert.InZReferenceIdeal.nD Cert.InZReferenceIdeal.τ Cert.InZReferenceIdeal.sig) → Buf (Elt Ideal) ℓ) (g' : Dev Cert.InZReferenceIdeal.nD → PrngReg), Pre_InZIdeal m →
    (∀ c : Dev Cert.InZIdeal.nD,
      m' ((c.tc : Thread Cert.InZReferenceIdeal.nD Cert.InZReferenceIdeal.τ).loc Cert.InZReferenceIdeal.main_arg0) = m ((c.tc : Thread Cert.InZIdeal.nD Cert.InZIdeal.τ).loc Cert.InZIdeal.main_arg0)
      ∧ m' ((c.tc : Thread Cert.InZReferenceIdeal.nD Cert.InZReferenceIdeal.τ).loc Cert.InZReferenceIdeal.main_arg1) = m ((c.tc : Thread Cert.InZIdeal.nD Cert.InZIdeal.τ).loc Cert.InZIdeal.main_arg1)) →
    ∃ (v0 : (c : Dev Cert.InZIdeal.nD) → Buf (Elt Ideal) ((c.tc : Thread Cert.InZIdeal.nD Cert.InZIdeal.τ).loc Cert.InZIdeal.main_v5)),
      θ_run (Cert.InZIdeal.defs (F := Ideal)) (onTc (τ := Cert.InZIdeal.τ) (Cert.InZIdeal.main (F := Ideal))) ⟨m, fun _ => 0, g⟩ (fun r => ∀ c : Dev Cert.InZIdeal.nD,
          r.2.mem ((c.tc : Thread Cert.InZIdeal.nD Cert.InZIdeal.τ).loc Cert.InZIdeal.main_v5) = v0 c
          ∧ r.2.mem ((c.tc : Thread Cert.InZIdeal.nD Cert.InZIdeal.τ).loc Cert.InZIdeal.main_arg0) = m ((c.tc : Thread Cert.InZIdeal.nD Cert.InZIdeal.τ).loc Cert.InZIdeal.main_arg0)
          ∧ r.2.mem ((c.tc : Thread Cert.InZIdeal.nD Cert.InZIdeal.τ).loc Cert.InZIdeal.main_arg1) = m ((c.tc : Thread Cert.InZIdeal.nD Cert.InZIdeal.τ).loc Cert.InZIdeal.main_arg1))
      ∧ θ_run (Cert.InZReferenceIdeal.defs (F := Ideal)) (onTc (τ := Cert.InZReferenceIdeal.τ) (Cert.InZReferenceIdeal.main (F := Ideal))) ⟨m', fun _ => 0, g'⟩ (fun r => ∀ c : Dev Cert.InZReferenceIdeal.nD,
          r.2.mem ((c.tc : Thread Cert.InZReferenceIdeal.nD Cert.InZReferenceIdeal.τ).loc Cert.InZReferenceIdeal.main_v7) = v0 c
          ∧ r.2.mem ((c.tc : Thread Cert.InZReferenceIdeal.nD Cert.InZReferenceIdeal.τ).loc Cert.InZReferenceIdeal.main_arg0) = m' ((c.tc : Thread Cert.InZReferenceIdeal.nD Cert.InZReferenceIdeal.τ).loc Cert.InZReferenceIdeal.main_arg0)
          ∧ r.2.mem ((c.tc : Thread Cert.InZReferenceIdeal.nD Cert.InZReferenceIdeal.τ).loc Cert.InZReferenceIdeal.main_arg1) = m' ((c.tc : Thread Cert.InZReferenceIdeal.nD Cert.InZReferenceIdeal.τ).loc Cert.InZReferenceIdeal.main_arg1))

def preserves_InGates_InGatesIdeal : Prop :=
  True

def algebraic_InGatesIdeal_InGatesReferenceIdeal [hInGatesIdeal : Cert.InGatesIdeal.Facts] [hInGatesReferenceIdeal : Cert.InGatesReferenceIdeal.Facts] : Prop :=
  ∀ (m : (ℓ : Loc Cert.InGatesIdeal.nD Cert.InGatesIdeal.τ Cert.InGatesIdeal.sig) → Buf (Elt Ideal) ℓ) (g : Dev Cert.InGatesIdeal.nD → PrngReg)
    (m' : (ℓ : Loc Cert.InGatesReferenceIdeal.nD Cert.InGatesReferenceIdeal.τ Cert.InGatesReferenceIdeal.sig) → Buf (Elt Ideal) ℓ) (g' : Dev Cert.InGatesReferenceIdeal.nD → PrngReg), Pre_InGatesIdeal m →
    (∀ c : Dev Cert.InGatesIdeal.nD,
      m' ((c.tc : Thread Cert.InGatesReferenceIdeal.nD Cert.InGatesReferenceIdeal.τ).loc Cert.InGatesReferenceIdeal.main_arg0) = m ((c.tc : Thread Cert.InGatesIdeal.nD Cert.InGatesIdeal.τ).loc Cert.InGatesIdeal.main_arg0)
      ∧ m' ((c.tc : Thread Cert.InGatesReferenceIdeal.nD Cert.InGatesReferenceIdeal.τ).loc Cert.InGatesReferenceIdeal.main_arg1) = m ((c.tc : Thread Cert.InGatesIdeal.nD Cert.InGatesIdeal.τ).loc Cert.InGatesIdeal.main_arg1)) →
    ∃ (v0 : (c : Dev Cert.InGatesIdeal.nD) → Buf (Elt Ideal) ((c.tc : Thread Cert.InGatesIdeal.nD Cert.InGatesIdeal.τ).loc Cert.InGatesIdeal.main_v5)),
      θ_run (Cert.InGatesIdeal.defs (F := Ideal)) (onTc (τ := Cert.InGatesIdeal.τ) (Cert.InGatesIdeal.main (F := Ideal))) ⟨m, fun _ => 0, g⟩ (fun r => ∀ c : Dev Cert.InGatesIdeal.nD,
          r.2.mem ((c.tc : Thread Cert.InGatesIdeal.nD Cert.InGatesIdeal.τ).loc Cert.InGatesIdeal.main_v5) = v0 c
          ∧ r.2.mem ((c.tc : Thread Cert.InGatesIdeal.nD Cert.InGatesIdeal.τ).loc Cert.InGatesIdeal.main_arg0) = m ((c.tc : Thread Cert.InGatesIdeal.nD Cert.InGatesIdeal.τ).loc Cert.InGatesIdeal.main_arg0)
          ∧ r.2.mem ((c.tc : Thread Cert.InGatesIdeal.nD Cert.InGatesIdeal.τ).loc Cert.InGatesIdeal.main_arg1) = m ((c.tc : Thread Cert.InGatesIdeal.nD Cert.InGatesIdeal.τ).loc Cert.InGatesIdeal.main_arg1))
      ∧ θ_run (Cert.InGatesReferenceIdeal.defs (F := Ideal)) (onTc (τ := Cert.InGatesReferenceIdeal.τ) (Cert.InGatesReferenceIdeal.main (F := Ideal))) ⟨m', fun _ => 0, g'⟩ (fun r => ∀ c : Dev Cert.InGatesReferenceIdeal.nD,
          r.2.mem ((c.tc : Thread Cert.InGatesReferenceIdeal.nD Cert.InGatesReferenceIdeal.τ).loc Cert.InGatesReferenceIdeal.main_v11) = v0 c
          ∧ r.2.mem ((c.tc : Thread Cert.InGatesReferenceIdeal.nD Cert.InGatesReferenceIdeal.τ).loc Cert.InGatesReferenceIdeal.main_arg0) = m' ((c.tc : Thread Cert.InGatesReferenceIdeal.nD Cert.InGatesReferenceIdeal.τ).loc Cert.InGatesReferenceIdeal.main_arg0)
          ∧ r.2.mem ((c.tc : Thread Cert.InGatesReferenceIdeal.nD Cert.InGatesReferenceIdeal.τ).loc Cert.InGatesReferenceIdeal.main_arg1) = m' ((c.tc : Thread Cert.InGatesReferenceIdeal.nD Cert.InGatesReferenceIdeal.τ).loc Cert.InGatesReferenceIdeal.main_arg1))

def preserves_ProjAb_ProjAbIdeal : Prop :=
  True

def algebraic_ProjAbIdeal_ProjAbReferenceIdeal [hProjAbIdeal : Cert.ProjAbIdeal.Facts] [hProjAbReferenceIdeal : Cert.ProjAbReferenceIdeal.Facts] : Prop :=
  ∀ (m : (ℓ : Loc Cert.ProjAbIdeal.nD Cert.ProjAbIdeal.τ Cert.ProjAbIdeal.sig) → Buf (Elt Ideal) ℓ) (g : Dev Cert.ProjAbIdeal.nD → PrngReg)
    (m' : (ℓ : Loc Cert.ProjAbReferenceIdeal.nD Cert.ProjAbReferenceIdeal.τ Cert.ProjAbReferenceIdeal.sig) → Buf (Elt Ideal) ℓ) (g' : Dev Cert.ProjAbReferenceIdeal.nD → PrngReg), Pre_ProjAbIdeal m →
    (∀ c : Dev Cert.ProjAbIdeal.nD,
      m' ((c.tc : Thread Cert.ProjAbReferenceIdeal.nD Cert.ProjAbReferenceIdeal.τ).loc Cert.ProjAbReferenceIdeal.main_arg0) = m ((c.tc : Thread Cert.ProjAbIdeal.nD Cert.ProjAbIdeal.τ).loc Cert.ProjAbIdeal.main_arg0)
      ∧ m' ((c.tc : Thread Cert.ProjAbReferenceIdeal.nD Cert.ProjAbReferenceIdeal.τ).loc Cert.ProjAbReferenceIdeal.main_arg1) = m ((c.tc : Thread Cert.ProjAbIdeal.nD Cert.ProjAbIdeal.τ).loc Cert.ProjAbIdeal.main_arg1)
      ∧ m' ((c.tc : Thread Cert.ProjAbReferenceIdeal.nD Cert.ProjAbReferenceIdeal.τ).loc Cert.ProjAbReferenceIdeal.main_arg2) = m ((c.tc : Thread Cert.ProjAbIdeal.nD Cert.ProjAbIdeal.τ).loc Cert.ProjAbIdeal.main_arg2)
      ∧ m' ((c.tc : Thread Cert.ProjAbReferenceIdeal.nD Cert.ProjAbReferenceIdeal.τ).loc Cert.ProjAbReferenceIdeal.main_arg3) = m ((c.tc : Thread Cert.ProjAbIdeal.nD Cert.ProjAbIdeal.τ).loc Cert.ProjAbIdeal.main_arg3)
      ∧ m' ((c.tc : Thread Cert.ProjAbReferenceIdeal.nD Cert.ProjAbReferenceIdeal.τ).loc Cert.ProjAbReferenceIdeal.main_arg4) = m ((c.tc : Thread Cert.ProjAbIdeal.nD Cert.ProjAbIdeal.τ).loc Cert.ProjAbIdeal.main_arg4)) →
    ∃ (v0 : (c : Dev Cert.ProjAbIdeal.nD) → Buf (Elt Ideal) ((c.tc : Thread Cert.ProjAbIdeal.nD Cert.ProjAbIdeal.τ).loc Cert.ProjAbIdeal.main_v8)),
      θ_run (Cert.ProjAbIdeal.defs (F := Ideal)) (onTc (τ := Cert.ProjAbIdeal.τ) (Cert.ProjAbIdeal.main (F := Ideal))) ⟨m, fun _ => 0, g⟩ (fun r => ∀ c : Dev Cert.ProjAbIdeal.nD,
          r.2.mem ((c.tc : Thread Cert.ProjAbIdeal.nD Cert.ProjAbIdeal.τ).loc Cert.ProjAbIdeal.main_v8) = v0 c
          ∧ r.2.mem ((c.tc : Thread Cert.ProjAbIdeal.nD Cert.ProjAbIdeal.τ).loc Cert.ProjAbIdeal.main_arg0) = m ((c.tc : Thread Cert.ProjAbIdeal.nD Cert.ProjAbIdeal.τ).loc Cert.ProjAbIdeal.main_arg0)
          ∧ r.2.mem ((c.tc : Thread Cert.ProjAbIdeal.nD Cert.ProjAbIdeal.τ).loc Cert.ProjAbIdeal.main_arg1) = m ((c.tc : Thread Cert.ProjAbIdeal.nD Cert.ProjAbIdeal.τ).loc Cert.ProjAbIdeal.main_arg1)
          ∧ r.2.mem ((c.tc : Thread Cert.ProjAbIdeal.nD Cert.ProjAbIdeal.τ).loc Cert.ProjAbIdeal.main_arg2) = m ((c.tc : Thread Cert.ProjAbIdeal.nD Cert.ProjAbIdeal.τ).loc Cert.ProjAbIdeal.main_arg2)
          ∧ r.2.mem ((c.tc : Thread Cert.ProjAbIdeal.nD Cert.ProjAbIdeal.τ).loc Cert.ProjAbIdeal.main_arg3) = m ((c.tc : Thread Cert.ProjAbIdeal.nD Cert.ProjAbIdeal.τ).loc Cert.ProjAbIdeal.main_arg3)
          ∧ r.2.mem ((c.tc : Thread Cert.ProjAbIdeal.nD Cert.ProjAbIdeal.τ).loc Cert.ProjAbIdeal.main_arg4) = m ((c.tc : Thread Cert.ProjAbIdeal.nD Cert.ProjAbIdeal.τ).loc Cert.ProjAbIdeal.main_arg4))
      ∧ θ_run (Cert.ProjAbReferenceIdeal.defs (F := Ideal)) (onTc (τ := Cert.ProjAbReferenceIdeal.τ) (Cert.ProjAbReferenceIdeal.main (F := Ideal))) ⟨m', fun _ => 0, g'⟩ (fun r => ∀ c : Dev Cert.ProjAbReferenceIdeal.nD,
          r.2.mem ((c.tc : Thread Cert.ProjAbReferenceIdeal.nD Cert.ProjAbReferenceIdeal.τ).loc Cert.ProjAbReferenceIdeal.main_v12) = v0 c
          ∧ r.2.mem ((c.tc : Thread Cert.ProjAbReferenceIdeal.nD Cert.ProjAbReferenceIdeal.τ).loc Cert.ProjAbReferenceIdeal.main_arg0) = m' ((c.tc : Thread Cert.ProjAbReferenceIdeal.nD Cert.ProjAbReferenceIdeal.τ).loc Cert.ProjAbReferenceIdeal.main_arg0)
          ∧ r.2.mem ((c.tc : Thread Cert.ProjAbReferenceIdeal.nD Cert.ProjAbReferenceIdeal.τ).loc Cert.ProjAbReferenceIdeal.main_arg1) = m' ((c.tc : Thread Cert.ProjAbReferenceIdeal.nD Cert.ProjAbReferenceIdeal.τ).loc Cert.ProjAbReferenceIdeal.main_arg1)
          ∧ r.2.mem ((c.tc : Thread Cert.ProjAbReferenceIdeal.nD Cert.ProjAbReferenceIdeal.τ).loc Cert.ProjAbReferenceIdeal.main_arg2) = m' ((c.tc : Thread Cert.ProjAbReferenceIdeal.nD Cert.ProjAbReferenceIdeal.τ).loc Cert.ProjAbReferenceIdeal.main_arg2)
          ∧ r.2.mem ((c.tc : Thread Cert.ProjAbReferenceIdeal.nD Cert.ProjAbReferenceIdeal.τ).loc Cert.ProjAbReferenceIdeal.main_arg3) = m' ((c.tc : Thread Cert.ProjAbReferenceIdeal.nD Cert.ProjAbReferenceIdeal.τ).loc Cert.ProjAbReferenceIdeal.main_arg3)
          ∧ r.2.mem ((c.tc : Thread Cert.ProjAbReferenceIdeal.nD Cert.ProjAbReferenceIdeal.τ).loc Cert.ProjAbReferenceIdeal.main_arg4) = m' ((c.tc : Thread Cert.ProjAbReferenceIdeal.nD Cert.ProjAbReferenceIdeal.τ).loc Cert.ProjAbReferenceIdeal.main_arg4))

def preserves_WOut_WOutIdeal : Prop :=
  True

def algebraic_WOutIdeal_WOutReferenceIdeal [hWOutIdeal : Cert.WOutIdeal.Facts] [hWOutReferenceIdeal : Cert.WOutReferenceIdeal.Facts] : Prop :=
  ∀ (m : (ℓ : Loc Cert.WOutIdeal.nD Cert.WOutIdeal.τ Cert.WOutIdeal.sig) → Buf (Elt Ideal) ℓ) (g : Dev Cert.WOutIdeal.nD → PrngReg)
    (m' : (ℓ : Loc Cert.WOutReferenceIdeal.nD Cert.WOutReferenceIdeal.τ Cert.WOutReferenceIdeal.sig) → Buf (Elt Ideal) ℓ) (g' : Dev Cert.WOutReferenceIdeal.nD → PrngReg), Pre_WOutIdeal m →
    (∀ c : Dev Cert.WOutIdeal.nD,
      m' ((c.tc : Thread Cert.WOutReferenceIdeal.nD Cert.WOutReferenceIdeal.τ).loc Cert.WOutReferenceIdeal.main_arg0) = m ((c.tc : Thread Cert.WOutIdeal.nD Cert.WOutIdeal.τ).loc Cert.WOutIdeal.main_arg0)
      ∧ m' ((c.tc : Thread Cert.WOutReferenceIdeal.nD Cert.WOutReferenceIdeal.τ).loc Cert.WOutReferenceIdeal.main_arg1) = m ((c.tc : Thread Cert.WOutIdeal.nD Cert.WOutIdeal.τ).loc Cert.WOutIdeal.main_arg1)
      ∧ m' ((c.tc : Thread Cert.WOutReferenceIdeal.nD Cert.WOutReferenceIdeal.τ).loc Cert.WOutReferenceIdeal.main_arg2) = m ((c.tc : Thread Cert.WOutIdeal.nD Cert.WOutIdeal.τ).loc Cert.WOutIdeal.main_arg2)
      ∧ m' ((c.tc : Thread Cert.WOutReferenceIdeal.nD Cert.WOutReferenceIdeal.τ).loc Cert.WOutReferenceIdeal.main_arg3) = m ((c.tc : Thread Cert.WOutIdeal.nD Cert.WOutIdeal.τ).loc Cert.WOutIdeal.main_arg3)) →
    ∃ (v0 : (c : Dev Cert.WOutIdeal.nD) → Buf (Elt Ideal) ((c.tc : Thread Cert.WOutIdeal.nD Cert.WOutIdeal.τ).loc Cert.WOutIdeal.main_v12)),
      θ_run (Cert.WOutIdeal.defs (F := Ideal)) (onTc (τ := Cert.WOutIdeal.τ) (Cert.WOutIdeal.main (F := Ideal))) ⟨m, fun _ => 0, g⟩ (fun r => ∀ c : Dev Cert.WOutIdeal.nD,
          r.2.mem ((c.tc : Thread Cert.WOutIdeal.nD Cert.WOutIdeal.τ).loc Cert.WOutIdeal.main_v12) = v0 c
          ∧ r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
          ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1)
          ∧ r.2.mem ((c.tc : Thread Cert.WOutIdeal.nD Cert.WOutIdeal.τ).loc Cert.WOutIdeal.main_arg2) = m ((c.tc : Thread Cert.WOutIdeal.nD Cert.WOutIdeal.τ).loc Cert.WOutIdeal.main_arg2)
          ∧ r.2.mem ((c.tc : Thread Cert.WOutIdeal.nD Cert.WOutIdeal.τ).loc Cert.WOutIdeal.main_arg3) = m ((c.tc : Thread Cert.WOutIdeal.nD Cert.WOutIdeal.τ).loc Cert.WOutIdeal.main_arg3))
      ∧ θ_run (Cert.WOutReferenceIdeal.defs (F := Ideal)) (onTc (τ := Cert.WOutReferenceIdeal.τ) (Cert.WOutReferenceIdeal.main (F := Ideal))) ⟨m', fun _ => 0, g'⟩ (fun r => ∀ c : Dev Cert.WOutReferenceIdeal.nD,
          r.2.mem ((c.tc : Thread Cert.WOutReferenceIdeal.nD Cert.WOutReferenceIdeal.τ).loc Cert.WOutReferenceIdeal.main_v12) = v0 c
          ∧ r.2.mem ((c.tc : Thread Cert.WOutReferenceIdeal.nD Cert.WOutReferenceIdeal.τ).loc Cert.WOutReferenceIdeal.main_arg0) = m' ((c.tc : Thread Cert.WOutReferenceIdeal.nD Cert.WOutReferenceIdeal.τ).loc Cert.WOutReferenceIdeal.main_arg0)
          ∧ r.2.mem ((c.tc : Thread Cert.WOutReferenceIdeal.nD Cert.WOutReferenceIdeal.τ).loc Cert.WOutReferenceIdeal.main_arg1) = m' ((c.tc : Thread Cert.WOutReferenceIdeal.nD Cert.WOutReferenceIdeal.τ).loc Cert.WOutReferenceIdeal.main_arg1)
          ∧ r.2.mem ((c.tc : Thread Cert.WOutReferenceIdeal.nD Cert.WOutReferenceIdeal.τ).loc Cert.WOutReferenceIdeal.main_arg2) = m' ((c.tc : Thread Cert.WOutReferenceIdeal.nD Cert.WOutReferenceIdeal.τ).loc Cert.WOutReferenceIdeal.main_arg2)
          ∧ r.2.mem ((c.tc : Thread Cert.WOutReferenceIdeal.nD Cert.WOutReferenceIdeal.τ).loc Cert.WOutReferenceIdeal.main_arg3) = m' ((c.tc : Thread Cert.WOutReferenceIdeal.nD Cert.WOutReferenceIdeal.τ).loc Cert.WOutReferenceIdeal.main_arg3))

def preserves_NormIn_NormInIdeal : Prop :=
  True

def algebraic_NormInIdeal_NormInReferenceIdeal [hNormInIdeal : Cert.NormInIdeal.Facts] [hNormInReferenceIdeal : Cert.NormInReferenceIdeal.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInReferenceIdeal.nD Cert.NormInReferenceIdeal.τ Cert.NormInReferenceIdeal.sig) → Buf (Elt Ideal) ℓ) (g' : Dev Cert.NormInReferenceIdeal.nD → PrngReg), Pre_NormInIdeal m →
    (∀ c : Dev Cert.NormInIdeal.nD,
      m' ((c.tc : Thread Cert.NormInReferenceIdeal.nD Cert.NormInReferenceIdeal.τ).loc Cert.NormInReferenceIdeal.main_arg0) = m ((c.tc : Thread Cert.NormInIdeal.nD Cert.NormInIdeal.τ).loc Cert.NormInIdeal.main_arg0)
      ∧ m' ((c.tc : Thread Cert.NormInReferenceIdeal.nD Cert.NormInReferenceIdeal.τ).loc Cert.NormInReferenceIdeal.main_arg1) = m ((c.tc : Thread Cert.NormInIdeal.nD Cert.NormInIdeal.τ).loc Cert.NormInIdeal.main_arg1)
      ∧ m' ((c.tc : Thread Cert.NormInReferenceIdeal.nD Cert.NormInReferenceIdeal.τ).loc Cert.NormInReferenceIdeal.main_arg2) = m ((c.tc : Thread Cert.NormInIdeal.nD Cert.NormInIdeal.τ).loc Cert.NormInIdeal.main_arg2)
      ∧ m' ((c.tc : Thread Cert.NormInReferenceIdeal.nD Cert.NormInReferenceIdeal.τ).loc Cert.NormInReferenceIdeal.main_arg3) = m ((c.tc : Thread Cert.NormInIdeal.nD Cert.NormInIdeal.τ).loc Cert.NormInIdeal.main_arg3)) →
    ∃ (v0 : (c : Dev Cert.NormInIdeal.nD) → Buf (Elt Ideal) ((c.tc : Thread Cert.NormInIdeal.nD Cert.NormInIdeal.τ).loc Cert.NormInIdeal.main_v18_0)) (v1 : (c : Dev Cert.NormInIdeal.nD) → Buf (Elt Ideal) ((c.tc : Thread Cert.NormInIdeal.nD Cert.NormInIdeal.τ).loc Cert.NormInIdeal.main_v18_1)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v18_0) = v0 c
          ∧ r.2.mem ((c.tc : Thread Cert.NormInIdeal.nD Cert.NormInIdeal.τ).loc Cert.NormInIdeal.main_v18_1) = v1 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
          ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
          ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3))
      ∧ θ_run (Cert.NormInReferenceIdeal.defs (F := Ideal)) (onTc (τ := Cert.NormInReferenceIdeal.τ) (Cert.NormInReferenceIdeal.main (F := Ideal))) ⟨m', fun _ => 0, g'⟩ (fun r => ∀ c : Dev Cert.NormInReferenceIdeal.nD,
          r.2.mem ((c.tc : Thread Cert.NormInReferenceIdeal.nD Cert.NormInReferenceIdeal.τ).loc Cert.NormInReferenceIdeal.main_v35) = v0 c
          ∧ r.2.mem ((c.tc : Thread Cert.NormInReferenceIdeal.nD Cert.NormInReferenceIdeal.τ).loc Cert.NormInReferenceIdeal.main_v37) = v1 c
          ∧ r.2.mem ((c.tc : Thread Cert.NormInReferenceIdeal.nD Cert.NormInReferenceIdeal.τ).loc Cert.NormInReferenceIdeal.main_arg0) = m' ((c.tc : Thread Cert.NormInReferenceIdeal.nD Cert.NormInReferenceIdeal.τ).loc Cert.NormInReferenceIdeal.main_arg0)
          ∧ r.2.mem ((c.tc : Thread Cert.NormInReferenceIdeal.nD Cert.NormInReferenceIdeal.τ).loc Cert.NormInReferenceIdeal.main_arg1) = m' ((c.tc : Thread Cert.NormInReferenceIdeal.nD Cert.NormInReferenceIdeal.τ).loc Cert.NormInReferenceIdeal.main_arg1)
          ∧ r.2.mem ((c.tc : Thread Cert.NormInReferenceIdeal.nD Cert.NormInReferenceIdeal.τ).loc Cert.NormInReferenceIdeal.main_arg2) = m' ((c.tc : Thread Cert.NormInReferenceIdeal.nD Cert.NormInReferenceIdeal.τ).loc Cert.NormInReferenceIdeal.main_arg2)
          ∧ r.2.mem ((c.tc : Thread Cert.NormInReferenceIdeal.nD Cert.NormInReferenceIdeal.τ).loc Cert.NormInReferenceIdeal.main_arg3) = m' ((c.tc : Thread Cert.NormInReferenceIdeal.nD Cert.NormInReferenceIdeal.τ).loc Cert.NormInReferenceIdeal.main_arg3))

def preserves_XbcConv_XbcConvIdeal : Prop :=
  True

def algebraic_XbcConvIdeal_XbcConvReferenceIdeal [hXbcConvIdeal : Cert.XbcConvIdeal.Facts] [hXbcConvReferenceIdeal : Cert.XbcConvReferenceIdeal.Facts] : Prop :=
  ∀ (m : (ℓ : Loc Cert.XbcConvIdeal.nD Cert.XbcConvIdeal.τ Cert.XbcConvIdeal.sig) → Buf (Elt Ideal) ℓ) (g : Dev Cert.XbcConvIdeal.nD → PrngReg)
    (m' : (ℓ : Loc Cert.XbcConvReferenceIdeal.nD Cert.XbcConvReferenceIdeal.τ Cert.XbcConvReferenceIdeal.sig) → Buf (Elt Ideal) ℓ) (g' : Dev Cert.XbcConvReferenceIdeal.nD → PrngReg), Pre_XbcConvIdeal m →
    (∀ c : Dev Cert.XbcConvIdeal.nD,
      m' ((c.tc : Thread Cert.XbcConvReferenceIdeal.nD Cert.XbcConvReferenceIdeal.τ).loc Cert.XbcConvReferenceIdeal.main_arg0) = m ((c.tc : Thread Cert.XbcConvIdeal.nD Cert.XbcConvIdeal.τ).loc Cert.XbcConvIdeal.main_arg0)
      ∧ m' ((c.tc : Thread Cert.XbcConvReferenceIdeal.nD Cert.XbcConvReferenceIdeal.τ).loc Cert.XbcConvReferenceIdeal.main_arg1) = m ((c.tc : Thread Cert.XbcConvIdeal.nD Cert.XbcConvIdeal.τ).loc Cert.XbcConvIdeal.main_arg1)
      ∧ m' ((c.tc : Thread Cert.XbcConvReferenceIdeal.nD Cert.XbcConvReferenceIdeal.τ).loc Cert.XbcConvReferenceIdeal.main_arg2) = m ((c.tc : Thread Cert.XbcConvIdeal.nD Cert.XbcConvIdeal.τ).loc Cert.XbcConvIdeal.main_arg2)
      ∧ m' ((c.tc : Thread Cert.XbcConvReferenceIdeal.nD Cert.XbcConvReferenceIdeal.τ).loc Cert.XbcConvReferenceIdeal.main_arg3) = m ((c.tc : Thread Cert.XbcConvIdeal.nD Cert.XbcConvIdeal.τ).loc Cert.XbcConvIdeal.main_arg3)) →
    ∃ (v0 : (c : Dev Cert.XbcConvIdeal.nD) → Buf (Elt Ideal) ((c.tc : Thread Cert.XbcConvIdeal.nD Cert.XbcConvIdeal.τ).loc Cert.XbcConvIdeal.main_v8)),
      θ_run (Cert.XbcConvIdeal.defs (F := Ideal)) (onTc (τ := Cert.XbcConvIdeal.τ) (Cert.XbcConvIdeal.main (F := Ideal))) ⟨m, fun _ => 0, g⟩ (fun r => ∀ c : Dev Cert.XbcConvIdeal.nD,
          r.2.mem ((c.tc : Thread Cert.XbcConvIdeal.nD Cert.XbcConvIdeal.τ).loc Cert.XbcConvIdeal.main_v8) = v0 c
          ∧ r.2.mem ((c.tc : Thread Cert.XbcConvIdeal.nD Cert.XbcConvIdeal.τ).loc Cert.XbcConvIdeal.main_arg0) = m ((c.tc : Thread Cert.XbcConvIdeal.nD Cert.XbcConvIdeal.τ).loc Cert.XbcConvIdeal.main_arg0)
          ∧ r.2.mem ((c.tc : Thread Cert.XbcConvIdeal.nD Cert.XbcConvIdeal.τ).loc Cert.XbcConvIdeal.main_arg1) = m ((c.tc : Thread Cert.XbcConvIdeal.nD Cert.XbcConvIdeal.τ).loc Cert.XbcConvIdeal.main_arg1)
          ∧ r.2.mem ((c.tc : Thread Cert.XbcConvIdeal.nD Cert.XbcConvIdeal.τ).loc Cert.XbcConvIdeal.main_arg2) = m ((c.tc : Thread Cert.XbcConvIdeal.nD Cert.XbcConvIdeal.τ).loc Cert.XbcConvIdeal.main_arg2)
          ∧ r.2.mem ((c.tc : Thread Cert.XbcConvIdeal.nD Cert.XbcConvIdeal.τ).loc Cert.XbcConvIdeal.main_arg3) = m ((c.tc : Thread Cert.XbcConvIdeal.nD Cert.XbcConvIdeal.τ).loc Cert.XbcConvIdeal.main_arg3))
      ∧ θ_run (Cert.XbcConvReferenceIdeal.defs (F := Ideal)) (onTc (τ := Cert.XbcConvReferenceIdeal.τ) (Cert.XbcConvReferenceIdeal.main (F := Ideal))) ⟨m', fun _ => 0, g'⟩ (fun r => ∀ c : Dev Cert.XbcConvReferenceIdeal.nD,
          r.2.mem ((c.tc : Thread Cert.XbcConvReferenceIdeal.nD Cert.XbcConvReferenceIdeal.τ).loc Cert.XbcConvReferenceIdeal.main_v39) = v0 c
          ∧ r.2.mem ((c.tc : Thread Cert.XbcConvReferenceIdeal.nD Cert.XbcConvReferenceIdeal.τ).loc Cert.XbcConvReferenceIdeal.main_arg0) = m' ((c.tc : Thread Cert.XbcConvReferenceIdeal.nD Cert.XbcConvReferenceIdeal.τ).loc Cert.XbcConvReferenceIdeal.main_arg0)
          ∧ r.2.mem ((c.tc : Thread Cert.XbcConvReferenceIdeal.nD Cert.XbcConvReferenceIdeal.τ).loc Cert.XbcConvReferenceIdeal.main_arg1) = m' ((c.tc : Thread Cert.XbcConvReferenceIdeal.nD Cert.XbcConvReferenceIdeal.τ).loc Cert.XbcConvReferenceIdeal.main_arg1)
          ∧ r.2.mem ((c.tc : Thread Cert.XbcConvReferenceIdeal.nD Cert.XbcConvReferenceIdeal.τ).loc Cert.XbcConvReferenceIdeal.main_arg2) = m' ((c.tc : Thread Cert.XbcConvReferenceIdeal.nD Cert.XbcConvReferenceIdeal.τ).loc Cert.XbcConvReferenceIdeal.main_arg2)
          ∧ r.2.mem ((c.tc : Thread Cert.XbcConvReferenceIdeal.nD Cert.XbcConvReferenceIdeal.τ).loc Cert.XbcConvReferenceIdeal.main_arg3) = m' ((c.tc : Thread Cert.XbcConvReferenceIdeal.nD Cert.XbcConvReferenceIdeal.τ).loc Cert.XbcConvReferenceIdeal.main_arg3))

def Claim : Prop :=
  ∃ (hKernel : Cert.Kernel.Facts) (hFfnIn : Cert.FfnIn.Facts) (hFfnInIdeal : Cert.FfnInIdeal.Facts) (hFfnInReferenceIdeal : Cert.FfnInReferenceIdeal.Facts) (hFfnDown : Cert.FfnDown.Facts) (hFfnDownIdeal : Cert.FfnDownIdeal.Facts) (hFfnDownReferenceIdeal : Cert.FfnDownReferenceIdeal.Facts) (hInZ : Cert.InZ.Facts) (hInZIdeal : Cert.InZIdeal.Facts) (hInZReferenceIdeal : Cert.InZReferenceIdeal.Facts) (hInGates : Cert.InGates.Facts) (hInGatesIdeal : Cert.InGatesIdeal.Facts) (hInGatesReferenceIdeal : Cert.InGatesReferenceIdeal.Facts) (hProjAb : Cert.ProjAb.Facts) (hProjAbIdeal : Cert.ProjAbIdeal.Facts) (hProjAbReferenceIdeal : Cert.ProjAbReferenceIdeal.Facts) (hWOut : Cert.WOut.Facts) (hWOutIdeal : Cert.WOutIdeal.Facts) (hWOutReferenceIdeal : Cert.WOutReferenceIdeal.Facts) (hNormIn : Cert.NormIn.Facts) (hNormInIdeal : Cert.NormInIdeal.Facts) (hNormInReferenceIdeal : Cert.NormInReferenceIdeal.Facts) (hXbcConv : Cert.XbcConv.Facts) (hXbcConvIdeal : Cert.XbcConvIdeal.Facts) (hXbcConvReferenceIdeal : Cert.XbcConvReferenceIdeal.Facts),
    quiescent_Kernel (hKernel := hKernel)
    ∧ quiescent_FfnIn (hFfnIn := hFfnIn)
    ∧ quiescent_FfnInIdeal (hFfnInIdeal := hFfnInIdeal)
    ∧ quiescent_FfnInReferenceIdeal (hFfnInReferenceIdeal := hFfnInReferenceIdeal)
    ∧ quiescent_FfnDown (hFfnDown := hFfnDown)
    ∧ quiescent_FfnDownIdeal (hFfnDownIdeal := hFfnDownIdeal)
    ∧ quiescent_FfnDownReferenceIdeal (hFfnDownReferenceIdeal := hFfnDownReferenceIdeal)
    ∧ quiescent_InZ (hInZ := hInZ)
    ∧ quiescent_InZIdeal (hInZIdeal := hInZIdeal)
    ∧ quiescent_InZReferenceIdeal (hInZReferenceIdeal := hInZReferenceIdeal)
    ∧ quiescent_InGates (hInGates := hInGates)
    ∧ quiescent_InGatesIdeal (hInGatesIdeal := hInGatesIdeal)
    ∧ quiescent_InGatesReferenceIdeal (hInGatesReferenceIdeal := hInGatesReferenceIdeal)
    ∧ quiescent_ProjAb (hProjAb := hProjAb)
    ∧ quiescent_ProjAbIdeal (hProjAbIdeal := hProjAbIdeal)
    ∧ quiescent_ProjAbReferenceIdeal (hProjAbReferenceIdeal := hProjAbReferenceIdeal)
    ∧ quiescent_WOut (hWOut := hWOut)
    ∧ quiescent_WOutIdeal (hWOutIdeal := hWOutIdeal)
    ∧ quiescent_WOutReferenceIdeal (hWOutReferenceIdeal := hWOutReferenceIdeal)
    ∧ quiescent_NormIn (hNormIn := hNormIn)
    ∧ quiescent_NormInIdeal (hNormInIdeal := hNormInIdeal)
    ∧ quiescent_NormInReferenceIdeal (hNormInReferenceIdeal := hNormInReferenceIdeal)
    ∧ quiescent_XbcConv (hXbcConv := hXbcConv)
    ∧ quiescent_XbcConvIdeal (hXbcConvIdeal := hXbcConvIdeal)
    ∧ quiescent_XbcConvReferenceIdeal (hXbcConvReferenceIdeal := hXbcConvReferenceIdeal)
    ∧ preserves_FfnIn_FfnInIdeal
    ∧ algebraic_FfnInIdeal_FfnInReferenceIdeal (hFfnInIdeal := hFfnInIdeal) (hFfnInReferenceIdeal := hFfnInReferenceIdeal)
    ∧ preserves_FfnDown_FfnDownIdeal
    ∧ algebraic_FfnDownIdeal_FfnDownReferenceIdeal (hFfnDownIdeal := hFfnDownIdeal) (hFfnDownReferenceIdeal := hFfnDownReferenceIdeal)
    ∧ preserves_InZ_InZIdeal
    ∧ algebraic_InZIdeal_InZReferenceIdeal (hInZIdeal := hInZIdeal) (hInZReferenceIdeal := hInZReferenceIdeal)
    ∧ preserves_InGates_InGatesIdeal
    ∧ algebraic_InGatesIdeal_InGatesReferenceIdeal (hInGatesIdeal := hInGatesIdeal) (hInGatesReferenceIdeal := hInGatesReferenceIdeal)
    ∧ preserves_ProjAb_ProjAbIdeal
    ∧ algebraic_ProjAbIdeal_ProjAbReferenceIdeal (hProjAbIdeal := hProjAbIdeal) (hProjAbReferenceIdeal := hProjAbReferenceIdeal)
    ∧ preserves_WOut_WOutIdeal
    ∧ algebraic_WOutIdeal_WOutReferenceIdeal (hWOutIdeal := hWOutIdeal) (hWOutReferenceIdeal := hWOutReferenceIdeal)
    ∧ preserves_NormIn_NormInIdeal
    ∧ algebraic_NormInIdeal_NormInReferenceIdeal (hNormInIdeal := hNormInIdeal) (hNormInReferenceIdeal := hNormInReferenceIdeal)
    ∧ preserves_XbcConv_XbcConvIdeal
    ∧ algebraic_XbcConvIdeal_XbcConvReferenceIdeal (hXbcConvIdeal := hXbcConvIdeal) (hXbcConvReferenceIdeal := hXbcConvReferenceIdeal)
-- ==== Kernel.lean ====
abbrev S128x2048x128 : Shape := ⟨3, ![128, 2048, 128]⟩
abbrev S128x16x128 : Shape := ⟨3, ![128, 16, 128]⟩
abbrev S16384x128 : Shape := ⟨2, ![16384, 128]⟩
abbrev S16384x256 : Shape := ⟨2, ![16384, 256]⟩
abbrev S128x2048x256 : Shape := ⟨3, ![128, 2048, 256]⟩
abbrev S3x16x128x128 : Shape := ⟨4, ![3, 16, 128, 128]⟩
abbrev S16x256x128 : Shape := ⟨3, ![16, 256, 128]⟩
abbrev S4x4096x128 : Shape := ⟨3, ![4, 4096, 128]⟩
abbrev S4x4096x256 : Shape := ⟨3, ![4, 4096, 256]⟩
abbrev S4x4096x2048 : Shape := ⟨3, ![4, 4096, 2048]⟩
abbrev S1x2048x128 : Shape := ⟨3, ![1, 2048, 128]⟩
abbrev S1x16x128 : Shape := ⟨3, ![1, 16, 128]⟩
abbrev S1x4096x128 : Shape := ⟨3, ![1, 4096, 128]⟩
abbrev S1x4096x256 : Shape := ⟨3, ![1, 4096, 256]⟩
abbrev S1x2048x256 : Shape := ⟨3, ![1, 2048, 256]⟩
abbrev S1x128x2048 : Shape := ⟨3, ![1, 128, 2048]⟩
abbrev S8x512x128 : Shape := ⟨3, ![8, 512, 128]⟩
abbrev S33x128x128 : Shape := ⟨3, ![33, 128, 128]⟩
abbrev S2x512x2048 : Shape := ⟨3, ![2, 512, 2048]⟩
abbrev S4x512x512 : Shape := ⟨3, ![4, 512, 512]⟩
abbrev S4x512x128 : Shape := ⟨3, ![4, 512, 128]⟩
abbrev S2048x256 : Shape := ⟨2, ![2048, 256]⟩
abbrev S2048x128 : Shape := ⟨2, ![2048, 128]⟩
abbrev S8x128 : Shape := ⟨2, ![8, 128]⟩
abbrev S1x128 : Shape := ⟨2, ![1, 128]⟩
abbrev S1x512x128 : Shape := ⟨3, ![1, 512, 128]⟩
abbrev S512x128 : Shape := ⟨2, ![512, 128]⟩
abbrev S512x2048 : Shape := ⟨2, ![512, 2048]⟩
abbrev S1x512x2048 : Shape := ⟨3, ![1, 512, 2048]⟩
abbrev S128x128 : Shape := ⟨2, ![128, 128]⟩
abbrev S1x128x128 : Shape := ⟨3, ![1, 128, 128]⟩
abbrev S1x1x128 : Shape := ⟨3, ![1, 1, 128]⟩
abbrev S16x128 : Shape := ⟨2, ![16, 128]⟩
abbrev S128 : Shape := ⟨1, ![128]⟩
abbrev S32x16x128 : Shape := ⟨3, ![32, 16, 128]⟩
abbrev S1 : Shape := ⟨1, ![1]⟩
abbrev S1x1x1 : Shape := ⟨3, ![1, 1, 1]⟩
abbrev S64x8x128 : Shape := ⟨3, ![64, 8, 128]⟩
abbrev S1x512x256 : Shape := ⟨3, ![1, 512, 256]⟩
abbrev S512x256 : Shape := ⟨2, ![512, 256]⟩
abbrev S512x512 : Shape := ⟨2, ![512, 512]⟩
abbrev S64x128 : Shape := ⟨2, ![64, 128]⟩
abbrev S1x64x128 : Shape := ⟨3, ![1, 64, 128]⟩
abbrev S1x1x64x128 : Shape := ⟨4, ![1, 1, 64, 128]⟩
abbrev S64 : Shape := ⟨1, ![64]⟩
abbrev S64x1 : Shape := ⟨2, ![64, 1]⟩
abbrev S64x512 : Shape := ⟨2, ![64, 512]⟩
abbrev S1x64x512 : Shape := ⟨3, ![1, 64, 512]⟩
abbrev S1x512x512 : Shape := ⟨3, ![1, 512, 512]⟩
abbrev S128x1 : Shape := ⟨2, ![128, 1]⟩
abbrev S128x256 : Shape := ⟨2, ![128, 256]⟩
abbrev S1x256x128 : Shape := ⟨3, ![1, 256, 128]⟩
abbrev S256x128 : Shape := ⟨2, ![256, 128]⟩

abbrev nBuf : Space → Nat
  | .hbm => 10
  | .vmem => 27
  | .smem => 0
  | _ => 0

abbrev bufTy : (tb : Table) → Fin (tcTables nBuf tb) → BufTy
  | .hbm, ⟨0, _⟩ => ⟨S128x2048x128, .bf16⟩
  | .hbm, ⟨1, _⟩ => ⟨S128x16x128, .f32⟩
  | .hbm, ⟨2, _⟩ => ⟨S16384x128, .bf16⟩
  | .hbm, ⟨3, _⟩ => ⟨S16384x256, .bf16⟩
  | .hbm, ⟨4, _⟩ => ⟨S128x2048x256, .bf16⟩
  | .hbm, ⟨5, _⟩ => ⟨S3x16x128x128, .f32⟩
  | .hbm, ⟨6, _⟩ => ⟨S16x256x128, .bf16⟩
  | .hbm, ⟨7, _⟩ => ⟨S4x4096x128, .bf16⟩
  | .hbm, ⟨8, _⟩ => ⟨S4x4096x256, .bf16⟩
  | .hbm, ⟨9, _⟩ => ⟨S4x4096x2048, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x16x128, .f32⟩
  | .local _ .vmem, ⟨3, _⟩ => ⟨S1x16x128, .f32⟩
  | .local _ .vmem, ⟨4, _⟩ => ⟨S1x4096x128, .bf16⟩
  | .local _ .vmem, ⟨5, _⟩ => ⟨S1x4096x128, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x2048x256, .bf16⟩
  | .local _ .vmem, ⟨9, _⟩ => ⟨S1x2048x256, .bf16⟩
  | .local _ .vmem, ⟨10, _⟩ => ⟨S3x16x128x128, .f32⟩
  | .local _ .vmem, ⟨11, _⟩ => ⟨S16x256x128, .bf16⟩
  | .local _ .vmem, ⟨12, _⟩ => ⟨S1x128x2048, .bf16⟩
  | .local _ .vmem, ⟨13, _⟩ => ⟨S1x128x2048, .bf16⟩
  | .local _ .vmem, ⟨14, _⟩ => ⟨S8x512x128, .i32⟩
  | .local _ .vmem, ⟨15, _⟩ => ⟨S8x512x128, .i16⟩
  | .local _ .vmem, ⟨16, _⟩ => ⟨S8x512x128, .i16⟩
  | .local _ .vmem, ⟨17, _⟩ => ⟨S8x512x128, .i16⟩
  | .local _ .vmem, ⟨18, _⟩ => ⟨S33x128x128, .f32⟩
  | .local _ .vmem, ⟨19, _⟩ => ⟨S2x512x2048, .f32⟩
  | .local _ .vmem, ⟨20, _⟩ => ⟨S4x512x512, .f32⟩
  | .local _ .vmem, ⟨21, _⟩ => ⟨S4x512x512, .bf16⟩
  | .local _ .vmem, ⟨22, _⟩ => ⟨S4x512x128, .f32⟩
  | .local _ .vmem, ⟨23, _⟩ => ⟨S2048x256, .f32⟩
  | .local _ .vmem, ⟨24, _⟩ => ⟨S2048x128, .f32⟩
  | .local _ .vmem, ⟨25, _⟩ => ⟨S2048x128, .f32⟩
  | .local _ .vmem, ⟨26, _⟩ => ⟨S8x128, .i32⟩
  | _, _ => ⟨S128x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_scratch9 : Ref sig .tc := ⟨.vmem, 23, rfl⟩
abbrev cc0_scratch10 : Ref sig .tc := ⟨.vmem, 24, rfl⟩
abbrev cc0_scratch11 : Ref sig .tc := ⟨.vmem, 25, rfl⟩
abbrev cc0_scratch12 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [BitOps F]

abbrev grid0 : Pipeline.Grid := ⟨2, ![4, 32], ![false, false]⟩

def k0_cond1 (i : grid0.Coords) : BitVec 1 :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c2_i32 : BitVec 32 := 2#32
  let c0_i32_7 : BitVec 32 := 0#32
  let v24 : BitVec 1 := Scalar.cmpi .eq c2_i32 c0_i32_7
  let c1_i32_8 : BitVec 32 := 1#32
  let v25 : BitVec 32 := Scalar.select v24 c1_i32_8 c2_i32
  let v26 : BitVec 32 := Scalar.remsi v17 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c1_i32_12 : BitVec 32 := 1#32
  let v34 : BitVec 1 := Scalar.cmpi .eq v33 c1_i32_12
  let v35 : BitVec 32 := Scalar.extui v34
  let c0_i32_13 : BitVec 32 := 0#32
  let v36 : BitVec 1 := Scalar.cmpi .ne v35 c0_i32_13
  v36

def k0_mult1 : BitVec 32 :=
  let c0_i32_241 : BitVec 32 := 0#32
  c0_i32_241
def k0_mult2 : BitVec 32 :=
  let c0_i32_248 : BitVec 32 := 0#32
  c0_i32_248
@[reducible] def k0_t1_loop (i : grid0.Coords) : Scf.Loop 32 :=
  let c0_i32_22 : BitVec 32 := 0#32
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c0_i32_15 : BitVec 32 := 0#32
  let v38 : BitVec 1 := Scalar.cmpi .sgt v17 c0_i32_15
  let v39 : BitVec 32 := Scalar.extui v38
  let c0_i32_16 : BitVec 32 := 0#32
  let v40 : BitVec 1 := Scalar.cmpi .slt v17 c0_i32_16
  let v41 : BitVec 32 := Scalar.extui v40
  let v42 : BitVec 32 := Scalar.subi v39 v41
  let c2_i32_14 : BitVec 32 := 2#32
  let c0_i32_17 : BitVec 32 := 0#32
  let v43 : BitVec 1 := Scalar.cmpi .sgt c2_i32_14 c0_i32_17
  let v44 : BitVec 32 := Scalar.extui v43
  let c0_i32_18 : BitVec 32 := 0#32
  let v45 : BitVec 1 := Scalar.cmpi .slt c2_i32_14 c0_i32_18
  let v46 : BitVec 32 := Scalar.extui v45
  let v47 : BitVec 32 := Scalar.subi v44 v46
  let v48 : BitVec 1 := Scalar.cmpi .ne v42 v47
  let v49 : BitVec 32 := Scalar.remsi v17 c2_i32_14
  let c0_i32_19 : BitVec 32 := 0#32
  let v50 : BitVec 1 := Scalar.cmpi .ne v49 c0_i32_19
  let v51 : BitVec 1 := Scalar.andi v48 v50
  let v37 : BitVec 32 := Scalar.divsi v17 c2_i32_14
  let c1_i32_20 : BitVec 32 := 1#32
  let v52 : BitVec 32 := Scalar.subi v37 c1_i32_20
  let v53 : BitVec 32 := Scalar.select v51 v52 v37
  let v54 : BitVec 32 := Scalar.subi v53 c0_i32_22
  let c1_i32_23 : BitVec 32 := 1#32
  let v56 : BitVec 32 := Scalar.divsi v54 c1_i32_23
  let v57 : BitVec 32 := Scalar.muli v56 c1_i32_23
  let v58 : BitVec 32 := Scalar.addi c0_i32_22 v57
  let c1_i32_24 : BitVec 32 := 1#32
  ⟨c0_i32_22, v58, c1_i32_24⟩
def k0_mult3 (i : grid0.Coords) (k0_t1 : Fin (k0_t1_loop i).trips) : BitVec 32 :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c2_i32 : BitVec 32 := 2#32
  let c0_i32_7 : BitVec 32 := 0#32
  let v24 : BitVec 1 := Scalar.cmpi .eq c2_i32 c0_i32_7
  let c1_i32_8 : BitVec 32 := 1#32
  let v25 : BitVec 32 := Scalar.select v24 c1_i32_8 c2_i32
  let v26 : BitVec 32 := Scalar.remsi v17 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c2_i32_241 : BitVec 32 := 2#32
  let c0_i32_22 : BitVec 32 := 0#32
  let c1_i32_24 : BitVec 32 := 1#32
  let arg23 : BitVec 32 := Scf.iv c0_i32_22 c1_i32_24 k0_t1
  let v382 : BitVec 32 := Scalar.muli c2_i32_241 arg23
  let v383 : BitVec 32 := Scalar.addi v33 v382
  let c512_i32_242 : BitVec 32 := 512#32
  let v384 : BitVec 32 := Scalar.muli v383 c512_i32_242
  v384
def k0_off1 (i : grid0.Coords) (k0_t1 : Fin (k0_t1_loop i).trips) : Fin 3 → Nat :=
  let c0_243 : Index := 0#32
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c2_i32 : BitVec 32 := 2#32
  let c0_i32_7 : BitVec 32 := 0#32
  let v24 : BitVec 1 := Scalar.cmpi .eq c2_i32 c0_i32_7
  let c1_i32_8 : BitVec 32 := 1#32
  let v25 : BitVec 32 := Scalar.select v24 c1_i32_8 c2_i32
  let v26 : BitVec 32 := Scalar.remsi v17 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c2_i32_241 : BitVec 32 := 2#32
  let c0_i32_22 : BitVec 32 := 0#32
  let c1_i32_24 : BitVec 32 := 1#32
  let arg23 : BitVec 32 := Scf.iv c0_i32_22 c1_i32_24 k0_t1
  let v382 : BitVec 32 := Scalar.muli c2_i32_241 arg23
  let v383 : BitVec 32 := Scalar.addi v33 v382
  let c512_i32_242 : BitVec 32 := 512#32
  let v384 : BitVec 32 := Scalar.muli v383 c512_i32_242
  let v385 : BitVec 32 := v384
  let v386 : Index := Scalar.indexCast v385
  let c0_244 : Index := 0#32
  ![0, v386.toNat, 0]
def k0_mult4 (i : grid0.Coords) (k0_t1 : Fin (k0_t1_loop i).trips) : BitVec 32 :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c2_i32 : BitVec 32 := 2#32
  let c0_i32_7 : BitVec 32 := 0#32
  let v24 : BitVec 1 := Scalar.cmpi .eq c2_i32 c0_i32_7
  let c1_i32_8 : BitVec 32 := 1#32
  let v25 : BitVec 32 := Scalar.select v24 c1_i32_8 c2_i32
  let v26 : BitVec 32 := Scalar.remsi v17 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c2_i32_241 : BitVec 32 := 2#32
  let c0_i32_22 : BitVec 32 := 0#32
  let c1_i32_24 : BitVec 32 := 1#32
  let arg23 : BitVec 32 := Scf.iv c0_i32_22 c1_i32_24 k0_t1
  let v382 : BitVec 32 := Scalar.muli c2_i32_241 arg23
  let v383 : BitVec 32 := Scalar.addi v33 v382
  let c1_i32_249 : BitVec 32 := 1#32
  let v393 : BitVec 32 := Scalar.addi v383 c1_i32_249
  let c512_i32_250 : BitVec 32 := 512#32
  let v394 : BitVec 32 := Scalar.muli v393 c512_i32_250
  v394
def k0_off2 (i : grid0.Coords) (k0_t1 : Fin (k0_t1_loop i).trips) : Fin 3 → Nat :=
  let c0_251 : Index := 0#32
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c2_i32 : BitVec 32 := 2#32
  let c0_i32_7 : BitVec 32 := 0#32
  let v24 : BitVec 1 := Scalar.cmpi .eq c2_i32 c0_i32_7
  let c1_i32_8 : BitVec 32 := 1#32
  let v25 : BitVec 32 := Scalar.select v24 c1_i32_8 c2_i32
  let v26 : BitVec 32 := Scalar.remsi v17 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c2_i32_241 : BitVec 32 := 2#32
  let c0_i32_22 : BitVec 32 := 0#32
  let c1_i32_24 : BitVec 32 := 1#32
  let arg23 : BitVec 32 := Scf.iv c0_i32_22 c1_i32_24 k0_t1
  let v382 : BitVec 32 := Scalar.muli c2_i32_241 arg23
  let v383 : BitVec 32 := Scalar.addi v33 v382
  let c1_i32_249 : BitVec 32 := 1#32
  let v393 : BitVec 32 := Scalar.addi v383 c1_i32_249
  let c512_i32_250 : BitVec 32 := 512#32
  let v394 : BitVec 32 := Scalar.muli v393 c512_i32_250
  let v395 : BitVec 32 := v394
  let v396 : Index := Scalar.indexCast v395
  let c0_252 : Index := 0#32
  ![0, v396.toNat, 0]
def k0_mult5 (i : grid0.Coords) (k0_t1 : Fin (k0_t1_loop i).trips) : BitVec 32 :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c2_i32 : BitVec 32 := 2#32
  let c0_i32_7 : BitVec 32 := 0#32
  let v24 : BitVec 1 := Scalar.cmpi .eq c2_i32 c0_i32_7
  let c1_i32_8 : BitVec 32 := 1#32
  let v25 : BitVec 32 := Scalar.select v24 c1_i32_8 c2_i32
  let v26 : BitVec 32 := Scalar.remsi v17 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c2_i32_241 : BitVec 32 := 2#32
  let c0_i32_22 : BitVec 32 := 0#32
  let c1_i32_24 : BitVec 32 := 1#32
  let arg23 : BitVec 32 := Scf.iv c0_i32_22 c1_i32_24 k0_t1
  let v382 : BitVec 32 := Scalar.muli c2_i32_241 arg23
  let v383 : BitVec 32 := Scalar.addi v33 v382
  let c512_i32_257 : BitVec 32 := 512#32
  let v403 : BitVec 32 := Scalar.muli v383 c512_i32_257
  v403
def k0_off3 (i : grid0.Coords) (k0_t1 : Fin (k0_t1_loop i).trips) : Fin 3 → Nat :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c2_i32 : BitVec 32 := 2#32
  let c0_i32_7 : BitVec 32 := 0#32
  let v24 : BitVec 1 := Scalar.cmpi .eq c2_i32 c0_i32_7
  let c1_i32_8 : BitVec 32 := 1#32
  let v25 : BitVec 32 := Scalar.select v24 c1_i32_8 c2_i32
  let v26 : BitVec 32 := Scalar.remsi v17 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c2_i32_241 : BitVec 32 := 2#32
  let c0_i32_22 : BitVec 32 := 0#32
  let c1_i32_24 : BitVec 32 := 1#32
  let arg23 : BitVec 32 := Scf.iv c0_i32_22 c1_i32_24 k0_t1
  let v382 : BitVec 32 := Scalar.muli c2_i32_241 arg23
  let v383 : BitVec 32 := Scalar.addi v33 v382
  let v564 : Index := Scalar.indexCast v383
  let c0_374 : Index := 0#32
  let c0_375 : Index := 0#32
  ![v564.toNat, 0, 0]
def k0_off4 (i : grid0.Coords) (k0_t1 : Fin (k0_t1_loop i).trips) : Fin 3 → Nat :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c2_i32 : BitVec 32 := 2#32
  let c0_i32_7 : BitVec 32 := 0#32
  let v24 : BitVec 1 := Scalar.cmpi .eq c2_i32 c0_i32_7
  let c1_i32_8 : BitVec 32 := 1#32
  let v25 : BitVec 32 := Scalar.select v24 c1_i32_8 c2_i32
  let v26 : BitVec 32 := Scalar.remsi v17 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c2_i32_241 : BitVec 32 := 2#32
  let c0_i32_22 : BitVec 32 := 0#32
  let c1_i32_24 : BitVec 32 := 1#32
  let arg23 : BitVec 32 := Scf.iv c0_i32_22 c1_i32_24 k0_t1
  let v382 : BitVec 32 := Scalar.muli c2_i32_241 arg23
  let v383 : BitVec 32 := Scalar.addi v33 v382
  let v743 : Index := Scalar.indexCast v383
  let c128_498 : Index := 128#32
  let c0_499 : Index := 0#32
  ![v743.toNat, 128, 0]
def k0_off5 (i : grid0.Coords) (k0_t1 : Fin (k0_t1_loop i).trips) : Fin 3 → Nat :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c2_i32 : BitVec 32 := 2#32
  let c0_i32_7 : BitVec 32 := 0#32
  let v24 : BitVec 1 := Scalar.cmpi .eq c2_i32 c0_i32_7
  let c1_i32_8 : BitVec 32 := 1#32
  let v25 : BitVec 32 := Scalar.select v24 c1_i32_8 c2_i32
  let v26 : BitVec 32 := Scalar.remsi v17 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c2_i32_241 : BitVec 32 := 2#32
  let c0_i32_22 : BitVec 32 := 0#32
  let c1_i32_24 : BitVec 32 := 1#32
  let arg23 : BitVec 32 := Scf.iv c0_i32_22 c1_i32_24 k0_t1
  let v382 : BitVec 32 := Scalar.muli c2_i32_241 arg23
  let v383 : BitVec 32 := Scalar.addi v33 v382
  let v922 : Index := Scalar.indexCast v383
  let c256_624 : Index := 256#32
  let c0_625 : Index := 0#32
  ![v922.toNat, 256, 0]
def k0_off6 (i : grid0.Coords) (k0_t1 : Fin (k0_t1_loop i).trips) : Fin 3 → Nat :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c2_i32 : BitVec 32 := 2#32
  let c0_i32_7 : BitVec 32 := 0#32
  let v24 : BitVec 1 := Scalar.cmpi .eq c2_i32 c0_i32_7
  let c1_i32_8 : BitVec 32 := 1#32
  let v25 : BitVec 32 := Scalar.select v24 c1_i32_8 c2_i32
  let v26 : BitVec 32 := Scalar.remsi v17 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c2_i32_241 : BitVec 32 := 2#32
  let c0_i32_22 : BitVec 32 := 0#32
  let c1_i32_24 : BitVec 32 := 1#32
  let arg23 : BitVec 32 := Scf.iv c0_i32_22 c1_i32_24 k0_t1
  let v382 : BitVec 32 := Scalar.muli c2_i32_241 arg23
  let v383 : BitVec 32 := Scalar.addi v33 v382
  let v1101 : Index := Scalar.indexCast v383
  let c384_749 : Index := 384#32
  let c0_750 : Index := 0#32
  ![v1101.toNat, 384, 0]
def k0_mult6 (i : grid0.Coords) (k0_t1 : Fin (k0_t1_loop i).trips) : BitVec 32 :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c2_i32 : BitVec 32 := 2#32
  let c0_i32_7 : BitVec 32 := 0#32
  let v24 : BitVec 1 := Scalar.cmpi .eq c2_i32 c0_i32_7
  let c1_i32_8 : BitVec 32 := 1#32
  let v25 : BitVec 32 := Scalar.select v24 c1_i32_8 c2_i32
  let v26 : BitVec 32 := Scalar.remsi v17 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c2_i32_241 : BitVec 32 := 2#32
  let c0_i32_22 : BitVec 32 := 0#32
  let c1_i32_24 : BitVec 32 := 1#32
  let arg23 : BitVec 32 := Scf.iv c0_i32_22 c1_i32_24 k0_t1
  let v382 : BitVec 32 := Scalar.muli c2_i32_241 arg23
  let v383 : BitVec 32 := Scalar.addi v33 v382
  let c1_i32_758 : BitVec 32 := 1#32
  let v1121 : BitVec 32 := Scalar.addi v383 c1_i32_758
  let c512_i32_759 : BitVec 32 := 512#32
  let v1122 : BitVec 32 := Scalar.muli v1121 c512_i32_759
  v1122
def k0_off7 (i : grid0.Coords) (k0_t1 : Fin (k0_t1_loop i).trips) : Fin 3 → Nat :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c2_i32 : BitVec 32 := 2#32
  let c0_i32_7 : BitVec 32 := 0#32
  let v24 : BitVec 1 := Scalar.cmpi .eq c2_i32 c0_i32_7
  let c1_i32_8 : BitVec 32 := 1#32
  let v25 : BitVec 32 := Scalar.select v24 c1_i32_8 c2_i32
  let v26 : BitVec 32 := Scalar.remsi v17 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c2_i32_241 : BitVec 32 := 2#32
  let c0_i32_22 : BitVec 32 := 0#32
  let c1_i32_24 : BitVec 32 := 1#32
  let arg23 : BitVec 32 := Scf.iv c0_i32_22 c1_i32_24 k0_t1
  let v382 : BitVec 32 := Scalar.muli c2_i32_241 arg23
  let v383 : BitVec 32 := Scalar.addi v33 v382
  let c1_i32_758 : BitVec 32 := 1#32
  let v1121 : BitVec 32 := Scalar.addi v383 c1_i32_758
  let v1283 : Index := Scalar.indexCast v1121
  let c0_877 : Index := 0#32
  let c0_878 : Index := 0#32
  ![v1283.toNat, 0, 0]
def k0_off8 (i : grid0.Coords) (k0_t1 : Fin (k0_t1_loop i).trips) : Fin 3 → Nat :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c2_i32 : BitVec 32 := 2#32
  let c0_i32_7 : BitVec 32 := 0#32
  let v24 : BitVec 1 := Scalar.cmpi .eq c2_i32 c0_i32_7
  let c1_i32_8 : BitVec 32 := 1#32
  let v25 : BitVec 32 := Scalar.select v24 c1_i32_8 c2_i32
  let v26 : BitVec 32 := Scalar.remsi v17 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c2_i32_241 : BitVec 32 := 2#32
  let c0_i32_22 : BitVec 32 := 0#32
  let c1_i32_24 : BitVec 32 := 1#32
  let arg23 : BitVec 32 := Scf.iv c0_i32_22 c1_i32_24 k0_t1
  let v382 : BitVec 32 := Scalar.muli c2_i32_241 arg23
  let v383 : BitVec 32 := Scalar.addi v33 v382
  let c1_i32_758 : BitVec 32 := 1#32
  let v1121 : BitVec 32 := Scalar.addi v383 c1_i32_758
  let v1462 : Index := Scalar.indexCast v1121
  let c128_1003 : Index := 128#32
  let c0_1004 : Index := 0#32
  ![v1462.toNat, 128, 0]
def k0_off9 (i : grid0.Coords) (k0_t1 : Fin (k0_t1_loop i).trips) : Fin 3 → Nat :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c2_i32 : BitVec 32 := 2#32
  let c0_i32_7 : BitVec 32 := 0#32
  let v24 : BitVec 1 := Scalar.cmpi .eq c2_i32 c0_i32_7
  let c1_i32_8 : BitVec 32 := 1#32
  let v25 : BitVec 32 := Scalar.select v24 c1_i32_8 c2_i32
  let v26 : BitVec 32 := Scalar.remsi v17 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c2_i32_241 : BitVec 32 := 2#32
  let c0_i32_22 : BitVec 32 := 0#32
  let c1_i32_24 : BitVec 32 := 1#32
  let arg23 : BitVec 32 := Scf.iv c0_i32_22 c1_i32_24 k0_t1
  let v382 : BitVec 32 := Scalar.muli c2_i32_241 arg23
  let v383 : BitVec 32 := Scalar.addi v33 v382
  let c1_i32_758 : BitVec 32 := 1#32
  let v1121 : BitVec 32 := Scalar.addi v383 c1_i32_758
  let v1641 : Index := Scalar.indexCast v1121
  let c256_1129 : Index := 256#32
  let c0_1130 : Index := 0#32
  ![v1641.toNat, 256, 0]
def k0_off10 (i : grid0.Coords) (k0_t1 : Fin (k0_t1_loop i).trips) : Fin 3 → Nat :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c2_i32 : BitVec 32 := 2#32
  let c0_i32_7 : BitVec 32 := 0#32
  let v24 : BitVec 1 := Scalar.cmpi .eq c2_i32 c0_i32_7
  let c1_i32_8 : BitVec 32 := 1#32
  let v25 : BitVec 32 := Scalar.select v24 c1_i32_8 c2_i32
  let v26 : BitVec 32 := Scalar.remsi v17 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c2_i32_241 : BitVec 32 := 2#32
  let c0_i32_22 : BitVec 32 := 0#32
  let c1_i32_24 : BitVec 32 := 1#32
  let arg23 : BitVec 32 := Scf.iv c0_i32_22 c1_i32_24 k0_t1
  let v382 : BitVec 32 := Scalar.muli c2_i32_241 arg23
  let v383 : BitVec 32 := Scalar.addi v33 v382
  let c1_i32_758 : BitVec 32 := 1#32
  let v1121 : BitVec 32 := Scalar.addi v383 c1_i32_758
  let v1820 : Index := Scalar.indexCast v1121
  let c384_1255 : Index := 384#32
  let c0_1256 : Index := 0#32
  ![v1820.toNat, 384, 0]
@[reducible] def k0_t2_loop (i : grid0.Coords) : Scf.Loop 32 :=
  let c0_i32_22 : BitVec 32 := 0#32
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c0_i32_15 : BitVec 32 := 0#32
  let v38 : BitVec 1 := Scalar.cmpi .sgt v17 c0_i32_15
  let v39 : BitVec 32 := Scalar.extui v38
  let c0_i32_16 : BitVec 32 := 0#32
  let v40 : BitVec 1 := Scalar.cmpi .slt v17 c0_i32_16
  let v41 : BitVec 32 := Scalar.extui v40
  let v42 : BitVec 32 := Scalar.subi v39 v41
  let c2_i32_14 : BitVec 32 := 2#32
  let c0_i32_17 : BitVec 32 := 0#32
  let v43 : BitVec 1 := Scalar.cmpi .sgt c2_i32_14 c0_i32_17
  let v44 : BitVec 32 := Scalar.extui v43
  let c0_i32_18 : BitVec 32 := 0#32
  let v45 : BitVec 1 := Scalar.cmpi .slt c2_i32_14 c0_i32_18
  let v46 : BitVec 32 := Scalar.extui v45
  let v47 : BitVec 32 := Scalar.subi v44 v46
  let v48 : BitVec 1 := Scalar.cmpi .ne v42 v47
  let v49 : BitVec 32 := Scalar.remsi v17 c2_i32_14
  let c0_i32_19 : BitVec 32 := 0#32
  let v50 : BitVec 1 := Scalar.cmpi .ne v49 c0_i32_19
  let v51 : BitVec 1 := Scalar.andi v48 v50
  let v37 : BitVec 32 := Scalar.divsi v17 c2_i32_14
  let c1_i32_20 : BitVec 32 := 1#32
  let v52 : BitVec 32 := Scalar.subi v37 c1_i32_20
  let v53 : BitVec 32 := Scalar.select v51 v52 v37
  let v54 : BitVec 32 := Scalar.subi v53 c0_i32_22
  let c1_i32_23 : BitVec 32 := 1#32
  let v56 : BitVec 32 := Scalar.divsi v54 c1_i32_23
  let v57 : BitVec 32 := Scalar.muli v56 c1_i32_23
  let v58 : BitVec 32 := Scalar.addi c0_i32_22 v57
  let v55 : BitVec 32 := Scalar.addi c0_i32_22 v54
  let c1_i32_25 : BitVec 32 := 1#32
  ⟨v58, v55, c1_i32_25⟩
def k0_mult7 (i : grid0.Coords) (k0_t2 : Fin (k0_t2_loop i).trips) : BitVec 32 :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c2_i32 : BitVec 32 := 2#32
  let c0_i32_7 : BitVec 32 := 0#32
  let v24 : BitVec 1 := Scalar.cmpi .eq c2_i32 c0_i32_7
  let c1_i32_8 : BitVec 32 := 1#32
  let v25 : BitVec 32 := Scalar.select v24 c1_i32_8 c2_i32
  let v26 : BitVec 32 := Scalar.remsi v17 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c2_i32_241 : BitVec 32 := 2#32
  let c0_i32_22 : BitVec 32 := 0#32
  let c0_i32_15 : BitVec 32 := 0#32
  let v38 : BitVec 1 := Scalar.cmpi .sgt v17 c0_i32_15
  let v39 : BitVec 32 := Scalar.extui v38
  let c0_i32_16 : BitVec 32 := 0#32
  let v40 : BitVec 1 := Scalar.cmpi .slt v17 c0_i32_16
  let v41 : BitVec 32 := Scalar.extui v40
  let v42 : BitVec 32 := Scalar.subi v39 v41
  let c2_i32_14 : BitVec 32 := 2#32
  let c0_i32_17 : BitVec 32 := 0#32
  let v43 : BitVec 1 := Scalar.cmpi .sgt c2_i32_14 c0_i32_17
  let v44 : BitVec 32 := Scalar.extui v43
  let c0_i32_18 : BitVec 32 := 0#32
  let v45 : BitVec 1 := Scalar.cmpi .slt c2_i32_14 c0_i32_18
  let v46 : BitVec 32 := Scalar.extui v45
  let v47 : BitVec 32 := Scalar.subi v44 v46
  let v48 : BitVec 1 := Scalar.cmpi .ne v42 v47
  let v49 : BitVec 32 := Scalar.remsi v17 c2_i32_14
  let c0_i32_19 : BitVec 32 := 0#32
  let v50 : BitVec 1 := Scalar.cmpi .ne v49 c0_i32_19
  let v51 : BitVec 1 := Scalar.andi v48 v50
  let v37 : BitVec 32 := Scalar.divsi v17 c2_i32_14
  let c1_i32_20 : BitVec 32 := 1#32
  let v52 : BitVec 32 := Scalar.subi v37 c1_i32_20
  let v53 : BitVec 32 := Scalar.select v51 v52 v37
  let v54 : BitVec 32 := Scalar.subi v53 c0_i32_22
  let c1_i32_23 : BitVec 32 := 1#32
  let v56 : BitVec 32 := Scalar.divsi v54 c1_i32_23
  let v57 : BitVec 32 := Scalar.muli v56 c1_i32_23
  let v58 : BitVec 32 := Scalar.addi c0_i32_22 v57
  let c1_i32_25 : BitVec 32 := 1#32
  let arg23 : BitVec 32 := Scf.iv v58 c1_i32_25 k0_t2
  let v382 : BitVec 32 := Scalar.muli c2_i32_241 arg23
  let v383 : BitVec 32 := Scalar.addi v33 v382
  let c512_i32_242 : BitVec 32 := 512#32
  let v384 : BitVec 32 := Scalar.muli v383 c512_i32_242
  v384
def k0_off11 (i : grid0.Coords) (k0_t2 : Fin (k0_t2_loop i).trips) : Fin 3 → Nat :=
  let c0_243 : Index := 0#32
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c2_i32 : BitVec 32 := 2#32
  let c0_i32_7 : BitVec 32 := 0#32
  let v24 : BitVec 1 := Scalar.cmpi .eq c2_i32 c0_i32_7
  let c1_i32_8 : BitVec 32 := 1#32
  let v25 : BitVec 32 := Scalar.select v24 c1_i32_8 c2_i32
  let v26 : BitVec 32 := Scalar.remsi v17 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c2_i32_241 : BitVec 32 := 2#32
  let c0_i32_22 : BitVec 32 := 0#32
  let c0_i32_15 : BitVec 32 := 0#32
  let v38 : BitVec 1 := Scalar.cmpi .sgt v17 c0_i32_15
  let v39 : BitVec 32 := Scalar.extui v38
  let c0_i32_16 : BitVec 32 := 0#32
  let v40 : BitVec 1 := Scalar.cmpi .slt v17 c0_i32_16
  let v41 : BitVec 32 := Scalar.extui v40
  let v42 : BitVec 32 := Scalar.subi v39 v41
  let c2_i32_14 : BitVec 32 := 2#32
  let c0_i32_17 : BitVec 32 := 0#32
  let v43 : BitVec 1 := Scalar.cmpi .sgt c2_i32_14 c0_i32_17
  let v44 : BitVec 32 := Scalar.extui v43
  let c0_i32_18 : BitVec 32 := 0#32
  let v45 : BitVec 1 := Scalar.cmpi .slt c2_i32_14 c0_i32_18
  let v46 : BitVec 32 := Scalar.extui v45
  let v47 : BitVec 32 := Scalar.subi v44 v46
  let v48 : BitVec 1 := Scalar.cmpi .ne v42 v47
  let v49 : BitVec 32 := Scalar.remsi v17 c2_i32_14
  let c0_i32_19 : BitVec 32 := 0#32
  let v50 : BitVec 1 := Scalar.cmpi .ne v49 c0_i32_19
  let v51 : BitVec 1 := Scalar.andi v48 v50
  let v37 : BitVec 32 := Scalar.divsi v17 c2_i32_14
  let c1_i32_20 : BitVec 32 := 1#32
  let v52 : BitVec 32 := Scalar.subi v37 c1_i32_20
  let v53 : BitVec 32 := Scalar.select v51 v52 v37
  let v54 : BitVec 32 := Scalar.subi v53 c0_i32_22
  let c1_i32_23 : BitVec 32 := 1#32
  let v56 : BitVec 32 := Scalar.divsi v54 c1_i32_23
  let v57 : BitVec 32 := Scalar.muli v56 c1_i32_23
  let v58 : BitVec 32 := Scalar.addi c0_i32_22 v57
  let c1_i32_25 : BitVec 32 := 1#32
  let arg23 : BitVec 32 := Scf.iv v58 c1_i32_25 k0_t2
  let v382 : BitVec 32 := Scalar.muli c2_i32_241 arg23
  let v383 : BitVec 32 := Scalar.addi v33 v382
  let c512_i32_242 : BitVec 32 := 512#32
  let v384 : BitVec 32 := Scalar.muli v383 c512_i32_242
  let v385 : BitVec 32 := v384
  let v386 : Index := Scalar.indexCast v385
  let c0_244 : Index := 0#32
  ![0, v386.toNat, 0]
def k0_mult8 (i : grid0.Coords) (k0_t2 : Fin (k0_t2_loop i).trips) : BitVec 32 :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c2_i32 : BitVec 32 := 2#32
  let c0_i32_7 : BitVec 32 := 0#32
  let v24 : BitVec 1 := Scalar.cmpi .eq c2_i32 c0_i32_7
  let c1_i32_8 : BitVec 32 := 1#32
  let v25 : BitVec 32 := Scalar.select v24 c1_i32_8 c2_i32
  let v26 : BitVec 32 := Scalar.remsi v17 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c2_i32_241 : BitVec 32 := 2#32
  let c0_i32_22 : BitVec 32 := 0#32
  let c0_i32_15 : BitVec 32 := 0#32
  let v38 : BitVec 1 := Scalar.cmpi .sgt v17 c0_i32_15
  let v39 : BitVec 32 := Scalar.extui v38
  let c0_i32_16 : BitVec 32 := 0#32
  let v40 : BitVec 1 := Scalar.cmpi .slt v17 c0_i32_16
  let v41 : BitVec 32 := Scalar.extui v40
  let v42 : BitVec 32 := Scalar.subi v39 v41
  let c2_i32_14 : BitVec 32 := 2#32
  let c0_i32_17 : BitVec 32 := 0#32
  let v43 : BitVec 1 := Scalar.cmpi .sgt c2_i32_14 c0_i32_17
  let v44 : BitVec 32 := Scalar.extui v43
  let c0_i32_18 : BitVec 32 := 0#32
  let v45 : BitVec 1 := Scalar.cmpi .slt c2_i32_14 c0_i32_18
  let v46 : BitVec 32 := Scalar.extui v45
  let v47 : BitVec 32 := Scalar.subi v44 v46
  let v48 : BitVec 1 := Scalar.cmpi .ne v42 v47
  let v49 : BitVec 32 := Scalar.remsi v17 c2_i32_14
  let c0_i32_19 : BitVec 32 := 0#32
  let v50 : BitVec 1 := Scalar.cmpi .ne v49 c0_i32_19
  let v51 : BitVec 1 := Scalar.andi v48 v50
  let v37 : BitVec 32 := Scalar.divsi v17 c2_i32_14
  let c1_i32_20 : BitVec 32 := 1#32
  let v52 : BitVec 32 := Scalar.subi v37 c1_i32_20
  let v53 : BitVec 32 := Scalar.select v51 v52 v37
  let v54 : BitVec 32 := Scalar.subi v53 c0_i32_22
  let c1_i32_23 : BitVec 32 := 1#32
  let v56 : BitVec 32 := Scalar.divsi v54 c1_i32_23
  let v57 : BitVec 32 := Scalar.muli v56 c1_i32_23
  let v58 : BitVec 32 := Scalar.addi c0_i32_22 v57
  let c1_i32_25 : BitVec 32 := 1#32
  let arg23 : BitVec 32 := Scf.iv v58 c1_i32_25 k0_t2
  let v382 : BitVec 32 := Scalar.muli c2_i32_241 arg23
  let v383 : BitVec 32 := Scalar.addi v33 v382
  let c1_i32_249 : BitVec 32 := 1#32
  let v393 : BitVec 32 := Scalar.addi v383 c1_i32_249
  let c512_i32_250 : BitVec 32 := 512#32
  let v394 : BitVec 32 := Scalar.muli v393 c512_i32_250
  v394
def k0_off12 (i : grid0.Coords) (k0_t2 : Fin (k0_t2_loop i).trips) : Fin 3 → Nat :=
  let c0_251 : Index := 0#32
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c2_i32 : BitVec 32 := 2#32
  let c0_i32_7 : BitVec 32 := 0#32
  let v24 : BitVec 1 := Scalar.cmpi .eq c2_i32 c0_i32_7
  let c1_i32_8 : BitVec 32 := 1#32
  let v25 : BitVec 32 := Scalar.select v24 c1_i32_8 c2_i32
  let v26 : BitVec 32 := Scalar.remsi v17 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c2_i32_241 : BitVec 32 := 2#32
  let c0_i32_22 : BitVec 32 := 0#32
  let c0_i32_15 : BitVec 32 := 0#32
  let v38 : BitVec 1 := Scalar.cmpi .sgt v17 c0_i32_15
  let v39 : BitVec 32 := Scalar.extui v38
  let c0_i32_16 : BitVec 32 := 0#32
  let v40 : BitVec 1 := Scalar.cmpi .slt v17 c0_i32_16
  let v41 : BitVec 32 := Scalar.extui v40
  let v42 : BitVec 32 := Scalar.subi v39 v41
  let c2_i32_14 : BitVec 32 := 2#32
  let c0_i32_17 : BitVec 32 := 0#32
  let v43 : BitVec 1 := Scalar.cmpi .sgt c2_i32_14 c0_i32_17
  let v44 : BitVec 32 := Scalar.extui v43
  let c0_i32_18 : BitVec 32 := 0#32
  let v45 : BitVec 1 := Scalar.cmpi .slt c2_i32_14 c0_i32_18
  let v46 : BitVec 32 := Scalar.extui v45
  let v47 : BitVec 32 := Scalar.subi v44 v46
  let v48 : BitVec 1 := Scalar.cmpi .ne v42 v47
  let v49 : BitVec 32 := Scalar.remsi v17 c2_i32_14
  let c0_i32_19 : BitVec 32 := 0#32
  let v50 : BitVec 1 := Scalar.cmpi .ne v49 c0_i32_19
  let v51 : BitVec 1 := Scalar.andi v48 v50
  let v37 : BitVec 32 := Scalar.divsi v17 c2_i32_14
  let c1_i32_20 : BitVec 32 := 1#32
  let v52 : BitVec 32 := Scalar.subi v37 c1_i32_20
  let v53 : BitVec 32 := Scalar.select v51 v52 v37
  let v54 : BitVec 32 := Scalar.subi v53 c0_i32_22
  let c1_i32_23 : BitVec 32 := 1#32
  let v56 : BitVec 32 := Scalar.divsi v54 c1_i32_23
  let v57 : BitVec 32 := Scalar.muli v56 c1_i32_23
  let v58 : BitVec 32 := Scalar.addi c0_i32_22 v57
  let c1_i32_25 : BitVec 32 := 1#32
  let arg23 : BitVec 32 := Scf.iv v58 c1_i32_25 k0_t2
  let v382 : BitVec 32 := Scalar.muli c2_i32_241 arg23
  let v383 : BitVec 32 := Scalar.addi v33 v382
  let c1_i32_249 : BitVec 32 := 1#32
  let v393 : BitVec 32 := Scalar.addi v383 c1_i32_249
  let c512_i32_250 : BitVec 32 := 512#32
  let v394 : BitVec 32 := Scalar.muli v393 c512_i32_250
  let v395 : BitVec 32 := v394
  let v396 : Index := Scalar.indexCast v395
  let c0_252 : Index := 0#32
  ![0, v396.toNat, 0]
def k0_mult9 (i : grid0.Coords) (k0_t2 : Fin (k0_t2_loop i).trips) : BitVec 32 :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c2_i32 : BitVec 32 := 2#32
  let c0_i32_7 : BitVec 32 := 0#32
  let v24 : BitVec 1 := Scalar.cmpi .eq c2_i32 c0_i32_7
  let c1_i32_8 : BitVec 32 := 1#32
  let v25 : BitVec 32 := Scalar.select v24 c1_i32_8 c2_i32
  let v26 : BitVec 32 := Scalar.remsi v17 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c2_i32_241 : BitVec 32 := 2#32
  let c0_i32_22 : BitVec 32 := 0#32
  let c0_i32_15 : BitVec 32 := 0#32
  let v38 : BitVec 1 := Scalar.cmpi .sgt v17 c0_i32_15
  let v39 : BitVec 32 := Scalar.extui v38
  let c0_i32_16 : BitVec 32 := 0#32
  let v40 : BitVec 1 := Scalar.cmpi .slt v17 c0_i32_16
  let v41 : BitVec 32 := Scalar.extui v40
  let v42 : BitVec 32 := Scalar.subi v39 v41
  let c2_i32_14 : BitVec 32 := 2#32
  let c0_i32_17 : BitVec 32 := 0#32
  let v43 : BitVec 1 := Scalar.cmpi .sgt c2_i32_14 c0_i32_17
  let v44 : BitVec 32 := Scalar.extui v43
  let c0_i32_18 : BitVec 32 := 0#32
  let v45 : BitVec 1 := Scalar.cmpi .slt c2_i32_14 c0_i32_18
  let v46 : BitVec 32 := Scalar.extui v45
  let v47 : BitVec 32 := Scalar.subi v44 v46
  let v48 : BitVec 1 := Scalar.cmpi .ne v42 v47
  let v49 : BitVec 32 := Scalar.remsi v17 c2_i32_14
  let c0_i32_19 : BitVec 32 := 0#32
  let v50 : BitVec 1 := Scalar.cmpi .ne v49 c0_i32_19
  let v51 : BitVec 1 := Scalar.andi v48 v50
  let v37 : BitVec 32 := Scalar.divsi v17 c2_i32_14
  let c1_i32_20 : BitVec 32 := 1#32
  let v52 : BitVec 32 := Scalar.subi v37 c1_i32_20
  let v53 : BitVec 32 := Scalar.select v51 v52 v37
  let v54 : BitVec 32 := Scalar.subi v53 c0_i32_22
  let c1_i32_23 : BitVec 32 := 1#32
  let v56 : BitVec 32 := Scalar.divsi v54 c1_i32_23
  let v57 : BitVec 32 := Scalar.muli v56 c1_i32_23
  let v58 : BitVec 32 := Scalar.addi c0_i32_22 v57
  let c1_i32_25 : BitVec 32 := 1#32
  let arg23 : BitVec 32 := Scf.iv v58 c1_i32_25 k0_t2
  let v382 : BitVec 32 := Scalar.muli c2_i32_241 arg23
  let v383 : BitVec 32 := Scalar.addi v33 v382
  let c512_i32_257 : BitVec 32 := 512#32
  let v403 : BitVec 32 := Scalar.muli v383 c512_i32_257
  v403
def k0_off13 (i : grid0.Coords) (k0_t2 : Fin (k0_t2_loop i).trips) : Fin 3 → Nat :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c2_i32 : BitVec 32 := 2#32
  let c0_i32_7 : BitVec 32 := 0#32
  let v24 : BitVec 1 := Scalar.cmpi .eq c2_i32 c0_i32_7
  let c1_i32_8 : BitVec 32 := 1#32
  let v25 : BitVec 32 := Scalar.select v24 c1_i32_8 c2_i32
  let v26 : BitVec 32 := Scalar.remsi v17 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c2_i32_241 : BitVec 32 := 2#32
  let c0_i32_22 : BitVec 32 := 0#32
  let c0_i32_15 : BitVec 32 := 0#32
  let v38 : BitVec 1 := Scalar.cmpi .sgt v17 c0_i32_15
  let v39 : BitVec 32 := Scalar.extui v38
  let c0_i32_16 : BitVec 32 := 0#32
  let v40 : BitVec 1 := Scalar.cmpi .slt v17 c0_i32_16
  let v41 : BitVec 32 := Scalar.extui v40
  let v42 : BitVec 32 := Scalar.subi v39 v41
  let c2_i32_14 : BitVec 32 := 2#32
  let c0_i32_17 : BitVec 32 := 0#32
  let v43 : BitVec 1 := Scalar.cmpi .sgt c2_i32_14 c0_i32_17
  let v44 : BitVec 32 := Scalar.extui v43
  let c0_i32_18 : BitVec 32 := 0#32
  let v45 : BitVec 1 := Scalar.cmpi .slt c2_i32_14 c0_i32_18
  let v46 : BitVec 32 := Scalar.extui v45
  let v47 : BitVec 32 := Scalar.subi v44 v46
  let v48 : BitVec 1 := Scalar.cmpi .ne v42 v47
  let v49 : BitVec 32 := Scalar.remsi v17 c2_i32_14
  let c0_i32_19 : BitVec 32 := 0#32
  let v50 : BitVec 1 := Scalar.cmpi .ne v49 c0_i32_19
  let v51 : BitVec 1 := Scalar.andi v48 v50
  let v37 : BitVec 32 := Scalar.divsi v17 c2_i32_14
  let c1_i32_20 : BitVec 32 := 1#32
  let v52 : BitVec 32 := Scalar.subi v37 c1_i32_20
  let v53 : BitVec 32 := Scalar.select v51 v52 v37
  let v54 : BitVec 32 := Scalar.subi v53 c0_i32_22
  let c1_i32_23 : BitVec 32 := 1#32
  let v56 : BitVec 32 := Scalar.divsi v54 c1_i32_23
  let v57 : BitVec 32 := Scalar.muli v56 c1_i32_23
  let v58 : BitVec 32 := Scalar.addi c0_i32_22 v57
  let c1_i32_25 : BitVec 32 := 1#32
  let arg23 : BitVec 32 := Scf.iv v58 c1_i32_25 k0_t2
  let v382 : BitVec 32 := Scalar.muli c2_i32_241 arg23
  let v383 : BitVec 32 := Scalar.addi v33 v382
  let v564 : Index := Scalar.indexCast v383
  let c0_374 : Index := 0#32
  let c0_375 : Index := 0#32
  ![v564.toNat, 0, 0]
def k0_off14 (i : grid0.Coords) (k0_t2 : Fin (k0_t2_loop i).trips) : Fin 3 → Nat :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c2_i32 : BitVec 32 := 2#32
  let c0_i32_7 : BitVec 32 := 0#32
  let v24 : BitVec 1 := Scalar.cmpi .eq c2_i32 c0_i32_7
  let c1_i32_8 : BitVec 32 := 1#32
  let v25 : BitVec 32 := Scalar.select v24 c1_i32_8 c2_i32
  let v26 : BitVec 32 := Scalar.remsi v17 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c2_i32_241 : BitVec 32 := 2#32
  let c0_i32_22 : BitVec 32 := 0#32
  let c0_i32_15 : BitVec 32 := 0#32
  let v38 : BitVec 1 := Scalar.cmpi .sgt v17 c0_i32_15
  let v39 : BitVec 32 := Scalar.extui v38
  let c0_i32_16 : BitVec 32 := 0#32
  let v40 : BitVec 1 := Scalar.cmpi .slt v17 c0_i32_16
  let v41 : BitVec 32 := Scalar.extui v40
  let v42 : BitVec 32 := Scalar.subi v39 v41
  let c2_i32_14 : BitVec 32 := 2#32
  let c0_i32_17 : BitVec 32 := 0#32
  let v43 : BitVec 1 := Scalar.cmpi .sgt c2_i32_14 c0_i32_17
  let v44 : BitVec 32 := Scalar.extui v43
  let c0_i32_18 : BitVec 32 := 0#32
  let v45 : BitVec 1 := Scalar.cmpi .slt c2_i32_14 c0_i32_18
  let v46 : BitVec 32 := Scalar.extui v45
  let v47 : BitVec 32 := Scalar.subi v44 v46
  let v48 : BitVec 1 := Scalar.cmpi .ne v42 v47
  let v49 : BitVec 32 := Scalar.remsi v17 c2_i32_14
  let c0_i32_19 : BitVec 32 := 0#32
  let v50 : BitVec 1 := Scalar.cmpi .ne v49 c0_i32_19
  let v51 : BitVec 1 := Scalar.andi v48 v50
  let v37 : BitVec 32 := Scalar.divsi v17 c2_i32_14
  let c1_i32_20 : BitVec 32 := 1#32
  let v52 : BitVec 32 := Scalar.subi v37 c1_i32_20
  let v53 : BitVec 32 := Scalar.select v51 v52 v37
  let v54 : BitVec 32 := Scalar.subi v53 c0_i32_22
  let c1_i32_23 : BitVec 32 := 1#32
  let v56 : BitVec 32 := Scalar.divsi v54 c1_i32_23
  let v57 : BitVec 32 := Scalar.muli v56 c1_i32_23
  let v58 : BitVec 32 := Scalar.addi c0_i32_22 v57
  let c1_i32_25 : BitVec 32 := 1#32
  let arg23 : BitVec 32 := Scf.iv v58 c1_i32_25 k0_t2
  let v382 : BitVec 32 := Scalar.muli c2_i32_241 arg23
  let v383 : BitVec 32 := Scalar.addi v33 v382
  let v743 : Index := Scalar.indexCast v383
  let c128_498 : Index := 128#32
  let c0_499 : Index := 0#32
  ![v743.toNat, 128, 0]
def k0_off15 (i : grid0.Coords) (k0_t2 : Fin (k0_t2_loop i).trips) : Fin 3 → Nat :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c2_i32 : BitVec 32 := 2#32
  let c0_i32_7 : BitVec 32 := 0#32
  let v24 : BitVec 1 := Scalar.cmpi .eq c2_i32 c0_i32_7
  let c1_i32_8 : BitVec 32 := 1#32
  let v25 : BitVec 32 := Scalar.select v24 c1_i32_8 c2_i32
  let v26 : BitVec 32 := Scalar.remsi v17 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c2_i32_241 : BitVec 32 := 2#32
  let c0_i32_22 : BitVec 32 := 0#32
  let c0_i32_15 : BitVec 32 := 0#32
  let v38 : BitVec 1 := Scalar.cmpi .sgt v17 c0_i32_15
  let v39 : BitVec 32 := Scalar.extui v38
  let c0_i32_16 : BitVec 32 := 0#32
  let v40 : BitVec 1 := Scalar.cmpi .slt v17 c0_i32_16
  let v41 : BitVec 32 := Scalar.extui v40
  let v42 : BitVec 32 := Scalar.subi v39 v41
  let c2_i32_14 : BitVec 32 := 2#32
  let c0_i32_17 : BitVec 32 := 0#32
  let v43 : BitVec 1 := Scalar.cmpi .sgt c2_i32_14 c0_i32_17
  let v44 : BitVec 32 := Scalar.extui v43
  let c0_i32_18 : BitVec 32 := 0#32
  let v45 : BitVec 1 := Scalar.cmpi .slt c2_i32_14 c0_i32_18
  let v46 : BitVec 32 := Scalar.extui v45
  let v47 : BitVec 32 := Scalar.subi v44 v46
  let v48 : BitVec 1 := Scalar.cmpi .ne v42 v47
  let v49 : BitVec 32 := Scalar.remsi v17 c2_i32_14
  let c0_i32_19 : BitVec 32 := 0#32
  let v50 : BitVec 1 := Scalar.cmpi .ne v49 c0_i32_19
  let v51 : BitVec 1 := Scalar.andi v48 v50
  let v37 : BitVec 32 := Scalar.divsi v17 c2_i32_14
  let c1_i32_20 : BitVec 32 := 1#32
  let v52 : BitVec 32 := Scalar.subi v37 c1_i32_20
  let v53 : BitVec 32 := Scalar.select v51 v52 v37
  let v54 : BitVec 32 := Scalar.subi v53 c0_i32_22
  let c1_i32_23 : BitVec 32 := 1#32
  let v56 : BitVec 32 := Scalar.divsi v54 c1_i32_23
  let v57 : BitVec 32 := Scalar.muli v56 c1_i32_23
  let v58 : BitVec 32 := Scalar.addi c0_i32_22 v57
  let c1_i32_25 : BitVec 32 := 1#32
  let arg23 : BitVec 32 := Scf.iv v58 c1_i32_25 k0_t2
  let v382 : BitVec 32 := Scalar.muli c2_i32_241 arg23
  let v383 : BitVec 32 := Scalar.addi v33 v382
  let v922 : Index := Scalar.indexCast v383
  let c256_624 : Index := 256#32
  let c0_625 : Index := 0#32
  ![v922.toNat, 256, 0]
def k0_off16 (i : grid0.Coords) (k0_t2 : Fin (k0_t2_loop i).trips) : Fin 3 → Nat :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c2_i32 : BitVec 32 := 2#32
  let c0_i32_7 : BitVec 32 := 0#32
  let v24 : BitVec 1 := Scalar.cmpi .eq c2_i32 c0_i32_7
  let c1_i32_8 : BitVec 32 := 1#32
  let v25 : BitVec 32 := Scalar.select v24 c1_i32_8 c2_i32
  let v26 : BitVec 32 := Scalar.remsi v17 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c2_i32_241 : BitVec 32 := 2#32
  let c0_i32_22 : BitVec 32 := 0#32
  let c0_i32_15 : BitVec 32 := 0#32
  let v38 : BitVec 1 := Scalar.cmpi .sgt v17 c0_i32_15
  let v39 : BitVec 32 := Scalar.extui v38
  let c0_i32_16 : BitVec 32 := 0#32
  let v40 : BitVec 1 := Scalar.cmpi .slt v17 c0_i32_16
  let v41 : BitVec 32 := Scalar.extui v40
  let v42 : BitVec 32 := Scalar.subi v39 v41
  let c2_i32_14 : BitVec 32 := 2#32
  let c0_i32_17 : BitVec 32 := 0#32
  let v43 : BitVec 1 := Scalar.cmpi .sgt c2_i32_14 c0_i32_17
  let v44 : BitVec 32 := Scalar.extui v43
  let c0_i32_18 : BitVec 32 := 0#32
  let v45 : BitVec 1 := Scalar.cmpi .slt c2_i32_14 c0_i32_18
  let v46 : BitVec 32 := Scalar.extui v45
  let v47 : BitVec 32 := Scalar.subi v44 v46
  let v48 : BitVec 1 := Scalar.cmpi .ne v42 v47
  let v49 : BitVec 32 := Scalar.remsi v17 c2_i32_14
  let c0_i32_19 : BitVec 32 := 0#32
  let v50 : BitVec 1 := Scalar.cmpi .ne v49 c0_i32_19
  let v51 : BitVec 1 := Scalar.andi v48 v50
  let v37 : BitVec 32 := Scalar.divsi v17 c2_i32_14
  let c1_i32_20 : BitVec 32 := 1#32
  let v52 : BitVec 32 := Scalar.subi v37 c1_i32_20
  let v53 : BitVec 32 := Scalar.select v51 v52 v37
  let v54 : BitVec 32 := Scalar.subi v53 c0_i32_22
  let c1_i32_23 : BitVec 32 := 1#32
  let v56 : BitVec 32 := Scalar.divsi v54 c1_i32_23
  let v57 : BitVec 32 := Scalar.muli v56 c1_i32_23
  let v58 : BitVec 32 := Scalar.addi c0_i32_22 v57
  let c1_i32_25 : BitVec 32 := 1#32
  let arg23 : BitVec 32 := Scf.iv v58 c1_i32_25 k0_t2
  let v382 : BitVec 32 := Scalar.muli c2_i32_241 arg23
  let v383 : BitVec 32 := Scalar.addi v33 v382
  let v1101 : Index := Scalar.indexCast v383
  let c384_749 : Index := 384#32
  let c0_750 : Index := 0#32
  ![v1101.toNat, 384, 0]
def k0_mult10 (i : grid0.Coords) (k0_t2 : Fin (k0_t2_loop i).trips) : BitVec 32 :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c2_i32 : BitVec 32 := 2#32
  let c0_i32_7 : BitVec 32 := 0#32
  let v24 : BitVec 1 := Scalar.cmpi .eq c2_i32 c0_i32_7
  let c1_i32_8 : BitVec 32 := 1#32
  let v25 : BitVec 32 := Scalar.select v24 c1_i32_8 c2_i32
  let v26 : BitVec 32 := Scalar.remsi v17 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c2_i32_241 : BitVec 32 := 2#32
  let c0_i32_22 : BitVec 32 := 0#32
  let c0_i32_15 : BitVec 32 := 0#32
  let v38 : BitVec 1 := Scalar.cmpi .sgt v17 c0_i32_15
  let v39 : BitVec 32 := Scalar.extui v38
  let c0_i32_16 : BitVec 32 := 0#32
  let v40 : BitVec 1 := Scalar.cmpi .slt v17 c0_i32_16
  let v41 : BitVec 32 := Scalar.extui v40
  let v42 : BitVec 32 := Scalar.subi v39 v41
  let c2_i32_14 : BitVec 32 := 2#32
  let c0_i32_17 : BitVec 32 := 0#32
  let v43 : BitVec 1 := Scalar.cmpi .sgt c2_i32_14 c0_i32_17
  let v44 : BitVec 32 := Scalar.extui v43
  let c0_i32_18 : BitVec 32 := 0#32
  let v45 : BitVec 1 := Scalar.cmpi .slt c2_i32_14 c0_i32_18
  let v46 : BitVec 32 := Scalar.extui v45
  let v47 : BitVec 32 := Scalar.subi v44 v46
  let v48 : BitVec 1 := Scalar.cmpi .ne v42 v47
  let v49 : BitVec 32 := Scalar.remsi v17 c2_i32_14
  let c0_i32_19 : BitVec 32 := 0#32
  let v50 : BitVec 1 := Scalar.cmpi .ne v49 c0_i32_19
  let v51 : BitVec 1 := Scalar.andi v48 v50
  let v37 : BitVec 32 := Scalar.divsi v17 c2_i32_14
  let c1_i32_20 : BitVec 32 := 1#32
  let v52 : BitVec 32 := Scalar.subi v37 c1_i32_20
  let v53 : BitVec 32 := Scalar.select v51 v52 v37
  let v54 : BitVec 32 := Scalar.subi v53 c0_i32_22
  let c1_i32_23 : BitVec 32 := 1#32
  let v56 : BitVec 32 := Scalar.divsi v54 c1_i32_23
  let v57 : BitVec 32 := Scalar.muli v56 c1_i32_23
  let v58 : BitVec 32 := Scalar.addi c0_i32_22 v57
  let c1_i32_25 : BitVec 32 := 1#32
  let arg23 : BitVec 32 := Scf.iv v58 c1_i32_25 k0_t2
  let v382 : BitVec 32 := Scalar.muli c2_i32_241 arg23
  let v383 : BitVec 32 := Scalar.addi v33 v382
  let c1_i32_758 : BitVec 32 := 1#32
  let v1121 : BitVec 32 := Scalar.addi v383 c1_i32_758
  let c512_i32_759 : BitVec 32 := 512#32
  let v1122 : BitVec 32 := Scalar.muli v1121 c512_i32_759
  v1122
def k0_off17 (i : grid0.Coords) (k0_t2 : Fin (k0_t2_loop i).trips) : Fin 3 → Nat :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c2_i32 : BitVec 32 := 2#32
  let c0_i32_7 : BitVec 32 := 0#32
  let v24 : BitVec 1 := Scalar.cmpi .eq c2_i32 c0_i32_7
  let c1_i32_8 : BitVec 32 := 1#32
  let v25 : BitVec 32 := Scalar.select v24 c1_i32_8 c2_i32
  let v26 : BitVec 32 := Scalar.remsi v17 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c2_i32_241 : BitVec 32 := 2#32
  let c0_i32_22 : BitVec 32 := 0#32
  let c0_i32_15 : BitVec 32 := 0#32
  let v38 : BitVec 1 := Scalar.cmpi .sgt v17 c0_i32_15
  let v39 : BitVec 32 := Scalar.extui v38
  let c0_i32_16 : BitVec 32 := 0#32
  let v40 : BitVec 1 := Scalar.cmpi .slt v17 c0_i32_16
  let v41 : BitVec 32 := Scalar.extui v40
  let v42 : BitVec 32 := Scalar.subi v39 v41
  let c2_i32_14 : BitVec 32 := 2#32
  let c0_i32_17 : BitVec 32 := 0#32
  let v43 : BitVec 1 := Scalar.cmpi .sgt c2_i32_14 c0_i32_17
  let v44 : BitVec 32 := Scalar.extui v43
  let c0_i32_18 : BitVec 32 := 0#32
  let v45 : BitVec 1 := Scalar.cmpi .slt c2_i32_14 c0_i32_18
  let v46 : BitVec 32 := Scalar.extui v45
  let v47 : BitVec 32 := Scalar.subi v44 v46
  let v48 : BitVec 1 := Scalar.cmpi .ne v42 v47
  let v49 : BitVec 32 := Scalar.remsi v17 c2_i32_14
  let c0_i32_19 : BitVec 32 := 0#32
  let v50 : BitVec 1 := Scalar.cmpi .ne v49 c0_i32_19
  let v51 : BitVec 1 := Scalar.andi v48 v50
  let v37 : BitVec 32 := Scalar.divsi v17 c2_i32_14
  let c1_i32_20 : BitVec 32 := 1#32
  let v52 : BitVec 32 := Scalar.subi v37 c1_i32_20
  let v53 : BitVec 32 := Scalar.select v51 v52 v37
  let v54 : BitVec 32 := Scalar.subi v53 c0_i32_22
  let c1_i32_23 : BitVec 32 := 1#32
  let v56 : BitVec 32 := Scalar.divsi v54 c1_i32_23
  let v57 : BitVec 32 := Scalar.muli v56 c1_i32_23
  let v58 : BitVec 32 := Scalar.addi c0_i32_22 v57
  let c1_i32_25 : BitVec 32 := 1#32
  let arg23 : BitVec 32 := Scf.iv v58 c1_i32_25 k0_t2
  let v382 : BitVec 32 := Scalar.muli c2_i32_241 arg23
  let v383 : BitVec 32 := Scalar.addi v33 v382
  let c1_i32_758 : BitVec 32 := 1#32
  let v1121 : BitVec 32 := Scalar.addi v383 c1_i32_758
  let v1283 : Index := Scalar.indexCast v1121
  let c0_877 : Index := 0#32
  let c0_878 : Index := 0#32
  ![v1283.toNat, 0, 0]
def k0_off18 (i : grid0.Coords) (k0_t2 : Fin (k0_t2_loop i).trips) : Fin 3 → Nat :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c2_i32 : BitVec 32 := 2#32
  let c0_i32_7 : BitVec 32 := 0#32
  let v24 : BitVec 1 := Scalar.cmpi .eq c2_i32 c0_i32_7
  let c1_i32_8 : BitVec 32 := 1#32
  let v25 : BitVec 32 := Scalar.select v24 c1_i32_8 c2_i32
  let v26 : BitVec 32 := Scalar.remsi v17 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c2_i32_241 : BitVec 32 := 2#32
  let c0_i32_22 : BitVec 32 := 0#32
  let c0_i32_15 : BitVec 32 := 0#32
  let v38 : BitVec 1 := Scalar.cmpi .sgt v17 c0_i32_15
  let v39 : BitVec 32 := Scalar.extui v38
  let c0_i32_16 : BitVec 32 := 0#32
  let v40 : BitVec 1 := Scalar.cmpi .slt v17 c0_i32_16
  let v41 : BitVec 32 := Scalar.extui v40
  let v42 : BitVec 32 := Scalar.subi v39 v41
  let c2_i32_14 : BitVec 32 := 2#32
  let c0_i32_17 : BitVec 32 := 0#32
  let v43 : BitVec 1 := Scalar.cmpi .sgt c2_i32_14 c0_i32_17
  let v44 : BitVec 32 := Scalar.extui v43
  let c0_i32_18 : BitVec 32 := 0#32
  let v45 : BitVec 1 := Scalar.cmpi .slt c2_i32_14 c0_i32_18
  let v46 : BitVec 32 := Scalar.extui v45
  let v47 : BitVec 32 := Scalar.subi v44 v46
  let v48 : BitVec 1 := Scalar.cmpi .ne v42 v47
  let v49 : BitVec 32 := Scalar.remsi v17 c2_i32_14
  let c0_i32_19 : BitVec 32 := 0#32
  let v50 : BitVec 1 := Scalar.cmpi .ne v49 c0_i32_19
  let v51 : BitVec 1 := Scalar.andi v48 v50
  let v37 : BitVec 32 := Scalar.divsi v17 c2_i32_14
  let c1_i32_20 : BitVec 32 := 1#32
  let v52 : BitVec 32 := Scalar.subi v37 c1_i32_20
  let v53 : BitVec 32 := Scalar.select v51 v52 v37
  let v54 : BitVec 32 := Scalar.subi v53 c0_i32_22
  let c1_i32_23 : BitVec 32 := 1#32
  let v56 : BitVec 32 := Scalar.divsi v54 c1_i32_23
  let v57 : BitVec 32 := Scalar.muli v56 c1_i32_23
  let v58 : BitVec 32 := Scalar.addi c0_i32_22 v57
  let c1_i32_25 : BitVec 32 := 1#32
  let arg23 : BitVec 32 := Scf.iv v58 c1_i32_25 k0_t2
  let v382 : BitVec 32 := Scalar.muli c2_i32_241 arg23
  let v383 : BitVec 32 := Scalar.addi v33 v382
  let c1_i32_758 : BitVec 32 := 1#32
  let v1121 : BitVec 32 := Scalar.addi v383 c1_i32_758
  let v1462 : Index := Scalar.indexCast v1121
  let c128_1003 : Index := 128#32
  let c0_1004 : Index := 0#32
  ![v1462.toNat, 128, 0]
def k0_off19 (i : grid0.Coords) (k0_t2 : Fin (k0_t2_loop i).trips) : Fin 3 → Nat :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c2_i32 : BitVec 32 := 2#32
  let c0_i32_7 : BitVec 32 := 0#32
  let v24 : BitVec 1 := Scalar.cmpi .eq c2_i32 c0_i32_7
  let c1_i32_8 : BitVec 32 := 1#32
  let v25 : BitVec 32 := Scalar.select v24 c1_i32_8 c2_i32
  let v26 : BitVec 32 := Scalar.remsi v17 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c2_i32_241 : BitVec 32 := 2#32
  let c0_i32_22 : BitVec 32 := 0#32
  let c0_i32_15 : BitVec 32 := 0#32
  let v38 : BitVec 1 := Scalar.cmpi .sgt v17 c0_i32_15
  let v39 : BitVec 32 := Scalar.extui v38
  let c0_i32_16 : BitVec 32 := 0#32
  let v40 : BitVec 1 := Scalar.cmpi .slt v17 c0_i32_16
  let v41 : BitVec 32 := Scalar.extui v40
  let v42 : BitVec 32 := Scalar.subi v39 v41
  let c2_i32_14 : BitVec 32 := 2#32
  let c0_i32_17 : BitVec 32 := 0#32
  let v43 : BitVec 1 := Scalar.cmpi .sgt c2_i32_14 c0_i32_17
  let v44 : BitVec 32 := Scalar.extui v43
  let c0_i32_18 : BitVec 32 := 0#32
  let v45 : BitVec 1 := Scalar.cmpi .slt c2_i32_14 c0_i32_18
  let v46 : BitVec 32 := Scalar.extui v45
  let v47 : BitVec 32 := Scalar.subi v44 v46
  let v48 : BitVec 1 := Scalar.cmpi .ne v42 v47
  let v49 : BitVec 32 := Scalar.remsi v17 c2_i32_14
  let c0_i32_19 : BitVec 32 := 0#32
  let v50 : BitVec 1 := Scalar.cmpi .ne v49 c0_i32_19
  let v51 : BitVec 1 := Scalar.andi v48 v50
  let v37 : BitVec 32 := Scalar.divsi v17 c2_i32_14
  let c1_i32_20 : BitVec 32 := 1#32
  let v52 : BitVec 32 := Scalar.subi v37 c1_i32_20
  let v53 : BitVec 32 := Scalar.select v51 v52 v37
  let v54 : BitVec 32 := Scalar.subi v53 c0_i32_22
  let c1_i32_23 : BitVec 32 := 1#32
  let v56 : BitVec 32 := Scalar.divsi v54 c1_i32_23
  let v57 : BitVec 32 := Scalar.muli v56 c1_i32_23
  let v58 : BitVec 32 := Scalar.addi c0_i32_22 v57
  let c1_i32_25 : BitVec 32 := 1#32
  let arg23 : BitVec 32 := Scf.iv v58 c1_i32_25 k0_t2
  let v382 : BitVec 32 := Scalar.muli c2_i32_241 arg23
  let v383 : BitVec 32 := Scalar.addi v33 v382
  let c1_i32_758 : BitVec 32 := 1#32
  let v1121 : BitVec 32 := Scalar.addi v383 c1_i32_758
  let v1641 : Index := Scalar.indexCast v1121
  let c256_1129 : Index := 256#32
  let c0_1130 : Index := 0#32
  ![v1641.toNat, 256, 0]
def k0_off20 (i : grid0.Coords) (k0_t2 : Fin (k0_t2_loop i).trips) : Fin 3 → Nat :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c2_i32 : BitVec 32 := 2#32
  let c0_i32_7 : BitVec 32 := 0#32
  let v24 : BitVec 1 := Scalar.cmpi .eq c2_i32 c0_i32_7
  let c1_i32_8 : BitVec 32 := 1#32
  let v25 : BitVec 32 := Scalar.select v24 c1_i32_8 c2_i32
  let v26 : BitVec 32 := Scalar.remsi v17 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c2_i32_241 : BitVec 32 := 2#32
  let c0_i32_22 : BitVec 32 := 0#32
  let c0_i32_15 : BitVec 32 := 0#32
  let v38 : BitVec 1 := Scalar.cmpi .sgt v17 c0_i32_15
  let v39 : BitVec 32 := Scalar.extui v38
  let c0_i32_16 : BitVec 32 := 0#32
  let v40 : BitVec 1 := Scalar.cmpi .slt v17 c0_i32_16
  let v41 : BitVec 32 := Scalar.extui v40
  let v42 : BitVec 32 := Scalar.subi v39 v41
  let c2_i32_14 : BitVec 32 := 2#32
  let c0_i32_17 : BitVec 32 := 0#32
  let v43 : BitVec 1 := Scalar.cmpi .sgt c2_i32_14 c0_i32_17
  let v44 : BitVec 32 := Scalar.extui v43
  let c0_i32_18 : BitVec 32 := 0#32
  let v45 : BitVec 1 := Scalar.cmpi .slt c2_i32_14 c0_i32_18
  let v46 : BitVec 32 := Scalar.extui v45
  let v47 : BitVec 32 := Scalar.subi v44 v46
  let v48 : BitVec 1 := Scalar.cmpi .ne v42 v47
  let v49 : BitVec 32 := Scalar.remsi v17 c2_i32_14
  let c0_i32_19 : BitVec 32 := 0#32
  let v50 : BitVec 1 := Scalar.cmpi .ne v49 c0_i32_19
  let v51 : BitVec 1 := Scalar.andi v48 v50
  let v37 : BitVec 32 := Scalar.divsi v17 c2_i32_14
  let c1_i32_20 : BitVec 32 := 1#32
  let v52 : BitVec 32 := Scalar.subi v37 c1_i32_20
  let v53 : BitVec 32 := Scalar.select v51 v52 v37
  let v54 : BitVec 32 := Scalar.subi v53 c0_i32_22
  let c1_i32_23 : BitVec 32 := 1#32
  let v56 : BitVec 32 := Scalar.divsi v54 c1_i32_23
  let v57 : BitVec 32 := Scalar.muli v56 c1_i32_23
  let v58 : BitVec 32 := Scalar.addi c0_i32_22 v57
  let c1_i32_25 : BitVec 32 := 1#32
  let arg23 : BitVec 32 := Scf.iv v58 c1_i32_25 k0_t2
  let v382 : BitVec 32 := Scalar.muli c2_i32_241 arg23
  let v383 : BitVec 32 := Scalar.addi v33 v382
  let c1_i32_758 : BitVec 32 := 1#32
  let v1121 : BitVec 32 := Scalar.addi v383 c1_i32_758
  let v1820 : Index := Scalar.indexCast v1121
  let c384_1255 : Index := 384#32
  let c0_1256 : Index := 0#32
  ![v1820.toNat, 384, 0]
def k0_cond2 (i : grid0.Coords) : BitVec 1 :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c1_i32_26 : BitVec 32 := 1#32
  let v63 : BitVec 32 := Scalar.subi v17 c1_i32_26
  let c0_i32_27 : BitVec 32 := 0#32
  let v64 : BitVec 32 := Scalar.maxsi v63 c0_i32_27
  let c7_i32 : BitVec 32 := 7#32
  let v65 : BitVec 32 := Scalar.minsi v64 c7_i32
  let c0_i32_28 : BitVec 32 := 0#32
  let v66 : BitVec 1 := Scalar.cmpi .ne v65 c0_i32_28
  v66

def k0_cond3 (i : grid0.Coords) : BitVec 1 :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c1_i32_26 : BitVec 32 := 1#32
  let v63 : BitVec 32 := Scalar.subi v17 c1_i32_26
  let c0_i32_27 : BitVec 32 := 0#32
  let v64 : BitVec 32 := Scalar.maxsi v63 c0_i32_27
  let c7_i32 : BitVec 32 := 7#32
  let v65 : BitVec 32 := Scalar.minsi v64 c7_i32
  let c1_i32_241 : BitVec 32 := 1#32
  let v382 : BitVec 32 := Scalar.subi v65 c1_i32_241
  let c0_i32_242 : BitVec 32 := 0#32
  let v383 : BitVec 1 := Scalar.cmpi .ne v382 c0_i32_242
  v383

def k0_cond4 (i : grid0.Coords) : BitVec 1 :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c1_i32_26 : BitVec 32 := 1#32
  let v63 : BitVec 32 := Scalar.subi v17 c1_i32_26
  let c0_i32_27 : BitVec 32 := 0#32
  let v64 : BitVec 32 := Scalar.maxsi v63 c0_i32_27
  let c7_i32 : BitVec 32 := 7#32
  let v65 : BitVec 32 := Scalar.minsi v64 c7_i32
  let c1_i32_241 : BitVec 32 := 1#32
  let v382 : BitVec 32 := Scalar.subi v65 c1_i32_241
  let c1_i32_243 : BitVec 32 := 1#32
  let v385 : BitVec 32 := Scalar.subi v382 c1_i32_243
  let c0_i32_244 : BitVec 32 := 0#32
  let v386 : BitVec 1 := Scalar.cmpi .ne v385 c0_i32_244
  v386

def k0_cond5 (i : grid0.Coords) : BitVec 1 :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c1_i32_26 : BitVec 32 := 1#32
  let v63 : BitVec 32 := Scalar.subi v17 c1_i32_26
  let c0_i32_27 : BitVec 32 := 0#32
  let v64 : BitVec 32 := Scalar.maxsi v63 c0_i32_27
  let c7_i32 : BitVec 32 := 7#32
  let v65 : BitVec 32 := Scalar.minsi v64 c7_i32
  let c1_i32_241 : BitVec 32 := 1#32
  let v382 : BitVec 32 := Scalar.subi v65 c1_i32_241
  let c1_i32_243 : BitVec 32 := 1#32
  let v385 : BitVec 32 := Scalar.subi v382 c1_i32_243
  let c1_i32_245 : BitVec 32 := 1#32
  let v388 : BitVec 32 := Scalar.subi v385 c1_i32_245
  let c0_i32_246 : BitVec 32 := 0#32
  let v389 : BitVec 1 := Scalar.cmpi .ne v388 c0_i32_246
  v389

def k0_cond6 (i : grid0.Coords) : BitVec 1 :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c1_i32_26 : BitVec 32 := 1#32
  let v63 : BitVec 32 := Scalar.subi v17 c1_i32_26
  let c0_i32_27 : BitVec 32 := 0#32
  let v64 : BitVec 32 := Scalar.maxsi v63 c0_i32_27
  let c7_i32 : BitVec 32 := 7#32
  let v65 : BitVec 32 := Scalar.minsi v64 c7_i32
  let c1_i32_241 : BitVec 32 := 1#32
  let v382 : BitVec 32 := Scalar.subi v65 c1_i32_241
  let c1_i32_243 : BitVec 32 := 1#32
  let v385 : BitVec 32 := Scalar.subi v382 c1_i32_243
  let c1_i32_245 : BitVec 32 := 1#32
  let v388 : BitVec 32 := Scalar.subi v385 c1_i32_245
  let c1_i32_247 : BitVec 32 := 1#32
  let v391 : BitVec 32 := Scalar.subi v388 c1_i32_247
  let c0_i32_248 : BitVec 32 := 0#32
  let v392 : BitVec 1 := Scalar.cmpi .ne v391 c0_i32_248
  v392

def k0_cond7 (i : grid0.Coords) : BitVec 1 :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c1_i32_26 : BitVec 32 := 1#32
  let v63 : BitVec 32 := Scalar.subi v17 c1_i32_26
  let c0_i32_27 : BitVec 32 := 0#32
  let v64 : BitVec 32 := Scalar.maxsi v63 c0_i32_27
  let c7_i32 : BitVec 32 := 7#32
  let v65 : BitVec 32 := Scalar.minsi v64 c7_i32
  let c1_i32_241 : BitVec 32 := 1#32
  let v382 : BitVec 32 := Scalar.subi v65 c1_i32_241
  let c1_i32_243 : BitVec 32 := 1#32
  let v385 : BitVec 32 := Scalar.subi v382 c1_i32_243
  let c1_i32_245 : BitVec 32 := 1#32
  let v388 : BitVec 32 := Scalar.subi v385 c1_i32_245
  let c1_i32_247 : BitVec 32 := 1#32
  let v391 : BitVec 32 := Scalar.subi v388 c1_i32_247
  let c1_i32_249 : BitVec 32 := 1#32
  let v394 : BitVec 32 := Scalar.subi v391 c1_i32_249
  let c0_i32_250 : BitVec 32 := 0#32
  let v395 : BitVec 1 := Scalar.cmpi .ne v394 c0_i32_250
  v395

def k0_cond8 (i : grid0.Coords) : BitVec 1 :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c1_i32_26 : BitVec 32 := 1#32
  let v63 : BitVec 32 := Scalar.subi v17 c1_i32_26
  let c0_i32_27 : BitVec 32 := 0#32
  let v64 : BitVec 32 := Scalar.maxsi v63 c0_i32_27
  let c7_i32 : BitVec 32 := 7#32
  let v65 : BitVec 32 := Scalar.minsi v64 c7_i32
  let c1_i32_241 : BitVec 32 := 1#32
  let v382 : BitVec 32 := Scalar.subi v65 c1_i32_241
  let c1_i32_243 : BitVec 32 := 1#32
  let v385 : BitVec 32 := Scalar.subi v382 c1_i32_243
  let c1_i32_245 : BitVec 32 := 1#32
  let v388 : BitVec 32 := Scalar.subi v385 c1_i32_245
  let c1_i32_247 : BitVec 32 := 1#32
  let v391 : BitVec 32 := Scalar.subi v388 c1_i32_247
  let c1_i32_249 : BitVec 32 := 1#32
  let v394 : BitVec 32 := Scalar.subi v391 c1_i32_249
  let c1_i32_251 : BitVec 32 := 1#32
  let v397 : BitVec 32 := Scalar.subi v394 c1_i32_251
  let c0_i32_252 : BitVec 32 := 0#32
  let v398 : BitVec 1 := Scalar.cmpi .ne v397 c0_i32_252
  v398

@[reducible] def k0_t3_loop : Scf.Loop 32 :=
  let c0_i32_254 : BitVec 32 := 0#32
  let c16_i32 : BitVec 32 := 16#32
  let v402 : BitVec 32 := Scalar.addi c0_i32_254 c16_i32
  let c1_i32_255 : BitVec 32 := 1#32
  ⟨c0_i32_254, v402, c1_i32_255⟩
@[reducible] def k0_t4_loop : Scf.Loop 32 :=
  let c0_i32_254 : BitVec 32 := 0#32
  let c16_i32 : BitVec 32 := 16#32
  let v402 : BitVec 32 := Scalar.addi c0_i32_254 c16_i32
  let c1_i32_255 : BitVec 32 := 1#32
  ⟨c0_i32_254, v402, c1_i32_255⟩
@[reducible] def k0_t5_loop : Scf.Loop 32 :=
  let c0_i32_252 : BitVec 32 := 0#32
  let c16_i32 : BitVec 32 := 16#32
  let v399 : BitVec 32 := Scalar.addi c0_i32_252 c16_i32
  let c1_i32_253 : BitVec 32 := 1#32
  ⟨c0_i32_252, v399, c1_i32_253⟩
@[reducible] def k0_t6_loop : Scf.Loop 32 :=
  let c0_i32_250 : BitVec 32 := 0#32
  let c16_i32 : BitVec 32 := 16#32
  let v396 : BitVec 32 := Scalar.addi c0_i32_250 c16_i32
  let c1_i32_251 : BitVec 32 := 1#32
  ⟨c0_i32_250, v396, c1_i32_251⟩
@[reducible] def k0_t7_loop : Scf.Loop 32 :=
  let c0_i32_248 : BitVec 32 := 0#32
  let c16_i32 : BitVec 32 := 16#32
  let v393 : BitVec 32 := Scalar.addi c0_i32_248 c16_i32
  let c1_i32_249 : BitVec 32 := 1#32
  ⟨c0_i32_248, v393, c1_i32_249⟩
@[reducible] def k0_t8_loop : Scf.Loop 32 :=
  let c0_i32_246 : BitVec 32 := 0#32
  let c16_i32 : BitVec 32 := 16#32
  let v390 : BitVec 32 := Scalar.addi c0_i32_246 c16_i32
  let c1_i32_247 : BitVec 32 := 1#32
  ⟨c0_i32_246, v390, c1_i32_247⟩
@[reducible] def k0_t9_loop : Scf.Loop 32 :=
  let c0_i32_244 : BitVec 32 := 0#32
  let c16_i32 : BitVec 32 := 16#32
  let v387 : BitVec 32 := Scalar.addi c0_i32_244 c16_i32
  let c1_i32_245 : BitVec 32 := 1#32
  ⟨c0_i32_244, v387, c1_i32_245⟩
@[reducible] def k0_t10_loop : Scf.Loop 32 :=
  let c0_i32_242 : BitVec 32 := 0#32
  let c16_i32 : BitVec 32 := 16#32
  let v384 : BitVec 32 := Scalar.addi c0_i32_242 c16_i32
  let c1_i32_243 : BitVec 32 := 1#32
  ⟨c0_i32_242, v384, c1_i32_243⟩
@[reducible] def k0_t11_loop (i : grid0.Coords) : Scf.Loop 32 :=
  let c0_i32_30 : BitVec 32 := 0#32
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v72 : BitVec 32 := Scalar.subi v17 c0_i32_30
  let c1_i32_31 : BitVec 32 := 1#32
  let v74 : BitVec 32 := Scalar.divsi v72 c1_i32_31
  let v75 : BitVec 32 := Scalar.muli v74 c1_i32_31
  let v76 : BitVec 32 := Scalar.addi c0_i32_30 v75
  let c1_i32_32 : BitVec 32 := 1#32
  ⟨c0_i32_30, v76, c1_i32_32⟩
def k0_off21 (i : grid0.Coords) (k0_t11 : Fin (k0_t11_loop i).trips) : Fin 3 → Nat :=
  let c0_i32_30 : BitVec 32 := 0#32
  let c1_i32_32 : BitVec 32 := 1#32
  let arg23 : BitVec 32 := Scf.iv c0_i32_30 c1_i32_32 k0_t11
  let v382 : Index := Scalar.indexCast arg23
  let c0_241 : Index := 0#32
  let c0_242 : Index := 0#32
  ![v382.toNat, 0, 0]
@[reducible] def k0_t12_loop (i : grid0.Coords) : Scf.Loop 32 :=
  let c0_i32_30 : BitVec 32 := 0#32
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v72 : BitVec 32 := Scalar.subi v17 c0_i32_30
  let c1_i32_31 : BitVec 32 := 1#32
  let v74 : BitVec 32 := Scalar.divsi v72 c1_i32_31
  let v75 : BitVec 32 := Scalar.muli v74 c1_i32_31
  let v76 : BitVec 32 := Scalar.addi c0_i32_30 v75
  let v73 : BitVec 32 := Scalar.addi c0_i32_30 v72
  let c1_i32_33 : BitVec 32 := 1#32
  ⟨v76, v73, c1_i32_33⟩
def k0_off22 (i : grid0.Coords) (k0_t12 : Fin (k0_t12_loop i).trips) : Fin 3 → Nat :=
  let c0_i32_30 : BitVec 32 := 0#32
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v72 : BitVec 32 := Scalar.subi v17 c0_i32_30
  let c1_i32_31 : BitVec 32 := 1#32
  let v74 : BitVec 32 := Scalar.divsi v72 c1_i32_31
  let v75 : BitVec 32 := Scalar.muli v74 c1_i32_31
  let v76 : BitVec 32 := Scalar.addi c0_i32_30 v75
  let c1_i32_33 : BitVec 32 := 1#32
  let arg23 : BitVec 32 := Scf.iv v76 c1_i32_33 k0_t12
  let v382 : Index := Scalar.indexCast arg23
  let c0_241 : Index := 0#32
  let c0_242 : Index := 0#32
  ![v382.toNat, 0, 0]
def k0_cond9 (i : grid0.Coords) : BitVec 1 :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c1_i32_34 : BitVec 32 := 1#32
  let v77 : BitVec 32 := Scalar.subi v17 c1_i32_34
  let c0_i32_35 : BitVec 32 := 0#32
  let v78 : BitVec 32 := Scalar.maxsi v77 c0_i32_35
  let c7_i32_36 : BitVec 32 := 7#32
  let v79 : BitVec 32 := Scalar.minsi v78 c7_i32_36
  let c0_i32_37 : BitVec 32 := 0#32
  let v80 : BitVec 1 := Scalar.cmpi .ne v79 c0_i32_37
  v80

def k0_cond10 (i : grid0.Coords) : BitVec 1 :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c1_i32_34 : BitVec 32 := 1#32
  let v77 : BitVec 32 := Scalar.subi v17 c1_i32_34
  let c0_i32_35 : BitVec 32 := 0#32
  let v78 : BitVec 32 := Scalar.maxsi v77 c0_i32_35
  let c7_i32_36 : BitVec 32 := 7#32
  let v79 : BitVec 32 := Scalar.minsi v78 c7_i32_36
  let c1_i32_241 : BitVec 32 := 1#32
  let v382 : BitVec 32 := Scalar.subi v79 c1_i32_241
  let c0_i32_242 : BitVec 32 := 0#32
  let v383 : BitVec 1 := Scalar.cmpi .ne v382 c0_i32_242
  v383

def k0_cond11 (i : grid0.Coords) : BitVec 1 :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c1_i32_34 : BitVec 32 := 1#32
  let v77 : BitVec 32 := Scalar.subi v17 c1_i32_34
  let c0_i32_35 : BitVec 32 := 0#32
  let v78 : BitVec 32 := Scalar.maxsi v77 c0_i32_35
  let c7_i32_36 : BitVec 32 := 7#32
  let v79 : BitVec 32 := Scalar.minsi v78 c7_i32_36
  let c1_i32_241 : BitVec 32 := 1#32
  let v382 : BitVec 32 := Scalar.subi v79 c1_i32_241
  let c1_i32_243 : BitVec 32 := 1#32
  let v385 : BitVec 32 := Scalar.subi v382 c1_i32_243
  let c0_i32_244 : BitVec 32 := 0#32
  let v386 : BitVec 1 := Scalar.cmpi .ne v385 c0_i32_244
  v386

def k0_cond12 (i : grid0.Coords) : BitVec 1 :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c1_i32_34 : BitVec 32 := 1#32
  let v77 : BitVec 32 := Scalar.subi v17 c1_i32_34
  let c0_i32_35 : BitVec 32 := 0#32
  let v78 : BitVec 32 := Scalar.maxsi v77 c0_i32_35
  let c7_i32_36 : BitVec 32 := 7#32
  let v79 : BitVec 32 := Scalar.minsi v78 c7_i32_36
  let c1_i32_241 : BitVec 32 := 1#32
  let v382 : BitVec 32 := Scalar.subi v79 c1_i32_241
  let c1_i32_243 : BitVec 32 := 1#32
  let v385 : BitVec 32 := Scalar.subi v382 c1_i32_243
  let c1_i32_245 : BitVec 32 := 1#32
  let v388 : BitVec 32 := Scalar.subi v385 c1_i32_245
  let c0_i32_246 : BitVec 32 := 0#32
  let v389 : BitVec 1 := Scalar.cmpi .ne v388 c0_i32_246
  v389

def k0_cond13 (i : grid0.Coords) : BitVec 1 :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c1_i32_34 : BitVec 32 := 1#32
  let v77 : BitVec 32 := Scalar.subi v17 c1_i32_34
  let c0_i32_35 : BitVec 32 := 0#32
  let v78 : BitVec 32 := Scalar.maxsi v77 c0_i32_35
  let c7_i32_36 : BitVec 32 := 7#32
  let v79 : BitVec 32 := Scalar.minsi v78 c7_i32_36
  let c1_i32_241 : BitVec 32 := 1#32
  let v382 : BitVec 32 := Scalar.subi v79 c1_i32_241
  let c1_i32_243 : BitVec 32 := 1#32
  let v385 : BitVec 32 := Scalar.subi v382 c1_i32_243
  let c1_i32_245 : BitVec 32 := 1#32
  let v388 : BitVec 32 := Scalar.subi v385 c1_i32_245
  let c1_i32_247 : BitVec 32 := 1#32
  let v391 : BitVec 32 := Scalar.subi v388 c1_i32_247
  let c0_i32_248 : BitVec 32 := 0#32
  let v392 : BitVec 1 := Scalar.cmpi .ne v391 c0_i32_248
  v392

def k0_cond14 (i : grid0.Coords) : BitVec 1 :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c1_i32_34 : BitVec 32 := 1#32
  let v77 : BitVec 32 := Scalar.subi v17 c1_i32_34
  let c0_i32_35 : BitVec 32 := 0#32
  let v78 : BitVec 32 := Scalar.maxsi v77 c0_i32_35
  let c7_i32_36 : BitVec 32 := 7#32
  let v79 : BitVec 32 := Scalar.minsi v78 c7_i32_36
  let c1_i32_241 : BitVec 32 := 1#32
  let v382 : BitVec 32 := Scalar.subi v79 c1_i32_241
  let c1_i32_243 : BitVec 32 := 1#32
  let v385 : BitVec 32 := Scalar.subi v382 c1_i32_243
  let c1_i32_245 : BitVec 32 := 1#32
  let v388 : BitVec 32 := Scalar.subi v385 c1_i32_245
  let c1_i32_247 : BitVec 32 := 1#32
  let v391 : BitVec 32 := Scalar.subi v388 c1_i32_247
  let c1_i32_249 : BitVec 32 := 1#32
  let v394 : BitVec 32 := Scalar.subi v391 c1_i32_249
  let c0_i32_250 : BitVec 32 := 0#32
  let v395 : BitVec 1 := Scalar.cmpi .ne v394 c0_i32_250
  v395

def k0_cond15 (i : grid0.Coords) : BitVec 1 :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c1_i32_34 : BitVec 32 := 1#32
  let v77 : BitVec 32 := Scalar.subi v17 c1_i32_34
  let c0_i32_35 : BitVec 32 := 0#32
  let v78 : BitVec 32 := Scalar.maxsi v77 c0_i32_35
  let c7_i32_36 : BitVec 32 := 7#32
  let v79 : BitVec 32 := Scalar.minsi v78 c7_i32_36
  let c1_i32_241 : BitVec 32 := 1#32
  let v382 : BitVec 32 := Scalar.subi v79 c1_i32_241
  let c1_i32_243 : BitVec 32 := 1#32
  let v385 : BitVec 32 := Scalar.subi v382 c1_i32_243
  let c1_i32_245 : BitVec 32 := 1#32
  let v388 : BitVec 32 := Scalar.subi v385 c1_i32_245
  let c1_i32_247 : BitVec 32 := 1#32
  let v391 : BitVec 32 := Scalar.subi v388 c1_i32_247
  let c1_i32_249 : BitVec 32 := 1#32
  let v394 : BitVec 32 := Scalar.subi v391 c1_i32_249
  let c1_i32_251 : BitVec 32 := 1#32
  let v397 : BitVec 32 := Scalar.subi v394 c1_i32_251
  let c0_i32_252 : BitVec 32 := 0#32
  let v398 : BitVec 1 := Scalar.cmpi .ne v397 c0_i32_252
  v398

@[reducible] def k0_t13_loop : Scf.Loop 32 :=
  let c0_i32_254 : BitVec 32 := 0#32
  let c16_i32 : BitVec 32 := 16#32
  let v402 : BitVec 32 := Scalar.addi c0_i32_254 c16_i32
  let c1_i32_255 : BitVec 32 := 1#32
  ⟨c0_i32_254, v402, c1_i32_255⟩
@[reducible] def k0_t14_loop : Scf.Loop 32 :=
  let c0_i32_254 : BitVec 32 := 0#32
  let c16_i32 : BitVec 32 := 16#32
  let v402 : BitVec 32 := Scalar.addi c0_i32_254 c16_i32
  let c1_i32_255 : BitVec 32 := 1#32
  ⟨c0_i32_254, v402, c1_i32_255⟩
@[reducible] def k0_t15_loop : Scf.Loop 32 :=
  let c0_i32_252 : BitVec 32 := 0#32
  let c16_i32 : BitVec 32 := 16#32
  let v399 : BitVec 32 := Scalar.addi c0_i32_252 c16_i32
  let c1_i32_253 : BitVec 32 := 1#32
  ⟨c0_i32_252, v399, c1_i32_253⟩
@[reducible] def k0_t16_loop : Scf.Loop 32 :=
  let c0_i32_250 : BitVec 32 := 0#32
  let c16_i32 : BitVec 32 := 16#32
  let v396 : BitVec 32 := Scalar.addi c0_i32_250 c16_i32
  let c1_i32_251 : BitVec 32 := 1#32
  ⟨c0_i32_250, v396, c1_i32_251⟩
@[reducible] def k0_t17_loop : Scf.Loop 32 :=
  let c0_i32_248 : BitVec 32 := 0#32
  let c16_i32 : BitVec 32 := 16#32
  let v393 : BitVec 32 := Scalar.addi c0_i32_248 c16_i32
  let c1_i32_249 : BitVec 32 := 1#32
  ⟨c0_i32_248, v393, c1_i32_249⟩
@[reducible] def k0_t18_loop : Scf.Loop 32 :=
  let c0_i32_246 : BitVec 32 := 0#32
  let c16_i32 : BitVec 32 := 16#32
  let v390 : BitVec 32 := Scalar.addi c0_i32_246 c16_i32
  let c1_i32_247 : BitVec 32 := 1#32
  ⟨c0_i32_246, v390, c1_i32_247⟩
@[reducible] def k0_t19_loop : Scf.Loop 32 :=
  let c0_i32_244 : BitVec 32 := 0#32
  let c16_i32 : BitVec 32 := 16#32
  let v387 : BitVec 32 := Scalar.addi c0_i32_244 c16_i32
  let c1_i32_245 : BitVec 32 := 1#32
  ⟨c0_i32_244, v387, c1_i32_245⟩
@[reducible] def k0_t20_loop : Scf.Loop 32 :=
  let c0_i32_242 : BitVec 32 := 0#32
  let c16_i32 : BitVec 32 := 16#32
  let v384 : BitVec 32 := Scalar.addi c0_i32_242 c16_i32
  let c1_i32_243 : BitVec 32 := 1#32
  ⟨c0_i32_242, v384, c1_i32_243⟩
@[reducible] def k0_t21_loop (i : grid0.Coords) : Scf.Loop 32 :=
  let c0_i32_242 : BitVec 32 := 0#32
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v383 : BitVec 32 := Scalar.subi v17 c0_i32_242
  let c1_i32_243 : BitVec 32 := 1#32
  let v385 : BitVec 32 := Scalar.divsi v383 c1_i32_243
  let v386 : BitVec 32 := Scalar.muli v385 c1_i32_243
  let v387 : BitVec 32 := Scalar.addi c0_i32_242 v386
  let c1_i32_244 : BitVec 32 := 1#32
  ⟨c0_i32_242, v387, c1_i32_244⟩
def k0_off23 (i : grid0.Coords) (k0_t21 : Fin (k0_t21_loop i).trips) : Fin 3 → Nat :=
  let c0_i32_242 : BitVec 32 := 0#32
  let c1_i32_244 : BitVec 32 := 1#32
  let arg23 : BitVec 32 := Scf.iv c0_i32_242 c1_i32_244 k0_t21
  let v405 : Index := Scalar.indexCast arg23
  let c0_253 : Index := 0#32
  let c0_254 : Index := 0#32
  ![v405.toNat, 0, 0]
@[reducible] def k0_t22_loop (i : grid0.Coords) : Scf.Loop 32 :=
  let c0_i32_242 : BitVec 32 := 0#32
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v383 : BitVec 32 := Scalar.subi v17 c0_i32_242
  let c1_i32_243 : BitVec 32 := 1#32
  let v385 : BitVec 32 := Scalar.divsi v383 c1_i32_243
  let v386 : BitVec 32 := Scalar.muli v385 c1_i32_243
  let v387 : BitVec 32 := Scalar.addi c0_i32_242 v386
  let v384 : BitVec 32 := Scalar.addi c0_i32_242 v383
  let c1_i32_245 : BitVec 32 := 1#32
  ⟨v387, v384, c1_i32_245⟩
def k0_off24 (i : grid0.Coords) (k0_t22 : Fin (k0_t22_loop i).trips) : Fin 3 → Nat :=
  let c0_i32_242 : BitVec 32 := 0#32
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v383 : BitVec 32 := Scalar.subi v17 c0_i32_242
  let c1_i32_243 : BitVec 32 := 1#32
  let v385 : BitVec 32 := Scalar.divsi v383 c1_i32_243
  let v386 : BitVec 32 := Scalar.muli v385 c1_i32_243
  let v387 : BitVec 32 := Scalar.addi c0_i32_242 v386
  let c1_i32_245 : BitVec 32 := 1#32
  let arg23 : BitVec 32 := Scf.iv v387 c1_i32_245 k0_t22
  let v405 : Index := Scalar.indexCast arg23
  let c0_253 : Index := 0#32
  let c0_254 : Index := 0#32
  ![v405.toNat, 0, 0]
@[reducible] def k0_t23_loop : Scf.Loop 32 :=
  let c0_i32_248 : BitVec 32 := 0#32
  let c13_i32 : BitVec 32 := 13#32
  let v396 : BitVec 32 := Scalar.addi c0_i32_248 c13_i32
  let c1_i32_249 : BitVec 32 := 1#32
  ⟨c0_i32_248, v396, c1_i32_249⟩
@[reducible] def k0_t24_loop (i : grid0.Coords) : Scf.Loop 32 :=
  let c0_i32_255 : BitVec 32 := 0#32
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v409 : BitVec 32 := Scalar.subi v17 c0_i32_255
  let c1_i32_256 : BitVec 32 := 1#32
  let v411 : BitVec 32 := Scalar.divsi v409 c1_i32_256
  let v412 : BitVec 32 := Scalar.muli v411 c1_i32_256
  let v413 : BitVec 32 := Scalar.addi c0_i32_255 v412
  let c1_i32_257 : BitVec 32 := 1#32
  ⟨c0_i32_255, v413, c1_i32_257⟩
def k0_off25 (i : grid0.Coords) (k0_t24 : Fin (k0_t24_loop i).trips) : Fin 3 → Nat :=
  let c0_i32_255 : BitVec 32 := 0#32
  let c1_i32_257 : BitVec 32 := 1#32
  let arg26 : BitVec 32 := Scf.iv c0_i32_255 c1_i32_257 k0_t24
  let v421 : Index := Scalar.indexCast arg26
  let c0_260 : Index := 0#32
  let c0_261 : Index := 0#32
  ![v421.toNat, 0, 0]
@[reducible] def k0_t25_loop (i : grid0.Coords) : Scf.Loop 32 :=
  let c0_i32_255 : BitVec 32 := 0#32
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v409 : BitVec 32 := Scalar.subi v17 c0_i32_255
  let c1_i32_256 : BitVec 32 := 1#32
  let v411 : BitVec 32 := Scalar.divsi v409 c1_i32_256
  let v412 : BitVec 32 := Scalar.muli v411 c1_i32_256
  let v413 : BitVec 32 := Scalar.addi c0_i32_255 v412
  let v410 : BitVec 32 := Scalar.addi c0_i32_255 v409
  let c1_i32_258 : BitVec 32 := 1#32
  ⟨v413, v410, c1_i32_258⟩
def k0_off26 (i : grid0.Coords) (k0_t25 : Fin (k0_t25_loop i).trips) : Fin 3 → Nat :=
  let c0_i32_255 : BitVec 32 := 0#32
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v409 : BitVec 32 := Scalar.subi v17 c0_i32_255
  let c1_i32_256 : BitVec 32 := 1#32
  let v411 : BitVec 32 := Scalar.divsi v409 c1_i32_256
  let v412 : BitVec 32 := Scalar.muli v411 c1_i32_256
  let v413 : BitVec 32 := Scalar.addi c0_i32_255 v412
  let c1_i32_258 : BitVec 32 := 1#32
  let arg26 : BitVec 32 := Scf.iv v413 c1_i32_258 k0_t25
  let v421 : Index := Scalar.indexCast arg26
  let c0_260 : Index := 0#32
  let c0_261 : Index := 0#32
  ![v421.toNat, 0, 0]
@[reducible] def k0_t26_loop (i : grid0.Coords) : Scf.Loop 32 :=
  let c0_i32_56 : BitVec 32 := 0#32
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c0_i32_49 : BitVec 32 := 0#32
  let v111 : BitVec 1 := Scalar.cmpi .sgt v17 c0_i32_49
  let v112 : BitVec 32 := Scalar.extui v111
  let c0_i32_50 : BitVec 32 := 0#32
  let v113 : BitVec 1 := Scalar.cmpi .slt v17 c0_i32_50
  let v114 : BitVec 32 := Scalar.extui v113
  let v115 : BitVec 32 := Scalar.subi v112 v114
  let c2_i32_48 : BitVec 32 := 2#32
  let c0_i32_51 : BitVec 32 := 0#32
  let v116 : BitVec 1 := Scalar.cmpi .sgt c2_i32_48 c0_i32_51
  let v117 : BitVec 32 := Scalar.extui v116
  let c0_i32_52 : BitVec 32 := 0#32
  let v118 : BitVec 1 := Scalar.cmpi .slt c2_i32_48 c0_i32_52
  let v119 : BitVec 32 := Scalar.extui v118
  let v120 : BitVec 32 := Scalar.subi v117 v119
  let v121 : BitVec 1 := Scalar.cmpi .ne v115 v120
  let v122 : BitVec 32 := Scalar.remsi v17 c2_i32_48
  let c0_i32_53 : BitVec 32 := 0#32
  let v123 : BitVec 1 := Scalar.cmpi .ne v122 c0_i32_53
  let v124 : BitVec 1 := Scalar.andi v121 v123
  let v110 : BitVec 32 := Scalar.divsi v17 c2_i32_48
  let c1_i32_54 : BitVec 32 := 1#32
  let v125 : BitVec 32 := Scalar.subi v110 c1_i32_54
  let v126 : BitVec 32 := Scalar.select v124 v125 v110
  let v127 : BitVec 32 := Scalar.subi v126 c0_i32_56
  let c1_i32_57 : BitVec 32 := 1#32
  let v129 : BitVec 32 := Scalar.divsi v127 c1_i32_57
  let v130 : BitVec 32 := Scalar.muli v129 c1_i32_57
  let v131 : BitVec 32 := Scalar.addi c0_i32_56 v130
  let c1_i32_58 : BitVec 32 := 1#32
  ⟨c0_i32_56, v131, c1_i32_58⟩
def k0_off27 (i : grid0.Coords) (k0_t26 : Fin (k0_t26_loop i).trips) : Fin 3 → Nat :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c2_i32 : BitVec 32 := 2#32
  let c0_i32_7 : BitVec 32 := 0#32
  let v24 : BitVec 1 := Scalar.cmpi .eq c2_i32 c0_i32_7
  let c1_i32_8 : BitVec 32 := 1#32
  let v25 : BitVec 32 := Scalar.select v24 c1_i32_8 c2_i32
  let v26 : BitVec 32 := Scalar.remsi v17 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c2_i32_241 : BitVec 32 := 2#32
  let c0_i32_56 : BitVec 32 := 0#32
  let c1_i32_58 : BitVec 32 := 1#32
  let arg23 : BitVec 32 := Scf.iv c0_i32_56 c1_i32_58 k0_t26
  let v382 : BitVec 32 := Scalar.muli c2_i32_241 arg23
  let v383 : BitVec 32 := Scalar.addi v33 v382
  let v384 : Index := Scalar.indexCast v383
  let c0_242 : Index := 0#32
  let c0_243 : Index := 0#32
  ![v384.toNat, 0, 0]
def k0_off28 (i : grid0.Coords) (k0_t26 : Fin (k0_t26_loop i).trips) (c0_i32_248 : BitVec 32) : Fin 3 → Nat :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c2_i32 : BitVec 32 := 2#32
  let c0_i32_7 : BitVec 32 := 0#32
  let v24 : BitVec 1 := Scalar.cmpi .eq c2_i32 c0_i32_7
  let c1_i32_8 : BitVec 32 := 1#32
  let v25 : BitVec 32 := Scalar.select v24 c1_i32_8 c2_i32
  let v26 : BitVec 32 := Scalar.remsi v17 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c2_i32_241 : BitVec 32 := 2#32
  let c0_i32_56 : BitVec 32 := 0#32
  let c1_i32_58 : BitVec 32 := 1#32
  let arg23 : BitVec 32 := Scf.iv c0_i32_56 c1_i32_58 k0_t26
  let v382 : BitVec 32 := Scalar.muli c2_i32_241 arg23
  let v383 : BitVec 32 := Scalar.addi v33 v382
  let c4_i32_247 : BitVec 32 := 4#32
  let v407 : BitVec 32 := Scalar.muli v383 c4_i32_247
  let v408 : BitVec 32 := Scalar.addi v407 c0_i32_248
  let v409 : Index := Scalar.indexCast v408
  let c0_249 : Index := 0#32
  let c0_250 : Index := 0#32
  ![v409.toNat, 0, 0]
def k0_off29 (i : grid0.Coords) (k0_t26 : Fin (k0_t26_loop i).trips) : Fin 3 → Nat :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c2_i32 : BitVec 32 := 2#32
  let c0_i32_7 : BitVec 32 := 0#32
  let v24 : BitVec 1 := Scalar.cmpi .eq c2_i32 c0_i32_7
  let c1_i32_8 : BitVec 32 := 1#32
  let v25 : BitVec 32 := Scalar.select v24 c1_i32_8 c2_i32
  let v26 : BitVec 32 := Scalar.remsi v17 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c2_i32_262 : BitVec 32 := 2#32
  let c0_i32_56 : BitVec 32 := 0#32
  let c1_i32_58 : BitVec 32 := 1#32
  let arg23 : BitVec 32 := Scf.iv c0_i32_56 c1_i32_58 k0_t26
  let v437 : BitVec 32 := Scalar.muli c2_i32_262 arg23
  let v438 : BitVec 32 := Scalar.addi v33 v437
  let c1_i32_263 : BitVec 32 := 1#32
  let v439 : BitVec 32 := Scalar.addi v438 c1_i32_263
  let v440 : Index := Scalar.indexCast v439
  let c0_264 : Index := 0#32
  let c0_265 : Index := 0#32
  ![v440.toNat, 0, 0]
def k0_off30 (i : grid0.Coords) (k0_t26 : Fin (k0_t26_loop i).trips) (c0_i32_270 : BitVec 32) : Fin 3 → Nat :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c2_i32 : BitVec 32 := 2#32
  let c0_i32_7 : BitVec 32 := 0#32
  let v24 : BitVec 1 := Scalar.cmpi .eq c2_i32 c0_i32_7
  let c1_i32_8 : BitVec 32 := 1#32
  let v25 : BitVec 32 := Scalar.select v24 c1_i32_8 c2_i32
  let v26 : BitVec 32 := Scalar.remsi v17 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c2_i32_262 : BitVec 32 := 2#32
  let c0_i32_56 : BitVec 32 := 0#32
  let c1_i32_58 : BitVec 32 := 1#32
  let arg23 : BitVec 32 := Scf.iv c0_i32_56 c1_i32_58 k0_t26
  let v437 : BitVec 32 := Scalar.muli c2_i32_262 arg23
  let v438 : BitVec 32 := Scalar.addi v33 v437
  let c1_i32_263 : BitVec 32 := 1#32
  let v439 : BitVec 32 := Scalar.addi v438 c1_i32_263
  let c4_i32_269 : BitVec 32 := 4#32
  let v463 : BitVec 32 := Scalar.muli v439 c4_i32_269
  let v464 : BitVec 32 := Scalar.addi v463 c0_i32_270
  let v465 : Index := Scalar.indexCast v464
  let c0_271 : Index := 0#32
  let c0_272 : Index := 0#32
  ![v465.toNat, 0, 0]
@[reducible] def k0_t27_loop (i : grid0.Coords) : Scf.Loop 32 :=
  let c0_i32_56 : BitVec 32 := 0#32
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c0_i32_49 : BitVec 32 := 0#32
  let v111 : BitVec 1 := Scalar.cmpi .sgt v17 c0_i32_49
  let v112 : BitVec 32 := Scalar.extui v111
  let c0_i32_50 : BitVec 32 := 0#32
  let v113 : BitVec 1 := Scalar.cmpi .slt v17 c0_i32_50
  let v114 : BitVec 32 := Scalar.extui v113
  let v115 : BitVec 32 := Scalar.subi v112 v114
  let c2_i32_48 : BitVec 32 := 2#32
  let c0_i32_51 : BitVec 32 := 0#32
  let v116 : BitVec 1 := Scalar.cmpi .sgt c2_i32_48 c0_i32_51
  let v117 : BitVec 32 := Scalar.extui v116
  let c0_i32_52 : BitVec 32 := 0#32
  let v118 : BitVec 1 := Scalar.cmpi .slt c2_i32_48 c0_i32_52
  let v119 : BitVec 32 := Scalar.extui v118
  let v120 : BitVec 32 := Scalar.subi v117 v119
  let v121 : BitVec 1 := Scalar.cmpi .ne v115 v120
  let v122 : BitVec 32 := Scalar.remsi v17 c2_i32_48
  let c0_i32_53 : BitVec 32 := 0#32
  let v123 : BitVec 1 := Scalar.cmpi .ne v122 c0_i32_53
  let v124 : BitVec 1 := Scalar.andi v121 v123
  let v110 : BitVec 32 := Scalar.divsi v17 c2_i32_48
  let c1_i32_54 : BitVec 32 := 1#32
  let v125 : BitVec 32 := Scalar.subi v110 c1_i32_54
  let v126 : BitVec 32 := Scalar.select v124 v125 v110
  let v127 : BitVec 32 := Scalar.subi v126 c0_i32_56
  let c1_i32_57 : BitVec 32 := 1#32
  let v129 : BitVec 32 := Scalar.divsi v127 c1_i32_57
  let v130 : BitVec 32 := Scalar.muli v129 c1_i32_57
  let v131 : BitVec 32 := Scalar.addi c0_i32_56 v130
  let v128 : BitVec 32 := Scalar.addi c0_i32_56 v127
  let c1_i32_59 : BitVec 32 := 1#32
  ⟨v131, v128, c1_i32_59⟩
def k0_off31 (i : grid0.Coords) (k0_t27 : Fin (k0_t27_loop i).trips) : Fin 3 → Nat :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c2_i32 : BitVec 32 := 2#32
  let c0_i32_7 : BitVec 32 := 0#32
  let v24 : BitVec 1 := Scalar.cmpi .eq c2_i32 c0_i32_7
  let c1_i32_8 : BitVec 32 := 1#32
  let v25 : BitVec 32 := Scalar.select v24 c1_i32_8 c2_i32
  let v26 : BitVec 32 := Scalar.remsi v17 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c2_i32_241 : BitVec 32 := 2#32
  let c0_i32_56 : BitVec 32 := 0#32
  let c0_i32_49 : BitVec 32 := 0#32
  let v111 : BitVec 1 := Scalar.cmpi .sgt v17 c0_i32_49
  let v112 : BitVec 32 := Scalar.extui v111
  let c0_i32_50 : BitVec 32 := 0#32
  let v113 : BitVec 1 := Scalar.cmpi .slt v17 c0_i32_50
  let v114 : BitVec 32 := Scalar.extui v113
  let v115 : BitVec 32 := Scalar.subi v112 v114
  let c2_i32_48 : BitVec 32 := 2#32
  let c0_i32_51 : BitVec 32 := 0#32
  let v116 : BitVec 1 := Scalar.cmpi .sgt c2_i32_48 c0_i32_51
  let v117 : BitVec 32 := Scalar.extui v116
  let c0_i32_52 : BitVec 32 := 0#32
  let v118 : BitVec 1 := Scalar.cmpi .slt c2_i32_48 c0_i32_52
  let v119 : BitVec 32 := Scalar.extui v118
  let v120 : BitVec 32 := Scalar.subi v117 v119
  let v121 : BitVec 1 := Scalar.cmpi .ne v115 v120
  let v122 : BitVec 32 := Scalar.remsi v17 c2_i32_48
  let c0_i32_53 : BitVec 32 := 0#32
  let v123 : BitVec 1 := Scalar.cmpi .ne v122 c0_i32_53
  let v124 : BitVec 1 := Scalar.andi v121 v123
  let v110 : BitVec 32 := Scalar.divsi v17 c2_i32_48
  let c1_i32_54 : BitVec 32 := 1#32
  let v125 : BitVec 32 := Scalar.subi v110 c1_i32_54
  let v126 : BitVec 32 := Scalar.select v124 v125 v110
  let v127 : BitVec 32 := Scalar.subi v126 c0_i32_56
  let c1_i32_57 : BitVec 32 := 1#32
  let v129 : BitVec 32 := Scalar.divsi v127 c1_i32_57
  let v130 : BitVec 32 := Scalar.muli v129 c1_i32_57
  let v131 : BitVec 32 := Scalar.addi c0_i32_56 v130
  let c1_i32_59 : BitVec 32 := 1#32
  let arg23 : BitVec 32 := Scf.iv v131 c1_i32_59 k0_t27
  let v382 : BitVec 32 := Scalar.muli c2_i32_241 arg23
  let v383 : BitVec 32 := Scalar.addi v33 v382
  let v384 : Index := Scalar.indexCast v383
  let c0_242 : Index := 0#32
  let c0_243 : Index := 0#32
  ![v384.toNat, 0, 0]
def k0_off32 (i : grid0.Coords) (k0_t27 : Fin (k0_t27_loop i).trips) (c0_i32_248 : BitVec 32) : Fin 3 → Nat :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c2_i32 : BitVec 32 := 2#32
  let c0_i32_7 : BitVec 32 := 0#32
  let v24 : BitVec 1 := Scalar.cmpi .eq c2_i32 c0_i32_7
  let c1_i32_8 : BitVec 32 := 1#32
  let v25 : BitVec 32 := Scalar.select v24 c1_i32_8 c2_i32
  let v26 : BitVec 32 := Scalar.remsi v17 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c2_i32_241 : BitVec 32 := 2#32
  let c0_i32_56 : BitVec 32 := 0#32
  let c0_i32_49 : BitVec 32 := 0#32
  let v111 : BitVec 1 := Scalar.cmpi .sgt v17 c0_i32_49
  let v112 : BitVec 32 := Scalar.extui v111
  let c0_i32_50 : BitVec 32 := 0#32
  let v113 : BitVec 1 := Scalar.cmpi .slt v17 c0_i32_50
  let v114 : BitVec 32 := Scalar.extui v113
  let v115 : BitVec 32 := Scalar.subi v112 v114
  let c2_i32_48 : BitVec 32 := 2#32
  let c0_i32_51 : BitVec 32 := 0#32
  let v116 : BitVec 1 := Scalar.cmpi .sgt c2_i32_48 c0_i32_51
  let v117 : BitVec 32 := Scalar.extui v116
  let c0_i32_52 : BitVec 32 := 0#32
  let v118 : BitVec 1 := Scalar.cmpi .slt c2_i32_48 c0_i32_52
  let v119 : BitVec 32 := Scalar.extui v118
  let v120 : BitVec 32 := Scalar.subi v117 v119
  let v121 : BitVec 1 := Scalar.cmpi .ne v115 v120
  let v122 : BitVec 32 := Scalar.remsi v17 c2_i32_48
  let c0_i32_53 : BitVec 32 := 0#32
  let v123 : BitVec 1 := Scalar.cmpi .ne v122 c0_i32_53
  let v124 : BitVec 1 := Scalar.andi v121 v123
  let v110 : BitVec 32 := Scalar.divsi v17 c2_i32_48
  let c1_i32_54 : BitVec 32 := 1#32
  let v125 : BitVec 32 := Scalar.subi v110 c1_i32_54
  let v126 : BitVec 32 := Scalar.select v124 v125 v110
  let v127 : BitVec 32 := Scalar.subi v126 c0_i32_56
  let c1_i32_57 : BitVec 32 := 1#32
  let v129 : BitVec 32 := Scalar.divsi v127 c1_i32_57
  let v130 : BitVec 32 := Scalar.muli v129 c1_i32_57
  let v131 : BitVec 32 := Scalar.addi c0_i32_56 v130
  let c1_i32_59 : BitVec 32 := 1#32
  let arg23 : BitVec 32 := Scf.iv v131 c1_i32_59 k0_t27
  let v382 : BitVec 32 := Scalar.muli c2_i32_241 arg23
  let v383 : BitVec 32 := Scalar.addi v33 v382
  let c4_i32_247 : BitVec 32 := 4#32
  let v407 : BitVec 32 := Scalar.muli v383 c4_i32_247
  let v408 : BitVec 32 := Scalar.addi v407 c0_i32_248
  let v409 : Index := Scalar.indexCast v408
  let c0_249 : Index := 0#32
  let c0_250 : Index := 0#32
  ![v409.toNat, 0, 0]
def k0_off33 (i : grid0.Coords) (k0_t27 : Fin (k0_t27_loop i).trips) : Fin 3 → Nat :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c2_i32 : BitVec 32 := 2#32
  let c0_i32_7 : BitVec 32 := 0#32
  let v24 : BitVec 1 := Scalar.cmpi .eq c2_i32 c0_i32_7
  let c1_i32_8 : BitVec 32 := 1#32
  let v25 : BitVec 32 := Scalar.select v24 c1_i32_8 c2_i32
  let v26 : BitVec 32 := Scalar.remsi v17 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c2_i32_262 : BitVec 32 := 2#32
  let c0_i32_56 : BitVec 32 := 0#32
  let c0_i32_49 : BitVec 32 := 0#32
  let v111 : BitVec 1 := Scalar.cmpi .sgt v17 c0_i32_49
  let v112 : BitVec 32 := Scalar.extui v111
  let c0_i32_50 : BitVec 32 := 0#32
  let v113 : BitVec 1 := Scalar.cmpi .slt v17 c0_i32_50
  let v114 : BitVec 32 := Scalar.extui v113
  let v115 : BitVec 32 := Scalar.subi v112 v114
  let c2_i32_48 : BitVec 32 := 2#32
  let c0_i32_51 : BitVec 32 := 0#32
  let v116 : BitVec 1 := Scalar.cmpi .sgt c2_i32_48 c0_i32_51
  let v117 : BitVec 32 := Scalar.extui v116
  let c0_i32_52 : BitVec 32 := 0#32
  let v118 : BitVec 1 := Scalar.cmpi .slt c2_i32_48 c0_i32_52
  let v119 : BitVec 32 := Scalar.extui v118
  let v120 : BitVec 32 := Scalar.subi v117 v119
  let v121 : BitVec 1 := Scalar.cmpi .ne v115 v120
  let v122 : BitVec 32 := Scalar.remsi v17 c2_i32_48
  let c0_i32_53 : BitVec 32 := 0#32
  let v123 : BitVec 1 := Scalar.cmpi .ne v122 c0_i32_53
  let v124 : BitVec 1 := Scalar.andi v121 v123
  let v110 : BitVec 32 := Scalar.divsi v17 c2_i32_48
  let c1_i32_54 : BitVec 32 := 1#32
  let v125 : BitVec 32 := Scalar.subi v110 c1_i32_54
  let v126 : BitVec 32 := Scalar.select v124 v125 v110
  let v127 : BitVec 32 := Scalar.subi v126 c0_i32_56
  let c1_i32_57 : BitVec 32 := 1#32
  let v129 : BitVec 32 := Scalar.divsi v127 c1_i32_57
  let v130 : BitVec 32 := Scalar.muli v129 c1_i32_57
  let v131 : BitVec 32 := Scalar.addi c0_i32_56 v130
  let c1_i32_59 : BitVec 32 := 1#32
  let arg23 : BitVec 32 := Scf.iv v131 c1_i32_59 k0_t27
  let v437 : BitVec 32 := Scalar.muli c2_i32_262 arg23
  let v438 : BitVec 32 := Scalar.addi v33 v437
  let c1_i32_263 : BitVec 32 := 1#32
  let v439 : BitVec 32 := Scalar.addi v438 c1_i32_263
  let v440 : Index := Scalar.indexCast v439
  let c0_264 : Index := 0#32
  let c0_265 : Index := 0#32
  ![v440.toNat, 0, 0]
def k0_off34 (i : grid0.Coords) (k0_t27 : Fin (k0_t27_loop i).trips) (c0_i32_270 : BitVec 32) : Fin 3 → Nat :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c2_i32 : BitVec 32 := 2#32
  let c0_i32_7 : BitVec 32 := 0#32
  let v24 : BitVec 1 := Scalar.cmpi .eq c2_i32 c0_i32_7
  let c1_i32_8 : BitVec 32 := 1#32
  let v25 : BitVec 32 := Scalar.select v24 c1_i32_8 c2_i32
  let v26 : BitVec 32 := Scalar.remsi v17 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c2_i32_262 : BitVec 32 := 2#32
  let c0_i32_56 : BitVec 32 := 0#32
  let c0_i32_49 : BitVec 32 := 0#32
  let v111 : BitVec 1 := Scalar.cmpi .sgt v17 c0_i32_49
  let v112 : BitVec 32 := Scalar.extui v111
  let c0_i32_50 : BitVec 32 := 0#32
  let v113 : BitVec 1 := Scalar.cmpi .slt v17 c0_i32_50
  let v114 : BitVec 32 := Scalar.extui v113
  let v115 : BitVec 32 := Scalar.subi v112 v114
  let c2_i32_48 : BitVec 32 := 2#32
  let c0_i32_51 : BitVec 32 := 0#32
  let v116 : BitVec 1 := Scalar.cmpi .sgt c2_i32_48 c0_i32_51
  let v117 : BitVec 32 := Scalar.extui v116
  let c0_i32_52 : BitVec 32 := 0#32
  let v118 : BitVec 1 := Scalar.cmpi .slt c2_i32_48 c0_i32_52
  let v119 : BitVec 32 := Scalar.extui v118
  let v120 : BitVec 32 := Scalar.subi v117 v119
  let v121 : BitVec 1 := Scalar.cmpi .ne v115 v120
  let v122 : BitVec 32 := Scalar.remsi v17 c2_i32_48
  let c0_i32_53 : BitVec 32 := 0#32
  let v123 : BitVec 1 := Scalar.cmpi .ne v122 c0_i32_53
  let v124 : BitVec 1 := Scalar.andi v121 v123
  let v110 : BitVec 32 := Scalar.divsi v17 c2_i32_48
  let c1_i32_54 : BitVec 32 := 1#32
  let v125 : BitVec 32 := Scalar.subi v110 c1_i32_54
  let v126 : BitVec 32 := Scalar.select v124 v125 v110
  let v127 : BitVec 32 := Scalar.subi v126 c0_i32_56
  let c1_i32_57 : BitVec 32 := 1#32
  let v129 : BitVec 32 := Scalar.divsi v127 c1_i32_57
  let v130 : BitVec 32 := Scalar.muli v129 c1_i32_57
  let v131 : BitVec 32 := Scalar.addi c0_i32_56 v130
  let c1_i32_59 : BitVec 32 := 1#32
  let arg23 : BitVec 32 := Scf.iv v131 c1_i32_59 k0_t27
  let v437 : BitVec 32 := Scalar.muli c2_i32_262 arg23
  let v438 : BitVec 32 := Scalar.addi v33 v437
  let c1_i32_263 : BitVec 32 := 1#32
  let v439 : BitVec 32 := Scalar.addi v438 c1_i32_263
  let c4_i32_269 : BitVec 32 := 4#32
  let v463 : BitVec 32 := Scalar.muli v439 c4_i32_269
  let v464 : BitVec 32 := Scalar.addi v463 c0_i32_270
  let v465 : Index := Scalar.indexCast v464
  let c0_271 : Index := 0#32
  let c0_272 : Index := 0#32
  ![v465.toNat, 0, 0]
def k0_cond18 (i : grid0.Coords) : BitVec 1 :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c1_i32_75 : BitVec 32 := 1#32
  let v152 : BitVec 1 := Scalar.cmpi .eq v17 c1_i32_75
  let v153 : BitVec 32 := Scalar.extui v152
  let c0_i32_76 : BitVec 32 := 0#32
  let v154 : BitVec 1 := Scalar.cmpi .ne v153 c0_i32_76
  v154

def k0_mult11 (i : grid0.Coords) : BitVec 32 :=
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_258 : BitVec 32 := 4#32
  let v410 : BitVec 32 := Scalar.muli v151 c4_i32_258
  let v411 : BitVec 32 := Scalar.addi v150 v410
  let c0_i32_259 : BitVec 32 := 0#32
  let v412 : BitVec 32 := Scalar.maxsi v411 c0_i32_259
  let c128_i32_260 : BitVec 32 := 128#32
  let v413 : BitVec 32 := Scalar.muli v412 c128_i32_260
  v413
def k0_off35 (i : grid0.Coords) : Fin 3 → Nat :=
  let c0_261 : Index := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_258 : BitVec 32 := 4#32
  let v410 : BitVec 32 := Scalar.muli v151 c4_i32_258
  let v411 : BitVec 32 := Scalar.addi v150 v410
  let c0_i32_259 : BitVec 32 := 0#32
  let v412 : BitVec 32 := Scalar.maxsi v411 c0_i32_259
  let c128_i32_260 : BitVec 32 := 128#32
  let v413 : BitVec 32 := Scalar.muli v412 c128_i32_260
  let v414 : BitVec 32 := v413
  let v415 : Index := Scalar.indexCast v414
  let c0_262 : Index := 0#32
  ![0, v415.toNat, 0]
def k0_off36 (i : grid0.Coords) (c0_i32_245 : BitVec 32) : Fin 3 → Nat :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c1_i32_74 : BitVec 32 := 1#32
  let v151 : BitVec 32 := Scalar.subi v17 c1_i32_74
  let c0_i32_243 : BitVec 32 := 0#32
  let v385 : BitVec 1 := Scalar.cmpi .eq v151 c0_i32_243
  let c1_i32_244 : BitVec 32 := 1#32
  let v386 : BitVec 1 := Scalar.cmpi .sgt v17 c1_i32_244
  let v387 : BitVec 1 := Scalar.andi v385 v386
  let c1_i32_72 : BitVec 32 := 1#32
  let v148 : BitVec 32 := Scalar.addi arg1 c1_i32_72
  let c4_i32_73 : BitVec 32 := 4#32
  let v149 : BitVec 32 := Scalar.muli c4_i32_73 v17
  let v150 : BitVec 32 := Scalar.subi v148 v149
  let c4_i32_241 : BitVec 32 := 4#32
  let v382 : BitVec 32 := Scalar.muli v151 c4_i32_241
  let v383 : BitVec 32 := Scalar.addi v150 v382
  let c0_i32_242 : BitVec 32 := 0#32
  let v384 : BitVec 32 := Scalar.maxsi v383 c0_i32_242
  let v388 : BitVec 32 := Scalar.addi v384 c0_i32_245
  let c4_i32_246 : BitVec 32 := 4#32
  let v389 : BitVec 32 := Scalar.addi v150 c4_i32_246
  let v390 : BitVec 1 := Scalar.cmpi .sge v388 v389
  let v391 : BitVec 1 := Scalar.andi v387 v390
  let c32_i32 : BitVec 32 := 32#32
  let v392 : BitVec 32 := Scalar.select v391 c32_i32 v388
  let v420 : Index := Scalar.indexCast v392
  let c0_264 : Index := 0#32
  let c0_265 : Index := 0#32
  ![v420.toNat, 0, 0]
def k0_off37 (i : grid0.Coords) (c0_i32_266 : BitVec 32) : Fin 4 → Nat :=
  let c2_i32_268 : BitVec 32 := 2#32
  let c0_i32_267 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_241 : BitVec 32 := 4#32
  let v382 : BitVec 32 := Scalar.muli v151 c4_i32_241
  let v383 : BitVec 32 := Scalar.addi v150 v382
  let c0_i32_242 : BitVec 32 := 0#32
  let v384 : BitVec 32 := Scalar.maxsi v383 c0_i32_242
  let v424 : BitVec 32 := Scalar.addi v384 c0_i32_266
  let v425 : BitVec 32 := Scalar.subi arg1 v424
  let v426 : BitVec 32 := Scalar.maxsi c0_i32_267 v425
  let v427 : BitVec 32 := Scalar.minsi c2_i32_268 v426
  let v428 : Index := Scalar.indexCast v427
  let c0_269 : Index := 0#32
  let c0_270 : Index := 0#32
  let c0_271 : Index := 0#32
  ![v428.toNat, 0, 0, 0]
def k0_off38 (i : grid0.Coords) (c0_i32_245 : BitVec 32) : Fin 3 → Nat :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c1_i32_74 : BitVec 32 := 1#32
  let v151 : BitVec 32 := Scalar.subi v17 c1_i32_74
  let c0_i32_243 : BitVec 32 := 0#32
  let v385 : BitVec 1 := Scalar.cmpi .eq v151 c0_i32_243
  let c1_i32_244 : BitVec 32 := 1#32
  let v386 : BitVec 1 := Scalar.cmpi .sgt v17 c1_i32_244
  let v387 : BitVec 1 := Scalar.andi v385 v386
  let c1_i32_72 : BitVec 32 := 1#32
  let v148 : BitVec 32 := Scalar.addi arg1 c1_i32_72
  let c4_i32_73 : BitVec 32 := 4#32
  let v149 : BitVec 32 := Scalar.muli c4_i32_73 v17
  let v150 : BitVec 32 := Scalar.subi v148 v149
  let c4_i32_241 : BitVec 32 := 4#32
  let v382 : BitVec 32 := Scalar.muli v151 c4_i32_241
  let v383 : BitVec 32 := Scalar.addi v150 v382
  let c0_i32_242 : BitVec 32 := 0#32
  let v384 : BitVec 32 := Scalar.maxsi v383 c0_i32_242
  let v388 : BitVec 32 := Scalar.addi v384 c0_i32_245
  let c4_i32_246 : BitVec 32 := 4#32
  let v389 : BitVec 32 := Scalar.addi v150 c4_i32_246
  let v390 : BitVec 1 := Scalar.cmpi .sge v388 v389
  let v391 : BitVec 1 := Scalar.andi v387 v390
  let c32_i32 : BitVec 32 := 32#32
  let v392 : BitVec 32 := Scalar.select v391 c32_i32 v388
  let v501 : Index := Scalar.indexCast v392
  let c64 : Index := 64#32
  let c0_316 : Index := 0#32
  ![v501.toNat, 64, 0]
def k0_off39 (i : grid0.Coords) (c0_i32_317 : BitVec 32) : Fin 4 → Nat :=
  let c2_i32_319 : BitVec 32 := 2#32
  let c0_i32_318 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_241 : BitVec 32 := 4#32
  let v382 : BitVec 32 := Scalar.muli v151 c4_i32_241
  let v383 : BitVec 32 := Scalar.addi v150 v382
  let c0_i32_242 : BitVec 32 := 0#32
  let v384 : BitVec 32 := Scalar.maxsi v383 c0_i32_242
  let v505 : BitVec 32 := Scalar.addi v384 c0_i32_317
  let v506 : BitVec 32 := Scalar.subi arg1 v505
  let v507 : BitVec 32 := Scalar.maxsi c0_i32_318 v506
  let v508 : BitVec 32 := Scalar.minsi c2_i32_319 v507
  let v509 : Index := Scalar.indexCast v508
  let c0_320 : Index := 0#32
  let c64_321 : Index := 64#32
  let c0_322 : Index := 0#32
  ![v509.toNat, 0, 64, 0]
def k0_off40 (i : grid0.Coords) (c0_i32_369 : BitVec 32) : Fin 4 → Nat :=
  let c2_i32_371 : BitVec 32 := 2#32
  let c0_i32_370 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_241 : BitVec 32 := 4#32
  let v382 : BitVec 32 := Scalar.muli v151 c4_i32_241
  let v383 : BitVec 32 := Scalar.addi v150 v382
  let c0_i32_242 : BitVec 32 := 0#32
  let v384 : BitVec 32 := Scalar.maxsi v383 c0_i32_242
  let v586 : BitVec 32 := Scalar.addi v384 c0_i32_369
  let v587 : BitVec 32 := Scalar.subi arg1 v586
  let v588 : BitVec 32 := Scalar.maxsi c0_i32_370 v587
  let v589 : BitVec 32 := Scalar.minsi c2_i32_371 v588
  let v590 : Index := Scalar.indexCast v589
  let c1_372 : Index := 1#32
  let c0_373 : Index := 0#32
  let c0_374 : Index := 0#32
  ![v590.toNat, 1, 0, 0]
def k0_off41 (i : grid0.Coords) (c0_i32_421 : BitVec 32) : Fin 4 → Nat :=
  let c2_i32_423 : BitVec 32 := 2#32
  let c0_i32_422 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_241 : BitVec 32 := 4#32
  let v382 : BitVec 32 := Scalar.muli v151 c4_i32_241
  let v383 : BitVec 32 := Scalar.addi v150 v382
  let c0_i32_242 : BitVec 32 := 0#32
  let v384 : BitVec 32 := Scalar.maxsi v383 c0_i32_242
  let v667 : BitVec 32 := Scalar.addi v384 c0_i32_421
  let v668 : BitVec 32 := Scalar.subi arg1 v667
  let v669 : BitVec 32 := Scalar.maxsi c0_i32_422 v668
  let v670 : BitVec 32 := Scalar.minsi c2_i32_423 v669
  let v671 : Index := Scalar.indexCast v670
  let c1_424 : Index := 1#32
  let c64_425 : Index := 64#32
  let c0_426 : Index := 0#32
  ![v671.toNat, 1, 64, 0]
def k0_off42 (i : grid0.Coords) (c0_i32_472 : BitVec 32) : Fin 4 → Nat :=
  let c2_i32_474 : BitVec 32 := 2#32
  let c0_i32_473 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_241 : BitVec 32 := 4#32
  let v382 : BitVec 32 := Scalar.muli v151 c4_i32_241
  let v383 : BitVec 32 := Scalar.addi v150 v382
  let c0_i32_242 : BitVec 32 := 0#32
  let v384 : BitVec 32 := Scalar.maxsi v383 c0_i32_242
  let v748 : BitVec 32 := Scalar.addi v384 c0_i32_472
  let v749 : BitVec 32 := Scalar.subi arg1 v748
  let v750 : BitVec 32 := Scalar.maxsi c0_i32_473 v749
  let v751 : BitVec 32 := Scalar.minsi c2_i32_474 v750
  let v752 : Index := Scalar.indexCast v751
  let c2_475 : Index := 2#32
  let c0_476 : Index := 0#32
  let c0_477 : Index := 0#32
  ![v752.toNat, 2, 0, 0]
def k0_off43 (i : grid0.Coords) (c0_i32_524 : BitVec 32) : Fin 4 → Nat :=
  let c2_i32_526 : BitVec 32 := 2#32
  let c0_i32_525 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_241 : BitVec 32 := 4#32
  let v382 : BitVec 32 := Scalar.muli v151 c4_i32_241
  let v383 : BitVec 32 := Scalar.addi v150 v382
  let c0_i32_242 : BitVec 32 := 0#32
  let v384 : BitVec 32 := Scalar.maxsi v383 c0_i32_242
  let v829 : BitVec 32 := Scalar.addi v384 c0_i32_524
  let v830 : BitVec 32 := Scalar.subi arg1 v829
  let v831 : BitVec 32 := Scalar.maxsi c0_i32_525 v830
  let v832 : BitVec 32 := Scalar.minsi c2_i32_526 v831
  let v833 : Index := Scalar.indexCast v832
  let c2_527 : Index := 2#32
  let c64_528 : Index := 64#32
  let c0_529 : Index := 0#32
  ![v833.toNat, 2, 64, 0]
def k0_off44 (i : grid0.Coords) (c0_i32_575 : BitVec 32) : Fin 4 → Nat :=
  let c2_i32_577 : BitVec 32 := 2#32
  let c0_i32_576 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_241 : BitVec 32 := 4#32
  let v382 : BitVec 32 := Scalar.muli v151 c4_i32_241
  let v383 : BitVec 32 := Scalar.addi v150 v382
  let c0_i32_242 : BitVec 32 := 0#32
  let v384 : BitVec 32 := Scalar.maxsi v383 c0_i32_242
  let v910 : BitVec 32 := Scalar.addi v384 c0_i32_575
  let v911 : BitVec 32 := Scalar.subi arg1 v910
  let v912 : BitVec 32 := Scalar.maxsi c0_i32_576 v911
  let v913 : BitVec 32 := Scalar.minsi c2_i32_577 v912
  let v914 : Index := Scalar.indexCast v913
  let c3_578 : Index := 3#32
  let c0_579 : Index := 0#32
  let c0_580 : Index := 0#32
  ![v914.toNat, 3, 0, 0]
def k0_off45 (i : grid0.Coords) (c0_i32_627 : BitVec 32) : Fin 4 → Nat :=
  let c2_i32_629 : BitVec 32 := 2#32
  let c0_i32_628 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_241 : BitVec 32 := 4#32
  let v382 : BitVec 32 := Scalar.muli v151 c4_i32_241
  let v383 : BitVec 32 := Scalar.addi v150 v382
  let c0_i32_242 : BitVec 32 := 0#32
  let v384 : BitVec 32 := Scalar.maxsi v383 c0_i32_242
  let v991 : BitVec 32 := Scalar.addi v384 c0_i32_627
  let v992 : BitVec 32 := Scalar.subi arg1 v991
  let v993 : BitVec 32 := Scalar.maxsi c0_i32_628 v992
  let v994 : BitVec 32 := Scalar.minsi c2_i32_629 v993
  let v995 : Index := Scalar.indexCast v994
  let c3_630 : Index := 3#32
  let c64_631 : Index := 64#32
  let c0_632 : Index := 0#32
  ![v995.toNat, 3, 64, 0]
def k0_mult12 (i : grid0.Coords) : BitVec 32 :=
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_695 : BitVec 32 := 4#32
  let v1095 : BitVec 32 := Scalar.muli v151 c4_i32_695
  let v1096 : BitVec 32 := Scalar.addi v150 v1095
  let c0_i32_696 : BitVec 32 := 0#32
  let v1097 : BitVec 32 := Scalar.maxsi v1096 c0_i32_696
  let c128_i32_697 : BitVec 32 := 128#32
  let v1098 : BitVec 32 := Scalar.muli v1097 c128_i32_697
  v1098
def k0_off46 (i : grid0.Coords) (c0_i32_703 : BitVec 32) : Fin 4 → Nat :=
  let c2_i32_705 : BitVec 32 := 2#32
  let c0_i32_704 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_676 : BitVec 32 := 4#32
  let v1067 : BitVec 32 := Scalar.muli v151 c4_i32_676
  let v1068 : BitVec 32 := Scalar.addi v150 v1067
  let c0_i32_677 : BitVec 32 := 0#32
  let v1069 : BitVec 32 := Scalar.maxsi v1068 c0_i32_677
  let v1109 : BitVec 32 := Scalar.addi v1069 c0_i32_703
  let v1110 : BitVec 32 := Scalar.subi arg1 v1109
  let v1111 : BitVec 32 := Scalar.maxsi c0_i32_704 v1110
  let v1112 : BitVec 32 := Scalar.minsi c2_i32_705 v1111
  let v1113 : Index := Scalar.indexCast v1112
  let c4_706 : Index := 4#32
  let c0_707 : Index := 0#32
  let c0_708 : Index := 0#32
  ![v1113.toNat, 4, 0, 0]
def k0_off47 (i : grid0.Coords) (c0_i32_755 : BitVec 32) : Fin 4 → Nat :=
  let c2_i32_757 : BitVec 32 := 2#32
  let c0_i32_756 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_676 : BitVec 32 := 4#32
  let v1067 : BitVec 32 := Scalar.muli v151 c4_i32_676
  let v1068 : BitVec 32 := Scalar.addi v150 v1067
  let c0_i32_677 : BitVec 32 := 0#32
  let v1069 : BitVec 32 := Scalar.maxsi v1068 c0_i32_677
  let v1190 : BitVec 32 := Scalar.addi v1069 c0_i32_755
  let v1191 : BitVec 32 := Scalar.subi arg1 v1190
  let v1192 : BitVec 32 := Scalar.maxsi c0_i32_756 v1191
  let v1193 : BitVec 32 := Scalar.minsi c2_i32_757 v1192
  let v1194 : Index := Scalar.indexCast v1193
  let c4_758 : Index := 4#32
  let c64_759 : Index := 64#32
  let c0_760 : Index := 0#32
  ![v1194.toNat, 4, 64, 0]
def k0_off48 (i : grid0.Coords) (c0_i32_806 : BitVec 32) : Fin 4 → Nat :=
  let c2_i32_808 : BitVec 32 := 2#32
  let c0_i32_807 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_676 : BitVec 32 := 4#32
  let v1067 : BitVec 32 := Scalar.muli v151 c4_i32_676
  let v1068 : BitVec 32 := Scalar.addi v150 v1067
  let c0_i32_677 : BitVec 32 := 0#32
  let v1069 : BitVec 32 := Scalar.maxsi v1068 c0_i32_677
  let v1271 : BitVec 32 := Scalar.addi v1069 c0_i32_806
  let v1272 : BitVec 32 := Scalar.subi arg1 v1271
  let v1273 : BitVec 32 := Scalar.maxsi c0_i32_807 v1272
  let v1274 : BitVec 32 := Scalar.minsi c2_i32_808 v1273
  let v1275 : Index := Scalar.indexCast v1274
  let c5_809 : Index := 5#32
  let c0_810 : Index := 0#32
  let c0_811 : Index := 0#32
  ![v1275.toNat, 5, 0, 0]
def k0_off49 (i : grid0.Coords) (c0_i32_858 : BitVec 32) : Fin 4 → Nat :=
  let c2_i32_860 : BitVec 32 := 2#32
  let c0_i32_859 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_676 : BitVec 32 := 4#32
  let v1067 : BitVec 32 := Scalar.muli v151 c4_i32_676
  let v1068 : BitVec 32 := Scalar.addi v150 v1067
  let c0_i32_677 : BitVec 32 := 0#32
  let v1069 : BitVec 32 := Scalar.maxsi v1068 c0_i32_677
  let v1352 : BitVec 32 := Scalar.addi v1069 c0_i32_858
  let v1353 : BitVec 32 := Scalar.subi arg1 v1352
  let v1354 : BitVec 32 := Scalar.maxsi c0_i32_859 v1353
  let v1355 : BitVec 32 := Scalar.minsi c2_i32_860 v1354
  let v1356 : Index := Scalar.indexCast v1355
  let c5_861 : Index := 5#32
  let c64_862 : Index := 64#32
  let c0_863 : Index := 0#32
  ![v1356.toNat, 5, 64, 0]
def k0_off50 (i : grid0.Coords) (c0_i32_909 : BitVec 32) : Fin 4 → Nat :=
  let c2_i32_911 : BitVec 32 := 2#32
  let c0_i32_910 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_676 : BitVec 32 := 4#32
  let v1067 : BitVec 32 := Scalar.muli v151 c4_i32_676
  let v1068 : BitVec 32 := Scalar.addi v150 v1067
  let c0_i32_677 : BitVec 32 := 0#32
  let v1069 : BitVec 32 := Scalar.maxsi v1068 c0_i32_677
  let v1433 : BitVec 32 := Scalar.addi v1069 c0_i32_909
  let v1434 : BitVec 32 := Scalar.subi arg1 v1433
  let v1435 : BitVec 32 := Scalar.maxsi c0_i32_910 v1434
  let v1436 : BitVec 32 := Scalar.minsi c2_i32_911 v1435
  let v1437 : Index := Scalar.indexCast v1436
  let c6_912 : Index := 6#32
  let c0_913 : Index := 0#32
  let c0_914 : Index := 0#32
  ![v1437.toNat, 6, 0, 0]
def k0_off51 (i : grid0.Coords) (c0_i32_961 : BitVec 32) : Fin 4 → Nat :=
  let c2_i32_963 : BitVec 32 := 2#32
  let c0_i32_962 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_676 : BitVec 32 := 4#32
  let v1067 : BitVec 32 := Scalar.muli v151 c4_i32_676
  let v1068 : BitVec 32 := Scalar.addi v150 v1067
  let c0_i32_677 : BitVec 32 := 0#32
  let v1069 : BitVec 32 := Scalar.maxsi v1068 c0_i32_677
  let v1514 : BitVec 32 := Scalar.addi v1069 c0_i32_961
  let v1515 : BitVec 32 := Scalar.subi arg1 v1514
  let v1516 : BitVec 32 := Scalar.maxsi c0_i32_962 v1515
  let v1517 : BitVec 32 := Scalar.minsi c2_i32_963 v1516
  let v1518 : Index := Scalar.indexCast v1517
  let c6_964 : Index := 6#32
  let c64_965 : Index := 64#32
  let c0_966 : Index := 0#32
  ![v1518.toNat, 6, 64, 0]
def k0_off52 (i : grid0.Coords) (c0_i32_1012 : BitVec 32) : Fin 4 → Nat :=
  let c2_i32_1014 : BitVec 32 := 2#32
  let c0_i32_1013 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_676 : BitVec 32 := 4#32
  let v1067 : BitVec 32 := Scalar.muli v151 c4_i32_676
  let v1068 : BitVec 32 := Scalar.addi v150 v1067
  let c0_i32_677 : BitVec 32 := 0#32
  let v1069 : BitVec 32 := Scalar.maxsi v1068 c0_i32_677
  let v1595 : BitVec 32 := Scalar.addi v1069 c0_i32_1012
  let v1596 : BitVec 32 := Scalar.subi arg1 v1595
  let v1597 : BitVec 32 := Scalar.maxsi c0_i32_1013 v1596
  let v1598 : BitVec 32 := Scalar.minsi c2_i32_1014 v1597
  let v1599 : Index := Scalar.indexCast v1598
  let c7_1015 : Index := 7#32
  let c0_1016 : Index := 0#32
  let c0_1017 : Index := 0#32
  ![v1599.toNat, 7, 0, 0]
def k0_off53 (i : grid0.Coords) (c0_i32_1064 : BitVec 32) : Fin 4 → Nat :=
  let c2_i32_1066 : BitVec 32 := 2#32
  let c0_i32_1065 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_676 : BitVec 32 := 4#32
  let v1067 : BitVec 32 := Scalar.muli v151 c4_i32_676
  let v1068 : BitVec 32 := Scalar.addi v150 v1067
  let c0_i32_677 : BitVec 32 := 0#32
  let v1069 : BitVec 32 := Scalar.maxsi v1068 c0_i32_677
  let v1676 : BitVec 32 := Scalar.addi v1069 c0_i32_1064
  let v1677 : BitVec 32 := Scalar.subi arg1 v1676
  let v1678 : BitVec 32 := Scalar.maxsi c0_i32_1065 v1677
  let v1679 : BitVec 32 := Scalar.minsi c2_i32_1066 v1678
  let v1680 : Index := Scalar.indexCast v1679
  let c7_1067 : Index := 7#32
  let c64_1068 : Index := 64#32
  let c0_1069 : Index := 0#32
  ![v1680.toNat, 7, 64, 0]
def k0_mult13 (i : grid0.Coords) : BitVec 32 :=
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_1324 : BitVec 32 := 4#32
  let v2044 : BitVec 32 := Scalar.muli v151 c4_i32_1324
  let v2045 : BitVec 32 := Scalar.addi v150 v2044
  let c0_i32_1325 : BitVec 32 := 0#32
  let v2046 : BitVec 32 := Scalar.maxsi v2045 c0_i32_1325
  let c128_i32_1326 : BitVec 32 := 128#32
  let v2047 : BitVec 32 := Scalar.muli v2046 c128_i32_1326
  v2047
def k0_off54 (i : grid0.Coords) (c0_i32_1332 : BitVec 32) : Fin 4 → Nat :=
  let c2_i32_1334 : BitVec 32 := 2#32
  let c0_i32_1333 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_1305 : BitVec 32 := 4#32
  let v2016 : BitVec 32 := Scalar.muli v151 c4_i32_1305
  let v2017 : BitVec 32 := Scalar.addi v150 v2016
  let c0_i32_1306 : BitVec 32 := 0#32
  let v2018 : BitVec 32 := Scalar.maxsi v2017 c0_i32_1306
  let v2058 : BitVec 32 := Scalar.addi v2018 c0_i32_1332
  let v2059 : BitVec 32 := Scalar.subi arg1 v2058
  let v2060 : BitVec 32 := Scalar.maxsi c0_i32_1333 v2059
  let v2061 : BitVec 32 := Scalar.minsi c2_i32_1334 v2060
  let v2062 : Index := Scalar.indexCast v2061
  let c8_1335 : Index := 8#32
  let c0_1336 : Index := 0#32
  let c0_1337 : Index := 0#32
  ![v2062.toNat, 8, 0, 0]
def k0_off55 (i : grid0.Coords) (c0_i32_1384 : BitVec 32) : Fin 4 → Nat :=
  let c2_i32_1386 : BitVec 32 := 2#32
  let c0_i32_1385 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_1305 : BitVec 32 := 4#32
  let v2016 : BitVec 32 := Scalar.muli v151 c4_i32_1305
  let v2017 : BitVec 32 := Scalar.addi v150 v2016
  let c0_i32_1306 : BitVec 32 := 0#32
  let v2018 : BitVec 32 := Scalar.maxsi v2017 c0_i32_1306
  let v2139 : BitVec 32 := Scalar.addi v2018 c0_i32_1384
  let v2140 : BitVec 32 := Scalar.subi arg1 v2139
  let v2141 : BitVec 32 := Scalar.maxsi c0_i32_1385 v2140
  let v2142 : BitVec 32 := Scalar.minsi c2_i32_1386 v2141
  let v2143 : Index := Scalar.indexCast v2142
  let c8_1387 : Index := 8#32
  let c64_1388 : Index := 64#32
  let c0_1389 : Index := 0#32
  ![v2143.toNat, 8, 64, 0]
def k0_off56 (i : grid0.Coords) (c0_i32_1435 : BitVec 32) : Fin 4 → Nat :=
  let c2_i32_1437 : BitVec 32 := 2#32
  let c0_i32_1436 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_1305 : BitVec 32 := 4#32
  let v2016 : BitVec 32 := Scalar.muli v151 c4_i32_1305
  let v2017 : BitVec 32 := Scalar.addi v150 v2016
  let c0_i32_1306 : BitVec 32 := 0#32
  let v2018 : BitVec 32 := Scalar.maxsi v2017 c0_i32_1306
  let v2220 : BitVec 32 := Scalar.addi v2018 c0_i32_1435
  let v2221 : BitVec 32 := Scalar.subi arg1 v2220
  let v2222 : BitVec 32 := Scalar.maxsi c0_i32_1436 v2221
  let v2223 : BitVec 32 := Scalar.minsi c2_i32_1437 v2222
  let v2224 : Index := Scalar.indexCast v2223
  let c9_1438 : Index := 9#32
  let c0_1439 : Index := 0#32
  let c0_1440 : Index := 0#32
  ![v2224.toNat, 9, 0, 0]
def k0_off57 (i : grid0.Coords) (c0_i32_1487 : BitVec 32) : Fin 4 → Nat :=
  let c2_i32_1489 : BitVec 32 := 2#32
  let c0_i32_1488 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_1305 : BitVec 32 := 4#32
  let v2016 : BitVec 32 := Scalar.muli v151 c4_i32_1305
  let v2017 : BitVec 32 := Scalar.addi v150 v2016
  let c0_i32_1306 : BitVec 32 := 0#32
  let v2018 : BitVec 32 := Scalar.maxsi v2017 c0_i32_1306
  let v2301 : BitVec 32 := Scalar.addi v2018 c0_i32_1487
  let v2302 : BitVec 32 := Scalar.subi arg1 v2301
  let v2303 : BitVec 32 := Scalar.maxsi c0_i32_1488 v2302
  let v2304 : BitVec 32 := Scalar.minsi c2_i32_1489 v2303
  let v2305 : Index := Scalar.indexCast v2304
  let c9_1490 : Index := 9#32
  let c64_1491 : Index := 64#32
  let c0_1492 : Index := 0#32
  ![v2305.toNat, 9, 64, 0]
def k0_off58 (i : grid0.Coords) (c0_i32_1538 : BitVec 32) : Fin 4 → Nat :=
  let c2_i32_1540 : BitVec 32 := 2#32
  let c0_i32_1539 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_1305 : BitVec 32 := 4#32
  let v2016 : BitVec 32 := Scalar.muli v151 c4_i32_1305
  let v2017 : BitVec 32 := Scalar.addi v150 v2016
  let c0_i32_1306 : BitVec 32 := 0#32
  let v2018 : BitVec 32 := Scalar.maxsi v2017 c0_i32_1306
  let v2382 : BitVec 32 := Scalar.addi v2018 c0_i32_1538
  let v2383 : BitVec 32 := Scalar.subi arg1 v2382
  let v2384 : BitVec 32 := Scalar.maxsi c0_i32_1539 v2383
  let v2385 : BitVec 32 := Scalar.minsi c2_i32_1540 v2384
  let v2386 : Index := Scalar.indexCast v2385
  let c10_1541 : Index := 10#32
  let c0_1542 : Index := 0#32
  let c0_1543 : Index := 0#32
  ![v2386.toNat, 10, 0, 0]
def k0_off59 (i : grid0.Coords) (c0_i32_1590 : BitVec 32) : Fin 4 → Nat :=
  let c2_i32_1592 : BitVec 32 := 2#32
  let c0_i32_1591 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_1305 : BitVec 32 := 4#32
  let v2016 : BitVec 32 := Scalar.muli v151 c4_i32_1305
  let v2017 : BitVec 32 := Scalar.addi v150 v2016
  let c0_i32_1306 : BitVec 32 := 0#32
  let v2018 : BitVec 32 := Scalar.maxsi v2017 c0_i32_1306
  let v2463 : BitVec 32 := Scalar.addi v2018 c0_i32_1590
  let v2464 : BitVec 32 := Scalar.subi arg1 v2463
  let v2465 : BitVec 32 := Scalar.maxsi c0_i32_1591 v2464
  let v2466 : BitVec 32 := Scalar.minsi c2_i32_1592 v2465
  let v2467 : Index := Scalar.indexCast v2466
  let c10_1593 : Index := 10#32
  let c64_1594 : Index := 64#32
  let c0_1595 : Index := 0#32
  ![v2467.toNat, 10, 64, 0]
def k0_off60 (i : grid0.Coords) (c0_i32_1641 : BitVec 32) : Fin 4 → Nat :=
  let c2_i32_1643 : BitVec 32 := 2#32
  let c0_i32_1642 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_1305 : BitVec 32 := 4#32
  let v2016 : BitVec 32 := Scalar.muli v151 c4_i32_1305
  let v2017 : BitVec 32 := Scalar.addi v150 v2016
  let c0_i32_1306 : BitVec 32 := 0#32
  let v2018 : BitVec 32 := Scalar.maxsi v2017 c0_i32_1306
  let v2544 : BitVec 32 := Scalar.addi v2018 c0_i32_1641
  let v2545 : BitVec 32 := Scalar.subi arg1 v2544
  let v2546 : BitVec 32 := Scalar.maxsi c0_i32_1642 v2545
  let v2547 : BitVec 32 := Scalar.minsi c2_i32_1643 v2546
  let v2548 : Index := Scalar.indexCast v2547
  let c11_1644 : Index := 11#32
  let c0_1645 : Index := 0#32
  let c0_1646 : Index := 0#32
  ![v2548.toNat, 11, 0, 0]
def k0_off61 (i : grid0.Coords) (c0_i32_1693 : BitVec 32) : Fin 4 → Nat :=
  let c2_i32_1695 : BitVec 32 := 2#32
  let c0_i32_1694 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_1305 : BitVec 32 := 4#32
  let v2016 : BitVec 32 := Scalar.muli v151 c4_i32_1305
  let v2017 : BitVec 32 := Scalar.addi v150 v2016
  let c0_i32_1306 : BitVec 32 := 0#32
  let v2018 : BitVec 32 := Scalar.maxsi v2017 c0_i32_1306
  let v2625 : BitVec 32 := Scalar.addi v2018 c0_i32_1693
  let v2626 : BitVec 32 := Scalar.subi arg1 v2625
  let v2627 : BitVec 32 := Scalar.maxsi c0_i32_1694 v2626
  let v2628 : BitVec 32 := Scalar.minsi c2_i32_1695 v2627
  let v2629 : Index := Scalar.indexCast v2628
  let c11_1696 : Index := 11#32
  let c64_1697 : Index := 64#32
  let c0_1698 : Index := 0#32
  ![v2629.toNat, 11, 64, 0]
def k0_mult14 (i : grid0.Coords) : BitVec 32 :=
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_1942 : BitVec 32 := 4#32
  let v2972 : BitVec 32 := Scalar.muli v151 c4_i32_1942
  let v2973 : BitVec 32 := Scalar.addi v150 v2972
  let c0_i32_1943 : BitVec 32 := 0#32
  let v2974 : BitVec 32 := Scalar.maxsi v2973 c0_i32_1943
  let c128_i32_1944 : BitVec 32 := 128#32
  let v2975 : BitVec 32 := Scalar.muli v2974 c128_i32_1944
  v2975
def k0_mult15 (i : grid0.Coords) : BitVec 32 :=
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_1969 : BitVec 32 := 4#32
  let v3013 : BitVec 32 := Scalar.muli v151 c4_i32_1969
  let v3014 : BitVec 32 := Scalar.addi v150 v3013
  let c0_i32_1970 : BitVec 32 := 0#32
  let v3015 : BitVec 32 := Scalar.maxsi v3014 c0_i32_1970
  let c128_i32_1971 : BitVec 32 := 128#32
  let v3016 : BitVec 32 := Scalar.muli v3015 c128_i32_1971
  v3016
def k0_off62 (i : grid0.Coords) (c0_i32_1977 : BitVec 32) : Fin 4 → Nat :=
  let c2_i32_1979 : BitVec 32 := 2#32
  let c0_i32_1978 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_1950 : BitVec 32 := 4#32
  let v2985 : BitVec 32 := Scalar.muli v151 c4_i32_1950
  let v2986 : BitVec 32 := Scalar.addi v150 v2985
  let c0_i32_1951 : BitVec 32 := 0#32
  let v2987 : BitVec 32 := Scalar.maxsi v2986 c0_i32_1951
  let v3027 : BitVec 32 := Scalar.addi v2987 c0_i32_1977
  let v3028 : BitVec 32 := Scalar.subi arg1 v3027
  let v3029 : BitVec 32 := Scalar.maxsi c0_i32_1978 v3028
  let v3030 : BitVec 32 := Scalar.minsi c2_i32_1979 v3029
  let v3031 : Index := Scalar.indexCast v3030
  let c12_1980 : Index := 12#32
  let c0_1981 : Index := 0#32
  let c0_1982 : Index := 0#32
  ![v3031.toNat, 12, 0, 0]
def k0_off63 (i : grid0.Coords) (c0_i32_2029 : BitVec 32) : Fin 4 → Nat :=
  let c2_i32_2031 : BitVec 32 := 2#32
  let c0_i32_2030 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_1950 : BitVec 32 := 4#32
  let v2985 : BitVec 32 := Scalar.muli v151 c4_i32_1950
  let v2986 : BitVec 32 := Scalar.addi v150 v2985
  let c0_i32_1951 : BitVec 32 := 0#32
  let v2987 : BitVec 32 := Scalar.maxsi v2986 c0_i32_1951
  let v3108 : BitVec 32 := Scalar.addi v2987 c0_i32_2029
  let v3109 : BitVec 32 := Scalar.subi arg1 v3108
  let v3110 : BitVec 32 := Scalar.maxsi c0_i32_2030 v3109
  let v3111 : BitVec 32 := Scalar.minsi c2_i32_2031 v3110
  let v3112 : Index := Scalar.indexCast v3111
  let c12_2032 : Index := 12#32
  let c64_2033 : Index := 64#32
  let c0_2034 : Index := 0#32
  ![v3112.toNat, 12, 64, 0]
def k0_off64 (i : grid0.Coords) (c0_i32_2080 : BitVec 32) : Fin 4 → Nat :=
  let c2_i32_2082 : BitVec 32 := 2#32
  let c0_i32_2081 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_1950 : BitVec 32 := 4#32
  let v2985 : BitVec 32 := Scalar.muli v151 c4_i32_1950
  let v2986 : BitVec 32 := Scalar.addi v150 v2985
  let c0_i32_1951 : BitVec 32 := 0#32
  let v2987 : BitVec 32 := Scalar.maxsi v2986 c0_i32_1951
  let v3189 : BitVec 32 := Scalar.addi v2987 c0_i32_2080
  let v3190 : BitVec 32 := Scalar.subi arg1 v3189
  let v3191 : BitVec 32 := Scalar.maxsi c0_i32_2081 v3190
  let v3192 : BitVec 32 := Scalar.minsi c2_i32_2082 v3191
  let v3193 : Index := Scalar.indexCast v3192
  let c13_2083 : Index := 13#32
  let c0_2084 : Index := 0#32
  let c0_2085 : Index := 0#32
  ![v3193.toNat, 13, 0, 0]
def k0_off65 (i : grid0.Coords) (c0_i32_2132 : BitVec 32) : Fin 4 → Nat :=
  let c2_i32_2134 : BitVec 32 := 2#32
  let c0_i32_2133 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_1950 : BitVec 32 := 4#32
  let v2985 : BitVec 32 := Scalar.muli v151 c4_i32_1950
  let v2986 : BitVec 32 := Scalar.addi v150 v2985
  let c0_i32_1951 : BitVec 32 := 0#32
  let v2987 : BitVec 32 := Scalar.maxsi v2986 c0_i32_1951
  let v3270 : BitVec 32 := Scalar.addi v2987 c0_i32_2132
  let v3271 : BitVec 32 := Scalar.subi arg1 v3270
  let v3272 : BitVec 32 := Scalar.maxsi c0_i32_2133 v3271
  let v3273 : BitVec 32 := Scalar.minsi c2_i32_2134 v3272
  let v3274 : Index := Scalar.indexCast v3273
  let c13_2135 : Index := 13#32
  let c64_2136 : Index := 64#32
  let c0_2137 : Index := 0#32
  ![v3274.toNat, 13, 64, 0]
def k0_off66 (i : grid0.Coords) (c0_i32_2183 : BitVec 32) : Fin 4 → Nat :=
  let c2_i32_2185 : BitVec 32 := 2#32
  let c0_i32_2184 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_1950 : BitVec 32 := 4#32
  let v2985 : BitVec 32 := Scalar.muli v151 c4_i32_1950
  let v2986 : BitVec 32 := Scalar.addi v150 v2985
  let c0_i32_1951 : BitVec 32 := 0#32
  let v2987 : BitVec 32 := Scalar.maxsi v2986 c0_i32_1951
  let v3351 : BitVec 32 := Scalar.addi v2987 c0_i32_2183
  let v3352 : BitVec 32 := Scalar.subi arg1 v3351
  let v3353 : BitVec 32 := Scalar.maxsi c0_i32_2184 v3352
  let v3354 : BitVec 32 := Scalar.minsi c2_i32_2185 v3353
  let v3355 : Index := Scalar.indexCast v3354
  let c14_2186 : Index := 14#32
  let c0_2187 : Index := 0#32
  let c0_2188 : Index := 0#32
  ![v3355.toNat, 14, 0, 0]
def k0_off67 (i : grid0.Coords) (c0_i32_2235 : BitVec 32) : Fin 4 → Nat :=
  let c2_i32_2237 : BitVec 32 := 2#32
  let c0_i32_2236 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_1950 : BitVec 32 := 4#32
  let v2985 : BitVec 32 := Scalar.muli v151 c4_i32_1950
  let v2986 : BitVec 32 := Scalar.addi v150 v2985
  let c0_i32_1951 : BitVec 32 := 0#32
  let v2987 : BitVec 32 := Scalar.maxsi v2986 c0_i32_1951
  let v3432 : BitVec 32 := Scalar.addi v2987 c0_i32_2235
  let v3433 : BitVec 32 := Scalar.subi arg1 v3432
  let v3434 : BitVec 32 := Scalar.maxsi c0_i32_2236 v3433
  let v3435 : BitVec 32 := Scalar.minsi c2_i32_2237 v3434
  let v3436 : Index := Scalar.indexCast v3435
  let c14_2238 : Index := 14#32
  let c64_2239 : Index := 64#32
  let c0_2240 : Index := 0#32
  ![v3436.toNat, 14, 64, 0]
def k0_off68 (i : grid0.Coords) (c0_i32_2286 : BitVec 32) : Fin 4 → Nat :=
  let c2_i32_2288 : BitVec 32 := 2#32
  let c0_i32_2287 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_1950 : BitVec 32 := 4#32
  let v2985 : BitVec 32 := Scalar.muli v151 c4_i32_1950
  let v2986 : BitVec 32 := Scalar.addi v150 v2985
  let c0_i32_1951 : BitVec 32 := 0#32
  let v2987 : BitVec 32 := Scalar.maxsi v2986 c0_i32_1951
  let v3513 : BitVec 32 := Scalar.addi v2987 c0_i32_2286
  let v3514 : BitVec 32 := Scalar.subi arg1 v3513
  let v3515 : BitVec 32 := Scalar.maxsi c0_i32_2287 v3514
  let v3516 : BitVec 32 := Scalar.minsi c2_i32_2288 v3515
  let v3517 : Index := Scalar.indexCast v3516
  let c15_2289 : Index := 15#32
  let c0_2290 : Index := 0#32
  let c0_2291 : Index := 0#32
  ![v3517.toNat, 15, 0, 0]
def k0_off69 (i : grid0.Coords) (c0_i32_2338 : BitVec 32) : Fin 4 → Nat :=
  let c2_i32_2340 : BitVec 32 := 2#32
  let c0_i32_2339 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_1950 : BitVec 32 := 4#32
  let v2985 : BitVec 32 := Scalar.muli v151 c4_i32_1950
  let v2986 : BitVec 32 := Scalar.addi v150 v2985
  let c0_i32_1951 : BitVec 32 := 0#32
  let v2987 : BitVec 32 := Scalar.maxsi v2986 c0_i32_1951
  let v3594 : BitVec 32 := Scalar.addi v2987 c0_i32_2338
  let v3595 : BitVec 32 := Scalar.subi arg1 v3594
  let v3596 : BitVec 32 := Scalar.maxsi c0_i32_2339 v3595
  let v3597 : BitVec 32 := Scalar.minsi c2_i32_2340 v3596
  let v3598 : Index := Scalar.indexCast v3597
  let c15_2341 : Index := 15#32
  let c64_2342 : Index := 64#32
  let c0_2343 : Index := 0#32
  ![v3598.toNat, 15, 64, 0]
def k0_mult16 (i : grid0.Coords) : BitVec 32 :=
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_2587 : BitVec 32 := 4#32
  let v3941 : BitVec 32 := Scalar.muli v151 c4_i32_2587
  let v3942 : BitVec 32 := Scalar.addi v150 v3941
  let c0_i32_2588 : BitVec 32 := 0#32
  let v3943 : BitVec 32 := Scalar.maxsi v3942 c0_i32_2588
  let c128_i32_2589 : BitVec 32 := 128#32
  let v3944 : BitVec 32 := Scalar.muli v3943 c128_i32_2589
  v3944
def k0_mult17 (i : grid0.Coords) : BitVec 32 :=
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_2795 : BitVec 32 := 4#32
  let v4225 : BitVec 32 := Scalar.muli v151 c4_i32_2795
  let v4226 : BitVec 32 := Scalar.addi v150 v4225
  let c0_i32_2796 : BitVec 32 := 0#32
  let v4227 : BitVec 32 := Scalar.maxsi v4226 c0_i32_2796
  let c128_i32_2797 : BitVec 32 := 128#32
  let v4228 : BitVec 32 := Scalar.muli v4227 c128_i32_2797
  v4228
def k0_mult18 (i : grid0.Coords) : BitVec 32 :=
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_2811 : BitVec 32 := 4#32
  let v4245 : BitVec 32 := Scalar.muli v151 c4_i32_2811
  let v4246 : BitVec 32 := Scalar.addi v150 v4245
  let c0_i32_2812 : BitVec 32 := 0#32
  let v4247 : BitVec 32 := Scalar.maxsi v4246 c0_i32_2812
  let c128_i32_2813 : BitVec 32 := 128#32
  let v4248 : BitVec 32 := Scalar.muli v4247 c128_i32_2813
  v4248
def k0_cond19 (i : grid0.Coords) : BitVec 1 :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c1_i32_77 : BitVec 32 := 1#32
  let v155 : BitVec 1 := Scalar.cmpi .sgt v17 c1_i32_77
  let v156 : BitVec 32 := Scalar.extui v155
  let c0_i32_78 : BitVec 32 := 0#32
  let v157 : BitVec 1 := Scalar.cmpi .ne v156 c0_i32_78
  v157

def k0_mult19 (i : grid0.Coords) : BitVec 32 :=
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c0_i32_257 : BitVec 32 := 0#32
  let v408 : BitVec 32 := Scalar.addi v150 c0_i32_257
  let c0_i32_258 : BitVec 32 := 0#32
  let v409 : BitVec 32 := Scalar.maxsi v408 c0_i32_258
  let c128_i32_259 : BitVec 32 := 128#32
  let v410 : BitVec 32 := Scalar.muli v409 c128_i32_259
  v410
def k0_off70 (i : grid0.Coords) : Fin 3 → Nat :=
  let c0_260 : Index := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c0_i32_257 : BitVec 32 := 0#32
  let v408 : BitVec 32 := Scalar.addi v150 c0_i32_257
  let c0_i32_258 : BitVec 32 := 0#32
  let v409 : BitVec 32 := Scalar.maxsi v408 c0_i32_258
  let c128_i32_259 : BitVec 32 := 128#32
  let v410 : BitVec 32 := Scalar.muli v409 c128_i32_259
  let v411 : BitVec 32 := v410
  let v412 : Index := Scalar.indexCast v411
  let c0_261 : Index := 0#32
  ![0, v412.toNat, 0]
def k0_off71 (i : grid0.Coords) (c0_i32_244 : BitVec 32) : Fin 3 → Nat :=
  let v_true : BitVec 1 := 1#1
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c1_i32_243 : BitVec 32 := 1#32
  let v384 : BitVec 1 := Scalar.cmpi .sgt v17 c1_i32_243
  let v385 : BitVec 1 := Scalar.andi v_true v384
  let c1_i32_72 : BitVec 32 := 1#32
  let v148 : BitVec 32 := Scalar.addi arg1 c1_i32_72
  let c4_i32_73 : BitVec 32 := 4#32
  let v149 : BitVec 32 := Scalar.muli c4_i32_73 v17
  let v150 : BitVec 32 := Scalar.subi v148 v149
  let c0_i32_241 : BitVec 32 := 0#32
  let v382 : BitVec 32 := Scalar.addi v150 c0_i32_241
  let c0_i32_242 : BitVec 32 := 0#32
  let v383 : BitVec 32 := Scalar.maxsi v382 c0_i32_242
  let v386 : BitVec 32 := Scalar.addi v383 c0_i32_244
  let c4_i32_245 : BitVec 32 := 4#32
  let v387 : BitVec 32 := Scalar.addi v150 c4_i32_245
  let v388 : BitVec 1 := Scalar.cmpi .sge v386 v387
  let v389 : BitVec 1 := Scalar.andi v385 v388
  let c32_i32 : BitVec 32 := 32#32
  let v390 : BitVec 32 := Scalar.select v389 c32_i32 v386
  let v417 : Index := Scalar.indexCast v390
  let c0_263 : Index := 0#32
  let c0_264 : Index := 0#32
  ![v417.toNat, 0, 0]
def k0_off72 (i : grid0.Coords) (c0_i32_244 : BitVec 32) : Fin 3 → Nat :=
  let v_true : BitVec 1 := 1#1
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c1_i32_243 : BitVec 32 := 1#32
  let v384 : BitVec 1 := Scalar.cmpi .sgt v17 c1_i32_243
  let v385 : BitVec 1 := Scalar.andi v_true v384
  let c1_i32_72 : BitVec 32 := 1#32
  let v148 : BitVec 32 := Scalar.addi arg1 c1_i32_72
  let c4_i32_73 : BitVec 32 := 4#32
  let v149 : BitVec 32 := Scalar.muli c4_i32_73 v17
  let v150 : BitVec 32 := Scalar.subi v148 v149
  let c0_i32_241 : BitVec 32 := 0#32
  let v382 : BitVec 32 := Scalar.addi v150 c0_i32_241
  let c0_i32_242 : BitVec 32 := 0#32
  let v383 : BitVec 32 := Scalar.maxsi v382 c0_i32_242
  let v386 : BitVec 32 := Scalar.addi v383 c0_i32_244
  let c4_i32_245 : BitVec 32 := 4#32
  let v387 : BitVec 32 := Scalar.addi v150 c4_i32_245
  let v388 : BitVec 1 := Scalar.cmpi .sge v386 v387
  let v389 : BitVec 1 := Scalar.andi v385 v388
  let c32_i32 : BitVec 32 := 32#32
  let v390 : BitVec 32 := Scalar.select v389 c32_i32 v386
  let v466 : Index := Scalar.indexCast v390
  let c64 : Index := 64#32
  let c0_291 : Index := 0#32
  ![v466.toNat, 64, 0]
def k0_mult20 (i : grid0.Coords) : BitVec 32 :=
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c0_i32_502 : BitVec 32 := 0#32
  let v834 : BitVec 32 := Scalar.addi v150 c0_i32_502
  let c0_i32_503 : BitVec 32 := 0#32
  let v835 : BitVec 32 := Scalar.maxsi v834 c0_i32_503
  let c128_i32_504 : BitVec 32 := 128#32
  let v836 : BitVec 32 := Scalar.muli v835 c128_i32_504
  v836
def k0_mult21 (i : grid0.Coords) : BitVec 32 :=
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c0_i32_939 : BitVec 32 := 0#32
  let v1524 : BitVec 32 := Scalar.addi v150 c0_i32_939
  let c0_i32_940 : BitVec 32 := 0#32
  let v1525 : BitVec 32 := Scalar.maxsi v1524 c0_i32_940
  let c128_i32_941 : BitVec 32 := 128#32
  let v1526 : BitVec 32 := Scalar.muli v1525 c128_i32_941
  v1526
def k0_mult22 (i : grid0.Coords) : BitVec 32 :=
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c0_i32_1365 : BitVec 32 := 0#32
  let v2195 : BitVec 32 := Scalar.addi v150 c0_i32_1365
  let c0_i32_1366 : BitVec 32 := 0#32
  let v2196 : BitVec 32 := Scalar.maxsi v2195 c0_i32_1366
  let c128_i32_1367 : BitVec 32 := 128#32
  let v2197 : BitVec 32 := Scalar.muli v2196 c128_i32_1367
  v2197
def k0_mult23 (i : grid0.Coords) : BitVec 32 :=
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c0_i32_1392 : BitVec 32 := 0#32
  let v2233 : BitVec 32 := Scalar.addi v150 c0_i32_1392
  let c0_i32_1393 : BitVec 32 := 0#32
  let v2234 : BitVec 32 := Scalar.maxsi v2233 c0_i32_1393
  let c128_i32_1394 : BitVec 32 := 128#32
  let v2235 : BitVec 32 := Scalar.muli v2234 c128_i32_1394
  v2235
def k0_mult24 (i : grid0.Coords) : BitVec 32 :=
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c0_i32_1818 : BitVec 32 := 0#32
  let v2904 : BitVec 32 := Scalar.addi v150 c0_i32_1818
  let c0_i32_1819 : BitVec 32 := 0#32
  let v2905 : BitVec 32 := Scalar.maxsi v2904 c0_i32_1819
  let c128_i32_1820 : BitVec 32 := 128#32
  let v2906 : BitVec 32 := Scalar.muli v2905 c128_i32_1820
  v2906
@[reducible] def k0_t28_loop (i : grid0.Coords) : Scf.Loop 32 :=
  let c1_i32_1827 : BitVec 32 := 1#32
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c1_i32_74 : BitVec 32 := 1#32
  let v151 : BitVec 32 := Scalar.subi v17 c1_i32_74
  let v2916 : BitVec 32 := Scalar.subi v151 c1_i32_1827
  let c1_i32_1828 : BitVec 32 := 1#32
  let v2918 : BitVec 32 := Scalar.divsi v2916 c1_i32_1828
  let v2919 : BitVec 32 := Scalar.muli v2918 c1_i32_1828
  let v2920 : BitVec 32 := Scalar.addi c1_i32_1827 v2919
  let c1_i32_1829 : BitVec 32 := 1#32
  ⟨c1_i32_1827, v2920, c1_i32_1829⟩
def k0_mult25 (i : grid0.Coords) (k0_t28 : Fin (k0_t28_loop i).trips) : BitVec 32 :=
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_1827 : BitVec 32 := 1#32
  let c1_i32_1829 : BitVec 32 := 1#32
  let arg23 : BitVec 32 := Scf.iv c1_i32_1827 c1_i32_1829 k0_t28
  let c4_i32_4672 : BitVec 32 := 4#32
  let v7131 : BitVec 32 := Scalar.muli arg23 c4_i32_4672
  let v7132 : BitVec 32 := Scalar.addi v150 v7131
  let c0_i32_4673 : BitVec 32 := 0#32
  let v7133 : BitVec 32 := Scalar.maxsi v7132 c0_i32_4673
  let c128_i32_4674 : BitVec 32 := 128#32
  let v7134 : BitVec 32 := Scalar.muli v7133 c128_i32_4674
  v7134
def k0_off73 (i : grid0.Coords) (k0_t28 : Fin (k0_t28_loop i).trips) : Fin 3 → Nat :=
  let c0_4675 : Index := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_1827 : BitVec 32 := 1#32
  let c1_i32_1829 : BitVec 32 := 1#32
  let arg23 : BitVec 32 := Scf.iv c1_i32_1827 c1_i32_1829 k0_t28
  let c4_i32_4672 : BitVec 32 := 4#32
  let v7131 : BitVec 32 := Scalar.muli arg23 c4_i32_4672
  let v7132 : BitVec 32 := Scalar.addi v150 v7131
  let c0_i32_4673 : BitVec 32 := 0#32
  let v7133 : BitVec 32 := Scalar.maxsi v7132 c0_i32_4673
  let c128_i32_4674 : BitVec 32 := 128#32
  let v7134 : BitVec 32 := Scalar.muli v7133 c128_i32_4674
  let v7135 : BitVec 32 := v7134
  let v7136 : Index := Scalar.indexCast v7135
  let c0_4676 : Index := 0#32
  ![0, v7136.toNat, 0]
def k0_off74 (i : grid0.Coords) (k0_t28 : Fin (k0_t28_loop i).trips) (c0_i32_4657 : BitVec 32) : Fin 3 → Nat :=
  let c1_i32_1827 : BitVec 32 := 1#32
  let c1_i32_1829 : BitVec 32 := 1#32
  let arg23 : BitVec 32 := Scf.iv c1_i32_1827 c1_i32_1829 k0_t28
  let c0_i32_4655 : BitVec 32 := 0#32
  let v7106 : BitVec 1 := Scalar.cmpi .eq arg23 c0_i32_4655
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c1_i32_4656 : BitVec 32 := 1#32
  let v7107 : BitVec 1 := Scalar.cmpi .sgt v17 c1_i32_4656
  let v7108 : BitVec 1 := Scalar.andi v7106 v7107
  let c1_i32_72 : BitVec 32 := 1#32
  let v148 : BitVec 32 := Scalar.addi arg1 c1_i32_72
  let c4_i32_73 : BitVec 32 := 4#32
  let v149 : BitVec 32 := Scalar.muli c4_i32_73 v17
  let v150 : BitVec 32 := Scalar.subi v148 v149
  let c4_i32_4653 : BitVec 32 := 4#32
  let v7103 : BitVec 32 := Scalar.muli arg23 c4_i32_4653
  let v7104 : BitVec 32 := Scalar.addi v150 v7103
  let c0_i32_4654 : BitVec 32 := 0#32
  let v7105 : BitVec 32 := Scalar.maxsi v7104 c0_i32_4654
  let v7109 : BitVec 32 := Scalar.addi v7105 c0_i32_4657
  let c4_i32_4658 : BitVec 32 := 4#32
  let v7110 : BitVec 32 := Scalar.addi v150 c4_i32_4658
  let v7111 : BitVec 1 := Scalar.cmpi .sge v7109 v7110
  let v7112 : BitVec 1 := Scalar.andi v7108 v7111
  let c32_i32_4659 : BitVec 32 := 32#32
  let v7113 : BitVec 32 := Scalar.select v7112 c32_i32_4659 v7109
  let v7141 : Index := Scalar.indexCast v7113
  let c0_4678 : Index := 0#32
  let c0_4679 : Index := 0#32
  ![v7141.toNat, 0, 0]
def k0_off75 (i : grid0.Coords) (k0_t28 : Fin (k0_t28_loop i).trips) (c0_i32_4657 : BitVec 32) : Fin 3 → Nat :=
  let c1_i32_1827 : BitVec 32 := 1#32
  let c1_i32_1829 : BitVec 32 := 1#32
  let arg23 : BitVec 32 := Scf.iv c1_i32_1827 c1_i32_1829 k0_t28
  let c0_i32_4655 : BitVec 32 := 0#32
  let v7106 : BitVec 1 := Scalar.cmpi .eq arg23 c0_i32_4655
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c1_i32_4656 : BitVec 32 := 1#32
  let v7107 : BitVec 1 := Scalar.cmpi .sgt v17 c1_i32_4656
  let v7108 : BitVec 1 := Scalar.andi v7106 v7107
  let c1_i32_72 : BitVec 32 := 1#32
  let v148 : BitVec 32 := Scalar.addi arg1 c1_i32_72
  let c4_i32_73 : BitVec 32 := 4#32
  let v149 : BitVec 32 := Scalar.muli c4_i32_73 v17
  let v150 : BitVec 32 := Scalar.subi v148 v149
  let c4_i32_4653 : BitVec 32 := 4#32
  let v7103 : BitVec 32 := Scalar.muli arg23 c4_i32_4653
  let v7104 : BitVec 32 := Scalar.addi v150 v7103
  let c0_i32_4654 : BitVec 32 := 0#32
  let v7105 : BitVec 32 := Scalar.maxsi v7104 c0_i32_4654
  let v7109 : BitVec 32 := Scalar.addi v7105 c0_i32_4657
  let c4_i32_4658 : BitVec 32 := 4#32
  let v7110 : BitVec 32 := Scalar.addi v150 c4_i32_4658
  let v7111 : BitVec 1 := Scalar.cmpi .sge v7109 v7110
  let v7112 : BitVec 1 := Scalar.andi v7108 v7111
  let c32_i32_4659 : BitVec 32 := 32#32
  let v7113 : BitVec 32 := Scalar.select v7112 c32_i32_4659 v7109
  let v7190 : Index := Scalar.indexCast v7113
  let c64_4706 : Index := 64#32
  let c0_4707 : Index := 0#32
  ![v7190.toNat, 64, 0]
def k0_mult26 (i : grid0.Coords) (k0_t28 : Fin (k0_t28_loop i).trips) : BitVec 32 :=
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_1827 : BitVec 32 := 1#32
  let c1_i32_1829 : BitVec 32 := 1#32
  let arg23 : BitVec 32 := Scf.iv c1_i32_1827 c1_i32_1829 k0_t28
  let c1_i32_5094 : BitVec 32 := 1#32
  let v7796 : BitVec 32 := Scalar.subi arg23 c1_i32_5094
  let c4_i32_5103 : BitVec 32 := 4#32
  let v7804 : BitVec 32 := Scalar.muli v7796 c4_i32_5103
  let v7805 : BitVec 32 := Scalar.addi v150 v7804
  let c0_i32_5104 : BitVec 32 := 0#32
  let v7806 : BitVec 32 := Scalar.maxsi v7805 c0_i32_5104
  let c128_i32_5105 : BitVec 32 := 128#32
  let v7807 : BitVec 32 := Scalar.muli v7806 c128_i32_5105
  v7807
def k0_off76 (i : grid0.Coords) (k0_t28 : Fin (k0_t28_loop i).trips) : Fin 3 → Nat :=
  let c0_5106 : Index := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_1827 : BitVec 32 := 1#32
  let c1_i32_1829 : BitVec 32 := 1#32
  let arg23 : BitVec 32 := Scf.iv c1_i32_1827 c1_i32_1829 k0_t28
  let c1_i32_5094 : BitVec 32 := 1#32
  let v7796 : BitVec 32 := Scalar.subi arg23 c1_i32_5094
  let c4_i32_5103 : BitVec 32 := 4#32
  let v7804 : BitVec 32 := Scalar.muli v7796 c4_i32_5103
  let v7805 : BitVec 32 := Scalar.addi v150 v7804
  let c0_i32_5104 : BitVec 32 := 0#32
  let v7806 : BitVec 32 := Scalar.maxsi v7805 c0_i32_5104
  let c128_i32_5105 : BitVec 32 := 128#32
  let v7807 : BitVec 32 := Scalar.muli v7806 c128_i32_5105
  let v7808 : BitVec 32 := v7807
  let v7809 : Index := Scalar.indexCast v7808
  let c0_5107 : Index := 0#32
  ![0, v7809.toNat, 0]
def k0_mult27 (i : grid0.Coords) (k0_t28 : Fin (k0_t28_loop i).trips) : BitVec 32 :=
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_1827 : BitVec 32 := 1#32
  let c1_i32_1829 : BitVec 32 := 1#32
  let arg23 : BitVec 32 := Scf.iv c1_i32_1827 c1_i32_1829 k0_t28
  let c4_i32_5130 : BitVec 32 := 4#32
  let v7845 : BitVec 32 := Scalar.muli arg23 c4_i32_5130
  let v7846 : BitVec 32 := Scalar.addi v150 v7845
  let c0_i32_5131 : BitVec 32 := 0#32
  let v7847 : BitVec 32 := Scalar.maxsi v7846 c0_i32_5131
  let c128_i32_5132 : BitVec 32 := 128#32
  let v7848 : BitVec 32 := Scalar.muli v7847 c128_i32_5132
  v7848
def k0_mult28 (i : grid0.Coords) (k0_t28 : Fin (k0_t28_loop i).trips) : BitVec 32 :=
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_1827 : BitVec 32 := 1#32
  let c1_i32_1829 : BitVec 32 := 1#32
  let arg23 : BitVec 32 := Scf.iv c1_i32_1827 c1_i32_1829 k0_t28
  let c1_i32_5552 : BitVec 32 := 1#32
  let v8510 : BitVec 32 := Scalar.subi arg23 c1_i32_5552
  let c4_i32_5561 : BitVec 32 := 4#32
  let v8518 : BitVec 32 := Scalar.muli v8510 c4_i32_5561
  let v8519 : BitVec 32 := Scalar.addi v150 v8518
  let c0_i32_5562 : BitVec 32 := 0#32
  let v8520 : BitVec 32 := Scalar.maxsi v8519 c0_i32_5562
  let c128_i32_5563 : BitVec 32 := 128#32
  let v8521 : BitVec 32 := Scalar.muli v8520 c128_i32_5563
  v8521
def k0_mult29 (i : grid0.Coords) (k0_t28 : Fin (k0_t28_loop i).trips) : BitVec 32 :=
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_1827 : BitVec 32 := 1#32
  let c1_i32_1829 : BitVec 32 := 1#32
  let arg23 : BitVec 32 := Scf.iv c1_i32_1827 c1_i32_1829 k0_t28
  let c4_i32_5588 : BitVec 32 := 4#32
  let v8559 : BitVec 32 := Scalar.muli arg23 c4_i32_5588
  let v8560 : BitVec 32 := Scalar.addi v150 v8559
  let c0_i32_5589 : BitVec 32 := 0#32
  let v8561 : BitVec 32 := Scalar.maxsi v8560 c0_i32_5589
  let c128_i32_5590 : BitVec 32 := 128#32
  let v8562 : BitVec 32 := Scalar.muli v8561 c128_i32_5590
  v8562
def k0_mult30 (i : grid0.Coords) (k0_t28 : Fin (k0_t28_loop i).trips) : BitVec 32 :=
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_1827 : BitVec 32 := 1#32
  let c1_i32_1829 : BitVec 32 := 1#32
  let arg23 : BitVec 32 := Scf.iv c1_i32_1827 c1_i32_1829 k0_t28
  let c4_i32_6018 : BitVec 32 := 4#32
  let v9231 : BitVec 32 := Scalar.muli arg23 c4_i32_6018
  let v9232 : BitVec 32 := Scalar.addi v150 v9231
  let c0_i32_6019 : BitVec 32 := 0#32
  let v9233 : BitVec 32 := Scalar.maxsi v9232 c0_i32_6019
  let c128_i32_6020 : BitVec 32 := 128#32
  let v9234 : BitVec 32 := Scalar.muli v9233 c128_i32_6020
  v9234
def k0_mult31 (i : grid0.Coords) (k0_t28 : Fin (k0_t28_loop i).trips) : BitVec 32 :=
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_1827 : BitVec 32 := 1#32
  let c1_i32_1829 : BitVec 32 := 1#32
  let arg23 : BitVec 32 := Scf.iv c1_i32_1827 c1_i32_1829 k0_t28
  let c4_i32_6045 : BitVec 32 := 4#32
  let v9272 : BitVec 32 := Scalar.muli arg23 c4_i32_6045
  let v9273 : BitVec 32 := Scalar.addi v150 v9272
  let c0_i32_6046 : BitVec 32 := 0#32
  let v9274 : BitVec 32 := Scalar.maxsi v9273 c0_i32_6046
  let c128_i32_6047 : BitVec 32 := 128#32
  let v9275 : BitVec 32 := Scalar.muli v9274 c128_i32_6047
  v9275
def k0_mult32 (i : grid0.Coords) (k0_t28 : Fin (k0_t28_loop i).trips) : BitVec 32 :=
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_1827 : BitVec 32 := 1#32
  let c1_i32_1829 : BitVec 32 := 1#32
  let arg23 : BitVec 32 := Scf.iv c1_i32_1827 c1_i32_1829 k0_t28
  let c4_i32_6475 : BitVec 32 := 4#32
  let v9944 : BitVec 32 := Scalar.muli arg23 c4_i32_6475
  let v9945 : BitVec 32 := Scalar.addi v150 v9944
  let c0_i32_6476 : BitVec 32 := 0#32
  let v9946 : BitVec 32 := Scalar.maxsi v9945 c0_i32_6476
  let c128_i32_6477 : BitVec 32 := 128#32
  let v9947 : BitVec 32 := Scalar.muli v9946 c128_i32_6477
  v9947
@[reducible] def k0_t29_loop (i : grid0.Coords) : Scf.Loop 32 :=
  let c1_i32_1827 : BitVec 32 := 1#32
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c1_i32_74 : BitVec 32 := 1#32
  let v151 : BitVec 32 := Scalar.subi v17 c1_i32_74
  let v2916 : BitVec 32 := Scalar.subi v151 c1_i32_1827
  let c1_i32_1828 : BitVec 32 := 1#32
  let v2918 : BitVec 32 := Scalar.divsi v2916 c1_i32_1828
  let v2919 : BitVec 32 := Scalar.muli v2918 c1_i32_1828
  let v2920 : BitVec 32 := Scalar.addi c1_i32_1827 v2919
  let v2917 : BitVec 32 := Scalar.addi c1_i32_1827 v2916
  let c1_i32_1830 : BitVec 32 := 1#32
  ⟨v2920, v2917, c1_i32_1830⟩
def k0_mult33 (i : grid0.Coords) (k0_t29 : Fin (k0_t29_loop i).trips) : BitVec 32 :=
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_1827 : BitVec 32 := 1#32
  let c1_i32_74 : BitVec 32 := 1#32
  let v151 : BitVec 32 := Scalar.subi v17 c1_i32_74
  let v2916 : BitVec 32 := Scalar.subi v151 c1_i32_1827
  let c1_i32_1828 : BitVec 32 := 1#32
  let v2918 : BitVec 32 := Scalar.divsi v2916 c1_i32_1828
  let v2919 : BitVec 32 := Scalar.muli v2918 c1_i32_1828
  let v2920 : BitVec 32 := Scalar.addi c1_i32_1827 v2919
  let c1_i32_1830 : BitVec 32 := 1#32
  let arg23 : BitVec 32 := Scf.iv v2920 c1_i32_1830 k0_t29
  let c4_i32_4672 : BitVec 32 := 4#32
  let v7131 : BitVec 32 := Scalar.muli arg23 c4_i32_4672
  let v7132 : BitVec 32 := Scalar.addi v150 v7131
  let c0_i32_4673 : BitVec 32 := 0#32
  let v7133 : BitVec 32 := Scalar.maxsi v7132 c0_i32_4673
  let c128_i32_4674 : BitVec 32 := 128#32
  let v7134 : BitVec 32 := Scalar.muli v7133 c128_i32_4674
  v7134
def k0_off77 (i : grid0.Coords) (k0_t29 : Fin (k0_t29_loop i).trips) : Fin 3 → Nat :=
  let c0_4675 : Index := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_1827 : BitVec 32 := 1#32
  let c1_i32_74 : BitVec 32 := 1#32
  let v151 : BitVec 32 := Scalar.subi v17 c1_i32_74
  let v2916 : BitVec 32 := Scalar.subi v151 c1_i32_1827
  let c1_i32_1828 : BitVec 32 := 1#32
  let v2918 : BitVec 32 := Scalar.divsi v2916 c1_i32_1828
  let v2919 : BitVec 32 := Scalar.muli v2918 c1_i32_1828
  let v2920 : BitVec 32 := Scalar.addi c1_i32_1827 v2919
  let c1_i32_1830 : BitVec 32 := 1#32
  let arg23 : BitVec 32 := Scf.iv v2920 c1_i32_1830 k0_t29
  let c4_i32_4672 : BitVec 32 := 4#32
  let v7131 : BitVec 32 := Scalar.muli arg23 c4_i32_4672
  let v7132 : BitVec 32 := Scalar.addi v150 v7131
  let c0_i32_4673 : BitVec 32 := 0#32
  let v7133 : BitVec 32 := Scalar.maxsi v7132 c0_i32_4673
  let c128_i32_4674 : BitVec 32 := 128#32
  let v7134 : BitVec 32 := Scalar.muli v7133 c128_i32_4674
  let v7135 : BitVec 32 := v7134
  let v7136 : Index := Scalar.indexCast v7135
  let c0_4676 : Index := 0#32
  ![0, v7136.toNat, 0]
def k0_off78 (i : grid0.Coords) (k0_t29 : Fin (k0_t29_loop i).trips) (c0_i32_4657 : BitVec 32) : Fin 3 → Nat :=
  let c1_i32_1827 : BitVec 32 := 1#32
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c1_i32_74 : BitVec 32 := 1#32
  let v151 : BitVec 32 := Scalar.subi v17 c1_i32_74
  let v2916 : BitVec 32 := Scalar.subi v151 c1_i32_1827
  let c1_i32_1828 : BitVec 32 := 1#32
  let v2918 : BitVec 32 := Scalar.divsi v2916 c1_i32_1828
  let v2919 : BitVec 32 := Scalar.muli v2918 c1_i32_1828
  let v2920 : BitVec 32 := Scalar.addi c1_i32_1827 v2919
  let c1_i32_1830 : BitVec 32 := 1#32
  let arg23 : BitVec 32 := Scf.iv v2920 c1_i32_1830 k0_t29
  let c0_i32_4655 : BitVec 32 := 0#32
  let v7106 : BitVec 1 := Scalar.cmpi .eq arg23 c0_i32_4655
  let c1_i32_4656 : BitVec 32 := 1#32
  let v7107 : BitVec 1 := Scalar.cmpi .sgt v17 c1_i32_4656
  let v7108 : BitVec 1 := Scalar.andi v7106 v7107
  let c1_i32_72 : BitVec 32 := 1#32
  let v148 : BitVec 32 := Scalar.addi arg1 c1_i32_72
  let c4_i32_73 : BitVec 32 := 4#32
  let v149 : BitVec 32 := Scalar.muli c4_i32_73 v17
  let v150 : BitVec 32 := Scalar.subi v148 v149
  let c4_i32_4653 : BitVec 32 := 4#32
  let v7103 : BitVec 32 := Scalar.muli arg23 c4_i32_4653
  let v7104 : BitVec 32 := Scalar.addi v150 v7103
  let c0_i32_4654 : BitVec 32 := 0#32
  let v7105 : BitVec 32 := Scalar.maxsi v7104 c0_i32_4654
  let v7109 : BitVec 32 := Scalar.addi v7105 c0_i32_4657
  let c4_i32_4658 : BitVec 32 := 4#32
  let v7110 : BitVec 32 := Scalar.addi v150 c4_i32_4658
  let v7111 : BitVec 1 := Scalar.cmpi .sge v7109 v7110
  let v7112 : BitVec 1 := Scalar.andi v7108 v7111
  let c32_i32_4659 : BitVec 32 := 32#32
  let v7113 : BitVec 32 := Scalar.select v7112 c32_i32_4659 v7109
  let v7141 : Index := Scalar.indexCast v7113
  let c0_4678 : Index := 0#32
  let c0_4679 : Index := 0#32
  ![v7141.toNat, 0, 0]
def k0_off79 (i : grid0.Coords) (k0_t29 : Fin (k0_t29_loop i).trips) (c0_i32_4657 : BitVec 32) : Fin 3 → Nat :=
  let c1_i32_1827 : BitVec 32 := 1#32
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c1_i32_74 : BitVec 32 := 1#32
  let v151 : BitVec 32 := Scalar.subi v17 c1_i32_74
  let v2916 : BitVec 32 := Scalar.subi v151 c1_i32_1827
  let c1_i32_1828 : BitVec 32 := 1#32
  let v2918 : BitVec 32 := Scalar.divsi v2916 c1_i32_1828
  let v2919 : BitVec 32 := Scalar.muli v2918 c1_i32_1828
  let v2920 : BitVec 32 := Scalar.addi c1_i32_1827 v2919
  let c1_i32_1830 : BitVec 32 := 1#32
  let arg23 : BitVec 32 := Scf.iv v2920 c1_i32_1830 k0_t29
  let c0_i32_4655 : BitVec 32 := 0#32
  let v7106 : BitVec 1 := Scalar.cmpi .eq arg23 c0_i32_4655
  let c1_i32_4656 : BitVec 32 := 1#32
  let v7107 : BitVec 1 := Scalar.cmpi .sgt v17 c1_i32_4656
  let v7108 : BitVec 1 := Scalar.andi v7106 v7107
  let c1_i32_72 : BitVec 32 := 1#32
  let v148 : BitVec 32 := Scalar.addi arg1 c1_i32_72
  let c4_i32_73 : BitVec 32 := 4#32
  let v149 : BitVec 32 := Scalar.muli c4_i32_73 v17
  let v150 : BitVec 32 := Scalar.subi v148 v149
  let c4_i32_4653 : BitVec 32 := 4#32
  let v7103 : BitVec 32 := Scalar.muli arg23 c4_i32_4653
  let v7104 : BitVec 32 := Scalar.addi v150 v7103
  let c0_i32_4654 : BitVec 32 := 0#32
  let v7105 : BitVec 32 := Scalar.maxsi v7104 c0_i32_4654
  let v7109 : BitVec 32 := Scalar.addi v7105 c0_i32_4657
  let c4_i32_4658 : BitVec 32 := 4#32
  let v7110 : BitVec 32 := Scalar.addi v150 c4_i32_4658
  let v7111 : BitVec 1 := Scalar.cmpi .sge v7109 v7110
  let v7112 : BitVec 1 := Scalar.andi v7108 v7111
  let c32_i32_4659 : BitVec 32 := 32#32
  let v7113 : BitVec 32 := Scalar.select v7112 c32_i32_4659 v7109
  let v7190 : Index := Scalar.indexCast v7113
  let c64_4706 : Index := 64#32
  let c0_4707 : Index := 0#32
  ![v7190.toNat, 64, 0]
def k0_mult34 (i : grid0.Coords) (k0_t29 : Fin (k0_t29_loop i).trips) : BitVec 32 :=
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_1827 : BitVec 32 := 1#32
  let c1_i32_74 : BitVec 32 := 1#32
  let v151 : BitVec 32 := Scalar.subi v17 c1_i32_74
  let v2916 : BitVec 32 := Scalar.subi v151 c1_i32_1827
  let c1_i32_1828 : BitVec 32 := 1#32
  let v2918 : BitVec 32 := Scalar.divsi v2916 c1_i32_1828
  let v2919 : BitVec 32 := Scalar.muli v2918 c1_i32_1828
  let v2920 : BitVec 32 := Scalar.addi c1_i32_1827 v2919
  let c1_i32_1830 : BitVec 32 := 1#32
  let arg23 : BitVec 32 := Scf.iv v2920 c1_i32_1830 k0_t29
  let c1_i32_5094 : BitVec 32 := 1#32
  let v7796 : BitVec 32 := Scalar.subi arg23 c1_i32_5094
  let c4_i32_5103 : BitVec 32 := 4#32
  let v7804 : BitVec 32 := Scalar.muli v7796 c4_i32_5103
  let v7805 : BitVec 32 := Scalar.addi v150 v7804
  let c0_i32_5104 : BitVec 32 := 0#32
  let v7806 : BitVec 32 := Scalar.maxsi v7805 c0_i32_5104
  let c128_i32_5105 : BitVec 32 := 128#32
  let v7807 : BitVec 32 := Scalar.muli v7806 c128_i32_5105
  v7807
def k0_off80 (i : grid0.Coords) (k0_t29 : Fin (k0_t29_loop i).trips) : Fin 3 → Nat :=
  let c0_5106 : Index := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_1827 : BitVec 32 := 1#32
  let c1_i32_74 : BitVec 32 := 1#32
  let v151 : BitVec 32 := Scalar.subi v17 c1_i32_74
  let v2916 : BitVec 32 := Scalar.subi v151 c1_i32_1827
  let c1_i32_1828 : BitVec 32 := 1#32
  let v2918 : BitVec 32 := Scalar.divsi v2916 c1_i32_1828
  let v2919 : BitVec 32 := Scalar.muli v2918 c1_i32_1828
  let v2920 : BitVec 32 := Scalar.addi c1_i32_1827 v2919
  let c1_i32_1830 : BitVec 32 := 1#32
  let arg23 : BitVec 32 := Scf.iv v2920 c1_i32_1830 k0_t29
  let c1_i32_5094 : BitVec 32 := 1#32
  let v7796 : BitVec 32 := Scalar.subi arg23 c1_i32_5094
  let c4_i32_5103 : BitVec 32 := 4#32
  let v7804 : BitVec 32 := Scalar.muli v7796 c4_i32_5103
  let v7805 : BitVec 32 := Scalar.addi v150 v7804
  let c0_i32_5104 : BitVec 32 := 0#32
  let v7806 : BitVec 32 := Scalar.maxsi v7805 c0_i32_5104
  let c128_i32_5105 : BitVec 32 := 128#32
  let v7807 : BitVec 32 := Scalar.muli v7806 c128_i32_5105
  let v7808 : BitVec 32 := v7807
  let v7809 : Index := Scalar.indexCast v7808
  let c0_5107 : Index := 0#32
  ![0, v7809.toNat, 0]
def k0_mult35 (i : grid0.Coords) (k0_t29 : Fin (k0_t29_loop i).trips) : BitVec 32 :=
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_1827 : BitVec 32 := 1#32
  let c1_i32_74 : BitVec 32 := 1#32
  let v151 : BitVec 32 := Scalar.subi v17 c1_i32_74
  let v2916 : BitVec 32 := Scalar.subi v151 c1_i32_1827
  let c1_i32_1828 : BitVec 32 := 1#32
  let v2918 : BitVec 32 := Scalar.divsi v2916 c1_i32_1828
  let v2919 : BitVec 32 := Scalar.muli v2918 c1_i32_1828
  let v2920 : BitVec 32 := Scalar.addi c1_i32_1827 v2919
  let c1_i32_1830 : BitVec 32 := 1#32
  let arg23 : BitVec 32 := Scf.iv v2920 c1_i32_1830 k0_t29
  let c4_i32_5130 : BitVec 32 := 4#32
  let v7845 : BitVec 32 := Scalar.muli arg23 c4_i32_5130
  let v7846 : BitVec 32 := Scalar.addi v150 v7845
  let c0_i32_5131 : BitVec 32 := 0#32
  let v7847 : BitVec 32 := Scalar.maxsi v7846 c0_i32_5131
  let c128_i32_5132 : BitVec 32 := 128#32
  let v7848 : BitVec 32 := Scalar.muli v7847 c128_i32_5132
  v7848
def k0_mult36 (i : grid0.Coords) (k0_t29 : Fin (k0_t29_loop i).trips) : BitVec 32 :=
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_1827 : BitVec 32 := 1#32
  let c1_i32_74 : BitVec 32 := 1#32
  let v151 : BitVec 32 := Scalar.subi v17 c1_i32_74
  let v2916 : BitVec 32 := Scalar.subi v151 c1_i32_1827
  let c1_i32_1828 : BitVec 32 := 1#32
  let v2918 : BitVec 32 := Scalar.divsi v2916 c1_i32_1828
  let v2919 : BitVec 32 := Scalar.muli v2918 c1_i32_1828
  let v2920 : BitVec 32 := Scalar.addi c1_i32_1827 v2919
  let c1_i32_1830 : BitVec 32 := 1#32
  let arg23 : BitVec 32 := Scf.iv v2920 c1_i32_1830 k0_t29
  let c1_i32_5552 : BitVec 32 := 1#32
  let v8510 : BitVec 32 := Scalar.subi arg23 c1_i32_5552
  let c4_i32_5561 : BitVec 32 := 4#32
  let v8518 : BitVec 32 := Scalar.muli v8510 c4_i32_5561
  let v8519 : BitVec 32 := Scalar.addi v150 v8518
  let c0_i32_5562 : BitVec 32 := 0#32
  let v8520 : BitVec 32 := Scalar.maxsi v8519 c0_i32_5562
  let c128_i32_5563 : BitVec 32 := 128#32
  let v8521 : BitVec 32 := Scalar.muli v8520 c128_i32_5563
  v8521
def k0_mult37 (i : grid0.Coords) (k0_t29 : Fin (k0_t29_loop i).trips) : BitVec 32 :=
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_1827 : BitVec 32 := 1#32
  let c1_i32_74 : BitVec 32 := 1#32
  let v151 : BitVec 32 := Scalar.subi v17 c1_i32_74
  let v2916 : BitVec 32 := Scalar.subi v151 c1_i32_1827
  let c1_i32_1828 : BitVec 32 := 1#32
  let v2918 : BitVec 32 := Scalar.divsi v2916 c1_i32_1828
  let v2919 : BitVec 32 := Scalar.muli v2918 c1_i32_1828
  let v2920 : BitVec 32 := Scalar.addi c1_i32_1827 v2919
  let c1_i32_1830 : BitVec 32 := 1#32
  let arg23 : BitVec 32 := Scf.iv v2920 c1_i32_1830 k0_t29
  let c4_i32_5588 : BitVec 32 := 4#32
  let v8559 : BitVec 32 := Scalar.muli arg23 c4_i32_5588
  let v8560 : BitVec 32 := Scalar.addi v150 v8559
  let c0_i32_5589 : BitVec 32 := 0#32
  let v8561 : BitVec 32 := Scalar.maxsi v8560 c0_i32_5589
  let c128_i32_5590 : BitVec 32 := 128#32
  let v8562 : BitVec 32 := Scalar.muli v8561 c128_i32_5590
  v8562
def k0_mult38 (i : grid0.Coords) (k0_t29 : Fin (k0_t29_loop i).trips) : BitVec 32 :=
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_1827 : BitVec 32 := 1#32
  let c1_i32_74 : BitVec 32 := 1#32
  let v151 : BitVec 32 := Scalar.subi v17 c1_i32_74
  let v2916 : BitVec 32 := Scalar.subi v151 c1_i32_1827
  let c1_i32_1828 : BitVec 32 := 1#32
  let v2918 : BitVec 32 := Scalar.divsi v2916 c1_i32_1828
  let v2919 : BitVec 32 := Scalar.muli v2918 c1_i32_1828
  let v2920 : BitVec 32 := Scalar.addi c1_i32_1827 v2919
  let c1_i32_1830 : BitVec 32 := 1#32
  let arg23 : BitVec 32 := Scf.iv v2920 c1_i32_1830 k0_t29
  let c4_i32_6018 : BitVec 32 := 4#32
  let v9231 : BitVec 32 := Scalar.muli arg23 c4_i32_6018
  let v9232 : BitVec 32 := Scalar.addi v150 v9231
  let c0_i32_6019 : BitVec 32 := 0#32
  let v9233 : BitVec 32 := Scalar.maxsi v9232 c0_i32_6019
  let c128_i32_6020 : BitVec 32 := 128#32
  let v9234 : BitVec 32 := Scalar.muli v9233 c128_i32_6020
  v9234
def k0_mult39 (i : grid0.Coords) (k0_t29 : Fin (k0_t29_loop i).trips) : BitVec 32 :=
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_1827 : BitVec 32 := 1#32
  let c1_i32_74 : BitVec 32 := 1#32
  let v151 : BitVec 32 := Scalar.subi v17 c1_i32_74
  let v2916 : BitVec 32 := Scalar.subi v151 c1_i32_1827
  let c1_i32_1828 : BitVec 32 := 1#32
  let v2918 : BitVec 32 := Scalar.divsi v2916 c1_i32_1828
  let v2919 : BitVec 32 := Scalar.muli v2918 c1_i32_1828
  let v2920 : BitVec 32 := Scalar.addi c1_i32_1827 v2919
  let c1_i32_1830 : BitVec 32 := 1#32
  let arg23 : BitVec 32 := Scf.iv v2920 c1_i32_1830 k0_t29
  let c4_i32_6045 : BitVec 32 := 4#32
  let v9272 : BitVec 32 := Scalar.muli arg23 c4_i32_6045
  let v9273 : BitVec 32 := Scalar.addi v150 v9272
  let c0_i32_6046 : BitVec 32 := 0#32
  let v9274 : BitVec 32 := Scalar.maxsi v9273 c0_i32_6046
  let c128_i32_6047 : BitVec 32 := 128#32
  let v9275 : BitVec 32 := Scalar.muli v9274 c128_i32_6047
  v9275
def k0_mult40 (i : grid0.Coords) (k0_t29 : Fin (k0_t29_loop i).trips) : BitVec 32 :=
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_1827 : BitVec 32 := 1#32
  let c1_i32_74 : BitVec 32 := 1#32
  let v151 : BitVec 32 := Scalar.subi v17 c1_i32_74
  let v2916 : BitVec 32 := Scalar.subi v151 c1_i32_1827
  let c1_i32_1828 : BitVec 32 := 1#32
  let v2918 : BitVec 32 := Scalar.divsi v2916 c1_i32_1828
  let v2919 : BitVec 32 := Scalar.muli v2918 c1_i32_1828
  let v2920 : BitVec 32 := Scalar.addi c1_i32_1827 v2919
  let c1_i32_1830 : BitVec 32 := 1#32
  let arg23 : BitVec 32 := Scf.iv v2920 c1_i32_1830 k0_t29
  let c4_i32_6475 : BitVec 32 := 4#32
  let v9944 : BitVec 32 := Scalar.muli arg23 c4_i32_6475
  let v9945 : BitVec 32 := Scalar.addi v150 v9944
  let c0_i32_6476 : BitVec 32 := 0#32
  let v9946 : BitVec 32 := Scalar.maxsi v9945 c0_i32_6476
  let c128_i32_6477 : BitVec 32 := 128#32
  let v9947 : BitVec 32 := Scalar.muli v9946 c128_i32_6477
  v9947
def k0_mult41 (i : grid0.Coords) : BitVec 32 :=
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_1850 : BitVec 32 := 4#32
  let v2949 : BitVec 32 := Scalar.muli v151 c4_i32_1850
  let v2950 : BitVec 32 := Scalar.addi v150 v2949
  let c0_i32_1851 : BitVec 32 := 0#32
  let v2951 : BitVec 32 := Scalar.maxsi v2950 c0_i32_1851
  let c128_i32_1852 : BitVec 32 := 128#32
  let v2952 : BitVec 32 := Scalar.muli v2951 c128_i32_1852
  v2952
def k0_off81 (i : grid0.Coords) : Fin 3 → Nat :=
  let c0_1853 : Index := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_1850 : BitVec 32 := 4#32
  let v2949 : BitVec 32 := Scalar.muli v151 c4_i32_1850
  let v2950 : BitVec 32 := Scalar.addi v150 v2949
  let c0_i32_1851 : BitVec 32 := 0#32
  let v2951 : BitVec 32 := Scalar.maxsi v2950 c0_i32_1851
  let c128_i32_1852 : BitVec 32 := 128#32
  let v2952 : BitVec 32 := Scalar.muli v2951 c128_i32_1852
  let v2953 : BitVec 32 := v2952
  let v2954 : Index := Scalar.indexCast v2953
  let c0_1854 : Index := 0#32
  ![0, v2954.toNat, 0]
def k0_off82 (i : grid0.Coords) (c0_i32_1835 : BitVec 32) : Fin 3 → Nat :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c1_i32_74 : BitVec 32 := 1#32
  let v151 : BitVec 32 := Scalar.subi v17 c1_i32_74
  let c0_i32_1833 : BitVec 32 := 0#32
  let v2924 : BitVec 1 := Scalar.cmpi .eq v151 c0_i32_1833
  let c1_i32_1834 : BitVec 32 := 1#32
  let v2925 : BitVec 1 := Scalar.cmpi .sgt v17 c1_i32_1834
  let v2926 : BitVec 1 := Scalar.andi v2924 v2925
  let c1_i32_72 : BitVec 32 := 1#32
  let v148 : BitVec 32 := Scalar.addi arg1 c1_i32_72
  let c4_i32_73 : BitVec 32 := 4#32
  let v149 : BitVec 32 := Scalar.muli c4_i32_73 v17
  let v150 : BitVec 32 := Scalar.subi v148 v149
  let c4_i32_1831 : BitVec 32 := 4#32
  let v2921 : BitVec 32 := Scalar.muli v151 c4_i32_1831
  let v2922 : BitVec 32 := Scalar.addi v150 v2921
  let c0_i32_1832 : BitVec 32 := 0#32
  let v2923 : BitVec 32 := Scalar.maxsi v2922 c0_i32_1832
  let v2927 : BitVec 32 := Scalar.addi v2923 c0_i32_1835
  let c4_i32_1836 : BitVec 32 := 4#32
  let v2928 : BitVec 32 := Scalar.addi v150 c4_i32_1836
  let v2929 : BitVec 1 := Scalar.cmpi .sge v2927 v2928
  let v2930 : BitVec 1 := Scalar.andi v2926 v2929
  let c32_i32_1837 : BitVec 32 := 32#32
  let v2931 : BitVec 32 := Scalar.select v2930 c32_i32_1837 v2927
  let v2959 : Index := Scalar.indexCast v2931
  let c0_1856 : Index := 0#32
  let c0_1857 : Index := 0#32
  ![v2959.toNat, 0, 0]
def k0_off83 (i : grid0.Coords) (c0_i32_1858 : BitVec 32) : Fin 4 → Nat :=
  let c2_i32_1860 : BitVec 32 := 2#32
  let c0_i32_1859 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_1831 : BitVec 32 := 4#32
  let v2921 : BitVec 32 := Scalar.muli v151 c4_i32_1831
  let v2922 : BitVec 32 := Scalar.addi v150 v2921
  let c0_i32_1832 : BitVec 32 := 0#32
  let v2923 : BitVec 32 := Scalar.maxsi v2922 c0_i32_1832
  let v2963 : BitVec 32 := Scalar.addi v2923 c0_i32_1858
  let v2964 : BitVec 32 := Scalar.subi arg1 v2963
  let v2965 : BitVec 32 := Scalar.maxsi c0_i32_1859 v2964
  let v2966 : BitVec 32 := Scalar.minsi c2_i32_1860 v2965
  let v2967 : Index := Scalar.indexCast v2966
  let c0_1861 : Index := 0#32
  let c0_1862 : Index := 0#32
  let c0_1863 : Index := 0#32
  ![v2967.toNat, 0, 0, 0]
def k0_off84 (i : grid0.Coords) (c0_i32_1835 : BitVec 32) : Fin 3 → Nat :=
  let arg1 : BitVec 32 := BitVec.ofNat 32 (i 1).val
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let c1_i32_74 : BitVec 32 := 1#32
  let v151 : BitVec 32 := Scalar.subi v17 c1_i32_74
  let c0_i32_1833 : BitVec 32 := 0#32
  let v2924 : BitVec 1 := Scalar.cmpi .eq v151 c0_i32_1833
  let c1_i32_1834 : BitVec 32 := 1#32
  let v2925 : BitVec 1 := Scalar.cmpi .sgt v17 c1_i32_1834
  let v2926 : BitVec 1 := Scalar.andi v2924 v2925
  let c1_i32_72 : BitVec 32 := 1#32
  let v148 : BitVec 32 := Scalar.addi arg1 c1_i32_72
  let c4_i32_73 : BitVec 32 := 4#32
  let v149 : BitVec 32 := Scalar.muli c4_i32_73 v17
  let v150 : BitVec 32 := Scalar.subi v148 v149
  let c4_i32_1831 : BitVec 32 := 4#32
  let v2921 : BitVec 32 := Scalar.muli v151 c4_i32_1831
  let v2922 : BitVec 32 := Scalar.addi v150 v2921
  let c0_i32_1832 : BitVec 32 := 0#32
  let v2923 : BitVec 32 := Scalar.maxsi v2922 c0_i32_1832
  let v2927 : BitVec 32 := Scalar.addi v2923 c0_i32_1835
  let c4_i32_1836 : BitVec 32 := 4#32
  let v2928 : BitVec 32 := Scalar.addi v150 c4_i32_1836
  let v2929 : BitVec 1 := Scalar.cmpi .sge v2927 v2928
  let v2930 : BitVec 1 := Scalar.andi v2926 v2929
  let c32_i32_1837 : BitVec 32 := 32#32
  let v2931 : BitVec 32 := Scalar.select v2930 c32_i32_1837 v2927
  let v3040 : Index := Scalar.indexCast v2931
  let c64_1908 : Index := 64#32
  let c0_1909 : Index := 0#32
  ![v3040.toNat, 64, 0]
def k0_off85 (i : grid0.Coords) (c0_i32_1910 : BitVec 32) : Fin 4 → Nat :=
  let c2_i32_1912 : BitVec 32 := 2#32
  let c0_i32_1911 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_1831 : BitVec 32 := 4#32
  let v2921 : BitVec 32 := Scalar.muli v151 c4_i32_1831
  let v2922 : BitVec 32 := Scalar.addi v150 v2921
  let c0_i32_1832 : BitVec 32 := 0#32
  let v2923 : BitVec 32 := Scalar.maxsi v2922 c0_i32_1832
  let v3044 : BitVec 32 := Scalar.addi v2923 c0_i32_1910
  let v3045 : BitVec 32 := Scalar.subi arg1 v3044
  let v3046 : BitVec 32 := Scalar.maxsi c0_i32_1911 v3045
  let v3047 : BitVec 32 := Scalar.minsi c2_i32_1912 v3046
  let v3048 : Index := Scalar.indexCast v3047
  let c0_1913 : Index := 0#32
  let c64_1914 : Index := 64#32
  let c0_1915 : Index := 0#32
  ![v3048.toNat, 0, 64, 0]
def k0_off86 (i : grid0.Coords) (c0_i32_1962 : BitVec 32) : Fin 4 → Nat :=
  let c2_i32_1964 : BitVec 32 := 2#32
  let c0_i32_1963 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_1831 : BitVec 32 := 4#32
  let v2921 : BitVec 32 := Scalar.muli v151 c4_i32_1831
  let v2922 : BitVec 32 := Scalar.addi v150 v2921
  let c0_i32_1832 : BitVec 32 := 0#32
  let v2923 : BitVec 32 := Scalar.maxsi v2922 c0_i32_1832
  let v3125 : BitVec 32 := Scalar.addi v2923 c0_i32_1962
  let v3126 : BitVec 32 := Scalar.subi arg1 v3125
  let v3127 : BitVec 32 := Scalar.maxsi c0_i32_1963 v3126
  let v3128 : BitVec 32 := Scalar.minsi c2_i32_1964 v3127
  let v3129 : Index := Scalar.indexCast v3128
  let c1_1965 : Index := 1#32
  let c0_1966 : Index := 0#32
  let c0_1967 : Index := 0#32
  ![v3129.toNat, 1, 0, 0]
def k0_off87 (i : grid0.Coords) (c0_i32_2014 : BitVec 32) : Fin 4 → Nat :=
  let c2_i32_2016 : BitVec 32 := 2#32
  let c0_i32_2015 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_1831 : BitVec 32 := 4#32
  let v2921 : BitVec 32 := Scalar.muli v151 c4_i32_1831
  let v2922 : BitVec 32 := Scalar.addi v150 v2921
  let c0_i32_1832 : BitVec 32 := 0#32
  let v2923 : BitVec 32 := Scalar.maxsi v2922 c0_i32_1832
  let v3206 : BitVec 32 := Scalar.addi v2923 c0_i32_2014
  let v3207 : BitVec 32 := Scalar.subi arg1 v3206
  let v3208 : BitVec 32 := Scalar.maxsi c0_i32_2015 v3207
  let v3209 : BitVec 32 := Scalar.minsi c2_i32_2016 v3208
  let v3210 : Index := Scalar.indexCast v3209
  let c1_2017 : Index := 1#32
  let c64_2018 : Index := 64#32
  let c0_2019 : Index := 0#32
  ![v3210.toNat, 1, 64, 0]
def k0_off88 (i : grid0.Coords) (c0_i32_2066 : BitVec 32) : Fin 4 → Nat :=
  let c2_i32_2068 : BitVec 32 := 2#32
  let c0_i32_2067 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_1831 : BitVec 32 := 4#32
  let v2921 : BitVec 32 := Scalar.muli v151 c4_i32_1831
  let v2922 : BitVec 32 := Scalar.addi v150 v2921
  let c0_i32_1832 : BitVec 32 := 0#32
  let v2923 : BitVec 32 := Scalar.maxsi v2922 c0_i32_1832
  let v3287 : BitVec 32 := Scalar.addi v2923 c0_i32_2066
  let v3288 : BitVec 32 := Scalar.subi arg1 v3287
  let v3289 : BitVec 32 := Scalar.maxsi c0_i32_2067 v3288
  let v3290 : BitVec 32 := Scalar.minsi c2_i32_2068 v3289
  let v3291 : Index := Scalar.indexCast v3290
  let c2_2069 : Index := 2#32
  let c0_2070 : Index := 0#32
  let c0_2071 : Index := 0#32
  ![v3291.toNat, 2, 0, 0]
def k0_off89 (i : grid0.Coords) (c0_i32_2118 : BitVec 32) : Fin 4 → Nat :=
  let c2_i32_2120 : BitVec 32 := 2#32
  let c0_i32_2119 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_1831 : BitVec 32 := 4#32
  let v2921 : BitVec 32 := Scalar.muli v151 c4_i32_1831
  let v2922 : BitVec 32 := Scalar.addi v150 v2921
  let c0_i32_1832 : BitVec 32 := 0#32
  let v2923 : BitVec 32 := Scalar.maxsi v2922 c0_i32_1832
  let v3368 : BitVec 32 := Scalar.addi v2923 c0_i32_2118
  let v3369 : BitVec 32 := Scalar.subi arg1 v3368
  let v3370 : BitVec 32 := Scalar.maxsi c0_i32_2119 v3369
  let v3371 : BitVec 32 := Scalar.minsi c2_i32_2120 v3370
  let v3372 : Index := Scalar.indexCast v3371
  let c2_2121 : Index := 2#32
  let c64_2122 : Index := 64#32
  let c0_2123 : Index := 0#32
  ![v3372.toNat, 2, 64, 0]
def k0_off90 (i : grid0.Coords) (c0_i32_2170 : BitVec 32) : Fin 4 → Nat :=
  let c2_i32_2172 : BitVec 32 := 2#32
  let c0_i32_2171 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_1831 : BitVec 32 := 4#32
  let v2921 : BitVec 32 := Scalar.muli v151 c4_i32_1831
  let v2922 : BitVec 32 := Scalar.addi v150 v2921
  let c0_i32_1832 : BitVec 32 := 0#32
  let v2923 : BitVec 32 := Scalar.maxsi v2922 c0_i32_1832
  let v3449 : BitVec 32 := Scalar.addi v2923 c0_i32_2170
  let v3450 : BitVec 32 := Scalar.subi arg1 v3449
  let v3451 : BitVec 32 := Scalar.maxsi c0_i32_2171 v3450
  let v3452 : BitVec 32 := Scalar.minsi c2_i32_2172 v3451
  let v3453 : Index := Scalar.indexCast v3452
  let c3_2173 : Index := 3#32
  let c0_2174 : Index := 0#32
  let c0_2175 : Index := 0#32
  ![v3453.toNat, 3, 0, 0]
def k0_off91 (i : grid0.Coords) (c0_i32_2222 : BitVec 32) : Fin 4 → Nat :=
  let c2_i32_2224 : BitVec 32 := 2#32
  let c0_i32_2223 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_1831 : BitVec 32 := 4#32
  let v2921 : BitVec 32 := Scalar.muli v151 c4_i32_1831
  let v2922 : BitVec 32 := Scalar.addi v150 v2921
  let c0_i32_1832 : BitVec 32 := 0#32
  let v2923 : BitVec 32 := Scalar.maxsi v2922 c0_i32_1832
  let v3530 : BitVec 32 := Scalar.addi v2923 c0_i32_2222
  let v3531 : BitVec 32 := Scalar.subi arg1 v3530
  let v3532 : BitVec 32 := Scalar.maxsi c0_i32_2223 v3531
  let v3533 : BitVec 32 := Scalar.minsi c2_i32_2224 v3532
  let v3534 : Index := Scalar.indexCast v3533
  let c3_2225 : Index := 3#32
  let c64_2226 : Index := 64#32
  let c0_2227 : Index := 0#32
  ![v3534.toNat, 3, 64, 0]
def k0_mult42 (i : grid0.Coords) : BitVec 32 :=
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c1_i32_2464 : BitVec 32 := 1#32
  let v3870 : BitVec 32 := Scalar.subi v151 c1_i32_2464
  let c4_i32_2473 : BitVec 32 := 4#32
  let v3878 : BitVec 32 := Scalar.muli v3870 c4_i32_2473
  let v3879 : BitVec 32 := Scalar.addi v150 v3878
  let c0_i32_2474 : BitVec 32 := 0#32
  let v3880 : BitVec 32 := Scalar.maxsi v3879 c0_i32_2474
  let c128_i32_2475 : BitVec 32 := 128#32
  let v3881 : BitVec 32 := Scalar.muli v3880 c128_i32_2475
  v3881
def k0_off92 (i : grid0.Coords) : Fin 3 → Nat :=
  let c0_2476 : Index := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c1_i32_2464 : BitVec 32 := 1#32
  let v3870 : BitVec 32 := Scalar.subi v151 c1_i32_2464
  let c4_i32_2473 : BitVec 32 := 4#32
  let v3878 : BitVec 32 := Scalar.muli v3870 c4_i32_2473
  let v3879 : BitVec 32 := Scalar.addi v150 v3878
  let c0_i32_2474 : BitVec 32 := 0#32
  let v3880 : BitVec 32 := Scalar.maxsi v3879 c0_i32_2474
  let c128_i32_2475 : BitVec 32 := 128#32
  let v3881 : BitVec 32 := Scalar.muli v3880 c128_i32_2475
  let v3882 : BitVec 32 := v3881
  let v3883 : Index := Scalar.indexCast v3882
  let c0_2477 : Index := 0#32
  ![0, v3883.toNat, 0]
def k0_mult43 (i : grid0.Coords) : BitVec 32 :=
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_2500 : BitVec 32 := 4#32
  let v3919 : BitVec 32 := Scalar.muli v151 c4_i32_2500
  let v3920 : BitVec 32 := Scalar.addi v150 v3919
  let c0_i32_2501 : BitVec 32 := 0#32
  let v3921 : BitVec 32 := Scalar.maxsi v3920 c0_i32_2501
  let c128_i32_2502 : BitVec 32 := 128#32
  let v3922 : BitVec 32 := Scalar.muli v3921 c128_i32_2502
  v3922
def k0_off93 (i : grid0.Coords) (c0_i32_2508 : BitVec 32) : Fin 4 → Nat :=
  let c2_i32_2510 : BitVec 32 := 2#32
  let c0_i32_2509 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_2481 : BitVec 32 := 4#32
  let v3891 : BitVec 32 := Scalar.muli v151 c4_i32_2481
  let v3892 : BitVec 32 := Scalar.addi v150 v3891
  let c0_i32_2482 : BitVec 32 := 0#32
  let v3893 : BitVec 32 := Scalar.maxsi v3892 c0_i32_2482
  let v3933 : BitVec 32 := Scalar.addi v3893 c0_i32_2508
  let v3934 : BitVec 32 := Scalar.subi arg1 v3933
  let v3935 : BitVec 32 := Scalar.maxsi c0_i32_2509 v3934
  let v3936 : BitVec 32 := Scalar.minsi c2_i32_2510 v3935
  let v3937 : Index := Scalar.indexCast v3936
  let c4_2511 : Index := 4#32
  let c0_2512 : Index := 0#32
  let c0_2513 : Index := 0#32
  ![v3937.toNat, 4, 0, 0]
def k0_off94 (i : grid0.Coords) (c0_i32_2560 : BitVec 32) : Fin 4 → Nat :=
  let c2_i32_2562 : BitVec 32 := 2#32
  let c0_i32_2561 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_2481 : BitVec 32 := 4#32
  let v3891 : BitVec 32 := Scalar.muli v151 c4_i32_2481
  let v3892 : BitVec 32 := Scalar.addi v150 v3891
  let c0_i32_2482 : BitVec 32 := 0#32
  let v3893 : BitVec 32 := Scalar.maxsi v3892 c0_i32_2482
  let v4014 : BitVec 32 := Scalar.addi v3893 c0_i32_2560
  let v4015 : BitVec 32 := Scalar.subi arg1 v4014
  let v4016 : BitVec 32 := Scalar.maxsi c0_i32_2561 v4015
  let v4017 : BitVec 32 := Scalar.minsi c2_i32_2562 v4016
  let v4018 : Index := Scalar.indexCast v4017
  let c4_2563 : Index := 4#32
  let c64_2564 : Index := 64#32
  let c0_2565 : Index := 0#32
  ![v4018.toNat, 4, 64, 0]
def k0_off95 (i : grid0.Coords) (c0_i32_2612 : BitVec 32) : Fin 4 → Nat :=
  let c2_i32_2614 : BitVec 32 := 2#32
  let c0_i32_2613 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_2481 : BitVec 32 := 4#32
  let v3891 : BitVec 32 := Scalar.muli v151 c4_i32_2481
  let v3892 : BitVec 32 := Scalar.addi v150 v3891
  let c0_i32_2482 : BitVec 32 := 0#32
  let v3893 : BitVec 32 := Scalar.maxsi v3892 c0_i32_2482
  let v4095 : BitVec 32 := Scalar.addi v3893 c0_i32_2612
  let v4096 : BitVec 32 := Scalar.subi arg1 v4095
  let v4097 : BitVec 32 := Scalar.maxsi c0_i32_2613 v4096
  let v4098 : BitVec 32 := Scalar.minsi c2_i32_2614 v4097
  let v4099 : Index := Scalar.indexCast v4098
  let c5_2615 : Index := 5#32
  let c0_2616 : Index := 0#32
  let c0_2617 : Index := 0#32
  ![v4099.toNat, 5, 0, 0]
def k0_off96 (i : grid0.Coords) (c0_i32_2664 : BitVec 32) : Fin 4 → Nat :=
  let c2_i32_2666 : BitVec 32 := 2#32
  let c0_i32_2665 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_2481 : BitVec 32 := 4#32
  let v3891 : BitVec 32 := Scalar.muli v151 c4_i32_2481
  let v3892 : BitVec 32 := Scalar.addi v150 v3891
  let c0_i32_2482 : BitVec 32 := 0#32
  let v3893 : BitVec 32 := Scalar.maxsi v3892 c0_i32_2482
  let v4176 : BitVec 32 := Scalar.addi v3893 c0_i32_2664
  let v4177 : BitVec 32 := Scalar.subi arg1 v4176
  let v4178 : BitVec 32 := Scalar.maxsi c0_i32_2665 v4177
  let v4179 : BitVec 32 := Scalar.minsi c2_i32_2666 v4178
  let v4180 : Index := Scalar.indexCast v4179
  let c5_2667 : Index := 5#32
  let c64_2668 : Index := 64#32
  let c0_2669 : Index := 0#32
  ![v4180.toNat, 5, 64, 0]
def k0_off97 (i : grid0.Coords) (c0_i32_2716 : BitVec 32) : Fin 4 → Nat :=
  let c2_i32_2718 : BitVec 32 := 2#32
  let c0_i32_2717 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_2481 : BitVec 32 := 4#32
  let v3891 : BitVec 32 := Scalar.muli v151 c4_i32_2481
  let v3892 : BitVec 32 := Scalar.addi v150 v3891
  let c0_i32_2482 : BitVec 32 := 0#32
  let v3893 : BitVec 32 := Scalar.maxsi v3892 c0_i32_2482
  let v4257 : BitVec 32 := Scalar.addi v3893 c0_i32_2716
  let v4258 : BitVec 32 := Scalar.subi arg1 v4257
  let v4259 : BitVec 32 := Scalar.maxsi c0_i32_2717 v4258
  let v4260 : BitVec 32 := Scalar.minsi c2_i32_2718 v4259
  let v4261 : Index := Scalar.indexCast v4260
  let c6_2719 : Index := 6#32
  let c0_2720 : Index := 0#32
  let c0_2721 : Index := 0#32
  ![v4261.toNat, 6, 0, 0]
def k0_off98 (i : grid0.Coords) (c0_i32_2768 : BitVec 32) : Fin 4 → Nat :=
  let c2_i32_2770 : BitVec 32 := 2#32
  let c0_i32_2769 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_2481 : BitVec 32 := 4#32
  let v3891 : BitVec 32 := Scalar.muli v151 c4_i32_2481
  let v3892 : BitVec 32 := Scalar.addi v150 v3891
  let c0_i32_2482 : BitVec 32 := 0#32
  let v3893 : BitVec 32 := Scalar.maxsi v3892 c0_i32_2482
  let v4338 : BitVec 32 := Scalar.addi v3893 c0_i32_2768
  let v4339 : BitVec 32 := Scalar.subi arg1 v4338
  let v4340 : BitVec 32 := Scalar.maxsi c0_i32_2769 v4339
  let v4341 : BitVec 32 := Scalar.minsi c2_i32_2770 v4340
  let v4342 : Index := Scalar.indexCast v4341
  let c6_2771 : Index := 6#32
  let c64_2772 : Index := 64#32
  let c0_2773 : Index := 0#32
  ![v4342.toNat, 6, 64, 0]
def k0_off99 (i : grid0.Coords) (c0_i32_2820 : BitVec 32) : Fin 4 → Nat :=
  let c2_i32_2822 : BitVec 32 := 2#32
  let c0_i32_2821 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_2481 : BitVec 32 := 4#32
  let v3891 : BitVec 32 := Scalar.muli v151 c4_i32_2481
  let v3892 : BitVec 32 := Scalar.addi v150 v3891
  let c0_i32_2482 : BitVec 32 := 0#32
  let v3893 : BitVec 32 := Scalar.maxsi v3892 c0_i32_2482
  let v4419 : BitVec 32 := Scalar.addi v3893 c0_i32_2820
  let v4420 : BitVec 32 := Scalar.subi arg1 v4419
  let v4421 : BitVec 32 := Scalar.maxsi c0_i32_2821 v4420
  let v4422 : BitVec 32 := Scalar.minsi c2_i32_2822 v4421
  let v4423 : Index := Scalar.indexCast v4422
  let c7_2823 : Index := 7#32
  let c0_2824 : Index := 0#32
  let c0_2825 : Index := 0#32
  ![v4423.toNat, 7, 0, 0]
def k0_off100 (i : grid0.Coords) (c0_i32_2872 : BitVec 32) : Fin 4 → Nat :=
  let c2_i32_2874 : BitVec 32 := 2#32
  let c0_i32_2873 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_2481 : BitVec 32 := 4#32
  let v3891 : BitVec 32 := Scalar.muli v151 c4_i32_2481
  let v3892 : BitVec 32 := Scalar.addi v150 v3891
  let c0_i32_2482 : BitVec 32 := 0#32
  let v3893 : BitVec 32 := Scalar.maxsi v3892 c0_i32_2482
  let v4500 : BitVec 32 := Scalar.addi v3893 c0_i32_2872
  let v4501 : BitVec 32 := Scalar.subi arg1 v4500
  let v4502 : BitVec 32 := Scalar.maxsi c0_i32_2873 v4501
  let v4503 : BitVec 32 := Scalar.minsi c2_i32_2874 v4502
  let v4504 : Index := Scalar.indexCast v4503
  let c7_2875 : Index := 7#32
  let c64_2876 : Index := 64#32
  let c0_2877 : Index := 0#32
  ![v4504.toNat, 7, 64, 0]
def k0_mult44 (i : grid0.Coords) : BitVec 32 :=
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c1_i32_3114 : BitVec 32 := 1#32
  let v4840 : BitVec 32 := Scalar.subi v151 c1_i32_3114
  let c4_i32_3123 : BitVec 32 := 4#32
  let v4848 : BitVec 32 := Scalar.muli v4840 c4_i32_3123
  let v4849 : BitVec 32 := Scalar.addi v150 v4848
  let c0_i32_3124 : BitVec 32 := 0#32
  let v4850 : BitVec 32 := Scalar.maxsi v4849 c0_i32_3124
  let c128_i32_3125 : BitVec 32 := 128#32
  let v4851 : BitVec 32 := Scalar.muli v4850 c128_i32_3125
  v4851
def k0_mult45 (i : grid0.Coords) : BitVec 32 :=
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_3150 : BitVec 32 := 4#32
  let v4889 : BitVec 32 := Scalar.muli v151 c4_i32_3150
  let v4890 : BitVec 32 := Scalar.addi v150 v4889
  let c0_i32_3151 : BitVec 32 := 0#32
  let v4891 : BitVec 32 := Scalar.maxsi v4890 c0_i32_3151
  let c128_i32_3152 : BitVec 32 := 128#32
  let v4892 : BitVec 32 := Scalar.muli v4891 c128_i32_3152
  v4892
def k0_off101 (i : grid0.Coords) (c0_i32_3158 : BitVec 32) : Fin 4 → Nat :=
  let c2_i32_3160 : BitVec 32 := 2#32
  let c0_i32_3159 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_3131 : BitVec 32 := 4#32
  let v4861 : BitVec 32 := Scalar.muli v151 c4_i32_3131
  let v4862 : BitVec 32 := Scalar.addi v150 v4861
  let c0_i32_3132 : BitVec 32 := 0#32
  let v4863 : BitVec 32 := Scalar.maxsi v4862 c0_i32_3132
  let v4903 : BitVec 32 := Scalar.addi v4863 c0_i32_3158
  let v4904 : BitVec 32 := Scalar.subi arg1 v4903
  let v4905 : BitVec 32 := Scalar.maxsi c0_i32_3159 v4904
  let v4906 : BitVec 32 := Scalar.minsi c2_i32_3160 v4905
  let v4907 : Index := Scalar.indexCast v4906
  let c8_3161 : Index := 8#32
  let c0_3162 : Index := 0#32
  let c0_3163 : Index := 0#32
  ![v4907.toNat, 8, 0, 0]
def k0_off102 (i : grid0.Coords) (c0_i32_3210 : BitVec 32) : Fin 4 → Nat :=
  let c2_i32_3212 : BitVec 32 := 2#32
  let c0_i32_3211 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_3131 : BitVec 32 := 4#32
  let v4861 : BitVec 32 := Scalar.muli v151 c4_i32_3131
  let v4862 : BitVec 32 := Scalar.addi v150 v4861
  let c0_i32_3132 : BitVec 32 := 0#32
  let v4863 : BitVec 32 := Scalar.maxsi v4862 c0_i32_3132
  let v4984 : BitVec 32 := Scalar.addi v4863 c0_i32_3210
  let v4985 : BitVec 32 := Scalar.subi arg1 v4984
  let v4986 : BitVec 32 := Scalar.maxsi c0_i32_3211 v4985
  let v4987 : BitVec 32 := Scalar.minsi c2_i32_3212 v4986
  let v4988 : Index := Scalar.indexCast v4987
  let c8_3213 : Index := 8#32
  let c64_3214 : Index := 64#32
  let c0_3215 : Index := 0#32
  ![v4988.toNat, 8, 64, 0]
def k0_off103 (i : grid0.Coords) (c0_i32_3262 : BitVec 32) : Fin 4 → Nat :=
  let c2_i32_3264 : BitVec 32 := 2#32
  let c0_i32_3263 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_3131 : BitVec 32 := 4#32
  let v4861 : BitVec 32 := Scalar.muli v151 c4_i32_3131
  let v4862 : BitVec 32 := Scalar.addi v150 v4861
  let c0_i32_3132 : BitVec 32 := 0#32
  let v4863 : BitVec 32 := Scalar.maxsi v4862 c0_i32_3132
  let v5065 : BitVec 32 := Scalar.addi v4863 c0_i32_3262
  let v5066 : BitVec 32 := Scalar.subi arg1 v5065
  let v5067 : BitVec 32 := Scalar.maxsi c0_i32_3263 v5066
  let v5068 : BitVec 32 := Scalar.minsi c2_i32_3264 v5067
  let v5069 : Index := Scalar.indexCast v5068
  let c9_3265 : Index := 9#32
  let c0_3266 : Index := 0#32
  let c0_3267 : Index := 0#32
  ![v5069.toNat, 9, 0, 0]
def k0_off104 (i : grid0.Coords) (c0_i32_3314 : BitVec 32) : Fin 4 → Nat :=
  let c2_i32_3316 : BitVec 32 := 2#32
  let c0_i32_3315 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_3131 : BitVec 32 := 4#32
  let v4861 : BitVec 32 := Scalar.muli v151 c4_i32_3131
  let v4862 : BitVec 32 := Scalar.addi v150 v4861
  let c0_i32_3132 : BitVec 32 := 0#32
  let v4863 : BitVec 32 := Scalar.maxsi v4862 c0_i32_3132
  let v5146 : BitVec 32 := Scalar.addi v4863 c0_i32_3314
  let v5147 : BitVec 32 := Scalar.subi arg1 v5146
  let v5148 : BitVec 32 := Scalar.maxsi c0_i32_3315 v5147
  let v5149 : BitVec 32 := Scalar.minsi c2_i32_3316 v5148
  let v5150 : Index := Scalar.indexCast v5149
  let c9_3317 : Index := 9#32
  let c64_3318 : Index := 64#32
  let c0_3319 : Index := 0#32
  ![v5150.toNat, 9, 64, 0]
def k0_off105 (i : grid0.Coords) (c0_i32_3366 : BitVec 32) : Fin 4 → Nat :=
  let c2_i32_3368 : BitVec 32 := 2#32
  let c0_i32_3367 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_3131 : BitVec 32 := 4#32
  let v4861 : BitVec 32 := Scalar.muli v151 c4_i32_3131
  let v4862 : BitVec 32 := Scalar.addi v150 v4861
  let c0_i32_3132 : BitVec 32 := 0#32
  let v4863 : BitVec 32 := Scalar.maxsi v4862 c0_i32_3132
  let v5227 : BitVec 32 := Scalar.addi v4863 c0_i32_3366
  let v5228 : BitVec 32 := Scalar.subi arg1 v5227
  let v5229 : BitVec 32 := Scalar.maxsi c0_i32_3367 v5228
  let v5230 : BitVec 32 := Scalar.minsi c2_i32_3368 v5229
  let v5231 : Index := Scalar.indexCast v5230
  let c10_3369 : Index := 10#32
  let c0_3370 : Index := 0#32
  let c0_3371 : Index := 0#32
  ![v5231.toNat, 10, 0, 0]
def k0_off106 (i : grid0.Coords) (c0_i32_3418 : BitVec 32) : Fin 4 → Nat :=
  let c2_i32_3420 : BitVec 32 := 2#32
  let c0_i32_3419 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_3131 : BitVec 32 := 4#32
  let v4861 : BitVec 32 := Scalar.muli v151 c4_i32_3131
  let v4862 : BitVec 32 := Scalar.addi v150 v4861
  let c0_i32_3132 : BitVec 32 := 0#32
  let v4863 : BitVec 32 := Scalar.maxsi v4862 c0_i32_3132
  let v5308 : BitVec 32 := Scalar.addi v4863 c0_i32_3418
  let v5309 : BitVec 32 := Scalar.subi arg1 v5308
  let v5310 : BitVec 32 := Scalar.maxsi c0_i32_3419 v5309
  let v5311 : BitVec 32 := Scalar.minsi c2_i32_3420 v5310
  let v5312 : Index := Scalar.indexCast v5311
  let c10_3421 : Index := 10#32
  let c64_3422 : Index := 64#32
  let c0_3423 : Index := 0#32
  ![v5312.toNat, 10, 64, 0]
def k0_off107 (i : grid0.Coords) (c0_i32_3470 : BitVec 32) : Fin 4 → Nat :=
  let c2_i32_3472 : BitVec 32 := 2#32
  let c0_i32_3471 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_3131 : BitVec 32 := 4#32
  let v4861 : BitVec 32 := Scalar.muli v151 c4_i32_3131
  let v4862 : BitVec 32 := Scalar.addi v150 v4861
  let c0_i32_3132 : BitVec 32 := 0#32
  let v4863 : BitVec 32 := Scalar.maxsi v4862 c0_i32_3132
  let v5389 : BitVec 32 := Scalar.addi v4863 c0_i32_3470
  let v5390 : BitVec 32 := Scalar.subi arg1 v5389
  let v5391 : BitVec 32 := Scalar.maxsi c0_i32_3471 v5390
  let v5392 : BitVec 32 := Scalar.minsi c2_i32_3472 v5391
  let v5393 : Index := Scalar.indexCast v5392
  let c11_3473 : Index := 11#32
  let c0_3474 : Index := 0#32
  let c0_3475 : Index := 0#32
  ![v5393.toNat, 11, 0, 0]
def k0_off108 (i : grid0.Coords) (c0_i32_3522 : BitVec 32) : Fin 4 → Nat :=
  let c2_i32_3524 : BitVec 32 := 2#32
  let c0_i32_3523 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_3131 : BitVec 32 := 4#32
  let v4861 : BitVec 32 := Scalar.muli v151 c4_i32_3131
  let v4862 : BitVec 32 := Scalar.addi v150 v4861
  let c0_i32_3132 : BitVec 32 := 0#32
  let v4863 : BitVec 32 := Scalar.maxsi v4862 c0_i32_3132
  let v5470 : BitVec 32 := Scalar.addi v4863 c0_i32_3522
  let v5471 : BitVec 32 := Scalar.subi arg1 v5470
  let v5472 : BitVec 32 := Scalar.maxsi c0_i32_3523 v5471
  let v5473 : BitVec 32 := Scalar.minsi c2_i32_3524 v5472
  let v5474 : Index := Scalar.indexCast v5473
  let c11_3525 : Index := 11#32
  let c64_3526 : Index := 64#32
  let c0_3527 : Index := 0#32
  ![v5474.toNat, 11, 64, 0]
def k0_mult46 (i : grid0.Coords) : BitVec 32 :=
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_3772 : BitVec 32 := 4#32
  let v5817 : BitVec 32 := Scalar.muli v151 c4_i32_3772
  let v5818 : BitVec 32 := Scalar.addi v150 v5817
  let c0_i32_3773 : BitVec 32 := 0#32
  let v5819 : BitVec 32 := Scalar.maxsi v5818 c0_i32_3773
  let c128_i32_3774 : BitVec 32 := 128#32
  let v5820 : BitVec 32 := Scalar.muli v5819 c128_i32_3774
  v5820
def k0_mult47 (i : grid0.Coords) : BitVec 32 :=
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_3799 : BitVec 32 := 4#32
  let v5858 : BitVec 32 := Scalar.muli v151 c4_i32_3799
  let v5859 : BitVec 32 := Scalar.addi v150 v5858
  let c0_i32_3800 : BitVec 32 := 0#32
  let v5860 : BitVec 32 := Scalar.maxsi v5859 c0_i32_3800
  let c128_i32_3801 : BitVec 32 := 128#32
  let v5861 : BitVec 32 := Scalar.muli v5860 c128_i32_3801
  v5861
def k0_off109 (i : grid0.Coords) (c0_i32_3807 : BitVec 32) : Fin 4 → Nat :=
  let c2_i32_3809 : BitVec 32 := 2#32
  let c0_i32_3808 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_3780 : BitVec 32 := 4#32
  let v5830 : BitVec 32 := Scalar.muli v151 c4_i32_3780
  let v5831 : BitVec 32 := Scalar.addi v150 v5830
  let c0_i32_3781 : BitVec 32 := 0#32
  let v5832 : BitVec 32 := Scalar.maxsi v5831 c0_i32_3781
  let v5872 : BitVec 32 := Scalar.addi v5832 c0_i32_3807
  let v5873 : BitVec 32 := Scalar.subi arg1 v5872
  let v5874 : BitVec 32 := Scalar.maxsi c0_i32_3808 v5873
  let v5875 : BitVec 32 := Scalar.minsi c2_i32_3809 v5874
  let v5876 : Index := Scalar.indexCast v5875
  let c12_3810 : Index := 12#32
  let c0_3811 : Index := 0#32
  let c0_3812 : Index := 0#32
  ![v5876.toNat, 12, 0, 0]
def k0_off110 (i : grid0.Coords) (c0_i32_3859 : BitVec 32) : Fin 4 → Nat :=
  let c2_i32_3861 : BitVec 32 := 2#32
  let c0_i32_3860 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_3780 : BitVec 32 := 4#32
  let v5830 : BitVec 32 := Scalar.muli v151 c4_i32_3780
  let v5831 : BitVec 32 := Scalar.addi v150 v5830
  let c0_i32_3781 : BitVec 32 := 0#32
  let v5832 : BitVec 32 := Scalar.maxsi v5831 c0_i32_3781
  let v5953 : BitVec 32 := Scalar.addi v5832 c0_i32_3859
  let v5954 : BitVec 32 := Scalar.subi arg1 v5953
  let v5955 : BitVec 32 := Scalar.maxsi c0_i32_3860 v5954
  let v5956 : BitVec 32 := Scalar.minsi c2_i32_3861 v5955
  let v5957 : Index := Scalar.indexCast v5956
  let c12_3862 : Index := 12#32
  let c64_3863 : Index := 64#32
  let c0_3864 : Index := 0#32
  ![v5957.toNat, 12, 64, 0]
def k0_off111 (i : grid0.Coords) (c0_i32_3911 : BitVec 32) : Fin 4 → Nat :=
  let c2_i32_3913 : BitVec 32 := 2#32
  let c0_i32_3912 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_3780 : BitVec 32 := 4#32
  let v5830 : BitVec 32 := Scalar.muli v151 c4_i32_3780
  let v5831 : BitVec 32 := Scalar.addi v150 v5830
  let c0_i32_3781 : BitVec 32 := 0#32
  let v5832 : BitVec 32 := Scalar.maxsi v5831 c0_i32_3781
  let v6034 : BitVec 32 := Scalar.addi v5832 c0_i32_3911
  let v6035 : BitVec 32 := Scalar.subi arg1 v6034
  let v6036 : BitVec 32 := Scalar.maxsi c0_i32_3912 v6035
  let v6037 : BitVec 32 := Scalar.minsi c2_i32_3913 v6036
  let v6038 : Index := Scalar.indexCast v6037
  let c13_3914 : Index := 13#32
  let c0_3915 : Index := 0#32
  let c0_3916 : Index := 0#32
  ![v6038.toNat, 13, 0, 0]
def k0_off112 (i : grid0.Coords) (c0_i32_3963 : BitVec 32) : Fin 4 → Nat :=
  let c2_i32_3965 : BitVec 32 := 2#32
  let c0_i32_3964 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_3780 : BitVec 32 := 4#32
  let v5830 : BitVec 32 := Scalar.muli v151 c4_i32_3780
  let v5831 : BitVec 32 := Scalar.addi v150 v5830
  let c0_i32_3781 : BitVec 32 := 0#32
  let v5832 : BitVec 32 := Scalar.maxsi v5831 c0_i32_3781
  let v6115 : BitVec 32 := Scalar.addi v5832 c0_i32_3963
  let v6116 : BitVec 32 := Scalar.subi arg1 v6115
  let v6117 : BitVec 32 := Scalar.maxsi c0_i32_3964 v6116
  let v6118 : BitVec 32 := Scalar.minsi c2_i32_3965 v6117
  let v6119 : Index := Scalar.indexCast v6118
  let c13_3966 : Index := 13#32
  let c64_3967 : Index := 64#32
  let c0_3968 : Index := 0#32
  ![v6119.toNat, 13, 64, 0]
def k0_off113 (i : grid0.Coords) (c0_i32_4015 : BitVec 32) : Fin 4 → Nat :=
  let c2_i32_4017 : BitVec 32 := 2#32
  let c0_i32_4016 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_3780 : BitVec 32 := 4#32
  let v5830 : BitVec 32 := Scalar.muli v151 c4_i32_3780
  let v5831 : BitVec 32 := Scalar.addi v150 v5830
  let c0_i32_3781 : BitVec 32 := 0#32
  let v5832 : BitVec 32 := Scalar.maxsi v5831 c0_i32_3781
  let v6196 : BitVec 32 := Scalar.addi v5832 c0_i32_4015
  let v6197 : BitVec 32 := Scalar.subi arg1 v6196
  let v6198 : BitVec 32 := Scalar.maxsi c0_i32_4016 v6197
  let v6199 : BitVec 32 := Scalar.minsi c2_i32_4017 v6198
  let v6200 : Index := Scalar.indexCast v6199
  let c14_4018 : Index := 14#32
  let c0_4019 : Index := 0#32
  let c0_4020 : Index := 0#32
  ![v6200.toNat, 14, 0, 0]
def k0_off114 (i : grid0.Coords) (c0_i32_4067 : BitVec 32) : Fin 4 → Nat :=
  let c2_i32_4069 : BitVec 32 := 2#32
  let c0_i32_4068 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_3780 : BitVec 32 := 4#32
  let v5830 : BitVec 32 := Scalar.muli v151 c4_i32_3780
  let v5831 : BitVec 32 := Scalar.addi v150 v5830
  let c0_i32_3781 : BitVec 32 := 0#32
  let v5832 : BitVec 32 := Scalar.maxsi v5831 c0_i32_3781
  let v6277 : BitVec 32 := Scalar.addi v5832 c0_i32_4067
  let v6278 : BitVec 32 := Scalar.subi arg1 v6277
  let v6279 : BitVec 32 := Scalar.maxsi c0_i32_4068 v6278
  let v6280 : BitVec 32 := Scalar.minsi c2_i32_4069 v6279
  let v6281 : Index := Scalar.indexCast v6280
  let c14_4070 : Index := 14#32
  let c64_4071 : Index := 64#32
  let c0_4072 : Index := 0#32
  ![v6281.toNat, 14, 64, 0]
def k0_off115 (i : grid0.Coords) (c0_i32_4119 : BitVec 32) : Fin 4 → Nat :=
  let c2_i32_4121 : BitVec 32 := 2#32
  let c0_i32_4120 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_3780 : BitVec 32 := 4#32
  let v5830 : BitVec 32 := Scalar.muli v151 c4_i32_3780
  let v5831 : BitVec 32 := Scalar.addi v150 v5830
  let c0_i32_3781 : BitVec 32 := 0#32
  let v5832 : BitVec 32 := Scalar.maxsi v5831 c0_i32_3781
  let v6358 : BitVec 32 := Scalar.addi v5832 c0_i32_4119
  let v6359 : BitVec 32 := Scalar.subi arg1 v6358
  let v6360 : BitVec 32 := Scalar.maxsi c0_i32_4120 v6359
  let v6361 : BitVec 32 := Scalar.minsi c2_i32_4121 v6360
  let v6362 : Index := Scalar.indexCast v6361
  let c15_4122 : Index := 15#32
  let c0_4123 : Index := 0#32
  let c0_4124 : Index := 0#32
  ![v6362.toNat, 15, 0, 0]
def k0_off116 (i : grid0.Coords) (c0_i32_4171 : BitVec 32) : Fin 4 → Nat :=
  let c2_i32_4173 : BitVec 32 := 2#32
  let c0_i32_4172 : BitVec 32 := 0#32
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_3780 : BitVec 32 := 4#32
  let v5830 : BitVec 32 := Scalar.muli v151 c4_i32_3780
  let v5831 : BitVec 32 := Scalar.addi v150 v5830
  let c0_i32_3781 : BitVec 32 := 0#32
  let v5832 : BitVec 32 := Scalar.maxsi v5831 c0_i32_3781
  let v6439 : BitVec 32 := Scalar.addi v5832 c0_i32_4171
  let v6440 : BitVec 32 := Scalar.subi arg1 v6439
  let v6441 : BitVec 32 := Scalar.maxsi c0_i32_4172 v6440
  let v6442 : BitVec 32 := Scalar.minsi c2_i32_4173 v6441
  let v6443 : Index := Scalar.indexCast v6442
  let c15_4174 : Index := 15#32
  let c64_4175 : Index := 64#32
  let c0_4176 : Index := 0#32
  ![v6443.toNat, 15, 64, 0]
def k0_mult48 (i : grid0.Coords) : BitVec 32 :=
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_4421 : BitVec 32 := 4#32
  let v6786 : BitVec 32 := Scalar.muli v151 c4_i32_4421
  let v6787 : BitVec 32 := Scalar.addi v150 v6786
  let c0_i32_4422 : BitVec 32 := 0#32
  let v6788 : BitVec 32 := Scalar.maxsi v6787 c0_i32_4422
  let c128_i32_4423 : BitVec 32 := 128#32
  let v6789 : BitVec 32 := Scalar.muli v6788 c128_i32_4423
  v6789
def k0_mult49 (i : grid0.Coords) : BitVec 32 :=
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_4629 : BitVec 32 := 4#32
  let v7070 : BitVec 32 := Scalar.muli v151 c4_i32_4629
  let v7071 : BitVec 32 := Scalar.addi v150 v7070
  let c0_i32_4630 : BitVec 32 := 0#32
  let v7072 : BitVec 32 := Scalar.maxsi v7071 c0_i32_4630
  let c128_i32_4631 : BitVec 32 := 128#32
  let v7073 : BitVec 32 := Scalar.muli v7072 c128_i32_4631
  v7073
def k0_mult50 (i : grid0.Coords) : BitVec 32 :=
  let arg1 : BitVec 32 := BitVec.ofNat 32 (i 1).val
  let c1_i32_72 : BitVec 32 := 1#32
  let v148 : BitVec 32 := Scalar.addi arg1 c1_i32_72
  let c4_i32_73 : BitVec 32 := 4#32
  let c4_i32 : BitVec 32 := 4#32
  let v0 : BitVec 32 := Scalar.addi arg1 c4_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let v1 : BitVec 32 := Scalar.divsi v0 c4_i32_0
  let c1_i32 : BitVec 32 := 1#32
  let v16 : BitVec 32 := Scalar.subi v1 c1_i32
  let v17 : BitVec 32 := Scalar.select v15 v16 v1
  let v149 : BitVec 32 := Scalar.muli c4_i32_73 v17
  let v150 : BitVec 32 := Scalar.subi v148 v149
  let c1_i32_74 : BitVec 32 := 1#32
  let v151 : BitVec 32 := Scalar.subi v17 c1_i32_74
  let c4_i32_4645 : BitVec 32 := 4#32
  let v7090 : BitVec 32 := Scalar.muli v151 c4_i32_4645
  let v7091 : BitVec 32 := Scalar.addi v150 v7090
  let c0_i32_4646 : BitVec 32 := 0#32
  let v7092 : BitVec 32 := Scalar.maxsi v7091 c0_i32_4646
  let c128_i32_4647 : BitVec 32 := 128#32
  let v7093 : BitVec 32 := Scalar.muli v7092 c128_i32_4647
  v7093
def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S3x16x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnIn.lean ====
abbrev S4x4096x2048 : Shape := ⟨3, ![4, 4096, 2048]⟩
abbrev S4x12288 : Shape := ⟨2, ![4, 12288]⟩
abbrev S1x2048 : Shape := ⟨2, ![1, 2048]⟩
abbrev S1x2048x5632 : Shape := ⟨3, ![1, 2048, 5632]⟩
abbrev S4x2048 : Shape := ⟨2, ![4, 2048]⟩
abbrev S4x1x2048 : Shape := ⟨3, ![4, 1, 2048]⟩
abbrev S16384x2048 : Shape := ⟨2, ![16384, 2048]⟩
abbrev S2048 : Shape := ⟨1, ![2048]⟩
abbrev S2048x5632 : Shape := ⟨2, ![2048, 5632]⟩
abbrev S16384x5632 : Shape := ⟨2, ![16384, 5632]⟩
abbrev S1024x2048 : Shape := ⟨2, ![1024, 2048]⟩
abbrev S1x1x2048 : Shape := ⟨3, ![1, 1, 2048]⟩
abbrev S2048x512 : Shape := ⟨2, ![2048, 512]⟩
abbrev S1024x512 : Shape := ⟨2, ![1024, 512]⟩
abbrev S32x2048 : Shape := ⟨2, ![32, 2048]⟩
abbrev S32 : Shape := ⟨1, ![32]⟩
abbrev S32x1 : Shape := ⟨2, ![32, 1]⟩

abbrev nBuf : Space → Nat
  | .hbm => 19
  | .vmem => 14
  | .smem => 0
  | _ => 0

abbrev bufTy : (tb : Table) → Fin (tcTables nBuf tb) → BufTy
  | .hbm, ⟨0, _⟩ => ⟨S4x4096x2048, .f32⟩
  | .hbm, ⟨1, _⟩ => ⟨S4x12288, .f32⟩
  | .hbm, ⟨2, _⟩ => ⟨S1x2048, .f32⟩
  | .hbm, ⟨3, _⟩ => ⟨S1x2048x5632, .f32⟩
  | .hbm, ⟨4, _⟩ => ⟨S1x2048x5632, .f32⟩
  | .hbm, ⟨5, _⟩ => ⟨S4x2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x1x2048, .f32⟩
  | .hbm, ⟨12, _⟩ => ⟨S4x1x2048, .f32⟩
  | .hbm, ⟨13, _⟩ => ⟨S16384x2048, .f32⟩
  | .hbm, ⟨14, _⟩ => ⟨S2048, .f32⟩
  | .hbm, ⟨15, _⟩ => ⟨S1x2048, .f32⟩
  | .hbm, ⟨16, _⟩ => ⟨S2048x5632, .f32⟩
  | .hbm, ⟨17, _⟩ => ⟨S2048x5632, .f32⟩
  | .hbm, ⟨18, _⟩ => ⟨S16384x5632, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x512, .f32⟩
  | .local _ .vmem, ⟨8, _⟩ => ⟨S2048x512, .f32⟩
  | .local _ .vmem, ⟨9, _⟩ => ⟨S2048x512, .f32⟩
  | .local _ .vmem, ⟨10, _⟩ => ⟨S2048x512, .f32⟩
  | .local _ .vmem, ⟨11, _⟩ => ⟨S1024x512, .bf16⟩
  | .local _ .vmem, ⟨12, _⟩ => ⟨S1024x512, .bf16⟩
  | .local _ .vmem, ⟨13, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_15 : BitVec 32 := 0#32
  let c32_i32 : BitVec 32 := 32#32
  let v24 : BitVec 32 := Scalar.addi c0_i32_15 c32_i32
  let c1_i32 : BitVec 32 := 1#32
  ⟨c0_i32_15, v24, c1_i32⟩
def k0_mult1 (k0_t1 : Fin k0_t1_loop.trips) : BitVec 32 :=
  let c0_i32_15 : BitVec 32 := 0#32
  let c1_i32 : BitVec 32 := 1#32
  let arg10 : BitVec 32 := Scf.iv c0_i32_15 c1_i32 k0_t1
  let c32_i32_17 : BitVec 32 := 32#32
  let v25 : BitVec 32 := Scalar.muli arg10 c32_i32_17
  v25
def k0_off1 (k0_t1 : Fin k0_t1_loop.trips) : Fin 2 → Nat :=
  let c0_i32_15 : BitVec 32 := 0#32
  let c1_i32 : BitVec 32 := 1#32
  let arg10 : BitVec 32 := Scf.iv c0_i32_15 c1_i32 k0_t1
  let c32_i32_17 : BitVec 32 := 32#32
  let v25 : BitVec 32 := Scalar.muli arg10 c32_i32_17
  let v26 : BitVec 32 := v25
  let v27 : Index := Scalar.indexCast v26
  let c0_18 : Index := 0#32
  ![v27.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnInReferenceIdeal.lean ====
abbrev S4x4096x2048 : Shape := ⟨3, ![4, 4096, 2048]⟩
abbrev S4x12288 : Shape := ⟨2, ![4, 12288]⟩
abbrev S1x2048 : Shape := ⟨2, ![1, 2048]⟩
abbrev S1x2048x5632 : Shape := ⟨3, ![1, 2048, 5632]⟩
abbrev S4x1x12288 : Shape := ⟨3, ![4, 1, 12288]⟩
abbrev S4x1x2048 : Shape := ⟨3, ![4, 1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x5632 : Shape := ⟨2, ![2048, 5632]⟩
abbrev S4x4096x5632 : Shape := ⟨3, ![4, 4096, 5632]⟩
abbrev S16384x5632 : Shape := ⟨2, ![16384, 5632]⟩

abbrev nBuf : Space → Nat
  | .hbm => 52
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x12288, .f32⟩
  | .hbm, ⟨2, _⟩ => ⟨S1x2048, .f32⟩
  | .hbm, ⟨3, _⟩ => ⟨S1x2048x5632, .f32⟩
  | .hbm, ⟨4, _⟩ => ⟨S1x2048x5632, .f32⟩
  | .hbm, ⟨5, _⟩ => ⟨S4x1x12288, .f32⟩
  | .hbm, ⟨6, _⟩ => ⟨S4x1x2048, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S2048, .f32⟩
  | .hbm, ⟨13, _⟩ => ⟨S4x4096x2048, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x1, .f32⟩
  | .hbm, ⟨24, _⟩ => ⟨S4x4096x2048, .f32⟩
  | .hbm, ⟨25, _⟩ => ⟨S4x4096x2048, .f32⟩
  | .hbm, ⟨26, _⟩ => ⟨S1x1x2048, .f32⟩
  | .hbm, ⟨27, _⟩ => ⟨S4x4096x2048, .f32⟩
  | .hbm, ⟨28, _⟩ => ⟨S4x4096x2048, .f32⟩
  | .hbm, ⟨29, _⟩ => ⟨S_, .f32⟩
  | .hbm, ⟨30, _⟩ => ⟨S4x1x2048, .f32⟩
  | .hbm, ⟨31, _⟩ => ⟨S4x1x2048, .f32⟩
  | .hbm, ⟨32, _⟩ => ⟨S4x4096x2048, .f32⟩
  | .hbm, ⟨33, _⟩ => ⟨S4x4096x2048, .f32⟩
  | .hbm, ⟨34, _⟩ => ⟨S4x4096x2048, .f32⟩
  | .hbm, ⟨35, _⟩ => ⟨S4x4096x2048, .f32⟩
  | .hbm, ⟨36, _⟩ => ⟨S2048x5632, .f32⟩
  | .hbm, ⟨37, _⟩ => ⟨S4x4096x5632, .f32⟩
  | .hbm, ⟨38, _⟩ => ⟨S4x4096x5632, .f32⟩
  | .hbm, ⟨39, _⟩ => ⟨S4x4096x5632, .f32⟩
  | .hbm, ⟨40, _⟩ => ⟨S_, .f32⟩
  | .hbm, ⟨41, _⟩ => ⟨S4x4096x5632, .f32⟩
  | .hbm, ⟨42, _⟩ => ⟨S4x4096x5632, .f32⟩
  | .hbm, ⟨43, _⟩ => ⟨S_, .f32⟩
  | .hbm, ⟨44, _⟩ => ⟨S4x4096x5632, .f32⟩
  | .hbm, ⟨45, _⟩ => ⟨S4x4096x5632, .f32⟩
  | .hbm, ⟨46, _⟩ => ⟨S4x4096x5632, .f32⟩
  | .hbm, ⟨47, _⟩ => ⟨S2048x5632, .f32⟩
  | .hbm, ⟨48, _⟩ => ⟨S4x4096x5632, .f32⟩
  | .hbm, ⟨49, _⟩ => ⟨S4x4096x5632, .f32⟩
  | .hbm, ⟨50, _⟩ => ⟨S16384x5632, .f32⟩
  | .hbm, ⟨51, _⟩ => ⟨S16384x5632, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]
-- ==== FfnDown.lean ====
abbrev S4x4096x5632 : Shape := ⟨3, ![4, 4096, 5632]⟩
abbrev S4x4096x2048 : Shape := ⟨3, ![4, 4096, 2048]⟩
abbrev S4x12288 : Shape := ⟨2, ![4, 12288]⟩
abbrev S1x5632x2048 : Shape := ⟨3, ![1, 5632, 2048]⟩
abbrev S2048 : Shape := ⟨1, ![2048]⟩
abbrev S4x2048 : Shape := ⟨2, ![4, 2048]⟩
abbrev S4x1x2048 : Shape := ⟨3, ![4, 1, 2048]⟩
abbrev S16384x5632 : Shape := ⟨2, ![16384, 5632]⟩
abbrev S5632x2048 : Shape := ⟨2, ![5632, 2048]⟩
abbrev S16384x2048 : Shape := ⟨2, ![16384, 2048]⟩
abbrev S1x2048 : Shape := ⟨2, ![1, 2048]⟩
abbrev S512x5632 : Shape := ⟨2, ![512, 5632]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 19
  | .vmem => 10
  | .smem => 0
  | _ => 0

abbrev bufTy : (tb : Table) → Fin (tcTables nBuf tb) → BufTy
  | .hbm, ⟨0, _⟩ => ⟨S4x4096x5632, .f32⟩
  | .hbm, ⟨1, _⟩ => ⟨S4x4096x2048, .f32⟩
  | .hbm, ⟨2, _⟩ => ⟨S4x12288, .f32⟩
  | .hbm, ⟨3, _⟩ => ⟨S1x5632x2048, .f32⟩
  | .hbm, ⟨4, _⟩ => ⟨S2048, .f32⟩
  | .hbm, ⟨5, _⟩ => ⟨S4x2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x1x2048, .f32⟩
  | .hbm, ⟨12, _⟩ => ⟨S4x4096x5632, .bf16⟩
  | .hbm, ⟨13, _⟩ => ⟨S16384x5632, .bf16⟩
  | .hbm, ⟨14, _⟩ => ⟨S5632x2048, .f32⟩
  | .hbm, ⟨15, _⟩ => ⟨S5632x2048, .bf16⟩
  | .hbm, ⟨16, _⟩ => ⟨S16384x2048, .f32⟩
  | .hbm, ⟨17, _⟩ => ⟨S1x2048, .f32⟩
  | .hbm, ⟨18, _⟩ => ⟨S16384x2048, .f32⟩
  | .local _ .vmem, ⟨0, _⟩ => ⟨S512x5632, .bf16⟩
  | .local _ .vmem, ⟨1, _⟩ => ⟨S512x5632, .bf16⟩
  | .local _ .vmem, ⟨2, _⟩ => ⟨S5632x2048, .bf16⟩
  | .local _ .vmem, ⟨3, _⟩ => ⟨S512x2048, .f32⟩
  | .local _ .vmem, ⟨4, _⟩ => ⟨S512x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S4x4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FfnDownReferenceIdeal.lean ====
abbrev S4x4096x5632 : Shape := ⟨3, ![4, 4096, 5632]⟩
abbrev S4x4096x2048 : Shape := ⟨3, ![4, 4096, 2048]⟩
abbrev S4x12288 : Shape := ⟨2, ![4, 12288]⟩
abbrev S1x5632x2048 : Shape := ⟨3, ![1, 5632, 2048]⟩
abbrev S2048 : Shape := ⟨1, ![2048]⟩
abbrev S4x1x12288 : Shape := ⟨3, ![4, 1, 12288]⟩
abbrev S4x1x2048 : Shape := ⟨3, ![4, 1, 2048]⟩
abbrev S5632x2048 : Shape := ⟨2, ![5632, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩

abbrev nBuf : Space → Nat
  | .hbm => 34
  | .vmem => 0
  | .smem => 0
  | _ => 0

abbrev bufTy : (tb : Table) → Fin (tcTables nBuf tb) → BufTy
  | .hbm, ⟨0, _⟩ => ⟨S4x4096x5632, .f32⟩
  | .hbm, ⟨1, _⟩ => ⟨S4x4096x2048, .f32⟩
  | .hbm, ⟨2, _⟩ => ⟨S4x12288, .f32⟩
  | .hbm, ⟨3, _⟩ => ⟨S1x5632x2048, .f32⟩
  | .hbm, ⟨4, _⟩ => ⟨S2048, .f32⟩
  | .hbm, ⟨5, _⟩ => ⟨S4x1x12288, .f32⟩
  | .hbm, ⟨6, _⟩ => ⟨S4x1x2048, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S5632x2048, .f32⟩
  | .hbm, ⟨13, _⟩ => ⟨S4x4096x2048, .f32⟩
  | .hbm, ⟨14, _⟩ => ⟨S4x4096x2048, .f32⟩
  | .hbm, ⟨15, _⟩ => ⟨S4x4096x2048, .f32⟩
  | .hbm, ⟨16, _⟩ => ⟨S4x4096x2048, .f32⟩
  | .hbm, ⟨17, _⟩ => ⟨S4x4096x2048, .f32⟩
  | .hbm, ⟨18, _⟩ => ⟨S_, .f32⟩
  | .hbm, ⟨19, _⟩ => ⟨S4x4096, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S4x4096x1, .f32⟩
  | .hbm, ⟨28, _⟩ => ⟨S4x4096x2048, .f32⟩
  | .hbm, ⟨29, _⟩ => ⟨S4x4096x2048, .f32⟩
  | .hbm, ⟨30, _⟩ => ⟨S1x1x2048, .f32⟩
  | .hbm, ⟨31, _⟩ => ⟨S4x4096x2048, .f32⟩
  | .hbm, ⟨32, _⟩ => ⟨S4x4096x2048, .f32⟩
  | .hbm, ⟨33, _⟩ => ⟨S16384x2048, .f32⟩
  | _, _ => ⟨S4x4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== InZ.lean ====
abbrev S4x4096x2048 : Shape := ⟨3, ![4, 4096, 2048]⟩
abbrev S1x2048x15248 : Shape := ⟨3, ![1, 2048, 15248]⟩
abbrev S2048x15248 : Shape := ⟨2, ![2048, 15248]⟩
abbrev S2048x4096 : Shape := ⟨2, ![2048, 4096]⟩
abbrev S16384x2048 : Shape := ⟨2, ![16384, 2048]⟩
abbrev S16384x4096 : Shape := ⟨2, ![16384, 4096]⟩
abbrev S1024x2048 : Shape := ⟨2, ![1024, 2048]⟩
abbrev S2048x2048 : Shape := ⟨2, ![2048, 2048]⟩

abbrev nBuf : Space → Nat
  | .hbm => 8
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S1x2048x15248, .f32⟩
  | .hbm, ⟨2, _⟩ => ⟨S2048x15248, .f32⟩
  | .hbm, ⟨3, _⟩ => ⟨S2048x4096, .f32⟩
  | .hbm, ⟨4, _⟩ => ⟨S2048x4096, .bf16⟩
  | .hbm, ⟨5, _⟩ => ⟨S16384x2048, .f32⟩
  | .hbm, ⟨6, _⟩ => ⟨S16384x2048, .bf16⟩
  | .hbm, ⟨7, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InZReferenceIdeal.lean ====
abbrev S4x4096x2048 : Shape := ⟨3, ![4, 4096, 2048]⟩
abbrev S1x2048x15248 : Shape := ⟨3, ![1, 2048, 15248]⟩
abbrev S2048x15248 : Shape := ⟨2, ![2048, 15248]⟩
abbrev S4x4096x15248 : Shape := ⟨3, ![4, 4096, 15248]⟩
abbrev S4x4096x848 : Shape := ⟨3, ![4, 4096, 848]⟩
abbrev S4x4096x4096 : Shape := ⟨3, ![4, 4096, 4096]⟩
abbrev S4x4096x10304 : Shape := ⟨3, ![4, 4096, 10304]⟩
abbrev S_ : Shape := ⟨0, ![]⟩
abbrev S16384x4096 : Shape := ⟨2, ![16384, 4096]⟩

abbrev nBuf : Space → Nat
  | .hbm => 18
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048x15248, .f32⟩
  | .hbm, ⟨2, _⟩ => ⟨S2048x15248, .f32⟩
  | .hbm, ⟨3, _⟩ => ⟨S4x4096x15248, .f32⟩
  | .hbm, ⟨4, _⟩ => ⟨S4x4096x848, .f32⟩
  | .hbm, ⟨5, _⟩ => ⟨S4x4096x4096, .f32⟩
  | .hbm, ⟨6, _⟩ => ⟨S4x4096x10304, .f32⟩
  | .hbm, ⟨7, _⟩ => ⟨S4x4096x4096, .f32⟩
  | .hbm, ⟨8, _⟩ => ⟨S4x4096x4096, .f32⟩
  | .hbm, ⟨9, _⟩ => ⟨S_, .f32⟩
  | .hbm, ⟨10, _⟩ => ⟨S4x4096x4096, .f32⟩
  | .hbm, ⟨11, _⟩ => ⟨S4x4096x4096, .f32⟩
  | .hbm, ⟨12, _⟩ => ⟨S_, .f32⟩
  | .hbm, ⟨13, _⟩ => ⟨S4x4096x4096, .f32⟩
  | .hbm, ⟨14, _⟩ => ⟨S4x4096x4096, .f32⟩
  | .hbm, ⟨15, _⟩ => ⟨S4x4096x4096, .f32⟩
  | .hbm, ⟨16, _⟩ => ⟨S16384x4096, .f32⟩
  | .hbm, ⟨17, _⟩ => ⟨S16384x4096, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== InGates.lean ====
abbrev S4x4096x2048 : Shape := ⟨3, ![4, 4096, 2048]⟩
abbrev S1x2048x15248 : Shape := ⟨3, ![1, 2048, 15248]⟩
abbrev S2048x15248 : Shape := ⟨2, ![2048, 15248]⟩
abbrev S2048x4096 : Shape := ⟨2, ![2048, 4096]⟩
abbrev S16384x2048 : Shape := ⟨2, ![16384, 2048]⟩
abbrev S16384x4096 : Shape := ⟨2, ![16384, 4096]⟩
abbrev S1024x2048 : Shape := ⟨2, ![1024, 2048]⟩
abbrev S2048x2048 : Shape := ⟨2, ![2048, 2048]⟩

abbrev nBuf : Space → Nat
  | .hbm => 8
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S1x2048x15248, .f32⟩
  | .hbm, ⟨2, _⟩ => ⟨S2048x15248, .f32⟩
  | .hbm, ⟨3, _⟩ => ⟨S2048x4096, .f32⟩
  | .hbm, ⟨4, _⟩ => ⟨S2048x4096, .bf16⟩
  | .hbm, ⟨5, _⟩ => ⟨S16384x2048, .f32⟩
  | .hbm, ⟨6, _⟩ => ⟨S16384x2048, .bf16⟩
  | .hbm, ⟨7, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGatesReferenceIdeal.lean ====
abbrev S4x4096x2048 : Shape := ⟨3, ![4, 4096, 2048]⟩
abbrev S1x2048x15248 : Shape := ⟨3, ![1, 2048, 15248]⟩
abbrev S2048x15248 : Shape := ⟨2, ![2048, 15248]⟩
abbrev S4x4096x15248 : Shape := ⟨3, ![4, 4096, 15248]⟩
abbrev S4x4096x11152 : Shape := ⟨3, ![4, 4096, 11152]⟩
abbrev S4x4096x4096 : Shape := ⟨3, ![4, 4096, 4096]⟩
abbrev S_ : Shape := ⟨0, ![]⟩
abbrev S16384x4096 : Shape := ⟨2, ![16384, 4096]⟩

abbrev nBuf : Space → Nat
  | .hbm => 16
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048x15248, .f32⟩
  | .hbm, ⟨2, _⟩ => ⟨S2048x15248, .f32⟩
  | .hbm, ⟨3, _⟩ => ⟨S4x4096x15248, .f32⟩
  | .hbm, ⟨4, _⟩ => ⟨S4x4096x11152, .f32⟩
  | .hbm, ⟨5, _⟩ => ⟨S4x4096x4096, .f32⟩
  | .hbm, ⟨6, _⟩ => ⟨S4x4096x4096, .f32⟩
  | .hbm, ⟨7, _⟩ => ⟨S4x4096x4096, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S16384x4096, .f32⟩
  | .hbm, ⟨15, _⟩ => ⟨S16384x4096, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== ProjAb.lean ====
abbrev S4x4096x2048 : Shape := ⟨3, ![4, 4096, 2048]⟩
abbrev S4x4096x4096 : Shape := ⟨3, ![4, 4096, 4096]⟩
abbrev S16384x4096 : Shape := ⟨2, ![16384, 4096]⟩
abbrev S1x2048x2048 : Shape := ⟨3, ![1, 2048, 2048]⟩
abbrev S1x4096x2048 : Shape := ⟨3, ![1, 4096, 2048]⟩
abbrev S16384x2048 : Shape := ⟨2, ![16384, 2048]⟩
abbrev S2048x2048 : Shape := ⟨2, ![2048, 2048]⟩
abbrev S4096x2048 : Shape := ⟨2, ![4096, 2048]⟩
abbrev S1024x2048 : Shape := ⟨2, ![1024, 2048]⟩
abbrev S2048x512 : Shape := ⟨2, ![2048, 512]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 14
  | .vmem => 14
  | .smem => 0
  | _ => 0

abbrev bufTy : (tb : Table) → Fin (tcTables nBuf tb) → BufTy
  | .hbm, ⟨0, _⟩ => ⟨S4x4096x2048, .f32⟩
  | .hbm, ⟨1, _⟩ => ⟨S4x4096x4096, .f32⟩
  | .hbm, ⟨2, _⟩ => ⟨S16384x4096, .bf16⟩
  | .hbm, ⟨3, _⟩ => ⟨S1x2048x2048, .f32⟩
  | .hbm, ⟨4, _⟩ => ⟨S1x4096x2048, .f32⟩
  | .hbm, ⟨5, _⟩ => ⟨S16384x2048, .f32⟩
  | .hbm, ⟨6, _⟩ => ⟨S16384x2048, .bf16⟩
  | .hbm, ⟨7, _⟩ => ⟨S2048x2048, .f32⟩
  | .hbm, ⟨8, _⟩ => ⟨S2048x2048, .bf16⟩
  | .hbm, ⟨9, _⟩ => ⟨S16384x4096, .f32⟩
  | .hbm, ⟨10, _⟩ => ⟨S16384x4096, .bf16⟩
  | .hbm, ⟨11, _⟩ => ⟨S4096x2048, .f32⟩
  | .hbm, ⟨12, _⟩ => ⟨S4096x2048, .bf16⟩
  | .hbm, ⟨13, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x4096, .bf16⟩
  | .local _ .vmem, ⟨5, _⟩ => ⟨S1024x4096, .bf16⟩
  | .local _ .vmem, ⟨6, _⟩ => ⟨S4096x512, .bf16⟩
  | .local _ .vmem, ⟨7, _⟩ => ⟨S4096x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ProjAbReferenceIdeal.lean ====
abbrev S4x4096x2048 : Shape := ⟨3, ![4, 4096, 2048]⟩
abbrev S4x4096x4096 : Shape := ⟨3, ![4, 4096, 4096]⟩
abbrev S16384x4096 : Shape := ⟨2, ![16384, 4096]⟩
abbrev S1x2048x2048 : Shape := ⟨3, ![1, 2048, 2048]⟩
abbrev S1x4096x2048 : Shape := ⟨3, ![1, 4096, 2048]⟩
abbrev S2048x2048 : Shape := ⟨2, ![2048, 2048]⟩
abbrev S4096x2048 : Shape := ⟨2, ![4096, 2048]⟩
abbrev S16384x2048 : Shape := ⟨2, ![16384, 2048]⟩

abbrev nBuf : Space → Nat
  | .hbm => 18
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x4096, .f32⟩
  | .hbm, ⟨2, _⟩ => ⟨S16384x4096, .bf16⟩
  | .hbm, ⟨3, _⟩ => ⟨S1x2048x2048, .f32⟩
  | .hbm, ⟨4, _⟩ => ⟨S1x4096x2048, .f32⟩
  | .hbm, ⟨5, _⟩ => ⟨S16384x4096, .f32⟩
  | .hbm, ⟨6, _⟩ => ⟨S4x4096x4096, .f32⟩
  | .hbm, ⟨7, _⟩ => ⟨S4x4096x2048, .f32⟩
  | .hbm, ⟨8, _⟩ => ⟨S2048x2048, .f32⟩
  | .hbm, ⟨9, _⟩ => ⟨S4x4096x2048, .f32⟩
  | .hbm, ⟨10, _⟩ => ⟨S4x4096x2048, .f32⟩
  | .hbm, ⟨11, _⟩ => ⟨S4x4096x2048, .f32⟩
  | .hbm, ⟨12, _⟩ => ⟨S4096x2048, .f32⟩
  | .hbm, ⟨13, _⟩ => ⟨S4x4096x2048, .f32⟩
  | .hbm, ⟨14, _⟩ => ⟨S4x4096x2048, .f32⟩
  | .hbm, ⟨15, _⟩ => ⟨S4x4096x2048, .f32⟩
  | .hbm, ⟨16, _⟩ => ⟨S16384x2048, .f32⟩
  | .hbm, ⟨17, _⟩ => ⟨S16384x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== WOut.lean ====
abbrev S4x4096x2048 : Shape := ⟨3, ![4, 4096, 2048]⟩
abbrev S4x12288 : Shape := ⟨2, ![4, 12288]⟩
abbrev S1x2048x2048 : Shape := ⟨3, ![1, 2048, 2048]⟩
abbrev S4x2048 : Shape := ⟨2, ![4, 2048]⟩
abbrev S4x1x2048 : Shape := ⟨3, ![4, 1, 2048]⟩
abbrev S16384x2048 : Shape := ⟨2, ![16384, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 17
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x12288, .f32⟩
  | .hbm, ⟨3, _⟩ => ⟨S1x2048x2048, .f32⟩
  | .hbm, ⟨4, _⟩ => ⟨S4x2048, .f32⟩
  | .hbm, ⟨5, _⟩ => ⟨S4x2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x1x2048, .f32⟩
  | .hbm, ⟨11, _⟩ => ⟨S16384x2048, .f32⟩
  | .hbm, ⟨12, _⟩ => ⟨S16384x2048, .bf16⟩
  | .hbm, ⟨13, _⟩ => ⟨S2048x2048, .f32⟩
  | .hbm, ⟨14, _⟩ => ⟨S2048x2048, .bf16⟩
  | .hbm, ⟨15, _⟩ => ⟨S16384x2048, .f32⟩
  | .hbm, ⟨16, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== WOutReferenceIdeal.lean ====
abbrev S4x4096x2048 : Shape := ⟨3, ![4, 4096, 2048]⟩
abbrev S4x12288 : Shape := ⟨2, ![4, 12288]⟩
abbrev S1x2048x2048 : Shape := ⟨3, ![1, 2048, 2048]⟩
abbrev S4x1x12288 : Shape := ⟨3, ![4, 1, 12288]⟩
abbrev S4x1x2048 : Shape := ⟨3, ![4, 1, 2048]⟩
abbrev S2048x2048 : Shape := ⟨2, ![2048, 2048]⟩
abbrev S16384x2048 : Shape := ⟨2, ![16384, 2048]⟩

abbrev nBuf : Space → Nat
  | .hbm => 17
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x12288, .f32⟩
  | .hbm, ⟨3, _⟩ => ⟨S1x2048x2048, .f32⟩
  | .hbm, ⟨4, _⟩ => ⟨S4x1x12288, .f32⟩
  | .hbm, ⟨5, _⟩ => ⟨S4x1x2048, .f32⟩
  | .hbm, ⟨6, _⟩ => ⟨S4x1x2048, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S2048x2048, .f32⟩
  | .hbm, ⟨12, _⟩ => ⟨S4x4096x2048, .f32⟩
  | .hbm, ⟨13, _⟩ => ⟨S4x4096x2048, .f32⟩
  | .hbm, ⟨14, _⟩ => ⟨S4x4096x2048, .f32⟩
  | .hbm, ⟨15, _⟩ => ⟨S4x4096x2048, .f32⟩
  | .hbm, ⟨16, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== NormIn.lean ====
abbrev S4x4096x2048 : Shape := ⟨3, ![4, 4096, 2048]⟩
abbrev S4x12288 : Shape := ⟨2, ![4, 12288]⟩
abbrev S1x2048 : Shape := ⟨2, ![1, 2048]⟩
abbrev S1x2048x15248 : Shape := ⟨3, ![1, 2048, 15248]⟩
abbrev S4x2048 : Shape := ⟨2, ![4, 2048]⟩
abbrev S4x1x2048 : Shape := ⟨3, ![4, 1, 2048]⟩
abbrev S2048x15248 : Shape := ⟨2, ![2048, 15248]⟩
abbrev S2048x848 : Shape := ⟨2, ![2048, 848]⟩
abbrev S_ : Shape := ⟨0, ![]⟩
abbrev S2048x896 : Shape := ⟨2, ![2048, 896]⟩
abbrev S2048x64 : Shape := ⟨2, ![2048, 64]⟩
abbrev S2048x128 : Shape := ⟨2, ![2048, 128]⟩
abbrev S2048x1024 : Shape := ⟨2, ![2048, 1024]⟩
abbrev S16384x2048 : Shape := ⟨2, ![16384, 2048]⟩
abbrev S2048 : Shape := ⟨1, ![2048]⟩
abbrev S16384x1024 : Shape := ⟨2, ![16384, 1024]⟩
abbrev S1024x2048 : Shape := ⟨2, ![1024, 2048]⟩
abbrev S1x1x2048 : Shape := ⟨3, ![1, 1, 2048]⟩
abbrev S1024x1024 : Shape := ⟨2, ![1024, 1024]⟩
abbrev S32x2048 : Shape := ⟨2, ![32, 2048]⟩
abbrev S32 : Shape := ⟨1, ![32]⟩
abbrev S32x1 : Shape := ⟨2, ![32, 1]⟩

abbrev nBuf : Space → Nat
  | .hbm => 28
  | .vmem => 12
  | .smem => 0
  | _ => 0

abbrev bufTy : (tb : Table) → Fin (tcTables nBuf tb) → BufTy
  | .hbm, ⟨0, _⟩ => ⟨S4x4096x2048, .f32⟩
  | .hbm, ⟨1, _⟩ => ⟨S4x12288, .f32⟩
  | .hbm, ⟨2, _⟩ => ⟨S1x2048, .f32⟩
  | .hbm, ⟨3, _⟩ => ⟨S1x2048x15248, .f32⟩
  | .hbm, ⟨4, _⟩ => ⟨S4x2048, .f32⟩
  | .hbm, ⟨5, _⟩ => ⟨S4x2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x1x2048, .f32⟩
  | .hbm, ⟨11, _⟩ => ⟨S4x1x2048, .f32⟩
  | .hbm, ⟨12, _⟩ => ⟨S2048x15248, .f32⟩
  | .hbm, ⟨13, _⟩ => ⟨S2048x848, .f32⟩
  | .hbm, ⟨14, _⟩ => ⟨S_, .i32⟩
  | .hbm, ⟨15, _⟩ => ⟨S_, .f32⟩
  | .hbm, ⟨16, _⟩ => ⟨S2048x896, .f32⟩
  | .hbm, ⟨17, _⟩ => ⟨S2048x64, .f32⟩
  | .hbm, ⟨18, _⟩ => ⟨S_, .i32⟩
  | .hbm, ⟨19, _⟩ => ⟨S_, .f32⟩
  | .hbm, ⟨20, _⟩ => ⟨S2048x128, .f32⟩
  | .hbm, ⟨21, _⟩ => ⟨S2048x1024, .f32⟩
  | .hbm, ⟨22, _⟩ => ⟨S2048x1024, .bf16⟩
  | .hbm, ⟨23, _⟩ => ⟨S16384x2048, .f32⟩
  | .hbm, ⟨24, _⟩ => ⟨S2048, .f32⟩
  | .hbm, ⟨25, _⟩ => ⟨S1x2048, .f32⟩
  | .hbm, ⟨26, _⟩ => ⟨S16384x1024, .f32⟩
  | .hbm, ⟨27, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x2048, .bf16⟩
  | .local _ .vmem, ⟨11, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_call0_v0 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_call1_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c32_i32 : BitVec 32 := 32#32
  let v7 : BitVec 32 := Scalar.addi c0_i32 c32_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c32_i32_12 : BitVec 32 := 32#32
  let v14 : BitVec 32 := Scalar.muli arg8 c32_i32_12
  v14
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32_12 : BitVec 32 := 32#32
  let v14 : BitVec 32 := Scalar.muli arg8 c32_i32_12
  let v15 : BitVec 32 := v14
  let v16 : Index := Scalar.indexCast v15
  let c0_13 : Index := 0#32
  ![v16.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== NormInReferenceIdeal.lean ====
abbrev S4x4096x2048 : Shape := ⟨3, ![4, 4096, 2048]⟩
abbrev S4x12288 : Shape := ⟨2, ![4, 12288]⟩
abbrev S1x2048 : Shape := ⟨2, ![1, 2048]⟩
abbrev S1x2048x15248 : Shape := ⟨3, ![1, 2048, 15248]⟩
abbrev S4x1x12288 : Shape := ⟨3, ![4, 1, 12288]⟩
abbrev S4x1x2048 : Shape := ⟨3, ![4, 1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x15248 : Shape := ⟨2, ![2048, 15248]⟩
abbrev S4x4096x15248 : Shape := ⟨3, ![4, 4096, 15248]⟩
abbrev S4x4096x848 : Shape := ⟨3, ![4, 4096, 848]⟩
abbrev S16384x848 : Shape := ⟨2, ![16384, 848]⟩
abbrev S16384x896 : Shape := ⟨2, ![16384, 896]⟩
abbrev S4x4096x64 : Shape := ⟨3, ![4, 4096, 64]⟩
abbrev S16384x64 : Shape := ⟨2, ![16384, 64]⟩
abbrev S16384x128 : Shape := ⟨2, ![16384, 128]⟩
abbrev S16384x1024 : Shape := ⟨2, ![16384, 1024]⟩
abbrev S16384x2048 : Shape := ⟨2, ![16384, 2048]⟩

abbrev nBuf : Space → Nat
  | .hbm => 50
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x12288, .f32⟩
  | .hbm, ⟨2, _⟩ => ⟨S1x2048, .f32⟩
  | .hbm, ⟨3, _⟩ => ⟨S1x2048x15248, .f32⟩
  | .hbm, ⟨4, _⟩ => ⟨S4x1x12288, .f32⟩
  | .hbm, ⟨5, _⟩ => ⟨S4x1x2048, .f32⟩
  | .hbm, ⟨6, _⟩ => ⟨S4x1x2048, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S2048, .f32⟩
  | .hbm, ⟨12, _⟩ => ⟨S4x4096x2048, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1, .f32⟩
  | .hbm, ⟨23, _⟩ => ⟨S4x4096x2048, .f32⟩
  | .hbm, ⟨24, _⟩ => ⟨S4x4096x2048, .f32⟩
  | .hbm, ⟨25, _⟩ => ⟨S1x1x2048, .f32⟩
  | .hbm, ⟨26, _⟩ => ⟨S4x4096x2048, .f32⟩
  | .hbm, ⟨27, _⟩ => ⟨S4x4096x2048, .f32⟩
  | .hbm, ⟨28, _⟩ => ⟨S_, .f32⟩
  | .hbm, ⟨29, _⟩ => ⟨S4x1x2048, .f32⟩
  | .hbm, ⟨30, _⟩ => ⟨S4x1x2048, .f32⟩
  | .hbm, ⟨31, _⟩ => ⟨S4x4096x2048, .f32⟩
  | .hbm, ⟨32, _⟩ => ⟨S4x4096x2048, .f32⟩
  | .hbm, ⟨33, _⟩ => ⟨S4x4096x2048, .f32⟩
  | .hbm, ⟨34, _⟩ => ⟨S4x4096x2048, .f32⟩
  | .hbm, ⟨35, _⟩ => ⟨S2048x15248, .f32⟩
  | .hbm, ⟨36, _⟩ => ⟨S4x4096x15248, .f32⟩
  | .hbm, ⟨37, _⟩ => ⟨S4x4096x848, .f32⟩
  | .hbm, ⟨38, _⟩ => ⟨S16384x848, .f32⟩
  | .hbm, ⟨39, _⟩ => ⟨S_, .i32⟩
  | .hbm, ⟨40, _⟩ => ⟨S_, .f32⟩
  | .hbm, ⟨41, _⟩ => ⟨S16384x896, .f32⟩
  | .hbm, ⟨42, _⟩ => ⟨S4x4096x64, .f32⟩
  | .hbm, ⟨43, _⟩ => ⟨S16384x64, .f32⟩
  | .hbm, ⟨44, _⟩ => ⟨S_, .i32⟩
  | .hbm, ⟨45, _⟩ => ⟨S_, .f32⟩
  | .hbm, ⟨46, _⟩ => ⟨S16384x128, .f32⟩
  | .hbm, ⟨47, _⟩ => ⟨S16384x1024, .f32⟩
  | .hbm, ⟨48, _⟩ => ⟨S16384x2048, .f32⟩
  | .hbm, ⟨49, _⟩ => ⟨S16384x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c : Ref sig .tc := ⟨.hbm, 39, rfl⟩
abbrev main_call0_v0 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_3 : Ref sig .tc := ⟨.hbm, 44, rfl⟩
abbrev main_call1_v0 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== XbcConv.lean ====
abbrev S4x4096x2048 : Shape := ⟨3, ![4, 4096, 2048]⟩
abbrev S1x2048x15248 : Shape := ⟨3, ![1, 2048, 15248]⟩
abbrev S1x4x6144 : Shape := ⟨3, ![1, 4, 6144]⟩
abbrev S1x6144 : Shape := ⟨2, ![1, 6144]⟩
abbrev S2048x15248 : Shape := ⟨2, ![2048, 15248]⟩
abbrev S2048x6144 : Shape := ⟨2, ![2048, 6144]⟩
abbrev S16384x2048 : Shape := ⟨2, ![16384, 2048]⟩
abbrev S4x6144 : Shape := ⟨2, ![4, 6144]⟩
abbrev S6144 : Shape := ⟨1, ![6144]⟩
abbrev S16384x6144 : Shape := ⟨2, ![16384, 6144]⟩
abbrev S1024x2048 : Shape := ⟨2, ![1024, 2048]⟩
abbrev S2048x1024 : Shape := ⟨2, ![2048, 1024]⟩
abbrev S4x1024 : Shape := ⟨2, ![4, 1024]⟩
abbrev S1x1024 : Shape := ⟨2, ![1, 1024]⟩
abbrev S1024x1024 : Shape := ⟨2, ![1024, 1024]⟩
abbrev S6x8x1024 : Shape := ⟨3, ![6, 8, 1024]⟩
abbrev S1032x256 : Shape := ⟨2, ![1032, 256]⟩
abbrev S8x1024 : Shape := ⟨2, ![8, 1024]⟩
abbrev S1x8x1024 : Shape := ⟨3, ![1, 8, 1024]⟩
abbrev S1x8x256 : Shape := ⟨3, ![1, 8, 256]⟩
abbrev S8x256 : Shape := ⟨2, ![8, 256]⟩
abbrev S2048x256 : Shape := ⟨2, ![2048, 256]⟩
abbrev S1024x256 : Shape := ⟨2, ![1024, 256]⟩
abbrev S72x256 : Shape := ⟨2, ![72, 256]⟩
abbrev S1x256 : Shape := ⟨2, ![1, 256]⟩
abbrev S64x256 : Shape := ⟨2, ![64, 256]⟩

abbrev nBuf : Space → Nat
  | .hbm => 13
  | .vmem => 13
  | .smem => 0
  | _ => 0

abbrev bufTy : (tb : Table) → Fin (tcTables nBuf tb) → BufTy
  | .hbm, ⟨0, _⟩ => ⟨S4x4096x2048, .f32⟩
  | .hbm, ⟨1, _⟩ => ⟨S1x2048x15248, .f32⟩
  | .hbm, ⟨2, _⟩ => ⟨S1x4x6144, .f32⟩
  | .hbm, ⟨3, _⟩ => ⟨S1x6144, .f32⟩
  | .hbm, ⟨4, _⟩ => ⟨S2048x15248, .f32⟩
  | .hbm, ⟨5, _⟩ => ⟨S2048x6144, .f32⟩
  | .hbm, ⟨6, _⟩ => ⟨S2048x6144, .bf16⟩
  | .hbm, ⟨7, _⟩ => ⟨S16384x2048, .f32⟩
  | .hbm, ⟨8, _⟩ => ⟨S16384x2048, .bf16⟩
  | .hbm, ⟨9, _⟩ => ⟨S4x6144, .f32⟩
  | .hbm, ⟨10, _⟩ => ⟨S6144, .f32⟩
  | .hbm, ⟨11, _⟩ => ⟨S1x6144, .f32⟩
  | .hbm, ⟨12, _⟩ => ⟨S16384x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S4x1024, .f32⟩
  | .local _ .vmem, ⟨5, _⟩ => ⟨S4x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S6x8x1024, .f32⟩
  | .local _ .vmem, ⟨11, _⟩ => ⟨S1032x256, .f32⟩
  | .local _ .vmem, ⟨12, _⟩ => ⟨S1032x256, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 6], ![false, false]⟩

def k0_cond1 (i : grid0.Coords) : BitVec 1 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v11 : BitVec 32 := Scalar.extui v10
  let c0_i32_4 : BitVec 32 := 0#32
  let v12 : BitVec 1 := Scalar.cmpi .ne v11 c0_i32_4
  v12

def k0_off1 (i : grid0.Coords) : Fin 3 → Nat :=
  let arg1 : BitVec 32 := BitVec.ofNat 32 (i 1).val
  let v2277 : Index := Scalar.indexCast arg1
  let c0_1118 : Index := 0#32
  let c0_1119 : Index := 0#32
  ![v2277.toNat, 0, 0]
def k0_mult1 (i : grid0.Coords) : BitVec 32 :=
  let arg0 : BitVec 32 := BitVec.ofNat 32 (i 0).val
  let c0_i32_5 : BitVec 32 := 0#32
  let v13 : BitVec 32 := Scalar.minsi arg0 c0_i32_5
  let c8_i32 : BitVec 32 := 8#32
  let v14 : BitVec 32 := Scalar.muli v13 c8_i32
  v14
def k0_off2 (i : grid0.Coords) : Fin 3 → Nat :=
  let arg1 : BitVec 32 := BitVec.ofNat 32 (i 1).val
  let v16 : Index := Scalar.indexCast arg1
  let c0 : Index := 0#32
  let c0_6 : Index := 0#32
  ![v16.toNat, 0, 0]
def k0_off3 (i : grid0.Coords) : Fin 3 → Nat :=
  let arg1 : BitVec 32 := BitVec.ofNat 32 (i 1).val
  let v30 : Index := Scalar.indexCast arg1
  let c0_14 : Index := 0#32
  let c256 : Index := 256#32
  ![v30.toNat, 0, 256]
def k0_off4 (i : grid0.Coords) : Fin 2 → Nat :=
  let arg0 : BitVec 32 := BitVec.ofNat 32 (i 0).val
  let c0_i32_5 : BitVec 32 := 0#32
  let v13 : BitVec 32 := Scalar.minsi arg0 c0_i32_5
  let c8_i32 : BitVec 32 := 8#32
  let v14 : BitVec 32 := Scalar.muli v13 c8_i32
  let v15 : BitVec 32 := v14
  let c1024_i32 : BitVec 32 := 1024#32
  let v44 : BitVec 32 := Scalar.addi v15 c1024_i32
  let v45 : Index := Scalar.indexCast v44
  let c0_24 : Index := 0#32
  ![v45.toNat, 0]
def k0_off5 (i : grid0.Coords) (c0_i32_27 : BitVec 32) : Fin 2 → Nat :=
  let arg0 : BitVec 32 := BitVec.ofNat 32 (i 0).val
  let c0_i32_5 : BitVec 32 := 0#32
  let v13 : BitVec 32 := Scalar.minsi arg0 c0_i32_5
  let c8_i32 : BitVec 32 := 8#32
  let v14 : BitVec 32 := Scalar.muli v13 c8_i32
  let v15 : BitVec 32 := v14
  let v51 : BitVec 32 := Scalar.addi v15 c0_i32_27
  let v52 : Index := Scalar.indexCast v51
  let c0_28 : Index := 0#32
  ![v52.toNat, 0]
def k0_off6 (i : grid0.Coords) : Fin 3 → Nat :=
  let arg1 : BitVec 32 := BitVec.ofNat 32 (i 1).val
  let v595 : Index := Scalar.indexCast arg1
  let c0_267 : Index := 0#32
  let c512_268 : Index := 512#32
  ![v595.toNat, 0, 512]
def k0_off7 (i : grid0.Coords) : Fin 3 → Nat :=
  let arg1 : BitVec 32 := BitVec.ofNat 32 (i 1).val
  let v1160 : Index := Scalar.indexCast arg1
  let c0_554 : Index := 0#32
  let c768_555 : Index := 768#32
  ![v1160.toNat, 0, 768]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== XbcConvReferenceIdeal.lean ====
abbrev S4x4096x2048 : Shape := ⟨3, ![4, 4096, 2048]⟩
abbrev S1x2048x15248 : Shape := ⟨3, ![1, 2048, 15248]⟩
abbrev S1x4x6144 : Shape := ⟨3, ![1, 4, 6144]⟩
abbrev S1x6144 : Shape := ⟨2, ![1, 6144]⟩
abbrev S2048x15248 : Shape := ⟨2, ![2048, 15248]⟩
abbrev S4x4096x15248 : Shape := ⟨3, ![4, 4096, 15248]⟩
abbrev S4x4096x4944 : Shape := ⟨3, ![4, 4096, 4944]⟩
abbrev S4x4096x6144 : Shape := ⟨3, ![4, 4096, 6144]⟩
abbrev S4x4096x4160 : Shape := ⟨3, ![4, 4096, 4160]⟩
abbrev S_ : Shape := ⟨0, ![]⟩
abbrev S4x4099x6144 : Shape := ⟨3, ![4, 4099, 6144]⟩
abbrev S1x1x6144 : Shape := ⟨3, ![1, 1, 6144]⟩
abbrev S6144 : Shape := ⟨1, ![6144]⟩
abbrev S16384x6144 : Shape := ⟨2, ![16384, 6144]⟩

abbrev nBuf : Space → Nat
  | .hbm => 54
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048x15248, .f32⟩
  | .hbm, ⟨2, _⟩ => ⟨S1x4x6144, .f32⟩
  | .hbm, ⟨3, _⟩ => ⟨S1x6144, .f32⟩
  | .hbm, ⟨4, _⟩ => ⟨S2048x15248, .f32⟩
  | .hbm, ⟨5, _⟩ => ⟨S4x4096x15248, .f32⟩
  | .hbm, ⟨6, _⟩ => ⟨S4x4096x4944, .f32⟩
  | .hbm, ⟨7, _⟩ => ⟨S4x4096x6144, .f32⟩
  | .hbm, ⟨8, _⟩ => ⟨S4x4096x4160, .f32⟩
  | .hbm, ⟨9, _⟩ => ⟨S_, .i32⟩
  | .hbm, ⟨10, _⟩ => ⟨S_, .f32⟩
  | .hbm, ⟨11, _⟩ => ⟨S4x4099x6144, .f32⟩
  | .hbm, ⟨12, _⟩ => ⟨S4x4096x6144, .f32⟩
  | .hbm, ⟨13, _⟩ => ⟨S1x1x6144, .f32⟩
  | .hbm, ⟨14, _⟩ => ⟨S6144, .f32⟩
  | .hbm, ⟨15, _⟩ => ⟨S1x1x6144, .f32⟩
  | .hbm, ⟨16, _⟩ => ⟨S4x4096x6144, .f32⟩
  | .hbm, ⟨17, _⟩ => ⟨S4x4096x6144, .f32⟩
  | .hbm, ⟨18, _⟩ => ⟨S4x4096x6144, .f32⟩
  | .hbm, ⟨19, _⟩ => ⟨S1x1x6144, .f32⟩
  | .hbm, ⟨20, _⟩ => ⟨S6144, .f32⟩
  | .hbm, ⟨21, _⟩ => ⟨S1x1x6144, .f32⟩
  | .hbm, ⟨22, _⟩ => ⟨S4x4096x6144, .f32⟩
  | .hbm, ⟨23, _⟩ => ⟨S4x4096x6144, .f32⟩
  | .hbm, ⟨24, _⟩ => ⟨S4x4096x6144, .f32⟩
  | .hbm, ⟨25, _⟩ => ⟨S4x4096x6144, .f32⟩
  | .hbm, ⟨26, _⟩ => ⟨S1x1x6144, .f32⟩
  | .hbm, ⟨27, _⟩ => ⟨S6144, .f32⟩
  | .hbm, ⟨28, _⟩ => ⟨S1x1x6144, .f32⟩
  | .hbm, ⟨29, _⟩ => ⟨S4x4096x6144, .f32⟩
  | .hbm, ⟨30, _⟩ => ⟨S4x4096x6144, .f32⟩
  | .hbm, ⟨31, _⟩ => ⟨S4x4096x6144, .f32⟩
  | .hbm, ⟨32, _⟩ => ⟨S4x4096x6144, .f32⟩
  | .hbm, ⟨33, _⟩ => ⟨S1x1x6144, .f32⟩
  | .hbm, ⟨34, _⟩ => ⟨S6144, .f32⟩
  | .hbm, ⟨35, _⟩ => ⟨S1x1x6144, .f32⟩
  | .hbm, ⟨36, _⟩ => ⟨S4x4096x6144, .f32⟩
  | .hbm, ⟨37, _⟩ => ⟨S4x4096x6144, .f32⟩
  | .hbm, ⟨38, _⟩ => ⟨S4x4096x6144, .f32⟩
  | .hbm, ⟨39, _⟩ => ⟨S6144, .f32⟩
  | .hbm, ⟨40, _⟩ => ⟨S1x1x6144, .f32⟩
  | .hbm, ⟨41, _⟩ => ⟨S4x4096x6144, .f32⟩
  | .hbm, ⟨42, _⟩ => ⟨S4x4096x6144, .f32⟩
  | .hbm, ⟨43, _⟩ => ⟨S4x4096x6144, .f32⟩
  | .hbm, ⟨44, _⟩ => ⟨S4x4096x6144, .f32⟩
  | .hbm, ⟨45, _⟩ => ⟨S_, .f32⟩
  | .hbm, ⟨46, _⟩ => ⟨S4x4096x6144, .f32⟩
  | .hbm, ⟨47, _⟩ => ⟨S4x4096x6144, .f32⟩
  | .hbm, ⟨48, _⟩ => ⟨S_, .f32⟩
  | .hbm, ⟨49, _⟩ => ⟨S4x4096x6144, .f32⟩
  | .hbm, ⟨50, _⟩ => ⟨S4x4096x6144, .f32⟩
  | .hbm, ⟨51, _⟩ => ⟨S4x4096x6144, .f32⟩
  | .hbm, ⟨52, _⟩ => ⟨S16384x6144, .f32⟩
  | .hbm, ⟨53, _⟩ => ⟨S16384x6144, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Proof.Safe.lean ====
/-
  What a kernel body of loads, stores, counted loops and two-way branches needs in order to run: memory
  it can read or write, whatever that memory holds.

  `Safe c R p` says that, holding `R`, the program `p` runs to its end on core `c` and hands `R` back, whatever
  it returns. `Readable c R m` and `Writable c R m` say that `R` lends the memref `m` for a read (given back as it
  was) or for a write (given back at any contents). With those two, every load and store keeps `R`, so a body is
  safe by its shape alone: no contents are ever named, and a branch or a loop costs one visit of its region.
-/
module

public import Idealize.ShloMosaic.Lib.Pipeline.FrameBody
public import Idealize.ShloMosaic.Lib.Tactic
public import Idealize.ShloMosaic.Lib.Scf

@[expose] public section

noncomputable section

namespace Cert.Proof.Shape

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {Λ : Labels}

/-- `R` lends the memref `m` for a read. -/
class Readable (c : Dev nD) (R : sProp (MT nD τ sig Unit Val ℕ (UR sig nD τ) ℕ)) {s : Shape} {e : EltTy} (m : Memref sig .tc .vmem s e) : Prop where
  lend : R ⊢ iprop(∃ f, (m.view.loc (c : Thread nD τ) ↦[m.view.set]{fullShare} f)
    ∗ ((m.view.loc (c : Thread nD τ) ↦[m.view.set]{fullShare} f) -∗ R))

/-- `R` lends the memref `m` for a write: it comes back at any contents. -/
class Writable (c : Dev nD) (R : sProp (MT nD τ sig Unit Val ℕ (UR sig nD τ) ℕ)) {s : Shape} {e : EltTy} (m : Memref sig .tc .vmem s e) : Prop where
  lend : R ⊢ iprop(∃ f, (m.view.loc (c : Thread nD τ) ↦[m.view.set]{fullShare} f)
    ∗ (∀ f', (m.view.loc (c : Thread nD τ) ↦[m.view.set]{fullShare} f') -∗ R))

variable (defs : Defs nD τ sig Val Λ) (c : Dev nD) (R : sProp (MT nD τ sig Unit Val ℕ (UR sig nD τ) ℕ))

/-- Holding `R`, the program runs to its end and hands `R` back. -/
class Safe {α : Type} (p : Prog (TpuEff nD τ sig Val Λ .tc) α) : Prop where
  run : R ⊢ wp frame (wpE (Ix := Unit) (Name := ℕ) (U := UR sig nD τ) (Lvl := ℕ) defs Variants.none (c : Thread nD τ) none)
    Set.univ p (fun _ => R)

variable {defs c R}

/-- What may be written may be read. -/
instance Writable.readable {s : Shape} {e : EltTy} {m : Memref sig .tc .vmem s e} [h : Writable c R m] :
    Readable c R m where
  lend := by
    refine h.lend.trans ?_
    iintro ⟨%f, Hf, Hk⟩
    iexists f
    isplitl [Hf]
    · iexact Hf
    iapply Hk

/-- Returning is safe. -/
theorem Safe.pure {α : Type} (a : α) : Safe defs c R (Pure.pure a) where
  run := le_wp_ret _ _ _ a (fun _ => R)

/-- A load from a readable memref is safe. -/
theorem Safe.load {s : Shape} {e : EltTy} {m : Memref sig .tc .vmem s e} [h : Readable c R m]
    {r : LoadRect s} {hl : m.view.LoadsAt r} :
    Safe defs c R (Prog.lift (TpuEff.load m r hl)) where
  run := by
    refine h.lend.trans ?_
    iintro ⟨%f, Hf, Hk⟩
    iapply (wp_load Variants.none (c : Thread nD τ) none Set.univ (m := m) (r := r) (hl := hl)
      (S := m.view.set) (View.setOn_subset_set _ _)) $$ Hf
    iintro Hf
    rw [wp_ret]
    imodintro
    iapply Hk
    iexact Hf

/-- A store into a writable memref is safe. -/
theorem Safe.store {s : Shape} {e : EltTy} {m : Memref sig .tc .vmem s e} [h : Writable c R m]
    {r : Rect s} {w : r.shape.Idx → Val e} {Mk : Finset r.shape.Idx} {hx : (m.access r).Stores Mk}
    {hm : Mk = Finset.univ ∨ ∀ a, r.stride a = 1} :
    Safe defs c R (Prog.lift (TpuEff.store m r w Mk hx hm)) where
  run := by
    refine h.lend.trans ?_
    iintro ⟨%f, Hf, Hk⟩
    iapply (wp_store Variants.none (c : Thread nD τ) none Set.univ (m := m) (r := r) (w := w) (Mk := Mk)
      (hx := hx) (hm := hm) (S := m.view.set) (m.setOn_access_subset r Mk)) $$ Hf
    iintro Hf
    rw [wp_ret]
    imodintro
    iapply Hk
    iexact Hf

/-- Two programs in sequence, the first one's safety already known. -/
theorem Safe.bind {α β : Type} {p : Prog (TpuEff nD τ sig Val Λ .tc) α} [hp : Safe defs c R p]
    {k : α → Prog (TpuEff nD τ sig Val Λ .tc) β} (hk : ∀ x, Safe defs c R (k x)) : Safe defs c R (p >>= k) where
  run := by
    rw [wp_bind]
    exact hp.run.trans (wp_mono _ _ _ fun x => (hk x).run)

/-- Two programs in sequence. -/
theorem Safe.seq {α β : Type} {p : Prog (TpuEff nD τ sig Val Λ .tc) α} (hp : Safe defs c R p)
    {k : α → Prog (TpuEff nD τ sig Val Λ .tc) β} (hk : ∀ x, Safe defs c R (k x)) : Safe defs c R (p >>= k) :=
  Safe.bind hk

/-- A load, then the rest. -/
theorem Safe.loadSeq {α : Type} {s : Shape} {e : EltTy} {m : Memref sig .tc .vmem s e} [h : Readable c R m]
    {r : LoadRect s} {hl : m.view.LoadsAt r} {k : (r.shape.Idx → Val e) → Prog (TpuEff nD τ sig Val Λ .tc) α}
    (hk : ∀ x, Safe defs c R (k x)) : Safe defs c R (Prog.lift (TpuEff.load m r hl) >>= k) :=
  Safe.seq Safe.load hk

/-- A store, then the rest. -/
theorem Safe.storeSeq {α : Type} {s : Shape} {e : EltTy} {m : Memref sig .tc .vmem s e} [h : Writable c R m]
    {r : Rect s} {w : r.shape.Idx → Val e} {Mk : Finset r.shape.Idx} {hx : (m.access r).Stores Mk}
    {hm : Mk = Finset.univ ∨ ∀ a, r.stride a = 1} {k : PUnit → Prog (TpuEff nD τ sig Val Λ .tc) α}
    (hk : ∀ x, Safe defs c R (k x)) : Safe defs c R (Prog.lift (TpuEff.store m r w Mk hx hm) >>= k) :=
  Safe.seq Safe.store hk

/-- A branch whose two regions are safe. -/
theorem Safe.cond {α : Type} {b : Prop} [Decidable b] {p : b → Prog (TpuEff nD τ sig Val Λ .tc) α}
    {q : ¬ b → Prog (TpuEff nD τ sig Val Λ .tc) α} (hp : ∀ h, Safe defs c R (p h)) (hq : ∀ h, Safe defs c R (q h)) :
    Safe defs c R (dite b p q) := by
  by_cases h : b
  · rw [dif_pos h]; exact hp h
  · rw [dif_neg h]; exact hq h

/-- A counted loop whose region is safe at every trip, from any carried values. -/
theorem Safe.loop {n : Nat} {σ : Type} {l : Scf.Loop n} {hok : l.OK} {init : σ}
    {body : Fin l.trips → σ → Prog (TpuEff nD τ sig Val Λ .tc) σ} (hb : ∀ k a, Safe defs c R (body k a)) :
    Safe defs c R (l.for hok init body) where
  run := by
    refine BIBase.Entails.trans ?_ (Scf.wp_for _ _ _ l.lb l.ub l.st hok init body (fun _ _ => R) (fun k a => (hb k a).run))
    iintro HR
    isplitl [HR]
    · iexact HR
    iintro %a HR
    iexact HR

end Cert.Proof.Shape

end
-- ==== Proof.Pieces1.lean ====
/-
  The straight pieces 1 to 151 of the attention's body: each only loads and stores, so each is safe by its shape.
-/
module

public import proofs.«01_k».proof.Kernel
public import proofs.«01_k».proof.Proof.Safe

@[expose] public section

set_option maxRecDepth 16384
set_option synthInstance.maxSize 4096

noncomputable section

namespace Cert.Proof.Attention

open Cert.Kernel Cert.Proof.Shape
open Idealize.ShloMosaic Idealize.ShloMosaic.TcCoe
open Idealize.SL Idealize.SL.BI Idealize.SL.Sem
open Idealize.ShloMosaic.Rounds

variable {F : FTy → Type} [BitOps F] [Facts]
variable {defs : Defs nD τ sig (Elt F) Λ₀} {c : Dev nD} {R : sProp (MT nD τ sig Unit (Elt F) ℕ (UR sig nD τ) ℕ)}
variable {i : grid0.Coords}
variable {a2 : Memref sig .tc .vmem S1x2048x128 .bf16} {h2 : a2.IsWhole} [Readable c R a2]
variable {a3 : Memref sig .tc .vmem S1x16x128 .f32} {h3 : a3.IsWhole} [Readable c R a3]
variable {a4 : Memref sig .tc .vmem S1x4096x128 .bf16} {h4 : a4.IsWhole} [Readable c R a4]
variable {a5 : Memref sig .tc .vmem S1x4096x256 .bf16} {h5 : a5.IsWhole} [Readable c R a5]
variable {a6 : Memref sig .tc .vmem S1x2048x256 .bf16} {h6 : a6.IsWhole} [Readable c R a6]
variable {a7 : Memref sig .tc .vmem S3x16x128x128 .f32} {h7 : a7.IsWhole} [Readable c R a7]
variable {a8 : Memref sig .tc .vmem S16x256x128 .bf16} {h8 : a8.IsWhole} [Readable c R a8]
variable {a9 : Memref sig .tc .vmem S1x128x2048 .bf16} {h9 : a9.IsWhole} [Writable c R a9]
variable {a10 : Memref sig .tc .vmem S8x512x128 .i32} {h10 : a10.IsWhole} [Writable c R a10]
variable {a11 : Memref sig .tc .vmem S8x512x128 .i16} {h11 : a11.IsWhole} [Writable c R a11]
variable {a12 : Memref sig .tc .vmem S8x512x128 .i16} {h12 : a12.IsWhole} [Writable c R a12]
variable {a13 : Memref sig .tc .vmem S8x512x128 .i16} {h13 : a13.IsWhole} [Writable c R a13]
variable {a14 : Memref sig .tc .vmem S33x128x128 .f32} {h14 : a14.IsWhole} [Writable c R a14]
variable {a15 : Memref sig .tc .vmem S2x512x2048 .f32} {h15 : a15.IsWhole} [Writable c R a15]
variable {a16 : Memref sig .tc .vmem S4x512x512 .f32} {h16 : a16.IsWhole} [Writable c R a16]
variable {a17 : Memref sig .tc .vmem S4x512x512 .bf16} {h17 : a17.IsWhole} [Writable c R a17]
variable {a18 : Memref sig .tc .vmem S4x512x128 .f32} {h18 : a18.IsWhole} [Writable c R a18]
variable {a19 : Memref sig .tc .vmem S2048x256 .f32} {h19 : a19.IsWhole} [Writable c R a19]
variable {a20 : Memref sig .tc .vmem S2048x128 .f32} {h20 : a20.IsWhole} [Writable c R a20]
variable {a21 : Memref sig .tc .vmem S2048x128 .f32} {h21 : a21.IsWhole} [Writable c R a21]
variable {a22 : Memref sig .tc .vmem S8x128 .i32} {h22 : a22.IsWhole} [Writable c R a22]

instance s1 : ∀ x, Safe defs c R (k0_part1 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part1
  repeat' first | exact Safe.pure _ | refine Safe.loadSeq fun _ => ?_ | refine Safe.storeSeq fun _ => ?_
instance s2 : ∀ x y, Safe defs c R (k0_part2 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part2
  repeat' first | exact Safe.pure _ | refine Safe.loadSeq fun _ => ?_ | refine Safe.storeSeq fun _ => ?_
instance s3 : ∀ x y, Safe defs c R (k0_part3 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part3
  repeat' first | exact Safe.pure _ | refine Safe.loadSeq fun _ => ?_ | refine Safe.storeSeq fun _ => ?_
instance s4 : ∀ x, Safe defs c R (k0_part4 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part4
  repeat' first | exact Safe.pure _ | refine Safe.loadSeq fun _ => ?_ | refine Safe.storeSeq fun _ => ?_
instance s5 : ∀ x y z u v, Safe defs c R (k0_part5 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v) := by
  intro x y z u v; unfold k0_part5
  repeat' first | exact Safe.pure _ | refine Safe.loadSeq fun _ => ?_ | refine Safe.storeSeq fun _ => ?_
instance s6 : ∀ x y, Safe defs c R (k0_part6 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part6
  repeat' first | exact Safe.pure _ | refine Safe.loadSeq fun _ => ?_ | refine Safe.storeSeq fun _ => ?_
instance s7 : ∀ x, Safe defs c R (k0_part7 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part7
  repeat' first | exact Safe.pure _ | refine Safe.loadSeq fun _ => ?_ | refine Safe.storeSeq fun _ => ?_
instance s8 : ∀ x y z, Safe defs c R (k0_part8 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part8
  repeat' first | exact Safe.pure _ | refine Safe.loadSeq fun _ => ?_ | refine Safe.storeSeq fun _ => ?_
instance s9 : ∀ x y, Safe defs c R (k0_part9 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part9
  repeat' first | exact Safe.pure _ | refine Safe.loadSeq fun _ => ?_ | refine Safe.storeSeq fun _ => ?_
instance s10 : ∀ x y z u, Safe defs c R (k0_part10 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part10
  repeat' first | exact Safe.pure _ | refine Safe.loadSeq fun _ => ?_ | refine Safe.storeSeq fun _ => ?_
instance s11 : ∀ x y z, Safe defs c R (k0_part11 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part11
  repeat' first | exact Safe.pure _ | refine Safe.loadSeq fun _ => ?_ | refine Safe.storeSeq fun _ => ?_
instance s12 : ∀ x y, Safe defs c R (k0_part12 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part12
  repeat' first | exact Safe.pure _ | refine Safe.loadSeq fun _ => ?_ | refine Safe.storeSeq fun _ => ?_
instance s13 : ∀ x y, Safe defs c R (k0_part13 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part13
  repeat' first | exact Safe.pure _ | refine Safe.loadSeq fun _ => ?_ | refine Safe.storeSeq fun _ => ?_
instance s14 : ∀ x, Safe defs c R (k0_part14 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part14
  repeat' first | exact Safe.pure _ | refine Safe.loadSeq fun _ => ?_ | refine Safe.storeSeq fun _ => ?_
instance s15 : ∀ x y z u v, Safe defs c R (k0_part15 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v) := by
  intro x y z u v; unfold k0_part15
  repeat' first | exact Safe.pure _ | refine Safe.loadSeq fun _ => ?_ | refine Safe.storeSeq fun _ => ?_
instance s16 : ∀ x y z, Safe defs c R (k0_part16 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part16
  repeat' first | exact Safe.pure _ | refine Safe.loadSeq fun _ => ?_ | refine Safe.storeSeq fun _ => ?_
instance s17 : ∀ x, Safe defs c R (k0_part17 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part17
  repeat' first | exact Safe.pure _ | refine Safe.loadSeq fun _ => ?_ | refine Safe.storeSeq fun _ => ?_
instance s18 : ∀ x y z, Safe defs c R (k0_part18 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part18
  repeat' first | exact Safe.pure _ | refine Safe.loadSeq fun _ => ?_ | refine Safe.storeSeq fun _ => ?_
instance s19 : ∀ x y, Safe defs c R (k0_part19 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part19
  repeat' first | exact Safe.pure _ | refine Safe.loadSeq fun _ => ?_ | refine Safe.storeSeq fun _ => ?_
instance s20 : ∀ x y, Safe defs c R (k0_part20 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part20
  repeat' first | exact Safe.pure _ | refine Safe.loadSeq fun _ => ?_ | refine Safe.storeSeq fun _ => ?_
instance s22 : ∀ x y z u v, Safe defs c R (k0_part22 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v) := by
  intro x y z u v; unfold k0_part22
  repeat' first | exact Safe.pure _ | refine Safe.loadSeq fun _ => ?_ | refine Safe.storeSeq fun _ => ?_
instance s23 : ∀ x y, Safe defs c R (k0_part23 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part23
  repeat' first | exact Safe.pure _ | refine Safe.loadSeq fun _ => ?_ | refine Safe.storeSeq fun _ => ?_
instance s24 : ∀ x y, Safe defs c R (k0_part24 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part24
  repeat' first | exact Safe.pure _ | refine Safe.loadSeq fun _ => ?_ | refine Safe.storeSeq fun _ => ?_
instance s25 : ∀ x y z, Safe defs c R (k0_part25 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part25
  repeat' first | exact Safe.pure _ | refine Safe.loadSeq fun _ => ?_ | refine Safe.storeSeq fun _ => ?_
instance s26 : ∀ x, Safe defs c R (k0_part26 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part26
  repeat' first | exact Safe.pure _ | refine Safe.loadSeq fun _ => ?_ | refine Safe.storeSeq fun _ => ?_
instance s27 : ∀ x y z u v w, Safe defs c R (k0_part27 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part27
  repeat' first | exact Safe.pure _ | refine Safe.loadSeq fun _ => ?_ | refine Safe.storeSeq fun _ => ?_
instance s28 : ∀ x y z, Safe defs c R (k0_part28 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part28
  repeat' first | exact Safe.pure _ | refine Safe.loadSeq fun _ => ?_ | refine Safe.storeSeq fun _ => ?_
instance s29 : ∀ x, Safe defs c R (k0_part29 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part29
  repeat' first | exact Safe.pure _ | refine Safe.loadSeq fun _ => ?_ | refine Safe.storeSeq fun _ => ?_
instance s30 : ∀ x y, Safe defs c R (k0_part30 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part30
  repeat' first | exact Safe.pure _ | refine Safe.loadSeq fun _ => ?_ | refine Safe.storeSeq fun _ => ?_
instance s31 : ∀ x y, Safe defs c R (k0_part31 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part31
  repeat' first | exact Safe.pure _ | refine Safe.loadSeq fun _ => ?_ | refine Safe.storeSeq fun _ => ?_
instance s32 : ∀ x y z u v w p, Safe defs c R (k0_part32 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part32
  repeat' first | exact Safe.pure _ | refine Safe.loadSeq fun _ => ?_ | refine Safe.storeSeq fun _ => ?_
instance s33 : ∀ x, Safe defs c R (k0_part33 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part33
  repeat' first | exact Safe.pure _ | refine Safe.loadSeq fun _ => ?_ | refine Safe.storeSeq fun _ => ?_
instance s34 : ∀ x y, Safe defs c R (k0_part34 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part34
  repeat' first | exact Safe.pure _ | refine Safe.loadSeq fun _ => ?_ | refine Safe.storeSeq fun _ => ?_
instance s35 : ∀ x y z, Safe defs c R (k0_part35 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part35
  repeat' first | exact Safe.pure _ | refine Safe.loadSeq fun _ => ?_ | refine Safe.storeSeq fun _ => ?_
instance s36 : ∀ x, Safe defs c R (k0_part36 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part36
  repeat' first | exact Safe.pure _ | refine Safe.loadSeq fun _ => ?_ | refine Safe.storeSeq fun _ => ?_
instance s37 : ∀ x y z u v w, Safe defs c R (k0_part37 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part37
  repeat' first | exact Safe.pure _ | refine Safe.loadSeq fun _ => ?_ | refine Safe.storeSeq fun _ => ?_
instance s38 : ∀ x y z, Safe defs c R (k0_part38 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part38
  repeat' first | exact Safe.pure _ | refine Safe.loadSeq fun _ => ?_ | refine Safe.storeSeq fun _ => ?_
instance s39 : ∀ x, Safe defs c R (k0_part39 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part39
  repeat' first | exact Safe.pure _ | refine Safe.loadSeq fun _ => ?_ | refine Safe.storeSeq fun _ => ?_
instance s40 : ∀ x y, Safe defs c R (k0_part40 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part40
  repeat' first | exact Safe.pure _ | refine Safe.loadSeq fun _ => ?_ | refine Safe.storeSeq fun _ => ?_
instance s41 : ∀ x y, Safe defs c R (k0_part41 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part41
  repeat' first | exact Safe.pure _ | refine Safe.loadSeq fun _ => ?_ | refine Safe.storeSeq fun _ => ?_
instance s42 : ∀ x y z u v w p, Safe defs c R (k0_part42 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part42
  repeat' first | exact Safe.pure _ | refine Safe.loadSeq fun _ => ?_ | refine Safe.storeSeq fun _ => ?_
instance s43 : ∀ x y z u, Safe defs c R (k0_part43 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part43
  repeat' first | exact Safe.pure _ | refine Safe.loadSeq fun _ => ?_ | refine Safe.storeSeq fun _ => ?_
instance s44 : ∀ x y z, Safe defs c R (k0_part44 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part44
  repeat' first | exact Safe.pure _ | refine Safe.loadSeq fun _ => ?_ | refine Safe.storeSeq fun _ => ?_
instance s45 : ∀ x, Safe defs c R (k0_part45 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part45
  repeat' first | exact Safe.pure _ | refine Safe.loadSeq fun _ => ?_ | refine Safe.storeSeq fun _ => ?_
instance s46 : ∀ x y z, Safe defs c R (k0_part46 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part46
  repeat' first | exact Safe.pure _ | refine Safe.loadSeq fun _ => ?_ | refine Safe.storeSeq fun _ => ?_
instance s47 : ∀ x y z u v w, Safe defs c R (k0_part47 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part47
  repeat' first | exact Safe.pure _ | refine Safe.loadSeq fun _ => ?_ | refine Safe.storeSeq fun _ => ?_
instance s48 : ∀ x y z u, Safe defs c R (k0_part48 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part48
  repeat' first | exact Safe.pure _ | refine Safe.loadSeq fun _ => ?_ | refine Safe.storeSeq fun _ => ?_
instance s49 : ∀ x y z, Safe defs c R (k0_part49 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part49
  repeat' first | exact Safe.pure _ | refine Safe.loadSeq fun _ => ?_ | refine Safe.storeSeq fun _ => ?_
instance s50 : ∀ x y, Safe defs c R (k0_part50 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part50
  repeat' first | exact Safe.pure _ | refine Safe.loadSeq fun _ => ?_ | refine Safe.storeSeq fun _ => ?_
instance s51 : ∀ x y z, Safe defs c R (k0_part51 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part51
  repeat' first | exact Safe.pure _ | refine Safe.loadSeq fun _ => ?_ | refine Safe.storeSeq fun _ => ?_
instance s52 : ∀ x y z, Safe defs c R (k0_part52 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part52
  repeat' first | exact Safe.pure _ | refine Safe.loadSeq fun _ => ?_ | refine Safe.storeSeq fun _ => ?_
instance s53 : ∀ x y z u, Safe defs c R (k0_part53 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part53
  repeat' first | exact Safe.pure _ | refine Safe.loadSeq fun _ => ?_ | refine Safe.storeSeq fun _ => ?_
instance s54 : ∀ x y z, Safe defs c R (k0_part54 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part54
  repeat' first | exact Safe.pure _ | refine Safe.loadSeq fun _ => ?_ | refine Safe.storeSeq fun _ => ?_
instance s55 : ∀ x, Safe defs c R (k0_part55 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part55
  repeat' first | exact Safe.pure _ | refine Safe.loadSeq fun _ => ?_ | refine Safe.storeSeq fun _ => ?_
instance s56 : ∀ x y z, Safe defs c R (k0_part56 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part56
  repeat' first | exact Safe.pure _ | refine Safe.loadSeq fun _ => ?_ | refine Safe.storeSeq fun _ => ?_
instance s57 : ∀ x y z u, Safe defs c R (k0_part57 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part57
  repeat' first | exact Safe.pure _ | refine Safe.loadSeq fun _ => ?_ | refine Safe.storeSeq fun _ => ?_
instance s58 : ∀ x y z u v, Safe defs c R (k0_part58 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v) := by
  intro x y z u v; unfold k0_part58
  repeat' first | exact Safe.pure _ | refine Safe.loadSeq fun _ => ?_ | refine Safe.storeSeq fun _ => ?_
instance s59 : ∀ x y z, Safe defs c R (k0_part59 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part59
  repeat' first | exact Safe.pure _ | refine Safe.loadSeq fun _ => ?_ | refine Safe.storeSeq fun _ => ?_
instance s60 : ∀ x y, Safe defs c R (k0_part60 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part60
  repeat' first | exact Safe.pure _ | refine Safe.loadSeq fun _ => ?_ | refine Safe.storeSeq fun _ => ?_
instance s61 : ∀ x y z, Safe defs c R (k0_part61 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part61
  repeat' first | exact Safe.pure _ | refine Safe.loadSeq fun _ => ?_ | refine Safe.storeSeq fun _ => ?_
instance s62 : ∀ x, Safe defs c R (k0_part62 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part62
  repeat' first | exact Safe.pure _ | refine Safe.loadSeq fun _ => ?_ | refine Safe.storeSeq fun _ => ?_
instance s64 : ∀ x y z u v, Safe defs c R (k0_part64 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v) := by
  intro x y z u v; unfold k0_part64
  repeat' first | exact Safe.pure _ | refine Safe.loadSeq fun _ => ?_ | refine Safe.storeSeq fun _ => ?_
instance s65 : ∀ x y, Safe defs c R (k0_part65 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part65
  repeat' first | exact Safe.pure _ | refine Safe.loadSeq fun _ => ?_ | refine Safe.storeSeq fun _ => ?_
instance s66 : ∀ x y, Safe defs c R (k0_part66 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part66
  repeat' first | exact Safe.pure _ | refine Safe.loadSeq fun _ => ?_ | refine Safe.storeSeq fun _ => ?_
instance s67 : ∀ x y z, Safe defs c R (k0_part67 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part67
  repeat' first | exact Safe.pure _ | refine Safe.loadSeq fun _ => ?_ | refine Safe.storeSeq fun _ => ?_
instance s68 : ∀ x, Safe defs c R (k0_part68 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part68
  repeat' first | exact Safe.pure _ | refine Safe.loadSeq fun _ => ?_ | refine Safe.storeSeq fun _ => ?_
instance s69 : ∀ x y z u v w, Safe defs c R (k0_part69 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part69
  repeat' first | exact Safe.pure _ | refine Safe.loadSeq fun _ => ?_ | refine Safe.storeSeq fun _ => ?_
instance s70 : ∀ x y z, Safe defs c R (k0_part70 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part70
  repeat' first | exact Safe.pure _ | refine Safe.loadSeq fun _ => ?_ | refine Safe.storeSeq fun _ => ?_
instance s71 : ∀ x, Safe defs c R (k0_part71 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part71
  repeat' first | exact Safe.pure _ | refine Safe.loadSeq fun _ => ?_ | refine Safe.storeSeq fun _ => ?_
instance s72 : ∀ x y, Safe defs c R (k0_part72 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part72
  repeat' first | exact Safe.pure _ | refine Safe.loadSeq fun _ => ?_ | refine Safe.storeSeq fun _ => ?_
instance s73 : ∀ x y, Safe defs c R (k0_part73 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part73
  repeat' first | exact Safe.pure _ | refine Safe.loadSeq fun _ => ?_ | refine Safe.storeSeq fun _ => ?_
instance s74 : ∀ x y z u v w p, Safe defs c R (k0_part74 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part74
  repeat' first | exact Safe.pure _ | refine Safe.loadSeq fun _ => ?_ | refine Safe.storeSeq fun _ => ?_
instance s75 : ∀ x, Safe defs c R (k0_part75 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part75
  repeat' first | exact Safe.pure _ | refine Safe.loadSeq fun _ => ?_ | refine Safe.storeSeq fun _ => ?_
instance s76 : ∀ x y, Safe defs c R (k0_part76 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part76
  repeat' first | exact Safe.pure _ | refine Safe.loadSeq fun _ => ?_ | refine Safe.storeSeq fun _ => ?_
instance s77 : ∀ x y z, Safe defs c R (k0_part77 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part77
  repeat' first | exact Safe.pure _ | refine Safe.loadSeq fun _ => ?_ | refine Safe.storeSeq fun _ => ?_
instance s78 : ∀ x, Safe defs c R (k0_part78 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part78
  repeat' first | exact Safe.pure _ | refine Safe.loadSeq fun _ => ?_ | refine Safe.storeSeq fun _ => ?_
instance s79 : ∀ x y z u v w, Safe defs c R (k0_part79 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part79
  repeat' first | exact Safe.pure _ | refine Safe.loadSeq fun _ => ?_ | refine Safe.storeSeq fun _ => ?_
instance s80 : ∀ x y z, Safe defs c R (k0_part80 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part80
  repeat' first | exact Safe.pure _ | refine Safe.loadSeq fun _ => ?_ | refine Safe.storeSeq fun _ => ?_
instance s81 : ∀ x, Safe defs c R (k0_part81 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part81
  repeat' first | exact Safe.pure _ | refine Safe.loadSeq fun _ => ?_ | refine Safe.storeSeq fun _ => ?_
instance s82 : ∀ x y, Safe defs c R (k0_part82 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part82
  repeat' first | exact Safe.pure _ | refine Safe.loadSeq fun _ => ?_ | refine Safe.storeSeq fun _ => ?_
instance s83 : ∀ x y, Safe defs c R (k0_part83 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part83
  repeat' first | exact Safe.pure _ | refine Safe.loadSeq fun _ => ?_ | refine Safe.storeSeq fun _ => ?_
instance s84 : ∀ x y z u v w p, Safe defs c R (k0_part84 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part84
  repeat' first | exact Safe.pure _ | refine Safe.loadSeq fun _ => ?_ | refine Safe.storeSeq fun _ => ?_
instance s85 : ∀ x y z u, Safe defs c R (k0_part85 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part85
  repeat' first | exact Safe.pure _ | refine Safe.loadSeq fun _ => ?_ | refine Safe.storeSeq fun _ => ?_
instance s86 : ∀ x y z, Safe defs c R (k0_part86 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part86
  repeat' first | exact Safe.pure _ | refine Safe.loadSeq fun _ => ?_ | refine Safe.storeSeq fun _ => ?_
instance s87 : ∀ x, Safe defs c R (k0_part87 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part87
  repeat' first | exact Safe.pure _ | refine Safe.loadSeq fun _ => ?_ | refine Safe.storeSeq fun _ => ?_
instance s88 : ∀ x y z, Safe defs c R (k0_part88 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part88
  repeat' first | exact Safe.pure _ | refine Safe.loadSeq fun _ => ?_ | refine Safe.storeSeq fun _ => ?_
instance s89 : ∀ x y z u v w, Safe defs c R (k0_part89 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part89
  repeat' first | exact Safe.pure _ | refine Safe.loadSeq fun _ => ?_ | refine Safe.storeSeq fun _ => ?_
instance s90 : ∀ x y z u, Safe defs c R (k0_part90 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part90
  repeat' first | exact Safe.pure _ | refine Safe.loadSeq fun _ => ?_ | refine Safe.storeSeq fun _ => ?_
instance s91 : ∀ x y z, Safe defs c R (k0_part91 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part91
  repeat' first | exact Safe.pure _ | refine Safe.loadSeq fun _ => ?_ | refine Safe.storeSeq fun _ => ?_
instance s92 : ∀ x y, Safe defs c R (k0_part92 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part92
  repeat' first | exact Safe.pure _ | refine Safe.loadSeq fun _ => ?_ | refine Safe.storeSeq fun _ => ?_
instance s93 : ∀ x y z, Safe defs c R (k0_part93 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part93
  repeat' first | exact Safe.pure _ | refine Safe.loadSeq fun _ => ?_ | refine Safe.storeSeq fun _ => ?_
instance s94 : ∀ x y z, Safe defs c R (k0_part94 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part94
  repeat' first | exact Safe.pure _ | refine Safe.loadSeq fun _ => ?_ | refine Safe.storeSeq fun _ => ?_
instance s95 : ∀ x y z u, Safe defs c R (k0_part95 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part95
  repeat' first | exact Safe.pure _ | refine Safe.loadSeq fun _ => ?_ | refine Safe.storeSeq fun _ => ?_
instance s96 : ∀ x y z, Safe defs c R (k0_part96 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part96
  repeat' first | exact Safe.pure _ | refine Safe.loadSeq fun _ => ?_ | refine Safe.storeSeq fun _ => ?_
instance s97 : ∀ x, Safe defs c R (k0_part97 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part97
  repeat' first | exact Safe.pure _ | refine Safe.loadSeq fun _ => ?_ | refine Safe.storeSeq fun _ => ?_
instance s98 : ∀ x y z, Safe defs c R (k0_part98 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part98
  repeat' first | exact Safe.pure _ | refine Safe.loadSeq fun _ => ?_ | refine Safe.storeSeq fun _ => ?_
instance s99 : ∀ x y z u, Safe defs c R (k0_part99 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part99
  repeat' first | exact Safe.pure _ | refine Safe.loadSeq fun _ => ?_ | refine Safe.storeSeq fun _ => ?_
instance s100 : ∀ x y z u v, Safe defs c R (k0_part100 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v) := by
  intro x y z u v; unfold k0_part100
  repeat' first | exact Safe.pure _ | refine Safe.loadSeq fun _ => ?_ | refine Safe.storeSeq fun _ => ?_
instance s101 : ∀ x y z, Safe defs c R (k0_part101 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part101
  repeat' first | exact Safe.pure _ | refine Safe.loadSeq fun _ => ?_ | refine Safe.storeSeq fun _ => ?_
instance s102 : ∀ x y, Safe defs c R (k0_part102 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part102
  repeat' first | exact Safe.pure _ | refine Safe.loadSeq fun _ => ?_ | refine Safe.storeSeq fun _ => ?_
instance s103 : ∀ x y z, Safe defs c R (k0_part103 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part103
  repeat' first | exact Safe.pure _ | refine Safe.loadSeq fun _ => ?_ | refine Safe.storeSeq fun _ => ?_
instance s104 : ∀ x, Safe defs c R (k0_part104 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part104
  repeat' first | exact Safe.pure _ | refine Safe.loadSeq fun _ => ?_ | refine Safe.storeSeq fun _ => ?_
instance s106 : ∀ x y z u v w p, Safe defs c R (k0_part106 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part106
  repeat' first | exact Safe.pure _ | refine Safe.loadSeq fun _ => ?_ | refine Safe.storeSeq fun _ => ?_
instance s107 : ∀ x y z, Safe defs c R (k0_part107 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part107
  repeat' first | exact Safe.pure _ | refine Safe.loadSeq fun _ => ?_ | refine Safe.storeSeq fun _ => ?_
instance s108 : ∀ x y z, Safe defs c R (k0_part108 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part108
  repeat' first | exact Safe.pure _ | refine Safe.loadSeq fun _ => ?_ | refine Safe.storeSeq fun _ => ?_
instance s109 : ∀ x y z u, Safe defs c R (k0_part109 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part109
  repeat' first | exact Safe.pure _ | refine Safe.loadSeq fun _ => ?_ | refine Safe.storeSeq fun _ => ?_
instance s110 : ∀ x y z, Safe defs c R (k0_part110 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part110
  repeat' first | exact Safe.pure _ | refine Safe.loadSeq fun _ => ?_ | refine Safe.storeSeq fun _ => ?_
instance s111 : ∀ x y z u, Safe defs c R (k0_part111 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part111
  repeat' first | exact Safe.pure _ | refine Safe.loadSeq fun _ => ?_ | refine Safe.storeSeq fun _ => ?_
instance s112 : ∀ x y z, Safe defs c R (k0_part112 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part112
  repeat' first | exact Safe.pure _ | refine Safe.loadSeq fun _ => ?_ | refine Safe.storeSeq fun _ => ?_
instance s113 : ∀ x y z u, Safe defs c R (k0_part113 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part113
  repeat' first | exact Safe.pure _ | refine Safe.loadSeq fun _ => ?_ | refine Safe.storeSeq fun _ => ?_
instance s114 : ∀ x y z, Safe defs c R (k0_part114 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part114
  repeat' first | exact Safe.pure _ | refine Safe.loadSeq fun _ => ?_ | refine Safe.storeSeq fun _ => ?_
instance s115 : ∀ x y z, Safe defs c R (k0_part115 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part115
  repeat' first | exact Safe.pure _ | refine Safe.loadSeq fun _ => ?_ | refine Safe.storeSeq fun _ => ?_
instance s116 : ∀ x y z u, Safe defs c R (k0_part116 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part116
  repeat' first | exact Safe.pure _ | refine Safe.loadSeq fun _ => ?_ | refine Safe.storeSeq fun _ => ?_
instance s117 : ∀ x y z, Safe defs c R (k0_part117 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part117
  repeat' first | exact Safe.pure _ | refine Safe.loadSeq fun _ => ?_ | refine Safe.storeSeq fun _ => ?_
instance s118 : ∀ x y z u, Safe defs c R (k0_part118 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part118
  repeat' first | exact Safe.pure _ | refine Safe.loadSeq fun _ => ?_ | refine Safe.storeSeq fun _ => ?_
instance s119 : ∀ x y z, Safe defs c R (k0_part119 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part119
  repeat' first | exact Safe.pure _ | refine Safe.loadSeq fun _ => ?_ | refine Safe.storeSeq fun _ => ?_
instance s120 : ∀ x y z u, Safe defs c R (k0_part120 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part120
  repeat' first | exact Safe.pure _ | refine Safe.loadSeq fun _ => ?_ | refine Safe.storeSeq fun _ => ?_
instance s121 : ∀ x y z, Safe defs c R (k0_part121 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part121
  repeat' first | exact Safe.pure _ | refine Safe.loadSeq fun _ => ?_ | refine Safe.storeSeq fun _ => ?_
instance s122 : ∀ x y z, Safe defs c R (k0_part122 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part122
  repeat' first | exact Safe.pure _ | refine Safe.loadSeq fun _ => ?_ | refine Safe.storeSeq fun _ => ?_
instance s123 : ∀ x y z u, Safe defs c R (k0_part123 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part123
  repeat' first | exact Safe.pure _ | refine Safe.loadSeq fun _ => ?_ | refine Safe.storeSeq fun _ => ?_
instance s124 : ∀ x y z, Safe defs c R (k0_part124 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part124
  repeat' first | exact Safe.pure _ | refine Safe.loadSeq fun _ => ?_ | refine Safe.storeSeq fun _ => ?_
instance s125 : ∀ x y z u, Safe defs c R (k0_part125 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part125
  repeat' first | exact Safe.pure _ | refine Safe.loadSeq fun _ => ?_ | refine Safe.storeSeq fun _ => ?_
instance s126 : ∀ x y z, Safe defs c R (k0_part126 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part126
  repeat' first | exact Safe.pure _ | refine Safe.loadSeq fun _ => ?_ | refine Safe.storeSeq fun _ => ?_
instance s127 : ∀ x y z u, Safe defs c R (k0_part127 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part127
  repeat' first | exact Safe.pure _ | refine Safe.loadSeq fun _ => ?_ | refine Safe.storeSeq fun _ => ?_
instance s128 : ∀ x y z, Safe defs c R (k0_part128 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part128
  repeat' first | exact Safe.pure _ | refine Safe.loadSeq fun _ => ?_ | refine Safe.storeSeq fun _ => ?_
instance s129 : ∀ x y z, Safe defs c R (k0_part129 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part129
  repeat' first | exact Safe.pure _ | refine Safe.loadSeq fun _ => ?_ | refine Safe.storeSeq fun _ => ?_
instance s130 : ∀ x y z u, Safe defs c R (k0_part130 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part130
  repeat' first | exact Safe.pure _ | refine Safe.loadSeq fun _ => ?_ | refine Safe.storeSeq fun _ => ?_
instance s131 : ∀ x y z, Safe defs c R (k0_part131 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part131
  repeat' first | exact Safe.pure _ | refine Safe.loadSeq fun _ => ?_ | refine Safe.storeSeq fun _ => ?_
instance s132 : ∀ x y z u, Safe defs c R (k0_part132 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part132
  repeat' first | exact Safe.pure _ | refine Safe.loadSeq fun _ => ?_ | refine Safe.storeSeq fun _ => ?_
instance s133 : ∀ x y z, Safe defs c R (k0_part133 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part133
  repeat' first | exact Safe.pure _ | refine Safe.loadSeq fun _ => ?_ | refine Safe.storeSeq fun _ => ?_
instance s134 : ∀ x y z u, Safe defs c R (k0_part134 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part134
  repeat' first | exact Safe.pure _ | refine Safe.loadSeq fun _ => ?_ | refine Safe.storeSeq fun _ => ?_
instance s135 : ∀ x y z, Safe defs c R (k0_part135 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part135
  repeat' first | exact Safe.pure _ | refine Safe.loadSeq fun _ => ?_ | refine Safe.storeSeq fun _ => ?_
instance s136 : ∀ x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14 w15 w16 w17 w18 w19, Safe defs c R (k0_part136 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14 w15 w16 w17 w18 w19) := by
  intro x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14 w15 w16 w17 w18 w19; unfold k0_part136
  repeat' first | exact Safe.pure _ | refine Safe.loadSeq fun _ => ?_ | refine Safe.storeSeq fun _ => ?_
instance s137 : ∀ x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14 w15 w16 w17 w18 w19, Safe defs c R (k0_part137 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14 w15 w16 w17 w18 w19) := by
  intro x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14 w15 w16 w17 w18 w19; unfold k0_part137
  repeat' first | exact Safe.pure _ | refine Safe.loadSeq fun _ => ?_ | refine Safe.storeSeq fun _ => ?_
instance s138 : ∀ x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14 w15 w16 w17 w18 w19, Safe defs c R (k0_part138 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14 w15 w16 w17 w18 w19) := by
  intro x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14 w15 w16 w17 w18 w19; unfold k0_part138
  repeat' first | exact Safe.pure _ | refine Safe.loadSeq fun _ => ?_ | refine Safe.storeSeq fun _ => ?_
instance s139 : ∀ x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15, Safe defs c R (k0_part139 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15) := by
  intro x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15; unfold k0_part139
  repeat' first | exact Safe.pure _ | refine Safe.loadSeq fun _ => ?_ | refine Safe.storeSeq fun _ => ?_
instance s140 : ∀ x y z u v w p, Safe defs c R (k0_part140 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part140
  repeat' first | exact Safe.pure _ | refine Safe.loadSeq fun _ => ?_ | refine Safe.storeSeq fun _ => ?_
instance s141 : ∀ x y z, Safe defs c R (k0_part141 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part141
  repeat' first | exact Safe.pure _ | refine Safe.loadSeq fun _ => ?_ | refine Safe.storeSeq fun _ => ?_
instance s142 : ∀ x y z, Safe defs c R (k0_part142 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part142
  repeat' first | exact Safe.pure _ | refine Safe.loadSeq fun _ => ?_ | refine Safe.storeSeq fun _ => ?_
instance s143 : ∀ x y z u, Safe defs c R (k0_part143 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part143
  repeat' first | exact Safe.pure _ | refine Safe.loadSeq fun _ => ?_ | refine Safe.storeSeq fun _ => ?_
instance s144 : ∀ x y z, Safe defs c R (k0_part144 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part144
  repeat' first | exact Safe.pure _ | refine Safe.loadSeq fun _ => ?_ | refine Safe.storeSeq fun _ => ?_
instance s145 : ∀ x y z u, Safe defs c R (k0_part145 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part145
  repeat' first | exact Safe.pure _ | refine Safe.loadSeq fun _ => ?_ | refine Safe.storeSeq fun _ => ?_
instance s146 : ∀ x y z, Safe defs c R (k0_part146 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part146
  repeat' first | exact Safe.pure _ | refine Safe.loadSeq fun _ => ?_ | refine Safe.storeSeq fun _ => ?_
instance s147 : ∀ x y z u, Safe defs c R (k0_part147 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part147
  repeat' first | exact Safe.pure _ | refine Safe.loadSeq fun _ => ?_ | refine Safe.storeSeq fun _ => ?_
instance s148 : ∀ x y z, Safe defs c R (k0_part148 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part148
  repeat' first | exact Safe.pure _ | refine Safe.loadSeq fun _ => ?_ | refine Safe.storeSeq fun _ => ?_
instance s149 : ∀ x y z, Safe defs c R (k0_part149 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part149
  repeat' first | exact Safe.pure _ | refine Safe.loadSeq fun _ => ?_ | refine Safe.storeSeq fun _ => ?_
instance s150 : ∀ x y z u, Safe defs c R (k0_part150 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part150
  repeat' first | exact Safe.pure _ | refine Safe.loadSeq fun _ => ?_ | refine Safe.storeSeq fun _ => ?_
instance s151 : ∀ x y z, Safe defs c R (k0_part151 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part151
  repeat' first | exact Safe.pure _ | refine Safe.loadSeq fun _ => ?_ | refine Safe.storeSeq fun _ => ?_

end Cert.Proof.Attention

end
-- ==== Proof.Pieces2.lean ====
/-
  The straight pieces 152 to 300 of the attention's body: each only loads and stores, so each is safe by its shape.
-/
module

public import proofs.«01_k».proof.Kernel
public import proofs.«01_k».proof.Proof.Safe

@[expose] public section

set_option maxRecDepth 16384
set_option synthInstance.maxSize 4096

noncomputable section

namespace Cert.Proof.Attention

open Cert.Kernel Cert.Proof.Shape
open Idealize.ShloMosaic Idealize.ShloMosaic.TcCoe
open Idealize.SL Idealize.SL.BI Idealize.SL.Sem
open Idealize.ShloMosaic.Rounds

variable {F : FTy → Type} [BitOps F] [Facts]
variable {defs : Defs nD τ sig (Elt F) Λ₀} {c : Dev nD} {R : sProp (MT nD τ sig Unit (Elt F) ℕ (UR sig nD τ) ℕ)}
variable {i : grid0.Coords}
variable {a2 : Memref sig .tc .vmem S1x2048x128 .bf16} {h2 : a2.IsWhole} [Readable c R a2]
variable {a3 : Memref sig .tc .vmem S1x16x128 .f32} {h3 : a3.IsWhole} [Readable c R a3]
variable {a4 : Memref sig .tc .vmem S1x4096x128 .bf16} {h4 : a4.IsWhole} [Readable c R a4]
variable {a5 : Memref sig .tc .vmem S1x4096x256 .bf16} {h5 : a5.IsWhole} [Readable c R a5]
variable {a6 : Memref sig .tc .vmem S1x2048x256 .bf16} {h6 : a6.IsWhole} [Readable c R a6]
variable {a7 : Memref sig .tc .vmem S3x16x128x128 .f32} {h7 : a7.IsWhole} [Readable c R a7]
variable {a8 : Memref sig .tc .vmem S16x256x128 .bf16} {h8 : a8.IsWhole} [Readable c R a8]
variable {a9 : Memref sig .tc .vmem S1x128x2048 .bf16} {h9 : a9.IsWhole} [Writable c R a9]
variable {a10 : Memref sig .tc .vmem S8x512x128 .i32} {h10 : a10.IsWhole} [Writable c R a10]
variable {a11 : Memref sig .tc .vmem S8x512x128 .i16} {h11 : a11.IsWhole} [Writable c R a11]
variable {a12 : Memref sig .tc .vmem S8x512x128 .i16} {h12 : a12.IsWhole} [Writable c R a12]
variable {a13 : Memref sig .tc .vmem S8x512x128 .i16} {h13 : a13.IsWhole} [Writable c R a13]
variable {a14 : Memref sig .tc .vmem S33x128x128 .f32} {h14 : a14.IsWhole} [Writable c R a14]
variable {a15 : Memref sig .tc .vmem S2x512x2048 .f32} {h15 : a15.IsWhole} [Writable c R a15]
variable {a16 : Memref sig .tc .vmem S4x512x512 .f32} {h16 : a16.IsWhole} [Writable c R a16]
variable {a17 : Memref sig .tc .vmem S4x512x512 .bf16} {h17 : a17.IsWhole} [Writable c R a17]
variable {a18 : Memref sig .tc .vmem S4x512x128 .f32} {h18 : a18.IsWhole} [Writable c R a18]
variable {a19 : Memref sig .tc .vmem S2048x256 .f32} {h19 : a19.IsWhole} [Writable c R a19]
variable {a20 : Memref sig .tc .vmem S2048x128 .f32} {h20 : a20.IsWhole} [Writable c R a20]
variable {a21 : Memref sig .tc .vmem S2048x128 .f32} {h21 : a21.IsWhole} [Writable c R a21]
variable {a22 : Memref sig .tc .vmem S8x128 .i32} {h22 : a22.IsWhole} [Writable c R a22]

instance s152 : ∀ x y z u, Safe defs c R (k0_part152 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part152
  repeat' first | exact Safe.pure _ | refine Safe.loadSeq fun _ => ?_ | refine Safe.storeSeq fun _ => ?_
instance s153 : ∀ x y z, Safe defs c R (k0_part153 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part153
  repeat' first | exact Safe.pure _ | refine Safe.loadSeq fun _ => ?_ | refine Safe.storeSeq fun _ => ?_
instance s154 : ∀ x y z u, Safe defs c R (k0_part154 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part154
  repeat' first | exact Safe.pure _ | refine Safe.loadSeq fun _ => ?_ | refine Safe.storeSeq fun _ => ?_
instance s155 : ∀ x y z, Safe defs c R (k0_part155 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part155
  repeat' first | exact Safe.pure _ | refine Safe.loadSeq fun _ => ?_ | refine Safe.storeSeq fun _ => ?_
instance s156 : ∀ x y z, Safe defs c R (k0_part156 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part156
  repeat' first | exact Safe.pure _ | refine Safe.loadSeq fun _ => ?_ | refine Safe.storeSeq fun _ => ?_
instance s157 : ∀ x y z u, Safe defs c R (k0_part157 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part157
  repeat' first | exact Safe.pure _ | refine Safe.loadSeq fun _ => ?_ | refine Safe.storeSeq fun _ => ?_
instance s158 : ∀ x y z, Safe defs c R (k0_part158 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part158
  repeat' first | exact Safe.pure _ | refine Safe.loadSeq fun _ => ?_ | refine Safe.storeSeq fun _ => ?_
instance s159 : ∀ x y z u, Safe defs c R (k0_part159 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part159
  repeat' first | exact Safe.pure _ | refine Safe.loadSeq fun _ => ?_ | refine Safe.storeSeq fun _ => ?_
instance s160 : ∀ x y z, Safe defs c R (k0_part160 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part160
  repeat' first | exact Safe.pure _ | refine Safe.loadSeq fun _ => ?_ | refine Safe.storeSeq fun _ => ?_
instance s161 : ∀ x y z u, Safe defs c R (k0_part161 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part161
  repeat' first | exact Safe.pure _ | refine Safe.loadSeq fun _ => ?_ | refine Safe.storeSeq fun _ => ?_
instance s162 : ∀ x y z, Safe defs c R (k0_part162 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part162
  repeat' first | exact Safe.pure _ | refine Safe.loadSeq fun _ => ?_ | refine Safe.storeSeq fun _ => ?_
instance s163 : ∀ x y z, Safe defs c R (k0_part163 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part163
  repeat' first | exact Safe.pure _ | refine Safe.loadSeq fun _ => ?_ | refine Safe.storeSeq fun _ => ?_
instance s164 : ∀ x y z u, Safe defs c R (k0_part164 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part164
  repeat' first | exact Safe.pure _ | refine Safe.loadSeq fun _ => ?_ | refine Safe.storeSeq fun _ => ?_
instance s165 : ∀ x y z, Safe defs c R (k0_part165 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part165
  repeat' first | exact Safe.pure _ | refine Safe.loadSeq fun _ => ?_ | refine Safe.storeSeq fun _ => ?_
instance s166 : ∀ x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11, Safe defs c R (k0_part166 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11) := by
  intro x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11; unfold k0_part166
  repeat' first | exact Safe.pure _ | refine Safe.loadSeq fun _ => ?_ | refine Safe.storeSeq fun _ => ?_
instance s167 : ∀ x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14 w15 w16 w17 w18 w19, Safe defs c R (k0_part167 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14 w15 w16 w17 w18 w19) := by
  intro x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14 w15 w16 w17 w18 w19; unfold k0_part167
  repeat' first | exact Safe.pure _ | refine Safe.loadSeq fun _ => ?_ | refine Safe.storeSeq fun _ => ?_
instance s168 : ∀ x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14 w15 w16 w17 w18 w19, Safe defs c R (k0_part168 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14 w15 w16 w17 w18 w19) := by
  intro x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14 w15 w16 w17 w18 w19; unfold k0_part168
  repeat' first | exact Safe.pure _ | refine Safe.loadSeq fun _ => ?_ | refine Safe.storeSeq fun _ => ?_
instance s169 : ∀ x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19, Safe defs c R (k0_part169 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19) := by
  intro x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19; unfold k0_part169
  repeat' first | exact Safe.pure _ | refine Safe.loadSeq fun _ => ?_ | refine Safe.storeSeq fun _ => ?_
instance s170 : ∀ x y z u v w p, Safe defs c R (k0_part170 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part170
  repeat' first | exact Safe.pure _ | refine Safe.loadSeq fun _ => ?_ | refine Safe.storeSeq fun _ => ?_
instance s171 : ∀ x y z, Safe defs c R (k0_part171 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part171
  repeat' first | exact Safe.pure _ | refine Safe.loadSeq fun _ => ?_ | refine Safe.storeSeq fun _ => ?_
instance s172 : ∀ x y z, Safe defs c R (k0_part172 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part172
  repeat' first | exact Safe.pure _ | refine Safe.loadSeq fun _ => ?_ | refine Safe.storeSeq fun _ => ?_
instance s173 : ∀ x y z u, Safe defs c R (k0_part173 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part173
  repeat' first | exact Safe.pure _ | refine Safe.loadSeq fun _ => ?_ | refine Safe.storeSeq fun _ => ?_
instance s174 : ∀ x y z, Safe defs c R (k0_part174 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part174
  repeat' first | exact Safe.pure _ | refine Safe.loadSeq fun _ => ?_ | refine Safe.storeSeq fun _ => ?_
instance s175 : ∀ x y z u, Safe defs c R (k0_part175 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part175
  repeat' first | exact Safe.pure _ | refine Safe.loadSeq fun _ => ?_ | refine Safe.storeSeq fun _ => ?_
instance s176 : ∀ x y z, Safe defs c R (k0_part176 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part176
  repeat' first | exact Safe.pure _ | refine Safe.loadSeq fun _ => ?_ | refine Safe.storeSeq fun _ => ?_
instance s177 : ∀ x y z u, Safe defs c R (k0_part177 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part177
  repeat' first | exact Safe.pure _ | refine Safe.loadSeq fun _ => ?_ | refine Safe.storeSeq fun _ => ?_
instance s178 : ∀ x y z, Safe defs c R (k0_part178 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part178
  repeat' first | exact Safe.pure _ | refine Safe.loadSeq fun _ => ?_ | refine Safe.storeSeq fun _ => ?_
instance s179 : ∀ x y z, Safe defs c R (k0_part179 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part179
  repeat' first | exact Safe.pure _ | refine Safe.loadSeq fun _ => ?_ | refine Safe.storeSeq fun _ => ?_
instance s180 : ∀ x y z u, Safe defs c R (k0_part180 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part180
  repeat' first | exact Safe.pure _ | refine Safe.loadSeq fun _ => ?_ | refine Safe.storeSeq fun _ => ?_
instance s181 : ∀ x y z, Safe defs c R (k0_part181 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part181
  repeat' first | exact Safe.pure _ | refine Safe.loadSeq fun _ => ?_ | refine Safe.storeSeq fun _ => ?_
instance s182 : ∀ x y z u, Safe defs c R (k0_part182 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part182
  repeat' first | exact Safe.pure _ | refine Safe.loadSeq fun _ => ?_ | refine Safe.storeSeq fun _ => ?_
instance s183 : ∀ x y z, Safe defs c R (k0_part183 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part183
  repeat' first | exact Safe.pure _ | refine Safe.loadSeq fun _ => ?_ | refine Safe.storeSeq fun _ => ?_
instance s184 : ∀ x y z u, Safe defs c R (k0_part184 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part184
  repeat' first | exact Safe.pure _ | refine Safe.loadSeq fun _ => ?_ | refine Safe.storeSeq fun _ => ?_
instance s185 : ∀ x y z, Safe defs c R (k0_part185 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part185
  repeat' first | exact Safe.pure _ | refine Safe.loadSeq fun _ => ?_ | refine Safe.storeSeq fun _ => ?_
instance s186 : ∀ x y z, Safe defs c R (k0_part186 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part186
  repeat' first | exact Safe.pure _ | refine Safe.loadSeq fun _ => ?_ | refine Safe.storeSeq fun _ => ?_
instance s187 : ∀ x y z u, Safe defs c R (k0_part187 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part187
  repeat' first | exact Safe.pure _ | refine Safe.loadSeq fun _ => ?_ | refine Safe.storeSeq fun _ => ?_
instance s188 : ∀ x y z, Safe defs c R (k0_part188 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part188
  repeat' first | exact Safe.pure _ | refine Safe.loadSeq fun _ => ?_ | refine Safe.storeSeq fun _ => ?_
instance s189 : ∀ x y z u, Safe defs c R (k0_part189 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part189
  repeat' first | exact Safe.pure _ | refine Safe.loadSeq fun _ => ?_ | refine Safe.storeSeq fun _ => ?_
instance s190 : ∀ x y z, Safe defs c R (k0_part190 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part190
  repeat' first | exact Safe.pure _ | refine Safe.loadSeq fun _ => ?_ | refine Safe.storeSeq fun _ => ?_
instance s191 : ∀ x y z u, Safe defs c R (k0_part191 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part191
  repeat' first | exact Safe.pure _ | refine Safe.loadSeq fun _ => ?_ | refine Safe.storeSeq fun _ => ?_
instance s192 : ∀ x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18, Safe defs c R (k0_part192 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18) := by
  intro x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18; unfold k0_part192
  repeat' first | exact Safe.pure _ | refine Safe.loadSeq fun _ => ?_ | refine Safe.storeSeq fun _ => ?_
instance s193 : ∀ x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14 w15 w16 w17 w18 w19, Safe defs c R (k0_part193 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14 w15 w16 w17 w18 w19) := by
  intro x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14 w15 w16 w17 w18 w19; unfold k0_part193
  repeat' first | exact Safe.pure _ | refine Safe.loadSeq fun _ => ?_ | refine Safe.storeSeq fun _ => ?_
instance s194 : ∀ x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3, Safe defs c R (k0_part194 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3) := by
  intro x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3; unfold k0_part194
  repeat' first | exact Safe.pure _ | refine Safe.loadSeq fun _ => ?_ | refine Safe.storeSeq fun _ => ?_
instance s196 : ∀ x y z u v w p, Safe defs c R (k0_part196 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part196
  repeat' first | exact Safe.pure _ | refine Safe.loadSeq fun _ => ?_ | refine Safe.storeSeq fun _ => ?_
instance s197 : ∀ x y z, Safe defs c R (k0_part197 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part197
  repeat' first | exact Safe.pure _ | refine Safe.loadSeq fun _ => ?_ | refine Safe.storeSeq fun _ => ?_
instance s198 : ∀ x y z, Safe defs c R (k0_part198 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part198
  repeat' first | exact Safe.pure _ | refine Safe.loadSeq fun _ => ?_ | refine Safe.storeSeq fun _ => ?_
instance s199 : ∀ x y z u, Safe defs c R (k0_part199 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part199
  repeat' first | exact Safe.pure _ | refine Safe.loadSeq fun _ => ?_ | refine Safe.storeSeq fun _ => ?_
instance s200 : ∀ x y z, Safe defs c R (k0_part200 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part200
  repeat' first | exact Safe.pure _ | refine Safe.loadSeq fun _ => ?_ | refine Safe.storeSeq fun _ => ?_
instance s201 : ∀ x y z u, Safe defs c R (k0_part201 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part201
  repeat' first | exact Safe.pure _ | refine Safe.loadSeq fun _ => ?_ | refine Safe.storeSeq fun _ => ?_
instance s202 : ∀ x y z, Safe defs c R (k0_part202 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part202
  repeat' first | exact Safe.pure _ | refine Safe.loadSeq fun _ => ?_ | refine Safe.storeSeq fun _ => ?_
instance s203 : ∀ x y z u, Safe defs c R (k0_part203 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part203
  repeat' first | exact Safe.pure _ | refine Safe.loadSeq fun _ => ?_ | refine Safe.storeSeq fun _ => ?_
instance s204 : ∀ x y z, Safe defs c R (k0_part204 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part204
  repeat' first | exact Safe.pure _ | refine Safe.loadSeq fun _ => ?_ | refine Safe.storeSeq fun _ => ?_
instance s205 : ∀ x y z, Safe defs c R (k0_part205 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part205
  repeat' first | exact Safe.pure _ | refine Safe.loadSeq fun _ => ?_ | refine Safe.storeSeq fun _ => ?_
instance s206 : ∀ x y z u, Safe defs c R (k0_part206 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part206
  repeat' first | exact Safe.pure _ | refine Safe.loadSeq fun _ => ?_ | refine Safe.storeSeq fun _ => ?_
instance s207 : ∀ x y z, Safe defs c R (k0_part207 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part207
  repeat' first | exact Safe.pure _ | refine Safe.loadSeq fun _ => ?_ | refine Safe.storeSeq fun _ => ?_
instance s208 : ∀ x y z u, Safe defs c R (k0_part208 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part208
  repeat' first | exact Safe.pure _ | refine Safe.loadSeq fun _ => ?_ | refine Safe.storeSeq fun _ => ?_
instance s209 : ∀ x y z, Safe defs c R (k0_part209 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part209
  repeat' first | exact Safe.pure _ | refine Safe.loadSeq fun _ => ?_ | refine Safe.storeSeq fun _ => ?_
instance s210 : ∀ x y z u, Safe defs c R (k0_part210 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part210
  repeat' first | exact Safe.pure _ | refine Safe.loadSeq fun _ => ?_ | refine Safe.storeSeq fun _ => ?_
instance s211 : ∀ x y z, Safe defs c R (k0_part211 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part211
  repeat' first | exact Safe.pure _ | refine Safe.loadSeq fun _ => ?_ | refine Safe.storeSeq fun _ => ?_
instance s212 : ∀ x y z, Safe defs c R (k0_part212 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part212
  repeat' first | exact Safe.pure _ | refine Safe.loadSeq fun _ => ?_ | refine Safe.storeSeq fun _ => ?_
instance s213 : ∀ x y z u, Safe defs c R (k0_part213 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part213
  repeat' first | exact Safe.pure _ | refine Safe.loadSeq fun _ => ?_ | refine Safe.storeSeq fun _ => ?_
instance s214 : ∀ x0 x1 x2 x3 x4 x5 x6 x7 x8 x9 x10 x11 x12 x13 x14 x15 x16 x17 x18 x19 y0 y1 y2 y3 y4 y5 y6, Safe defs c R (k0_part214 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 x17 x18 x19 y0 y1 y2 y3 y4 y5 y6) := by
  intro x0 x1 x2 x3 x4 x5 x6 x7 x8 x9 x10 x11 x12 x13 x14 x15 x16 x17 x18 x19 y0 y1 y2 y3 y4 y5 y6; unfold k0_part214
  repeat' first | exact Safe.pure _ | refine Safe.loadSeq fun _ => ?_ | refine Safe.storeSeq fun _ => ?_
instance s215 : ∀ x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14 w15 w16 w17 w18 w19, Safe defs c R (k0_part215 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14 w15 w16 w17 w18 w19) := by
  intro x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14 w15 w16 w17 w18 w19; unfold k0_part215
  repeat' first | exact Safe.pure _ | refine Safe.loadSeq fun _ => ?_ | refine Safe.storeSeq fun _ => ?_
instance s216 : ∀ x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7, Safe defs c R (k0_part216 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7) := by
  intro x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7; unfold k0_part216
  repeat' first | exact Safe.pure _ | refine Safe.loadSeq fun _ => ?_ | refine Safe.storeSeq fun _ => ?_
instance s217 : ∀ x y z u v w p, Safe defs c R (k0_part217 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part217
  repeat' first | exact Safe.pure _ | refine Safe.loadSeq fun _ => ?_ | refine Safe.storeSeq fun _ => ?_
instance s218 : ∀ x y z, Safe defs c R (k0_part218 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part218
  repeat' first | exact Safe.pure _ | refine Safe.loadSeq fun _ => ?_ | refine Safe.storeSeq fun _ => ?_
instance s219 : ∀ x y z, Safe defs c R (k0_part219 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part219
  repeat' first | exact Safe.pure _ | refine Safe.loadSeq fun _ => ?_ | refine Safe.storeSeq fun _ => ?_
instance s220 : ∀ x y z u, Safe defs c R (k0_part220 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part220
  repeat' first | exact Safe.pure _ | refine Safe.loadSeq fun _ => ?_ | refine Safe.storeSeq fun _ => ?_
instance s221 : ∀ x y z, Safe defs c R (k0_part221 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part221
  repeat' first | exact Safe.pure _ | refine Safe.loadSeq fun _ => ?_ | refine Safe.storeSeq fun _ => ?_
instance s222 : ∀ x y z u, Safe defs c R (k0_part222 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part222
  repeat' first | exact Safe.pure _ | refine Safe.loadSeq fun _ => ?_ | refine Safe.storeSeq fun _ => ?_
instance s223 : ∀ x y z, Safe defs c R (k0_part223 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part223
  repeat' first | exact Safe.pure _ | refine Safe.loadSeq fun _ => ?_ | refine Safe.storeSeq fun _ => ?_
instance s224 : ∀ x y z u, Safe defs c R (k0_part224 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part224
  repeat' first | exact Safe.pure _ | refine Safe.loadSeq fun _ => ?_ | refine Safe.storeSeq fun _ => ?_
instance s225 : ∀ x y z, Safe defs c R (k0_part225 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part225
  repeat' first | exact Safe.pure _ | refine Safe.loadSeq fun _ => ?_ | refine Safe.storeSeq fun _ => ?_
instance s226 : ∀ x y z, Safe defs c R (k0_part226 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part226
  repeat' first | exact Safe.pure _ | refine Safe.loadSeq fun _ => ?_ | refine Safe.storeSeq fun _ => ?_
instance s227 : ∀ x y z u, Safe defs c R (k0_part227 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part227
  repeat' first | exact Safe.pure _ | refine Safe.loadSeq fun _ => ?_ | refine Safe.storeSeq fun _ => ?_
instance s228 : ∀ x y z, Safe defs c R (k0_part228 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part228
  repeat' first | exact Safe.pure _ | refine Safe.loadSeq fun _ => ?_ | refine Safe.storeSeq fun _ => ?_
instance s229 : ∀ x y z u, Safe defs c R (k0_part229 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part229
  repeat' first | exact Safe.pure _ | refine Safe.loadSeq fun _ => ?_ | refine Safe.storeSeq fun _ => ?_
instance s230 : ∀ x y z, Safe defs c R (k0_part230 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part230
  repeat' first | exact Safe.pure _ | refine Safe.loadSeq fun _ => ?_ | refine Safe.storeSeq fun _ => ?_
instance s231 : ∀ x y z u, Safe defs c R (k0_part231 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part231
  repeat' first | exact Safe.pure _ | refine Safe.loadSeq fun _ => ?_ | refine Safe.storeSeq fun _ => ?_
instance s232 : ∀ x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14, Safe defs c R (k0_part232 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14) := by
  intro x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14; unfold k0_part232
  repeat' first | exact Safe.pure _ | refine Safe.loadSeq fun _ => ?_ | refine Safe.storeSeq fun _ => ?_
instance s233 : ∀ x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11, Safe defs c R (k0_part233 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11) := by
  intro x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11; unfold k0_part233
  repeat' first | exact Safe.pure _ | refine Safe.loadSeq fun _ => ?_ | refine Safe.storeSeq fun _ => ?_
instance s234 : ∀ x y z u v w p, Safe defs c R (k0_part234 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part234
  repeat' first | exact Safe.pure _ | refine Safe.loadSeq fun _ => ?_ | refine Safe.storeSeq fun _ => ?_
instance s235 : ∀ x y z, Safe defs c R (k0_part235 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part235
  repeat' first | exact Safe.pure _ | refine Safe.loadSeq fun _ => ?_ | refine Safe.storeSeq fun _ => ?_
instance s236 : ∀ x y z, Safe defs c R (k0_part236 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part236
  repeat' first | exact Safe.pure _ | refine Safe.loadSeq fun _ => ?_ | refine Safe.storeSeq fun _ => ?_
instance s237 : ∀ x y z u, Safe defs c R (k0_part237 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part237
  repeat' first | exact Safe.pure _ | refine Safe.loadSeq fun _ => ?_ | refine Safe.storeSeq fun _ => ?_
instance s238 : ∀ x y z, Safe defs c R (k0_part238 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part238
  repeat' first | exact Safe.pure _ | refine Safe.loadSeq fun _ => ?_ | refine Safe.storeSeq fun _ => ?_
instance s239 : ∀ x y z u, Safe defs c R (k0_part239 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part239
  repeat' first | exact Safe.pure _ | refine Safe.loadSeq fun _ => ?_ | refine Safe.storeSeq fun _ => ?_
instance s240 : ∀ x y z, Safe defs c R (k0_part240 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part240
  repeat' first | exact Safe.pure _ | refine Safe.loadSeq fun _ => ?_ | refine Safe.storeSeq fun _ => ?_
instance s241 : ∀ x y z u, Safe defs c R (k0_part241 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part241
  repeat' first | exact Safe.pure _ | refine Safe.loadSeq fun _ => ?_ | refine Safe.storeSeq fun _ => ?_
instance s242 : ∀ x y z, Safe defs c R (k0_part242 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part242
  repeat' first | exact Safe.pure _ | refine Safe.loadSeq fun _ => ?_ | refine Safe.storeSeq fun _ => ?_
instance s243 : ∀ x y z, Safe defs c R (k0_part243 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part243
  repeat' first | exact Safe.pure _ | refine Safe.loadSeq fun _ => ?_ | refine Safe.storeSeq fun _ => ?_
instance s244 : ∀ x y z u, Safe defs c R (k0_part244 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part244
  repeat' first | exact Safe.pure _ | refine Safe.loadSeq fun _ => ?_ | refine Safe.storeSeq fun _ => ?_
instance s245 : ∀ x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2, Safe defs c R (k0_part245 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2) := by
  intro x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2; unfold k0_part245
  repeat' first | exact Safe.pure _ | refine Safe.loadSeq fun _ => ?_ | refine Safe.storeSeq fun _ => ?_
instance s246 : ∀ x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15, Safe defs c R (k0_part246 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15) := by
  intro x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15; unfold k0_part246
  repeat' first | exact Safe.pure _ | refine Safe.loadSeq fun _ => ?_ | refine Safe.storeSeq fun _ => ?_
instance s247 : ∀ x y z u v w p, Safe defs c R (k0_part247 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part247
  repeat' first | exact Safe.pure _ | refine Safe.loadSeq fun _ => ?_ | refine Safe.storeSeq fun _ => ?_
instance s248 : ∀ x y z, Safe defs c R (k0_part248 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part248
  repeat' first | exact Safe.pure _ | refine Safe.loadSeq fun _ => ?_ | refine Safe.storeSeq fun _ => ?_
instance s249 : ∀ x y z, Safe defs c R (k0_part249 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part249
  repeat' first | exact Safe.pure _ | refine Safe.loadSeq fun _ => ?_ | refine Safe.storeSeq fun _ => ?_
instance s250 : ∀ x y z u, Safe defs c R (k0_part250 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part250
  repeat' first | exact Safe.pure _ | refine Safe.loadSeq fun _ => ?_ | refine Safe.storeSeq fun _ => ?_
instance s251 : ∀ x y z, Safe defs c R (k0_part251 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part251
  repeat' first | exact Safe.pure _ | refine Safe.loadSeq fun _ => ?_ | refine Safe.storeSeq fun _ => ?_
instance s252 : ∀ x y z u, Safe defs c R (k0_part252 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part252
  repeat' first | exact Safe.pure _ | refine Safe.loadSeq fun _ => ?_ | refine Safe.storeSeq fun _ => ?_
instance s253 : ∀ x y z, Safe defs c R (k0_part253 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part253
  repeat' first | exact Safe.pure _ | refine Safe.loadSeq fun _ => ?_ | refine Safe.storeSeq fun _ => ?_
instance s254 : ∀ x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11, Safe defs c R (k0_part254 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11) := by
  intro x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11; unfold k0_part254
  repeat' first | exact Safe.pure _ | refine Safe.loadSeq fun _ => ?_ | refine Safe.storeSeq fun _ => ?_
instance s255 : ∀ x y z u v w p, Safe defs c R (k0_part255 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part255
  repeat' first | exact Safe.pure _ | refine Safe.loadSeq fun _ => ?_ | refine Safe.storeSeq fun _ => ?_
instance s256 : ∀ x y z, Safe defs c R (k0_part256 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part256
  repeat' first | exact Safe.pure _ | refine Safe.loadSeq fun _ => ?_ | refine Safe.storeSeq fun _ => ?_
instance s257 : ∀ x y z, Safe defs c R (k0_part257 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part257
  repeat' first | exact Safe.pure _ | refine Safe.loadSeq fun _ => ?_ | refine Safe.storeSeq fun _ => ?_
instance s258 : ∀ x0 x1 x2 x3 x4 x5 x6 x7 x8 x9 x10 x11 x12 x13 x14 x15 x16 x17 x18 x19, Safe defs c R (k0_part258 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 x17 x18 x19) := by
  intro x0 x1 x2 x3 x4 x5 x6 x7 x8 x9 x10 x11 x12 x13 x14 x15 x16 x17 x18 x19; unfold k0_part258
  repeat' first | exact Safe.pure _ | refine Safe.loadSeq fun _ => ?_ | refine Safe.storeSeq fun _ => ?_
instance s259 : ∀ x y z u v w p, Safe defs c R (k0_part259 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part259
  repeat' first | exact Safe.pure _ | refine Safe.loadSeq fun _ => ?_ | refine Safe.storeSeq fun _ => ?_
instance s260 : ∀ x y z, Safe defs c R (k0_part260 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part260
  repeat' first | exact Safe.pure _ | refine Safe.loadSeq fun _ => ?_ | refine Safe.storeSeq fun _ => ?_
instance s261 : ∀ x y z, Safe defs c R (k0_part261 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part261
  repeat' first | exact Safe.pure _ | refine Safe.loadSeq fun _ => ?_ | refine Safe.storeSeq fun _ => ?_
instance s262 : ∀ x y z u, Safe defs c R (k0_part262 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part262
  repeat' first | exact Safe.pure _ | refine Safe.loadSeq fun _ => ?_ | refine Safe.storeSeq fun _ => ?_
instance s263 : ∀ x y z, Safe defs c R (k0_part263 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part263
  repeat' first | exact Safe.pure _ | refine Safe.loadSeq fun _ => ?_ | refine Safe.storeSeq fun _ => ?_
instance s264 : ∀ x y z u, Safe defs c R (k0_part264 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part264
  repeat' first | exact Safe.pure _ | refine Safe.loadSeq fun _ => ?_ | refine Safe.storeSeq fun _ => ?_
instance s265 : ∀ x y z, Safe defs c R (k0_part265 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part265
  repeat' first | exact Safe.pure _ | refine Safe.loadSeq fun _ => ?_ | refine Safe.storeSeq fun _ => ?_
instance s266 : ∀ x y z u, Safe defs c R (k0_part266 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part266
  repeat' first | exact Safe.pure _ | refine Safe.loadSeq fun _ => ?_ | refine Safe.storeSeq fun _ => ?_
instance s267 : ∀ x y z, Safe defs c R (k0_part267 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part267
  repeat' first | exact Safe.pure _ | refine Safe.loadSeq fun _ => ?_ | refine Safe.storeSeq fun _ => ?_
instance s268 : ∀ x y z, Safe defs c R (k0_part268 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part268
  repeat' first | exact Safe.pure _ | refine Safe.loadSeq fun _ => ?_ | refine Safe.storeSeq fun _ => ?_
instance s269 : ∀ x y z u, Safe defs c R (k0_part269 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part269
  repeat' first | exact Safe.pure _ | refine Safe.loadSeq fun _ => ?_ | refine Safe.storeSeq fun _ => ?_
instance s270 : ∀ x y z, Safe defs c R (k0_part270 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part270
  repeat' first | exact Safe.pure _ | refine Safe.loadSeq fun _ => ?_ | refine Safe.storeSeq fun _ => ?_
instance s271 : ∀ x y z u, Safe defs c R (k0_part271 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part271
  repeat' first | exact Safe.pure _ | refine Safe.loadSeq fun _ => ?_ | refine Safe.storeSeq fun _ => ?_
instance s272 : ∀ x y z, Safe defs c R (k0_part272 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part272
  repeat' first | exact Safe.pure _ | refine Safe.loadSeq fun _ => ?_ | refine Safe.storeSeq fun _ => ?_
instance s273 : ∀ x y z u, Safe defs c R (k0_part273 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part273
  repeat' first | exact Safe.pure _ | refine Safe.loadSeq fun _ => ?_ | refine Safe.storeSeq fun _ => ?_
instance s274 : ∀ x y z, Safe defs c R (k0_part274 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part274
  repeat' first | exact Safe.pure _ | refine Safe.loadSeq fun _ => ?_ | refine Safe.storeSeq fun _ => ?_
instance s275 : ∀ x y z, Safe defs c R (k0_part275 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part275
  repeat' first | exact Safe.pure _ | refine Safe.loadSeq fun _ => ?_ | refine Safe.storeSeq fun _ => ?_
instance s276 : ∀ x y z u, Safe defs c R (k0_part276 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part276
  repeat' first | exact Safe.pure _ | refine Safe.loadSeq fun _ => ?_ | refine Safe.storeSeq fun _ => ?_
instance s277 : ∀ x y z, Safe defs c R (k0_part277 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part277
  repeat' first | exact Safe.pure _ | refine Safe.loadSeq fun _ => ?_ | refine Safe.storeSeq fun _ => ?_
instance s278 : ∀ x y z u, Safe defs c R (k0_part278 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part278
  repeat' first | exact Safe.pure _ | refine Safe.loadSeq fun _ => ?_ | refine Safe.storeSeq fun _ => ?_
instance s279 : ∀ x y z, Safe defs c R (k0_part279 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part279
  repeat' first | exact Safe.pure _ | refine Safe.loadSeq fun _ => ?_ | refine Safe.storeSeq fun _ => ?_
instance s280 : ∀ x y z u, Safe defs c R (k0_part280 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part280
  repeat' first | exact Safe.pure _ | refine Safe.loadSeq fun _ => ?_ | refine Safe.storeSeq fun _ => ?_
instance s281 : ∀ x y z, Safe defs c R (k0_part281 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part281
  repeat' first | exact Safe.pure _ | refine Safe.loadSeq fun _ => ?_ | refine Safe.storeSeq fun _ => ?_
instance s282 : ∀ x y z, Safe defs c R (k0_part282 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part282
  repeat' first | exact Safe.pure _ | refine Safe.loadSeq fun _ => ?_ | refine Safe.storeSeq fun _ => ?_
instance s283 : ∀ x y z u, Safe defs c R (k0_part283 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part283
  repeat' first | exact Safe.pure _ | refine Safe.loadSeq fun _ => ?_ | refine Safe.storeSeq fun _ => ?_
instance s284 : ∀ x y z, Safe defs c R (k0_part284 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part284
  repeat' first | exact Safe.pure _ | refine Safe.loadSeq fun _ => ?_ | refine Safe.storeSeq fun _ => ?_
instance s285 : ∀ x y z u, Safe defs c R (k0_part285 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part285
  repeat' first | exact Safe.pure _ | refine Safe.loadSeq fun _ => ?_ | refine Safe.storeSeq fun _ => ?_
instance s286 : ∀ x y z, Safe defs c R (k0_part286 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part286
  repeat' first | exact Safe.pure _ | refine Safe.loadSeq fun _ => ?_ | refine Safe.storeSeq fun _ => ?_
instance s287 : ∀ x y z u, Safe defs c R (k0_part287 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part287
  repeat' first | exact Safe.pure _ | refine Safe.loadSeq fun _ => ?_ | refine Safe.storeSeq fun _ => ?_
instance s288 : ∀ x y z, Safe defs c R (k0_part288 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part288
  repeat' first | exact Safe.pure _ | refine Safe.loadSeq fun _ => ?_ | refine Safe.storeSeq fun _ => ?_
instance s289 : ∀ x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14 w15 w16 w17 w18 w19, Safe defs c R (k0_part289 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14 w15 w16 w17 w18 w19) := by
  intro x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14 w15 w16 w17 w18 w19; unfold k0_part289
  repeat' first | exact Safe.pure _ | refine Safe.loadSeq fun _ => ?_ | refine Safe.storeSeq fun _ => ?_
instance s290 : ∀ x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14 w15 w16 w17 w18 w19, Safe defs c R (k0_part290 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14 w15 w16 w17 w18 w19) := by
  intro x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14 w15 w16 w17 w18 w19; unfold k0_part290
  repeat' first | exact Safe.pure _ | refine Safe.loadSeq fun _ => ?_ | refine Safe.storeSeq fun _ => ?_
instance s291 : ∀ x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14 w15 w16 w17 w18 w19, Safe defs c R (k0_part291 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14 w15 w16 w17 w18 w19) := by
  intro x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14 w15 w16 w17 w18 w19; unfold k0_part291
  repeat' first | exact Safe.pure _ | refine Safe.loadSeq fun _ => ?_ | refine Safe.storeSeq fun _ => ?_
instance s292 : ∀ x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15, Safe defs c R (k0_part292 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15) := by
  intro x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15; unfold k0_part292
  repeat' first | exact Safe.pure _ | refine Safe.loadSeq fun _ => ?_ | refine Safe.storeSeq fun _ => ?_
instance s293 : ∀ x y z u v w p, Safe defs c R (k0_part293 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part293
  repeat' first | exact Safe.pure _ | refine Safe.loadSeq fun _ => ?_ | refine Safe.storeSeq fun _ => ?_
instance s294 : ∀ x y z, Safe defs c R (k0_part294 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part294
  repeat' first | exact Safe.pure _ | refine Safe.loadSeq fun _ => ?_ | refine Safe.storeSeq fun _ => ?_
instance s295 : ∀ x y z, Safe defs c R (k0_part295 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part295
  repeat' first | exact Safe.pure _ | refine Safe.loadSeq fun _ => ?_ | refine Safe.storeSeq fun _ => ?_
instance s296 : ∀ x y z u, Safe defs c R (k0_part296 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part296
  repeat' first | exact Safe.pure _ | refine Safe.loadSeq fun _ => ?_ | refine Safe.storeSeq fun _ => ?_
instance s297 : ∀ x y z, Safe defs c R (k0_part297 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part297
  repeat' first | exact Safe.pure _ | refine Safe.loadSeq fun _ => ?_ | refine Safe.storeSeq fun _ => ?_
instance s298 : ∀ x y z u, Safe defs c R (k0_part298 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part298
  repeat' first | exact Safe.pure _ | refine Safe.loadSeq fun _ => ?_ | refine Safe.storeSeq fun _ => ?_
instance s299 : ∀ x y z, Safe defs c R (k0_part299 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part299
  repeat' first | exact Safe.pure _ | refine Safe.loadSeq fun _ => ?_ | refine Safe.storeSeq fun _ => ?_
instance s300 : ∀ x y z u, Safe defs c R (k0_part300 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part300
  repeat' first | exact Safe.pure _ | refine Safe.loadSeq fun _ => ?_ | refine Safe.storeSeq fun _ => ?_

end Cert.Proof.Attention

end
-- ==== Proof.Pieces3.lean ====
/-
  The straight pieces 301 to 449 of the attention's body: each only loads and stores, so each is safe by its shape.
-/
module

public import proofs.«01_k».proof.Kernel
public import proofs.«01_k».proof.Proof.Safe

@[expose] public section

set_option maxRecDepth 16384
set_option synthInstance.maxSize 4096

noncomputable section

namespace Cert.Proof.Attention

open Cert.Kernel Cert.Proof.Shape
open Idealize.ShloMosaic Idealize.ShloMosaic.TcCoe
open Idealize.SL Idealize.SL.BI Idealize.SL.Sem
open Idealize.ShloMosaic.Rounds

variable {F : FTy → Type} [BitOps F] [Facts]
variable {defs : Defs nD τ sig (Elt F) Λ₀} {c : Dev nD} {R : sProp (MT nD τ sig Unit (Elt F) ℕ (UR sig nD τ) ℕ)}
variable {i : grid0.Coords}
variable {a2 : Memref sig .tc .vmem S1x2048x128 .bf16} {h2 : a2.IsWhole} [Readable c R a2]
variable {a3 : Memref sig .tc .vmem S1x16x128 .f32} {h3 : a3.IsWhole} [Readable c R a3]
variable {a4 : Memref sig .tc .vmem S1x4096x128 .bf16} {h4 : a4.IsWhole} [Readable c R a4]
variable {a5 : Memref sig .tc .vmem S1x4096x256 .bf16} {h5 : a5.IsWhole} [Readable c R a5]
variable {a6 : Memref sig .tc .vmem S1x2048x256 .bf16} {h6 : a6.IsWhole} [Readable c R a6]
variable {a7 : Memref sig .tc .vmem S3x16x128x128 .f32} {h7 : a7.IsWhole} [Readable c R a7]
variable {a8 : Memref sig .tc .vmem S16x256x128 .bf16} {h8 : a8.IsWhole} [Readable c R a8]
variable {a9 : Memref sig .tc .vmem S1x128x2048 .bf16} {h9 : a9.IsWhole} [Writable c R a9]
variable {a10 : Memref sig .tc .vmem S8x512x128 .i32} {h10 : a10.IsWhole} [Writable c R a10]
variable {a11 : Memref sig .tc .vmem S8x512x128 .i16} {h11 : a11.IsWhole} [Writable c R a11]
variable {a12 : Memref sig .tc .vmem S8x512x128 .i16} {h12 : a12.IsWhole} [Writable c R a12]
variable {a13 : Memref sig .tc .vmem S8x512x128 .i16} {h13 : a13.IsWhole} [Writable c R a13]
variable {a14 : Memref sig .tc .vmem S33x128x128 .f32} {h14 : a14.IsWhole} [Writable c R a14]
variable {a15 : Memref sig .tc .vmem S2x512x2048 .f32} {h15 : a15.IsWhole} [Writable c R a15]
variable {a16 : Memref sig .tc .vmem S4x512x512 .f32} {h16 : a16.IsWhole} [Writable c R a16]
variable {a17 : Memref sig .tc .vmem S4x512x512 .bf16} {h17 : a17.IsWhole} [Writable c R a17]
variable {a18 : Memref sig .tc .vmem S4x512x128 .f32} {h18 : a18.IsWhole} [Writable c R a18]
variable {a19 : Memref sig .tc .vmem S2048x256 .f32} {h19 : a19.IsWhole} [Writable c R a19]
variable {a20 : Memref sig .tc .vmem S2048x128 .f32} {h20 : a20.IsWhole} [Writable c R a20]
variable {a21 : Memref sig .tc .vmem S2048x128 .f32} {h21 : a21.IsWhole} [Writable c R a21]
variable {a22 : Memref sig .tc .vmem S8x128 .i32} {h22 : a22.IsWhole} [Writable c R a22]

instance s301 : ∀ x y z, Safe defs c R (k0_part301 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part301
  repeat' first | exact Safe.pure _ | refine Safe.loadSeq fun _ => ?_ | refine Safe.storeSeq fun _ => ?_
instance s302 : ∀ x y z, Safe defs c R (k0_part302 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part302
  repeat' first | exact Safe.pure _ | refine Safe.loadSeq fun _ => ?_ | refine Safe.storeSeq fun _ => ?_
instance s303 : ∀ x y z u, Safe defs c R (k0_part303 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part303
  repeat' first | exact Safe.pure _ | refine Safe.loadSeq fun _ => ?_ | refine Safe.storeSeq fun _ => ?_
instance s304 : ∀ x y z, Safe defs c R (k0_part304 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part304
  repeat' first | exact Safe.pure _ | refine Safe.loadSeq fun _ => ?_ | refine Safe.storeSeq fun _ => ?_
instance s305 : ∀ x y z u, Safe defs c R (k0_part305 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part305
  repeat' first | exact Safe.pure _ | refine Safe.loadSeq fun _ => ?_ | refine Safe.storeSeq fun _ => ?_
instance s306 : ∀ x y z, Safe defs c R (k0_part306 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part306
  repeat' first | exact Safe.pure _ | refine Safe.loadSeq fun _ => ?_ | refine Safe.storeSeq fun _ => ?_
instance s307 : ∀ x y z u, Safe defs c R (k0_part307 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part307
  repeat' first | exact Safe.pure _ | refine Safe.loadSeq fun _ => ?_ | refine Safe.storeSeq fun _ => ?_
instance s308 : ∀ x y z, Safe defs c R (k0_part308 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part308
  repeat' first | exact Safe.pure _ | refine Safe.loadSeq fun _ => ?_ | refine Safe.storeSeq fun _ => ?_
instance s309 : ∀ x y z, Safe defs c R (k0_part309 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part309
  repeat' first | exact Safe.pure _ | refine Safe.loadSeq fun _ => ?_ | refine Safe.storeSeq fun _ => ?_
instance s310 : ∀ x y z u, Safe defs c R (k0_part310 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part310
  repeat' first | exact Safe.pure _ | refine Safe.loadSeq fun _ => ?_ | refine Safe.storeSeq fun _ => ?_
instance s311 : ∀ x y z, Safe defs c R (k0_part311 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part311
  repeat' first | exact Safe.pure _ | refine Safe.loadSeq fun _ => ?_ | refine Safe.storeSeq fun _ => ?_
instance s312 : ∀ x y z u, Safe defs c R (k0_part312 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part312
  repeat' first | exact Safe.pure _ | refine Safe.loadSeq fun _ => ?_ | refine Safe.storeSeq fun _ => ?_
instance s313 : ∀ x y z, Safe defs c R (k0_part313 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part313
  repeat' first | exact Safe.pure _ | refine Safe.loadSeq fun _ => ?_ | refine Safe.storeSeq fun _ => ?_
instance s314 : ∀ x y z u, Safe defs c R (k0_part314 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part314
  repeat' first | exact Safe.pure _ | refine Safe.loadSeq fun _ => ?_ | refine Safe.storeSeq fun _ => ?_
instance s315 : ∀ x y z, Safe defs c R (k0_part315 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part315
  repeat' first | exact Safe.pure _ | refine Safe.loadSeq fun _ => ?_ | refine Safe.storeSeq fun _ => ?_
instance s316 : ∀ x y z, Safe defs c R (k0_part316 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part316
  repeat' first | exact Safe.pure _ | refine Safe.loadSeq fun _ => ?_ | refine Safe.storeSeq fun _ => ?_
instance s317 : ∀ x y z u, Safe defs c R (k0_part317 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part317
  repeat' first | exact Safe.pure _ | refine Safe.loadSeq fun _ => ?_ | refine Safe.storeSeq fun _ => ?_
instance s318 : ∀ x y z, Safe defs c R (k0_part318 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part318
  repeat' first | exact Safe.pure _ | refine Safe.loadSeq fun _ => ?_ | refine Safe.storeSeq fun _ => ?_
instance s319 : ∀ x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11, Safe defs c R (k0_part319 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11) := by
  intro x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11; unfold k0_part319
  repeat' first | exact Safe.pure _ | refine Safe.loadSeq fun _ => ?_ | refine Safe.storeSeq fun _ => ?_
instance s320 : ∀ x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14 w15 w16 w17 w18 w19, Safe defs c R (k0_part320 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14 w15 w16 w17 w18 w19) := by
  intro x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14 w15 w16 w17 w18 w19; unfold k0_part320
  repeat' first | exact Safe.pure _ | refine Safe.loadSeq fun _ => ?_ | refine Safe.storeSeq fun _ => ?_
instance s321 : ∀ x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14 w15 w16 w17 w18 w19, Safe defs c R (k0_part321 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14 w15 w16 w17 w18 w19) := by
  intro x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14 w15 w16 w17 w18 w19; unfold k0_part321
  repeat' first | exact Safe.pure _ | refine Safe.loadSeq fun _ => ?_ | refine Safe.storeSeq fun _ => ?_
instance s322 : ∀ x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19, Safe defs c R (k0_part322 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19) := by
  intro x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19; unfold k0_part322
  repeat' first | exact Safe.pure _ | refine Safe.loadSeq fun _ => ?_ | refine Safe.storeSeq fun _ => ?_
instance s323 : ∀ x y z u v w p, Safe defs c R (k0_part323 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part323
  repeat' first | exact Safe.pure _ | refine Safe.loadSeq fun _ => ?_ | refine Safe.storeSeq fun _ => ?_
instance s324 : ∀ x y z, Safe defs c R (k0_part324 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part324
  repeat' first | exact Safe.pure _ | refine Safe.loadSeq fun _ => ?_ | refine Safe.storeSeq fun _ => ?_
instance s325 : ∀ x y z, Safe defs c R (k0_part325 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part325
  repeat' first | exact Safe.pure _ | refine Safe.loadSeq fun _ => ?_ | refine Safe.storeSeq fun _ => ?_
instance s326 : ∀ x y z u, Safe defs c R (k0_part326 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part326
  repeat' first | exact Safe.pure _ | refine Safe.loadSeq fun _ => ?_ | refine Safe.storeSeq fun _ => ?_
instance s327 : ∀ x y z, Safe defs c R (k0_part327 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part327
  repeat' first | exact Safe.pure _ | refine Safe.loadSeq fun _ => ?_ | refine Safe.storeSeq fun _ => ?_
instance s328 : ∀ x y z u, Safe defs c R (k0_part328 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part328
  repeat' first | exact Safe.pure _ | refine Safe.loadSeq fun _ => ?_ | refine Safe.storeSeq fun _ => ?_
instance s329 : ∀ x y z, Safe defs c R (k0_part329 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part329
  repeat' first | exact Safe.pure _ | refine Safe.loadSeq fun _ => ?_ | refine Safe.storeSeq fun _ => ?_
instance s330 : ∀ x y z u, Safe defs c R (k0_part330 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part330
  repeat' first | exact Safe.pure _ | refine Safe.loadSeq fun _ => ?_ | refine Safe.storeSeq fun _ => ?_
instance s331 : ∀ x y z, Safe defs c R (k0_part331 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part331
  repeat' first | exact Safe.pure _ | refine Safe.loadSeq fun _ => ?_ | refine Safe.storeSeq fun _ => ?_
instance s332 : ∀ x y z, Safe defs c R (k0_part332 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part332
  repeat' first | exact Safe.pure _ | refine Safe.loadSeq fun _ => ?_ | refine Safe.storeSeq fun _ => ?_
instance s333 : ∀ x y z u, Safe defs c R (k0_part333 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part333
  repeat' first | exact Safe.pure _ | refine Safe.loadSeq fun _ => ?_ | refine Safe.storeSeq fun _ => ?_
instance s334 : ∀ x y z, Safe defs c R (k0_part334 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part334
  repeat' first | exact Safe.pure _ | refine Safe.loadSeq fun _ => ?_ | refine Safe.storeSeq fun _ => ?_
instance s335 : ∀ x y z u, Safe defs c R (k0_part335 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part335
  repeat' first | exact Safe.pure _ | refine Safe.loadSeq fun _ => ?_ | refine Safe.storeSeq fun _ => ?_
instance s336 : ∀ x y z, Safe defs c R (k0_part336 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part336
  repeat' first | exact Safe.pure _ | refine Safe.loadSeq fun _ => ?_ | refine Safe.storeSeq fun _ => ?_
instance s337 : ∀ x y z u, Safe defs c R (k0_part337 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part337
  repeat' first | exact Safe.pure _ | refine Safe.loadSeq fun _ => ?_ | refine Safe.storeSeq fun _ => ?_
instance s338 : ∀ x y z, Safe defs c R (k0_part338 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part338
  repeat' first | exact Safe.pure _ | refine Safe.loadSeq fun _ => ?_ | refine Safe.storeSeq fun _ => ?_
instance s339 : ∀ x y z, Safe defs c R (k0_part339 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part339
  repeat' first | exact Safe.pure _ | refine Safe.loadSeq fun _ => ?_ | refine Safe.storeSeq fun _ => ?_
instance s340 : ∀ x y z u, Safe defs c R (k0_part340 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part340
  repeat' first | exact Safe.pure _ | refine Safe.loadSeq fun _ => ?_ | refine Safe.storeSeq fun _ => ?_
instance s341 : ∀ x y z, Safe defs c R (k0_part341 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part341
  repeat' first | exact Safe.pure _ | refine Safe.loadSeq fun _ => ?_ | refine Safe.storeSeq fun _ => ?_
instance s342 : ∀ x y z u, Safe defs c R (k0_part342 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part342
  repeat' first | exact Safe.pure _ | refine Safe.loadSeq fun _ => ?_ | refine Safe.storeSeq fun _ => ?_
instance s343 : ∀ x y z, Safe defs c R (k0_part343 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part343
  repeat' first | exact Safe.pure _ | refine Safe.loadSeq fun _ => ?_ | refine Safe.storeSeq fun _ => ?_
instance s344 : ∀ x y z u, Safe defs c R (k0_part344 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part344
  repeat' first | exact Safe.pure _ | refine Safe.loadSeq fun _ => ?_ | refine Safe.storeSeq fun _ => ?_
instance s345 : ∀ x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18, Safe defs c R (k0_part345 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18) := by
  intro x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18; unfold k0_part345
  repeat' first | exact Safe.pure _ | refine Safe.loadSeq fun _ => ?_ | refine Safe.storeSeq fun _ => ?_
instance s346 : ∀ x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14 w15 w16 w17 w18 w19, Safe defs c R (k0_part346 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14 w15 w16 w17 w18 w19) := by
  intro x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14 w15 w16 w17 w18 w19; unfold k0_part346
  repeat' first | exact Safe.pure _ | refine Safe.loadSeq fun _ => ?_ | refine Safe.storeSeq fun _ => ?_
instance s347 : ∀ x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3, Safe defs c R (k0_part347 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3) := by
  intro x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3; unfold k0_part347
  repeat' first | exact Safe.pure _ | refine Safe.loadSeq fun _ => ?_ | refine Safe.storeSeq fun _ => ?_
instance s349 : ∀ x y z u v w p, Safe defs c R (k0_part349 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part349
  repeat' first | exact Safe.pure _ | refine Safe.loadSeq fun _ => ?_ | refine Safe.storeSeq fun _ => ?_
instance s350 : ∀ x y z, Safe defs c R (k0_part350 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part350
  repeat' first | exact Safe.pure _ | refine Safe.loadSeq fun _ => ?_ | refine Safe.storeSeq fun _ => ?_
instance s351 : ∀ x y z, Safe defs c R (k0_part351 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part351
  repeat' first | exact Safe.pure _ | refine Safe.loadSeq fun _ => ?_ | refine Safe.storeSeq fun _ => ?_
instance s352 : ∀ x y z u, Safe defs c R (k0_part352 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part352
  repeat' first | exact Safe.pure _ | refine Safe.loadSeq fun _ => ?_ | refine Safe.storeSeq fun _ => ?_
instance s353 : ∀ x y z, Safe defs c R (k0_part353 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part353
  repeat' first | exact Safe.pure _ | refine Safe.loadSeq fun _ => ?_ | refine Safe.storeSeq fun _ => ?_
instance s354 : ∀ x y z u, Safe defs c R (k0_part354 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part354
  repeat' first | exact Safe.pure _ | refine Safe.loadSeq fun _ => ?_ | refine Safe.storeSeq fun _ => ?_
instance s355 : ∀ x y z, Safe defs c R (k0_part355 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part355
  repeat' first | exact Safe.pure _ | refine Safe.loadSeq fun _ => ?_ | refine Safe.storeSeq fun _ => ?_
instance s356 : ∀ x y z u, Safe defs c R (k0_part356 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part356
  repeat' first | exact Safe.pure _ | refine Safe.loadSeq fun _ => ?_ | refine Safe.storeSeq fun _ => ?_
instance s357 : ∀ x y z, Safe defs c R (k0_part357 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part357
  repeat' first | exact Safe.pure _ | refine Safe.loadSeq fun _ => ?_ | refine Safe.storeSeq fun _ => ?_
instance s358 : ∀ x y z, Safe defs c R (k0_part358 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part358
  repeat' first | exact Safe.pure _ | refine Safe.loadSeq fun _ => ?_ | refine Safe.storeSeq fun _ => ?_
instance s359 : ∀ x y z u, Safe defs c R (k0_part359 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part359
  repeat' first | exact Safe.pure _ | refine Safe.loadSeq fun _ => ?_ | refine Safe.storeSeq fun _ => ?_
instance s360 : ∀ x y z, Safe defs c R (k0_part360 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part360
  repeat' first | exact Safe.pure _ | refine Safe.loadSeq fun _ => ?_ | refine Safe.storeSeq fun _ => ?_
instance s361 : ∀ x y z u, Safe defs c R (k0_part361 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part361
  repeat' first | exact Safe.pure _ | refine Safe.loadSeq fun _ => ?_ | refine Safe.storeSeq fun _ => ?_
instance s362 : ∀ x y z, Safe defs c R (k0_part362 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part362
  repeat' first | exact Safe.pure _ | refine Safe.loadSeq fun _ => ?_ | refine Safe.storeSeq fun _ => ?_
instance s363 : ∀ x y z u, Safe defs c R (k0_part363 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part363
  repeat' first | exact Safe.pure _ | refine Safe.loadSeq fun _ => ?_ | refine Safe.storeSeq fun _ => ?_
instance s364 : ∀ x y z, Safe defs c R (k0_part364 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part364
  repeat' first | exact Safe.pure _ | refine Safe.loadSeq fun _ => ?_ | refine Safe.storeSeq fun _ => ?_
instance s365 : ∀ x y z, Safe defs c R (k0_part365 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part365
  repeat' first | exact Safe.pure _ | refine Safe.loadSeq fun _ => ?_ | refine Safe.storeSeq fun _ => ?_
instance s366 : ∀ x y z u, Safe defs c R (k0_part366 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part366
  repeat' first | exact Safe.pure _ | refine Safe.loadSeq fun _ => ?_ | refine Safe.storeSeq fun _ => ?_
instance s367 : ∀ x0 x1 x2 x3 x4 x5 x6 x7 x8 x9 x10 x11 x12 x13 x14 x15 x16 x17 x18 x19 y0 y1 y2 y3 y4 y5 y6, Safe defs c R (k0_part367 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 x17 x18 x19 y0 y1 y2 y3 y4 y5 y6) := by
  intro x0 x1 x2 x3 x4 x5 x6 x7 x8 x9 x10 x11 x12 x13 x14 x15 x16 x17 x18 x19 y0 y1 y2 y3 y4 y5 y6; unfold k0_part367
  repeat' first | exact Safe.pure _ | refine Safe.loadSeq fun _ => ?_ | refine Safe.storeSeq fun _ => ?_
instance s368 : ∀ x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14 w15 w16 w17 w18 w19, Safe defs c R (k0_part368 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14 w15 w16 w17 w18 w19) := by
  intro x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14 w15 w16 w17 w18 w19; unfold k0_part368
  repeat' first | exact Safe.pure _ | refine Safe.loadSeq fun _ => ?_ | refine Safe.storeSeq fun _ => ?_
instance s369 : ∀ x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7, Safe defs c R (k0_part369 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7) := by
  intro x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7; unfold k0_part369
  repeat' first | exact Safe.pure _ | refine Safe.loadSeq fun _ => ?_ | refine Safe.storeSeq fun _ => ?_
instance s370 : ∀ x y z u v w p, Safe defs c R (k0_part370 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part370
  repeat' first | exact Safe.pure _ | refine Safe.loadSeq fun _ => ?_ | refine Safe.storeSeq fun _ => ?_
instance s371 : ∀ x y z, Safe defs c R (k0_part371 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part371
  repeat' first | exact Safe.pure _ | refine Safe.loadSeq fun _ => ?_ | refine Safe.storeSeq fun _ => ?_
instance s372 : ∀ x y z, Safe defs c R (k0_part372 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part372
  repeat' first | exact Safe.pure _ | refine Safe.loadSeq fun _ => ?_ | refine Safe.storeSeq fun _ => ?_
instance s373 : ∀ x y z u, Safe defs c R (k0_part373 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part373
  repeat' first | exact Safe.pure _ | refine Safe.loadSeq fun _ => ?_ | refine Safe.storeSeq fun _ => ?_
instance s374 : ∀ x y z, Safe defs c R (k0_part374 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part374
  repeat' first | exact Safe.pure _ | refine Safe.loadSeq fun _ => ?_ | refine Safe.storeSeq fun _ => ?_
instance s375 : ∀ x y z u, Safe defs c R (k0_part375 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part375
  repeat' first | exact Safe.pure _ | refine Safe.loadSeq fun _ => ?_ | refine Safe.storeSeq fun _ => ?_
instance s376 : ∀ x y z, Safe defs c R (k0_part376 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part376
  repeat' first | exact Safe.pure _ | refine Safe.loadSeq fun _ => ?_ | refine Safe.storeSeq fun _ => ?_
instance s377 : ∀ x y z u, Safe defs c R (k0_part377 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part377
  repeat' first | exact Safe.pure _ | refine Safe.loadSeq fun _ => ?_ | refine Safe.storeSeq fun _ => ?_
instance s378 : ∀ x y z, Safe defs c R (k0_part378 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part378
  repeat' first | exact Safe.pure _ | refine Safe.loadSeq fun _ => ?_ | refine Safe.storeSeq fun _ => ?_
instance s379 : ∀ x y z, Safe defs c R (k0_part379 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part379
  repeat' first | exact Safe.pure _ | refine Safe.loadSeq fun _ => ?_ | refine Safe.storeSeq fun _ => ?_
instance s380 : ∀ x y z u, Safe defs c R (k0_part380 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part380
  repeat' first | exact Safe.pure _ | refine Safe.loadSeq fun _ => ?_ | refine Safe.storeSeq fun _ => ?_
instance s381 : ∀ x y z, Safe defs c R (k0_part381 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part381
  repeat' first | exact Safe.pure _ | refine Safe.loadSeq fun _ => ?_ | refine Safe.storeSeq fun _ => ?_
instance s382 : ∀ x y z u, Safe defs c R (k0_part382 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part382
  repeat' first | exact Safe.pure _ | refine Safe.loadSeq fun _ => ?_ | refine Safe.storeSeq fun _ => ?_
instance s383 : ∀ x y z, Safe defs c R (k0_part383 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part383
  repeat' first | exact Safe.pure _ | refine Safe.loadSeq fun _ => ?_ | refine Safe.storeSeq fun _ => ?_
instance s384 : ∀ x y z u, Safe defs c R (k0_part384 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part384
  repeat' first | exact Safe.pure _ | refine Safe.loadSeq fun _ => ?_ | refine Safe.storeSeq fun _ => ?_
instance s385 : ∀ x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14, Safe defs c R (k0_part385 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14) := by
  intro x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2 v3 v4 v5 v6 v7 v8 v9 v10 v11 v12 v13 v14 v15 v16 v17 v18 v19 w0 w1 w2 w3 w4 w5 w6 w7 w8 w9 w10 w11 w12 w13 w14; unfold k0_part385
  repeat' first | exact Safe.pure _ | refine Safe.loadSeq fun _ => ?_ | refine Safe.storeSeq fun _ => ?_
instance s386 : ∀ x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11, Safe defs c R (k0_part386 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11) := by
  intro x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11; unfold k0_part386
  repeat' first | exact Safe.pure _ | refine Safe.loadSeq fun _ => ?_ | refine Safe.storeSeq fun _ => ?_
instance s387 : ∀ x y z u v w p, Safe defs c R (k0_part387 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part387
  repeat' first | exact Safe.pure _ | refine Safe.loadSeq fun _ => ?_ | refine Safe.storeSeq fun _ => ?_
instance s388 : ∀ x y z, Safe defs c R (k0_part388 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part388
  repeat' first | exact Safe.pure _ | refine Safe.loadSeq fun _ => ?_ | refine Safe.storeSeq fun _ => ?_
instance s389 : ∀ x y z, Safe defs c R (k0_part389 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part389
  repeat' first | exact Safe.pure _ | refine Safe.loadSeq fun _ => ?_ | refine Safe.storeSeq fun _ => ?_
instance s390 : ∀ x y z u, Safe defs c R (k0_part390 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part390
  repeat' first | exact Safe.pure _ | refine Safe.loadSeq fun _ => ?_ | refine Safe.storeSeq fun _ => ?_
instance s391 : ∀ x y z, Safe defs c R (k0_part391 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part391
  repeat' first | exact Safe.pure _ | refine Safe.loadSeq fun _ => ?_ | refine Safe.storeSeq fun _ => ?_
instance s392 : ∀ x y z u, Safe defs c R (k0_part392 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part392
  repeat' first | exact Safe.pure _ | refine Safe.loadSeq fun _ => ?_ | refine Safe.storeSeq fun _ => ?_
instance s393 : ∀ x y z, Safe defs c R (k0_part393 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part393
  repeat' first | exact Safe.pure _ | refine Safe.loadSeq fun _ => ?_ | refine Safe.storeSeq fun _ => ?_
instance s394 : ∀ x y z u, Safe defs c R (k0_part394 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part394
  repeat' first | exact Safe.pure _ | refine Safe.loadSeq fun _ => ?_ | refine Safe.storeSeq fun _ => ?_
instance s395 : ∀ x y z, Safe defs c R (k0_part395 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part395
  repeat' first | exact Safe.pure _ | refine Safe.loadSeq fun _ => ?_ | refine Safe.storeSeq fun _ => ?_
instance s396 : ∀ x y z, Safe defs c R (k0_part396 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part396
  repeat' first | exact Safe.pure _ | refine Safe.loadSeq fun _ => ?_ | refine Safe.storeSeq fun _ => ?_
instance s397 : ∀ x y z u, Safe defs c R (k0_part397 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part397
  repeat' first | exact Safe.pure _ | refine Safe.loadSeq fun _ => ?_ | refine Safe.storeSeq fun _ => ?_
instance s398 : ∀ x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2, Safe defs c R (k0_part398 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2) := by
  intro x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15 z16 z17 z18 z19 u0 u1 u2 u3 u4 u5 u6 u7 u8 u9 u10 u11 u12 u13 u14 u15 u16 u17 u18 u19 v0 v1 v2; unfold k0_part398
  repeat' first | exact Safe.pure _ | refine Safe.loadSeq fun _ => ?_ | refine Safe.storeSeq fun _ => ?_
instance s399 : ∀ x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15, Safe defs c R (k0_part399 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15) := by
  intro x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11 z12 z13 z14 z15; unfold k0_part399
  repeat' first | exact Safe.pure _ | refine Safe.loadSeq fun _ => ?_ | refine Safe.storeSeq fun _ => ?_
instance s400 : ∀ x y z u v w p, Safe defs c R (k0_part400 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part400
  repeat' first | exact Safe.pure _ | refine Safe.loadSeq fun _ => ?_ | refine Safe.storeSeq fun _ => ?_
instance s401 : ∀ x y z, Safe defs c R (k0_part401 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part401
  repeat' first | exact Safe.pure _ | refine Safe.loadSeq fun _ => ?_ | refine Safe.storeSeq fun _ => ?_
instance s402 : ∀ x y z, Safe defs c R (k0_part402 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part402
  repeat' first | exact Safe.pure _ | refine Safe.loadSeq fun _ => ?_ | refine Safe.storeSeq fun _ => ?_
instance s403 : ∀ x y z u, Safe defs c R (k0_part403 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part403
  repeat' first | exact Safe.pure _ | refine Safe.loadSeq fun _ => ?_ | refine Safe.storeSeq fun _ => ?_
instance s404 : ∀ x y z, Safe defs c R (k0_part404 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part404
  repeat' first | exact Safe.pure _ | refine Safe.loadSeq fun _ => ?_ | refine Safe.storeSeq fun _ => ?_
instance s405 : ∀ x y z u, Safe defs c R (k0_part405 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part405
  repeat' first | exact Safe.pure _ | refine Safe.loadSeq fun _ => ?_ | refine Safe.storeSeq fun _ => ?_
instance s406 : ∀ x y z, Safe defs c R (k0_part406 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part406
  repeat' first | exact Safe.pure _ | refine Safe.loadSeq fun _ => ?_ | refine Safe.storeSeq fun _ => ?_
instance s407 : ∀ x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11, Safe defs c R (k0_part407 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11) := by
  intro x0 x1 x2 x3 x4 x5 x6 x7 x8 x9 x10 x11 x12 x13 x14 x15 x16 x17 x18 x19 y0 y1 y2 y3 y4 y5 y6 y7 y8 y9 y10 y11 y12 y13 y14 y15 y16 y17 y18 y19 z0 z1 z2 z3 z4 z5 z6 z7 z8 z9 z10 z11; unfold k0_part407
  repeat' first | exact Safe.pure _ | refine Safe.loadSeq fun _ => ?_ | refine Safe.storeSeq fun _ => ?_
instance s408 : ∀ x y z u v w p, Safe defs c R (k0_part408 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part408
  repeat' first | exact Safe.pure _ | refine Safe.loadSeq fun _ => ?_ | refine Safe.storeSeq fun _ => ?_
instance s409 : ∀ x y z, Safe defs c R (k0_part409 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part409
  repeat' first | exact Safe.pure _ | refine Safe.loadSeq fun _ => ?_ | refine Safe.storeSeq fun _ => ?_
instance s410 : ∀ x y z, Safe defs c R (k0_part410 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part410
  repeat' first | exact Safe.pure _ | refine Safe.loadSeq fun _ => ?_ | refine Safe.storeSeq fun _ => ?_
instance s411 : ∀ x0 x1 x2 x3 x4 x5 x6 x7 x8 x9 x10 x11 x12 x13 x14 x15 x16 x17 x18 x19, Safe defs c R (k0_part411 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 x17 x18 x19) := by
  intro x0 x1 x2 x3 x4 x5 x6 x7 x8 x9 x10 x11 x12 x13 x14 x15 x16 x17 x18 x19; unfold k0_part411
  repeat' first | exact Safe.pure _ | refine Safe.loadSeq fun _ => ?_ | refine Safe.storeSeq fun _ => ?_
instance s412 : ∀ x y z, Safe defs c R (k0_part412 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part412
  repeat' first | exact Safe.pure _ | refine Safe.loadSeq fun _ => ?_ | refine Safe.storeSeq fun _ => ?_
instance s413 : ∀ x y z u v w p, Safe defs c R (k0_part413 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part413
  repeat' first | exact Safe.pure _ | refine Safe.loadSeq fun _ => ?_ | refine Safe.storeSeq fun _ => ?_
instance s414 : ∀ x y z u v w p q r s, Safe defs c R (k0_part414 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r s) := by
  intro x y z u v w p q r s; unfold k0_part414
  repeat' first | exact Safe.pure _ | refine Safe.loadSeq fun _ => ?_ | refine Safe.storeSeq fun _ => ?_
instance s415 : ∀ x y z u v w p, Safe defs c R (k0_part415 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part415
  repeat' first | exact Safe.pure _ | refine Safe.loadSeq fun _ => ?_ | refine Safe.storeSeq fun _ => ?_
instance s416 : ∀ x y z u v w p q r s, Safe defs c R (k0_part416 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r s) := by
  intro x y z u v w p q r s; unfold k0_part416
  repeat' first | exact Safe.pure _ | refine Safe.loadSeq fun _ => ?_ | refine Safe.storeSeq fun _ => ?_
instance s417 : ∀ x y z u, Safe defs c R (k0_part417 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part417
  repeat' first | exact Safe.pure _ | refine Safe.loadSeq fun _ => ?_ | refine Safe.storeSeq fun _ => ?_
instance s418 : ∀ x y z u v w p, Safe defs c R (k0_part418 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part418
  repeat' first | exact Safe.pure _ | refine Safe.loadSeq fun _ => ?_ | refine Safe.storeSeq fun _ => ?_
instance s419 : ∀ x y z u v w p q, Safe defs c R (k0_part419 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part419
  repeat' first | exact Safe.pure _ | refine Safe.loadSeq fun _ => ?_ | refine Safe.storeSeq fun _ => ?_
instance s420 : ∀ x y z u v w p q, Safe defs c R (k0_part420 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part420
  repeat' first | exact Safe.pure _ | refine Safe.loadSeq fun _ => ?_ | refine Safe.storeSeq fun _ => ?_
instance s421 : ∀ x y z u v w p q r s, Safe defs c R (k0_part421 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r s) := by
  intro x y z u v w p q r s; unfold k0_part421
  repeat' first | exact Safe.pure _ | refine Safe.loadSeq fun _ => ?_ | refine Safe.storeSeq fun _ => ?_
instance s422 : ∀ x y z u v w p q r, Safe defs c R (k0_part422 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part422
  repeat' first | exact Safe.pure _ | refine Safe.loadSeq fun _ => ?_ | refine Safe.storeSeq fun _ => ?_
instance s423 : ∀ x y z u v w p q, Safe defs c R (k0_part423 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part423
  repeat' first | exact Safe.pure _ | refine Safe.loadSeq fun _ => ?_ | refine Safe.storeSeq fun _ => ?_
instance s424 : ∀ x y z u v w p, Safe defs c R (k0_part424 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part424
  repeat' first | exact Safe.pure _ | refine Safe.loadSeq fun _ => ?_ | refine Safe.storeSeq fun _ => ?_
instance s425 : ∀ x y z u v w p q, Safe defs c R (k0_part425 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part425
  repeat' first | exact Safe.pure _ | refine Safe.loadSeq fun _ => ?_ | refine Safe.storeSeq fun _ => ?_
instance s426 : ∀ x y z u v w p, Safe defs c R (k0_part426 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part426
  repeat' first | exact Safe.pure _ | refine Safe.loadSeq fun _ => ?_ | refine Safe.storeSeq fun _ => ?_
instance s427 : ∀ x y z u v w p q, Safe defs c R (k0_part427 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part427
  repeat' first | exact Safe.pure _ | refine Safe.loadSeq fun _ => ?_ | refine Safe.storeSeq fun _ => ?_
instance s428 : ∀ x y z u v w p q r, Safe defs c R (k0_part428 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part428
  repeat' first | exact Safe.pure _ | refine Safe.loadSeq fun _ => ?_ | refine Safe.storeSeq fun _ => ?_
instance s429 : ∀ x y z u v w p, Safe defs c R (k0_part429 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part429
  repeat' first | exact Safe.pure _ | refine Safe.loadSeq fun _ => ?_ | refine Safe.storeSeq fun _ => ?_
instance s430 : ∀ x y z u v w p, Safe defs c R (k0_part430 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part430
  repeat' first | exact Safe.pure _ | refine Safe.loadSeq fun _ => ?_ | refine Safe.storeSeq fun _ => ?_
instance s431 : ∀ x y z u v w p q, Safe defs c R (k0_part431 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part431
  repeat' first | exact Safe.pure _ | refine Safe.loadSeq fun _ => ?_ | refine Safe.storeSeq fun _ => ?_
instance s432 : ∀ x y z u v w p, Safe defs c R (k0_part432 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part432
  repeat' first | exact Safe.pure _ | refine Safe.loadSeq fun _ => ?_ | refine Safe.storeSeq fun _ => ?_
instance s433 : ∀ x y z u v w p, Safe defs c R (k0_part433 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part433
  repeat' first | exact Safe.pure _ | refine Safe.loadSeq fun _ => ?_ | refine Safe.storeSeq fun _ => ?_
instance s434 : ∀ x y z u v w p q, Safe defs c R (k0_part434 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part434
  repeat' first | exact Safe.pure _ | refine Safe.loadSeq fun _ => ?_ | refine Safe.storeSeq fun _ => ?_
instance s435 : ∀ x y z u v w p q, Safe defs c R (k0_part435 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part435
  repeat' first | exact Safe.pure _ | refine Safe.loadSeq fun _ => ?_ | refine Safe.storeSeq fun _ => ?_
instance s436 : ∀ x y z u v w, Safe defs c R (k0_part436 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part436
  repeat' first | exact Safe.pure _ | refine Safe.loadSeq fun _ => ?_ | refine Safe.storeSeq fun _ => ?_
instance s437 : ∀ x y z u v w p, Safe defs c R (k0_part437 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part437
  repeat' first | exact Safe.pure _ | refine Safe.loadSeq fun _ => ?_ | refine Safe.storeSeq fun _ => ?_
instance s438 : ∀ x y z u v w p, Safe defs c R (k0_part438 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part438
  repeat' first | exact Safe.pure _ | refine Safe.loadSeq fun _ => ?_ | refine Safe.storeSeq fun _ => ?_
instance s439 : ∀ x y z u v w p q r, Safe defs c R (k0_part439 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part439
  repeat' first | exact Safe.pure _ | refine Safe.loadSeq fun _ => ?_ | refine Safe.storeSeq fun _ => ?_
instance s440 : ∀ x y z u v w p q, Safe defs c R (k0_part440 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part440
  repeat' first | exact Safe.pure _ | refine Safe.loadSeq fun _ => ?_ | refine Safe.storeSeq fun _ => ?_
instance s441 : ∀ x y z u v w p q, Safe defs c R (k0_part441 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part441
  repeat' first | exact Safe.pure _ | refine Safe.loadSeq fun _ => ?_ | refine Safe.storeSeq fun _ => ?_
instance s442 : ∀ x y z u v w p q, Safe defs c R (k0_part442 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part442
  repeat' first | exact Safe.pure _ | refine Safe.loadSeq fun _ => ?_ | refine Safe.storeSeq fun _ => ?_
instance s443 : ∀ x y z u v w p q, Safe defs c R (k0_part443 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part443
  repeat' first | exact Safe.pure _ | refine Safe.loadSeq fun _ => ?_ | refine Safe.storeSeq fun _ => ?_
instance s444 : ∀ x y z u v w p q, Safe defs c R (k0_part444 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part444
  repeat' first | exact Safe.pure _ | refine Safe.loadSeq fun _ => ?_ | refine Safe.storeSeq fun _ => ?_
instance s445 : ∀ x y z u v w p q, Safe defs c R (k0_part445 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part445
  repeat' first | exact Safe.pure _ | refine Safe.loadSeq fun _ => ?_ | refine Safe.storeSeq fun _ => ?_
instance s446 : ∀ x y z u v w p q, Safe defs c R (k0_part446 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part446
  repeat' first | exact Safe.pure _ | refine Safe.loadSeq fun _ => ?_ | refine Safe.storeSeq fun _ => ?_
instance s447 : ∀ x y z u v w p q, Safe defs c R (k0_part447 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part447
  repeat' first | exact Safe.pure _ | refine Safe.loadSeq fun _ => ?_ | refine Safe.storeSeq fun _ => ?_
instance s448 : ∀ x y z u v w p q r, Safe defs c R (k0_part448 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part448
  repeat' first | exact Safe.pure _ | refine Safe.loadSeq fun _ => ?_ | refine Safe.storeSeq fun _ => ?_
instance s449 : ∀ x y z u v w p q, Safe defs c R (k0_part449 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part449
  repeat' first | exact Safe.pure _ | refine Safe.loadSeq fun _ => ?_ | refine Safe.storeSeq fun _ => ?_

end Cert.Proof.Attention

end
-- ==== Proof.Pieces4.lean ====
/-
  The straight pieces 450 to 599 of the attention's body: each only loads and stores, so each is safe by its shape.
-/
module

public import proofs.«01_k».proof.Kernel
public import proofs.«01_k».proof.Proof.Safe

@[expose] public section

set_option maxRecDepth 16384
set_option synthInstance.maxSize 4096

noncomputable section

namespace Cert.Proof.Attention

open Cert.Kernel Cert.Proof.Shape
open Idealize.ShloMosaic Idealize.ShloMosaic.TcCoe
open Idealize.SL Idealize.SL.BI Idealize.SL.Sem
open Idealize.ShloMosaic.Rounds

variable {F : FTy → Type} [BitOps F] [Facts]
variable {defs : Defs nD τ sig (Elt F) Λ₀} {c : Dev nD} {R : sProp (MT nD τ sig Unit (Elt F) ℕ (UR sig nD τ) ℕ)}
variable {i : grid0.Coords}
variable {a2 : Memref sig .tc .vmem S1x2048x128 .bf16} {h2 : a2.IsWhole} [Readable c R a2]
variable {a3 : Memref sig .tc .vmem S1x16x128 .f32} {h3 : a3.IsWhole} [Readable c R a3]
variable {a4 : Memref sig .tc .vmem S1x4096x128 .bf16} {h4 : a4.IsWhole} [Readable c R a4]
variable {a5 : Memref sig .tc .vmem S1x4096x256 .bf16} {h5 : a5.IsWhole} [Readable c R a5]
variable {a6 : Memref sig .tc .vmem S1x2048x256 .bf16} {h6 : a6.IsWhole} [Readable c R a6]
variable {a7 : Memref sig .tc .vmem S3x16x128x128 .f32} {h7 : a7.IsWhole} [Readable c R a7]
variable {a8 : Memref sig .tc .vmem S16x256x128 .bf16} {h8 : a8.IsWhole} [Readable c R a8]
variable {a9 : Memref sig .tc .vmem S1x128x2048 .bf16} {h9 : a9.IsWhole} [Writable c R a9]
variable {a10 : Memref sig .tc .vmem S8x512x128 .i32} {h10 : a10.IsWhole} [Writable c R a10]
variable {a11 : Memref sig .tc .vmem S8x512x128 .i16} {h11 : a11.IsWhole} [Writable c R a11]
variable {a12 : Memref sig .tc .vmem S8x512x128 .i16} {h12 : a12.IsWhole} [Writable c R a12]
variable {a13 : Memref sig .tc .vmem S8x512x128 .i16} {h13 : a13.IsWhole} [Writable c R a13]
variable {a14 : Memref sig .tc .vmem S33x128x128 .f32} {h14 : a14.IsWhole} [Writable c R a14]
variable {a15 : Memref sig .tc .vmem S2x512x2048 .f32} {h15 : a15.IsWhole} [Writable c R a15]
variable {a16 : Memref sig .tc .vmem S4x512x512 .f32} {h16 : a16.IsWhole} [Writable c R a16]
variable {a17 : Memref sig .tc .vmem S4x512x512 .bf16} {h17 : a17.IsWhole} [Writable c R a17]
variable {a18 : Memref sig .tc .vmem S4x512x128 .f32} {h18 : a18.IsWhole} [Writable c R a18]
variable {a19 : Memref sig .tc .vmem S2048x256 .f32} {h19 : a19.IsWhole} [Writable c R a19]
variable {a20 : Memref sig .tc .vmem S2048x128 .f32} {h20 : a20.IsWhole} [Writable c R a20]
variable {a21 : Memref sig .tc .vmem S2048x128 .f32} {h21 : a21.IsWhole} [Writable c R a21]
variable {a22 : Memref sig .tc .vmem S8x128 .i32} {h22 : a22.IsWhole} [Writable c R a22]

instance s450 : ∀ x y z u v w p q, Safe defs c R (k0_part450 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part450
  repeat' first | exact Safe.pure _ | refine Safe.loadSeq fun _ => ?_ | refine Safe.storeSeq fun _ => ?_
instance s451 : ∀ x y z u v w p q, Safe defs c R (k0_part451 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part451
  repeat' first | exact Safe.pure _ | refine Safe.loadSeq fun _ => ?_ | refine Safe.storeSeq fun _ => ?_
instance s452 : ∀ x y z u v w p q, Safe defs c R (k0_part452 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part452
  repeat' first | exact Safe.pure _ | refine Safe.loadSeq fun _ => ?_ | refine Safe.storeSeq fun _ => ?_
instance s453 : ∀ x y z u v w p, Safe defs c R (k0_part453 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part453
  repeat' first | exact Safe.pure _ | refine Safe.loadSeq fun _ => ?_ | refine Safe.storeSeq fun _ => ?_
instance s454 : ∀ x y z u v w p q r, Safe defs c R (k0_part454 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part454
  repeat' first | exact Safe.pure _ | refine Safe.loadSeq fun _ => ?_ | refine Safe.storeSeq fun _ => ?_
instance s455 : ∀ x y z u v w p q, Safe defs c R (k0_part455 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part455
  repeat' first | exact Safe.pure _ | refine Safe.loadSeq fun _ => ?_ | refine Safe.storeSeq fun _ => ?_
instance s456 : ∀ x y, Safe defs c R (k0_part456 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part456
  repeat' first | exact Safe.pure _ | refine Safe.loadSeq fun _ => ?_ | refine Safe.storeSeq fun _ => ?_
instance s457 : ∀ x, Safe defs c R (k0_part457 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part457
  repeat' first | exact Safe.pure _ | refine Safe.loadSeq fun _ => ?_ | refine Safe.storeSeq fun _ => ?_
instance s458 : ∀ x, Safe defs c R (k0_part458 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part458
  repeat' first | exact Safe.pure _ | refine Safe.loadSeq fun _ => ?_ | refine Safe.storeSeq fun _ => ?_
instance s459 : ∀ x, Safe defs c R (k0_part459 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part459
  repeat' first | exact Safe.pure _ | refine Safe.loadSeq fun _ => ?_ | refine Safe.storeSeq fun _ => ?_
instance s460 : ∀ x, Safe defs c R (k0_part460 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part460
  repeat' first | exact Safe.pure _ | refine Safe.loadSeq fun _ => ?_ | refine Safe.storeSeq fun _ => ?_
instance s461 : ∀ x y, Safe defs c R (k0_part461 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part461
  repeat' first | exact Safe.pure _ | refine Safe.loadSeq fun _ => ?_ | refine Safe.storeSeq fun _ => ?_
instance s462 : ∀ x, Safe defs c R (k0_part462 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part462
  repeat' first | exact Safe.pure _ | refine Safe.loadSeq fun _ => ?_ | refine Safe.storeSeq fun _ => ?_
instance s463 : ∀ x, Safe defs c R (k0_part463 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part463
  repeat' first | exact Safe.pure _ | refine Safe.loadSeq fun _ => ?_ | refine Safe.storeSeq fun _ => ?_
instance s464 : ∀ x y z u, Safe defs c R (k0_part464 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part464
  repeat' first | exact Safe.pure _ | refine Safe.loadSeq fun _ => ?_ | refine Safe.storeSeq fun _ => ?_
instance s465 : ∀ x y z u v w p, Safe defs c R (k0_part465 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part465
  repeat' first | exact Safe.pure _ | refine Safe.loadSeq fun _ => ?_ | refine Safe.storeSeq fun _ => ?_
instance s466 : ∀ x y z u v w p q, Safe defs c R (k0_part466 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part466
  repeat' first | exact Safe.pure _ | refine Safe.loadSeq fun _ => ?_ | refine Safe.storeSeq fun _ => ?_
instance s467 : ∀ x y z u v w p q, Safe defs c R (k0_part467 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part467
  repeat' first | exact Safe.pure _ | refine Safe.loadSeq fun _ => ?_ | refine Safe.storeSeq fun _ => ?_
instance s468 : ∀ x y z u v w p q r s, Safe defs c R (k0_part468 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r s) := by
  intro x y z u v w p q r s; unfold k0_part468
  repeat' first | exact Safe.pure _ | refine Safe.loadSeq fun _ => ?_ | refine Safe.storeSeq fun _ => ?_
instance s469 : ∀ x y z u v w p q r, Safe defs c R (k0_part469 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part469
  repeat' first | exact Safe.pure _ | refine Safe.loadSeq fun _ => ?_ | refine Safe.storeSeq fun _ => ?_
instance s470 : ∀ x y z u v w p q, Safe defs c R (k0_part470 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part470
  repeat' first | exact Safe.pure _ | refine Safe.loadSeq fun _ => ?_ | refine Safe.storeSeq fun _ => ?_
instance s471 : ∀ x y z u v w p, Safe defs c R (k0_part471 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part471
  repeat' first | exact Safe.pure _ | refine Safe.loadSeq fun _ => ?_ | refine Safe.storeSeq fun _ => ?_
instance s472 : ∀ x y z u v w p q, Safe defs c R (k0_part472 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part472
  repeat' first | exact Safe.pure _ | refine Safe.loadSeq fun _ => ?_ | refine Safe.storeSeq fun _ => ?_
instance s473 : ∀ x y z u v w p, Safe defs c R (k0_part473 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part473
  repeat' first | exact Safe.pure _ | refine Safe.loadSeq fun _ => ?_ | refine Safe.storeSeq fun _ => ?_
instance s474 : ∀ x y z u v w p q, Safe defs c R (k0_part474 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part474
  repeat' first | exact Safe.pure _ | refine Safe.loadSeq fun _ => ?_ | refine Safe.storeSeq fun _ => ?_
instance s475 : ∀ x y z u v w p q r, Safe defs c R (k0_part475 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part475
  repeat' first | exact Safe.pure _ | refine Safe.loadSeq fun _ => ?_ | refine Safe.storeSeq fun _ => ?_
instance s476 : ∀ x y z u v w p, Safe defs c R (k0_part476 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part476
  repeat' first | exact Safe.pure _ | refine Safe.loadSeq fun _ => ?_ | refine Safe.storeSeq fun _ => ?_
instance s477 : ∀ x y z u v w p, Safe defs c R (k0_part477 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part477
  repeat' first | exact Safe.pure _ | refine Safe.loadSeq fun _ => ?_ | refine Safe.storeSeq fun _ => ?_
instance s478 : ∀ x y z u v w p q, Safe defs c R (k0_part478 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part478
  repeat' first | exact Safe.pure _ | refine Safe.loadSeq fun _ => ?_ | refine Safe.storeSeq fun _ => ?_
instance s479 : ∀ x y z u v w p, Safe defs c R (k0_part479 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part479
  repeat' first | exact Safe.pure _ | refine Safe.loadSeq fun _ => ?_ | refine Safe.storeSeq fun _ => ?_
instance s480 : ∀ x y z u v w p, Safe defs c R (k0_part480 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part480
  repeat' first | exact Safe.pure _ | refine Safe.loadSeq fun _ => ?_ | refine Safe.storeSeq fun _ => ?_
instance s481 : ∀ x y z u v w p q, Safe defs c R (k0_part481 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part481
  repeat' first | exact Safe.pure _ | refine Safe.loadSeq fun _ => ?_ | refine Safe.storeSeq fun _ => ?_
instance s482 : ∀ x y z u v w p q, Safe defs c R (k0_part482 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part482
  repeat' first | exact Safe.pure _ | refine Safe.loadSeq fun _ => ?_ | refine Safe.storeSeq fun _ => ?_
instance s483 : ∀ x y z, Safe defs c R (k0_part483 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part483
  repeat' first | exact Safe.pure _ | refine Safe.loadSeq fun _ => ?_ | refine Safe.storeSeq fun _ => ?_
instance s484 : ∀ x y z u, Safe defs c R (k0_part484 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part484
  repeat' first | exact Safe.pure _ | refine Safe.loadSeq fun _ => ?_ | refine Safe.storeSeq fun _ => ?_
instance s485 : ∀ x y z u, Safe defs c R (k0_part485 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part485
  repeat' first | exact Safe.pure _ | refine Safe.loadSeq fun _ => ?_ | refine Safe.storeSeq fun _ => ?_
instance s486 : ∀ x y z u v, Safe defs c R (k0_part486 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v) := by
  intro x y z u v; unfold k0_part486
  repeat' first | exact Safe.pure _ | refine Safe.loadSeq fun _ => ?_ | refine Safe.storeSeq fun _ => ?_
instance s487 : ∀ x y z u v, Safe defs c R (k0_part487 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v) := by
  intro x y z u v; unfold k0_part487
  repeat' first | exact Safe.pure _ | refine Safe.loadSeq fun _ => ?_ | refine Safe.storeSeq fun _ => ?_
instance s488 : ∀ x y z u, Safe defs c R (k0_part488 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part488
  repeat' first | exact Safe.pure _ | refine Safe.loadSeq fun _ => ?_ | refine Safe.storeSeq fun _ => ?_
instance s489 : ∀ x y z u, Safe defs c R (k0_part489 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part489
  repeat' first | exact Safe.pure _ | refine Safe.loadSeq fun _ => ?_ | refine Safe.storeSeq fun _ => ?_
instance s490 : ∀ x y z u, Safe defs c R (k0_part490 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part490
  repeat' first | exact Safe.pure _ | refine Safe.loadSeq fun _ => ?_ | refine Safe.storeSeq fun _ => ?_
instance s491 : ∀ x y z u v w p, Safe defs c R (k0_part491 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part491
  repeat' first | exact Safe.pure _ | refine Safe.loadSeq fun _ => ?_ | refine Safe.storeSeq fun _ => ?_
instance s492 : ∀ x y z u v, Safe defs c R (k0_part492 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v) := by
  intro x y z u v; unfold k0_part492
  repeat' first | exact Safe.pure _ | refine Safe.loadSeq fun _ => ?_ | refine Safe.storeSeq fun _ => ?_
instance s493 : ∀ x y z u v w, Safe defs c R (k0_part493 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part493
  repeat' first | exact Safe.pure _ | refine Safe.loadSeq fun _ => ?_ | refine Safe.storeSeq fun _ => ?_
instance s494 : ∀ x y z u v w p q r, Safe defs c R (k0_part494 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part494
  repeat' first | exact Safe.pure _ | refine Safe.loadSeq fun _ => ?_ | refine Safe.storeSeq fun _ => ?_
instance s495 : ∀ x y z u v w p, Safe defs c R (k0_part495 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part495
  repeat' first | exact Safe.pure _ | refine Safe.loadSeq fun _ => ?_ | refine Safe.storeSeq fun _ => ?_
instance s496 : ∀ x y z u v w p q r, Safe defs c R (k0_part496 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part496
  repeat' first | exact Safe.pure _ | refine Safe.loadSeq fun _ => ?_ | refine Safe.storeSeq fun _ => ?_
instance s497 : ∀ x y z u v w p q, Safe defs c R (k0_part497 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part497
  repeat' first | exact Safe.pure _ | refine Safe.loadSeq fun _ => ?_ | refine Safe.storeSeq fun _ => ?_
instance s498 : ∀ x y z u v w p, Safe defs c R (k0_part498 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part498
  repeat' first | exact Safe.pure _ | refine Safe.loadSeq fun _ => ?_ | refine Safe.storeSeq fun _ => ?_
instance s499 : ∀ x y z u v w p q, Safe defs c R (k0_part499 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part499
  repeat' first | exact Safe.pure _ | refine Safe.loadSeq fun _ => ?_ | refine Safe.storeSeq fun _ => ?_
instance s500 : ∀ x y z u v w p, Safe defs c R (k0_part500 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part500
  repeat' first | exact Safe.pure _ | refine Safe.loadSeq fun _ => ?_ | refine Safe.storeSeq fun _ => ?_
instance s501 : ∀ x y z u v w p q, Safe defs c R (k0_part501 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part501
  repeat' first | exact Safe.pure _ | refine Safe.loadSeq fun _ => ?_ | refine Safe.storeSeq fun _ => ?_
instance s502 : ∀ x y z u v w p q, Safe defs c R (k0_part502 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part502
  repeat' first | exact Safe.pure _ | refine Safe.loadSeq fun _ => ?_ | refine Safe.storeSeq fun _ => ?_
instance s503 : ∀ x y z u v w p q r s, Safe defs c R (k0_part503 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r s) := by
  intro x y z u v w p q r s; unfold k0_part503
  repeat' first | exact Safe.pure _ | refine Safe.loadSeq fun _ => ?_ | refine Safe.storeSeq fun _ => ?_
instance s504 : ∀ x y z u v w p q r, Safe defs c R (k0_part504 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part504
  repeat' first | exact Safe.pure _ | refine Safe.loadSeq fun _ => ?_ | refine Safe.storeSeq fun _ => ?_
instance s505 : ∀ x y z u v w p q, Safe defs c R (k0_part505 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part505
  repeat' first | exact Safe.pure _ | refine Safe.loadSeq fun _ => ?_ | refine Safe.storeSeq fun _ => ?_
instance s506 : ∀ x y z u v w p, Safe defs c R (k0_part506 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part506
  repeat' first | exact Safe.pure _ | refine Safe.loadSeq fun _ => ?_ | refine Safe.storeSeq fun _ => ?_
instance s507 : ∀ x y z u v w p q, Safe defs c R (k0_part507 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part507
  repeat' first | exact Safe.pure _ | refine Safe.loadSeq fun _ => ?_ | refine Safe.storeSeq fun _ => ?_
instance s508 : ∀ x y z u v w p, Safe defs c R (k0_part508 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part508
  repeat' first | exact Safe.pure _ | refine Safe.loadSeq fun _ => ?_ | refine Safe.storeSeq fun _ => ?_
instance s509 : ∀ x y z u v w p q, Safe defs c R (k0_part509 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part509
  repeat' first | exact Safe.pure _ | refine Safe.loadSeq fun _ => ?_ | refine Safe.storeSeq fun _ => ?_
instance s510 : ∀ x y z u v w p q r, Safe defs c R (k0_part510 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part510
  repeat' first | exact Safe.pure _ | refine Safe.loadSeq fun _ => ?_ | refine Safe.storeSeq fun _ => ?_
instance s511 : ∀ x y z, Safe defs c R (k0_part511 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part511
  repeat' first | exact Safe.pure _ | refine Safe.loadSeq fun _ => ?_ | refine Safe.storeSeq fun _ => ?_
instance s512 : ∀ x y z u, Safe defs c R (k0_part512 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part512
  repeat' first | exact Safe.pure _ | refine Safe.loadSeq fun _ => ?_ | refine Safe.storeSeq fun _ => ?_
instance s513 : ∀ x y z u, Safe defs c R (k0_part513 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part513
  repeat' first | exact Safe.pure _ | refine Safe.loadSeq fun _ => ?_ | refine Safe.storeSeq fun _ => ?_
instance s514 : ∀ x y z u, Safe defs c R (k0_part514 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part514
  repeat' first | exact Safe.pure _ | refine Safe.loadSeq fun _ => ?_ | refine Safe.storeSeq fun _ => ?_
instance s515 : ∀ x y z u, Safe defs c R (k0_part515 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part515
  repeat' first | exact Safe.pure _ | refine Safe.loadSeq fun _ => ?_ | refine Safe.storeSeq fun _ => ?_
instance s516 : ∀ x y z u, Safe defs c R (k0_part516 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part516
  repeat' first | exact Safe.pure _ | refine Safe.loadSeq fun _ => ?_ | refine Safe.storeSeq fun _ => ?_
instance s517 : ∀ x y z u v, Safe defs c R (k0_part517 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v) := by
  intro x y z u v; unfold k0_part517
  repeat' first | exact Safe.pure _ | refine Safe.loadSeq fun _ => ?_ | refine Safe.storeSeq fun _ => ?_
instance s518 : ∀ x y z u v, Safe defs c R (k0_part518 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v) := by
  intro x y z u v; unfold k0_part518
  repeat' first | exact Safe.pure _ | refine Safe.loadSeq fun _ => ?_ | refine Safe.storeSeq fun _ => ?_
instance s519 : ∀ x y z u v w p, Safe defs c R (k0_part519 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part519
  repeat' first | exact Safe.pure _ | refine Safe.loadSeq fun _ => ?_ | refine Safe.storeSeq fun _ => ?_
instance s520 : ∀ x, Safe defs c R (k0_part520 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part520
  repeat' first | exact Safe.pure _ | refine Safe.loadSeq fun _ => ?_ | refine Safe.storeSeq fun _ => ?_
instance s521 : ∀ x, Safe defs c R (k0_part521 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part521
  repeat' first | exact Safe.pure _ | refine Safe.loadSeq fun _ => ?_ | refine Safe.storeSeq fun _ => ?_
instance s522 : ∀ x, Safe defs c R (k0_part522 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part522
  repeat' first | exact Safe.pure _ | refine Safe.loadSeq fun _ => ?_ | refine Safe.storeSeq fun _ => ?_
instance s523 : ∀ x y, Safe defs c R (k0_part523 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part523
  repeat' first | exact Safe.pure _ | refine Safe.loadSeq fun _ => ?_ | refine Safe.storeSeq fun _ => ?_
instance s524 : ∀ x, Safe defs c R (k0_part524 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part524
  repeat' first | exact Safe.pure _ | refine Safe.loadSeq fun _ => ?_ | refine Safe.storeSeq fun _ => ?_
instance s525 : ∀ x, Safe defs c R (k0_part525 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part525
  repeat' first | exact Safe.pure _ | refine Safe.loadSeq fun _ => ?_ | refine Safe.storeSeq fun _ => ?_
instance s526 : Safe defs c R (k0_part526 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 ) := by
  unfold k0_part526
  repeat' first | exact Safe.pure _ | refine Safe.loadSeq fun _ => ?_ | refine Safe.storeSeq fun _ => ?_
instance s527 : Safe defs c R (k0_part527 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 ) := by
  unfold k0_part527
  repeat' first | exact Safe.pure _ | refine Safe.loadSeq fun _ => ?_ | refine Safe.storeSeq fun _ => ?_
instance s528 : ∀ x y z, Safe defs c R (k0_part528 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part528
  repeat' first | exact Safe.pure _ | refine Safe.loadSeq fun _ => ?_ | refine Safe.storeSeq fun _ => ?_
instance s531 : ∀ x y z u v w, Safe defs c R (k0_part531 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part531
  repeat' first | exact Safe.pure _ | refine Safe.loadSeq fun _ => ?_ | refine Safe.storeSeq fun _ => ?_
instance s532 : ∀ x y z u v w p q, Safe defs c R (k0_part532 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part532
  repeat' first | exact Safe.pure _ | refine Safe.loadSeq fun _ => ?_ | refine Safe.storeSeq fun _ => ?_
instance s533 : ∀ x y z u v w p q r, Safe defs c R (k0_part533 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part533
  repeat' first | exact Safe.pure _ | refine Safe.loadSeq fun _ => ?_ | refine Safe.storeSeq fun _ => ?_
instance s534 : ∀ x y z u v w p q, Safe defs c R (k0_part534 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part534
  repeat' first | exact Safe.pure _ | refine Safe.loadSeq fun _ => ?_ | refine Safe.storeSeq fun _ => ?_
instance s535 : ∀ x y z u v w p q, Safe defs c R (k0_part535 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part535
  repeat' first | exact Safe.pure _ | refine Safe.loadSeq fun _ => ?_ | refine Safe.storeSeq fun _ => ?_
instance s536 : ∀ x y z u v w p q r, Safe defs c R (k0_part536 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part536
  repeat' first | exact Safe.pure _ | refine Safe.loadSeq fun _ => ?_ | refine Safe.storeSeq fun _ => ?_
instance s537 : ∀ x y z u v w p, Safe defs c R (k0_part537 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part537
  repeat' first | exact Safe.pure _ | refine Safe.loadSeq fun _ => ?_ | refine Safe.storeSeq fun _ => ?_
instance s538 : ∀ x y z u v w p q r, Safe defs c R (k0_part538 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part538
  repeat' first | exact Safe.pure _ | refine Safe.loadSeq fun _ => ?_ | refine Safe.storeSeq fun _ => ?_
instance s539 : ∀ x y z u v w p, Safe defs c R (k0_part539 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part539
  repeat' first | exact Safe.pure _ | refine Safe.loadSeq fun _ => ?_ | refine Safe.storeSeq fun _ => ?_
instance s540 : ∀ x y z u v w p q, Safe defs c R (k0_part540 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part540
  repeat' first | exact Safe.pure _ | refine Safe.loadSeq fun _ => ?_ | refine Safe.storeSeq fun _ => ?_
instance s541 : ∀ x y z u v w p q, Safe defs c R (k0_part541 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part541
  repeat' first | exact Safe.pure _ | refine Safe.loadSeq fun _ => ?_ | refine Safe.storeSeq fun _ => ?_
instance s542 : ∀ x y z u v w p, Safe defs c R (k0_part542 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part542
  repeat' first | exact Safe.pure _ | refine Safe.loadSeq fun _ => ?_ | refine Safe.storeSeq fun _ => ?_
instance s543 : ∀ x y, Safe defs c R (k0_part543 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part543
  repeat' first | exact Safe.pure _ | refine Safe.loadSeq fun _ => ?_ | refine Safe.storeSeq fun _ => ?_
instance s544 : ∀ x, Safe defs c R (k0_part544 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part544
  repeat' first | exact Safe.pure _ | refine Safe.loadSeq fun _ => ?_ | refine Safe.storeSeq fun _ => ?_
instance s545 : ∀ x, Safe defs c R (k0_part545 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part545
  repeat' first | exact Safe.pure _ | refine Safe.loadSeq fun _ => ?_ | refine Safe.storeSeq fun _ => ?_
instance s546 : ∀ x, Safe defs c R (k0_part546 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part546
  repeat' first | exact Safe.pure _ | refine Safe.loadSeq fun _ => ?_ | refine Safe.storeSeq fun _ => ?_
instance s547 : ∀ x y, Safe defs c R (k0_part547 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part547
  repeat' first | exact Safe.pure _ | refine Safe.loadSeq fun _ => ?_ | refine Safe.storeSeq fun _ => ?_
instance s548 : ∀ x, Safe defs c R (k0_part548 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part548
  repeat' first | exact Safe.pure _ | refine Safe.loadSeq fun _ => ?_ | refine Safe.storeSeq fun _ => ?_
instance s549 : ∀ x, Safe defs c R (k0_part549 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part549
  repeat' first | exact Safe.pure _ | refine Safe.loadSeq fun _ => ?_ | refine Safe.storeSeq fun _ => ?_
instance s550 : Safe defs c R (k0_part550 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 ) := by
  unfold k0_part550
  repeat' first | exact Safe.pure _ | refine Safe.loadSeq fun _ => ?_ | refine Safe.storeSeq fun _ => ?_
instance s551 : ∀ x y z u v w, Safe defs c R (k0_part551 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part551
  repeat' first | exact Safe.pure _ | refine Safe.loadSeq fun _ => ?_ | refine Safe.storeSeq fun _ => ?_
instance s552 : ∀ x y z u v w p q r, Safe defs c R (k0_part552 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part552
  repeat' first | exact Safe.pure _ | refine Safe.loadSeq fun _ => ?_ | refine Safe.storeSeq fun _ => ?_
instance s553 : ∀ x y z u v w p q, Safe defs c R (k0_part553 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part553
  repeat' first | exact Safe.pure _ | refine Safe.loadSeq fun _ => ?_ | refine Safe.storeSeq fun _ => ?_
instance s554 : ∀ x y z u v w p q r, Safe defs c R (k0_part554 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part554
  repeat' first | exact Safe.pure _ | refine Safe.loadSeq fun _ => ?_ | refine Safe.storeSeq fun _ => ?_
instance s555 : ∀ x y z u v w p q r, Safe defs c R (k0_part555 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part555
  repeat' first | exact Safe.pure _ | refine Safe.loadSeq fun _ => ?_ | refine Safe.storeSeq fun _ => ?_
instance s556 : ∀ x y z u v w p q, Safe defs c R (k0_part556 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part556
  repeat' first | exact Safe.pure _ | refine Safe.loadSeq fun _ => ?_ | refine Safe.storeSeq fun _ => ?_
instance s557 : ∀ x y z u v w p q, Safe defs c R (k0_part557 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part557
  repeat' first | exact Safe.pure _ | refine Safe.loadSeq fun _ => ?_ | refine Safe.storeSeq fun _ => ?_
instance s558 : ∀ x y z u v w p q r, Safe defs c R (k0_part558 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part558
  repeat' first | exact Safe.pure _ | refine Safe.loadSeq fun _ => ?_ | refine Safe.storeSeq fun _ => ?_
instance s559 : ∀ x y z u v w p, Safe defs c R (k0_part559 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part559
  repeat' first | exact Safe.pure _ | refine Safe.loadSeq fun _ => ?_ | refine Safe.storeSeq fun _ => ?_
instance s560 : ∀ x y z u v w p q r, Safe defs c R (k0_part560 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part560
  repeat' first | exact Safe.pure _ | refine Safe.loadSeq fun _ => ?_ | refine Safe.storeSeq fun _ => ?_
instance s561 : ∀ x y z u v w p, Safe defs c R (k0_part561 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part561
  repeat' first | exact Safe.pure _ | refine Safe.loadSeq fun _ => ?_ | refine Safe.storeSeq fun _ => ?_
instance s562 : ∀ x y z u v w p q, Safe defs c R (k0_part562 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part562
  repeat' first | exact Safe.pure _ | refine Safe.loadSeq fun _ => ?_ | refine Safe.storeSeq fun _ => ?_
instance s563 : ∀ x y z u v w, Safe defs c R (k0_part563 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part563
  repeat' first | exact Safe.pure _ | refine Safe.loadSeq fun _ => ?_ | refine Safe.storeSeq fun _ => ?_
instance s564 : ∀ x y z, Safe defs c R (k0_part564 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part564
  repeat' first | exact Safe.pure _ | refine Safe.loadSeq fun _ => ?_ | refine Safe.storeSeq fun _ => ?_
instance s565 : ∀ x y z, Safe defs c R (k0_part565 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part565
  repeat' first | exact Safe.pure _ | refine Safe.loadSeq fun _ => ?_ | refine Safe.storeSeq fun _ => ?_
instance s566 : ∀ x y z, Safe defs c R (k0_part566 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part566
  repeat' first | exact Safe.pure _ | refine Safe.loadSeq fun _ => ?_ | refine Safe.storeSeq fun _ => ?_
instance s567 : ∀ x y z, Safe defs c R (k0_part567 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part567
  repeat' first | exact Safe.pure _ | refine Safe.loadSeq fun _ => ?_ | refine Safe.storeSeq fun _ => ?_
instance s568 : ∀ x y z, Safe defs c R (k0_part568 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part568
  repeat' first | exact Safe.pure _ | refine Safe.loadSeq fun _ => ?_ | refine Safe.storeSeq fun _ => ?_
instance s569 : ∀ x y z u, Safe defs c R (k0_part569 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part569
  repeat' first | exact Safe.pure _ | refine Safe.loadSeq fun _ => ?_ | refine Safe.storeSeq fun _ => ?_
instance s570 : ∀ x y z u, Safe defs c R (k0_part570 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part570
  repeat' first | exact Safe.pure _ | refine Safe.loadSeq fun _ => ?_ | refine Safe.storeSeq fun _ => ?_
instance s571 : ∀ x y z u v w, Safe defs c R (k0_part571 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part571
  repeat' first | exact Safe.pure _ | refine Safe.loadSeq fun _ => ?_ | refine Safe.storeSeq fun _ => ?_
instance s572 : ∀ x y z u v w p q, Safe defs c R (k0_part572 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part572
  repeat' first | exact Safe.pure _ | refine Safe.loadSeq fun _ => ?_ | refine Safe.storeSeq fun _ => ?_
instance s573 : ∀ x y z u v w p, Safe defs c R (k0_part573 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part573
  repeat' first | exact Safe.pure _ | refine Safe.loadSeq fun _ => ?_ | refine Safe.storeSeq fun _ => ?_
instance s574 : ∀ x y z u v w p q, Safe defs c R (k0_part574 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part574
  repeat' first | exact Safe.pure _ | refine Safe.loadSeq fun _ => ?_ | refine Safe.storeSeq fun _ => ?_
instance s575 : ∀ x y z u v w p q, Safe defs c R (k0_part575 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part575
  repeat' first | exact Safe.pure _ | refine Safe.loadSeq fun _ => ?_ | refine Safe.storeSeq fun _ => ?_
instance s576 : ∀ x y z u v w p q r, Safe defs c R (k0_part576 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part576
  repeat' first | exact Safe.pure _ | refine Safe.loadSeq fun _ => ?_ | refine Safe.storeSeq fun _ => ?_
instance s577 : ∀ x y z u v w p q r, Safe defs c R (k0_part577 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part577
  repeat' first | exact Safe.pure _ | refine Safe.loadSeq fun _ => ?_ | refine Safe.storeSeq fun _ => ?_
instance s578 : ∀ x y z u v w p q, Safe defs c R (k0_part578 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part578
  repeat' first | exact Safe.pure _ | refine Safe.loadSeq fun _ => ?_ | refine Safe.storeSeq fun _ => ?_
instance s579 : ∀ x y z u v w p q, Safe defs c R (k0_part579 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part579
  repeat' first | exact Safe.pure _ | refine Safe.loadSeq fun _ => ?_ | refine Safe.storeSeq fun _ => ?_
instance s580 : ∀ x y z u v w p q r, Safe defs c R (k0_part580 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part580
  repeat' first | exact Safe.pure _ | refine Safe.loadSeq fun _ => ?_ | refine Safe.storeSeq fun _ => ?_
instance s581 : ∀ x y z u v w p, Safe defs c R (k0_part581 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part581
  repeat' first | exact Safe.pure _ | refine Safe.loadSeq fun _ => ?_ | refine Safe.storeSeq fun _ => ?_
instance s582 : ∀ x y z u v w p q r, Safe defs c R (k0_part582 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part582
  repeat' first | exact Safe.pure _ | refine Safe.loadSeq fun _ => ?_ | refine Safe.storeSeq fun _ => ?_
instance s583 : ∀ x y z u v w p, Safe defs c R (k0_part583 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part583
  repeat' first | exact Safe.pure _ | refine Safe.loadSeq fun _ => ?_ | refine Safe.storeSeq fun _ => ?_
instance s584 : ∀ x y, Safe defs c R (k0_part584 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part584
  repeat' first | exact Safe.pure _ | refine Safe.loadSeq fun _ => ?_ | refine Safe.storeSeq fun _ => ?_
instance s585 : ∀ x y z u v w, Safe defs c R (k0_part585 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part585
  repeat' first | exact Safe.pure _ | refine Safe.loadSeq fun _ => ?_ | refine Safe.storeSeq fun _ => ?_
instance s586 : ∀ x y z u v, Safe defs c R (k0_part586 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v) := by
  intro x y z u v; unfold k0_part586
  repeat' first | exact Safe.pure _ | refine Safe.loadSeq fun _ => ?_ | refine Safe.storeSeq fun _ => ?_
instance s587 : ∀ x y z u v w, Safe defs c R (k0_part587 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part587
  repeat' first | exact Safe.pure _ | refine Safe.loadSeq fun _ => ?_ | refine Safe.storeSeq fun _ => ?_
instance s588 : ∀ x y z u v w p, Safe defs c R (k0_part588 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part588
  repeat' first | exact Safe.pure _ | refine Safe.loadSeq fun _ => ?_ | refine Safe.storeSeq fun _ => ?_
instance s589 : ∀ x y z u v w, Safe defs c R (k0_part589 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part589
  repeat' first | exact Safe.pure _ | refine Safe.loadSeq fun _ => ?_ | refine Safe.storeSeq fun _ => ?_
instance s590 : ∀ x y z u v, Safe defs c R (k0_part590 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v) := by
  intro x y z u v; unfold k0_part590
  repeat' first | exact Safe.pure _ | refine Safe.loadSeq fun _ => ?_ | refine Safe.storeSeq fun _ => ?_
instance s591 : ∀ x y z u v, Safe defs c R (k0_part591 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v) := by
  intro x y z u v; unfold k0_part591
  repeat' first | exact Safe.pure _ | refine Safe.loadSeq fun _ => ?_ | refine Safe.storeSeq fun _ => ?_
instance s592 : ∀ x y z u v w p q r s, Safe defs c R (k0_part592 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r s) := by
  intro x y z u v w p q r s; unfold k0_part592
  repeat' first | exact Safe.pure _ | refine Safe.loadSeq fun _ => ?_ | refine Safe.storeSeq fun _ => ?_
instance s593 : ∀ x y z u v w, Safe defs c R (k0_part593 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part593
  repeat' first | exact Safe.pure _ | refine Safe.loadSeq fun _ => ?_ | refine Safe.storeSeq fun _ => ?_
instance s594 : ∀ x y z u v w p, Safe defs c R (k0_part594 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part594
  repeat' first | exact Safe.pure _ | refine Safe.loadSeq fun _ => ?_ | refine Safe.storeSeq fun _ => ?_
instance s595 : ∀ x y z u v w p q, Safe defs c R (k0_part595 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part595
  repeat' first | exact Safe.pure _ | refine Safe.loadSeq fun _ => ?_ | refine Safe.storeSeq fun _ => ?_
instance s596 : ∀ x y z u v w p q, Safe defs c R (k0_part596 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part596
  repeat' first | exact Safe.pure _ | refine Safe.loadSeq fun _ => ?_ | refine Safe.storeSeq fun _ => ?_
instance s597 : ∀ x y z u v w p, Safe defs c R (k0_part597 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part597
  repeat' first | exact Safe.pure _ | refine Safe.loadSeq fun _ => ?_ | refine Safe.storeSeq fun _ => ?_
instance s598 : ∀ x y z u v w p q, Safe defs c R (k0_part598 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part598
  repeat' first | exact Safe.pure _ | refine Safe.loadSeq fun _ => ?_ | refine Safe.storeSeq fun _ => ?_
instance s599 : ∀ x y z u v w p, Safe defs c R (k0_part599 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part599
  repeat' first | exact Safe.pure _ | refine Safe.loadSeq fun _ => ?_ | refine Safe.storeSeq fun _ => ?_

end Cert.Proof.Attention

end
-- ==== Proof.Pieces5.lean ====
/-
  The straight pieces 600 to 749 of the attention's body: each only loads and stores, so each is safe by its shape.
-/
module

public import proofs.«01_k».proof.Kernel
public import proofs.«01_k».proof.Proof.Safe

@[expose] public section

set_option maxRecDepth 16384
set_option synthInstance.maxSize 4096

noncomputable section

namespace Cert.Proof.Attention

open Cert.Kernel Cert.Proof.Shape
open Idealize.ShloMosaic Idealize.ShloMosaic.TcCoe
open Idealize.SL Idealize.SL.BI Idealize.SL.Sem
open Idealize.ShloMosaic.Rounds

variable {F : FTy → Type} [BitOps F] [Facts]
variable {defs : Defs nD τ sig (Elt F) Λ₀} {c : Dev nD} {R : sProp (MT nD τ sig Unit (Elt F) ℕ (UR sig nD τ) ℕ)}
variable {i : grid0.Coords}
variable {a2 : Memref sig .tc .vmem S1x2048x128 .bf16} {h2 : a2.IsWhole} [Readable c R a2]
variable {a3 : Memref sig .tc .vmem S1x16x128 .f32} {h3 : a3.IsWhole} [Readable c R a3]
variable {a4 : Memref sig .tc .vmem S1x4096x128 .bf16} {h4 : a4.IsWhole} [Readable c R a4]
variable {a5 : Memref sig .tc .vmem S1x4096x256 .bf16} {h5 : a5.IsWhole} [Readable c R a5]
variable {a6 : Memref sig .tc .vmem S1x2048x256 .bf16} {h6 : a6.IsWhole} [Readable c R a6]
variable {a7 : Memref sig .tc .vmem S3x16x128x128 .f32} {h7 : a7.IsWhole} [Readable c R a7]
variable {a8 : Memref sig .tc .vmem S16x256x128 .bf16} {h8 : a8.IsWhole} [Readable c R a8]
variable {a9 : Memref sig .tc .vmem S1x128x2048 .bf16} {h9 : a9.IsWhole} [Writable c R a9]
variable {a10 : Memref sig .tc .vmem S8x512x128 .i32} {h10 : a10.IsWhole} [Writable c R a10]
variable {a11 : Memref sig .tc .vmem S8x512x128 .i16} {h11 : a11.IsWhole} [Writable c R a11]
variable {a12 : Memref sig .tc .vmem S8x512x128 .i16} {h12 : a12.IsWhole} [Writable c R a12]
variable {a13 : Memref sig .tc .vmem S8x512x128 .i16} {h13 : a13.IsWhole} [Writable c R a13]
variable {a14 : Memref sig .tc .vmem S33x128x128 .f32} {h14 : a14.IsWhole} [Writable c R a14]
variable {a15 : Memref sig .tc .vmem S2x512x2048 .f32} {h15 : a15.IsWhole} [Writable c R a15]
variable {a16 : Memref sig .tc .vmem S4x512x512 .f32} {h16 : a16.IsWhole} [Writable c R a16]
variable {a17 : Memref sig .tc .vmem S4x512x512 .bf16} {h17 : a17.IsWhole} [Writable c R a17]
variable {a18 : Memref sig .tc .vmem S4x512x128 .f32} {h18 : a18.IsWhole} [Writable c R a18]
variable {a19 : Memref sig .tc .vmem S2048x256 .f32} {h19 : a19.IsWhole} [Writable c R a19]
variable {a20 : Memref sig .tc .vmem S2048x128 .f32} {h20 : a20.IsWhole} [Writable c R a20]
variable {a21 : Memref sig .tc .vmem S2048x128 .f32} {h21 : a21.IsWhole} [Writable c R a21]
variable {a22 : Memref sig .tc .vmem S8x128 .i32} {h22 : a22.IsWhole} [Writable c R a22]

instance s600 : ∀ x y z u v w p, Safe defs c R (k0_part600 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part600
  repeat' first | exact Safe.pure _ | refine Safe.loadSeq fun _ => ?_ | refine Safe.storeSeq fun _ => ?_
instance s601 : ∀ x y z u v w p q, Safe defs c R (k0_part601 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part601
  repeat' first | exact Safe.pure _ | refine Safe.loadSeq fun _ => ?_ | refine Safe.storeSeq fun _ => ?_
instance s602 : ∀ x y z u v w p q r, Safe defs c R (k0_part602 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part602
  repeat' first | exact Safe.pure _ | refine Safe.loadSeq fun _ => ?_ | refine Safe.storeSeq fun _ => ?_
instance s603 : ∀ x y z u v w p q, Safe defs c R (k0_part603 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part603
  repeat' first | exact Safe.pure _ | refine Safe.loadSeq fun _ => ?_ | refine Safe.storeSeq fun _ => ?_
instance s604 : ∀ x y z u v w p q, Safe defs c R (k0_part604 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part604
  repeat' first | exact Safe.pure _ | refine Safe.loadSeq fun _ => ?_ | refine Safe.storeSeq fun _ => ?_
instance s605 : ∀ x, Safe defs c R (k0_part605 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part605
  repeat' first | exact Safe.pure _ | refine Safe.loadSeq fun _ => ?_ | refine Safe.storeSeq fun _ => ?_
instance s606 : ∀ x, Safe defs c R (k0_part606 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part606
  repeat' first | exact Safe.pure _ | refine Safe.loadSeq fun _ => ?_ | refine Safe.storeSeq fun _ => ?_
instance s607 : ∀ x, Safe defs c R (k0_part607 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part607
  repeat' first | exact Safe.pure _ | refine Safe.loadSeq fun _ => ?_ | refine Safe.storeSeq fun _ => ?_
instance s608 : ∀ x y, Safe defs c R (k0_part608 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part608
  repeat' first | exact Safe.pure _ | refine Safe.loadSeq fun _ => ?_ | refine Safe.storeSeq fun _ => ?_
instance s609 : ∀ x y, Safe defs c R (k0_part609 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part609
  repeat' first | exact Safe.pure _ | refine Safe.loadSeq fun _ => ?_ | refine Safe.storeSeq fun _ => ?_
instance s610 : ∀ x y, Safe defs c R (k0_part610 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part610
  repeat' first | exact Safe.pure _ | refine Safe.loadSeq fun _ => ?_ | refine Safe.storeSeq fun _ => ?_
instance s611 : ∀ x y, Safe defs c R (k0_part611 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part611
  repeat' first | exact Safe.pure _ | refine Safe.loadSeq fun _ => ?_ | refine Safe.storeSeq fun _ => ?_
instance s612 : ∀ x y, Safe defs c R (k0_part612 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part612
  repeat' first | exact Safe.pure _ | refine Safe.loadSeq fun _ => ?_ | refine Safe.storeSeq fun _ => ?_
instance s614 : ∀ x y z u v w, Safe defs c R (k0_part614 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part614
  repeat' first | exact Safe.pure _ | refine Safe.loadSeq fun _ => ?_ | refine Safe.storeSeq fun _ => ?_
instance s615 : ∀ x y z u v w p q, Safe defs c R (k0_part615 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part615
  repeat' first | exact Safe.pure _ | refine Safe.loadSeq fun _ => ?_ | refine Safe.storeSeq fun _ => ?_
instance s616 : ∀ x y z u v w p q r, Safe defs c R (k0_part616 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part616
  repeat' first | exact Safe.pure _ | refine Safe.loadSeq fun _ => ?_ | refine Safe.storeSeq fun _ => ?_
instance s617 : ∀ x y z u v w p q, Safe defs c R (k0_part617 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part617
  repeat' first | exact Safe.pure _ | refine Safe.loadSeq fun _ => ?_ | refine Safe.storeSeq fun _ => ?_
instance s618 : ∀ x y z u v w p q, Safe defs c R (k0_part618 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part618
  repeat' first | exact Safe.pure _ | refine Safe.loadSeq fun _ => ?_ | refine Safe.storeSeq fun _ => ?_
instance s619 : ∀ x y z u v w p q r, Safe defs c R (k0_part619 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part619
  repeat' first | exact Safe.pure _ | refine Safe.loadSeq fun _ => ?_ | refine Safe.storeSeq fun _ => ?_
instance s620 : ∀ x y z u v w p, Safe defs c R (k0_part620 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part620
  repeat' first | exact Safe.pure _ | refine Safe.loadSeq fun _ => ?_ | refine Safe.storeSeq fun _ => ?_
instance s621 : ∀ x y z u v w p q r, Safe defs c R (k0_part621 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part621
  repeat' first | exact Safe.pure _ | refine Safe.loadSeq fun _ => ?_ | refine Safe.storeSeq fun _ => ?_
instance s622 : ∀ x y z u v w p, Safe defs c R (k0_part622 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part622
  repeat' first | exact Safe.pure _ | refine Safe.loadSeq fun _ => ?_ | refine Safe.storeSeq fun _ => ?_
instance s623 : ∀ x y z u v w p q, Safe defs c R (k0_part623 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part623
  repeat' first | exact Safe.pure _ | refine Safe.loadSeq fun _ => ?_ | refine Safe.storeSeq fun _ => ?_
instance s624 : ∀ x y z u v w p q, Safe defs c R (k0_part624 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part624
  repeat' first | exact Safe.pure _ | refine Safe.loadSeq fun _ => ?_ | refine Safe.storeSeq fun _ => ?_
instance s625 : ∀ x y z u v w p, Safe defs c R (k0_part625 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part625
  repeat' first | exact Safe.pure _ | refine Safe.loadSeq fun _ => ?_ | refine Safe.storeSeq fun _ => ?_
instance s626 : ∀ x y, Safe defs c R (k0_part626 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part626
  repeat' first | exact Safe.pure _ | refine Safe.loadSeq fun _ => ?_ | refine Safe.storeSeq fun _ => ?_
instance s627 : ∀ x, Safe defs c R (k0_part627 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part627
  repeat' first | exact Safe.pure _ | refine Safe.loadSeq fun _ => ?_ | refine Safe.storeSeq fun _ => ?_
instance s628 : ∀ x, Safe defs c R (k0_part628 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part628
  repeat' first | exact Safe.pure _ | refine Safe.loadSeq fun _ => ?_ | refine Safe.storeSeq fun _ => ?_
instance s629 : ∀ x, Safe defs c R (k0_part629 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part629
  repeat' first | exact Safe.pure _ | refine Safe.loadSeq fun _ => ?_ | refine Safe.storeSeq fun _ => ?_
instance s630 : ∀ x y, Safe defs c R (k0_part630 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part630
  repeat' first | exact Safe.pure _ | refine Safe.loadSeq fun _ => ?_ | refine Safe.storeSeq fun _ => ?_
instance s631 : ∀ x, Safe defs c R (k0_part631 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part631
  repeat' first | exact Safe.pure _ | refine Safe.loadSeq fun _ => ?_ | refine Safe.storeSeq fun _ => ?_
instance s632 : ∀ x, Safe defs c R (k0_part632 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part632
  repeat' first | exact Safe.pure _ | refine Safe.loadSeq fun _ => ?_ | refine Safe.storeSeq fun _ => ?_
instance s633 : Safe defs c R (k0_part633 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 ) := by
  unfold k0_part633
  repeat' first | exact Safe.pure _ | refine Safe.loadSeq fun _ => ?_ | refine Safe.storeSeq fun _ => ?_
instance s634 : ∀ x y z u v w, Safe defs c R (k0_part634 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part634
  repeat' first | exact Safe.pure _ | refine Safe.loadSeq fun _ => ?_ | refine Safe.storeSeq fun _ => ?_
instance s635 : ∀ x y z u v w p q r, Safe defs c R (k0_part635 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part635
  repeat' first | exact Safe.pure _ | refine Safe.loadSeq fun _ => ?_ | refine Safe.storeSeq fun _ => ?_
instance s636 : ∀ x y z u v w p q, Safe defs c R (k0_part636 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part636
  repeat' first | exact Safe.pure _ | refine Safe.loadSeq fun _ => ?_ | refine Safe.storeSeq fun _ => ?_
instance s637 : ∀ x y z u v w p q r, Safe defs c R (k0_part637 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part637
  repeat' first | exact Safe.pure _ | refine Safe.loadSeq fun _ => ?_ | refine Safe.storeSeq fun _ => ?_
instance s638 : ∀ x y z u v w p q r, Safe defs c R (k0_part638 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part638
  repeat' first | exact Safe.pure _ | refine Safe.loadSeq fun _ => ?_ | refine Safe.storeSeq fun _ => ?_
instance s639 : ∀ x y z u v w p q, Safe defs c R (k0_part639 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part639
  repeat' first | exact Safe.pure _ | refine Safe.loadSeq fun _ => ?_ | refine Safe.storeSeq fun _ => ?_
instance s640 : ∀ x y z u v w p q, Safe defs c R (k0_part640 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part640
  repeat' first | exact Safe.pure _ | refine Safe.loadSeq fun _ => ?_ | refine Safe.storeSeq fun _ => ?_
instance s641 : ∀ x y z u v w p q r, Safe defs c R (k0_part641 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part641
  repeat' first | exact Safe.pure _ | refine Safe.loadSeq fun _ => ?_ | refine Safe.storeSeq fun _ => ?_
instance s642 : ∀ x y z u v w p, Safe defs c R (k0_part642 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part642
  repeat' first | exact Safe.pure _ | refine Safe.loadSeq fun _ => ?_ | refine Safe.storeSeq fun _ => ?_
instance s643 : ∀ x y z u v w p q r, Safe defs c R (k0_part643 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part643
  repeat' first | exact Safe.pure _ | refine Safe.loadSeq fun _ => ?_ | refine Safe.storeSeq fun _ => ?_
instance s644 : ∀ x y z u v w p, Safe defs c R (k0_part644 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part644
  repeat' first | exact Safe.pure _ | refine Safe.loadSeq fun _ => ?_ | refine Safe.storeSeq fun _ => ?_
instance s645 : ∀ x y z u v w p q, Safe defs c R (k0_part645 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part645
  repeat' first | exact Safe.pure _ | refine Safe.loadSeq fun _ => ?_ | refine Safe.storeSeq fun _ => ?_
instance s646 : ∀ x y z u v w, Safe defs c R (k0_part646 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part646
  repeat' first | exact Safe.pure _ | refine Safe.loadSeq fun _ => ?_ | refine Safe.storeSeq fun _ => ?_
instance s647 : ∀ x y z, Safe defs c R (k0_part647 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part647
  repeat' first | exact Safe.pure _ | refine Safe.loadSeq fun _ => ?_ | refine Safe.storeSeq fun _ => ?_
instance s648 : ∀ x y z, Safe defs c R (k0_part648 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part648
  repeat' first | exact Safe.pure _ | refine Safe.loadSeq fun _ => ?_ | refine Safe.storeSeq fun _ => ?_
instance s649 : ∀ x y z, Safe defs c R (k0_part649 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part649
  repeat' first | exact Safe.pure _ | refine Safe.loadSeq fun _ => ?_ | refine Safe.storeSeq fun _ => ?_
instance s650 : ∀ x y z, Safe defs c R (k0_part650 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part650
  repeat' first | exact Safe.pure _ | refine Safe.loadSeq fun _ => ?_ | refine Safe.storeSeq fun _ => ?_
instance s651 : ∀ x y z, Safe defs c R (k0_part651 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part651
  repeat' first | exact Safe.pure _ | refine Safe.loadSeq fun _ => ?_ | refine Safe.storeSeq fun _ => ?_
instance s652 : ∀ x y z u, Safe defs c R (k0_part652 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part652
  repeat' first | exact Safe.pure _ | refine Safe.loadSeq fun _ => ?_ | refine Safe.storeSeq fun _ => ?_
instance s653 : ∀ x y z u, Safe defs c R (k0_part653 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part653
  repeat' first | exact Safe.pure _ | refine Safe.loadSeq fun _ => ?_ | refine Safe.storeSeq fun _ => ?_
instance s654 : ∀ x y z u v w, Safe defs c R (k0_part654 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part654
  repeat' first | exact Safe.pure _ | refine Safe.loadSeq fun _ => ?_ | refine Safe.storeSeq fun _ => ?_
instance s655 : ∀ x y z u v w p q, Safe defs c R (k0_part655 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part655
  repeat' first | exact Safe.pure _ | refine Safe.loadSeq fun _ => ?_ | refine Safe.storeSeq fun _ => ?_
instance s656 : ∀ x y z u v w p, Safe defs c R (k0_part656 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part656
  repeat' first | exact Safe.pure _ | refine Safe.loadSeq fun _ => ?_ | refine Safe.storeSeq fun _ => ?_
instance s657 : ∀ x y z u v w p q, Safe defs c R (k0_part657 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part657
  repeat' first | exact Safe.pure _ | refine Safe.loadSeq fun _ => ?_ | refine Safe.storeSeq fun _ => ?_
instance s658 : ∀ x y z u v w p q, Safe defs c R (k0_part658 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part658
  repeat' first | exact Safe.pure _ | refine Safe.loadSeq fun _ => ?_ | refine Safe.storeSeq fun _ => ?_
instance s659 : ∀ x y z u v w p q r, Safe defs c R (k0_part659 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part659
  repeat' first | exact Safe.pure _ | refine Safe.loadSeq fun _ => ?_ | refine Safe.storeSeq fun _ => ?_
instance s660 : ∀ x y z u v w p q r, Safe defs c R (k0_part660 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part660
  repeat' first | exact Safe.pure _ | refine Safe.loadSeq fun _ => ?_ | refine Safe.storeSeq fun _ => ?_
instance s661 : ∀ x y z u v w p q, Safe defs c R (k0_part661 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part661
  repeat' first | exact Safe.pure _ | refine Safe.loadSeq fun _ => ?_ | refine Safe.storeSeq fun _ => ?_
instance s662 : ∀ x y z u v w p q, Safe defs c R (k0_part662 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part662
  repeat' first | exact Safe.pure _ | refine Safe.loadSeq fun _ => ?_ | refine Safe.storeSeq fun _ => ?_
instance s663 : ∀ x y z u v w p q r, Safe defs c R (k0_part663 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part663
  repeat' first | exact Safe.pure _ | refine Safe.loadSeq fun _ => ?_ | refine Safe.storeSeq fun _ => ?_
instance s664 : ∀ x y z u v w p, Safe defs c R (k0_part664 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part664
  repeat' first | exact Safe.pure _ | refine Safe.loadSeq fun _ => ?_ | refine Safe.storeSeq fun _ => ?_
instance s665 : ∀ x y z u v w p q r, Safe defs c R (k0_part665 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part665
  repeat' first | exact Safe.pure _ | refine Safe.loadSeq fun _ => ?_ | refine Safe.storeSeq fun _ => ?_
instance s666 : ∀ x y z u v w p, Safe defs c R (k0_part666 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part666
  repeat' first | exact Safe.pure _ | refine Safe.loadSeq fun _ => ?_ | refine Safe.storeSeq fun _ => ?_
instance s667 : ∀ x y, Safe defs c R (k0_part667 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part667
  repeat' first | exact Safe.pure _ | refine Safe.loadSeq fun _ => ?_ | refine Safe.storeSeq fun _ => ?_
instance s668 : ∀ x y z u v w, Safe defs c R (k0_part668 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part668
  repeat' first | exact Safe.pure _ | refine Safe.loadSeq fun _ => ?_ | refine Safe.storeSeq fun _ => ?_
instance s669 : ∀ x y z u v, Safe defs c R (k0_part669 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v) := by
  intro x y z u v; unfold k0_part669
  repeat' first | exact Safe.pure _ | refine Safe.loadSeq fun _ => ?_ | refine Safe.storeSeq fun _ => ?_
instance s670 : ∀ x y z u v w, Safe defs c R (k0_part670 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part670
  repeat' first | exact Safe.pure _ | refine Safe.loadSeq fun _ => ?_ | refine Safe.storeSeq fun _ => ?_
instance s671 : ∀ x y z u v w p, Safe defs c R (k0_part671 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part671
  repeat' first | exact Safe.pure _ | refine Safe.loadSeq fun _ => ?_ | refine Safe.storeSeq fun _ => ?_
instance s672 : ∀ x y z u v w, Safe defs c R (k0_part672 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part672
  repeat' first | exact Safe.pure _ | refine Safe.loadSeq fun _ => ?_ | refine Safe.storeSeq fun _ => ?_
instance s673 : ∀ x y z u v, Safe defs c R (k0_part673 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v) := by
  intro x y z u v; unfold k0_part673
  repeat' first | exact Safe.pure _ | refine Safe.loadSeq fun _ => ?_ | refine Safe.storeSeq fun _ => ?_
instance s674 : ∀ x y z u v, Safe defs c R (k0_part674 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v) := by
  intro x y z u v; unfold k0_part674
  repeat' first | exact Safe.pure _ | refine Safe.loadSeq fun _ => ?_ | refine Safe.storeSeq fun _ => ?_
instance s675 : ∀ x y z u v w p q r s, Safe defs c R (k0_part675 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r s) := by
  intro x y z u v w p q r s; unfold k0_part675
  repeat' first | exact Safe.pure _ | refine Safe.loadSeq fun _ => ?_ | refine Safe.storeSeq fun _ => ?_
instance s676 : ∀ x y z u v w, Safe defs c R (k0_part676 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part676
  repeat' first | exact Safe.pure _ | refine Safe.loadSeq fun _ => ?_ | refine Safe.storeSeq fun _ => ?_
instance s677 : ∀ x y z u v w p, Safe defs c R (k0_part677 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part677
  repeat' first | exact Safe.pure _ | refine Safe.loadSeq fun _ => ?_ | refine Safe.storeSeq fun _ => ?_
instance s678 : ∀ x y z u v w p q, Safe defs c R (k0_part678 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part678
  repeat' first | exact Safe.pure _ | refine Safe.loadSeq fun _ => ?_ | refine Safe.storeSeq fun _ => ?_
instance s679 : ∀ x y z u v w p q, Safe defs c R (k0_part679 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part679
  repeat' first | exact Safe.pure _ | refine Safe.loadSeq fun _ => ?_ | refine Safe.storeSeq fun _ => ?_
instance s680 : ∀ x y z u v w p, Safe defs c R (k0_part680 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part680
  repeat' first | exact Safe.pure _ | refine Safe.loadSeq fun _ => ?_ | refine Safe.storeSeq fun _ => ?_
instance s681 : ∀ x y z u v w p q, Safe defs c R (k0_part681 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part681
  repeat' first | exact Safe.pure _ | refine Safe.loadSeq fun _ => ?_ | refine Safe.storeSeq fun _ => ?_
instance s682 : ∀ x y z u v w p, Safe defs c R (k0_part682 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part682
  repeat' first | exact Safe.pure _ | refine Safe.loadSeq fun _ => ?_ | refine Safe.storeSeq fun _ => ?_
instance s683 : ∀ x y z u v w p, Safe defs c R (k0_part683 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part683
  repeat' first | exact Safe.pure _ | refine Safe.loadSeq fun _ => ?_ | refine Safe.storeSeq fun _ => ?_
instance s684 : ∀ x y z u v w p q, Safe defs c R (k0_part684 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part684
  repeat' first | exact Safe.pure _ | refine Safe.loadSeq fun _ => ?_ | refine Safe.storeSeq fun _ => ?_
instance s685 : ∀ x y z u v w p q r, Safe defs c R (k0_part685 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part685
  repeat' first | exact Safe.pure _ | refine Safe.loadSeq fun _ => ?_ | refine Safe.storeSeq fun _ => ?_
instance s686 : ∀ x y z u v w p q, Safe defs c R (k0_part686 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part686
  repeat' first | exact Safe.pure _ | refine Safe.loadSeq fun _ => ?_ | refine Safe.storeSeq fun _ => ?_
instance s687 : ∀ x y z u v w p q, Safe defs c R (k0_part687 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part687
  repeat' first | exact Safe.pure _ | refine Safe.loadSeq fun _ => ?_ | refine Safe.storeSeq fun _ => ?_
instance s688 : ∀ x, Safe defs c R (k0_part688 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part688
  repeat' first | exact Safe.pure _ | refine Safe.loadSeq fun _ => ?_ | refine Safe.storeSeq fun _ => ?_
instance s689 : ∀ x, Safe defs c R (k0_part689 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part689
  repeat' first | exact Safe.pure _ | refine Safe.loadSeq fun _ => ?_ | refine Safe.storeSeq fun _ => ?_
instance s690 : ∀ x, Safe defs c R (k0_part690 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part690
  repeat' first | exact Safe.pure _ | refine Safe.loadSeq fun _ => ?_ | refine Safe.storeSeq fun _ => ?_
instance s691 : ∀ x y, Safe defs c R (k0_part691 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part691
  repeat' first | exact Safe.pure _ | refine Safe.loadSeq fun _ => ?_ | refine Safe.storeSeq fun _ => ?_
instance s692 : ∀ x y, Safe defs c R (k0_part692 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part692
  repeat' first | exact Safe.pure _ | refine Safe.loadSeq fun _ => ?_ | refine Safe.storeSeq fun _ => ?_
instance s693 : ∀ x y, Safe defs c R (k0_part693 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part693
  repeat' first | exact Safe.pure _ | refine Safe.loadSeq fun _ => ?_ | refine Safe.storeSeq fun _ => ?_
instance s694 : ∀ x y, Safe defs c R (k0_part694 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part694
  repeat' first | exact Safe.pure _ | refine Safe.loadSeq fun _ => ?_ | refine Safe.storeSeq fun _ => ?_
instance s695 : ∀ x y, Safe defs c R (k0_part695 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part695
  repeat' first | exact Safe.pure _ | refine Safe.loadSeq fun _ => ?_ | refine Safe.storeSeq fun _ => ?_
instance s697 : ∀ x y z, Safe defs c R (k0_part697 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part697
  repeat' first | exact Safe.pure _ | refine Safe.loadSeq fun _ => ?_ | refine Safe.storeSeq fun _ => ?_
instance s698 : ∀ x y z u v w p, Safe defs c R (k0_part698 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part698
  repeat' first | exact Safe.pure _ | refine Safe.loadSeq fun _ => ?_ | refine Safe.storeSeq fun _ => ?_
instance s699 : ∀ x y z u v w, Safe defs c R (k0_part699 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part699
  repeat' first | exact Safe.pure _ | refine Safe.loadSeq fun _ => ?_ | refine Safe.storeSeq fun _ => ?_
instance s700 : ∀ x y z u v w, Safe defs c R (k0_part700 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part700
  repeat' first | exact Safe.pure _ | refine Safe.loadSeq fun _ => ?_ | refine Safe.storeSeq fun _ => ?_
instance s701 : ∀ x y z u v w p, Safe defs c R (k0_part701 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part701
  repeat' first | exact Safe.pure _ | refine Safe.loadSeq fun _ => ?_ | refine Safe.storeSeq fun _ => ?_
instance s702 : ∀ x y z u v w p q, Safe defs c R (k0_part702 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part702
  repeat' first | exact Safe.pure _ | refine Safe.loadSeq fun _ => ?_ | refine Safe.storeSeq fun _ => ?_
instance s703 : ∀ x y z u v w, Safe defs c R (k0_part703 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part703
  repeat' first | exact Safe.pure _ | refine Safe.loadSeq fun _ => ?_ | refine Safe.storeSeq fun _ => ?_
instance s704 : ∀ x y z u v w, Safe defs c R (k0_part704 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part704
  repeat' first | exact Safe.pure _ | refine Safe.loadSeq fun _ => ?_ | refine Safe.storeSeq fun _ => ?_
instance s705 : ∀ x y z u v w p, Safe defs c R (k0_part705 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part705
  repeat' first | exact Safe.pure _ | refine Safe.loadSeq fun _ => ?_ | refine Safe.storeSeq fun _ => ?_
instance s706 : ∀ x y z u v w p, Safe defs c R (k0_part706 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part706
  repeat' first | exact Safe.pure _ | refine Safe.loadSeq fun _ => ?_ | refine Safe.storeSeq fun _ => ?_
instance s707 : ∀ x y z u v w p, Safe defs c R (k0_part707 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part707
  repeat' first | exact Safe.pure _ | refine Safe.loadSeq fun _ => ?_ | refine Safe.storeSeq fun _ => ?_
instance s708 : ∀ x y z u v w p, Safe defs c R (k0_part708 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part708
  repeat' first | exact Safe.pure _ | refine Safe.loadSeq fun _ => ?_ | refine Safe.storeSeq fun _ => ?_
instance s709 : ∀ x y z u v, Safe defs c R (k0_part709 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v) := by
  intro x y z u v; unfold k0_part709
  repeat' first | exact Safe.pure _ | refine Safe.loadSeq fun _ => ?_ | refine Safe.storeSeq fun _ => ?_
instance s710 : ∀ x y z u v w p, Safe defs c R (k0_part710 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part710
  repeat' first | exact Safe.pure _ | refine Safe.loadSeq fun _ => ?_ | refine Safe.storeSeq fun _ => ?_
instance s711 : ∀ x y z u v w p, Safe defs c R (k0_part711 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part711
  repeat' first | exact Safe.pure _ | refine Safe.loadSeq fun _ => ?_ | refine Safe.storeSeq fun _ => ?_
instance s712 : ∀ x y z u v w p, Safe defs c R (k0_part712 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part712
  repeat' first | exact Safe.pure _ | refine Safe.loadSeq fun _ => ?_ | refine Safe.storeSeq fun _ => ?_
instance s713 : ∀ x y z u v w, Safe defs c R (k0_part713 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part713
  repeat' first | exact Safe.pure _ | refine Safe.loadSeq fun _ => ?_ | refine Safe.storeSeq fun _ => ?_
instance s714 : ∀ x y z u v w p q, Safe defs c R (k0_part714 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part714
  repeat' first | exact Safe.pure _ | refine Safe.loadSeq fun _ => ?_ | refine Safe.storeSeq fun _ => ?_
instance s715 : ∀ x y z u v w p, Safe defs c R (k0_part715 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part715
  repeat' first | exact Safe.pure _ | refine Safe.loadSeq fun _ => ?_ | refine Safe.storeSeq fun _ => ?_
instance s716 : ∀ x y z u v w p, Safe defs c R (k0_part716 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part716
  repeat' first | exact Safe.pure _ | refine Safe.loadSeq fun _ => ?_ | refine Safe.storeSeq fun _ => ?_
instance s717 : ∀ x y z u v w, Safe defs c R (k0_part717 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part717
  repeat' first | exact Safe.pure _ | refine Safe.loadSeq fun _ => ?_ | refine Safe.storeSeq fun _ => ?_
instance s718 : ∀ x y z u v w p, Safe defs c R (k0_part718 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part718
  repeat' first | exact Safe.pure _ | refine Safe.loadSeq fun _ => ?_ | refine Safe.storeSeq fun _ => ?_
instance s719 : ∀ x y z u v w p q, Safe defs c R (k0_part719 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part719
  repeat' first | exact Safe.pure _ | refine Safe.loadSeq fun _ => ?_ | refine Safe.storeSeq fun _ => ?_
instance s720 : ∀ x y z u v w, Safe defs c R (k0_part720 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part720
  repeat' first | exact Safe.pure _ | refine Safe.loadSeq fun _ => ?_ | refine Safe.storeSeq fun _ => ?_
instance s721 : ∀ x, Safe defs c R (k0_part721 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part721
  repeat' first | exact Safe.pure _ | refine Safe.loadSeq fun _ => ?_ | refine Safe.storeSeq fun _ => ?_
instance s722 : ∀ x, Safe defs c R (k0_part722 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part722
  repeat' first | exact Safe.pure _ | refine Safe.loadSeq fun _ => ?_ | refine Safe.storeSeq fun _ => ?_
instance s723 : ∀ x, Safe defs c R (k0_part723 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part723
  repeat' first | exact Safe.pure _ | refine Safe.loadSeq fun _ => ?_ | refine Safe.storeSeq fun _ => ?_
instance s724 : ∀ x y, Safe defs c R (k0_part724 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part724
  repeat' first | exact Safe.pure _ | refine Safe.loadSeq fun _ => ?_ | refine Safe.storeSeq fun _ => ?_
instance s725 : ∀ x, Safe defs c R (k0_part725 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part725
  repeat' first | exact Safe.pure _ | refine Safe.loadSeq fun _ => ?_ | refine Safe.storeSeq fun _ => ?_
instance s726 : ∀ x, Safe defs c R (k0_part726 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part726
  repeat' first | exact Safe.pure _ | refine Safe.loadSeq fun _ => ?_ | refine Safe.storeSeq fun _ => ?_
instance s727 : Safe defs c R (k0_part727 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 ) := by
  unfold k0_part727
  repeat' first | exact Safe.pure _ | refine Safe.loadSeq fun _ => ?_ | refine Safe.storeSeq fun _ => ?_
instance s728 : ∀ x, Safe defs c R (k0_part728 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part728
  repeat' first | exact Safe.pure _ | refine Safe.loadSeq fun _ => ?_ | refine Safe.storeSeq fun _ => ?_
instance s729 : ∀ x y z u, Safe defs c R (k0_part729 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part729
  repeat' first | exact Safe.pure _ | refine Safe.loadSeq fun _ => ?_ | refine Safe.storeSeq fun _ => ?_
instance s730 : ∀ x y z u v w, Safe defs c R (k0_part730 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part730
  repeat' first | exact Safe.pure _ | refine Safe.loadSeq fun _ => ?_ | refine Safe.storeSeq fun _ => ?_
instance s731 : ∀ x y z u v w p, Safe defs c R (k0_part731 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part731
  repeat' first | exact Safe.pure _ | refine Safe.loadSeq fun _ => ?_ | refine Safe.storeSeq fun _ => ?_
instance s732 : ∀ x y z u v w p q, Safe defs c R (k0_part732 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part732
  repeat' first | exact Safe.pure _ | refine Safe.loadSeq fun _ => ?_ | refine Safe.storeSeq fun _ => ?_
instance s733 : ∀ x y z u v w, Safe defs c R (k0_part733 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part733
  repeat' first | exact Safe.pure _ | refine Safe.loadSeq fun _ => ?_ | refine Safe.storeSeq fun _ => ?_
instance s734 : ∀ x y z u v w p, Safe defs c R (k0_part734 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part734
  repeat' first | exact Safe.pure _ | refine Safe.loadSeq fun _ => ?_ | refine Safe.storeSeq fun _ => ?_
instance s735 : ∀ x y z u v w p, Safe defs c R (k0_part735 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part735
  repeat' first | exact Safe.pure _ | refine Safe.loadSeq fun _ => ?_ | refine Safe.storeSeq fun _ => ?_
instance s736 : ∀ x y z u v w, Safe defs c R (k0_part736 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part736
  repeat' first | exact Safe.pure _ | refine Safe.loadSeq fun _ => ?_ | refine Safe.storeSeq fun _ => ?_
instance s737 : ∀ x y z u v w, Safe defs c R (k0_part737 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part737
  repeat' first | exact Safe.pure _ | refine Safe.loadSeq fun _ => ?_ | refine Safe.storeSeq fun _ => ?_
instance s738 : ∀ x y z u v w p, Safe defs c R (k0_part738 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part738
  repeat' first | exact Safe.pure _ | refine Safe.loadSeq fun _ => ?_ | refine Safe.storeSeq fun _ => ?_
instance s739 : ∀ x y z u v w p, Safe defs c R (k0_part739 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part739
  repeat' first | exact Safe.pure _ | refine Safe.loadSeq fun _ => ?_ | refine Safe.storeSeq fun _ => ?_
instance s740 : ∀ x y z u v w, Safe defs c R (k0_part740 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part740
  repeat' first | exact Safe.pure _ | refine Safe.loadSeq fun _ => ?_ | refine Safe.storeSeq fun _ => ?_
instance s741 : ∀ x, Safe defs c R (k0_part741 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part741
  repeat' first | exact Safe.pure _ | refine Safe.loadSeq fun _ => ?_ | refine Safe.storeSeq fun _ => ?_
instance s742 : Safe defs c R (k0_part742 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 ) := by
  unfold k0_part742
  repeat' first | exact Safe.pure _ | refine Safe.loadSeq fun _ => ?_ | refine Safe.storeSeq fun _ => ?_
instance s743 : Safe defs c R (k0_part743 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 ) := by
  unfold k0_part743
  repeat' first | exact Safe.pure _ | refine Safe.loadSeq fun _ => ?_ | refine Safe.storeSeq fun _ => ?_
instance s744 : Safe defs c R (k0_part744 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 ) := by
  unfold k0_part744
  repeat' first | exact Safe.pure _ | refine Safe.loadSeq fun _ => ?_ | refine Safe.storeSeq fun _ => ?_
instance s745 : ∀ x, Safe defs c R (k0_part745 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part745
  repeat' first | exact Safe.pure _ | refine Safe.loadSeq fun _ => ?_ | refine Safe.storeSeq fun _ => ?_
instance s746 : ∀ x, Safe defs c R (k0_part746 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part746
  repeat' first | exact Safe.pure _ | refine Safe.loadSeq fun _ => ?_ | refine Safe.storeSeq fun _ => ?_
instance s747 : ∀ x, Safe defs c R (k0_part747 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part747
  repeat' first | exact Safe.pure _ | refine Safe.loadSeq fun _ => ?_ | refine Safe.storeSeq fun _ => ?_
instance s748 : ∀ x, Safe defs c R (k0_part748 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part748
  repeat' first | exact Safe.pure _ | refine Safe.loadSeq fun _ => ?_ | refine Safe.storeSeq fun _ => ?_
instance s749 : ∀ x y z u, Safe defs c R (k0_part749 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part749
  repeat' first | exact Safe.pure _ | refine Safe.loadSeq fun _ => ?_ | refine Safe.storeSeq fun _ => ?_

end Cert.Proof.Attention

end
-- ==== Proof.Pieces6.lean ====
/-
  The straight pieces 750 to 904 of the attention's body: each only loads and stores, so each is safe by its shape.
-/
module

public import proofs.«01_k».proof.Kernel
public import proofs.«01_k».proof.Proof.Safe

@[expose] public section

set_option maxRecDepth 16384
set_option synthInstance.maxSize 4096

noncomputable section

namespace Cert.Proof.Attention

open Cert.Kernel Cert.Proof.Shape
open Idealize.ShloMosaic Idealize.ShloMosaic.TcCoe
open Idealize.SL Idealize.SL.BI Idealize.SL.Sem
open Idealize.ShloMosaic.Rounds

variable {F : FTy → Type} [BitOps F] [Facts]
variable {defs : Defs nD τ sig (Elt F) Λ₀} {c : Dev nD} {R : sProp (MT nD τ sig Unit (Elt F) ℕ (UR sig nD τ) ℕ)}
variable {i : grid0.Coords}
variable {a2 : Memref sig .tc .vmem S1x2048x128 .bf16} {h2 : a2.IsWhole} [Readable c R a2]
variable {a3 : Memref sig .tc .vmem S1x16x128 .f32} {h3 : a3.IsWhole} [Readable c R a3]
variable {a4 : Memref sig .tc .vmem S1x4096x128 .bf16} {h4 : a4.IsWhole} [Readable c R a4]
variable {a5 : Memref sig .tc .vmem S1x4096x256 .bf16} {h5 : a5.IsWhole} [Readable c R a5]
variable {a6 : Memref sig .tc .vmem S1x2048x256 .bf16} {h6 : a6.IsWhole} [Readable c R a6]
variable {a7 : Memref sig .tc .vmem S3x16x128x128 .f32} {h7 : a7.IsWhole} [Readable c R a7]
variable {a8 : Memref sig .tc .vmem S16x256x128 .bf16} {h8 : a8.IsWhole} [Readable c R a8]
variable {a9 : Memref sig .tc .vmem S1x128x2048 .bf16} {h9 : a9.IsWhole} [Writable c R a9]
variable {a10 : Memref sig .tc .vmem S8x512x128 .i32} {h10 : a10.IsWhole} [Writable c R a10]
variable {a11 : Memref sig .tc .vmem S8x512x128 .i16} {h11 : a11.IsWhole} [Writable c R a11]
variable {a12 : Memref sig .tc .vmem S8x512x128 .i16} {h12 : a12.IsWhole} [Writable c R a12]
variable {a13 : Memref sig .tc .vmem S8x512x128 .i16} {h13 : a13.IsWhole} [Writable c R a13]
variable {a14 : Memref sig .tc .vmem S33x128x128 .f32} {h14 : a14.IsWhole} [Writable c R a14]
variable {a15 : Memref sig .tc .vmem S2x512x2048 .f32} {h15 : a15.IsWhole} [Writable c R a15]
variable {a16 : Memref sig .tc .vmem S4x512x512 .f32} {h16 : a16.IsWhole} [Writable c R a16]
variable {a17 : Memref sig .tc .vmem S4x512x512 .bf16} {h17 : a17.IsWhole} [Writable c R a17]
variable {a18 : Memref sig .tc .vmem S4x512x128 .f32} {h18 : a18.IsWhole} [Writable c R a18]
variable {a19 : Memref sig .tc .vmem S2048x256 .f32} {h19 : a19.IsWhole} [Writable c R a19]
variable {a20 : Memref sig .tc .vmem S2048x128 .f32} {h20 : a20.IsWhole} [Writable c R a20]
variable {a21 : Memref sig .tc .vmem S2048x128 .f32} {h21 : a21.IsWhole} [Writable c R a21]
variable {a22 : Memref sig .tc .vmem S8x128 .i32} {h22 : a22.IsWhole} [Writable c R a22]

instance s750 : ∀ x y z u v w p q r, Safe defs c R (k0_part750 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part750
  repeat' first | exact Safe.pure _ | refine Safe.loadSeq fun _ => ?_ | refine Safe.storeSeq fun _ => ?_
instance s751 : ∀ x y z u v w, Safe defs c R (k0_part751 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part751
  repeat' first | exact Safe.pure _ | refine Safe.loadSeq fun _ => ?_ | refine Safe.storeSeq fun _ => ?_
instance s752 : ∀ x y z u v w, Safe defs c R (k0_part752 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part752
  repeat' first | exact Safe.pure _ | refine Safe.loadSeq fun _ => ?_ | refine Safe.storeSeq fun _ => ?_
instance s753 : ∀ x y z u v w p q, Safe defs c R (k0_part753 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part753
  repeat' first | exact Safe.pure _ | refine Safe.loadSeq fun _ => ?_ | refine Safe.storeSeq fun _ => ?_
instance s754 : ∀ x y z u v w, Safe defs c R (k0_part754 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part754
  repeat' first | exact Safe.pure _ | refine Safe.loadSeq fun _ => ?_ | refine Safe.storeSeq fun _ => ?_
instance s755 : ∀ x y z u v w, Safe defs c R (k0_part755 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part755
  repeat' first | exact Safe.pure _ | refine Safe.loadSeq fun _ => ?_ | refine Safe.storeSeq fun _ => ?_
instance s756 : ∀ x y z u v w, Safe defs c R (k0_part756 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part756
  repeat' first | exact Safe.pure _ | refine Safe.loadSeq fun _ => ?_ | refine Safe.storeSeq fun _ => ?_
instance s757 : ∀ x y z u v w, Safe defs c R (k0_part757 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part757
  repeat' first | exact Safe.pure _ | refine Safe.loadSeq fun _ => ?_ | refine Safe.storeSeq fun _ => ?_
instance s758 : ∀ x y z u v w, Safe defs c R (k0_part758 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part758
  repeat' first | exact Safe.pure _ | refine Safe.loadSeq fun _ => ?_ | refine Safe.storeSeq fun _ => ?_
instance s759 : ∀ x y z u v w, Safe defs c R (k0_part759 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part759
  repeat' first | exact Safe.pure _ | refine Safe.loadSeq fun _ => ?_ | refine Safe.storeSeq fun _ => ?_
instance s760 : ∀ x y z u v w p q r, Safe defs c R (k0_part760 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part760
  repeat' first | exact Safe.pure _ | refine Safe.loadSeq fun _ => ?_ | refine Safe.storeSeq fun _ => ?_
instance s761 : ∀ x y, Safe defs c R (k0_part761 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part761
  repeat' first | exact Safe.pure _ | refine Safe.loadSeq fun _ => ?_ | refine Safe.storeSeq fun _ => ?_
instance s762 : ∀ x y z u v, Safe defs c R (k0_part762 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v) := by
  intro x y z u v; unfold k0_part762
  repeat' first | exact Safe.pure _ | refine Safe.loadSeq fun _ => ?_ | refine Safe.storeSeq fun _ => ?_
instance s763 : ∀ x y z u v, Safe defs c R (k0_part763 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v) := by
  intro x y z u v; unfold k0_part763
  repeat' first | exact Safe.pure _ | refine Safe.loadSeq fun _ => ?_ | refine Safe.storeSeq fun _ => ?_
instance s764 : ∀ x y z u, Safe defs c R (k0_part764 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part764
  repeat' first | exact Safe.pure _ | refine Safe.loadSeq fun _ => ?_ | refine Safe.storeSeq fun _ => ?_
instance s765 : ∀ x y z u, Safe defs c R (k0_part765 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part765
  repeat' first | exact Safe.pure _ | refine Safe.loadSeq fun _ => ?_ | refine Safe.storeSeq fun _ => ?_
instance s766 : ∀ x y z u, Safe defs c R (k0_part766 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part766
  repeat' first | exact Safe.pure _ | refine Safe.loadSeq fun _ => ?_ | refine Safe.storeSeq fun _ => ?_
instance s767 : ∀ x y z u, Safe defs c R (k0_part767 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part767
  repeat' first | exact Safe.pure _ | refine Safe.loadSeq fun _ => ?_ | refine Safe.storeSeq fun _ => ?_
instance s768 : ∀ x y z u, Safe defs c R (k0_part768 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part768
  repeat' first | exact Safe.pure _ | refine Safe.loadSeq fun _ => ?_ | refine Safe.storeSeq fun _ => ?_
instance s769 : ∀ x y z u v w p, Safe defs c R (k0_part769 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part769
  repeat' first | exact Safe.pure _ | refine Safe.loadSeq fun _ => ?_ | refine Safe.storeSeq fun _ => ?_
instance s771 : ∀ x y z u v w p q r, Safe defs c R (k0_part771 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part771
  repeat' first | exact Safe.pure _ | refine Safe.loadSeq fun _ => ?_ | refine Safe.storeSeq fun _ => ?_
instance s772 : ∀ x y z u v w p q, Safe defs c R (k0_part772 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part772
  repeat' first | exact Safe.pure _ | refine Safe.loadSeq fun _ => ?_ | refine Safe.storeSeq fun _ => ?_
instance s773 : ∀ x y z u v w p q, Safe defs c R (k0_part773 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part773
  repeat' first | exact Safe.pure _ | refine Safe.loadSeq fun _ => ?_ | refine Safe.storeSeq fun _ => ?_
instance s774 : ∀ x y z u v w p q, Safe defs c R (k0_part774 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part774
  repeat' first | exact Safe.pure _ | refine Safe.loadSeq fun _ => ?_ | refine Safe.storeSeq fun _ => ?_
instance s775 : ∀ x y z u v w p q, Safe defs c R (k0_part775 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part775
  repeat' first | exact Safe.pure _ | refine Safe.loadSeq fun _ => ?_ | refine Safe.storeSeq fun _ => ?_
instance s776 : ∀ x y z u v w p q, Safe defs c R (k0_part776 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part776
  repeat' first | exact Safe.pure _ | refine Safe.loadSeq fun _ => ?_ | refine Safe.storeSeq fun _ => ?_
instance s777 : ∀ x y z u v w p q r, Safe defs c R (k0_part777 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part777
  repeat' first | exact Safe.pure _ | refine Safe.loadSeq fun _ => ?_ | refine Safe.storeSeq fun _ => ?_
instance s778 : ∀ x y z u v w p q, Safe defs c R (k0_part778 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part778
  repeat' first | exact Safe.pure _ | refine Safe.loadSeq fun _ => ?_ | refine Safe.storeSeq fun _ => ?_
instance s779 : ∀ x y z u v w p q, Safe defs c R (k0_part779 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part779
  repeat' first | exact Safe.pure _ | refine Safe.loadSeq fun _ => ?_ | refine Safe.storeSeq fun _ => ?_
instance s780 : ∀ x y z u v w p q, Safe defs c R (k0_part780 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part780
  repeat' first | exact Safe.pure _ | refine Safe.loadSeq fun _ => ?_ | refine Safe.storeSeq fun _ => ?_
instance s781 : ∀ x y z u v w p q, Safe defs c R (k0_part781 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part781
  repeat' first | exact Safe.pure _ | refine Safe.loadSeq fun _ => ?_ | refine Safe.storeSeq fun _ => ?_
instance s782 : ∀ x y z u v w p, Safe defs c R (k0_part782 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part782
  repeat' first | exact Safe.pure _ | refine Safe.loadSeq fun _ => ?_ | refine Safe.storeSeq fun _ => ?_
instance s783 : ∀ x y z u v w p q r, Safe defs c R (k0_part783 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part783
  repeat' first | exact Safe.pure _ | refine Safe.loadSeq fun _ => ?_ | refine Safe.storeSeq fun _ => ?_
instance s784 : ∀ x y z u v w p q, Safe defs c R (k0_part784 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part784
  repeat' first | exact Safe.pure _ | refine Safe.loadSeq fun _ => ?_ | refine Safe.storeSeq fun _ => ?_
instance s785 : ∀ x y z u v w p q, Safe defs c R (k0_part785 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part785
  repeat' first | exact Safe.pure _ | refine Safe.loadSeq fun _ => ?_ | refine Safe.storeSeq fun _ => ?_
instance s786 : ∀ x y z u v w p q, Safe defs c R (k0_part786 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part786
  repeat' first | exact Safe.pure _ | refine Safe.loadSeq fun _ => ?_ | refine Safe.storeSeq fun _ => ?_
instance s787 : ∀ x y z u v w p q, Safe defs c R (k0_part787 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part787
  repeat' first | exact Safe.pure _ | refine Safe.loadSeq fun _ => ?_ | refine Safe.storeSeq fun _ => ?_
instance s788 : ∀ x y z u v w p q r, Safe defs c R (k0_part788 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part788
  repeat' first | exact Safe.pure _ | refine Safe.loadSeq fun _ => ?_ | refine Safe.storeSeq fun _ => ?_
instance s789 : ∀ x y z u v, Safe defs c R (k0_part789 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v) := by
  intro x y z u v; unfold k0_part789
  repeat' first | exact Safe.pure _ | refine Safe.loadSeq fun _ => ?_ | refine Safe.storeSeq fun _ => ?_
instance s790 : ∀ x y z, Safe defs c R (k0_part790 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part790
  repeat' first | exact Safe.pure _ | refine Safe.loadSeq fun _ => ?_ | refine Safe.storeSeq fun _ => ?_
instance s791 : ∀ x y z, Safe defs c R (k0_part791 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part791
  repeat' first | exact Safe.pure _ | refine Safe.loadSeq fun _ => ?_ | refine Safe.storeSeq fun _ => ?_
instance s792 : ∀ x y z, Safe defs c R (k0_part792 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part792
  repeat' first | exact Safe.pure _ | refine Safe.loadSeq fun _ => ?_ | refine Safe.storeSeq fun _ => ?_
instance s793 : ∀ x y z, Safe defs c R (k0_part793 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part793
  repeat' first | exact Safe.pure _ | refine Safe.loadSeq fun _ => ?_ | refine Safe.storeSeq fun _ => ?_
instance s794 : ∀ x y z, Safe defs c R (k0_part794 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part794
  repeat' first | exact Safe.pure _ | refine Safe.loadSeq fun _ => ?_ | refine Safe.storeSeq fun _ => ?_
instance s795 : ∀ x y z, Safe defs c R (k0_part795 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part795
  repeat' first | exact Safe.pure _ | refine Safe.loadSeq fun _ => ?_ | refine Safe.storeSeq fun _ => ?_
instance s796 : ∀ x y z, Safe defs c R (k0_part796 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part796
  repeat' first | exact Safe.pure _ | refine Safe.loadSeq fun _ => ?_ | refine Safe.storeSeq fun _ => ?_
instance s797 : ∀ x y z u v w, Safe defs c R (k0_part797 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part797
  repeat' first | exact Safe.pure _ | refine Safe.loadSeq fun _ => ?_ | refine Safe.storeSeq fun _ => ?_
instance s798 : ∀ x y z u v w p, Safe defs c R (k0_part798 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part798
  repeat' first | exact Safe.pure _ | refine Safe.loadSeq fun _ => ?_ | refine Safe.storeSeq fun _ => ?_
instance s799 : ∀ x y z u v w p, Safe defs c R (k0_part799 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part799
  repeat' first | exact Safe.pure _ | refine Safe.loadSeq fun _ => ?_ | refine Safe.storeSeq fun _ => ?_
instance s800 : ∀ x y z u v w p q r s, Safe defs c R (k0_part800 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r s) := by
  intro x y z u v w p q r s; unfold k0_part800
  repeat' first | exact Safe.pure _ | refine Safe.loadSeq fun _ => ?_ | refine Safe.storeSeq fun _ => ?_
instance s801 : ∀ x y z u v w p, Safe defs c R (k0_part801 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part801
  repeat' first | exact Safe.pure _ | refine Safe.loadSeq fun _ => ?_ | refine Safe.storeSeq fun _ => ?_
instance s802 : ∀ x y z u v w p, Safe defs c R (k0_part802 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part802
  repeat' first | exact Safe.pure _ | refine Safe.loadSeq fun _ => ?_ | refine Safe.storeSeq fun _ => ?_
instance s803 : ∀ x y z u v w p q r, Safe defs c R (k0_part803 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part803
  repeat' first | exact Safe.pure _ | refine Safe.loadSeq fun _ => ?_ | refine Safe.storeSeq fun _ => ?_
instance s804 : ∀ x y z u v w p, Safe defs c R (k0_part804 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part804
  repeat' first | exact Safe.pure _ | refine Safe.loadSeq fun _ => ?_ | refine Safe.storeSeq fun _ => ?_
instance s805 : ∀ x y z u v w p q, Safe defs c R (k0_part805 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part805
  repeat' first | exact Safe.pure _ | refine Safe.loadSeq fun _ => ?_ | refine Safe.storeSeq fun _ => ?_
instance s806 : ∀ x y z u v w p q, Safe defs c R (k0_part806 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part806
  repeat' first | exact Safe.pure _ | refine Safe.loadSeq fun _ => ?_ | refine Safe.storeSeq fun _ => ?_
instance s807 : ∀ x y z u v w p q, Safe defs c R (k0_part807 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part807
  repeat' first | exact Safe.pure _ | refine Safe.loadSeq fun _ => ?_ | refine Safe.storeSeq fun _ => ?_
instance s808 : ∀ x y z u v w p, Safe defs c R (k0_part808 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part808
  repeat' first | exact Safe.pure _ | refine Safe.loadSeq fun _ => ?_ | refine Safe.storeSeq fun _ => ?_
instance s809 : ∀ x y z u v w p q, Safe defs c R (k0_part809 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part809
  repeat' first | exact Safe.pure _ | refine Safe.loadSeq fun _ => ?_ | refine Safe.storeSeq fun _ => ?_
instance s810 : ∀ x y z u v w p q, Safe defs c R (k0_part810 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part810
  repeat' first | exact Safe.pure _ | refine Safe.loadSeq fun _ => ?_ | refine Safe.storeSeq fun _ => ?_
instance s811 : ∀ x y z u v w p q, Safe defs c R (k0_part811 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part811
  repeat' first | exact Safe.pure _ | refine Safe.loadSeq fun _ => ?_ | refine Safe.storeSeq fun _ => ?_
instance s812 : ∀ x y z u v w p q, Safe defs c R (k0_part812 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part812
  repeat' first | exact Safe.pure _ | refine Safe.loadSeq fun _ => ?_ | refine Safe.storeSeq fun _ => ?_
instance s813 : ∀ x y z u v w p q, Safe defs c R (k0_part813 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part813
  repeat' first | exact Safe.pure _ | refine Safe.loadSeq fun _ => ?_ | refine Safe.storeSeq fun _ => ?_
instance s814 : ∀ x y z u v w p q r, Safe defs c R (k0_part814 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part814
  repeat' first | exact Safe.pure _ | refine Safe.loadSeq fun _ => ?_ | refine Safe.storeSeq fun _ => ?_
instance s815 : ∀ x y z u v w p, Safe defs c R (k0_part815 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part815
  repeat' first | exact Safe.pure _ | refine Safe.loadSeq fun _ => ?_ | refine Safe.storeSeq fun _ => ?_
instance s816 : ∀ x y z u v w p q, Safe defs c R (k0_part816 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part816
  repeat' first | exact Safe.pure _ | refine Safe.loadSeq fun _ => ?_ | refine Safe.storeSeq fun _ => ?_
instance s817 : ∀ x y z u v, Safe defs c R (k0_part817 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v) := by
  intro x y z u v; unfold k0_part817
  repeat' first | exact Safe.pure _ | refine Safe.loadSeq fun _ => ?_ | refine Safe.storeSeq fun _ => ?_
instance s818 : ∀ x y, Safe defs c R (k0_part818 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part818
  repeat' first | exact Safe.pure _ | refine Safe.loadSeq fun _ => ?_ | refine Safe.storeSeq fun _ => ?_
instance s819 : ∀ x y, Safe defs c R (k0_part819 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part819
  repeat' first | exact Safe.pure _ | refine Safe.loadSeq fun _ => ?_ | refine Safe.storeSeq fun _ => ?_
instance s820 : ∀ x y, Safe defs c R (k0_part820 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part820
  repeat' first | exact Safe.pure _ | refine Safe.loadSeq fun _ => ?_ | refine Safe.storeSeq fun _ => ?_
instance s821 : ∀ x y, Safe defs c R (k0_part821 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part821
  repeat' first | exact Safe.pure _ | refine Safe.loadSeq fun _ => ?_ | refine Safe.storeSeq fun _ => ?_
instance s822 : ∀ x y, Safe defs c R (k0_part822 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part822
  repeat' first | exact Safe.pure _ | refine Safe.loadSeq fun _ => ?_ | refine Safe.storeSeq fun _ => ?_
instance s823 : ∀ x y z, Safe defs c R (k0_part823 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part823
  repeat' first | exact Safe.pure _ | refine Safe.loadSeq fun _ => ?_ | refine Safe.storeSeq fun _ => ?_
instance s824 : ∀ x y z, Safe defs c R (k0_part824 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; unfold k0_part824
  repeat' first | exact Safe.pure _ | refine Safe.loadSeq fun _ => ?_ | refine Safe.storeSeq fun _ => ?_
instance s825 : ∀ x y z u, Safe defs c R (k0_part825 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part825
  repeat' first | exact Safe.pure _ | refine Safe.loadSeq fun _ => ?_ | refine Safe.storeSeq fun _ => ?_
instance s826 : ∀ x y z u v w p, Safe defs c R (k0_part826 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part826
  repeat' first | exact Safe.pure _ | refine Safe.loadSeq fun _ => ?_ | refine Safe.storeSeq fun _ => ?_
instance s827 : ∀ x y z u v w p q r s, Safe defs c R (k0_part827 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r s) := by
  intro x y z u v w p q r s; unfold k0_part827
  repeat' first | exact Safe.pure _ | refine Safe.loadSeq fun _ => ?_ | refine Safe.storeSeq fun _ => ?_
instance s828 : ∀ x y z u v w p q r, Safe defs c R (k0_part828 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part828
  repeat' first | exact Safe.pure _ | refine Safe.loadSeq fun _ => ?_ | refine Safe.storeSeq fun _ => ?_
instance s829 : ∀ x y z u v w p q, Safe defs c R (k0_part829 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part829
  repeat' first | exact Safe.pure _ | refine Safe.loadSeq fun _ => ?_ | refine Safe.storeSeq fun _ => ?_
instance s830 : ∀ x y z u v w p, Safe defs c R (k0_part830 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part830
  repeat' first | exact Safe.pure _ | refine Safe.loadSeq fun _ => ?_ | refine Safe.storeSeq fun _ => ?_
instance s831 : ∀ x y z u v w p q, Safe defs c R (k0_part831 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part831
  repeat' first | exact Safe.pure _ | refine Safe.loadSeq fun _ => ?_ | refine Safe.storeSeq fun _ => ?_
instance s832 : ∀ x y z u v w p, Safe defs c R (k0_part832 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part832
  repeat' first | exact Safe.pure _ | refine Safe.loadSeq fun _ => ?_ | refine Safe.storeSeq fun _ => ?_
instance s833 : ∀ x y z u v w p q, Safe defs c R (k0_part833 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part833
  repeat' first | exact Safe.pure _ | refine Safe.loadSeq fun _ => ?_ | refine Safe.storeSeq fun _ => ?_
instance s834 : ∀ x y z u v w p q, Safe defs c R (k0_part834 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part834
  repeat' first | exact Safe.pure _ | refine Safe.loadSeq fun _ => ?_ | refine Safe.storeSeq fun _ => ?_
instance s835 : ∀ x y z u v w p q r s, Safe defs c R (k0_part835 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r s) := by
  intro x y z u v w p q r s; unfold k0_part835
  repeat' first | exact Safe.pure _ | refine Safe.loadSeq fun _ => ?_ | refine Safe.storeSeq fun _ => ?_
instance s836 : ∀ x y z u v w p q r, Safe defs c R (k0_part836 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part836
  repeat' first | exact Safe.pure _ | refine Safe.loadSeq fun _ => ?_ | refine Safe.storeSeq fun _ => ?_
instance s837 : ∀ x y z u v w p q, Safe defs c R (k0_part837 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part837
  repeat' first | exact Safe.pure _ | refine Safe.loadSeq fun _ => ?_ | refine Safe.storeSeq fun _ => ?_
instance s838 : ∀ x y z u v w p, Safe defs c R (k0_part838 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part838
  repeat' first | exact Safe.pure _ | refine Safe.loadSeq fun _ => ?_ | refine Safe.storeSeq fun _ => ?_
instance s839 : ∀ x y z u v w p q, Safe defs c R (k0_part839 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part839
  repeat' first | exact Safe.pure _ | refine Safe.loadSeq fun _ => ?_ | refine Safe.storeSeq fun _ => ?_
instance s840 : ∀ x y z u v w p, Safe defs c R (k0_part840 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part840
  repeat' first | exact Safe.pure _ | refine Safe.loadSeq fun _ => ?_ | refine Safe.storeSeq fun _ => ?_
instance s841 : ∀ x y z u v w p q, Safe defs c R (k0_part841 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part841
  repeat' first | exact Safe.pure _ | refine Safe.loadSeq fun _ => ?_ | refine Safe.storeSeq fun _ => ?_
instance s842 : ∀ x y z u v w p q r, Safe defs c R (k0_part842 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part842
  repeat' first | exact Safe.pure _ | refine Safe.loadSeq fun _ => ?_ | refine Safe.storeSeq fun _ => ?_
instance s843 : ∀ x y z u v w p, Safe defs c R (k0_part843 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part843
  repeat' first | exact Safe.pure _ | refine Safe.loadSeq fun _ => ?_ | refine Safe.storeSeq fun _ => ?_
instance s844 : ∀ x y z u v w p, Safe defs c R (k0_part844 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part844
  repeat' first | exact Safe.pure _ | refine Safe.loadSeq fun _ => ?_ | refine Safe.storeSeq fun _ => ?_
instance s845 : ∀ x y z u v w p, Safe defs c R (k0_part845 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part845
  repeat' first | exact Safe.pure _ | refine Safe.loadSeq fun _ => ?_ | refine Safe.storeSeq fun _ => ?_
instance s846 : ∀ x, Safe defs c R (k0_part846 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part846
  repeat' first | exact Safe.pure _ | refine Safe.loadSeq fun _ => ?_ | refine Safe.storeSeq fun _ => ?_
instance s847 : ∀ x, Safe defs c R (k0_part847 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part847
  repeat' first | exact Safe.pure _ | refine Safe.loadSeq fun _ => ?_ | refine Safe.storeSeq fun _ => ?_
instance s848 : ∀ x, Safe defs c R (k0_part848 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part848
  repeat' first | exact Safe.pure _ | refine Safe.loadSeq fun _ => ?_ | refine Safe.storeSeq fun _ => ?_
instance s849 : ∀ x y, Safe defs c R (k0_part849 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part849
  repeat' first | exact Safe.pure _ | refine Safe.loadSeq fun _ => ?_ | refine Safe.storeSeq fun _ => ?_
instance s850 : ∀ x y, Safe defs c R (k0_part850 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part850
  repeat' first | exact Safe.pure _ | refine Safe.loadSeq fun _ => ?_ | refine Safe.storeSeq fun _ => ?_
instance s851 : ∀ x y, Safe defs c R (k0_part851 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part851
  repeat' first | exact Safe.pure _ | refine Safe.loadSeq fun _ => ?_ | refine Safe.storeSeq fun _ => ?_
instance s852 : ∀ x y, Safe defs c R (k0_part852 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part852
  repeat' first | exact Safe.pure _ | refine Safe.loadSeq fun _ => ?_ | refine Safe.storeSeq fun _ => ?_
instance s853 : ∀ x y, Safe defs c R (k0_part853 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part853
  repeat' first | exact Safe.pure _ | refine Safe.loadSeq fun _ => ?_ | refine Safe.storeSeq fun _ => ?_
instance s854 : ∀ x y z u v, Safe defs c R (k0_part854 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v) := by
  intro x y z u v; unfold k0_part854
  repeat' first | exact Safe.pure _ | refine Safe.loadSeq fun _ => ?_ | refine Safe.storeSeq fun _ => ?_
instance s855 : ∀ x y z u v w p q r, Safe defs c R (k0_part855 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part855
  repeat' first | exact Safe.pure _ | refine Safe.loadSeq fun _ => ?_ | refine Safe.storeSeq fun _ => ?_
instance s856 : ∀ x y z u v w p q r, Safe defs c R (k0_part856 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part856
  repeat' first | exact Safe.pure _ | refine Safe.loadSeq fun _ => ?_ | refine Safe.storeSeq fun _ => ?_
instance s857 : ∀ x y z u v w p, Safe defs c R (k0_part857 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part857
  repeat' first | exact Safe.pure _ | refine Safe.loadSeq fun _ => ?_ | refine Safe.storeSeq fun _ => ?_
instance s858 : ∀ x y z u v w p q, Safe defs c R (k0_part858 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part858
  repeat' first | exact Safe.pure _ | refine Safe.loadSeq fun _ => ?_ | refine Safe.storeSeq fun _ => ?_
instance s859 : ∀ x y z u v w p, Safe defs c R (k0_part859 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part859
  repeat' first | exact Safe.pure _ | refine Safe.loadSeq fun _ => ?_ | refine Safe.storeSeq fun _ => ?_
instance s860 : ∀ x y z u v w p, Safe defs c R (k0_part860 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part860
  repeat' first | exact Safe.pure _ | refine Safe.loadSeq fun _ => ?_ | refine Safe.storeSeq fun _ => ?_
instance s861 : ∀ x y z u v w p q r, Safe defs c R (k0_part861 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part861
  repeat' first | exact Safe.pure _ | refine Safe.loadSeq fun _ => ?_ | refine Safe.storeSeq fun _ => ?_
instance s862 : ∀ x y z u v w p, Safe defs c R (k0_part862 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part862
  repeat' first | exact Safe.pure _ | refine Safe.loadSeq fun _ => ?_ | refine Safe.storeSeq fun _ => ?_
instance s863 : ∀ x y z u v w p q r, Safe defs c R (k0_part863 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part863
  repeat' first | exact Safe.pure _ | refine Safe.loadSeq fun _ => ?_ | refine Safe.storeSeq fun _ => ?_
instance s864 : ∀ x y z u v w p q, Safe defs c R (k0_part864 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part864
  repeat' first | exact Safe.pure _ | refine Safe.loadSeq fun _ => ?_ | refine Safe.storeSeq fun _ => ?_
instance s865 : ∀ x y z u v w p, Safe defs c R (k0_part865 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part865
  repeat' first | exact Safe.pure _ | refine Safe.loadSeq fun _ => ?_ | refine Safe.storeSeq fun _ => ?_
instance s866 : ∀ x y z u v w p q, Safe defs c R (k0_part866 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part866
  repeat' first | exact Safe.pure _ | refine Safe.loadSeq fun _ => ?_ | refine Safe.storeSeq fun _ => ?_
instance s867 : ∀ x y z u v w p, Safe defs c R (k0_part867 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part867
  repeat' first | exact Safe.pure _ | refine Safe.loadSeq fun _ => ?_ | refine Safe.storeSeq fun _ => ?_
instance s868 : ∀ x y z u v w p q, Safe defs c R (k0_part868 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part868
  repeat' first | exact Safe.pure _ | refine Safe.loadSeq fun _ => ?_ | refine Safe.storeSeq fun _ => ?_
instance s869 : ∀ x y z u v w p q, Safe defs c R (k0_part869 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part869
  repeat' first | exact Safe.pure _ | refine Safe.loadSeq fun _ => ?_ | refine Safe.storeSeq fun _ => ?_
instance s870 : ∀ x y z u v w p q r s, Safe defs c R (k0_part870 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r s) := by
  intro x y z u v w p q r s; unfold k0_part870
  repeat' first | exact Safe.pure _ | refine Safe.loadSeq fun _ => ?_ | refine Safe.storeSeq fun _ => ?_
instance s871 : ∀ x y z u v w p q r, Safe defs c R (k0_part871 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part871
  repeat' first | exact Safe.pure _ | refine Safe.loadSeq fun _ => ?_ | refine Safe.storeSeq fun _ => ?_
instance s872 : ∀ x y z u v w p q, Safe defs c R (k0_part872 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; unfold k0_part872
  repeat' first | exact Safe.pure _ | refine Safe.loadSeq fun _ => ?_ | refine Safe.storeSeq fun _ => ?_
instance s873 : ∀ x y z u v w p, Safe defs c R (k0_part873 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part873
  repeat' first | exact Safe.pure _ | refine Safe.loadSeq fun _ => ?_ | refine Safe.storeSeq fun _ => ?_
instance s874 : Safe defs c R (k0_part874 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 ) := by
  unfold k0_part874
  repeat' first | exact Safe.pure _ | refine Safe.loadSeq fun _ => ?_ | refine Safe.storeSeq fun _ => ?_
instance s875 : Safe defs c R (k0_part875 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 ) := by
  unfold k0_part875
  repeat' first | exact Safe.pure _ | refine Safe.loadSeq fun _ => ?_ | refine Safe.storeSeq fun _ => ?_
instance s876 : ∀ x, Safe defs c R (k0_part876 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part876
  repeat' first | exact Safe.pure _ | refine Safe.loadSeq fun _ => ?_ | refine Safe.storeSeq fun _ => ?_
instance s877 : ∀ x, Safe defs c R (k0_part877 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part877
  repeat' first | exact Safe.pure _ | refine Safe.loadSeq fun _ => ?_ | refine Safe.storeSeq fun _ => ?_
instance s878 : ∀ x, Safe defs c R (k0_part878 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part878
  repeat' first | exact Safe.pure _ | refine Safe.loadSeq fun _ => ?_ | refine Safe.storeSeq fun _ => ?_
instance s879 : ∀ x, Safe defs c R (k0_part879 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part879
  repeat' first | exact Safe.pure _ | refine Safe.loadSeq fun _ => ?_ | refine Safe.storeSeq fun _ => ?_
instance s880 : ∀ x y, Safe defs c R (k0_part880 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part880
  repeat' first | exact Safe.pure _ | refine Safe.loadSeq fun _ => ?_ | refine Safe.storeSeq fun _ => ?_
instance s881 : ∀ x y, Safe defs c R (k0_part881 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part881
  repeat' first | exact Safe.pure _ | refine Safe.loadSeq fun _ => ?_ | refine Safe.storeSeq fun _ => ?_
instance s882 : ∀ x y z u v, Safe defs c R (k0_part882 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v) := by
  intro x y z u v; unfold k0_part882
  repeat' first | exact Safe.pure _ | refine Safe.loadSeq fun _ => ?_ | refine Safe.storeSeq fun _ => ?_
instance s883 : ∀ x y z u, Safe defs c R (k0_part883 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part883
  repeat' first | exact Safe.pure _ | refine Safe.loadSeq fun _ => ?_ | refine Safe.storeSeq fun _ => ?_
instance s884 : ∀ x y z u, Safe defs c R (k0_part884 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part884
  repeat' first | exact Safe.pure _ | refine Safe.loadSeq fun _ => ?_ | refine Safe.storeSeq fun _ => ?_
instance s885 : ∀ x y z u, Safe defs c R (k0_part885 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; unfold k0_part885
  repeat' first | exact Safe.pure _ | refine Safe.loadSeq fun _ => ?_ | refine Safe.storeSeq fun _ => ?_
instance s886 : ∀ x y z u v, Safe defs c R (k0_part886 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v) := by
  intro x y z u v; unfold k0_part886
  repeat' first | exact Safe.pure _ | refine Safe.loadSeq fun _ => ?_ | refine Safe.storeSeq fun _ => ?_
instance s887 : ∀ x y z u v, Safe defs c R (k0_part887 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v) := by
  intro x y z u v; unfold k0_part887
  repeat' first | exact Safe.pure _ | refine Safe.loadSeq fun _ => ?_ | refine Safe.storeSeq fun _ => ?_
instance s888 : ∀ x y z u v, Safe defs c R (k0_part888 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v) := by
  intro x y z u v; unfold k0_part888
  repeat' first | exact Safe.pure _ | refine Safe.loadSeq fun _ => ?_ | refine Safe.storeSeq fun _ => ?_
instance s889 : ∀ x y z u v, Safe defs c R (k0_part889 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v) := by
  intro x y z u v; unfold k0_part889
  repeat' first | exact Safe.pure _ | refine Safe.loadSeq fun _ => ?_ | refine Safe.storeSeq fun _ => ?_
instance s890 : ∀ x y z u v w p q r, Safe defs c R (k0_part890 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; unfold k0_part890
  repeat' first | exact Safe.pure _ | refine Safe.loadSeq fun _ => ?_ | refine Safe.storeSeq fun _ => ?_
instance s899 : Safe defs c R (k0_part899 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 ) := by
  unfold k0_part899
  repeat' first | exact Safe.pure _ | refine Safe.loadSeq fun _ => ?_ | refine Safe.storeSeq fun _ => ?_
instance s900 : ∀ x, Safe defs c R (k0_part900 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part900
  repeat' first | exact Safe.pure _ | refine Safe.loadSeq fun _ => ?_ | refine Safe.storeSeq fun _ => ?_
instance s901 : ∀ x, Safe defs c R (k0_part901 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part901
  repeat' first | exact Safe.pure _ | refine Safe.loadSeq fun _ => ?_ | refine Safe.storeSeq fun _ => ?_
instance s902 : ∀ x, Safe defs c R (k0_part902 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part902
  repeat' first | exact Safe.pure _ | refine Safe.loadSeq fun _ => ?_ | refine Safe.storeSeq fun _ => ?_
instance s903 : ∀ x, Safe defs c R (k0_part903 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part903
  repeat' first | exact Safe.pure _ | refine Safe.loadSeq fun _ => ?_ | refine Safe.storeSeq fun _ => ?_
instance s904 : ∀ x, Safe defs c R (k0_part904 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x) := by
  intro x; unfold k0_part904
  repeat' first | exact Safe.pure _ | refine Safe.loadSeq fun _ => ?_ | refine Safe.storeSeq fun _ => ?_

end Cert.Proof.Attention

end
-- ==== Proof.Body1.lean ====
/-
  The attention's regions that call straight pieces: sequences of pieces already known to be safe.
-/
module

public import proofs.«01_k».proof.Proof.Pieces1
public import proofs.«01_k».proof.Proof.Pieces2
public import proofs.«01_k».proof.Proof.Pieces3
public import proofs.«01_k».proof.Proof.Pieces4
public import proofs.«01_k».proof.Proof.Pieces5
public import proofs.«01_k».proof.Proof.Pieces6

@[expose] public section

set_option maxRecDepth 16384
set_option synthInstance.maxSize 4096

noncomputable section

namespace Cert.Proof.Attention

open Cert.Kernel Cert.Proof.Shape
open Idealize.ShloMosaic Idealize.ShloMosaic.TcCoe
open Idealize.SL Idealize.SL.BI Idealize.SL.Sem
open Idealize.ShloMosaic.Rounds

variable {F : FTy → Type} [BitOps F] [Facts]
variable {defs : Defs nD τ sig (Elt F) Λ₀} {c : Dev nD} {R : sProp (MT nD τ sig Unit (Elt F) ℕ (UR sig nD τ) ℕ)}
variable {i : grid0.Coords}
variable {a2 : Memref sig .tc .vmem S1x2048x128 .bf16} {h2 : a2.IsWhole} [Readable c R a2]
variable {a3 : Memref sig .tc .vmem S1x16x128 .f32} {h3 : a3.IsWhole} [Readable c R a3]
variable {a4 : Memref sig .tc .vmem S1x4096x128 .bf16} {h4 : a4.IsWhole} [Readable c R a4]
variable {a5 : Memref sig .tc .vmem S1x4096x256 .bf16} {h5 : a5.IsWhole} [Readable c R a5]
variable {a6 : Memref sig .tc .vmem S1x2048x256 .bf16} {h6 : a6.IsWhole} [Readable c R a6]
variable {a7 : Memref sig .tc .vmem S3x16x128x128 .f32} {h7 : a7.IsWhole} [Readable c R a7]
variable {a8 : Memref sig .tc .vmem S16x256x128 .bf16} {h8 : a8.IsWhole} [Readable c R a8]
variable {a9 : Memref sig .tc .vmem S1x128x2048 .bf16} {h9 : a9.IsWhole} [Writable c R a9]
variable {a10 : Memref sig .tc .vmem S8x512x128 .i32} {h10 : a10.IsWhole} [Writable c R a10]
variable {a11 : Memref sig .tc .vmem S8x512x128 .i16} {h11 : a11.IsWhole} [Writable c R a11]
variable {a12 : Memref sig .tc .vmem S8x512x128 .i16} {h12 : a12.IsWhole} [Writable c R a12]
variable {a13 : Memref sig .tc .vmem S8x512x128 .i16} {h13 : a13.IsWhole} [Writable c R a13]
variable {a14 : Memref sig .tc .vmem S33x128x128 .f32} {h14 : a14.IsWhole} [Writable c R a14]
variable {a15 : Memref sig .tc .vmem S2x512x2048 .f32} {h15 : a15.IsWhole} [Writable c R a15]
variable {a16 : Memref sig .tc .vmem S4x512x512 .f32} {h16 : a16.IsWhole} [Writable c R a16]
variable {a17 : Memref sig .tc .vmem S4x512x512 .bf16} {h17 : a17.IsWhole} [Writable c R a17]
variable {a18 : Memref sig .tc .vmem S4x512x128 .f32} {h18 : a18.IsWhole} [Writable c R a18]
variable {a19 : Memref sig .tc .vmem S2048x256 .f32} {h19 : a19.IsWhole} [Writable c R a19]
variable {a20 : Memref sig .tc .vmem S2048x128 .f32} {h20 : a20.IsWhole} [Writable c R a20]
variable {a21 : Memref sig .tc .vmem S2048x128 .f32} {h21 : a21.IsWhole} [Writable c R a21]
variable {a22 : Memref sig .tc .vmem S8x128 .i32} {h22 : a22.IsWhole} [Writable c R a22]

instance s21 : ∀ x y, Safe defs c R (k0_part21 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y) := by
  intro x y; unfold k0_part21
  repeat' first | exact Safe.pure _ | refine Safe.loadSeq fun _ => ?_ | refine Safe.storeSeq fun _ => ?_ | refine Safe.bind fun _ => ?_
instance s63 : ∀ x y z u v w, Safe defs c R (k0_part63 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part63
  repeat' first | exact Safe.pure _ | refine Safe.loadSeq fun _ => ?_ | refine Safe.storeSeq fun _ => ?_ | refine Safe.bind fun _ => ?_
instance s105 : ∀ x y z u v w, Safe defs c R (k0_part105 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; unfold k0_part105
  repeat' first | exact Safe.pure _ | refine Safe.loadSeq fun _ => ?_ | refine Safe.storeSeq fun _ => ?_ | refine Safe.bind fun _ => ?_
instance s195 : ∀ x y z u v w p, Safe defs c R (k0_part195 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part195
  repeat' first | exact Safe.pure _ | refine Safe.loadSeq fun _ => ?_ | refine Safe.storeSeq fun _ => ?_ | refine Safe.bind fun _ => ?_
instance s348 : ∀ x y z u v w p, Safe defs c R (k0_part348 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p) := by
  intro x y z u v w p; unfold k0_part348
  repeat' first | exact Safe.pure _ | refine Safe.loadSeq fun _ => ?_ | refine Safe.storeSeq fun _ => ?_ | refine Safe.bind fun _ => ?_

end Cert.Proof.Attention

end
-- ==== Proof.Body7.lean ====
/-
  Regions 894, 895 of the attention's body.
-/
module

public import proofs.«01_k».proof.Proof.Body1

@[expose] public section

set_option maxRecDepth 16384
set_option synthInstance.maxSize 4096

noncomputable section

namespace Cert.Proof.Attention

open Cert.Kernel Cert.Proof.Shape
open Idealize.ShloMosaic Idealize.ShloMosaic.TcCoe
open Idealize.SL Idealize.SL.BI Idealize.SL.Sem
open Idealize.ShloMosaic.Rounds

variable {F : FTy → Type} [BitOps F] [Facts]
variable {defs : Defs nD τ sig (Elt F) Λ₀} {c : Dev nD} {R : sProp (MT nD τ sig Unit (Elt F) ℕ (UR sig nD τ) ℕ)}
variable {i : grid0.Coords}
variable {a2 : Memref sig .tc .vmem S1x2048x128 .bf16} {h2 : a2.IsWhole} [Readable c R a2]
variable {a3 : Memref sig .tc .vmem S1x16x128 .f32} {h3 : a3.IsWhole} [Readable c R a3]
variable {a4 : Memref sig .tc .vmem S1x4096x128 .bf16} {h4 : a4.IsWhole} [Readable c R a4]
variable {a5 : Memref sig .tc .vmem S1x4096x256 .bf16} {h5 : a5.IsWhole} [Readable c R a5]
variable {a6 : Memref sig .tc .vmem S1x2048x256 .bf16} {h6 : a6.IsWhole} [Readable c R a6]
variable {a7 : Memref sig .tc .vmem S3x16x128x128 .f32} {h7 : a7.IsWhole} [Readable c R a7]
variable {a8 : Memref sig .tc .vmem S16x256x128 .bf16} {h8 : a8.IsWhole} [Readable c R a8]
variable {a9 : Memref sig .tc .vmem S1x128x2048 .bf16} {h9 : a9.IsWhole} [Writable c R a9]
variable {a10 : Memref sig .tc .vmem S8x512x128 .i32} {h10 : a10.IsWhole} [Writable c R a10]
variable {a11 : Memref sig .tc .vmem S8x512x128 .i16} {h11 : a11.IsWhole} [Writable c R a11]
variable {a12 : Memref sig .tc .vmem S8x512x128 .i16} {h12 : a12.IsWhole} [Writable c R a12]
variable {a13 : Memref sig .tc .vmem S8x512x128 .i16} {h13 : a13.IsWhole} [Writable c R a13]
variable {a14 : Memref sig .tc .vmem S33x128x128 .f32} {h14 : a14.IsWhole} [Writable c R a14]
variable {a15 : Memref sig .tc .vmem S2x512x2048 .f32} {h15 : a15.IsWhole} [Writable c R a15]
variable {a16 : Memref sig .tc .vmem S4x512x512 .f32} {h16 : a16.IsWhole} [Writable c R a16]
variable {a17 : Memref sig .tc .vmem S4x512x512 .bf16} {h17 : a17.IsWhole} [Writable c R a17]
variable {a18 : Memref sig .tc .vmem S4x512x128 .f32} {h18 : a18.IsWhole} [Writable c R a18]
variable {a19 : Memref sig .tc .vmem S2048x256 .f32} {h19 : a19.IsWhole} [Writable c R a19]
variable {a20 : Memref sig .tc .vmem S2048x128 .f32} {h20 : a20.IsWhole} [Writable c R a20]
variable {a21 : Memref sig .tc .vmem S2048x128 .f32} {h21 : a21.IsWhole} [Writable c R a21]
variable {a22 : Memref sig .tc .vmem S8x128 .i32} {h22 : a22.IsWhole} [Writable c R a22]

set_option maxHeartbeats 0 in
instance s894 : Safe defs c R (k0_part894 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 ) := by
  delta k0_part894
  repeat' with_reducible first | refine Safe.bind fun _ => ?_ | refine Safe.loadSeq fun _ => ?_ | refine Safe.storeSeq fun _ => ?_ | exact Safe.pure _ | refine Safe.seq ?_ fun _ => ?_ | refine Safe.loop fun _ _ => ?_ | refine Safe.cond (fun _ => ?_) (fun _ => ?_) | infer_instance
set_option maxHeartbeats 0 in
instance s895 : ∀ x y z u, Safe defs c R (k0_part895 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; delta k0_part895
  repeat' with_reducible first | refine Safe.bind fun _ => ?_ | refine Safe.loadSeq fun _ => ?_ | refine Safe.storeSeq fun _ => ?_ | exact Safe.pure _ | refine Safe.seq ?_ fun _ => ?_ | refine Safe.loop fun _ _ => ?_ | refine Safe.cond (fun _ => ?_) (fun _ => ?_) | infer_instance

end Cert.Proof.Attention

end
-- ==== Proof.Body8.lean ====
/-
  Regions 896, 897 of the attention's body.
-/
module

public import proofs.«01_k».proof.Proof.Body1

@[expose] public section

set_option maxRecDepth 16384
set_option synthInstance.maxSize 4096

noncomputable section

namespace Cert.Proof.Attention

open Cert.Kernel Cert.Proof.Shape
open Idealize.ShloMosaic Idealize.ShloMosaic.TcCoe
open Idealize.SL Idealize.SL.BI Idealize.SL.Sem
open Idealize.ShloMosaic.Rounds

variable {F : FTy → Type} [BitOps F] [Facts]
variable {defs : Defs nD τ sig (Elt F) Λ₀} {c : Dev nD} {R : sProp (MT nD τ sig Unit (Elt F) ℕ (UR sig nD τ) ℕ)}
variable {i : grid0.Coords}
variable {a2 : Memref sig .tc .vmem S1x2048x128 .bf16} {h2 : a2.IsWhole} [Readable c R a2]
variable {a3 : Memref sig .tc .vmem S1x16x128 .f32} {h3 : a3.IsWhole} [Readable c R a3]
variable {a4 : Memref sig .tc .vmem S1x4096x128 .bf16} {h4 : a4.IsWhole} [Readable c R a4]
variable {a5 : Memref sig .tc .vmem S1x4096x256 .bf16} {h5 : a5.IsWhole} [Readable c R a5]
variable {a6 : Memref sig .tc .vmem S1x2048x256 .bf16} {h6 : a6.IsWhole} [Readable c R a6]
variable {a7 : Memref sig .tc .vmem S3x16x128x128 .f32} {h7 : a7.IsWhole} [Readable c R a7]
variable {a8 : Memref sig .tc .vmem S16x256x128 .bf16} {h8 : a8.IsWhole} [Readable c R a8]
variable {a9 : Memref sig .tc .vmem S1x128x2048 .bf16} {h9 : a9.IsWhole} [Writable c R a9]
variable {a10 : Memref sig .tc .vmem S8x512x128 .i32} {h10 : a10.IsWhole} [Writable c R a10]
variable {a11 : Memref sig .tc .vmem S8x512x128 .i16} {h11 : a11.IsWhole} [Writable c R a11]
variable {a12 : Memref sig .tc .vmem S8x512x128 .i16} {h12 : a12.IsWhole} [Writable c R a12]
variable {a13 : Memref sig .tc .vmem S8x512x128 .i16} {h13 : a13.IsWhole} [Writable c R a13]
variable {a14 : Memref sig .tc .vmem S33x128x128 .f32} {h14 : a14.IsWhole} [Writable c R a14]
variable {a15 : Memref sig .tc .vmem S2x512x2048 .f32} {h15 : a15.IsWhole} [Writable c R a15]
variable {a16 : Memref sig .tc .vmem S4x512x512 .f32} {h16 : a16.IsWhole} [Writable c R a16]
variable {a17 : Memref sig .tc .vmem S4x512x512 .bf16} {h17 : a17.IsWhole} [Writable c R a17]
variable {a18 : Memref sig .tc .vmem S4x512x128 .f32} {h18 : a18.IsWhole} [Writable c R a18]
variable {a19 : Memref sig .tc .vmem S2048x256 .f32} {h19 : a19.IsWhole} [Writable c R a19]
variable {a20 : Memref sig .tc .vmem S2048x128 .f32} {h20 : a20.IsWhole} [Writable c R a20]
variable {a21 : Memref sig .tc .vmem S2048x128 .f32} {h21 : a21.IsWhole} [Writable c R a21]
variable {a22 : Memref sig .tc .vmem S8x128 .i32} {h22 : a22.IsWhole} [Writable c R a22]

/-- A branch that does not hand its condition to its regions, both of them safe. -/
theorem choice {α : Type} {b : Prop} {_ : Decidable b} {p q : Prog (TpuEff nD τ sig (Elt F) Λ₀ .tc) α}
    (hp : Safe defs c R p) (hq : Safe defs c R q) : Safe defs c R (if b then p else q) := by
  split
  · exact hp
  · exact hq

set_option maxHeartbeats 0 in
instance s896 : ∀ x y z u v w p q r, Safe defs c R (k0_part896 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r) := by
  intro x y z u v w p q r; delta k0_part896
  repeat' with_reducible first | refine Safe.bind fun _ => ?_ | refine Safe.loadSeq fun _ => ?_ | refine Safe.storeSeq fun _ => ?_ | exact Safe.pure _ | refine Safe.seq ?_ fun _ => ?_ | refine Safe.loop fun _ _ => ?_ | refine Safe.cond (fun _ => ?_) (fun _ => ?_) | refine choice ?_ ?_ | infer_instance
set_option maxHeartbeats 0 in
instance s897 : ∀ x y z u v w, Safe defs c R (k0_part897 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; delta k0_part897
  repeat' with_reducible first | refine Safe.bind fun _ => ?_ | refine Safe.loadSeq fun _ => ?_ | refine Safe.storeSeq fun _ => ?_ | exact Safe.pure _ | refine Safe.seq ?_ fun _ => ?_ | refine Safe.loop fun _ _ => ?_ | refine Safe.cond (fun _ => ?_) (fun _ => ?_) | refine choice ?_ ?_ | infer_instance

end Cert.Proof.Attention

end
-- ==== Proof.Body2.lean ====
/-
  Regions 529, 530 of the attention's body.
-/
module

public import proofs.«01_k».proof.Proof.Body1

@[expose] public section

set_option maxRecDepth 16384
set_option synthInstance.maxSize 4096

noncomputable section

namespace Cert.Proof.Attention

open Cert.Kernel Cert.Proof.Shape
open Idealize.ShloMosaic Idealize.ShloMosaic.TcCoe
open Idealize.SL Idealize.SL.BI Idealize.SL.Sem
open Idealize.ShloMosaic.Rounds

variable {F : FTy → Type} [BitOps F] [Facts]
variable {defs : Defs nD τ sig (Elt F) Λ₀} {c : Dev nD} {R : sProp (MT nD τ sig Unit (Elt F) ℕ (UR sig nD τ) ℕ)}
variable {i : grid0.Coords}
variable {a2 : Memref sig .tc .vmem S1x2048x128 .bf16} {h2 : a2.IsWhole} [Readable c R a2]
variable {a3 : Memref sig .tc .vmem S1x16x128 .f32} {h3 : a3.IsWhole} [Readable c R a3]
variable {a4 : Memref sig .tc .vmem S1x4096x128 .bf16} {h4 : a4.IsWhole} [Readable c R a4]
variable {a5 : Memref sig .tc .vmem S1x4096x256 .bf16} {h5 : a5.IsWhole} [Readable c R a5]
variable {a6 : Memref sig .tc .vmem S1x2048x256 .bf16} {h6 : a6.IsWhole} [Readable c R a6]
variable {a7 : Memref sig .tc .vmem S3x16x128x128 .f32} {h7 : a7.IsWhole} [Readable c R a7]
variable {a8 : Memref sig .tc .vmem S16x256x128 .bf16} {h8 : a8.IsWhole} [Readable c R a8]
variable {a9 : Memref sig .tc .vmem S1x128x2048 .bf16} {h9 : a9.IsWhole} [Writable c R a9]
variable {a10 : Memref sig .tc .vmem S8x512x128 .i32} {h10 : a10.IsWhole} [Writable c R a10]
variable {a11 : Memref sig .tc .vmem S8x512x128 .i16} {h11 : a11.IsWhole} [Writable c R a11]
variable {a12 : Memref sig .tc .vmem S8x512x128 .i16} {h12 : a12.IsWhole} [Writable c R a12]
variable {a13 : Memref sig .tc .vmem S8x512x128 .i16} {h13 : a13.IsWhole} [Writable c R a13]
variable {a14 : Memref sig .tc .vmem S33x128x128 .f32} {h14 : a14.IsWhole} [Writable c R a14]
variable {a15 : Memref sig .tc .vmem S2x512x2048 .f32} {h15 : a15.IsWhole} [Writable c R a15]
variable {a16 : Memref sig .tc .vmem S4x512x512 .f32} {h16 : a16.IsWhole} [Writable c R a16]
variable {a17 : Memref sig .tc .vmem S4x512x512 .bf16} {h17 : a17.IsWhole} [Writable c R a17]
variable {a18 : Memref sig .tc .vmem S4x512x128 .f32} {h18 : a18.IsWhole} [Writable c R a18]
variable {a19 : Memref sig .tc .vmem S2048x256 .f32} {h19 : a19.IsWhole} [Writable c R a19]
variable {a20 : Memref sig .tc .vmem S2048x128 .f32} {h20 : a20.IsWhole} [Writable c R a20]
variable {a21 : Memref sig .tc .vmem S2048x128 .f32} {h21 : a21.IsWhole} [Writable c R a21]
variable {a22 : Memref sig .tc .vmem S8x128 .i32} {h22 : a22.IsWhole} [Writable c R a22]

set_option maxHeartbeats 0 in
instance s529 : ∀ x y z u v, Safe defs c R (k0_part529 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v) := by
  intro x y z u v; delta k0_part529
  repeat' first | refine Safe.bind fun _ => ?_ | refine Safe.loadSeq fun _ => ?_ | refine Safe.storeSeq fun _ => ?_ | exact Safe.pure _ | refine Safe.seq ?_ fun _ => ?_ | refine Safe.loop fun _ _ => ?_ | refine Safe.cond (fun _ => ?_) (fun _ => ?_) | infer_instance
set_option maxHeartbeats 0 in
instance s530 : ∀ x0 x1 x2 x3 x4 x5 x6 x7 x8 x9 x10 x11, Safe defs c R (k0_part530 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11) := by
  intro x0 x1 x2 x3 x4 x5 x6 x7 x8 x9 x10 x11; delta k0_part530
  repeat' first | refine Safe.bind fun _ => ?_ | refine Safe.loadSeq fun _ => ?_ | refine Safe.storeSeq fun _ => ?_ | exact Safe.pure _ | refine Safe.seq ?_ fun _ => ?_ | refine Safe.loop fun _ _ => ?_ | refine Safe.cond (fun _ => ?_) (fun _ => ?_) | infer_instance

end Cert.Proof.Attention

end
-- ==== Proof.Body3.lean ====
/-
  Regions 613, 696, 770 of the attention's body.
-/
module

public import proofs.«01_k».proof.Proof.Body1

@[expose] public section

set_option maxRecDepth 16384
set_option synthInstance.maxSize 4096

noncomputable section

namespace Cert.Proof.Attention

open Cert.Kernel Cert.Proof.Shape
open Idealize.ShloMosaic Idealize.ShloMosaic.TcCoe
open Idealize.SL Idealize.SL.BI Idealize.SL.Sem
open Idealize.ShloMosaic.Rounds

variable {F : FTy → Type} [BitOps F] [Facts]
variable {defs : Defs nD τ sig (Elt F) Λ₀} {c : Dev nD} {R : sProp (MT nD τ sig Unit (Elt F) ℕ (UR sig nD τ) ℕ)}
variable {i : grid0.Coords}
variable {a2 : Memref sig .tc .vmem S1x2048x128 .bf16} {h2 : a2.IsWhole} [Readable c R a2]
variable {a3 : Memref sig .tc .vmem S1x16x128 .f32} {h3 : a3.IsWhole} [Readable c R a3]
variable {a4 : Memref sig .tc .vmem S1x4096x128 .bf16} {h4 : a4.IsWhole} [Readable c R a4]
variable {a5 : Memref sig .tc .vmem S1x4096x256 .bf16} {h5 : a5.IsWhole} [Readable c R a5]
variable {a6 : Memref sig .tc .vmem S1x2048x256 .bf16} {h6 : a6.IsWhole} [Readable c R a6]
variable {a7 : Memref sig .tc .vmem S3x16x128x128 .f32} {h7 : a7.IsWhole} [Readable c R a7]
variable {a8 : Memref sig .tc .vmem S16x256x128 .bf16} {h8 : a8.IsWhole} [Readable c R a8]
variable {a9 : Memref sig .tc .vmem S1x128x2048 .bf16} {h9 : a9.IsWhole} [Writable c R a9]
variable {a10 : Memref sig .tc .vmem S8x512x128 .i32} {h10 : a10.IsWhole} [Writable c R a10]
variable {a11 : Memref sig .tc .vmem S8x512x128 .i16} {h11 : a11.IsWhole} [Writable c R a11]
variable {a12 : Memref sig .tc .vmem S8x512x128 .i16} {h12 : a12.IsWhole} [Writable c R a12]
variable {a13 : Memref sig .tc .vmem S8x512x128 .i16} {h13 : a13.IsWhole} [Writable c R a13]
variable {a14 : Memref sig .tc .vmem S33x128x128 .f32} {h14 : a14.IsWhole} [Writable c R a14]
variable {a15 : Memref sig .tc .vmem S2x512x2048 .f32} {h15 : a15.IsWhole} [Writable c R a15]
variable {a16 : Memref sig .tc .vmem S4x512x512 .f32} {h16 : a16.IsWhole} [Writable c R a16]
variable {a17 : Memref sig .tc .vmem S4x512x512 .bf16} {h17 : a17.IsWhole} [Writable c R a17]
variable {a18 : Memref sig .tc .vmem S4x512x128 .f32} {h18 : a18.IsWhole} [Writable c R a18]
variable {a19 : Memref sig .tc .vmem S2048x256 .f32} {h19 : a19.IsWhole} [Writable c R a19]
variable {a20 : Memref sig .tc .vmem S2048x128 .f32} {h20 : a20.IsWhole} [Writable c R a20]
variable {a21 : Memref sig .tc .vmem S2048x128 .f32} {h21 : a21.IsWhole} [Writable c R a21]
variable {a22 : Memref sig .tc .vmem S8x128 .i32} {h22 : a22.IsWhole} [Writable c R a22]

set_option maxHeartbeats 0 in
instance s613 : ∀ x y z u v w, Safe defs c R (k0_part613 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; delta k0_part613
  repeat' first | refine Safe.bind fun _ => ?_ | refine Safe.loadSeq fun _ => ?_ | refine Safe.storeSeq fun _ => ?_ | exact Safe.pure _ | refine Safe.seq ?_ fun _ => ?_ | refine Safe.loop fun _ _ => ?_ | refine Safe.cond (fun _ => ?_) (fun _ => ?_) | infer_instance
set_option maxHeartbeats 0 in
instance s696 : ∀ x y z u v w, Safe defs c R (k0_part696 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w) := by
  intro x y z u v w; delta k0_part696
  repeat' first | refine Safe.bind fun _ => ?_ | refine Safe.loadSeq fun _ => ?_ | refine Safe.storeSeq fun _ => ?_ | exact Safe.pure _ | refine Safe.seq ?_ fun _ => ?_ | refine Safe.loop fun _ _ => ?_ | refine Safe.cond (fun _ => ?_) (fun _ => ?_) | infer_instance
set_option maxHeartbeats 0 in
instance s770 : ∀ x y z u, Safe defs c R (k0_part770 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u) := by
  intro x y z u; delta k0_part770
  repeat' first | refine Safe.bind fun _ => ?_ | refine Safe.loadSeq fun _ => ?_ | refine Safe.storeSeq fun _ => ?_ | exact Safe.pure _ | refine Safe.seq ?_ fun _ => ?_ | refine Safe.loop fun _ _ => ?_ | refine Safe.cond (fun _ => ?_) (fun _ => ?_) | infer_instance

end Cert.Proof.Attention

end
-- ==== Proof.Body4.lean ====
/-
  Regions 891 of the attention's body.
-/
module

public import proofs.«01_k».proof.Proof.Body2

@[expose] public section

set_option maxRecDepth 16384
set_option synthInstance.maxSize 4096

noncomputable section

namespace Cert.Proof.Attention

open Cert.Kernel Cert.Proof.Shape
open Idealize.ShloMosaic Idealize.ShloMosaic.TcCoe
open Idealize.SL Idealize.SL.BI Idealize.SL.Sem
open Idealize.ShloMosaic.Rounds

variable {F : FTy → Type} [BitOps F] [Facts]
variable {defs : Defs nD τ sig (Elt F) Λ₀} {c : Dev nD} {R : sProp (MT nD τ sig Unit (Elt F) ℕ (UR sig nD τ) ℕ)}
variable {i : grid0.Coords}
variable {a2 : Memref sig .tc .vmem S1x2048x128 .bf16} {h2 : a2.IsWhole} [Readable c R a2]
variable {a3 : Memref sig .tc .vmem S1x16x128 .f32} {h3 : a3.IsWhole} [Readable c R a3]
variable {a4 : Memref sig .tc .vmem S1x4096x128 .bf16} {h4 : a4.IsWhole} [Readable c R a4]
variable {a5 : Memref sig .tc .vmem S1x4096x256 .bf16} {h5 : a5.IsWhole} [Readable c R a5]
variable {a6 : Memref sig .tc .vmem S1x2048x256 .bf16} {h6 : a6.IsWhole} [Readable c R a6]
variable {a7 : Memref sig .tc .vmem S3x16x128x128 .f32} {h7 : a7.IsWhole} [Readable c R a7]
variable {a8 : Memref sig .tc .vmem S16x256x128 .bf16} {h8 : a8.IsWhole} [Readable c R a8]
variable {a9 : Memref sig .tc .vmem S1x128x2048 .bf16} {h9 : a9.IsWhole} [Writable c R a9]
variable {a10 : Memref sig .tc .vmem S8x512x128 .i32} {h10 : a10.IsWhole} [Writable c R a10]
variable {a11 : Memref sig .tc .vmem S8x512x128 .i16} {h11 : a11.IsWhole} [Writable c R a11]
variable {a12 : Memref sig .tc .vmem S8x512x128 .i16} {h12 : a12.IsWhole} [Writable c R a12]
variable {a13 : Memref sig .tc .vmem S8x512x128 .i16} {h13 : a13.IsWhole} [Writable c R a13]
variable {a14 : Memref sig .tc .vmem S33x128x128 .f32} {h14 : a14.IsWhole} [Writable c R a14]
variable {a15 : Memref sig .tc .vmem S2x512x2048 .f32} {h15 : a15.IsWhole} [Writable c R a15]
variable {a16 : Memref sig .tc .vmem S4x512x512 .f32} {h16 : a16.IsWhole} [Writable c R a16]
variable {a17 : Memref sig .tc .vmem S4x512x512 .bf16} {h17 : a17.IsWhole} [Writable c R a17]
variable {a18 : Memref sig .tc .vmem S4x512x128 .f32} {h18 : a18.IsWhole} [Writable c R a18]
variable {a19 : Memref sig .tc .vmem S2048x256 .f32} {h19 : a19.IsWhole} [Writable c R a19]
variable {a20 : Memref sig .tc .vmem S2048x128 .f32} {h20 : a20.IsWhole} [Writable c R a20]
variable {a21 : Memref sig .tc .vmem S2048x128 .f32} {h21 : a21.IsWhole} [Writable c R a21]
variable {a22 : Memref sig .tc .vmem S8x128 .i32} {h22 : a22.IsWhole} [Writable c R a22]

set_option maxHeartbeats 0 in
instance s891 : ∀ x y z, Safe defs c R (k0_part891 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; delta k0_part891
  repeat' first | refine Safe.bind fun _ => ?_ | refine Safe.loadSeq fun _ => ?_ | refine Safe.storeSeq fun _ => ?_ | exact Safe.pure _ | refine Safe.seq ?_ fun _ => ?_ | refine Safe.loop fun _ _ => ?_ | refine Safe.cond (fun _ => ?_) (fun _ => ?_) | infer_instance

end Cert.Proof.Attention

end
-- ==== Proof.Body5.lean ====
/-
  Regions 892 of the attention's body.
-/
module

public import proofs.«01_k».proof.Proof.Body3

@[expose] public section

set_option maxRecDepth 16384
set_option synthInstance.maxSize 4096

noncomputable section

namespace Cert.Proof.Attention

open Cert.Kernel Cert.Proof.Shape
open Idealize.ShloMosaic Idealize.ShloMosaic.TcCoe
open Idealize.SL Idealize.SL.BI Idealize.SL.Sem
open Idealize.ShloMosaic.Rounds

variable {F : FTy → Type} [BitOps F] [Facts]
variable {defs : Defs nD τ sig (Elt F) Λ₀} {c : Dev nD} {R : sProp (MT nD τ sig Unit (Elt F) ℕ (UR sig nD τ) ℕ)}
variable {i : grid0.Coords}
variable {a2 : Memref sig .tc .vmem S1x2048x128 .bf16} {h2 : a2.IsWhole} [Readable c R a2]
variable {a3 : Memref sig .tc .vmem S1x16x128 .f32} {h3 : a3.IsWhole} [Readable c R a3]
variable {a4 : Memref sig .tc .vmem S1x4096x128 .bf16} {h4 : a4.IsWhole} [Readable c R a4]
variable {a5 : Memref sig .tc .vmem S1x4096x256 .bf16} {h5 : a5.IsWhole} [Readable c R a5]
variable {a6 : Memref sig .tc .vmem S1x2048x256 .bf16} {h6 : a6.IsWhole} [Readable c R a6]
variable {a7 : Memref sig .tc .vmem S3x16x128x128 .f32} {h7 : a7.IsWhole} [Readable c R a7]
variable {a8 : Memref sig .tc .vmem S16x256x128 .bf16} {h8 : a8.IsWhole} [Readable c R a8]
variable {a9 : Memref sig .tc .vmem S1x128x2048 .bf16} {h9 : a9.IsWhole} [Writable c R a9]
variable {a10 : Memref sig .tc .vmem S8x512x128 .i32} {h10 : a10.IsWhole} [Writable c R a10]
variable {a11 : Memref sig .tc .vmem S8x512x128 .i16} {h11 : a11.IsWhole} [Writable c R a11]
variable {a12 : Memref sig .tc .vmem S8x512x128 .i16} {h12 : a12.IsWhole} [Writable c R a12]
variable {a13 : Memref sig .tc .vmem S8x512x128 .i16} {h13 : a13.IsWhole} [Writable c R a13]
variable {a14 : Memref sig .tc .vmem S33x128x128 .f32} {h14 : a14.IsWhole} [Writable c R a14]
variable {a15 : Memref sig .tc .vmem S2x512x2048 .f32} {h15 : a15.IsWhole} [Writable c R a15]
variable {a16 : Memref sig .tc .vmem S4x512x512 .f32} {h16 : a16.IsWhole} [Writable c R a16]
variable {a17 : Memref sig .tc .vmem S4x512x512 .bf16} {h17 : a17.IsWhole} [Writable c R a17]
variable {a18 : Memref sig .tc .vmem S4x512x128 .f32} {h18 : a18.IsWhole} [Writable c R a18]
variable {a19 : Memref sig .tc .vmem S2048x256 .f32} {h19 : a19.IsWhole} [Writable c R a19]
variable {a20 : Memref sig .tc .vmem S2048x128 .f32} {h20 : a20.IsWhole} [Writable c R a20]
variable {a21 : Memref sig .tc .vmem S2048x128 .f32} {h21 : a21.IsWhole} [Writable c R a21]
variable {a22 : Memref sig .tc .vmem S8x128 .i32} {h22 : a22.IsWhole} [Writable c R a22]

set_option maxHeartbeats 0 in
instance s892 : ∀ x y z u v w p q r s t, Safe defs c R (k0_part892 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q r s t) := by
  intro x y z u v w p q r s t; delta k0_part892
  repeat' first | refine Safe.bind fun _ => ?_ | refine Safe.loadSeq fun _ => ?_ | refine Safe.storeSeq fun _ => ?_ | exact Safe.pure _ | refine Safe.seq ?_ fun _ => ?_ | refine Safe.loop fun _ _ => ?_ | refine Safe.cond (fun _ => ?_) (fun _ => ?_) | infer_instance

end Cert.Proof.Attention

end
-- ==== Proof.Body6.lean ====
/-
  Regions 893 of the attention's body.
-/
module

public import proofs.«01_k».proof.Proof.Body3

@[expose] public section

set_option maxRecDepth 16384
set_option synthInstance.maxSize 4096

noncomputable section

namespace Cert.Proof.Attention

open Cert.Kernel Cert.Proof.Shape
open Idealize.ShloMosaic Idealize.ShloMosaic.TcCoe
open Idealize.SL Idealize.SL.BI Idealize.SL.Sem
open Idealize.ShloMosaic.Rounds

variable {F : FTy → Type} [BitOps F] [Facts]
variable {defs : Defs nD τ sig (Elt F) Λ₀} {c : Dev nD} {R : sProp (MT nD τ sig Unit (Elt F) ℕ (UR sig nD τ) ℕ)}
variable {i : grid0.Coords}
variable {a2 : Memref sig .tc .vmem S1x2048x128 .bf16} {h2 : a2.IsWhole} [Readable c R a2]
variable {a3 : Memref sig .tc .vmem S1x16x128 .f32} {h3 : a3.IsWhole} [Readable c R a3]
variable {a4 : Memref sig .tc .vmem S1x4096x128 .bf16} {h4 : a4.IsWhole} [Readable c R a4]
variable {a5 : Memref sig .tc .vmem S1x4096x256 .bf16} {h5 : a5.IsWhole} [Readable c R a5]
variable {a6 : Memref sig .tc .vmem S1x2048x256 .bf16} {h6 : a6.IsWhole} [Readable c R a6]
variable {a7 : Memref sig .tc .vmem S3x16x128x128 .f32} {h7 : a7.IsWhole} [Readable c R a7]
variable {a8 : Memref sig .tc .vmem S16x256x128 .bf16} {h8 : a8.IsWhole} [Readable c R a8]
variable {a9 : Memref sig .tc .vmem S1x128x2048 .bf16} {h9 : a9.IsWhole} [Writable c R a9]
variable {a10 : Memref sig .tc .vmem S8x512x128 .i32} {h10 : a10.IsWhole} [Writable c R a10]
variable {a11 : Memref sig .tc .vmem S8x512x128 .i16} {h11 : a11.IsWhole} [Writable c R a11]
variable {a12 : Memref sig .tc .vmem S8x512x128 .i16} {h12 : a12.IsWhole} [Writable c R a12]
variable {a13 : Memref sig .tc .vmem S8x512x128 .i16} {h13 : a13.IsWhole} [Writable c R a13]
variable {a14 : Memref sig .tc .vmem S33x128x128 .f32} {h14 : a14.IsWhole} [Writable c R a14]
variable {a15 : Memref sig .tc .vmem S2x512x2048 .f32} {h15 : a15.IsWhole} [Writable c R a15]
variable {a16 : Memref sig .tc .vmem S4x512x512 .f32} {h16 : a16.IsWhole} [Writable c R a16]
variable {a17 : Memref sig .tc .vmem S4x512x512 .bf16} {h17 : a17.IsWhole} [Writable c R a17]
variable {a18 : Memref sig .tc .vmem S4x512x128 .f32} {h18 : a18.IsWhole} [Writable c R a18]
variable {a19 : Memref sig .tc .vmem S2048x256 .f32} {h19 : a19.IsWhole} [Writable c R a19]
variable {a20 : Memref sig .tc .vmem S2048x128 .f32} {h20 : a20.IsWhole} [Writable c R a20]
variable {a21 : Memref sig .tc .vmem S2048x128 .f32} {h21 : a21.IsWhole} [Writable c R a21]
variable {a22 : Memref sig .tc .vmem S8x128 .i32} {h22 : a22.IsWhole} [Writable c R a22]

set_option maxHeartbeats 0 in
instance s893 : ∀ x y z u v w p q, Safe defs c R (k0_part893 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z u v w p q) := by
  intro x y z u v w p q; delta k0_part893
  repeat' first | refine Safe.bind fun _ => ?_ | refine Safe.loadSeq fun _ => ?_ | refine Safe.storeSeq fun _ => ?_ | exact Safe.pure _ | refine Safe.seq ?_ fun _ => ?_ | refine Safe.loop fun _ _ => ?_ | refine Safe.cond (fun _ => ?_) (fun _ => ?_) | infer_instance

end Cert.Proof.Attention

end
-- ==== Proof.Body9.lean ====
/-
  Regions 898 of the attention's body.
-/
module

public import proofs.«01_k».proof.Proof.Body2
public import proofs.«01_k».proof.Proof.Body3
public import proofs.«01_k».proof.Proof.Body4
public import proofs.«01_k».proof.Proof.Body5
public import proofs.«01_k».proof.Proof.Body6

@[expose] public section

set_option maxRecDepth 16384
set_option synthInstance.maxSize 4096

noncomputable section

namespace Cert.Proof.Attention

open Cert.Kernel Cert.Proof.Shape
open Idealize.ShloMosaic Idealize.ShloMosaic.TcCoe
open Idealize.SL Idealize.SL.BI Idealize.SL.Sem
open Idealize.ShloMosaic.Rounds

variable {F : FTy → Type} [BitOps F] [Facts]
variable {defs : Defs nD τ sig (Elt F) Λ₀} {c : Dev nD} {R : sProp (MT nD τ sig Unit (Elt F) ℕ (UR sig nD τ) ℕ)}
variable {i : grid0.Coords}
variable {a2 : Memref sig .tc .vmem S1x2048x128 .bf16} {h2 : a2.IsWhole} [Readable c R a2]
variable {a3 : Memref sig .tc .vmem S1x16x128 .f32} {h3 : a3.IsWhole} [Readable c R a3]
variable {a4 : Memref sig .tc .vmem S1x4096x128 .bf16} {h4 : a4.IsWhole} [Readable c R a4]
variable {a5 : Memref sig .tc .vmem S1x4096x256 .bf16} {h5 : a5.IsWhole} [Readable c R a5]
variable {a6 : Memref sig .tc .vmem S1x2048x256 .bf16} {h6 : a6.IsWhole} [Readable c R a6]
variable {a7 : Memref sig .tc .vmem S3x16x128x128 .f32} {h7 : a7.IsWhole} [Readable c R a7]
variable {a8 : Memref sig .tc .vmem S16x256x128 .bf16} {h8 : a8.IsWhole} [Readable c R a8]
variable {a9 : Memref sig .tc .vmem S1x128x2048 .bf16} {h9 : a9.IsWhole} [Writable c R a9]
variable {a10 : Memref sig .tc .vmem S8x512x128 .i32} {h10 : a10.IsWhole} [Writable c R a10]
variable {a11 : Memref sig .tc .vmem S8x512x128 .i16} {h11 : a11.IsWhole} [Writable c R a11]
variable {a12 : Memref sig .tc .vmem S8x512x128 .i16} {h12 : a12.IsWhole} [Writable c R a12]
variable {a13 : Memref sig .tc .vmem S8x512x128 .i16} {h13 : a13.IsWhole} [Writable c R a13]
variable {a14 : Memref sig .tc .vmem S33x128x128 .f32} {h14 : a14.IsWhole} [Writable c R a14]
variable {a15 : Memref sig .tc .vmem S2x512x2048 .f32} {h15 : a15.IsWhole} [Writable c R a15]
variable {a16 : Memref sig .tc .vmem S4x512x512 .f32} {h16 : a16.IsWhole} [Writable c R a16]
variable {a17 : Memref sig .tc .vmem S4x512x512 .bf16} {h17 : a17.IsWhole} [Writable c R a17]
variable {a18 : Memref sig .tc .vmem S4x512x128 .f32} {h18 : a18.IsWhole} [Writable c R a18]
variable {a19 : Memref sig .tc .vmem S2048x256 .f32} {h19 : a19.IsWhole} [Writable c R a19]
variable {a20 : Memref sig .tc .vmem S2048x128 .f32} {h20 : a20.IsWhole} [Writable c R a20]
variable {a21 : Memref sig .tc .vmem S2048x128 .f32} {h21 : a21.IsWhole} [Writable c R a21]
variable {a22 : Memref sig .tc .vmem S8x128 .i32} {h22 : a22.IsWhole} [Writable c R a22]

set_option maxHeartbeats 0 in
instance s898 : ∀ x y z, Safe defs c R (k0_part898 i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x y z) := by
  intro x y z; delta k0_part898
  repeat' with_reducible first | refine Safe.bind fun _ => ?_ | refine Safe.loadSeq fun _ => ?_ | refine Safe.storeSeq fun _ => ?_ | exact Safe.pure _ | refine Safe.seq ?_ fun _ => ?_ | refine Safe.loop fun _ _ => ?_ | refine Safe.cond (fun _ => ?_) (fun _ => ?_) | infer_instance

end Cert.Proof.Attention

end
-- ==== Proof.Body.lean ====
/-
  The attention's whole body: every region is a sequence of pieces already known to be safe.
-/
module

public import proofs.«01_k».proof.Proof.Body7
public import proofs.«01_k».proof.Proof.Body8
public import proofs.«01_k».proof.Proof.Body9

@[expose] public section

set_option maxRecDepth 16384
set_option synthInstance.maxSize 4096

noncomputable section

namespace Cert.Proof.Attention

open Cert.Kernel Cert.Proof.Shape
open Idealize.ShloMosaic Idealize.ShloMosaic.TcCoe
open Idealize.SL Idealize.SL.BI Idealize.SL.Sem
open Idealize.ShloMosaic.Rounds

variable {F : FTy → Type} [BitOps F] [Facts]
variable {defs : Defs nD τ sig (Elt F) Λ₀} {c : Dev nD} {R : sProp (MT nD τ sig Unit (Elt F) ℕ (UR sig nD τ) ℕ)}
variable {i : grid0.Coords}
variable {a2 : Memref sig .tc .vmem S1x2048x128 .bf16} {h2 : a2.IsWhole} [Readable c R a2]
variable {a3 : Memref sig .tc .vmem S1x16x128 .f32} {h3 : a3.IsWhole} [Readable c R a3]
variable {a4 : Memref sig .tc .vmem S1x4096x128 .bf16} {h4 : a4.IsWhole} [Readable c R a4]
variable {a5 : Memref sig .tc .vmem S1x4096x256 .bf16} {h5 : a5.IsWhole} [Readable c R a5]
variable {a6 : Memref sig .tc .vmem S1x2048x256 .bf16} {h6 : a6.IsWhole} [Readable c R a6]
variable {a7 : Memref sig .tc .vmem S3x16x128x128 .f32} {h7 : a7.IsWhole} [Readable c R a7]
variable {a8 : Memref sig .tc .vmem S16x256x128 .bf16} {h8 : a8.IsWhole} [Readable c R a8]
variable {a9 : Memref sig .tc .vmem S1x128x2048 .bf16} {h9 : a9.IsWhole} [Writable c R a9]
variable {a10 : Memref sig .tc .vmem S8x512x128 .i32} {h10 : a10.IsWhole} [Writable c R a10]
variable {a11 : Memref sig .tc .vmem S8x512x128 .i16} {h11 : a11.IsWhole} [Writable c R a11]
variable {a12 : Memref sig .tc .vmem S8x512x128 .i16} {h12 : a12.IsWhole} [Writable c R a12]
variable {a13 : Memref sig .tc .vmem S8x512x128 .i16} {h13 : a13.IsWhole} [Writable c R a13]
variable {a14 : Memref sig .tc .vmem S33x128x128 .f32} {h14 : a14.IsWhole} [Writable c R a14]
variable {a15 : Memref sig .tc .vmem S2x512x2048 .f32} {h15 : a15.IsWhole} [Writable c R a15]
variable {a16 : Memref sig .tc .vmem S4x512x512 .f32} {h16 : a16.IsWhole} [Writable c R a16]
variable {a17 : Memref sig .tc .vmem S4x512x512 .bf16} {h17 : a17.IsWhole} [Writable c R a17]
variable {a18 : Memref sig .tc .vmem S4x512x128 .f32} {h18 : a18.IsWhole} [Writable c R a18]
variable {a19 : Memref sig .tc .vmem S2048x256 .f32} {h19 : a19.IsWhole} [Writable c R a19]
variable {a20 : Memref sig .tc .vmem S2048x128 .f32} {h20 : a20.IsWhole} [Writable c R a20]
variable {a21 : Memref sig .tc .vmem S2048x128 .f32} {h21 : a21.IsWhole} [Writable c R a21]
variable {a22 : Memref sig .tc .vmem S8x128 .i32} {h22 : a22.IsWhole} [Writable c R a22]

set_option maxHeartbeats 0 in
/-- The whole body: it reads and writes the memory lent to it, runs to its end and gives that memory back. -/
theorem body_safe : Safe defs c R (cc0_dsa_attention (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22) := by
  unfold cc0_dsa_attention
  repeat' with_reducible first | refine Safe.bind fun _ => ?_ | refine Safe.loadSeq fun _ => ?_ | refine Safe.storeSeq fun _ => ?_ | exact Safe.pure _ | refine Safe.seq ?_ fun _ => ?_ | refine Safe.loop fun _ _ => ?_ | refine Safe.cond (fun _ => ?_) (fun _ => ?_) | infer_instance

end Cert.Proof.Attention

end
-- ==== Proof.Hold.lean ====
/-
  Memory held at any contents, and the pipeline's two ways of saying it.
-/
module

public import proofs.«01_k».proof.Proof.Safe

@[expose] public section

noncomputable section

namespace Cert.Proof.Shape

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}

/-- The memref `m` on core `c`, at any contents. -/
def hold (c : Dev nD) {sp : Space} {s : Shape} {e : EltTy} (m : Memref sig .tc sp s e) : sProp (MT nD τ sig Unit Val ℕ (UR sig nD τ) ℕ) :=
  iprop(∃ f, (m.view.loc (c : Thread nD τ) ↦[m.view.set]{fullShare} f))

/-- `R` has `m` at any contents as one of its parts. -/
class Holds (c : Dev nD) (R : sProp (MT nD τ sig Unit Val ℕ (UR sig nD τ) ℕ)) {s : Shape} {e : EltTy} (m : Memref sig .tc .vmem s e) : Prop where
  split : R ⊢ iprop(hold c m ∗ (hold c m -∗ R))

instance Holds.head {c : Dev nD} {R : sProp (MT nD τ sig Unit Val ℕ (UR sig nD τ) ℕ)} {s : Shape} {e : EltTy} {m : Memref sig .tc .vmem s e} :
    Holds c iprop(hold c m ∗ R) m where
  split := by
    iintro ⟨H, HR⟩
    isplitl [H]
    · iexact H
    iintro H
    iframe

instance Holds.last {c : Dev nD} {s : Shape} {e : EltTy} {m : Memref sig .tc .vmem s e} :
    Holds (τ := τ) (Val := Val) c (hold c m) m where
  split := by
    iintro H
    isplitl [H]
    · iexact H
    iintro H
    iexact H

instance Holds.tail {c : Dev nD} {P R : sProp (MT nD τ sig Unit Val ℕ (UR sig nD τ) ℕ)} {s : Shape} {e : EltTy} {m : Memref sig .tc .vmem s e}
    [h : Holds c R m] : Holds c iprop(P ∗ R) m where
  split := by
    refine (sep_mono .rfl h.split).trans ?_
    iintro ⟨HP, Hm, Hk⟩
    isplitl [Hm]
    · iexact Hm
    iintro Hm
    isplitl [HP]
    · iexact HP
    iapply Hk
    iexact Hm

instance Holds.writable {c : Dev nD} {R : sProp (MT nD τ sig Unit Val ℕ (UR sig nD τ) ℕ)} {s : Shape} {e : EltTy} {m : Memref sig .tc .vmem s e}
    [h : Holds c R m] : Writable c R m where
  lend := by
    refine h.split.trans ?_
    unfold hold
    iintro ⟨⟨%f, Hf⟩, Hk⟩
    iexists f
    isplitl [Hf]
    · iexact Hf
    iintro %f' Hf
    iapply Hk
    iexists f'
    iexact Hf

/-- A block at known contents is a block at some. -/
theorem hold_of_owns (c : Dev nD) {s : Shape} {e : EltTy} (m : Memref sig .tc .vmem s e) (X : s.Idx → Val e) :
    (owns (c : Thread nD τ) m fullShare X : sProp (MT nD τ sig Unit Val ℕ (UR sig nD τ) ℕ)) ⊢ hold c m := by
  unfold owns hold
  iintro ⟨%f, %h, Hf⟩
  iexists f
  iexact Hf

theorem owns_of_hold (c : Dev nD) {s : Shape} {e : EltTy} (m : Memref sig .tc .vmem s e) :
    (hold c m : sProp (MT nD τ sig Unit Val ℕ (UR sig nD τ) ℕ)) ⊢ iprop(∃ X, ⌜True⌝ ∗ owns (c : Thread nD τ) m fullShare X) := by
  unfold owns hold
  iintro ⟨%f, Hf⟩
  iexists (m.view.read Val f)
  isplitr
  · ipureintro; trivial
  iexists f
  isplitr
  · ipureintro; rfl
  iexact Hf

/-- A whole buffer at some contents, as the memref of all of it. -/
theorem hold_of_whole (c : Dev nD) (b : Ref sig .tc) :
    iprop(∃ f : Buf Val ((c : Thread nD τ).loc b), ((c : Thread nD τ).loc b) ↦{fullShare} f)
      ⊢ (hold c (Memref.whole b) : sProp (MT nD τ sig Unit Val ℕ (UR sig nD τ) ℕ)) := by
  unfold hold
  simp only [Memref.view_whole, View.set_whole]
  exact .rfl

theorem whole_of_hold (c : Dev nD) (b : Ref sig .tc) :
    (hold c (Memref.whole b) : sProp (MT nD τ sig Unit Val ℕ (UR sig nD τ) ℕ))
      ⊢ iprop(∃ f : Buf Val ((c : Thread nD τ).loc b), ((c : Thread nD τ).loc b) ↦{fullShare} f) := by
  unfold hold
  simp only [Memref.view_whole, View.set_whole]
  exact .rfl

end Cert.Proof.Shape

end
-- ==== Proof.AttentionFrame.lean ====
/-
  The attention's frame: from any launch memory, the call runs to its end, leaves its seven arguments as they were
  and every semaphore at zero.

  The body's invariant is the plainest there is. It holds its eight current blocks and its thirteen scratch buffers,
  whatever they contain, before and after every point; `body_safe` runs it on that. Nothing is claimed about what the
  blocks hold, so no relation links what the body finds in a block to what it leaves there (`after` is `True`).
-/
module

public import proofs.«01_k».proof.Defs
public import proofs.«01_k».proof.Proof.Gen.Kernel
public import proofs.«01_k».proof.Proof.Gen.Kernel.Launch
public import proofs.«01_k».proof.Proof.Gen.Kernel.Points
public import proofs.«01_k».proof.Proof.Gen.Kernel.Frame
public import proofs.«01_k».proof.Proof.Body
public import proofs.«01_k».proof.Proof.Hold

@[expose] public section

set_option maxRecDepth 16384
set_option synthInstance.maxSize 4096

noncomputable section

namespace Cert.Proof.Attention

open Cert.Kernel Cert.Kernel.Gen Cert.Proof.Shape
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [BitOps F]

section Blocks
variable (c : Dev nD) {i : grid0.Coords}
variable {a2 : Memref sig .tc .vmem S1x2048x128 .bf16} {h2 : a2.IsWhole}
variable {a3 : Memref sig .tc .vmem S1x16x128 .f32} {h3 : a3.IsWhole}
variable {a4 : Memref sig .tc .vmem S1x4096x128 .bf16} {h4 : a4.IsWhole}
variable {a5 : Memref sig .tc .vmem S1x4096x256 .bf16} {h5 : a5.IsWhole}
variable {a6 : Memref sig .tc .vmem S1x2048x256 .bf16} {h6 : a6.IsWhole}
variable {a7 : Memref sig .tc .vmem S3x16x128x128 .f32} {h7 : a7.IsWhole}
variable {a8 : Memref sig .tc .vmem S16x256x128 .bf16} {h8 : a8.IsWhole}
variable {a9 : Memref sig .tc .vmem S1x128x2048 .bf16} {h9 : a9.IsWhole}
variable {a10 : Memref sig .tc .vmem S8x512x128 .i32} {h10 : a10.IsWhole}
variable {a11 : Memref sig .tc .vmem S8x512x128 .i16} {h11 : a11.IsWhole}
variable {a12 : Memref sig .tc .vmem S8x512x128 .i16} {h12 : a12.IsWhole}
variable {a13 : Memref sig .tc .vmem S8x512x128 .i16} {h13 : a13.IsWhole}
variable {a14 : Memref sig .tc .vmem S33x128x128 .f32} {h14 : a14.IsWhole}
variable {a15 : Memref sig .tc .vmem S2x512x2048 .f32} {h15 : a15.IsWhole}
variable {a16 : Memref sig .tc .vmem S4x512x512 .f32} {h16 : a16.IsWhole}
variable {a17 : Memref sig .tc .vmem S4x512x512 .bf16} {h17 : a17.IsWhole}
variable {a18 : Memref sig .tc .vmem S4x512x128 .f32} {h18 : a18.IsWhole}
variable {a19 : Memref sig .tc .vmem S2048x256 .f32} {h19 : a19.IsWhole}
variable {a20 : Memref sig .tc .vmem S2048x128 .f32} {h20 : a20.IsWhole}
variable {a21 : Memref sig .tc .vmem S2048x128 .f32} {h21 : a21.IsWhole}
variable {a22 : Memref sig .tc .vmem S8x128 .i32} {h22 : a22.IsWhole}

/-- The body's memory: its eight blocks and thirteen scratch buffers, at any contents. -/
def memory (a2 : Memref sig .tc .vmem S1x2048x128 .bf16) (a3 : Memref sig .tc .vmem S1x16x128 .f32) (a4 : Memref sig .tc .vmem S1x4096x128 .bf16) (a5 : Memref sig .tc .vmem S1x4096x256 .bf16) (a6 : Memref sig .tc .vmem S1x2048x256 .bf16) (a7 : Memref sig .tc .vmem S3x16x128x128 .f32) (a8 : Memref sig .tc .vmem S16x256x128 .bf16) (a9 : Memref sig .tc .vmem S1x128x2048 .bf16) (a10 : Memref sig .tc .vmem S8x512x128 .i32) (a11 : Memref sig .tc .vmem S8x512x128 .i16) (a12 : Memref sig .tc .vmem S8x512x128 .i16) (a13 : Memref sig .tc .vmem S8x512x128 .i16) (a14 : Memref sig .tc .vmem S33x128x128 .f32) (a15 : Memref sig .tc .vmem S2x512x2048 .f32) (a16 : Memref sig .tc .vmem S4x512x512 .f32) (a17 : Memref sig .tc .vmem S4x512x512 .bf16) (a18 : Memref sig .tc .vmem S4x512x128 .f32) (a19 : Memref sig .tc .vmem S2048x256 .f32) (a20 : Memref sig .tc .vmem S2048x128 .f32) (a21 : Memref sig .tc .vmem S2048x128 .f32) (a22 : Memref sig .tc .vmem S8x128 .i32) : sProp (MT nD τ sig Unit (Elt F) ℕ (UR sig nD τ) ℕ) :=
  iprop(hold c a2 ∗ hold c a3 ∗ hold c a4 ∗ hold c a5 ∗ hold c a6 ∗ hold c a7 ∗ hold c a8 ∗ hold c a9 ∗ hold c a10 ∗ hold c a11 ∗ hold c a12 ∗ hold c a13 ∗ hold c a14 ∗ hold c a15 ∗ hold c a16 ∗ hold c a17 ∗ hold c a18 ∗ hold c a19 ∗ hold c a20 ∗ hold c a21 ∗ hold c a22)

/-- On its memory the body runs to its end and hands the memory back. -/
theorem body_run : memory (F := F) c a2 a3 a4 a5 a6 a7 a8 a9 a10 a11 a12 a13 a14 a15 a16 a17 a18 a19 a20 a21 a22
    ⊢ wp frame (wpE (Ix := Unit) (Name := ℕ) (U := UR sig nD τ) (Lvl := ℕ) (defs₀ (F := F)) Variants.none (c : Thread nD τ) none) Set.univ
        (cc0_dsa_attention (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22)
        (fun _ => memory (F := F) c a2 a3 a4 a5 a6 a7 a8 a9 a10 a11 a12 a13 a14 a15 a16 a17 a18 a19 a20 a21 a22) := by
  unfold memory
  exact body_safe.run
end Blocks

variable (m : (ℓ : Loc nD τ sig) → Buf (Elt F) ℓ) (ρ : Dev nD → PrngReg)

/-- The arrays as the region finds them; the body may leave anything in any block. -/
def rdat (c : Dev nD) : RDat τ (Elt F) Unit ℕ (UR sig nD τ) ℕ (cfgs 0) c where
  A w := V m c (Pipeline.arrRef spec0 w)
  after _ _ _ _ := True
  Φ _ := Pipeline.ΦA spec0 c
  q _ := fullShare
  owed _ := 0

/-- The body's memory at grid point `t`. -/
abbrev memoryAt (c : Dev nD) (t : Fin cfg0.N) : sProp (MT nD τ sig Unit (Elt F) ℕ (UR sig nD τ) ℕ) :=
  memory (F := F) c (st0_0 t) (st0_1 t) (st0_2 t) (st0_3 t) (st0_4 t) (st0_5 t) (st0_6 t) (st0_7 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) (Memref.whole cc0_scratch12)

/-- What the pipeline hands the body, read as the body's memory beside what the body does not touch. -/
theorem memory_in (c : Dev nD) (t : Fin cfg0.N) (Z : sProp (MT nD τ sig Unit (Elt F) ℕ (UR sig nD τ) ℕ))
    (Y : (w : Fin cfg0.W) → (cfg0.win w).block.Idx → Elt F (cfg0.win w).elt) :
    iprop(Pipeline.ΦA spec0 c ∗ Z ∗ bigSep Finset.univ fun w => owns (c : Thread nD τ) ((cfg0.win w).stage (cfg0.slots t w)) fullShare (Y w))
      ⊢ iprop(memoryAt (F := F) c t ∗ (∃ r, prngReg c r) ∗ Z) := by
  unfold Pipeline.ΦA memoryAt memory
  rw [scopedRest0_eq, bigSep_W0]
  iintro ⟨⟨⟨S0, S1, S2, S3, S4, S5, S6, S7, S8, S9, S10, S11, S12⟩, Hp⟩, Ho, W0, W1, W2, W3, W4, W5, W6, W7⟩
  ihave W0 := hold_of_owns c _ _ $$ W0
  ihave W1 := hold_of_owns c _ _ $$ W1
  ihave W2 := hold_of_owns c _ _ $$ W2
  ihave W3 := hold_of_owns c _ _ $$ W3
  ihave W4 := hold_of_owns c _ _ $$ W4
  ihave W5 := hold_of_owns c _ _ $$ W5
  ihave W6 := hold_of_owns c _ _ $$ W6
  ihave W7 := hold_of_owns c _ _ $$ W7
  ihave S0 := hold_of_whole c cc0_scratch0 $$ S0
  ihave S1 := hold_of_whole c cc0_scratch1 $$ S1
  ihave S2 := hold_of_whole c cc0_scratch2 $$ S2
  ihave S3 := hold_of_whole c cc0_scratch3 $$ S3
  ihave S4 := hold_of_whole c cc0_scratch4 $$ S4
  ihave S5 := hold_of_whole c cc0_scratch5 $$ S5
  ihave S6 := hold_of_whole c cc0_scratch6 $$ S6
  ihave S7 := hold_of_whole c cc0_scratch7 $$ S7
  ihave S8 := hold_of_whole c cc0_scratch8 $$ S8
  ihave S9 := hold_of_whole c cc0_scratch9 $$ S9
  ihave S10 := hold_of_whole c cc0_scratch10 $$ S10
  ihave S11 := hold_of_whole c cc0_scratch11 $$ S11
  ihave S12 := hold_of_whole c cc0_scratch12 $$ S12
  iframe

/-- The body's memory handed back to the pipeline. -/
theorem memory_out (c : Dev nD) (t : Fin cfg0.N) (Z : sProp (MT nD τ sig Unit (Elt F) ℕ (UR sig nD τ) ℕ)) :
    iprop(memoryAt (F := F) c t ∗ (∃ r, prngReg c r) ∗ Z)
      ⊢ iprop(Pipeline.ΦA spec0 c ∗ Z ∗ bigSep Finset.univ fun w => iprop(∃ X, ⌜True⌝ ∗ owns (c : Thread nD τ) ((cfg0.win w).stage (cfg0.slots t w)) fullShare X)) := by
  unfold Pipeline.ΦA memoryAt memory
  rw [scopedRest0_eq, bigSep_W0]
  iintro ⟨⟨W0, W1, W2, W3, W4, W5, W6, W7, S0, S1, S2, S3, S4, S5, S6, S7, S8, S9, S10, S11, S12⟩, Hp, Ho⟩
  ihave W0 := owns_of_hold c _ $$ W0
  ihave W1 := owns_of_hold c _ $$ W1
  ihave W2 := owns_of_hold c _ $$ W2
  ihave W3 := owns_of_hold c _ $$ W3
  ihave W4 := owns_of_hold c _ $$ W4
  ihave W5 := owns_of_hold c _ $$ W5
  ihave W6 := owns_of_hold c _ $$ W6
  ihave W7 := owns_of_hold c _ $$ W7
  ihave S0 := whole_of_hold c cc0_scratch0 $$ S0
  ihave S1 := whole_of_hold c cc0_scratch1 $$ S1
  ihave S2 := whole_of_hold c cc0_scratch2 $$ S2
  ihave S3 := whole_of_hold c cc0_scratch3 $$ S3
  ihave S4 := whole_of_hold c cc0_scratch4 $$ S4
  ihave S5 := whole_of_hold c cc0_scratch5 $$ S5
  ihave S6 := whole_of_hold c cc0_scratch6 $$ S6
  ihave S7 := whole_of_hold c cc0_scratch7 $$ S7
  ihave S8 := whole_of_hold c cc0_scratch8 $$ S8
  ihave S9 := whole_of_hold c cc0_scratch9 $$ S9
  ihave S10 := whole_of_hold c cc0_scratch10 $$ S10
  ihave S11 := whole_of_hold c cc0_scratch11 $$ S11
  ihave S12 := whole_of_hold c cc0_scratch12 $$ S12
  iframe

/-- The body table's row at a point is the body on that point's blocks. -/
theorem body_at (t : Fin cfg0.N) : defs₀ (F := F) .tc cfg0.body (cfg0.bodyArgs t (cfg0.slots t)) = bodyAt0 t := by
  unfold defs₀; rw [Defs.onTc_tc]

/-- At a point the body runs on its memory and hands it back. -/
theorem body_run_at (c : Dev nD) (t : Fin cfg0.N) : memoryAt (F := F) c t
    ⊢ wp frame (wpE (Ix := Unit) (Name := ℕ) (U := UR sig nD τ) (Lvl := ℕ) (defs₀ (F := F)) Variants.none (c : Thread nD τ) none) Set.univ
        (bodyAt0 t) (fun _ => memoryAt (F := F) c t) :=
  body_run c

/-- The body at every grid point, from any contents to any contents. -/
theorem body_obligation (c : Dev nD) : (rdat m c).BodyObligation defs₀ Variants.none () Set.univ := by
  intro t Y _
  rw [show defs₀ (F := F) .tc (cfgs 0).body ((cfgs 0).bodyArgs t ((cfgs 0).slots t)) = bodyAt0 t from body_at t]
  refine BIBase.Entails.trans (memory_in c t _ Y) ?_
  refine BIBase.Entails.trans (sep_mono_left (body_run_at c t)) ?_
  exact BIBase.Entails.trans (wp_frame_r _ _ _) (wp_mono _ _ _ fun _ => memory_out c t _)

set_option backward.isDefEq.respectTransparency.types false in
/-- The call's run: every weakly fair execution ends, with the inputs kept and the semaphores at zero. -/
theorem run : θ_run defs (onTc (τ := τ) (main (F := F))) (s₀ m ρ)
    (fun r => RDat.FramePost (cfgs 0) (rdat m) (V m) r ∧ r.2.sem = fun _ => 0) :=
  RDat.θ_run_frame (Q' := _) cfgs 0 launch0 defs₀ Variants.none (rdat m) m ρ main
    (hbody := body_obligation m) (hshare := fun c w => by unfold RDat.share; split <;> rfl)
    (howed := fun _ _ => rfl) (V := V m) (hmain := hmain m Variants.none) (hA := fun _ _ => rfl) (hΦ := fun _ _ => rfl)

/-- The frame: the seven arguments end as they were launched, and every semaphore ends at zero. -/
theorem quiescent : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
     ⟨(h.1.arr_in c 0 rfl).trans (V_main_arg0 m c),
      (h.1.arr_in c 1 rfl).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (h.1.arr_in c 4 rfl).trans (V_main_arg4 m c),
      (h.1.arr_in c 5 rfl).trans (V_main_arg5 m c),
      (h.1.arr_in c 6 rfl).trans (V_main_arg6 m c)⟩, h.2⟩) (run m ρ)

end Cert.Proof.Attention

end
-- ==== Proof.FfnInValue.lean ====
/-
  The SwiGLU's first half: every tile the kernel writes is, whichever tile of its row block it is, made of the same
  normalised rows, which the first tile of the row block leaves in the scratch; and the tiles, put together, are
  silu of one whole product times the other.
-/
module

public import proofs.«01_k».proof.Defs
public import proofs.«01_k».proof.Proof.Gen.FfnInIdeal.Value
public import proofs.«01_k».proof.Proof.Gen.FfnInReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnInReferenceIdeal.RefValue

open Cert.FfnInReferenceIdeal Cert.FfnInReferenceIdeal.Gen

/-- The reference's normalised and modulated activations. -/
abbrev H (x : FVec Ideal S4x4096x2048 .f32) (mod : FVec Ideal S4x12288 .f32) (g : FVec Ideal S1x2048 .f32) : FVec Ideal S4x4096x2048 .f32 :=
  addf (mulf (mulf (mulf x (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf x x) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 (shapeCast _ g shapeCasts_S1x2048_S2048)))) (broadcastInDim S4x4096x2048 ![0, 1, 2] bcast_S4x1x2048_S4x4096x2048_0_1_2 (addf (broadcastInDim S4x1x2048 ![] bcast_S_S4x1x2048 (constant S_ .f32 0x3F800000#32)) (extractStridedSlice S4x1x2048 ![0, 0, 8192] (broadcastInDim S4x1x12288 ![0, 2] bcast_S4x12288_S4x1x12288_0_2 mod) slices_S4x1x12288_S4x1x2048_0_0_8192)))) (broadcastInDim S4x4096x2048 ![0, 1, 2] bcast_S4x1x2048_S4x4096x2048_0_1_2 (extractStridedSlice S4x1x2048 ![0, 0, 6144] (broadcastInDim S4x1x12288 ![0, 2] bcast_S4x12288_S4x1x12288_0_2 mod) slices_S4x1x12288_S4x1x2048_0_0_6144))

/-- The reference's result, of its activations and its two weights. -/
abbrev GU (h : FVec Ideal S4x4096x2048 .f32) (wg wu : FVec Ideal S1x2048x5632 .f32) : FVec Ideal S16384x5632 .bf16 :=
  truncf .bf16 (shapeCast _ (mulf (mulf (Host.dotGeneral dot_S4x4096x2048_S2048x5632_S4x4096x5632_2_0_01_1_n_n none h (shapeCast _ wg shapeCasts_S1x2048x5632_S2048x5632)) (Host.divf (broadcastInDim S4x4096x5632 ![] bcast_S_S4x4096x5632 (constant S_ .f32 0x3F800000#32)) (addf (broadcastInDim S4x4096x5632 ![] bcast_S_S4x4096x5632 (constant S_ .f32 0x3F800000#32)) (Host.exp (Host.negf (Host.dotGeneral dot_S4x4096x2048_S2048x5632_S4x4096x5632_2_0_01_1_n_n none h (shapeCast _ wg shapeCasts_S1x2048x5632_S2048x5632))))))) (Host.dotGeneral dot_S4x4096x2048_S2048x5632_S4x4096x5632_2_0_01_1_n_n none h (shapeCast _ wu shapeCasts_S1x2048x5632_S2048x5632))) shapeCasts_S4x4096x5632_S16384x5632) bitsLt_bf16_f32

/-- The reference's result as a function of its arguments. -/
abbrev REF (x : FVec Ideal S4x4096x2048 .f32) (mod : FVec Ideal S4x12288 .f32) (g : FVec Ideal S1x2048 .f32) (wg wu : FVec Ideal S1x2048x5632 .f32) : FVec Ideal S16384x5632 .bf16 :=
  GU (H x mod g) wg wu

end Cert.FfnInReferenceIdeal.RefValue

namespace Cert.FfnInIdeal.RefValue

open Cert.FfnInIdeal Cert.FfnInIdeal.Gen
open Cert.FfnInReferenceIdeal.RefValue (H GU REF)

variable (m : (ℓ : Loc nD τ sig) → Buf (Elt Ideal) ℓ)

/-- Which block each window is on, at every grid point. -/
theorem idx : ∀ t : Fin cfg0.N, win0_0.index t = ![t.val / 11, 0] ∧ win0_1.index t = ![0, 0]
    ∧ win0_2.index t = ![t.val / 44, 0, 0] ∧ win0_3.index t = ![t.val / 44, 0, 0]
    ∧ win0_4.index t = ![0, t.val % 11] ∧ win0_5.index t = ![0, t.val % 11] ∧ win0_6.index t = ![t.val / 11, t.val % 11] :=
  (by decide +kernel : ∀ t : Fin grid0.N, _)

/-! ## The strips of the norm -/

/-- The normalised block, of the blocks the norm reads: row `a` is worked out in the strip of 32 rows it lies in. -/
def rows (x : Vec Ideal S1024x2048 .f32) (g : Vec Ideal S1x2048 .f32) (sc sh : Vec Ideal S1x1x2048 .f32) : Vec Ideal S1024x2048 .bf16 :=
  fun y => k0_pay1 g sc (fun z => x (ix2 ⟨(y 0).val / 32 * 32 + (z 0).val, by have h := (y 0).isLt; have h' := (z 0).isLt; change (y 0).val < 1024 at h; change (z 0).val < 32 at h'; omega⟩ (z 1))) sh
    (ix2 ⟨(y 0).val % 32, Nat.mod_lt _ (by decide)⟩ (y 1))

/-- Where trip `k` of the loop starts. -/
theorem off : ∀ k : Fin k0_t1_loop.trips, k0_off1 k = ![32 * k.val, 0] := by decide +kernel

/-- What trip `k` writes: its strip. -/
theorem trip_eq (𝒱 : Variants) (c : Dev nD) (bd : Option 𝒱.V) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S1024x512 .bf16) (harg8 : arg8.IsWhole) (arg9 : Memref sig .tc .vmem S1024x2048 .bf16) (harg9 : arg9.IsWhole) (h1 : k0_cond1 i = 1#1) (v17 : Vec Ideal S1x2048 .f32) (v19 : Vec Ideal S1x1x2048 .f32) (X2 : BufTy.Contents (Elt Ideal) arg2.view.ty) (X5 : BufTy.Contents (Elt Ideal) arg5.view.ty) (k : Fin k0_t1_loop.trips) :
    tripL_k0_t1 (F := Ideal) 𝒱 c bd i arg2 harg2 arg3 harg3 arg4 harg4 arg5 harg5 arg6 harg6 arg7 harg7 arg8 harg8 arg9 harg9 h1 v17 v19 X2 X5 k
    = [⟨Rect.unit (s := S1024x2048) (k0_off1 k) S32x2048.size (k0_off1_inb i k h1),
        k0_pay1 v17 v19 (arg2.view.readAt (Elt Ideal) (Rect.unit (s := S1024x2048) (k0_off1 k) S32x2048.size (k0_off1_inb i k h1)).toLoadRect X2)
          (arg5.view.readAt (Elt Ideal) (Rect.unit (s := S1x1x2048) ![0, 0, 0] S1x1x2048.size inb_S1x1x2048_S1x1x2048_0_0_0).toLoadRect X5)⟩] := by
  unfold tripL_k0_t1 trip_k0_t1
  rfl

/-- Every strip the loop writes is that strip of the normalised block. -/
theorem strips (𝒱 : Variants) (c : Dev nD) (bd : Option 𝒱.V) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S1024x512 .bf16) (harg8 : arg8.IsWhole) (arg9 : Memref sig .tc .vmem S1024x2048 .bf16) (harg9 : arg9.IsWhole) (h1 : k0_cond1 i = 1#1) (v17 : Vec Ideal S1x2048 .f32) (v19 : Vec Ideal S1x1x2048 .f32) (X2 : BufTy.Contents (Elt Ideal) arg2.view.ty) (X5 : BufTy.Contents (Elt Ideal) arg5.view.ty) : ∀ n : ℕ, n ≤ k0_t1_loop.trips →
    ∀ p ∈ pb_k0_t1 (F := Ideal) 𝒱 c bd i arg2 harg2 arg3 harg3 arg4 harg4 arg5 harg5 arg6 harg6 arg7 harg7 arg8 harg8 arg9 harg9 h1 v17 v19 X2 X5 n, ∀ x : p.1.shape.Idx,
      p.2 x = rows (arg2.view.read (Elt Ideal) X2) v17 v19 (arg5.view.read (Elt Ideal) X5) (p.1.emb x) := by
  intro n
  induction n with
  | zero => intro _ p hp; exact absurd hp List.not_mem_nil
  | succ n ih =>
    intro hn p hp x
    rw [pb_k0_t1_succ (F := Ideal) 𝒱 c bd i arg2 harg2 arg3 harg3 arg4 harg4 arg5 harg5 arg6 harg6 arg7 harg7 arg8 harg8 arg9 harg9 h1 v17 v19 X2 X5 ⟨n, hn⟩, trip_eq] at hp
    rcases List.mem_append.mp hp with h | h
    · obtain rfl := List.mem_singleton.mp h
      have E0 : ∀ z : S32x2048.Idx, ((Rect.unit (s := S1024x2048) (k0_off1 ⟨n, hn⟩) S32x2048.size (k0_off1_inb i ⟨n, hn⟩ h1)).emb z 0).val = 32 * n + (z 0).val := by
        intro z
        blk_simp [off]
      have E1 : ∀ z : S32x2048.Idx, ((Rect.unit (s := S1024x2048) (k0_off1 ⟨n, hn⟩) S32x2048.size (k0_off1_inb i ⟨n, hn⟩ h1)).emb z 1).val = (z 1).val := by
        intro z
        blk_simp [off]
      have e0 := E0 x
      have e1 := E1 x
      have hx : (x 0).val < 32 := (x 0).isLt
      have eB : arg5.view.readAt (Elt Ideal) (Rect.unit (s := S1x1x2048) ![0, 0, 0] S1x1x2048.size inb_S1x1x2048_S1x1x2048_0_0_0).toLoadRect X5 = arg5.view.read (Elt Ideal) X5 := by
        funext z
        rw [View.readAt_apply]
        blk_ext
        all_goals exact (Rect.idx_unit_val _ _ _ _ _).trans (Nat.zero_add _)
      have eA : arg2.view.readAt (Elt Ideal) (Rect.unit (s := S1024x2048) (k0_off1 ⟨n, hn⟩) S32x2048.size (k0_off1_inb i ⟨n, hn⟩ h1)).toLoadRect X2
          = fun z => arg2.view.read (Elt Ideal) X2 (ix2 ⟨((Rect.unit (s := S1024x2048) (k0_off1 ⟨n, hn⟩) S32x2048.size (k0_off1_inb i ⟨n, hn⟩ h1)).emb x 0).val / 32 * 32 + (z 0).val, by have h' := (z 0).isLt; change (z 0).val < 32 at h'; have := hn; rw [e0]; have : n < 32 := hn; omega⟩ (z 1)) := by
        funext z
        rw [View.readAt_apply]
        refine congrArg (arg2.view.read (Elt Ideal) X2) ((eq_ix2 _).trans (congrArg₂ ix2 (Fin.ext ?_) (Fin.ext ?_)))
        · have hz : (z 0).val < 32 := (z 0).isLt
          exact (E0 z).trans (by show 32 * n + (z 0).val = _ / 32 * 32 + (z 0).val; rw [e0]; omega)
        · exact E1 z
      show k0_pay1 v17 v19 _ _ x = k0_pay1 v17 v19 _ _ _
      rw [eA, eB]
      refine congrArg (k0_pay1 v17 v19 _ _) ?_
      refine (eq_ix2 x).trans (congrArg₂ ix2 (Fin.ext ?_) (Fin.ext ?_))
      · exact ((congrArg (· % 32) e0).trans (by omega : (32 * n + (x 0).val) % 32 = (x 0).val)).symm
      · exact e1.symm
    · exact ih (by omega) p h x

/-! ## What the blocks hold -/

/-- The activation's block at point `t`. -/
theorem x_at (c : Dev nD) (t : Fin cfg0.N) (a : Fin 1024) (k : Fin 2048) :
    iblk m c 0 t (ix2 a k) = m ((c : Thread nD τ).loc main_arg0) (ix3 ⟨(t.val / 11 * 1024 + a.val) / 4096, by have := lt_of_lt_of_eq t.isLt N_0; omega⟩ ⟨(t.val / 11 * 1024 + a.val) % 4096, by omega⟩ k) := by
  blk_simp [iblk, idx t]
  entry_read
  pointwise
  blk_ext [idx t]

/-- The norm's weight. -/
theorem g_at (c : Dev nD) (t : Fin cfg0.N) (k : Fin 2048) :
    iblk m c 1 t (ix2 0 k) = m ((c : Thread nD τ).loc main_arg2) (ix2 0 k) := by
  blk_simp [iblk, idx t]
  entry_read
  pointwise
  blk_ext [idx t]

/-- The scale's block at point `t`. -/
theorem sc_at (c : Dev nD) (t : Fin cfg0.N) (k : Fin 2048) :
    iblk m c 2 t (ix3 0 0 k) = m ((c : Thread nD τ).loc main_arg1) (ix2 ⟨t.val / 44, by have := lt_of_lt_of_eq t.isLt N_0; omega⟩ ⟨8192 + k.val, by omega⟩) := by
  blk_simp [iblk, idx t]
  entry_read
  pointwise
  blk_ext [idx t]

/-- The shift's block at point `t`. -/
theorem sh_at (c : Dev nD) (t : Fin cfg0.N) (k : Fin 2048) :
    iblk m c 3 t (ix3 0 0 k) = m ((c : Thread nD τ).loc main_arg1) (ix2 ⟨t.val / 44, by have := lt_of_lt_of_eq t.isLt N_0; omega⟩ ⟨6144 + k.val, by omega⟩) := by
  blk_simp [iblk, idx t]
  entry_read
  pointwise
  blk_ext [idx t]

/-- The gate's weight block at point `t`. -/
theorem wg_at (c : Dev nD) (t : Fin cfg0.N) (k : Fin 2048) (b : Fin 512) :
    iblk m c 4 t (ix2 k b) = m ((c : Thread nD τ).loc main_arg3) (ix3 0 k ⟨t.val % 11 * 512 + b.val, by omega⟩) := by
  blk_simp [iblk, idx t]
  entry_read
  pointwise
  blk_ext [idx t]

/-- The other weight's block at point `t`. -/
theorem wu_at (c : Dev nD) (t : Fin cfg0.N) (k : Fin 2048) (b : Fin 512) :
    iblk m c 5 t (ix2 k b) = m ((c : Thread nD τ).loc main_arg4) (ix3 0 k ⟨t.val % 11 * 512 + b.val, by omega⟩) := by
  blk_simp [iblk, idx t]
  entry_read
  pointwise
  blk_ext [idx t]

/-- The normalised block at point `t` is the reference's activations at its rows: the gain the kernel multiplies in at
    once is the norm's weight times the modulation's factor. -/
theorem rows_at (c : Dev nD) (t : Fin cfg0.N) (a : Fin 1024) (k : Fin 2048) (p : Fin 4) (q : Fin 4096)
    (hp : p.val = (t.val / 11 * 1024 + a.val) / 4096) (hq : q.val = (t.val / 11 * 1024 + a.val) % 4096) :
    rows (iblk m c 0 t) (iblk m c 1 t) (iblk m c 2 t) (iblk m c 3 t) (ix2 a k) = H (m ((c : Thread nD τ).loc main_arg0)) (m ((c : Thread nD τ).loc main_arg1)) (m ((c : Thread nD τ).loc main_arg2)) (ix3 p q k) := by
  have ht := lt_of_lt_of_eq t.isLt N_0
  pointwise [rows, k0_pay1, H]
  rw [← mul_assoc]
  reads_congr
  all_goals first | refine (x_at m c t _ _).trans ?_ | refine (g_at m c t _).trans ?_ | refine (sc_at m c t _).trans ?_ | refine (sh_at m c t _).trans ?_
  all_goals blk_ext

/-- The reference's activations at row `a` of row block `n`. -/
abbrev blockRow (c : Dev nD) (n : ℕ) (hn : n < 16) (a : Fin 1024) (k : Fin 2048) : EReal :=
  H (m ((c : Thread nD τ).loc main_arg0)) (m ((c : Thread nD τ).loc main_arg1)) (m ((c : Thread nD τ).loc main_arg2)) (ix3 ⟨(n * 1024 + a.val) / 4096, by omega⟩ ⟨(n * 1024 + a.val) % 4096, by omega⟩ k)

/-- The same, at the row block's own rows. -/
theorem rows_block (c : Dev nD) (t : Fin cfg0.N) (a : Fin 1024) (k : Fin 2048) :
    rows (iblk m c 0 t) (iblk m c 1 t) (iblk m c 2 t) (iblk m c 3 t) (ix2 a k)
    = blockRow m c (t.val / 11) (by have := lt_of_lt_of_eq t.isLt N_0; omega) a k :=
  rows_at m c t a k _ _ rfl rfl

/-- The strips' pieces at a row block's first point leave the normalised block. -/
theorem strips_at (c : Dev nD) (t : Fin cfg0.N) (h0 : t.val % 11 = 0) (y : S1024x2048.Idx) :
    View.canon (pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 1 t) (iblk m c 2 t) ((hs0_0 t).unread (iblk m c 0 t)) ((hs0_3 t).unread (iblk m c 3 t)) (Scf.trips 0#32 (Scalar.addi 0#32 32#32) 1#32)) y
    = rows (iblk m c 0 t) (iblk m c 1 t) (iblk m c 2 t) (iblk m c 3 t) y := by
  refine View.canon_apply_of_pieces _ _ (fun p hp x => ?_) y (View.cover_of_tiledL (pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 1 t) (iblk m c 2 t) ((hs0_0 t).unread (iblk m c 0 t)) ((hs0_3 t).unread (iblk m c 3 t)) (Scf.trips 0#32 (Scalar.addi 0#32 32#32) 1#32)) S32x2048.size (by sl_kernel_rfl) y)
  have h := strips _ _ _ _ _ _ _ _ _ _ _ _ _ _ _ _ _ _ _ _ _ _ _ _ _ _ le_rfl p hp x
  rw [(hs0_0 t).read_unread, (hs0_3 t).read_unread] at h
  exact h

/-- After every point the scratch holds the reference's activations at the rows of the point's row block. -/
theorem scratch (c : Dev nD) : ∀ (n : ℕ) (h : n < cfg0.N) (a : Fin 1024) (k : Fin 2048),
    (outsAt0 m c n h).2 (ix2 a k) = blockRow m c (n / 11) (by have := lt_of_lt_of_eq h N_0; omega) a k := by
  intro n
  induction n using Nat.strong_induction_on with
  | _ n ih =>
    intro h a k
    by_cases h0 : n % 11 = 0
    · rw [outsAt0_A m c ⟨n, h⟩ h0]
      frame_out
      exact (strips_at m c ⟨n, h⟩ h0 _).trans (rows_block m c ⟨n, h⟩ a k)
    · have e : (n - 1) / 11 = n / 11 := by omega
      rw [outsAt0_B m c ⟨n, h⟩ h0]
      refine (ih (n - 1) (by omega) _ a k).trans ?_
      simp only [blockRow, e]

/-! ## The tiles -/

/-- Where block index `y` of point `t` sits in the result. -/
theorem place (t : Fin cfg0.N) (y : S1024x512.Idx) :
    (((cfg0.win 6).blk t).view.emb y 0).val = t.val / 11 * 1024 + (y 0).val
    ∧ (((cfg0.win 6).blk t).view.emb y 1).val = t.val % 11 * 512 + (y 1).val := by
  constructor <;> blk_simp [idx t] <;> simp

/-- A tile made of the reference's activations is the reference's tile. -/
theorem tile_at (c : Dev nD) (t : Fin cfg0.N) (s : Vec Ideal S1024x2048 .bf16)
    (hs : ∀ a k, s (ix2 a k) = blockRow m c (t.val / 11) (by have := lt_of_lt_of_eq t.isLt N_0; omega) a k)
    (a : Fin 1024) (b : Fin 512) (r : Fin 16384) (q : Fin 5632)
    (h0 : r.val = t.val / 11 * 1024 + a.val) (h1 : q.val = t.val % 11 * 512 + b.val) :
    k0_pay2 (F := Ideal) s (iblk m c 4 t) (iblk m c 5 t) (ix2 a b) = REF (m ((c : Thread nD τ).loc main_arg0)) (m ((c : Thread nD τ).loc main_arg1)) (m ((c : Thread nD τ).loc main_arg2)) (m ((c : Thread nD τ).loc main_arg3)) (m ((c : Thread nD τ).loc main_arg4)) (ix2 r q) := by
  have ht := lt_of_lt_of_eq t.isLt N_0
  show _ = GU (H (m ((c : Thread nD τ).loc main_arg0)) (m ((c : Thread nD τ).loc main_arg1)) (m ((c : Thread nD τ).loc main_arg2))) _ _ (ix2 r q)
  have hs' : ∀ a k, s (ix2 a k) = H (m ((c : Thread nD τ).loc main_arg0)) (m ((c : Thread nD τ).loc main_arg1)) (m ((c : Thread nD τ).loc main_arg2)) (ix3 _ _ k) := hs
  generalize H (m ((c : Thread nD τ).loc main_arg0)) (m ((c : Thread nD τ).loc main_arg1)) (m ((c : Thread nD τ).loc main_arg2)) = h at hs' ⊢
  pointwise [k0_pay2, GU]
  refine congrArg₂ (fun p q : EReal => p * q) (congrArg (fun z : EReal => z * Ideal.logistic z) (Finset.sum_congr rfl fun k _ => ?_)) (Finset.sum_congr rfl fun k _ => ?_)
  · refine congrArg₂ (fun p q : EReal => p * q) ((hs' a k).trans ?_) ((wg_at m c t k b).trans ?_)
    all_goals blk_ext
  · refine congrArg₂ (fun p q : EReal => p * q) ((hs' a k).trans ?_) ((wu_at m c t k b).trans ?_)
    all_goals blk_ext

/-- What point `t` leaves in its tile. -/
theorem point (c : Dev nD) (t : Fin cfg0.N) (y : S1024x512.Idx) :
    (outsAt0 m c t.val t.isLt).1 y = REF (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  obtain ⟨h0, h1⟩ := place t y
  rw [eq_ix2 (((cfg0.win 6).blk t).view.emb y)]
  by_cases h : t.val % 11 = 0
  · have hs := fun a k => (strips_at m c t h (ix2 a k)).trans (rows_block m c t a k)
    rw [outsAt0_A m c t h]
    frame_out
    refine (congrArg _ (eq_ix2 y)).trans (tile_at m c t _ ?_ (y 0) (y 1) _ _ h0 h1)
    intro a k
    rw [View.readCov_eq_canon']
    refine (congrArg _ ?_).trans (hs a k)
    blk_ext
    all_goals exact (Rect.idx_unit_val _ _ _ _ _).trans (Nat.zero_add _)
  · have hs := scratch m c (t.val - 1) (Nat.lt_of_le_of_lt (Nat.sub_le _ _) t.isLt)
    have e : (t.val - 1) / 11 = t.val / 11 := by omega
    rw [outsAt0_B m c t h]
    frame_out
    refine (congrArg _ (eq_ix2 y)).trans (tile_at m c t _ ?_ (y 0) (y 1) _ _ h0 h1)
    intro a k
    refine Eq.trans ?_ ((hs a k).trans ?_)
    · exact congrFun ((Memref.isWhole_whole _).read_unread _) _
    · simp only [blockRow, e]

/-- After the call its result is the reference's value of its arguments. -/
theorem final (c : Dev nD) : (dats m 0 c).arrAt 6 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  exact point m c t y

/-- The kernel and the reference, run on the same arguments, end with the same result. -/
theorem algebraic : Cert.algebraic_FfnInIdeal_FfnInReferenceIdeal := fun m ρ m' ρ' _ hag =>
  ⟨fun c => REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)),
    (θ_run _ _ _).mono (fun _ h c => ⟨(h c).1.trans (final m c), (h c).2⟩) (Value.run_blocks m ρ),
    (θ_run _ _ _).mono (fun _ h c => ⟨(h c).1.trans (by unfold Cert.FfnInReferenceIdeal.Value.res_main_v34; rw [(hag c).1, (hag c).2.1, (hag c).2.2.1, (hag c).2.2.2.1, (hag c).2.2.2.2]; rfl), (h c).2⟩) (Cert.FfnInReferenceIdeal.Value.run m' ρ')⟩

end Cert.FfnInIdeal.RefValue

end
-- ==== Proof.FfnDownValue.lean ====
/-
  The down projection with its gated residual and the last norm: the kernel's blocks, put together, are the norm of
  the residual plus the gate times the whole matrix product.
-/
module

public import proofs.«01_k».proof.Defs
public import proofs.«01_k».proof.Proof.Gen.FfnDownIdeal.Value
public import proofs.«01_k».proof.Proof.Gen.FfnDownReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnDownReferenceIdeal.RefValue

open Cert.FfnDownReferenceIdeal Cert.FfnDownReferenceIdeal.Gen

/-- The reference's result as a function of its arguments. -/
abbrev REF (a : FVec Ideal S4x4096x5632 .f32) (x : FVec Ideal S4x4096x2048 .f32) (mod : FVec Ideal S4x12288 .f32) (w : FVec Ideal S1x5632x2048 .f32) (fg : FVec Ideal S2048 .f32) : FVec Ideal S16384x2048 .f32 :=
  shapeCast _ (mulf (mulf (addf x (mulf (broadcastInDim S4x4096x2048 ![0, 1, 2] bcast_S4x1x2048_S4x4096x2048_0_1_2 (extractStridedSlice S4x1x2048 ![0, 0, 10240] (broadcastInDim S4x1x12288 ![0, 2] bcast_S4x12288_S4x1x12288_0_2 mod) slices_S4x1x12288_S4x1x2048_0_0_10240)) (Host.dotGeneral dot_S4x4096x5632_S5632x2048_S4x4096x2048_2_0_01_1_n_n none a (shapeCast _ w shapeCasts_S1x5632x2048_S5632x2048)))) (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf (addf x (mulf (broadcastInDim S4x4096x2048 ![0, 1, 2] bcast_S4x1x2048_S4x4096x2048_0_1_2 (extractStridedSlice S4x1x2048 ![0, 0, 10240] (broadcastInDim S4x1x12288 ![0, 2] bcast_S4x12288_S4x1x12288_0_2 mod) slices_S4x1x12288_S4x1x2048_0_0_10240)) (Host.dotGeneral dot_S4x4096x5632_S5632x2048_S4x4096x2048_2_0_01_1_n_n none a (shapeCast _ w shapeCasts_S1x5632x2048_S5632x2048)))) (addf x (mulf (broadcastInDim S4x4096x2048 ![0, 1, 2] bcast_S4x1x2048_S4x4096x2048_0_1_2 (extractStridedSlice S4x1x2048 ![0, 0, 10240] (broadcastInDim S4x1x12288 ![0, 2] bcast_S4x12288_S4x1x12288_0_2 mod) slices_S4x1x12288_S4x1x2048_0_0_10240)) (Host.dotGeneral dot_S4x4096x5632_S5632x2048_S4x4096x2048_2_0_01_1_n_n none a (shapeCast _ w shapeCasts_S1x5632x2048_S5632x2048))))) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 fg))) shapeCasts_S4x4096x2048_S16384x2048

end Cert.FfnDownReferenceIdeal.RefValue

namespace Cert.FfnDownIdeal.RefValue

open Cert.FfnDownIdeal Cert.FfnDownIdeal.Gen
open Cert.FfnDownReferenceIdeal.RefValue (REF)

variable (m : (ℓ : Loc nD τ sig) → Buf (Elt Ideal) ℓ)

/-- Which block each window is on, at every grid point. -/
theorem idx : ∀ t : Fin cfg0.N, win0_0.index t = ![t.val, 0] ∧ win0_1.index t = ![0, 0]
    ∧ win0_2.index t = ![t.val, 0] ∧ win0_3.index t = ![t.val / 8, 0, 0]
    ∧ win0_4.index t = ![0, 0] ∧ win0_5.index t = ![t.val, 0] :=
  (by decide +kernel : ∀ t : Fin grid0.N, _)

/-- The activation's block at point `t`. -/
theorem a_at (c : Dev nD) (t : Fin cfg0.N) (a : Fin 512) (k : Fin 5632) :
    iblk m c 0 t (ix2 a k) = m ((c : Thread nD τ).loc main_arg0) (ix3 ⟨(t.val * 512 + a.val) / 4096, by have := lt_of_lt_of_eq t.isLt N_0; omega⟩ ⟨(t.val * 512 + a.val) % 4096, by omega⟩ k) := by
  blk_simp [iblk, idx t]
  entry_read
  pointwise
  blk_ext [idx t]

/-- The weight at point `t`. -/
theorem w_at (c : Dev nD) (t : Fin cfg0.N) (k : Fin 5632) (b : Fin 2048) :
    iblk m c 1 t (ix2 k b) = m ((c : Thread nD τ).loc main_arg3) (ix3 0 k b) := by
  blk_simp [iblk, idx t]
  entry_read
  pointwise
  blk_ext [idx t]

/-- The residual's block at point `t`. -/
theorem x_at (c : Dev nD) (t : Fin cfg0.N) (a : Fin 512) (b : Fin 2048) :
    iblk m c 2 t (ix2 a b) = m ((c : Thread nD τ).loc main_arg1) (ix3 ⟨(t.val * 512 + a.val) / 4096, by have := lt_of_lt_of_eq t.isLt N_0; omega⟩ ⟨(t.val * 512 + a.val) % 4096, by omega⟩ b) := by
  blk_simp [iblk, idx t]
  entry_read
  pointwise
  blk_ext [idx t]

/-- The gate's block at point `t`. -/
theorem g_at (c : Dev nD) (t : Fin cfg0.N) (b : Fin 2048) :
    iblk m c 3 t (ix3 0 0 b) = m ((c : Thread nD τ).loc main_arg2) (ix2 ⟨t.val / 8, by have := lt_of_lt_of_eq t.isLt N_0; omega⟩ ⟨10240 + b.val, by omega⟩) := by
  blk_simp [iblk, idx t]
  entry_read
  pointwise
  blk_ext [idx t]

/-- The last norm's weight at point `t`. -/
theorem f_at (c : Dev nD) (t : Fin cfg0.N) (b : Fin 2048) :
    iblk m c 4 t (ix2 0 b) = m ((c : Thread nD τ).loc main_arg4) (ix1 b) := by
  blk_simp [iblk, idx t]
  entry_read
  pointwise
  blk_ext [idx t]

/-- Where block index `y` of point `t` sits in the result. -/
theorem place (t : Fin cfg0.N) (y : S512x2048.Idx) :
    (((cfg0.win 5).blk t).view.emb y 0).val = t.val * 512 + (y 0).val
    ∧ (((cfg0.win 5).blk t).view.emb y 1).val = (y 1).val := by
  constructor <;> blk_simp [idx t] <;> simp

/-- What point `t` writes at row `a` and column `b` of its block is the reference's value at that place. -/
theorem point_at (c : Dev nD) (t : Fin cfg0.N) (a : Fin 512) (b : Fin 2048) (r : Fin 16384) (s : Fin 2048)
    (h0 : r.val = t.val * 512 + a.val) (h1 : s.val = b.val) :
    k0_pay1 (F := Ideal) (iblk m c 0 t) (iblk m c 1 t) (iblk m c 2 t) (iblk m c 3 t) (iblk m c 4 t) (ix2 a b)
    = REF (m ((c : Thread nD τ).loc main_arg0)) (m ((c : Thread nD τ).loc main_arg1)) (m ((c : Thread nD τ).loc main_arg2)) (m ((c : Thread nD τ).loc main_arg3)) (m ((c : Thread nD τ).loc main_arg4)) (ix2 r s) := by
  have ht := lt_of_lt_of_eq t.isLt N_0
  pointwise [k0_pay1, REF]
  reads_congr
  all_goals first | refine (a_at m c t _ _).trans ?_ | refine (w_at m c t _ _).trans ?_ | refine (x_at m c t _ _).trans ?_ | refine (g_at m c t _).trans ?_ | refine (f_at m c t _).trans ?_
  all_goals blk_ext

/-- What point `t` writes at block index `y` is the reference's value at that block's place in the array. -/
theorem point (c : Dev nD) (t : Fin cfg0.N) (y : S512x2048.Idx) :
    k0_pay1 (F := Ideal) (iblk m c 0 t) (iblk m c 1 t) (iblk m c 2 t) (iblk m c 3 t) (iblk m c 4 t) y
    = REF (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  obtain ⟨h0, h1⟩ := place t y
  rw [eq_ix2 (((cfg0.win 5).blk t).view.emb y)]
  exact (congrArg _ (eq_ix2 y)).trans (point_at m c t (y 0) (y 1) _ _ h0 h1)

/-- After the call its result is the reference's value of its arguments. -/
theorem final (c : Dev nD) : (dats m 0 c).arrAt 5 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]; frame_out
  exact point m c t y

/-- The kernel and the reference, run on the same arguments, end with the same result. -/
theorem algebraic : Cert.algebraic_FfnDownIdeal_FfnDownReferenceIdeal := fun m ρ m' ρ' _ hag =>
  ⟨fun c => REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)),
    (θ_run _ _ _).mono (fun _ h c => ⟨(h c).1.trans (final m c), (h c).2⟩) (Value.run_blocks m ρ),
    (θ_run _ _ _).mono (fun _ h c => ⟨(h c).1.trans (by rw [(hag c).1, (hag c).2.1, (hag c).2.2.1, (hag c).2.2.2.1, (hag c).2.2.2.2]), (h c).2⟩) (Cert.FfnDownReferenceIdeal.Value.run m' ρ')⟩

end Cert.FfnDownIdeal.RefValue

end
-- ==== Proof.InZValue.lean ====
/-
  The z columns of the input projection: the kernel's blocks, put together, are silu of the whole matrix product.
-/
module

public import proofs.«01_k».proof.Defs
public import proofs.«01_k».proof.Proof.Gen.InZIdeal.Value
public import proofs.«01_k».proof.Proof.Gen.InZReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InZReferenceIdeal.RefValue

open Cert.InZReferenceIdeal Cert.InZReferenceIdeal.Gen

/-- The reference's result as a function of its two arguments. -/
abbrev REF (h : FVec Ideal S4x4096x2048 .f32) (w : FVec Ideal S1x2048x15248 .f32) : FVec Ideal S16384x4096 .bf16 :=
  truncf .bf16 (shapeCast _ (mulf (extractStridedSlice S4x4096x4096 ![0, 0, 848] (Host.dotGeneral dot_S4x4096x2048_S2048x15248_S4x4096x15248_2_0_01_1_n_n none h (shapeCast _ w shapeCasts_S1x2048x15248_S2048x15248)) slices_S4x4096x15248_S4x4096x4096_0_0_848) (Host.divf (broadcastInDim S4x4096x4096 ![] bcast_S_S4x4096x4096 (constant S_ .f32 0x3F800000#32)) (addf (broadcastInDim S4x4096x4096 ![] bcast_S_S4x4096x4096 (constant S_ .f32 0x3F800000#32)) (Host.exp (Host.negf (extractStridedSlice S4x4096x4096 ![0, 0, 848] (Host.dotGeneral dot_S4x4096x2048_S2048x15248_S4x4096x15248_2_0_01_1_n_n none h (shapeCast _ w shapeCasts_S1x2048x15248_S2048x15248)) slices_S4x4096x15248_S4x4096x4096_0_0_848)))))) shapeCasts_S4x4096x4096_S16384x4096) bitsLt_bf16_f32

end Cert.InZReferenceIdeal.RefValue

namespace Cert.InZIdeal.RefValue

open Cert.InZIdeal Cert.InZIdeal.Gen
open Cert.InZReferenceIdeal.RefValue (REF)

variable (m : (ℓ : Loc nD τ sig) → Buf (Elt Ideal) ℓ)

/-- Which block each window is on, at every grid point. -/
theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

/-- The activation block at point `t`, read at row `a` and column `k`. -/
theorem rows_at (c : Dev nD) (t : Fin cfg0.N) (a : Fin 1024) (k : Fin 2048) :
    iblk m c 0 t (ix2 a k) = m ((c : Thread nD τ).loc main_arg0)
      (ix3 ⟨(t.val / 2 * 1024 + a.val) / 4096, by have := lt_of_lt_of_eq t.isLt N_0; omega⟩ ⟨(t.val / 2 * 1024 + a.val) % 4096, by omega⟩ k) := by
  blk_simp [iblk, idx t]
  entry_read
  pointwise
  blk_ext [idx t]

/-- The weight block at point `t`, read at row `k` and column `b`. -/
theorem cols_at (c : Dev nD) (t : Fin cfg0.N) (k : Fin 2048) (b : Fin 2048) :
    iblk m c 1 t (ix2 k b) = m ((c : Thread nD τ).loc main_arg1)
      (ix3 0 k ⟨848 + (t.val % 2 * 2048 + b.val), by omega⟩) := by
  blk_simp [iblk, idx t]
  entry_read
  pointwise
  blk_ext [idx t]

/-- Where block index `y` of point `t` sits in the result. -/
theorem place (t : Fin cfg0.N) (y : S1024x2048.Idx) :
    (((cfg0.win 2).blk t).view.emb y 0).val = t.val / 2 * 1024 + (y 0).val
    ∧ (((cfg0.win 2).blk t).view.emb y 1).val = t.val % 2 * 2048 + (y 1).val := by
  constructor <;> blk_simp [idx t] <;> simp

/-- What point `t` writes at block index `y` is the reference's value at that block's place in the array. -/
theorem point (c : Dev nD) (t : Fin cfg0.N) (y : S1024x2048.Idx) : k0_pay1 (F := Ideal) (iblk m c 0 t) (iblk m c 1 t) y
    = REF (m ((c : Thread nD τ).loc main_arg0)) (m ((c : Thread nD τ).loc main_arg1)) (((cfg0.win 2).blk t).view.emb y) := by
  obtain ⟨h0, h1⟩ := place t y
  generalize ((cfg0.win 2).blk t).view.emb y = i at h0 h1 ⊢
  pointwise [k0_pay1, REF]
  refine congrArg (fun z : EReal => z * Ideal.logistic z) (Finset.sum_congr rfl fun k _ => ?_)
  refine congrArg₂ (fun a b : EReal => a * b) ((rows_at m c t (y 0) k).trans ?_) ((cols_at m c t k (y 1)).trans ?_)
  · simp only [h0]
  · simp only [h1]

/-- After the call its result is the reference's value of its arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The kernel and the reference, run on the same arguments, end with the same result. -/
theorem algebraic : Cert.algebraic_InZIdeal_InZReferenceIdeal := fun m ρ m' ρ' _ hag =>
  ⟨fun c => REF (m ((c.tc : Thread nD τ).loc main_arg0)) (m ((c.tc : Thread nD τ).loc main_arg1)),
    (θ_run _ _ _).mono (fun _ h c => ⟨(h c).1.trans (final m c), (h c).2⟩) (Value.run_blocks m ρ),
    (θ_run _ _ _).mono (fun _ h c => ⟨(h c).1.trans (by rw [(hag c).1, (hag c).2]), (h c).2⟩) (Cert.InZReferenceIdeal.Value.run m' ρ')⟩

end Cert.InZIdeal.RefValue

end
-- ==== Proof.InGatesValue.lean ====
/-
  The merge-gate columns of the input projection: the kernel's blocks, put together, are the logistic of the whole
  matrix product.
-/
module

public import proofs.«01_k».proof.Defs
public import proofs.«01_k».proof.Proof.Gen.InGatesIdeal.Value
public import proofs.«01_k».proof.Proof.Gen.InGatesReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InGatesReferenceIdeal.RefValue

open Cert.InGatesReferenceIdeal Cert.InGatesReferenceIdeal.Gen

/-- The reference's result as a function of its arguments. -/
abbrev REF (h : FVec Ideal S4x4096x2048 .f32) (w : FVec Ideal S1x2048x15248 .f32) : FVec Ideal S16384x4096 .bf16 :=
  truncf .bf16 (shapeCast _ (Host.divf (broadcastInDim S4x4096x4096 ![] bcast_S_S4x4096x4096 (constant S_ .f32 0x3F800000#32)) (addf (broadcastInDim S4x4096x4096 ![] bcast_S_S4x4096x4096 (constant S_ .f32 0x3F800000#32)) (Host.exp (Host.negf (extractStridedSlice S4x4096x4096 ![0, 0, 11152] (Host.dotGeneral dot_S4x4096x2048_S2048x15248_S4x4096x15248_2_0_01_1_n_n none h (shapeCast _ w shapeCasts_S1x2048x15248_S2048x15248)) slices_S4x4096x15248_S4x4096x4096_0_0_11152))))) shapeCasts_S4x4096x4096_S16384x4096) bitsLt_bf16_f32

end Cert.InGatesReferenceIdeal.RefValue

namespace Cert.InGatesIdeal.RefValue

open Cert.InGatesIdeal Cert.InGatesIdeal.Gen
open Cert.InGatesReferenceIdeal.RefValue (REF)

variable (m : (ℓ : Loc nD τ sig) → Buf (Elt Ideal) ℓ)

/-- Which block each window is on, at every grid point. -/
theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

/-- The activation block at point `t`, read at row `a` and column `k`. -/
theorem rows_at (c : Dev nD) (t : Fin cfg0.N) (a : Fin 1024) (k : Fin 2048) :
    iblk m c 0 t (ix2 a k) = m ((c : Thread nD τ).loc main_arg0)
      (ix3 ⟨(t.val / 2 * 1024 + a.val) / 4096, by have := lt_of_lt_of_eq t.isLt N_0; omega⟩ ⟨(t.val / 2 * 1024 + a.val) % 4096, by omega⟩ k) := by
  blk_simp [iblk, idx t]
  entry_read
  pointwise
  blk_ext [idx t]

/-- The weight block at point `t`, read at row `k` and column `b`. -/
theorem cols_at (c : Dev nD) (t : Fin cfg0.N) (k : Fin 2048) (b : Fin 2048) :
    iblk m c 1 t (ix2 k b) = m ((c : Thread nD τ).loc main_arg1)
      (ix3 0 k ⟨11152 + (t.val % 2 * 2048 + b.val), by omega⟩) := by
  blk_simp [iblk, idx t]
  entry_read
  pointwise
  blk_ext [idx t]

/-- Where block index `y` of point `t` sits in the result. -/
theorem place (t : Fin cfg0.N) (y : S1024x2048.Idx) :
    (((cfg0.win 2).blk t).view.emb y 0).val = t.val / 2 * 1024 + (y 0).val
    ∧ (((cfg0.win 2).blk t).view.emb y 1).val = t.val % 2 * 2048 + (y 1).val := by
  constructor <;> blk_simp [idx t] <;> simp

/-- What point `t` writes at block index `y` is the reference's value at that block's place in the array. -/
theorem point (c : Dev nD) (t : Fin cfg0.N) (y : S1024x2048.Idx) : k0_pay1 (F := Ideal) (iblk m c 0 t) (iblk m c 1 t) y
    = REF (m ((c : Thread nD τ).loc main_arg0)) (m ((c : Thread nD τ).loc main_arg1)) (((cfg0.win 2).blk t).view.emb y) := by
  obtain ⟨h0, h1⟩ := place t y
  generalize ((cfg0.win 2).blk t).view.emb y = i at h0 h1 ⊢
  pointwise [k0_pay1, REF]
  refine congrArg (fun z : EReal => Ideal.logistic z) (Finset.sum_congr rfl fun k _ => ?_)
  refine congrArg₂ (fun a b : EReal => a * b) ((rows_at m c t (y 0) k).trans ?_) ((cols_at m c t k (y 1)).trans ?_)
  · simp only [h0]
  · simp only [h1]

/-- After the call its result is the reference's value of its arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The kernel and the reference, run on the same arguments, end with the same result. -/
theorem algebraic : Cert.algebraic_InGatesIdeal_InGatesReferenceIdeal := fun m ρ m' ρ' _ hag =>
  ⟨fun c => REF (m ((c.tc : Thread nD τ).loc main_arg0)) (m ((c.tc : Thread nD τ).loc main_arg1)),
    (θ_run _ _ _).mono (fun _ h c => ⟨(h c).1.trans (final m c), (h c).2⟩) (Value.run_blocks m ρ),
    (θ_run _ _ _).mono (fun _ h c => ⟨(h c).1.trans (by rw [(hag c).1, (hag c).2]), (h c).2⟩) (Cert.InGatesReferenceIdeal.Value.run m' ρ')⟩

end Cert.InGatesIdeal.RefValue

end
-- ==== Proof.ProjAbValue.lean ====
/-
  The two gated projections: the kernel's blocks, put together, are the gated sum of the two whole matrix products.
-/
module

public import proofs.«01_k».proof.Defs
public import proofs.«01_k».proof.Proof.Gen.ProjAbIdeal.Value
public import proofs.«01_k».proof.Proof.Gen.ProjAbReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ProjAbReferenceIdeal.RefValue

open Cert.ProjAbReferenceIdeal Cert.ProjAbReferenceIdeal.Gen

/-- The reference's result as a function of its arguments. -/
abbrev REF (ya : FVec Ideal S4x4096x2048 .f32) (yb : FVec Ideal S4x4096x4096 .f32) (sg : FVec Ideal S16384x4096 .bf16) (wa : FVec Ideal S1x2048x2048 .f32) (wb : FVec Ideal S1x4096x2048 .f32) : FVec Ideal S16384x2048 .bf16 :=
  truncf .bf16 (shapeCast _ (addf (mulf (extractStridedSlice S4x4096x2048 ![0, 0, 0] (shapeCast _ (extf .f32 sg bitsLt_bf16_f32) shapeCasts_S16384x4096_S4x4096x4096) slices_S4x4096x4096_S4x4096x2048_0_0_0) (Host.dotGeneral dot_S4x4096x2048_S2048x2048_S4x4096x2048_2_0_01_1_n_n none ya (shapeCast _ wa shapeCasts_S1x2048x2048_S2048x2048))) (mulf (extractStridedSlice S4x4096x2048 ![0, 0, 2048] (shapeCast _ (extf .f32 sg bitsLt_bf16_f32) shapeCasts_S16384x4096_S4x4096x4096) slices_S4x4096x4096_S4x4096x2048_0_0_2048) (Host.dotGeneral dot_S4x4096x4096_S4096x2048_S4x4096x2048_2_0_01_1_n_n none yb (shapeCast _ wb shapeCasts_S1x4096x2048_S4096x2048)))) shapeCasts_S4x4096x2048_S16384x2048) bitsLt_bf16_f32

end Cert.ProjAbReferenceIdeal.RefValue

namespace Cert.ProjAbIdeal.RefValue

open Cert.ProjAbIdeal Cert.ProjAbIdeal.Gen
open Cert.ProjAbReferenceIdeal.RefValue (REF)

variable (m : (ℓ : Loc nD τ sig) → Buf (Elt Ideal) ℓ)

/-- Which block each window is on, at every grid point. -/
theorem idx : ∀ t : Fin cfg0.N, win0_0.index t = ![t.val / 4, 0] ∧ win0_1.index t = ![0, t.val % 4]
    ∧ win0_2.index t = ![t.val / 4, 0] ∧ win0_3.index t = ![0, t.val % 4]
    ∧ win0_4.index t = ![t.val / 4, t.val % 4] ∧ win0_5.index t = ![t.val / 4, t.val % 4 + 4]
    ∧ win0_6.index t = ![t.val / 4, t.val % 4] :=
  (by decide +kernel : ∀ t : Fin grid0.N, _)

/-- The first activation's block at point `t`. -/
theorem a_at (c : Dev nD) (t : Fin cfg0.N) (a : Fin 1024) (k : Fin 2048) :
    iblk m c 0 t (ix2 a k) = m ((c : Thread nD τ).loc main_arg0) (ix3 ⟨(t.val / 4 * 1024 + a.val) / 4096, by have := lt_of_lt_of_eq t.isLt N_0; omega⟩ ⟨(t.val / 4 * 1024 + a.val) % 4096, by omega⟩ k) := by
  blk_simp [iblk, idx t]
  entry_read
  pointwise
  blk_ext [idx t]

/-- The first weight's block at point `t`. -/
theorem wa_at (c : Dev nD) (t : Fin cfg0.N) (k : Fin 2048) (b : Fin 512) :
    iblk m c 1 t (ix2 k b) = m ((c : Thread nD τ).loc main_arg3) (ix3 0 k ⟨t.val % 4 * 512 + b.val, by omega⟩) := by
  blk_simp [iblk, idx t]
  entry_read
  pointwise
  blk_ext [idx t]

/-- The second activation's block at point `t`. -/
theorem b_at (c : Dev nD) (t : Fin cfg0.N) (a : Fin 1024) (k : Fin 4096) :
    iblk m c 2 t (ix2 a k) = m ((c : Thread nD τ).loc main_arg1) (ix3 ⟨(t.val / 4 * 1024 + a.val) / 4096, by have := lt_of_lt_of_eq t.isLt N_0; omega⟩ ⟨(t.val / 4 * 1024 + a.val) % 4096, by omega⟩ k) := by
  blk_simp [iblk, idx t]
  entry_read
  pointwise
  blk_ext [idx t]

/-- The second weight's block at point `t`. -/
theorem wb_at (c : Dev nD) (t : Fin cfg0.N) (k : Fin 4096) (b : Fin 512) :
    iblk m c 3 t (ix2 k b) = m ((c : Thread nD τ).loc main_arg4) (ix3 0 k ⟨t.val % 4 * 512 + b.val, by omega⟩) := by
  blk_simp [iblk, idx t]
  entry_read
  pointwise
  blk_ext [idx t]

/-- The first gate's block at point `t`. -/
theorem ga_at (c : Dev nD) (t : Fin cfg0.N) (a : Fin 1024) (b : Fin 512) :
    iblk m c 4 t (ix2 a b) = m ((c : Thread nD τ).loc main_arg2) (ix2 ⟨t.val / 4 * 1024 + a.val, by have := lt_of_lt_of_eq t.isLt N_0; omega⟩ ⟨t.val % 4 * 512 + b.val, by omega⟩) := by
  blk_simp [iblk, idx t]
  entry_read
  pointwise
  blk_ext [idx t]

/-- The second gate's block at point `t`. -/
theorem gb_at (c : Dev nD) (t : Fin cfg0.N) (a : Fin 1024) (b : Fin 512) :
    iblk m c 5 t (ix2 a b) = m ((c : Thread nD τ).loc main_arg2) (ix2 ⟨t.val / 4 * 1024 + a.val, by have := lt_of_lt_of_eq t.isLt N_0; omega⟩ ⟨2048 + (t.val % 4 * 512 + b.val), by omega⟩) := by
  blk_simp [iblk, idx t]
  entry_read
  pointwise
  blk_ext [idx t]

/-- Where block index `y` of point `t` sits in the result. -/
theorem place (t : Fin cfg0.N) (y : S1024x512.Idx) :
    (((cfg0.win 6).blk t).view.emb y 0).val = t.val / 4 * 1024 + (y 0).val
    ∧ (((cfg0.win 6).blk t).view.emb y 1).val = t.val % 4 * 512 + (y 1).val := by
  constructor <;> blk_simp [idx t] <;> simp

set_option maxHeartbeats 1600000 in
/-- What point `t` writes at row `a` and column `b` of its block is the reference's value at that place. -/
theorem point_at (c : Dev nD) (t : Fin cfg0.N) (a : Fin 1024) (b : Fin 512) (r : Fin 16384) (s : Fin 2048)
    (h0 : r.val = t.val / 4 * 1024 + a.val) (h1 : s.val = t.val % 4 * 512 + b.val) :
    k0_pay1 (F := Ideal) (iblk m c 0 t) (iblk m c 1 t) (iblk m c 2 t) (iblk m c 3 t) (iblk m c 4 t) (iblk m c 5 t) (ix2 a b)
    = REF (m ((c : Thread nD τ).loc main_arg0)) (m ((c : Thread nD τ).loc main_arg1)) (m ((c : Thread nD τ).loc main_arg2)) (m ((c : Thread nD τ).loc main_arg3)) (m ((c : Thread nD τ).loc main_arg4)) (ix2 r s) := by
  have ht := lt_of_lt_of_eq t.isLt N_0
  pointwise [k0_pay1, REF]
  reads_congr
  all_goals first | refine (a_at m c t _ _).trans ?_ | refine (wa_at m c t _ _).trans ?_ | refine (b_at m c t _ _).trans ?_ | refine (wb_at m c t _ _).trans ?_ | refine (ga_at m c t _ _).trans ?_ | refine (gb_at m c t _ _).trans ?_
  all_goals blk_ext

/-- What point `t` writes at block index `y` is the reference's value at that block's place in the array. -/
theorem point (c : Dev nD) (t : Fin cfg0.N) (y : S1024x512.Idx) :
    k0_pay1 (F := Ideal) (iblk m c 0 t) (iblk m c 1 t) (iblk m c 2 t) (iblk m c 3 t) (iblk m c 4 t) (iblk m c 5 t) y
    = REF (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  obtain ⟨h0, h1⟩ := place t y
  rw [eq_ix2 (((cfg0.win 6).blk t).view.emb y)]
  exact (congrArg _ (eq_ix2 y)).trans (point_at m c t (y 0) (y 1) _ _ h0 h1)

/-- After the call its result is the reference's value of its arguments. -/
theorem final (c : Dev nD) : (dats m 0 c).arrAt 6 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]; frame_out
  exact point m c t y

/-- The kernel and the reference, run on the same arguments, end with the same result. -/
theorem algebraic : Cert.algebraic_ProjAbIdeal_ProjAbReferenceIdeal := fun m ρ m' ρ' _ hag =>
  ⟨fun c => REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)),
    (θ_run _ _ _).mono (fun _ h c => ⟨(h c).1.trans (final m c), (h c).2⟩) (Value.run_blocks m ρ),
    (θ_run _ _ _).mono (fun _ h c => ⟨(h c).1.trans (by rw [(hag c).1, (hag c).2.1, (hag c).2.2.1, (hag c).2.2.2.1, (hag c).2.2.2.2]), (h c).2⟩) (Cert.ProjAbReferenceIdeal.Value.run m' ρ')⟩

end Cert.ProjAbIdeal.RefValue

end
-- ==== Proof.WOutValue.lean ====
/-
  The output projection with its gated residual: the kernel's blocks, put together, are the residual plus the gate
  times the whole matrix product.
-/
module

public import proofs.«01_k».proof.Defs
public import proofs.«01_k».proof.Proof.Gen.WOutIdeal.Value
public import proofs.«01_k».proof.Proof.Gen.WOutReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.WOutReferenceIdeal.RefValue

open Cert.WOutReferenceIdeal Cert.WOutReferenceIdeal.Gen

/-- The reference's result as a function of its arguments. -/
abbrev REF (a : FVec Ideal S4x4096x2048 .f32) (x : FVec Ideal S4x4096x2048 .f32) (mod : FVec Ideal S4x12288 .f32) (w : FVec Ideal S1x2048x2048 .f32) : FVec Ideal S16384x2048 .f32 :=
  shapeCast _ (addf x (mulf (broadcastInDim S4x4096x2048 ![0, 1, 2] bcast_S4x1x2048_S4x4096x2048_0_1_2 (extractStridedSlice S4x1x2048 ![0, 0, 4096] (broadcastInDim S4x1x12288 ![0, 2] bcast_S4x12288_S4x1x12288_0_2 mod) slices_S4x1x12288_S4x1x2048_0_0_4096)) (Host.dotGeneral dot_S4x4096x2048_S2048x2048_S4x4096x2048_2_0_01_1_n_n none a (shapeCast _ w shapeCasts_S1x2048x2048_S2048x2048)))) shapeCasts_S4x4096x2048_S16384x2048

end Cert.WOutReferenceIdeal.RefValue

namespace Cert.WOutIdeal.RefValue

open Cert.WOutIdeal Cert.WOutIdeal.Gen
open Cert.WOutReferenceIdeal.RefValue (REF)

variable (m : (ℓ : Loc nD τ sig) → Buf (Elt Ideal) ℓ)

/-- Which block each window is on, at every grid point. -/
theorem idx : ∀ t : Fin cfg0.N, win0_0.index t = ![t.val / 2, 0] ∧ win0_1.index t = ![0, t.val % 2]
    ∧ win0_2.index t = ![t.val / 2, t.val % 2] ∧ win0_3.index t = ![t.val / 8, 0, t.val % 2]
    ∧ win0_4.index t = ![t.val / 2, t.val % 2] :=
  (by decide +kernel : ∀ t : Fin grid0.N, _)

/-- The activation's block at point `t`. -/
theorem a_at (c : Dev nD) (t : Fin cfg0.N) (a : Fin 1024) (k : Fin 2048) :
    iblk m c 0 t (ix2 a k) = m ((c : Thread nD τ).loc main_arg0) (ix3 ⟨(t.val / 2 * 1024 + a.val) / 4096, by have := lt_of_lt_of_eq t.isLt N_0; omega⟩ ⟨(t.val / 2 * 1024 + a.val) % 4096, by omega⟩ k) := by
  blk_simp [iblk, idx t]
  entry_read
  pointwise
  blk_ext [idx t]

/-- The weight's block at point `t`. -/
theorem w_at (c : Dev nD) (t : Fin cfg0.N) (k : Fin 2048) (b : Fin 1024) :
    iblk m c 1 t (ix2 k b) = m ((c : Thread nD τ).loc main_arg3) (ix3 0 k ⟨t.val % 2 * 1024 + b.val, by omega⟩) := by
  blk_simp [iblk, idx t]
  entry_read
  pointwise
  blk_ext [idx t]

/-- The residual's block at point `t`. -/
theorem x_at (c : Dev nD) (t : Fin cfg0.N) (a : Fin 1024) (b : Fin 1024) :
    iblk m c 2 t (ix2 a b) = m ((c : Thread nD τ).loc main_arg1) (ix3 ⟨(t.val / 2 * 1024 + a.val) / 4096, by have := lt_of_lt_of_eq t.isLt N_0; omega⟩ ⟨(t.val / 2 * 1024 + a.val) % 4096, by omega⟩ ⟨t.val % 2 * 1024 + b.val, by omega⟩) := by
  blk_simp [iblk, idx t]
  entry_read
  pointwise
  blk_ext [idx t]

/-- The gate's block at point `t`. -/
theorem g_at (c : Dev nD) (t : Fin cfg0.N) (b : Fin 1024) :
    iblk m c 3 t (ix3 0 0 b) = m ((c : Thread nD τ).loc main_arg2) (ix2 ⟨t.val / 8, by have := lt_of_lt_of_eq t.isLt N_0; omega⟩ ⟨4096 + (t.val % 2 * 1024 + b.val), by omega⟩) := by
  blk_simp [iblk, idx t]
  entry_read
  pointwise
  blk_ext [idx t]

/-- Where block index `y` of point `t` sits in the result. -/
theorem place (t : Fin cfg0.N) (y : S1024x1024.Idx) :
    (((cfg0.win 4).blk t).view.emb y 0).val = t.val / 2 * 1024 + (y 0).val
    ∧ (((cfg0.win 4).blk t).view.emb y 1).val = t.val % 2 * 1024 + (y 1).val := by
  constructor <;> blk_simp [idx t] <;> simp

/-- What point `t` writes at row `a` and column `b` of its block is the reference's value at that place. -/
theorem point_at (c : Dev nD) (t : Fin cfg0.N) (a : Fin 1024) (b : Fin 1024) (r : Fin 16384) (s : Fin 2048)
    (h0 : r.val = t.val / 2 * 1024 + a.val) (h1 : s.val = t.val % 2 * 1024 + b.val) :
    k0_pay1 (F := Ideal) (iblk m c 0 t) (iblk m c 1 t) (iblk m c 2 t) (iblk m c 3 t) (ix2 a b)
    = REF (m ((c : Thread nD τ).loc main_arg0)) (m ((c : Thread nD τ).loc main_arg1)) (m ((c : Thread nD τ).loc main_arg2)) (m ((c : Thread nD τ).loc main_arg3)) (ix2 r s) := by
  have ht := lt_of_lt_of_eq t.isLt N_0
  pointwise [k0_pay1, REF]
  reads_congr
  all_goals first | refine (a_at m c t _ _).trans ?_ | refine (w_at m c t _ _).trans ?_ | refine (x_at m c t _ _).trans ?_ | refine (g_at m c t _).trans ?_
  all_goals blk_ext

/-- What point `t` writes at block index `y` is the reference's value at that block's place in the array. -/
theorem point (c : Dev nD) (t : Fin cfg0.N) (y : S1024x1024.Idx) :
    k0_pay1 (F := Ideal) (iblk m c 0 t) (iblk m c 1 t) (iblk m c 2 t) (iblk m c 3 t) y
    = REF (m ((c : Thread nD τ).loc main_arg0)) (m ((c : Thread nD τ).loc main_arg1)) (m ((c : Thread nD τ).loc main_arg2)) (m ((c : Thread nD τ).loc main_arg3)) (((cfg0.win 4).blk t).view.emb y) := by
  obtain ⟨h0, h1⟩ := place t y
  rw [eq_ix2 (((cfg0.win 4).blk t).view.emb y)]
  exact (congrArg _ (eq_ix2 y)).trans (point_at m c t (y 0) (y 1) _ _ h0 h1)

/-- After the call its result is the reference's value of its arguments. -/
theorem final (c : Dev nD) : (dats m 0 c).arrAt 4 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

/-- The kernel and the reference, run on the same arguments, end with the same result. -/
theorem algebraic : Cert.algebraic_WOutIdeal_WOutReferenceIdeal := fun m ρ m' ρ' _ hag =>
  ⟨fun c => REF (m ((c.tc : Thread nD τ).loc main_arg0)) (m ((c.tc : Thread nD τ).loc main_arg1)) (m ((c.tc : Thread nD τ).loc main_arg2)) (m ((c.tc : Thread nD τ).loc main_arg3)),
    (θ_run _ _ _).mono (fun _ h c => ⟨(h c).1.trans (final m c), (h c).2⟩) (Value.run_blocks m ρ),
    (θ_run _ _ _).mono (fun _ h c => ⟨(h c).1.trans (by rw [(hag c).1, (hag c).2.1, (hag c).2.2.1, (hag c).2.2.2]), (h c).2⟩) (Cert.WOutReferenceIdeal.Value.run m' ρ')⟩

end Cert.WOutIdeal.RefValue

end
-- ==== Proof.NormInValue.lean ====
/-
  The norm and its small projections: the strips the loop writes are the reference's normalised rows, and the columns
  the projections are gathered in, padded, are the padded columns of one product.
-/
module

public import proofs.«01_k».proof.Defs
public import proofs.«01_k».proof.Proof.Gen.NormInIdeal.Value
public import proofs.«01_k».proof.Proof.Gen.NormInReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NormInReferenceIdeal.RefValue

open Cert.NormInReferenceIdeal Cert.NormInReferenceIdeal.Gen

/-- The reference's normalised and modulated activations. -/
abbrev H (x : FVec Ideal S4x4096x2048 .f32) (mod : FVec Ideal S4x12288 .f32) (g : FVec Ideal S1x2048 .f32) : FVec Ideal S4x4096x2048 .f32 :=
  addf (mulf (mulf (mulf x (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf x x) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 (shapeCast _ g shapeCasts_S1x2048_S2048)))) (broadcastInDim S4x4096x2048 ![0, 1, 2] bcast_S4x1x2048_S4x4096x2048_0_1_2 (addf (broadcastInDim S4x1x2048 ![] bcast_S_S4x1x2048 (constant S_ .f32 0x3F800000#32)) (extractStridedSlice S4x1x2048 ![0, 0, 2048] (broadcastInDim S4x1x12288 ![0, 2] bcast_S4x12288_S4x1x12288_0_2 mod) slices_S4x1x12288_S4x1x2048_0_0_2048)))) (broadcastInDim S4x4096x2048 ![0, 1, 2] bcast_S4x1x2048_S4x4096x2048_0_1_2 (extractStridedSlice S4x1x2048 ![0, 0, 0] (broadcastInDim S4x1x12288 ![0, 2] bcast_S4x12288_S4x1x12288_0_2 mod) slices_S4x1x12288_S4x1x2048_0_0_0))

/-- The reference's small projections, of its activations and the weight. -/
abbrev SM (h : FVec Ideal S4x4096x2048 .f32) (w : FVec Ideal S1x2048x15248 .f32) : FVec Ideal S16384x1024 .f32 :=
  concatenate S16384x1024 1 [⟨S16384x896, (pad S16384x896 ![0, 0] ![0, 48] ![0, 0] (shapeCast _ (extractStridedSlice S4x4096x848 ![0, 0, 0] (Host.dotGeneral dot_S4x4096x2048_S2048x15248_S4x4096x15248_2_0_01_1_n_n none h (shapeCast _ w shapeCasts_S1x2048x15248_S2048x15248)) slices_S4x4096x15248_S4x4096x848_0_0_0) shapeCasts_S4x4096x848_S16384x848) (sitofp .f32 (constantI S_ 32 0#32)) pads_S16384x848_S16384x896_000_0480 h_S_)⟩, ⟨S16384x128, (pad S16384x128 ![0, 0] ![0, 64] ![0, 0] (shapeCast _ (extractStridedSlice S4x4096x64 ![0, 0, 11088] (Host.dotGeneral dot_S4x4096x2048_S2048x15248_S4x4096x15248_2_0_01_1_n_n none h (shapeCast _ w shapeCasts_S1x2048x15248_S2048x15248)) slices_S4x4096x15248_S4x4096x64_0_0_11088) shapeCasts_S4x4096x64_S16384x64) (sitofp .f32 (constantI S_ 32 0#32)) pads_S16384x64_S16384x128_000_0640 h_S_)⟩] concatenates_S16384x896_S16384x128_S16384x1024_d1

/-- The reference's first result as a function of its arguments. -/
abbrev REF (x : FVec Ideal S4x4096x2048 .f32) (mod : FVec Ideal S4x12288 .f32) (g : FVec Ideal S1x2048 .f32) (w : FVec Ideal S1x2048x15248 .f32) : FVec Ideal S16384x1024 .f32 :=
  SM (H x mod g) w

/-- The reference's second result, its activations laid out by token. -/
abbrev HB (h : FVec Ideal S4x4096x2048 .f32) : FVec Ideal S16384x2048 .bf16 :=
  truncf .bf16 (shapeCast _ h shapeCasts_S4x4096x2048_S16384x2048) bitsLt_bf16_f32

end Cert.NormInReferenceIdeal.RefValue

namespace Cert.NormInIdeal.RefValue

open Cert.NormInIdeal Cert.NormInIdeal.Gen
open Cert.NormInReferenceIdeal.RefValue (H SM REF HB)

variable (m : (ℓ : Loc nD τ sig) → Buf (Elt Ideal) ℓ)

/-- Which block each window is on, at every grid point. -/
theorem idx : ∀ t : Fin cfg0.N, win0_0.index t = ![t.val, 0] ∧ win0_1.index t = ![0, 0]
    ∧ win0_2.index t = ![t.val / 4, 0, 0] ∧ win0_3.index t = ![t.val / 4, 0, 0]
    ∧ win0_4.index t = ![0, 0] ∧ win0_5.index t = ![t.val, 0] ∧ win0_6.index t = ![t.val, 0] :=
  (by decide +kernel : ∀ t : Fin grid0.N, _)

/-! ## The strips of the norm -/

/-- The normalised block, of the blocks the norm reads: row `a` is worked out in the strip of 32 rows it lies in. -/
def rows (x : Vec Ideal S1024x2048 .f32) (g : Vec Ideal S1x2048 .f32) (sc sh : Vec Ideal S1x1x2048 .f32) : Vec Ideal S1024x2048 .bf16 :=
  fun y => k0_pay1 g sc (fun z => x (ix2 ⟨(y 0).val / 32 * 32 + (z 0).val, by have h := (y 0).isLt; have h' := (z 0).isLt; change (y 0).val < 1024 at h; change (z 0).val < 32 at h'; omega⟩ (z 1))) sh
    (ix2 ⟨(y 0).val % 32, Nat.mod_lt _ (by decide)⟩ (y 1))

/-- Where trip `k` of the loop starts. -/
theorem off : ∀ k : Fin k0_t1_loop.trips, k0_off1 k = ![32 * k.val, 0] := by decide +kernel

/-- What trip `k` writes: its strip. -/
theorem trip_eq (𝒱 : Variants) (c : Dev nD) (bd : Option 𝒱.V) (i : grid0.Coords) (arg1 : Memref sig .tc .vmem S1024x2048 .f32) (harg1 : arg1.IsWhole) (arg2 : Memref sig .tc .vmem S1x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S2048x1024 .bf16) (harg5 : arg5.IsWhole) (arg6 : Memref sig .tc .vmem S1024x1024 .f32) (harg6 : arg6.IsWhole) (arg7 : Memref sig .tc .vmem S1024x2048 .bf16) (harg7 : arg7.IsWhole) (v0 : Vec Ideal S1x2048 .f32) (v2 : Vec Ideal S1x1x2048 .f32) (X1 : BufTy.Contents (Elt Ideal) arg1.view.ty) (X4 : BufTy.Contents (Elt Ideal) arg4.view.ty) (k : Fin k0_t1_loop.trips) :
    tripL_k0_t1 (F := Ideal) 𝒱 c bd i arg1 harg1 arg2 harg2 arg3 harg3 arg4 harg4 arg5 harg5 arg6 harg6 arg7 harg7 v0 v2 X1 X4 k
    = [⟨Rect.unit (s := S1024x2048) (k0_off1 k) S32x2048.size (k0_off1_inb k),
        k0_pay1 v0 v2 (arg1.view.readAt (Elt Ideal) (Rect.unit (s := S1024x2048) (k0_off1 k) S32x2048.size (k0_off1_inb k)).toLoadRect X1)
          (arg4.view.readAt (Elt Ideal) (Rect.unit (s := S1x1x2048) ![0, 0, 0] S1x1x2048.size inb_S1x1x2048_S1x1x2048_0_0_0).toLoadRect X4)⟩] := by
  unfold tripL_k0_t1 trip_k0_t1
  rfl

/-- Every strip the loop writes is that strip of the normalised block. -/
theorem strips (𝒱 : Variants) (c : Dev nD) (bd : Option 𝒱.V) (i : grid0.Coords) (arg1 : Memref sig .tc .vmem S1024x2048 .f32) (harg1 : arg1.IsWhole) (arg2 : Memref sig .tc .vmem S1x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S2048x1024 .bf16) (harg5 : arg5.IsWhole) (arg6 : Memref sig .tc .vmem S1024x1024 .f32) (harg6 : arg6.IsWhole) (arg7 : Memref sig .tc .vmem S1024x2048 .bf16) (harg7 : arg7.IsWhole) (v0 : Vec Ideal S1x2048 .f32) (v2 : Vec Ideal S1x1x2048 .f32) (X1 : BufTy.Contents (Elt Ideal) arg1.view.ty) (X4 : BufTy.Contents (Elt Ideal) arg4.view.ty) : ∀ n : ℕ, n ≤ k0_t1_loop.trips →
    ∀ p ∈ pb_k0_t1 (F := Ideal) 𝒱 c bd i arg1 harg1 arg2 harg2 arg3 harg3 arg4 harg4 arg5 harg5 arg6 harg6 arg7 harg7 v0 v2 X1 X4 n, ∀ x : p.1.shape.Idx,
      p.2 x = rows (arg1.view.read (Elt Ideal) X1) v0 v2 (arg4.view.read (Elt Ideal) X4) (p.1.emb x) := by
  intro n
  induction n with
  | zero => intro _ p hp; exact absurd hp List.not_mem_nil
  | succ n ih =>
    intro hn p hp x
    rw [pb_k0_t1_succ (F := Ideal) 𝒱 c bd i arg1 harg1 arg2 harg2 arg3 harg3 arg4 harg4 arg5 harg5 arg6 harg6 arg7 harg7 v0 v2 X1 X4 ⟨n, hn⟩, trip_eq] at hp
    rcases List.mem_append.mp hp with h | h
    · obtain rfl := List.mem_singleton.mp h
      have E0 : ∀ z : S32x2048.Idx, ((Rect.unit (s := S1024x2048) (k0_off1 ⟨n, hn⟩) S32x2048.size (k0_off1_inb ⟨n, hn⟩)).emb z 0).val = 32 * n + (z 0).val := by
        intro z
        blk_simp [off]
      have E1 : ∀ z : S32x2048.Idx, ((Rect.unit (s := S1024x2048) (k0_off1 ⟨n, hn⟩) S32x2048.size (k0_off1_inb ⟨n, hn⟩)).emb z 1).val = (z 1).val := by
        intro z
        blk_simp [off]
      have e0 := E0 x
      have e1 := E1 x
      have hx : (x 0).val < 32 := (x 0).isLt
      have eB : arg4.view.readAt (Elt Ideal) (Rect.unit (s := S1x1x2048) ![0, 0, 0] S1x1x2048.size inb_S1x1x2048_S1x1x2048_0_0_0).toLoadRect X4 = arg4.view.read (Elt Ideal) X4 := by
        funext z
        rw [View.readAt_apply]
        blk_ext
        all_goals exact (Rect.idx_unit_val _ _ _ _ _).trans (Nat.zero_add _)
      have eA : arg1.view.readAt (Elt Ideal) (Rect.unit (s := S1024x2048) (k0_off1 ⟨n, hn⟩) S32x2048.size (k0_off1_inb ⟨n, hn⟩)).toLoadRect X1
          = fun z => arg1.view.read (Elt Ideal) X1 (ix2 ⟨((Rect.unit (s := S1024x2048) (k0_off1 ⟨n, hn⟩) S32x2048.size (k0_off1_inb ⟨n, hn⟩)).emb x 0).val / 32 * 32 + (z 0).val, by have h' := (z 0).isLt; change (z 0).val < 32 at h'; have := hn; rw [e0]; have : n < 32 := hn; omega⟩ (z 1)) := by
        funext z
        rw [View.readAt_apply]
        refine congrArg (arg1.view.read (Elt Ideal) X1) ((eq_ix2 _).trans (congrArg₂ ix2 (Fin.ext ?_) (Fin.ext ?_)))
        · have hz : (z 0).val < 32 := (z 0).isLt
          exact (E0 z).trans (by show 32 * n + (z 0).val = _ / 32 * 32 + (z 0).val; rw [e0]; omega)
        · exact E1 z
      show k0_pay1 v0 v2 _ _ x = k0_pay1 v0 v2 _ _ _
      rw [eA, eB]
      refine congrArg (k0_pay1 v0 v2 _ _) ?_
      refine (eq_ix2 x).trans (congrArg₂ ix2 (Fin.ext ?_) (Fin.ext ?_))
      · exact ((congrArg (· % 32) e0).trans (by omega : (32 * n + (x 0).val) % 32 = (x 0).val)).symm
      · exact e1.symm
    · exact ih (by omega) p h x

/-! ## The columns gathered -/

/-- What the columns are padded with is zero. -/
theorem padding : FloatOps.sitofp (F := Ideal) FTy.f32 (0#32) = (0 : EReal) := by
  show (((0#32 : BitVec 32).toInt : ℝ) : EReal) = 0
  simp

/-- The columns the host gathers of a weight, in two groups, each padded with zeroes. -/
def gathered (X : FVec Ideal S2048x15248 .f32) : FVec Ideal S2048x1024 .bf16 :=
  truncf .bf16 (concatenate S2048x1024 1 [⟨S2048x896, pad S2048x896 ![0, 0] ![0, 48] ![0, 0] (extractStridedSlice S2048x848 ![0, 0] X slices_S2048x15248_S2048x848_0_0) (sitofp .f32 (constantI S_ 32 0#32)) pads_S2048x848_S2048x896_000_0480 h_S_⟩, ⟨S2048x128, pad S2048x128 ![0, 0] ![0, 64] ![0, 0] (extractStridedSlice S2048x64 ![0, 11088] X slices_S2048x15248_S2048x64_0_11088) (sitofp .f32 (constantI S_ 32 0#32)) pads_S2048x64_S2048x128_000_0640 h_S_⟩] concatenates_S2048x896_S2048x128_S2048x1024_d1) bitsLt_bf16_f32

/-- The first 848 gathered columns are the weight's. -/
theorem gathered_lo (X : FVec Ideal S2048x15248 .f32) (k : Fin 2048) (b : Fin 1024) (hb : b.val < 848) :
    gathered X (ix2 k b) = X (ix2 k ⟨b.val, by omega⟩) := by
  pointwise [gathered]
  rw [dif_pos (by omega : b.val < 896), dif_pos hb]

/-- The gathered columns from 896 are the weight's from 11088. -/
theorem gathered_hi (X : FVec Ideal S2048x15248 .f32) (k : Fin 2048) (b : Fin 1024) (h0 : 896 ≤ b.val) (h1 : b.val < 960) :
    gathered X (ix2 k b) = X (ix2 k ⟨11088 + (b.val - 896), by omega⟩) := by
  pointwise [gathered]
  rw [dif_neg (by omega : ¬ b.val < 896), dif_pos (by omega : b.val - 896 < 64)]

/-- The other gathered columns are zeroes. -/
theorem gathered_no (X : FVec Ideal S2048x15248 .f32) (k : Fin 2048) (b : Fin 1024) (h : (848 ≤ b.val ∧ b.val < 896) ∨ 960 ≤ b.val) :
    gathered X (ix2 k b) = (0 : EReal) := by
  pointwise [gathered]
  rcases h with h | h
  · rw [dif_pos (by omega : b.val < 896), dif_neg (by omega : ¬ b.val < 848)]
    exact padding
  · rw [dif_neg (by omega : ¬ b.val < 896), dif_neg (by omega : ¬ b.val - 896 < 64)]
    exact padding

/-- A row of the activation laid out by token. -/
theorem token (X : FVec Ideal S4x4096x2048 .f32) (r : Fin 16384) (k : Fin 2048) :
    shapeCast S16384x2048 X shapeCasts_S4x4096x2048_S16384x2048 (ix2 r k) = X (ix3 ⟨r.val / 4096, by omega⟩ ⟨r.val % 4096, by omega⟩ k) := by
  pointwise

/-- A row of the weight. -/
theorem weight_row (X : FVec Ideal S1x2048x15248 .f32) (k : Fin 2048) (q : Fin 15248) :
    shapeCast S2048x15248 X shapeCasts_S1x2048x15248_S2048x15248 (ix2 k q) = X (ix3 0 k q) := by
  pointwise

/-! ## What the host hands the call -/

/-- What the host hands the call as the gathered weight. -/
theorem w_host (c : Dev nD) : V m c main_v14 = gathered (shapeCast S2048x15248 (m ((c : Thread nD τ).loc main_arg3)) shapeCasts_S1x2048x15248_S2048x15248) := by
  show StableHlo.after (hostOps0 ++ hostOps0_1 ++ hostOps0_2 ++ hostOps0_3 ++ hostOps0_4) _ _ = _
  simp only [hostOps0, hostOps0_1, hostOps0_2, hostOps0_3, hostOps0_4, List.cons_append, List.nil_append, StableHlo.TRef.binary, StableHlo.TRef.unary, StableHlo.TRef.toBuf, StableHlo.TRef.ofBuf, cast_eq]
  after_results_simp <;> rfl

/-- What the host hands the call as the activation laid out by token. -/
theorem x_host (c : Dev nD) : V m c main_v15 = (shapeCast S16384x2048 (m ((c : Thread nD τ).loc main_arg0)) shapeCasts_S4x4096x2048_S16384x2048 : FVec Ideal S16384x2048 .f32) := by
  show StableHlo.after (hostOps0 ++ hostOps0_1 ++ hostOps0_2 ++ hostOps0_3 ++ hostOps0_4) _ _ = _
  simp only [hostOps0, hostOps0_1, hostOps0_2, hostOps0_3, hostOps0_4, List.cons_append, List.nil_append, StableHlo.TRef.binary, StableHlo.TRef.unary, StableHlo.TRef.toBuf, StableHlo.TRef.ofBuf, cast_eq]
  after_results_simp <;> rfl

/-- What the host hands the call as the norm's weight. -/
theorem g_host (c : Dev nD) : V m c main_v17 = (shapeCast S1x2048 (shapeCast S2048 (m ((c : Thread nD τ).loc main_arg2)) shapeCasts_S1x2048_S2048) shapeCasts_S2048_S1x2048 : FVec Ideal S1x2048 .f32) := by
  show StableHlo.after (hostOps0 ++ hostOps0_1 ++ hostOps0_2 ++ hostOps0_3 ++ hostOps0_4) _ _ = _
  simp only [hostOps0, hostOps0_1, hostOps0_2, hostOps0_3, hostOps0_4, List.cons_append, List.nil_append, StableHlo.TRef.binary, StableHlo.TRef.unary, StableHlo.TRef.toBuf, StableHlo.TRef.ofBuf, cast_eq]
  after_results_simp <;> rfl

/-- What the host hands the call as the scale. -/
theorem sc_host (c : Dev nD) : V m c main_v7 = (shapeCast S4x1x2048 (extractStridedSlice S4x2048 ![0, 2048] (m ((c : Thread nD τ).loc main_arg1)) slices_S4x12288_S4x2048_0_2048) shapeCasts_S4x2048_S4x1x2048 : FVec Ideal S4x1x2048 .f32) := by
  show StableHlo.after (hostOps0 ++ hostOps0_1 ++ hostOps0_2 ++ hostOps0_3 ++ hostOps0_4) _ _ = _
  simp only [hostOps0, hostOps0_1, hostOps0_2, hostOps0_3, hostOps0_4, List.cons_append, List.nil_append, StableHlo.TRef.binary, StableHlo.TRef.unary, StableHlo.TRef.toBuf, StableHlo.TRef.ofBuf, cast_eq]
  after_results_simp <;> rfl

/-- What the host hands the call as the shift. -/
theorem sh_host (c : Dev nD) : V m c main_v6 = (shapeCast S4x1x2048 (extractStridedSlice S4x2048 ![0, 0] (m ((c : Thread nD τ).loc main_arg1)) slices_S4x12288_S4x2048_0_0) shapeCasts_S4x2048_S4x1x2048 : FVec Ideal S4x1x2048 .f32) := by
  show StableHlo.after (hostOps0 ++ hostOps0_1 ++ hostOps0_2 ++ hostOps0_3 ++ hostOps0_4) _ _ = _
  simp only [hostOps0, hostOps0_1, hostOps0_2, hostOps0_3, hostOps0_4, List.cons_append, List.nil_append, StableHlo.TRef.binary, StableHlo.TRef.unary, StableHlo.TRef.toBuf, StableHlo.TRef.ofBuf, cast_eq]
  after_results_simp <;> rfl

/-! ## What the blocks hold -/

/-- The activation's block at point `t`. -/
theorem x_at (c : Dev nD) (t : Fin cfg0.N) (a : Fin 1024) (k : Fin 2048) :
    iblk m c 0 t (ix2 a k) = m ((c : Thread nD τ).loc main_arg0) (ix3 ⟨(t.val * 1024 + a.val) / 4096, by have := lt_of_lt_of_eq t.isLt N_0; omega⟩ ⟨(t.val * 1024 + a.val) % 4096, by omega⟩ k) := by
  have ht := lt_of_lt_of_eq t.isLt N_0
  have e : ((cfg0.win 0).blk t).view.emb (ix2 a k) = (ix2 ⟨t.val * 1024 + a.val, by omega⟩ k : S16384x2048.Idx) := by blk_ext [idx t]
  refine ((congrFun (x_host m c) (((cfg0.win 0).blk t).view.emb (ix2 a k))).trans (congrArg _ e)).trans ?_
  exact token _ _ _

/-- The norm's weight. -/
theorem g_at (c : Dev nD) (t : Fin cfg0.N) (k : Fin 2048) :
    iblk m c 1 t (ix2 0 k) = m ((c : Thread nD τ).loc main_arg2) (ix2 0 k) := by
  have e : ((cfg0.win 1).blk t).view.emb (ix2 0 k) = (ix2 0 k : S1x2048.Idx) := by blk_ext [idx t]
  refine ((congrFun (g_host m c) (((cfg0.win 1).blk t).view.emb (ix2 0 k))).trans (congrArg _ e)).trans ?_
  pointwise
  blk_ext [idx t]

/-- The scale's block at point `t`. -/
theorem sc_at (c : Dev nD) (t : Fin cfg0.N) (k : Fin 2048) :
    iblk m c 2 t (ix3 0 0 k) = m ((c : Thread nD τ).loc main_arg1) (ix2 ⟨t.val / 4, by have := lt_of_lt_of_eq t.isLt N_0; omega⟩ ⟨2048 + k.val, by omega⟩) := by
  blk_simp [iblk, idx t]
  refine (congrFun (sc_host m c) _).trans ?_
  pointwise
  blk_ext [idx t]

/-- The shift's block at point `t`. -/
theorem sh_at (c : Dev nD) (t : Fin cfg0.N) (k : Fin 2048) :
    iblk m c 3 t (ix3 0 0 k) = m ((c : Thread nD τ).loc main_arg1) (ix2 ⟨t.val / 4, by have := lt_of_lt_of_eq t.isLt N_0; omega⟩ ⟨k.val, by omega⟩) := by
  blk_simp [iblk, idx t]
  refine (congrFun (sh_host m c) _).trans ?_
  pointwise
  blk_ext [idx t]

/-- The gathered weight's block: its first 848 columns are the weight's. -/
theorem w_at_lo (c : Dev nD) (t : Fin cfg0.N) (k : Fin 2048) (b : Fin 1024) (hb : b.val < 848) :
    iblk m c 4 t (ix2 k b) = m ((c : Thread nD τ).loc main_arg3) (ix3 0 k ⟨b.val, by omega⟩) := by
  have e : ((cfg0.win 4).blk t).view.emb (ix2 k b) = (ix2 k b : S2048x1024.Idx) := by blk_ext [idx t]
  refine ((congrFun (w_host m c) (((cfg0.win 4).blk t).view.emb (ix2 k b))).trans (congrArg _ e)).trans ((gathered_lo _ k b hb).trans ?_)
  exact weight_row _ k _

/-- Its columns from 896 are the weight's from 11088. -/
theorem w_at_hi (c : Dev nD) (t : Fin cfg0.N) (k : Fin 2048) (b : Fin 1024) (h0 : 896 ≤ b.val) (h1 : b.val < 960) :
    iblk m c 4 t (ix2 k b) = m ((c : Thread nD τ).loc main_arg3) (ix3 0 k ⟨11088 + (b.val - 896), by omega⟩) := by
  have e : ((cfg0.win 4).blk t).view.emb (ix2 k b) = (ix2 k b : S2048x1024.Idx) := by blk_ext [idx t]
  refine ((congrFun (w_host m c) (((cfg0.win 4).blk t).view.emb (ix2 k b))).trans (congrArg _ e)).trans ((gathered_hi _ k b h0 h1).trans ?_)
  exact weight_row _ k _

/-- The rest of its columns are zeroes. -/
theorem w_at_no (c : Dev nD) (t : Fin cfg0.N) (k : Fin 2048) (b : Fin 1024) (h : (848 ≤ b.val ∧ b.val < 896) ∨ 960 ≤ b.val) :
    iblk m c 4 t (ix2 k b) = (0 : EReal) := by
  have e : ((cfg0.win 4).blk t).view.emb (ix2 k b) = (ix2 k b : S2048x1024.Idx) := by blk_ext [idx t]
  exact ((congrFun (w_host m c) (((cfg0.win 4).blk t).view.emb (ix2 k b))).trans (congrArg _ e)).trans (gathered_no _ k b h)

/-- The normalised block at point `t` is the reference's activations at its rows: the gain the kernel multiplies in at
    once is the norm's weight times the modulation's factor. -/
theorem rows_at (c : Dev nD) (t : Fin cfg0.N) (a : Fin 1024) (k : Fin 2048) (p : Fin 4) (q : Fin 4096)
    (hp : p.val = (t.val * 1024 + a.val) / 4096) (hq : q.val = (t.val * 1024 + a.val) % 4096) :
    rows (iblk m c 0 t) (iblk m c 1 t) (iblk m c 2 t) (iblk m c 3 t) (ix2 a k) = H (m ((c : Thread nD τ).loc main_arg0)) (m ((c : Thread nD τ).loc main_arg1)) (m ((c : Thread nD τ).loc main_arg2)) (ix3 p q k) := by
  have ht := lt_of_lt_of_eq t.isLt N_0
  pointwise [rows, k0_pay1, H]
  rw [← mul_assoc]
  reads_congr
  all_goals first | refine (x_at m c t _ _).trans ?_ | refine (g_at m c t _).trans ?_ | refine (sc_at m c t _).trans ?_ | refine (sh_at m c t _).trans ?_
  all_goals blk_ext

/-- The reference's activations at row `a` of row block `n`. -/
abbrev blockRow (c : Dev nD) (n : ℕ) (hn : n < 16) (a : Fin 1024) (k : Fin 2048) : EReal :=
  H (m ((c : Thread nD τ).loc main_arg0)) (m ((c : Thread nD τ).loc main_arg1)) (m ((c : Thread nD τ).loc main_arg2)) (ix3 ⟨(n * 1024 + a.val) / 4096, by omega⟩ ⟨(n * 1024 + a.val) % 4096, by omega⟩ k)

/-- The same, at the row block's own rows. -/
theorem rows_block (c : Dev nD) (t : Fin cfg0.N) (a : Fin 1024) (k : Fin 2048) :
    rows (iblk m c 0 t) (iblk m c 1 t) (iblk m c 2 t) (iblk m c 3 t) (ix2 a k)
    = blockRow m c t.val (by have := lt_of_lt_of_eq t.isLt N_0; omega) a k :=
  rows_at m c t a k _ _ rfl rfl

/-- The strips' pieces leave the normalised block. -/
theorem strips_at (c : Dev nD) (t : Fin cfg0.N) (y : S1024x2048.Idx) :
    View.canon (pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 1 t) (iblk m c 2 t) ((hs0_0 t).unread (iblk m c 0 t)) ((hs0_3 t).unread (iblk m c 3 t)) (Scf.trips 0#32 (Scalar.addi 0#32 32#32) 1#32)) y
    = rows (iblk m c 0 t) (iblk m c 1 t) (iblk m c 2 t) (iblk m c 3 t) y := by
  refine View.canon_apply_of_pieces _ _ (fun p hp x => ?_) y (View.cover_of_tiledL (pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 1 t) (iblk m c 2 t) ((hs0_0 t).unread (iblk m c 0 t)) ((hs0_3 t).unread (iblk m c 3 t)) (Scf.trips 0#32 (Scalar.addi 0#32 32#32) 1#32)) S32x2048.size (by sl_kernel_rfl) y)
  have h := strips _ _ _ _ _ _ _ _ _ _ _ _ _ _ _ _ _ _ _ _ _ _ _ le_rfl p hp x
  rw [(hs0_0 t).read_unread, (hs0_3 t).read_unread] at h
  exact h

/-! ## The blocks written -/

/-- Where an index of the small projections' block sits in their array. -/
theorem place5 (t : Fin cfg0.N) (y : S1024x1024.Idx) :
    (((cfg0.win 5).blk t).view.emb y 0).val = t.val * 1024 + (y 0).val
    ∧ (((cfg0.win 5).blk t).view.emb y 1).val = (y 1).val := by
  constructor <;> blk_simp [idx t] <;> simp

/-- Where an index of the activations' block sits in their array. -/
theorem place6 (t : Fin cfg0.N) (y : S1024x2048.Idx) :
    (((cfg0.win 6).blk t).view.emb y 0).val = t.val * 1024 + (y 0).val
    ∧ (((cfg0.win 6).blk t).view.emb y 1).val = (y 1).val := by
  constructor <;> blk_simp [idx t] <;> simp

/-- A block of the reference's activations times the gathered weight is the reference's block of small projections. -/
theorem tile_at (c : Dev nD) (t : Fin cfg0.N) (s : Vec Ideal S1024x2048 .bf16)
    (hs : ∀ a k, s (ix2 a k) = blockRow m c t.val (by have := lt_of_lt_of_eq t.isLt N_0; omega) a k)
    (a : Fin 1024) (b : Fin 1024) (r : Fin 16384) (q : Fin 1024)
    (h0 : r.val = t.val * 1024 + a.val) (h1 : q.val = b.val) :
    k0_pay2 (F := Ideal) s (iblk m c 4 t) (ix2 a b) = REF (m ((c : Thread nD τ).loc main_arg0)) (m ((c : Thread nD τ).loc main_arg1)) (m ((c : Thread nD τ).loc main_arg2)) (m ((c : Thread nD τ).loc main_arg3)) (ix2 r q) := by
  have ht := lt_of_lt_of_eq t.isLt N_0
  obtain rfl : q = b := Fin.ext h1
  show _ = SM (H (m ((c : Thread nD τ).loc main_arg0)) (m ((c : Thread nD τ).loc main_arg1)) (m ((c : Thread nD τ).loc main_arg2))) _ (ix2 r q)
  have hs' : ∀ a k, s (ix2 a k) = H (m ((c : Thread nD τ).loc main_arg0)) (m ((c : Thread nD τ).loc main_arg1)) (m ((c : Thread nD τ).loc main_arg2)) (ix3 _ _ k) := hs
  generalize H (m ((c : Thread nD τ).loc main_arg0)) (m ((c : Thread nD τ).loc main_arg1)) (m ((c : Thread nD τ).loc main_arg2)) = h at hs' ⊢
  by_cases ha : q.val < 848
  · pointwise [k0_pay2, SM]
    rw [dif_pos (by omega), dif_pos (by omega)]
    refine Finset.sum_congr rfl fun k _ => congrArg₂ (fun p q : EReal => p * q) ((hs' a k).trans ?_) ((w_at_lo m c t k q ha).trans ?_)
    all_goals blk_ext
  · by_cases hb : 896 ≤ q.val ∧ q.val < 960
    · pointwise [k0_pay2, SM]
      rw [dif_neg (by omega), dif_pos (by omega)]
      refine Finset.sum_congr rfl fun k _ => congrArg₂ (fun p q : EReal => p * q) ((hs' a k).trans ?_) ((w_at_hi m c t k q hb.1 hb.2).trans ?_)
      all_goals blk_ext
    · have hz : ∀ k, iblk m c 4 t (ix2 k q) = (0 : EReal) := fun k => w_at_no m c t k q (by omega)
      pointwise [k0_pay2, SM]
      simp only [hz, mul_zero, Finset.sum_const_zero]
      repeat' split
      all_goals first | exact padding.symm | (exfalso; omega)

/-- What point `t` leaves in its block of small projections. -/
theorem point5 (c : Dev nD) (t : Fin cfg0.N) (y : S1024x1024.Idx) :
    (outsAt0 m c t).1 y = REF (m ((c : Thread nD τ).loc main_arg0)) (m ((c : Thread nD τ).loc main_arg1)) (m ((c : Thread nD τ).loc main_arg2)) (m ((c : Thread nD τ).loc main_arg3)) (((cfg0.win 5).blk t).view.emb y) := by
  obtain ⟨h0, h1⟩ := place5 t y
  rw [eq_ix2 (((cfg0.win 5).blk t).view.emb y)]
  have hs := fun a k => (strips_at m c t (ix2 a k)).trans (rows_block m c t a k)
  unfold outsAt0
  frame_out
  refine (congrArg _ (eq_ix2 y)).trans (tile_at m c t _ ?_ (y 0) (y 1) _ _ h0 h1)
  intro a k
  rw [View.readCov_eq_canon']
  refine (congrArg _ ?_).trans (hs a k)
  blk_ext
  all_goals exact (Rect.idx_unit_val _ _ _ _ _).trans (Nat.zero_add _)

/-- What point `t` leaves in its block of activations. -/
theorem point6 (c : Dev nD) (t : Fin cfg0.N) (y : S1024x2048.Idx) :
    (outsAt0 m c t).2 y = HB (H (m ((c : Thread nD τ).loc main_arg0)) (m ((c : Thread nD τ).loc main_arg1)) (m ((c : Thread nD τ).loc main_arg2))) (((cfg0.win 6).blk t).view.emb y) := by
  obtain ⟨h0, h1⟩ := place6 t y
  rw [eq_ix2 (((cfg0.win 6).blk t).view.emb y)]
  have ht := lt_of_lt_of_eq t.isLt N_0
  have hs := (strips_at m c t y).trans ((congrArg _ (eq_ix2 y)).trans (rows_block m c t (y 0) (y 1)))
  unfold outsAt0
  frame_out
  refine hs.trans ?_
  show (H (m ((c : Thread nD τ).loc main_arg0)) (m ((c : Thread nD τ).loc main_arg1)) (m ((c : Thread nD τ).loc main_arg2))) _ = _
  generalize H (m ((c : Thread nD τ).loc main_arg0)) (m ((c : Thread nD τ).loc main_arg1)) (m ((c : Thread nD τ).loc main_arg2)) = h
  pointwise [HB]
  blk_ext [idx t]

/-- After the call the small projections are the reference's value of the arguments. -/
theorem final5 (c : Dev nD) : (dats m 0 c).arrAt 5 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  exact point5 m c t y

/-- After the call the activations are the reference's. -/
theorem final6 (c : Dev nD) : (dats m 0 c).arrAt 6 (cfgs 0).N = HB (H (m ((c : Thread nD τ).loc main_arg0)) (m ((c : Thread nD τ).loc main_arg1)) (m ((c : Thread nD τ).loc main_arg2))) := by
  refine (dats m 0 c).arrAt_eq_of_covers 6 _ (by decide +kernel) fun t _ y => ?_
  blk_simp
  rw [after0_6]
  exact point6 m c t y

/-- The kernel and the reference, run on the same arguments, end with the same results. -/
theorem algebraic : Cert.algebraic_NormInIdeal_NormInReferenceIdeal := fun m ρ m' ρ' _ hag =>
  ⟨fun c => REF (m ((c.tc : Thread nD τ).loc main_arg0)) (m ((c.tc : Thread nD τ).loc main_arg1)) (m ((c.tc : Thread nD τ).loc main_arg2)) (m ((c.tc : Thread nD τ).loc main_arg3)), fun c => HB (H (m ((c.tc : Thread nD τ).loc main_arg0)) (m ((c.tc : Thread nD τ).loc main_arg1)) (m ((c.tc : Thread nD τ).loc main_arg2))),
    (θ_run _ _ _).mono (fun _ h c => ⟨(h c).1.trans (final5 m c), (h c).2.1.trans (final6 m c), (h c).2.2⟩) (Value.run_blocks m ρ),
    (θ_run _ _ _).mono (fun _ h c => ⟨(h c).1.trans (by rw [(hag c).1, (hag c).2.1, (hag c).2.2.1, (hag c).2.2.2]), (h c).2.1.trans (by rw [(hag c).1, (hag c).2.1, (hag c).2.2.1]), (h c).2.2⟩) (Cert.NormInReferenceIdeal.Value.run m' ρ')⟩

end Cert.NormInIdeal.RefValue

end
-- ==== Proof.XbcStep.lean ====
/-
  One step of xbc_conv's body: what its nine buffers hold between two accesses, and one rule per access.

  The body works on four strips of 256 columns. Of a strip it first forms the product under its eight-row head (the
  carried tail), in one of two buffers by turns, then takes the convolution of that buffer in sixteen chunks of 64 rows.
  `Hold` says what is held: the operands, the output's first `n` chunks, the tail buffer's contents, and of the two
  strip buffers what is known (`Known`). A load reads what is held (`Runs.load`), a store moves `Hold` on.
-/
module

public import proofs.«01_k».proof.XbcConvIdeal
public import proofs.«01_k».proof.Proof.Gen.XbcConvIdeal
public import Idealize.ShloMosaic.Lib.Pipeline.FrameBody
public import Idealize.ShloMosaic.Lib.Tactic
public import Idealize.ShloMosaic.Lib.WritesUnit
public import Idealize.ShloMosaic.Lib.Pipeline.ValueKit

@[expose] public section

set_option maxRecDepth 16384

noncomputable section

namespace Cert.Proof.Xbc

open Cert.XbcConvIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.XbcConvIdeal.Facts₀ Cert.XbcConvIdeal.Facts

variable {F : FTy → Type} [FloatOps F]

/-- The state the assertions speak of. -/
abbrev MM (F : FTy → Type) [FloatOps F] := MT nD τ sig Unit (Elt F) ℕ (UR sig nD τ) ℕ

/-! ## What the buffers hold, as functions -/

/-- Column `b` of strip `s`. -/
abbrev col (s : ℕ) (b : Fin 256) : Fin 1024 := ⟨(256 * s + b.val) % 1024, Nat.mod_lt _ (by decide)⟩

/-- The column block of a grid point. -/
abbrev jx (i : grid0.Coords) : Fin 6 := ⟨(i 1).val, (i 1).isLt⟩

/-- Strip `s` of the tail of column block `j`. -/
def head (T : Vec F S6x8x1024 .f32) (j : Fin 6) (s : ℕ) : Vec F S8x256 .f32 := fun y => T (ix3 j (y 0) (col s (y 1)))

/-- Strip `s` of the product of the point's blocks. -/
def prod (A : Vec F S1024x2048 .bf16) (W : Vec F S2048x1024 .bf16) (s : ℕ) : Vec F S1024x256 .f32 :=
  matmul (sl := S1024x2048) (sr := S2048x256) (so := S1024x256) (φ₁ := .bf16) dot_S1024x2048_S2048x256_S1024x256_1_0_0_1_n_n none A (fun y => W (ix2 (y 0) (col s (y 1)))) (constant S1024x256 .f32 0x00000000#32)

/-- Eight rows over the rows of a product. -/
def glue (h : Vec F S8x256 .f32) (w : Vec F S1024x256 .f32) : Vec F S1032x256 .f32 := fun x =>
  if hx : (x 0).val < 8 then h (ix2 ⟨(x 0).val, hx⟩ (x 1)) else w (ix2 ⟨(x 0).val - 8, by have : (x 0).val < 1032 := (x 0).isLt; omega⟩ (x 1))

/-- What a strip buffer holds: strip `s` of the product under its head. -/
def strip (A : Vec F S1024x2048 .bf16) (W : Vec F S2048x1024 .bf16) (T : Vec F S6x8x1024 .f32) (j : Fin 6) (s : ℕ) : Vec F S1032x256 .f32 :=
  glue (head T j s) (prod A W s)

/-- The tail buffer after `k` strips of column block `j`: the strips' last eight rows. -/
def tails (A : Vec F S1024x2048 .bf16) (W : Vec F S2048x1024 .bf16) (T : Vec F S6x8x1024 .f32) (j : Fin 6) (k : ℕ) : Vec F S6x8x1024 .f32 := fun x =>
  if (x 0).val = j.val ∧ (x 2).val < 256 * k then
    strip A W T j ((x 2).val / 256) (ix2 ⟨1024 + (x 1).val, by have : (x 1).val < 8 := (x 1).isLt; omega⟩ ⟨(x 2).val % 256, Nat.mod_lt _ (by decide)⟩)
  else T x

/-- The tail buffer as the point's convolution finds it: zero at the start of a sequence. -/
def fresh (i : grid0.Coords) (T : Vec F S6x8x1024 .f32) : Vec F S6x8x1024 .f32 := fun x =>
  if k0_cond1 i = 1#1 ∧ (x 0).val = (i 1).val then Scalar.ofBits .f32 0x00000000#32 else T x

/-- One chunk: 64 rows of a strip, of the 72 rows that end with them, the taps' rows and the bias's. -/
abbrev chunk (e : FVec F S72x256 .f32) (w0 w1 w2 w3 b : FVec F S1x256 .f32) : FVec F S64x256 .bf16 :=
  let v78 : FVec F S1x256 .f32 := shapeCast S1x256 b shapeCasts_S1x256_S1x256
  let v57 : FVec F S72x256 .f32 := mulf e (broadcastTo S72x256 (shapeCast S1x256 w0 shapeCasts_S1x256_S1x256) broadcasts_S1x256_S72x256)
  let v63 : FVec F S72x256 .f32 := addf (dynamicRotate 0 (1#32) none v57 rotates_S72x256_d0) (mulf e (broadcastTo S72x256 (shapeCast S1x256 w1 shapeCasts_S1x256_S1x256) broadcasts_S1x256_S72x256))
  let v69 : FVec F S72x256 .f32 := addf (dynamicRotate 0 (1#32) none v63 rotates_S72x256_d0) (mulf e (broadcastTo S72x256 (shapeCast S1x256 w2 shapeCasts_S1x256_S1x256) broadcasts_S1x256_S72x256))
  let v75 : FVec F S72x256 .f32 := addf (dynamicRotate 0 (1#32) none v69 rotates_S72x256_d0) (mulf e (broadcastTo S72x256 (shapeCast S1x256 w3 shapeCasts_S1x256_S1x256) broadcasts_S1x256_S72x256))
  let v80 : FVec F S64x256 .f32 := addf (extractStridedSlice S64x256 ![8, 0] v75 slices_S72x256_o8_0_S64x256) (broadcastTo S64x256 v78 broadcasts_S1x256_S64x256)
  truncf .bf16 (mulf v80 (logistic v80)) bitsLt_bf16_f32

/-- Rows `64 r` to `64 r + 72` of a strip buffer. -/
def rows72 (g : Vec F S1032x256 .f32) (r : ℕ) : FVec F S72x256 .f32 := fun y => g (ix2 ⟨(64 * r + (y 0).val) % 1032, Nat.mod_lt _ (by decide)⟩ (y 1))

/-- Strip `s` of tap `k`. -/
def tap (w : Vec F S4x1024 .f32) (k : Fin 4) (s : ℕ) : FVec F S1x256 .f32 := fun y => w (ix2 k (col s (y 1)))

/-- Strip `s` of the bias. -/
def bias (b : Vec F S1x1024 .f32) (s : ℕ) : FVec F S1x256 .f32 := fun y => b (ix2 0 (col s (y 1)))

/-- Chunk `r` of strip `s` of the point's output. -/
def piece (A : Vec F S1024x2048 .bf16) (W : Vec F S2048x1024 .bf16) (w : Vec F S4x1024 .f32) (b : Vec F S1x1024 .f32) (T : Vec F S6x8x1024 .f32) (j : Fin 6) (s r : ℕ) : FVec F S64x256 .bf16 :=
  chunk (rows72 (strip A W T j s) r) (tap w 0 s) (tap w 1 s) (tap w 2 s) (tap w 3 s) (bias b s)

/-- The point's output. -/
def result (A : Vec F S1024x2048 .bf16) (W : Vec F S2048x1024 .bf16) (w : Vec F S4x1024 .f32) (b : Vec F S1x1024 .f32) (T : Vec F S6x8x1024 .f32) (j : Fin 6) : Vec F S1024x1024 .bf16 := fun x =>
  piece A W w b T j ((x 1).val / 256) ((x 0).val / 64) (ix2 ⟨(x 0).val % 64, Nat.mod_lt _ (by decide)⟩ ⟨(x 1).val % 256, Nat.mod_lt _ (by decide)⟩)

/-- What is known of a strip buffer. -/
inductive Known (F : FTy → Type) [FloatOps F] : Type
  | any
  | half (h : Vec F S8x256 .f32)
  | full (g : Vec F S1032x256 .f32)

/-- The contents it allows. -/
def Known.ok : Known F → Vec F S1032x256 .f32 → Prop
  | .any, _ => True
  | .half h, X => ∀ x, ∀ hx : (x 0).val < 8, X x = h (ix2 ⟨(x 0).val, hx⟩ (x 1))
  | .full g, X => X = g

/-- The output's first `n` chunks are done, strip after strip. -/
def Done (O X : Vec F S1024x1024 .bf16) (n : ℕ) : Prop := ∀ x, 16 * ((x 1).val / 256) + (x 0).val / 64 < n → X x = O x

/-! ## Memory -/

section Step
variable (c : Dev nD)
variable (a2 : Memref sig .tc .vmem S1024x2048 .bf16) (a3 : Memref sig .tc .vmem S2048x1024 .bf16)
variable (a4 : Memref sig .tc .vmem S4x1024 .f32) (a5 : Memref sig .tc .vmem S1x1024 .f32)
variable (a6 : Memref sig .tc .vmem S1024x1024 .bf16) (a7 : Memref sig .tc .vmem S6x8x1024 .f32)
variable (a8 a9 : Memref sig .tc .vmem S1032x256 .f32)
variable (A : Vec F S1024x2048 .bf16) (W : Vec F S2048x1024 .bf16) (w : Vec F S4x1024 .f32) (b : Vec F S1x1024 .f32)
variable (O : Vec F S1024x1024 .bf16)

/-- A memref at some contents that satisfy `P`. -/
abbrev some' {s : Shape} {e : EltTy} (m : Memref sig .tc .vmem s e) (P : (s.Idx → Elt F e) → Prop) : sProp (MM F) :=
  iprop(∃ X, ⌜P X⌝ ∗ owns (c : Thread nD τ) m fullShare X)

/-- What the body holds between two accesses; `p` products have been formed. -/
def Hold (T : Vec F S6x8x1024 .f32) (y z : Known F) (p n : ℕ) : sProp (MM F) :=
  iprop(owns (c : Thread nD τ) a2 fullShare A ∗ owns (c : Thread nD τ) a3 fullShare W ∗ owns (c : Thread nD τ) a4 fullShare w
    ∗ owns (c : Thread nD τ) a5 fullShare b ∗ some' c a6 (Done O · n) ∗ owns (c : Thread nD τ) a7 fullShare T
    ∗ some' c a8 y.ok ∗ some' c a9 z.ok)

variable {c a2 a3 a4 a5 a6 a7 a8 a9 A W w b O}

/-- `H` lends the memref at contents `X`. -/
class Lends (c : Dev nD) (H : sProp (MM F)) {s : Shape} {e : EltTy} (m : Memref sig .tc .vmem s e) (P : outParam ((s.Idx → Elt F e) → Prop)) : Prop where
  lend : H ⊢ iprop(∃ X, ⌜P X⌝ ∗ owns (c : Thread nD τ) m fullShare X ∗ (owns (c : Thread nD τ) m fullShare X -∗ H))

variable {T : Vec F S6x8x1024 .f32} {y z : Known F} {p n : ℕ}

instance l2 : Lends c (Hold c a2 a3 a4 a5 a6 a7 a8 a9 A W w b O T y z p n) a2 (· = A) where
  lend := by
    unfold Hold; iintro ⟨H2, H3, H4, H5, H6, H7, H8, H9⟩
    iexists A; isplitr; · ipureintro; rfl
    isplitl [H2]; · iexact H2
    iintro H2; iframe
instance l3 : Lends c (Hold c a2 a3 a4 a5 a6 a7 a8 a9 A W w b O T y z p n) a3 (· = W) where
  lend := by
    unfold Hold; iintro ⟨H2, H3, H4, H5, H6, H7, H8, H9⟩
    iexists W; isplitr; · ipureintro; rfl
    isplitl [H3]; · iexact H3
    iintro H3; iframe
instance l4 : Lends c (Hold c a2 a3 a4 a5 a6 a7 a8 a9 A W w b O T y z p n) a4 (· = w) where
  lend := by
    unfold Hold; iintro ⟨H2, H3, H4, H5, H6, H7, H8, H9⟩
    iexists w; isplitr; · ipureintro; rfl
    isplitl [H4]; · iexact H4
    iintro H4; iframe
instance l5 : Lends c (Hold c a2 a3 a4 a5 a6 a7 a8 a9 A W w b O T y z p n) a5 (· = b) where
  lend := by
    unfold Hold; iintro ⟨H2, H3, H4, H5, H6, H7, H8, H9⟩
    iexists b; isplitr; · ipureintro; rfl
    isplitl [H5]; · iexact H5
    iintro H5; iframe
instance l7 : Lends c (Hold c a2 a3 a4 a5 a6 a7 a8 a9 A W w b O T y z p n) a7 (· = T) where
  lend := by
    unfold Hold; iintro ⟨H2, H3, H4, H5, H6, H7, H8, H9⟩
    iexists T; isplitr; · ipureintro; rfl
    isplitl [H7]; · iexact H7
    iintro H7; iframe
instance l6 : Lends c (Hold c a2 a3 a4 a5 a6 a7 a8 a9 A W w b O T y z p n) a6 (Done O · n) where
  lend := by
    unfold Hold; iintro ⟨H2, H3, H4, H5, H6, H7, H8, H9⟩
    icases H6 with ⟨%X, %hX, H6⟩
    iexists X; isplitr; · ipureintro; exact hX
    isplitl [H6]; · iexact H6
    iintro H6
    ihave H6 : some' c a6 (Done O · n) $$ [H6]
    · iexists X; isplitr; · ipureintro; exact hX
      iexact H6
    iframe
instance l8 : Lends c (Hold c a2 a3 a4 a5 a6 a7 a8 a9 A W w b O T y z p n) a8 y.ok where
  lend := by
    unfold Hold; iintro ⟨H2, H3, H4, H5, H6, H7, H8, H9⟩
    icases H8 with ⟨%X, %hX, H8⟩
    iexists X; isplitr; · ipureintro; exact hX
    isplitl [H8]; · iexact H8
    iintro H8
    ihave H8 : some' c a8 y.ok $$ [H8]
    · iexists X; isplitr; · ipureintro; exact hX
      iexact H8
    iframe
instance l9 : Lends c (Hold c a2 a3 a4 a5 a6 a7 a8 a9 A W w b O T y z p n) a9 z.ok where
  lend := by
    unfold Hold; iintro ⟨H2, H3, H4, H5, H6, H7, H8, H9⟩
    icases H9 with ⟨%X, %hX, H9⟩
    iexists X; isplitr; · ipureintro; exact hX
    isplitl [H9]; · iexact H9
    iintro H9
    ihave H9 : some' c a9 z.ok $$ [H9]
    · iexists X; isplitr; · ipureintro; exact hX
      iexact H9
    iframe

/-! ## Running -/

variable {defs : Defs nD τ sig (Elt F) Λ₀}

/-- From `H` the program runs to its end, which gives `R`. -/
def Runs (defs : Defs nD τ sig (Elt F) Λ₀) (c : Dev nD) (R H : sProp (MM F)) (p : Prog (TpuEff nD τ sig (Elt F) Λ₀ .tc) PUnit) : Prop :=
  H ⊢ wp frame (wpE (Ix := Unit) (Name := ℕ) (U := UR sig nD τ) (Lvl := ℕ) defs Variants.none (c : Thread nD τ) none) Set.univ p (fun _ => R)

variable {R H H' : sProp (MM F)}

theorem holds_read (c : Dev nD) {s : Shape} {e : EltTy} (m : Memref sig .tc .vmem s e) {X : s.Idx → Elt F e} :
    (owns (c : Thread nD τ) m fullShare X : sProp (MM F)) ⊢ iprop(∃ f, ⌜m.view.read (Elt F) f = X⌝ ∗ (m.view.loc (c : Thread nD τ) ↦[m.view.set]{fullShare} f)) := by
  unfold owns; exact .rfl

/-- A load reads what is held. -/
theorem Runs.load {s : Shape} {e : EltTy} {m : Memref sig .tc .vmem s e} {P : (s.Idx → Elt F e) → Prop} [h : Lends c H m P]
    {r : Rect s} {hl : m.view.LoadsAt r.toLoadRect} {k : (r.shape.Idx → Elt F e) → Prog (TpuEff nD τ sig (Elt F) Λ₀ .tc) PUnit}
    (hk : ∀ X, P X → Runs defs c R H (k (View.ld X r))) : Runs defs c R H (Prog.lift (TpuEff.load m r.toLoadRect hl) >>= k) := by
  unfold Runs at hk ⊢
  refine h.lend.trans ?_
  iintro ⟨%X, %hX, Hm, Hk⟩
  ihave Hm := (holds_read c m) $$ Hm
  icases Hm with ⟨%f, %hf, Hm⟩
  subst hf
  iapply (wp_load Variants.none (c : Thread nD τ) none Set.univ (m := m) (r := r.toLoadRect) (hl := hl)
    (S := m.view.set) (View.setOn_subset_set _ _)) $$ Hm
  iintro Hm
  iapply (hk _ hX)
  iapply Hk
  iapply (owns_intro (c : Thread nD τ) m fullShare f) $$ Hm

/-- What a store through rectangle `r` of payload `v` makes of contents `X`. -/
def Wrote {s : Shape} {e : EltTy} (r : Rect s) (v : r.shape.Idx → Elt F e) (X X' : s.Idx → Elt F e) : Prop :=
  (∀ x, X' (r.emb x) = v x) ∧ ∀ i, i ∉ r.set → X' i = X i

/-- `H` gives the memref up at some contents, and takes it back as `H'` at what `Q` makes of them. -/
abbrev Gives (c : Dev nD) (H H' : sProp (MM F)) {s : Shape} {e : EltTy} (m : Memref sig .tc .vmem s e) (Q : (s.Idx → Elt F e) → (s.Idx → Elt F e) → Prop) : Prop :=
  H ⊢ iprop(∃ X, owns (c : Thread nD τ) m fullShare X ∗ (∀ X', ⌜Q X X'⌝ -∗ owns (c : Thread nD τ) m fullShare X' -∗ H'))

theorem Runs.store {s : Shape} {e : EltTy} {m : Memref sig .tc .vmem s e}
    {r : Rect s} {v : r.shape.Idx → Elt F e} {hx : (m.access r).Stores Finset.univ}
    {hm : Finset.univ = Finset.univ ∨ ∀ a, r.stride a = 1} {k : PUnit → Prog (TpuEff nD τ sig (Elt F) Λ₀ .tc) PUnit}
    (h : Gives c H H' m (Wrote r v)) (hk : Runs defs c R H' (k ⟨⟩)) :
    Runs defs c R H (Prog.lift (TpuEff.store m r v Finset.univ hx hm) >>= k) := by
  unfold Runs at hk ⊢
  refine BIBase.Entails.trans h ?_
  iintro ⟨%X, Hm, Hk⟩
  ihave Hm := (holds_read c m) $$ Hm
  icases Hm with ⟨%f, %hf, Hm⟩
  subst hf
  iapply (wp_store Variants.none (c : Thread nD τ) none Set.univ (m := m) (r := r) (w := v) (Mk := Finset.univ)
    (hx := hx) (hm := hm) (S := m.view.set) (m.setOn_access_subset r Finset.univ)) $$ Hm
  iintro Hm
  iapply hk
  ispecialize Hk $$ %(m.view.read (Elt F) ((m.access r).write (Elt F) f v Finset.univ))
  iapply Hk $$ []
  · ipureintro
    refine ⟨fun x => View.read_slice_write_emb r f v (Finset.mem_univ x), fun i hi => View.read_slice_write_of_not_mem r f v _ ?_⟩
    rwa [Rect.map_emb_univ]
  iapply (owns_intro (c : Thread nD τ) m fullShare _) $$ Hm

theorem Runs.assoc {α β : Type} {q : Prog (TpuEff nD τ sig (Elt F) Λ₀ .tc) α} {f : α → Prog (TpuEff nD τ sig (Elt F) Λ₀ .tc) β}
    {k : β → Prog (TpuEff nD τ sig (Elt F) Λ₀ .tc) PUnit} (h : Runs defs c R H (q >>= fun x => f x >>= k)) : Runs defs c R H ((q >>= f) >>= k) := by
  rwa [bind_assoc]

theorem Runs.pureSeq {α : Type} {x : α} {k : α → Prog (TpuEff nD τ sig (Elt F) Λ₀ .tc) PUnit} (h : Runs defs c R H (k x)) :
    Runs defs c R H (Pure.pure x >>= k) := h

theorem Runs.last {q : Prog (TpuEff nD τ sig (Elt F) Λ₀ .tc) PUnit} (h : Runs defs c R H (q >>= fun x => Pure.pure x)) : Runs defs c R H q := by
  rwa [bind_pure] at h

theorem Runs.done {x : PUnit} (h : H ⊢ R) : Runs defs c R H (Pure.pure x) := by
  unfold Runs; exact h.trans (le_wp_ret _ _ _ x (fun _ => R))

theorem Runs.cond {α : Type} {d : Prop} [Decidable d] {q : d → Prog (TpuEff nD τ sig (Elt F) Λ₀ .tc) α} {q' : ¬ d → Prog (TpuEff nD τ sig (Elt F) Λ₀ .tc) α}
    {k : α → Prog (TpuEff nD τ sig (Elt F) Λ₀ .tc) PUnit} (h : ∀ hd, Runs defs c R H (q hd >>= k)) (h' : ∀ hd, Runs defs c R H (q' hd >>= k)) :
    Runs defs c R H (dite d q q' >>= k) := by
  by_cases hd : d
  · rw [dif_pos hd]; exact h hd
  · rw [dif_neg hd]; exact h' hd

/-! ## What is given up for each store -/

/-- The output, one chunk on. -/
theorem give6 {Q : (Shape.Idx S1024x1024 → Elt F .bf16) → _ → Prop} {n' : ℕ} (hP : ∀ X X', Done O X n → Q X X' → Done O X' n') : Gives c (Hold c a2 a3 a4 a5 a6 a7 a8 a9 A W w b O T y z p n) (Hold c a2 a3 a4 a5 a6 a7 a8 a9 A W w b O T y z p n') a6 Q := by
  unfold Hold; iintro ⟨H2, H3, H4, H5, H6, H7, H8, H9⟩
  icases H6 with ⟨%X, %hX, H6⟩
  iexists X
  isplitl [H6]; · iexact H6
  iintro %X' %hQ H6
  ihave H6 : some' c a6 (Done O · n') $$ [H6]
  · iexists X'; isplitr; · ipureintro; exact hP X X' hX hQ
    iexact H6
  iframe
/-- The tail buffer. -/
theorem give7 {Q : (Shape.Idx S6x8x1024 → Elt F .f32) → _ → Prop} {T' : Vec F S6x8x1024 .f32} (hT : ∀ X', Q T X' → X' = T') : Gives c (Hold c a2 a3 a4 a5 a6 a7 a8 a9 A W w b O T y z p n) (Hold c a2 a3 a4 a5 a6 a7 a8 a9 A W w b O T' y z p n) a7 Q := by
  unfold Hold; iintro ⟨H2, H3, H4, H5, H6, H7, H8, H9⟩
  iexists T
  isplitl [H7]; · iexact H7
  iintro %X' %hQ H7
  rw [hT X' hQ]
  iframe
/-- The first strip buffer. -/
theorem give8 {Q : (Shape.Idx S1032x256 → Elt F .f32) → _ → Prop} {y' : Known F} {p' : ℕ} (hP : ∀ X X', y.ok X → Q X X' → y'.ok X') : Gives c (Hold c a2 a3 a4 a5 a6 a7 a8 a9 A W w b O T y z p n) (Hold c a2 a3 a4 a5 a6 a7 a8 a9 A W w b O T y' z p' n) a8 Q := by
  unfold Hold; iintro ⟨H2, H3, H4, H5, H6, H7, H8, H9⟩
  icases H8 with ⟨%X, %hX, H8⟩
  iexists X
  isplitl [H8]; · iexact H8
  iintro %X' %hQ H8
  ihave H8 : some' c a8 y'.ok $$ [H8]
  · iexists X'; isplitr; · ipureintro; exact hP X X' hX hQ
    iexact H8
  iframe
/-- The second strip buffer. -/
theorem give9 {Q : (Shape.Idx S1032x256 → Elt F .f32) → _ → Prop} {z' : Known F} {p' : ℕ} (hP : ∀ X X', z.ok X → Q X X' → z'.ok X') : Gives c (Hold c a2 a3 a4 a5 a6 a7 a8 a9 A W w b O T y z p n) (Hold c a2 a3 a4 a5 a6 a7 a8 a9 A W w b O T y z' p' n) a9 Q := by
  unfold Hold; iintro ⟨H2, H3, H4, H5, H6, H7, H8, H9⟩
  icases H9 with ⟨%X, %hX, H9⟩
  iexists X
  isplitl [H9]; · iexact H9
  iintro %X' %hQ H9
  ihave H9 : some' c a9 z'.ok $$ [H9]
  · iexists X'; isplitr; · ipureintro; exact hP X X' hX hQ
    iexact H9
  iframe

end Step

end Cert.Proof.Xbc
end
-- ==== Proof.XbcAccess.lean ====
/-
  The accesses of xbc_conv's body, one rule each (`Runs.head8` … `Runs.out`): what a store's payload is, of what was loaded,
  and what it makes of the buffer it goes to.
-/
module

public import proofs.«01_k».proof.Proof.XbcStep

@[expose] public section

set_option maxRecDepth 16384

noncomputable section

namespace Cert.Proof.Xbc

open Cert.XbcConvIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.XbcConvIdeal.Facts₀ Cert.XbcConvIdeal.Facts

variable {F : FTy → Type} [FloatOps F]

/-! ## Rectangles -/

section Rects
variable {s : Shape} {α : EltTy} {off size : Fin s.rank → ℕ} {inb : ∀ a, off a + size a ≤ s.size a}

theorem Wrote.hit {v : (Rect.unit off size inb).shape.Idx → Elt F α} {X X' : s.Idx → Elt F α} (h : Wrote (Rect.unit off size inb) v X X')
    (i : s.Idx) (x : (Rect.unit off size inb).shape.Idx) (hx : ∀ a, (i a).val = off a + (x a).val) : X' i = v x := by
  have e : (Rect.unit off size inb).emb x = i := funext fun a => Fin.ext ((Rect.idx_unit_val off size inb x a).trans (hx a).symm)
  rw [← e]; exact h.1 x

theorem Wrote.miss {v : (Rect.unit off size inb).shape.Idx → Elt F α} {X X' : s.Idx → Elt F α} (h : Wrote (Rect.unit off size inb) v X X')
    (i : s.Idx) (a : Fin s.rank) (ha : ¬ (off a ≤ (i a).val ∧ (i a).val < off a + size a)) : X' i = X i :=
  h.2 i fun hm => ha (Rect.mem_set_unit.1 hm a)

theorem ld_at (X : s.Idx → Elt F α) (x : (Rect.unit off size inb).shape.Idx) (i : s.Idx) (hx : ∀ a, (i a).val = off a + (x a).val) :
    View.ld X (Rect.unit off size inb) x = X i :=
  congrArg X (funext fun a => Fin.ext ((Rect.idx_unit_val off size inb x a).trans (hx a).symm))

end Rects

variable {A : Vec F S1024x2048 .bf16} {W : Vec F S2048x1024 .bf16} {w : Vec F S4x1024 .f32} {b : Vec F S1x1024 .f32}
variable {T : Vec F S6x8x1024 .f32} {j : Fin 6}

theorem tails_zero : tails A W T j 0 = T := by
  funext x; unfold tails; rw [if_neg]; rintro ⟨_, h⟩; omega

/-! ## Payloads -/

theorem head_pay {off : Fin 3 → ℕ} {k p : ℕ} {inb hc hc'} (hoff : off = ![j.val, 0, 256 * p]) (hkp : k ≤ p) (hp : p < 4) :
    shapeCast S8x256 (shapeCast S8x256 (View.ld (tails A W T j k) (Rect.unit (s := S6x8x1024) off S1x8x256.size inb)) hc) hc' = head T j p := by
  subst hoff
  rw [shapeCast_self]
  funext x
  have h1 : (x 1).val < 256 := (x 1).isLt
  have e : (256 * p + (x 1).val) % 1024 = 256 * p + (x 1).val := Nat.mod_eq_of_lt (by omega)
  refine (shapeCast_dropUnit_apply ![8, 256] _ _ x).trans ?_
  refine (ld_at _ _ (ix3 j (x 0) (col p (x 1))) ?_).trans ?_
  · intro a
    match a with
    | ⟨0, _⟩ => rfl
    | ⟨1, _⟩ => exact (Nat.zero_add _).symm
    | ⟨2, _⟩ => exact e
  · unfold tails; rw [if_neg]; · rfl
    rintro ⟨_, h⟩
    have h : (256 * p + (x 1).val) % 1024 < 256 * k := h
    omega

theorem prod_pay {o0 o1 : Fin 2 → ℕ} {p : ℕ} {inb0 inb1 hc0 hc1 hc} (h0 : o0 = ![0, 0]) (h1 : o1 = ![0, 256 * p]) (hp : p < 4) :
    shapeCast S1024x256 (matmul (sl := S1024x2048) (sr := S2048x256) (so := S1024x256) (φ₁ := .bf16) dot_S1024x2048_S2048x256_S1024x256_1_0_0_1_n_n none
      (shapeCast S1024x2048 (View.ld A (Rect.unit (s := S1024x2048) o0 S1024x2048.size inb0)) hc0)
      (shapeCast S2048x256 (View.ld W (Rect.unit (s := S2048x1024) o1 S2048x256.size inb1)) hc1) (constant S1024x256 .f32 0x00000000#32)) hc = prod A W p := by
  subst h0 h1
  rw [shapeCast_self]
  have eA : shapeCast S1024x2048 (View.ld A (Rect.unit (s := S1024x2048) ![0, 0] S1024x2048.size inb0)) hc0 = A := by
    refine (shapeCast_self _ _).trans ?_
    funext x
    refine ld_at A x x fun a => ?_
    match a with
    | ⟨0, _⟩ => exact (Nat.zero_add _).symm
    | ⟨1, _⟩ => exact (Nat.zero_add _).symm
  have eW : shapeCast S2048x256 (View.ld W (Rect.unit (s := S2048x1024) ![0, 256 * p] S2048x256.size inb1)) hc1 = fun y => W (ix2 (y 0) (col p (y 1))) := by
    refine (shapeCast_self _ _).trans ?_
    funext x
    have h1 : (x 1).val < 256 := (x 1).isLt
    refine ld_at W x (ix2 (x 0) (col p (x 1))) fun a => ?_
    match a with
    | ⟨0, _⟩ => exact (Nat.zero_add _).symm
    | ⟨1, _⟩ => exact Nat.mod_eq_of_lt (by omega)
  rw [eA, eW]; rfl

theorem rows_pay {g : Vec F S1032x256 .f32} {off : Fin 2 → ℕ} {r : ℕ} {inb} (hoff : off = ![64 * r, 0]) (hr : r < 16) :
    View.ld g (Rect.unit (s := S1032x256) off S72x256.size inb) = rows72 g r := by
  subst hoff
  funext x
  have h0 : (x 0).val < 72 := (x 0).isLt
  refine ld_at g x (ix2 ⟨(64 * r + (x 0).val) % 1032, Nat.mod_lt _ (by decide)⟩ (x 1)) fun a => ?_
  match a with
  | ⟨0, _⟩ => exact Nat.mod_eq_of_lt (by omega)
  | ⟨1, _⟩ => exact (Nat.zero_add _).symm

theorem tap_pay {off : Fin 2 → ℕ} {q : Fin 4} {s : ℕ} {inb} (hoff : off = ![q.val, 256 * s]) (hs : s < 4) :
    View.ld w (Rect.unit (s := S4x1024) off S1x256.size inb) = tap w q s := by
  subst hoff
  funext x
  have h0 : (x 0).val < 1 := (x 0).isLt
  have h1 : (x 1).val < 256 := (x 1).isLt
  refine ld_at w x (ix2 q (col s (x 1))) fun a => ?_
  match a with
  | ⟨0, _⟩ => show q.val = q.val + (x 0).val; omega
  | ⟨1, _⟩ => exact Nat.mod_eq_of_lt (by omega)

theorem bias_pay {off : Fin 2 → ℕ} {s : ℕ} {inb} (hoff : off = ![0, 256 * s]) (hs : s < 4) :
    View.ld b (Rect.unit (s := S1x1024) off S1x256.size inb) = bias b s := by
  subst hoff
  funext x
  have h0 : (x 0).val < 1 := (x 0).isLt
  have h1 : (x 1).val < 256 := (x 1).isLt
  refine ld_at b x (ix2 0 (col s (x 1))) fun a => ?_
  match a with
  | ⟨0, _⟩ => show 0 = 0 + (x 0).val; omega
  | ⟨1, _⟩ => exact Nat.mod_eq_of_lt (by omega)

/-! ## Contents -/

theorem half_of_wrote {X X' : Vec F S1032x256 .f32} {h : Vec F S8x256 .f32} {inb}
    (hw : Wrote (Rect.unit (s := S1032x256) ![0, 0] S8x256.size inb) h X X') : (Known.half h).ok X' := by
  intro x hx
  refine hw.hit x (ix2 ⟨(x 0).val, hx⟩ (x 1)) fun a => ?_
  match a with
  | ⟨0, _⟩ => exact (Nat.zero_add _).symm
  | ⟨1, _⟩ => exact (Nat.zero_add _).symm

theorem full_of_wrote {X X' : Vec F S1032x256 .f32} {h : Vec F S8x256 .f32} {g : Vec F S1024x256 .f32} {inb}
    (hX : (Known.half h).ok X) (hw : Wrote (Rect.unit (s := S1032x256) ![8, 0] S1024x256.size inb) g X X') : X' = glue h g := by
  funext x
  have h0 : (x 0).val < 1032 := (x 0).isLt
  unfold glue
  by_cases hx : (x 0).val < 8
  · rw [dif_pos hx]
    refine (hw.miss x 0 fun hm => ?_).trans (hX x hx)
    have : 8 ≤ (x 0).val := hm.1
    omega
  · rw [dif_neg hx]
    refine hw.hit x _ fun a => ?_
    match a with
    | ⟨0, _⟩ => show (x 0).val = 8 + ((x 0).val - 8); omega
    | ⟨1, _⟩ => exact (Nat.zero_add _).symm

theorem tails_of_wrote {X' : Vec F S6x8x1024 .f32} {off : Fin 3 → ℕ} {o : Fin 2 → ℕ} {k : ℕ} {inb inb' hc} (hoff : off = ![j.val, 0, 256 * k])
    (ho : o = ![1024, 0])
    (hw : Wrote (Rect.unit (s := S6x8x1024) off S1x8x256.size inb) (shapeCast S1x8x256 (View.ld (strip A W T j k) (Rect.unit (s := S1032x256) o S8x256.size inb')) hc)
      (tails A W T j k) X') : X' = tails A W T j (k + 1) := by
  subst hoff ho
  funext x
  have h0 : (x 0).val < 6 := (x 0).isLt
  have h1 : (x 1).val < 8 := (x 1).isLt
  have h2 : (x 2).val < 1024 := (x 2).isLt
  by_cases hx : (x 0).val = j.val ∧ 256 * k ≤ (x 2).val ∧ (x 2).val < 256 * k + 256
  · obtain ⟨e0, hlo, hhi⟩ := hx
    refine (hw.hit x (ix3 0 (x 1) ⟨(x 2).val - 256 * k, by omega⟩) fun a => ?_).trans ?_
    · match a with
      | ⟨0, _⟩ => exact e0
      | ⟨1, _⟩ => exact (Nat.zero_add _).symm
      | ⟨2, _⟩ => show (x 2).val = 256 * k + ((x 2).val - 256 * k); omega
    · refine (shapeCast_addUnit_apply ![8, 256] _ _ _).trans ?_
      have ek : (x 2).val / 256 = k := by omega
      unfold tails
      rw [if_pos ⟨e0, by omega⟩, ek]
      refine ld_at _ _ _ fun a => ?_
      match a with
      | ⟨0, _⟩ => rfl
      | ⟨1, _⟩ => show (x 2).val % 256 = 0 + ((x 2).val - 256 * k); omega
  · have e : X' x = tails A W T j k x := by
      by_cases e0 : (x 0).val = j.val
      · refine hw.miss x 2 fun hm => hx ⟨e0, hm.1, hm.2⟩
      · refine hw.miss x 0 fun hm => e0 ?_
        have l : j.val ≤ (x 0).val := hm.1
        have u : (x 0).val < j.val + 1 := hm.2
        omega
    rw [e]
    unfold tails
    by_cases hk : (x 0).val = j.val ∧ (x 2).val < 256 * k
    · rw [if_pos hk, if_pos ⟨hk.1, by omega⟩]
    · rw [if_neg hk, if_neg]
      rintro ⟨e0, hl⟩
      exact hx ⟨e0, by omega, by omega⟩

theorem fresh_of_wrote {i : grid0.Coords} {X X' : Vec F S6x8x1024 .f32} {off : Fin 3 → ℕ} {inb hc} (hd : k0_cond1 i = 1#1) (hoff : off = ![(i 1).val, 0, 0])
    (hw : Wrote (Rect.unit (s := S6x8x1024) off S1x8x1024.size inb) (shapeCast S1x8x1024 (broadcast S8x1024 (Scalar.ofBits .f32 0x00000000#32 : F .f32)) hc) X X') :
    X' = fresh i X := by
  subst hoff
  funext x
  have h1 : (x 1).val < 8 := (x 1).isLt
  have h2 : (x 2).val < 1024 := (x 2).isLt
  unfold fresh
  by_cases e0 : (x 0).val = (i 1).val
  · rw [if_pos ⟨hd, e0⟩]
    refine (hw.hit x (ix3 0 (x 1) (x 2)) fun a => ?_).trans ?_
    · match a with
      | ⟨0, _⟩ => exact e0
      | ⟨1, _⟩ => exact (Nat.zero_add _).symm
      | ⟨2, _⟩ => exact (Nat.zero_add _).symm
    · exact (shapeCast_addUnit_apply ![8, 1024] _ _ _)
  · rw [if_neg fun h => e0 h.2]
    refine hw.miss x 0 fun hm => e0 ?_
    have l : (i 1).val ≤ (x 0).val := hm.1
    have u : (x 0).val < (i 1).val + 1 := hm.2
    omega

theorem done_of_wrote {X X' : Vec F S1024x1024 .bf16} {n : ℕ} {off : Fin 2 → ℕ} {inb} {v : FVec F S64x256 .bf16} (hoff : off = ![64 * (n % 16), 256 * (n / 16)])
    (hv : v = piece A W w b T j (n / 16) (n % 16))
    (hX : Done (result A W w b T j) X n) (hw : Wrote (Rect.unit (s := S1024x1024) off S64x256.size inb) v X X') : Done (result A W w b T j) X' (n + 1) := by
  subst hoff hv
  intro x hx
  have h0 : (x 0).val < 1024 := (x 0).isLt
  have h1 : (x 1).val < 1024 := (x 1).isLt
  by_cases hn : 16 * ((x 1).val / 256) + (x 0).val / 64 = n
  · have es : (x 1).val / 256 = n / 16 := by omega
    have er : (x 0).val / 64 = n % 16 := by omega
    unfold result
    rw [es, er]
    refine hw.hit x _ fun a => ?_
    match a with
    | ⟨0, _⟩ => show (x 0).val = 64 * (n % 16) + (x 0).val % 64; omega
    | ⟨1, _⟩ => show (x 1).val = 256 * (n / 16) + (x 1).val % 256; omega
  · rw [← hX x (by omega)]
    by_cases es : (x 1).val / 256 = n / 16
    · refine hw.miss x 0 fun hm => ?_
      have l : 64 * (n % 16) ≤ (x 0).val := hm.1
      have u : (x 0).val < 64 * (n % 16) + 64 := hm.2
      omega
    · refine hw.miss x 1 fun hm => es ?_
      have l : 256 * (n / 16) ≤ (x 1).val := hm.1
      have u : (x 1).val < 256 * (n / 16) + 256 := hm.2
      omega

/-! ## Rules -/

variable {c : Dev nD} {defs : Defs nD τ sig (Elt F) Λ₀} {R : sProp (MM F)}
variable {a2 : Memref sig .tc .vmem S1024x2048 .bf16} {a3 : Memref sig .tc .vmem S2048x1024 .bf16}
variable {a4 : Memref sig .tc .vmem S4x1024 .f32} {a5 : Memref sig .tc .vmem S1x1024 .f32}
variable {a6 : Memref sig .tc .vmem S1024x1024 .bf16} {a7 : Memref sig .tc .vmem S6x8x1024 .f32}
variable {a8 a9 : Memref sig .tc .vmem S1032x256 .f32}
variable {O : Vec F S1024x1024 .bf16} {T' : Vec F S6x8x1024 .f32} {y z : Known F} {p n q : ℕ}
variable {K : PUnit → Prog (TpuEff nD τ sig (Elt F) Λ₀ .tc) PUnit}

instance (priority := high) l8' {g : Vec F S1032x256 .f32} : Lends c (Hold c a2 a3 a4 a5 a6 a7 a8 a9 A W w b O T' (.full g) z p n) a8 (· = g) := l8 (y := .full g)
instance (priority := high) l9' {g : Vec F S1032x256 .f32} : Lends c (Hold c a2 a3 a4 a5 a6 a7 a8 a9 A W w b O T' y (.full g) p n) a9 (· = g) := l9 (z := .full g)

/-- A load of known contents. -/
theorem Runs.known {H : sProp (MM F)} {s : Shape} {e : EltTy} {m : Memref sig .tc .vmem s e} {G : s.Idx → Elt F e} [h : Lends c H m (· = G)]
    {r : Rect s} {hl : m.view.LoadsAt r.toLoadRect} {k : (r.shape.Idx → Elt F e) → Prog (TpuEff nD τ sig (Elt F) Λ₀ .tc) PUnit}
    (hk : Runs defs c R H (k (View.ld G r))) : Runs defs c R H (Prog.lift (TpuEff.load m r.toLoadRect hl) >>= k) :=
  Runs.load (P := (· = G)) fun X hX => hX ▸ hk

/-- The tail buffer is zeroed, where a sequence starts. -/
theorem Runs.zero {i : grid0.Coords} {off : Fin 3 → ℕ} {inb hc hx hm} (hd : k0_cond1 i = 1#1) (hoff : off = ![(i 1).val, 0, 0])
    (hk : Runs defs c R (Hold c a2 a3 a4 a5 a6 a7 a8 a9 A W w b O (fresh i T') y z p n) (K ⟨⟩)) :
    Runs defs c R (Hold c a2 a3 a4 a5 a6 a7 a8 a9 A W w b O T' y z p n) (Prog.lift (TpuEff.store a7 (Rect.unit (s := S6x8x1024) off S1x8x1024.size inb)
      (shapeCast S1x8x1024 (broadcast S8x1024 (Scalar.ofBits .f32 0x00000000#32 : F .f32)) hc) Finset.univ hx hm) >>= K) :=
  Runs.store (give7 fun X' hw => fresh_of_wrote hd hoff hw) hk

/-- A branch that zeroes the tail buffer where a sequence starts, before what follows in either case. -/
theorem Runs.start {α : Type} {i : grid0.Coords} {J : Prog (TpuEff nD τ sig (Elt F) Λ₀ .tc) α} {Q : k0_cond1 i = 1#1 → Prog (TpuEff nD τ sig (Elt F) Λ₀ .tc) α}
    {K : α → Prog (TpuEff nD τ sig (Elt F) Λ₀ .tc) PUnit}
    (hQ : ∀ hd, Runs defs c R (Hold c a2 a3 a4 a5 a6 a7 a8 a9 A W w b O (fresh i T') y z p n) (J >>= K) →
      Runs defs c R (Hold c a2 a3 a4 a5 a6 a7 a8 a9 A W w b O T' y z p n) (Q hd >>= K))
    (hk : Runs defs c R (Hold c a2 a3 a4 a5 a6 a7 a8 a9 A W w b O (tails A W (fresh i T') j 0) y z p n) (J >>= K)) :
    Runs defs c R (Hold c a2 a3 a4 a5 a6 a7 a8 a9 A W w b O T' y z p n) (dite (k0_cond1 i = 1#1) Q (fun _ => J) >>= K) := by
  rw [tails_zero] at hk
  by_cases hd : k0_cond1 i = 1#1
  · rw [dif_pos hd]; exact hQ hd hk
  · rw [dif_neg hd]
    have e : fresh i T' = T' := by funext x; unfold fresh; rw [if_neg fun h => hd h.1]
    rwa [e] at hk

/-- A head, into the first strip buffer. -/
theorem Runs.head8 {off : Fin 3 → ℕ} {inb hc hc' inb' hx hm} (hoff : off = ![j.val, 0, 256 * p]) (hkp : q ≤ p) (hp : p < 4)
    (hk : Runs defs c R (Hold c a2 a3 a4 a5 a6 a7 a8 a9 A W w b O (tails A W T j q) (.half (head T j p)) z p n) (K ⟨⟩)) :
    Runs defs c R (Hold c a2 a3 a4 a5 a6 a7 a8 a9 A W w b O (tails A W T j q) y z p n) (Prog.lift (TpuEff.store a8 (Rect.unit (s := S1032x256) ![0, 0] S8x256.size inb')
      (shapeCast S8x256 (shapeCast S8x256 (View.ld (tails A W T j q) (Rect.unit (s := S6x8x1024) off S1x8x256.size inb)) hc) hc') Finset.univ hx hm) >>= K) :=
  Runs.store (give8 fun X X' _ hw => by rw [head_pay hoff hkp hp] at hw; exact half_of_wrote hw) hk

/-- A head, into the second strip buffer. -/
theorem Runs.head9 {off : Fin 3 → ℕ} {inb hc hc' inb' hx hm} (hoff : off = ![j.val, 0, 256 * p]) (hkp : q ≤ p) (hp : p < 4)
    (hk : Runs defs c R (Hold c a2 a3 a4 a5 a6 a7 a8 a9 A W w b O (tails A W T j q) y (.half (head T j p)) p n) (K ⟨⟩)) :
    Runs defs c R (Hold c a2 a3 a4 a5 a6 a7 a8 a9 A W w b O (tails A W T j q) y z p n) (Prog.lift (TpuEff.store a9 (Rect.unit (s := S1032x256) ![0, 0] S8x256.size inb')
      (shapeCast S8x256 (shapeCast S8x256 (View.ld (tails A W T j q) (Rect.unit (s := S6x8x1024) off S1x8x256.size inb)) hc) hc') Finset.univ hx hm) >>= K) :=
  Runs.store (give9 fun X X' _ hw => by rw [head_pay hoff hkp hp] at hw; exact half_of_wrote hw) hk

/-- A product, under its head in the first strip buffer. -/
theorem Runs.prod8 {o0 o1 : Fin 2 → ℕ} {inb inb0 inb1 hc0 hc1 hc hx hm} (h0 : o0 = ![0, 0]) (h1 : o1 = ![0, 256 * p]) (hp : p < 4)
    (hk : Runs defs c R (Hold c a2 a3 a4 a5 a6 a7 a8 a9 A W w b O T' (.full (strip A W T j p)) z (p + 1) n) (K ⟨⟩)) :
    Runs defs c R (Hold c a2 a3 a4 a5 a6 a7 a8 a9 A W w b O T' (.half (head T j p)) z p n) (Prog.lift (TpuEff.store a8 (Rect.unit (s := S1032x256) ![8, 0] S1024x256.size inb)
      (shapeCast S1024x256 (matmul (sl := S1024x2048) (sr := S2048x256) (so := S1024x256) (φ₁ := .bf16) dot_S1024x2048_S2048x256_S1024x256_1_0_0_1_n_n none
      (shapeCast S1024x2048 (View.ld A (Rect.unit (s := S1024x2048) o0 S1024x2048.size inb0)) hc0)
      (shapeCast S2048x256 (View.ld W (Rect.unit (s := S2048x1024) o1 S2048x256.size inb1)) hc1) (constant S1024x256 .f32 0x00000000#32)) hc) Finset.univ hx hm) >>= K) :=
  Runs.store (give8 fun X X' hX hw => by rw [prod_pay h0 h1 hp] at hw; exact full_of_wrote hX hw) hk

/-- A product, under its head in the second strip buffer. -/
theorem Runs.prod9 {o0 o1 : Fin 2 → ℕ} {inb inb0 inb1 hc0 hc1 hc hx hm} (h0 : o0 = ![0, 0]) (h1 : o1 = ![0, 256 * p]) (hp : p < 4)
    (hk : Runs defs c R (Hold c a2 a3 a4 a5 a6 a7 a8 a9 A W w b O T' y (.full (strip A W T j p)) (p + 1) n) (K ⟨⟩)) :
    Runs defs c R (Hold c a2 a3 a4 a5 a6 a7 a8 a9 A W w b O T' y (.half (head T j p)) p n) (Prog.lift (TpuEff.store a9 (Rect.unit (s := S1032x256) ![8, 0] S1024x256.size inb)
      (shapeCast S1024x256 (matmul (sl := S1024x2048) (sr := S2048x256) (so := S1024x256) (φ₁ := .bf16) dot_S1024x2048_S2048x256_S1024x256_1_0_0_1_n_n none
      (shapeCast S1024x2048 (View.ld A (Rect.unit (s := S1024x2048) o0 S1024x2048.size inb0)) hc0)
      (shapeCast S2048x256 (View.ld W (Rect.unit (s := S2048x1024) o1 S2048x256.size inb1)) hc1) (constant S1024x256 .f32 0x00000000#32)) hc) Finset.univ hx hm) >>= K) :=
  Runs.store (give9 fun X X' hX hw => by rw [prod_pay h0 h1 hp] at hw; exact full_of_wrote hX hw) hk

/-- A strip's last eight rows, into the tail buffer. -/
theorem Runs.keep {off : Fin 3 → ℕ} {o : Fin 2 → ℕ} {inb inb' hc hx hm} (hoff : off = ![j.val, 0, 256 * q]) (ho : o = ![1024, 0])
    (hk : Runs defs c R (Hold c a2 a3 a4 a5 a6 a7 a8 a9 A W w b O (tails A W T j (q + 1)) y z p n) (K ⟨⟩)) :
    Runs defs c R (Hold c a2 a3 a4 a5 a6 a7 a8 a9 A W w b O (tails A W T j q) y z p n) (Prog.lift (TpuEff.store a7 (Rect.unit (s := S6x8x1024) off S1x8x256.size inb)
      (shapeCast S1x8x256 (View.ld (strip A W T j q) (Rect.unit (s := S1032x256) o S8x256.size inb')) hc) Finset.univ hx hm) >>= K) :=
  Runs.store (give7 fun X' hw => tails_of_wrote hoff ho hw) hk

/-- A chunk of the output. -/
theorem Runs.out {off o5 o0 o1 o2 o3 ob : Fin 2 → ℕ} {inb inb5 inb0 inb1 inb2 inb3 inbb hx hm} (i : grid0.Coords) (h5 : o5 = k0_off5 i (BitVec.ofNat 32 (64 * (n % 16))))
    (hoff : off = ![64 * (n % 16), 256 * (n / 16)]) (h0 : o0 = ![0, 256 * (n / 16)]) (h1 : o1 = ![1, 256 * (n / 16)])
    (h2 : o2 = ![2, 256 * (n / 16)]) (h3 : o3 = ![3, 256 * (n / 16)]) (hb : ob = ![0, 256 * (n / 16)]) (hn : n < 64)
    (hk : Runs defs c R (Hold c a2 a3 a4 a5 a6 a7 a8 a9 A W w b (result A W w b T j) T' y z p (n + 1)) (K ⟨⟩)) :
    Runs defs c R (Hold c a2 a3 a4 a5 a6 a7 a8 a9 A W w b (result A W w b T j) T' y z p n) (Prog.lift (TpuEff.store a6 (Rect.unit (s := S1024x1024) off S64x256.size inb)
      (chunk (View.ld (strip A W T j (n / 16)) (Rect.unit (s := S1032x256) o5 S72x256.size inb5)) (View.ld w (Rect.unit (s := S4x1024) o0 S1x256.size inb0))
        (View.ld w (Rect.unit (s := S4x1024) o1 S1x256.size inb1)) (View.ld w (Rect.unit (s := S4x1024) o2 S1x256.size inb2))
        (View.ld w (Rect.unit (s := S4x1024) o3 S1x256.size inb3)) (View.ld b (Rect.unit (s := S1x1024) ob S1x256.size inbb))) Finset.univ hx hm) >>= K) := by
  have hs : n / 16 < 4 := by omega
  have hr : n % 16 < 16 := by omega
  refine Runs.store (give6 fun X X' hX hw => done_of_wrote hoff ?_ hX hw) hk
  unfold piece
  rw [rows_pay (h5.trans (Gen.k0_off5_eq i ⟨n % 16, hr⟩)) hr, tap_pay (q := 0) h0 hs, tap_pay (q := 1) h1 hs, tap_pay (q := 2) h2 hs, tap_pay (q := 3) h3 hs, bias_pay hb hs]

end Cert.Proof.Xbc
end
-- ==== Proof.XbcBody.lean ====
/-
  xbc_conv's body, run from end to end: from the blocks staged and any contents of the tail buffer it writes `result` to its
  output block, and leaves in the tail buffer the last eight rows of its product.
-/
module

public import proofs.«01_k».proof.Proof.XbcAccess

@[expose] public section

set_option maxRecDepth 65536
set_option maxHeartbeats 0

noncomputable section

namespace Cert.Proof.Xbc

open Cert.XbcConvIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.XbcConvIdeal.Facts₀ Cert.XbcConvIdeal.Facts

variable {F : FTy → Type} [FloatOps F]

variable {c : Dev nD} {a2 : Memref sig .tc .vmem S1024x2048 .bf16} {a3 : Memref sig .tc .vmem S2048x1024 .bf16}
    {a4 : Memref sig .tc .vmem S4x1024 .f32} {a5 : Memref sig .tc .vmem S1x1024 .f32}
    {a6 : Memref sig .tc .vmem S1024x1024 .bf16} {a7 : Memref sig .tc .vmem S6x8x1024 .f32}
    {a8 a9 : Memref sig .tc .vmem S1032x256 .f32}
    {A : Vec F S1024x2048 .bf16} {W : Vec F S2048x1024 .bf16} {w : Vec F S4x1024 .f32} {b : Vec F S1x1024 .f32} {T : Vec F S6x8x1024 .f32}

/-- How the body ends. -/
theorem leave {O : Vec F S1024x1024 .bf16} {j : Fin 6} {y z : Known F} {p k n : ℕ} (hk : k = 4) (hn : n = 64) :
    Hold c a2 a3 a4 a5 a6 a7 a8 a9 A W w b O (tails A W T j k) y z p n
      ⊢ iprop(∃ y z p, Hold c a2 a3 a4 a5 a6 a7 a8 a9 A W w b O (tails A W T j 4) y z p 64) := by
  subst hk hn
  iintro H; iexists y, z, p; iexact H

attribute [local irreducible] Runs Hold strip tails head prod result fresh Prog.bind Prog.lift

/-- What the body leaves: the output block written, the tail buffer with the product's last rows. -/
theorem body_runs (i : grid0.Coords) {defs : Defs nD τ sig (Elt F) Λ₀}
    (h2 : a2.IsWhole) (h3 : a3.IsWhole) (h4 : a4.IsWhole) (h5 : a5.IsWhole) (h6 : a6.IsWhole) (h7 : a7.IsWhole) (h8 : a8.IsWhole) (h9 : a9.IsWhole) :
    Runs defs c (iprop(∃ y z p, Hold c a2 a3 a4 a5 a6 a7 a8 a9 A W w b (result A W w b (fresh i T) (jx i)) (tails A W (fresh i T) (jx i) 4) y z p 64))
      (Hold c a2 a3 a4 a5 a6 a7 a8 a9 A W w b (result A W w b (fresh i T) (jx i)) T .any .any 0 0)
      (cc0_in_xbc_conv i a2 h2 a3 h3 a4 h4 a5 h5 a6 h6 a7 h7 a8 h8 a9 h9) := by
  unfold cc0_in_xbc_conv
  delta k0_part59
  refine Runs.assoc ?_
  delta k0_part1
  refine Runs.start (j := jx i) (fun hd hK => ?_) ?_
  · refine Runs.assoc ?_
    refine Runs.known ?_
    refine Runs.assoc ?_
    refine Runs.zero hd (Gen.k0_off1_eq i) ?_
    exact hK
  repeat' first
    | with_reducible refine Runs.pureSeq ?_
    | with_reducible refine Runs.assoc ?_
    | refine Runs.known ?_
    | refine Runs.load fun _ _ => ?_
    | refine Runs.out i rfl rfl rfl rfl rfl rfl rfl (by decide) ?_
    | refine Runs.keep (by first | exact Gen.k0_off2_eq i | exact Gen.k0_off3_eq i | exact Gen.k0_off6_eq i | exact Gen.k0_off7_eq i) (Gen.k0_off4_eq i) ?_
    | refine Runs.head8 (by first | exact Gen.k0_off2_eq i | exact Gen.k0_off6_eq i) (by decide) (by decide) ?_
    | refine Runs.head9 (by first | exact Gen.k0_off3_eq i | exact Gen.k0_off7_eq i) (by decide) (by decide) ?_
    | refine Runs.prod8 rfl rfl (by decide) ?_
    | refine Runs.prod9 rfl rfl (by decide) ?_
    | refine Runs.assoc ?_
  exact Runs.done (leave rfl rfl)
end Cert.Proof.Xbc
end
-- ==== Proof.XbcLaunch.lean ====
/-
  The whole call of xbc_conv: the body's run (`Xbc.body_runs`) at every grid point, and the launch.

  Between points the tail buffer holds, of every column block a point has been on, the last rows its last point formed.
  `carry` computes them from a zero buffer; the buffer itself starts at anything, and agrees with `carry` on the blocks
  reached so far. A point on a block not reached before is at the start of a sequence, where the body zeroes the block.
-/
module

public import proofs.«01_k».proof.Proof.XbcBody
public import proofs.«01_k».proof.Proof.Gen.XbcConvIdeal.Frame
public import Idealize.ShloMosaic.Lib.Claim

@[expose] public section

set_option maxRecDepth 16384

noncomputable section

namespace Cert.Proof.Xbc

open Cert.XbcConvIdeal Cert.XbcConvIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The tails -/

/-- The column block's tail after a point on it: the product's last rows. -/
theorem tails_at (A : Vec F S1024x2048 .bf16) (W : Vec F S2048x1024 .bf16) (T : Vec F S6x8x1024 .f32) (j : Fin 6) (x : S6x8x1024.Idx) (h : (x 0).val = j.val) :
    tails A W T j 4 x = prod A W ((x 2).val / 256) (ix2 ⟨1016 + (x 1).val, by have : (x 1).val < 8 := (x 1).isLt; omega⟩ ⟨(x 2).val % 256, Nat.mod_lt _ (by decide)⟩) := by
  have h1 : (x 1).val < 8 := (x 1).isLt
  have h2 : (x 2).val < 1024 := (x 2).isLt
  unfold tails strip glue
  rw [if_pos ⟨h, by omega⟩, dif_neg (by show ¬ 1024 + (x 1).val < 8; omega)]
  refine congrArg (prod A W _) (congrArg₂ ix2 (Fin.ext ?_) rfl)
  show 1024 + (x 1).val - 8 = 1016 + (x 1).val
  omega

/-- The other column blocks are kept. -/
theorem tails_off (A : Vec F S1024x2048 .bf16) (W : Vec F S2048x1024 .bf16) (T : Vec F S6x8x1024 .f32) (j : Fin 6) (x : S6x8x1024.Idx) (h : (x 0).val ≠ j.val) :
    tails A W T j 4 x = T x := if_neg fun h' => h h'.1

/-- A point's output reads the tail of its column block alone. -/
theorem result_congr (A : Vec F S1024x2048 .bf16) (W : Vec F S2048x1024 .bf16) (w : Vec F S4x1024 .f32) (b : Vec F S1x1024 .f32) {T T' : Vec F S6x8x1024 .f32} {j : Fin 6}
    (h : ∀ x : S6x8x1024.Idx, (x 0).val = j.val → T x = T' x) : result A W w b T j = result A W w b T' j := by
  have e : ∀ s, head T j s = head T' j s := fun s => funext fun y => h _ rfl
  unfold result piece strip
  simp only [e]

/-- Where a grid point is. -/
theorem at_point : ∀ t : Fin cfg0.N, (k0_cond1 (grid0.coords t) = 1#1 ↔ t.val / 6 % 4 = 0) ∧ (grid0.coords t 1).val = t.val % 6 :=
  (by decide +kernel : ∀ t : Fin grid0.N, _)

variable (m : (ℓ : Loc nD τ sig) → Buf (Elt F) ℓ) (ρ : Dev nD → PrngReg)

/-- The tail buffer before point `n`, had it been zero at the launch. -/
def carry (c : Dev nD) : ℕ → Vec F S6x8x1024 .f32
  | 0 => fun _ => Scalar.ofBits .f32 0x00000000#32
  | n + 1 => if h : n < cfg0.N then
      tails (iblk m c 0 ⟨n, h⟩) (iblk m c 1 ⟨n, h⟩) (fresh (grid0.coords ⟨n, h⟩) (carry c n)) (jx (grid0.coords ⟨n, h⟩)) 4
    else carry c n

/-- After point `t`. -/
theorem carry_succ (c : Dev nD) (t : Fin cfg0.N) :
    carry m c (t.val + 1) = tails (iblk m c 0 t) (iblk m c 1 t) (fresh (grid0.coords t) (carry m c t.val)) (jx (grid0.coords t)) 4 :=
  dif_pos t.isLt

/-- `T` is `carry` on the column blocks reached before point `n`. -/
def Agrees (c : Dev nD) (n : ℕ) (T : Vec F S6x8x1024 .f32) : Prop := ∀ x : S6x8x1024.Idx, (x 0).val < n → T x = carry m c n x

/-- It is then `carry` where the point reads. -/
theorem Agrees.fresh {c : Dev nD} {t : Fin cfg0.N} {T : Vec F S6x8x1024 .f32} (h : Agrees m c t.val T) (x : S6x8x1024.Idx) (hx : (x 0).val < t.val + 1) :
    Xbc.fresh (grid0.coords t) T x = Xbc.fresh (grid0.coords t) (carry m c t.val) x := by
  obtain ⟨h1, h2⟩ := at_point t
  have h6 : (x 0).val < 6 := (x 0).isLt
  unfold Xbc.fresh
  split
  · rfl
  · rename_i hn
    refine h x ?_
    rw [h1, h2] at hn
    omega

/-- And stays so. -/
theorem Agrees.step {c : Dev nD} {t : Fin cfg0.N} {T : Vec F S6x8x1024 .f32} (h : Agrees m c t.val T) :
    Agrees m c (t.val + 1) (tails (iblk m c 0 t) (iblk m c 1 t) (Xbc.fresh (grid0.coords t) T) (jx (grid0.coords t)) 4) := by
  intro x hx
  rw [carry_succ]
  by_cases hj : (x 0).val = (jx (grid0.coords t)).val
  · rw [tails_at _ _ _ _ _ hj, tails_at _ _ _ _ _ hj]
  · rw [tails_off _ _ _ _ _ hj, tails_off _ _ _ _ _ hj, h.fresh m x hx]

/-- What point `t` leaves in its output block. -/
def left (c : Dev nD) (t : Fin cfg0.N) : Vec F S1024x1024 .bf16 :=
  result (iblk m c 0 t) (iblk m c 1 t) (iblk m c 2 t) (iblk m c 3 t) (Xbc.fresh (grid0.coords t) (carry m c t.val)) (jx (grid0.coords t))

/-! ## The pipeline's proof data -/

/-- What a point finds in the scratch and leaves there. -/
def inv (c : Dev nD) (n : ℕ) : sProp (MM F) :=
  iprop((∃ T, ⌜Agrees m c n T⌝ ∗ owns (c : Thread nD τ) (Memref.whole cc0_scratch0) fullShare T)
    ∗ (∃ X, owns (c : Thread nD τ) (Memref.whole cc0_scratch1) fullShare X) ∗ (∃ X, owns (c : Thread nD τ) (Memref.whole cc0_scratch2) fullShare X)
    ∗ (∃ r, prngReg c r))

/-- The launch's invariant, the scratch as memrefs. -/
theorem scratch_eq (c : Dev nD) : (Pipeline.ΦA spec0 c : sProp (MM F))
    = iprop(((∃ X, owns (c : Thread nD τ) (Memref.whole cc0_scratch0) fullShare X)
      ∗ (∃ X, owns (c : Thread nD τ) (Memref.whole cc0_scratch1) fullShare X) ∗ (∃ X, owns (c : Thread nD τ) (Memref.whole cc0_scratch2) fullShare X))
      ∗ (∃ r, prngReg c r)) := by
  unfold Pipeline.ΦA; rw [scopedRest0_eq]; simp only [owns_whole]; try rfl

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => left m c t
  Φ t := inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = left m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- What the body is called with at point `t`, -/
def bodyPre (c : Dev nD) (t : Fin cfg0.N) : sProp (MM F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp (MM F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- All the chunks done, the block is the output. -/
theorem done_all {O X : Vec F S1024x1024 .bf16} (h : Done O X 64) : X = O := funext fun x => h x (by
  have h0 : (x 0).val < 1024 := (x 0).isLt
  have h1 : (x 1).val < 1024 := (x 1).isLt
  omega)

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  have eo : (dats m 0 c).owesAt () t.succ = (dats m 0 c).owesAt () t.castSucc := rfl
  have ei : (dats m 0 c).Φ t.castSucc = inv m c t.val := rfl
  have ej : (dats m 0 c).Φ t.succ = inv m c (t.val + 1) := rfl
  rw [eo, ei, ej, after_0, after_1, after_2, after_3, after_4]
  simp only [before_0, before_1, before_2, before_3]
  unfold inv
  iintro ⟨⟨⟨%T, %hT, HT⟩, ⟨%X1, HX1⟩, ⟨%X2, HX2⟩, Hg⟩, Ho, ⟨%d0, H0⟩, ⟨%d1, H1⟩, ⟨%d2, H2⟩, ⟨%d3, H3⟩, ⟨%d4, H4⟩⟩
  have eR := result_congr (iblk m c 0 t) (iblk m c 1 t) (iblk m c 2 t) (iblk m c 3 t) (j := jx (grid0.coords t))
    (T := Xbc.fresh (grid0.coords t) T) (T' := Xbc.fresh (grid0.coords t) (carry m c t.val))
    (fun x hx => hT.fresh m x (by have h := (at_point t).2; have h' : (x 0).val = (grid0.coords t 1).val := hx; omega))
  have hb := body_runs (F := F) (grid0.coords t) (c := c) (defs := defs₀ (F := F))
    (hstage0_0 ((cfg0.slots t 0).cast nbuf0_0)) (hstage0_1 ((cfg0.slots t 1).cast nbuf0_1)) (hstage0_2 ((cfg0.slots t 2).cast nbuf0_2))
    (hstage0_3 ((cfg0.slots t 3).cast nbuf0_3)) (hstage0_4 ((cfg0.slots t 4).cast nbuf0_4))
    (Memref.isWhole_whole cc0_scratch0) (Memref.isWhole_whole cc0_scratch1) (Memref.isWhole_whole cc0_scratch2)
    (A := iblk m c 0 t) (W := iblk m c 1 t) (w := iblk m c 2 t) (b := iblk m c 3 t) (T := T)
  unfold Runs at hb
  iapply (wp_wand_r Idealize.ShloMosaic.frame (wpE (defs₀ (F := F)) Variants.none (c : Thread nD τ) none) Set.univ)
  isplitl [HT HX1 HX2 H0 H1 H2 H3 H4]
  · iapply hb
    unfold Hold
    isplitl [H0]; · iexact H0
    isplitl [H1]; · iexact H1
    isplitl [H2]; · iexact H2
    isplitl [H3]; · iexact H3
    isplitl [H4]
    · iexists _; isplitr
      swap; · iexact H4
      ipureintro; exact fun x hx => absurd hx (Nat.not_lt_zero _)
    isplitl [HT]; · iexact HT
    isplitl [HX1]
    · iexists _; isplitr
      swap; · iexact HX1
      ipureintro; trivial
    · iexists _; isplitr
      swap; · iexact HX2
      ipureintro; trivial
  · iintro %u ⟨%y, %z, %p, H⟩
    unfold Hold
    icases H with ⟨H0, H1, H2, H3, ⟨%X, %hX, H4⟩, HT, ⟨%Y1, %_, HX1⟩, ⟨%Y2, %_, HX2⟩⟩
    isplitl [HT HX1 HX2 Hg]
    · isplitl [HT]
      · iexists _; isplitr
        swap; · iexact HT
        ipureintro; exact hT.step m
      isplitl [HX1]; · iexists _; iexact HX1
      isplitl [HX2]; · iexists _; iexact HX2
      iexact Hg
    isplitl [Ho]; · iexact Ho
    isplitl [H0]; · iexact H0
    isplitl [H1]; · iexact H1
    isplitl [H2]; · iexact H2
    isplitl [H3]; · iexact H3
    have eX : X = left m c t := (done_all hX).trans eR
    rw [← eX]; iexact H4

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem hin (c : Dev nD) : Pipeline.ΦA spec0 c ⊢ (dats m 0 c).Φ 0 := by
  rw [show (dats m 0 c).Φ 0 = inv m c 0 from rfl, scratch_eq]
  unfold inv
  iintro ⟨⟨⟨%T, HT⟩, H1, H2⟩, Hg⟩
  isplitl [HT]
  · iexists T; isplitr
    swap; · iexact HT
    ipureintro; exact fun x hx => absurd hx (Nat.not_lt_zero _)
  isplitl [H1]; · iexact H1
  isplitl [H2]; · iexact H2
  iexact Hg

theorem hout (c : Dev nD) : (dats m 0 c).Φ (Fin.last cfg0.N) ⊢ Pipeline.ΦA spec0 c := by
  rw [show (dats m 0 c).Φ (Fin.last cfg0.N) = inv m c cfg0.N from rfl, scratch_eq]
  unfold inv
  iintro ⟨⟨%T, %_, HT⟩, H1, H2, Hg⟩
  isplitl [HT H1 H2]
  · isplitl [HT]; · iexists T; iexact HT
    isplitl [H1]; · iexact H1
    iexact H2
  iexact Hg

-- `θ_run_frame_track`'s implicit arguments are found by unifying its conclusion with this one
set_option backward.isDefEq.respectTransparency.types false in
/-- The launch. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The call runs, leaves its arguments as they were, and holds no semaphore; its result is what the points left. -/
theorem run : θ_run defs (onTc (τ := τ) (main (F := F))) ⟨m, fun _ => 0, ρ⟩ (fun r => (∀ c : Dev nD,
      r.2.mem ((c.tc : Thread nD τ).loc main_v8) = (dats m 0 c).arrAt 4 cfg0.N)
      ∧ (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and ((θ_run defs _ _).mono (fun r h c => (h.1 c).1 4) (run_main m ρ))
    (θ_run_and (frame_of m ρ (dats m) (A_eq m) ((θ_run defs _ _).mono (fun _ h => h.1) (run_main m ρ)))
      ((θ_run defs _ _).mono (fun _ h => h.2) (run_main m ρ)))

end Cert.Proof.Xbc

end
-- ==== Proof.XbcFrame.lean ====
/-
  The frame of xbc_conv on bits. The program as compiled and the program the value claim is about have the same text, so
  what `XbcLaunch` shows of the second, over any floats, is said of the first.
-/
module

public import proofs.«01_k».proof.Defs
public import proofs.«01_k».proof.Proof.Gen.XbcConv
public import proofs.«01_k».proof.Proof.XbcLaunch

@[expose] public section

set_option maxRecDepth 16384

open Idealize.ShloMosaic Idealize.ShloMosaic.TcCoe Idealize.SL.Sem

namespace Cert.Proof.Xbc

variable {F : FTy → Type} [FloatOps F] [h : Cert.XbcConv.Facts] [h' : Cert.XbcConvIdeal.Facts]

/-- The body tables are the same, -/
theorem bodies_eq : Cert.XbcConv.defs₀ (F := F) = Cert.XbcConvIdeal.defs₀ (F := F) := by
  unfold Cert.XbcConv.defs₀ Cert.XbcConvIdeal.defs₀
  refine congrArg Defs.onTc ?_
  funext k a
  rcases k with ⟨k, hk⟩
  obtain rfl : k = 0 := by have : k < 1 := hk; omega
  obtain ⟨t, s⟩ := a
  rfl

/-- with the regions and the pipelines too. -/
theorem defs_eq : Cert.XbcConv.defs (F := F) = Cert.XbcConvIdeal.defs (F := F) :=
  congrArg (Pipeline.defs (Cert.XbcConvIdeal.pcfgs (F := F))) bodies_eq

/-- And the host program. -/
theorem main_eq : Cert.XbcConv.main (F := F) = Cert.XbcConvIdeal.main (F := F) := rfl

/-- The call as compiled runs, leaves its arguments as they were, and holds no semaphore. -/
theorem frame_bits : Cert.quiescent_XbcConv := fun m ρ _ => by
  have e := run (F := Bits) m ρ
  have e' := (θ_run _ _ _).mono (fun _ h => h.2) e
  rw [← defs_eq, ← main_eq] at e'
  exact e'

end Cert.Proof.Xbc

end
-- ==== Proof.XbcConvValue.lean ====
/-
  The xbc columns of the input projection, convolved along the sequence and put through silu: a strip of the kernel's
  buffers, the carried tail over the product, is a run of rows of the reference's padded product, so its four taps read
  the same four rows.
-/
module

public import proofs.«01_k».proof.Defs
public import proofs.«01_k».proof.Proof.XbcLaunch
public import proofs.«01_k».proof.Proof.Gen.XbcConvReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.XbcConvReferenceIdeal.RefValue

open Cert.XbcConvReferenceIdeal Cert.XbcConvReferenceIdeal.Gen

/-- The projection's columns under three rows of zeroes. -/
abbrev PAD (x : FVec Ideal S4x4096x2048 .f32) (w : FVec Ideal S1x2048x15248 .f32) : FVec Ideal S4x4099x6144 .f32 :=
  pad S4x4099x6144 ![0, 3, 0] ![0, 0, 0] ![0, 0, 0] (extractStridedSlice S4x4096x6144 ![0, 0, 4944] (Host.dotGeneral dot_S4x4096x2048_S2048x15248_S4x4096x15248_2_0_01_1_n_n none x (shapeCast _ w shapeCasts_S1x2048x15248_S2048x15248)) slices_S4x4096x15248_S4x4096x6144_0_0_4944) (sitofp .f32 (constantI S_ 32 0#32)) pads_S4x4096x6144_S4x4099x6144_000_300_000 h_S_

/-- The convolution with its bias, of the padded columns. -/
abbrev CONV (e : FVec Ideal S4x4099x6144 .f32) (w : FVec Ideal S1x4x6144 .f32) (b : FVec Ideal S1x6144 .f32) : FVec Ideal S4x4096x6144 .f32 :=
  addf (addf (addf (addf (mulf (extractStridedSlice S4x4096x6144 ![0, 0, 0] e slices_S4x4099x6144_S4x4096x6144_0_0_0) (broadcastInDim S4x4096x6144 ![0, 1, 2] bcast_S1x1x6144_S4x4096x6144_0_1_2 (broadcastInDim S1x1x6144 ![2] bcast_S6144_S1x1x6144_2 (shapeCast _ (extractStridedSlice S1x1x6144 ![0, 0, 0] w slices_S1x4x6144_S1x1x6144_0_0_0) shapeCasts_S1x1x6144_S6144)))) (mulf (extractStridedSlice S4x4096x6144 ![0, 1, 0] e slices_S4x4099x6144_S4x4096x6144_0_1_0) (broadcastInDim S4x4096x6144 ![0, 1, 2] bcast_S1x1x6144_S4x4096x6144_0_1_2 (broadcastInDim S1x1x6144 ![2] bcast_S6144_S1x1x6144_2 (shapeCast _ (extractStridedSlice S1x1x6144 ![0, 1, 0] w slices_S1x4x6144_S1x1x6144_0_1_0) shapeCasts_S1x1x6144_S6144))))) (mulf (extractStridedSlice S4x4096x6144 ![0, 2, 0] e slices_S4x4099x6144_S4x4096x6144_0_2_0) (broadcastInDim S4x4096x6144 ![0, 1, 2] bcast_S1x1x6144_S4x4096x6144_0_1_2 (broadcastInDim S1x1x6144 ![2] bcast_S6144_S1x1x6144_2 (shapeCast _ (extractStridedSlice S1x1x6144 ![0, 2, 0] w slices_S1x4x6144_S1x1x6144_0_2_0) shapeCasts_S1x1x6144_S6144))))) (mulf (extractStridedSlice S4x4096x6144 ![0, 3, 0] e slices_S4x4099x6144_S4x4096x6144_0_3_0) (broadcastInDim S4x4096x6144 ![0, 1, 2] bcast_S1x1x6144_S4x4096x6144_0_1_2 (broadcastInDim S1x1x6144 ![2] bcast_S6144_S1x1x6144_2 (shapeCast _ (extractStridedSlice S1x1x6144 ![0, 3, 0] w slices_S1x4x6144_S1x1x6144_0_3_0) shapeCasts_S1x1x6144_S6144))))) (broadcastInDim S4x4096x6144 ![0, 1, 2] bcast_S1x1x6144_S4x4096x6144_0_1_2 (broadcastInDim S1x1x6144 ![2] bcast_S6144_S1x1x6144_2 (shapeCast _ b shapeCasts_S1x6144_S6144)))

/-- The result, of the convolution. -/
abbrev SILU (y : FVec Ideal S4x4096x6144 .f32) : FVec Ideal S16384x6144 .bf16 :=
  truncf .bf16 (shapeCast _ (mulf y (Host.divf (broadcastInDim S4x4096x6144 ![] bcast_S_S4x4096x6144 (constant S_ .f32 0x3F800000#32)) (addf (broadcastInDim S4x4096x6144 ![] bcast_S_S4x4096x6144 (constant S_ .f32 0x3F800000#32)) (Host.exp (Host.negf y))))) shapeCasts_S4x4096x6144_S16384x6144) bitsLt_bf16_f32

/-- The reference's result as a function of its arguments. -/
abbrev REF (x : FVec Ideal S4x4096x2048 .f32) (w : FVec Ideal S1x2048x15248 .f32) (k : FVec Ideal S1x4x6144 .f32) (b : FVec Ideal S1x6144 .f32) : FVec Ideal S16384x6144 .bf16 :=
  SILU (CONV (PAD x w) k b)

end Cert.XbcConvReferenceIdeal.RefValue

namespace Cert.XbcConvIdeal.RefValue

open Cert.XbcConvIdeal Cert.XbcConvIdeal.Gen Cert.Proof.Xbc
open Cert.XbcConvReferenceIdeal.RefValue (PAD CONV SILU REF)

variable (m : (ℓ : Loc nD τ sig) → Buf (Elt Ideal) ℓ)

/-- Which block each window is on, at every grid point. -/
theorem idx : ∀ t : Fin cfg0.N, win0_0.index t = ![t.val / 6, 0] ∧ win0_1.index t = ![0, t.val % 6]
    ∧ win0_2.index t = ![0, t.val % 6] ∧ win0_3.index t = ![0, t.val % 6] ∧ win0_4.index t = ![t.val / 6, t.val % 6] :=
  (by decide +kernel : ∀ t : Fin grid0.N, _)

/-! ## What the blocks hold -/

/-- The activation's block at point `t`. -/
theorem x_at (c : Dev nD) (t : Fin cfg0.N) (a : Fin 1024) (k : Fin 2048) :
    iblk m c 0 t (ix2 a k) = m ((c : Thread nD τ).loc main_arg0) (ix3 ⟨t.val / 24, by have := lt_of_lt_of_eq t.isLt N_0; omega⟩ ⟨t.val / 6 % 4 * 1024 + a.val, by omega⟩ k) := by
  blk_simp [iblk, idx t]
  entry_read
  pointwise
  blk_ext [idx t]

/-- The weight's block at point `t`. -/
theorem w_at (c : Dev nD) (t : Fin cfg0.N) (k : Fin 2048) (b : Fin 1024) :
    iblk m c 1 t (ix2 k b) = m ((c : Thread nD τ).loc main_arg1) (ix3 0 k ⟨4944 + (t.val % 6 * 1024 + b.val), by omega⟩) := by
  blk_simp [iblk, idx t]
  entry_read
  pointwise
  blk_ext [idx t]

/-- The taps' block at point `t`. -/
theorem k_at (c : Dev nD) (t : Fin cfg0.N) (k : Fin 4) (b : Fin 1024) :
    iblk m c 2 t (ix2 k b) = m ((c : Thread nD τ).loc main_arg2) (ix3 0 k ⟨t.val % 6 * 1024 + b.val, by omega⟩) := by
  blk_simp [iblk, idx t]
  entry_read
  pointwise
  blk_ext [idx t]

/-- The bias's block at point `t`. -/
theorem b_at (c : Dev nD) (t : Fin cfg0.N) (b : Fin 1024) :
    iblk m c 3 t (ix2 0 b) = m ((c : Thread nD τ).loc main_arg3) (ix2 0 ⟨t.val % 6 * 1024 + b.val, by omega⟩) := by
  blk_simp [iblk, idx t]
  entry_read
  pointwise
  blk_ext [idx t]

/-! ## The strips -/

/-- What the columns are padded with is zero. -/
theorem padding : FloatOps.sitofp (F := Ideal) FTy.f32 (0#32) = (0 : EReal) := by
  show (((0#32 : BitVec 32).toInt : ℝ) : EReal) = 0
  simp

/-- The columns of the projection the call computes. -/
abbrev cols (c : Dev nD) (p : Fin 4) (q : Fin 4099) (C : Fin 6144) : EReal :=
  PAD (m ((c : Thread nD τ).loc main_arg0)) (m ((c : Thread nD τ).loc main_arg1)) (ix3 p q C)

/-- The first three rows of a sequence are zero. -/
theorem cols_zero (c : Dev nD) (p : Fin 4) (q : Fin 4099) (C : Fin 6144) (h : q.val < 3) : cols m c p q C = 0 := by
  pointwise [cols, PAD]
  rw [dif_neg (by omega)]
  exact padding

/-- A point's product. -/
theorem prod_at (c : Dev nD) (t : Fin cfg0.N) (s : ℕ) (hs : s < 4) (a : Fin 1024) (b : Fin 256) (p : Fin 4) (q : Fin 4099) (C : Fin 6144)
    (hp : p.val = t.val / 24) (hq : q.val = t.val / 6 % 4 * 1024 + a.val + 3) (hC : C.val = t.val % 6 * 1024 + 256 * s + b.val) :
    prod (iblk m c 0 t) (iblk m c 1 t) s (ix2 a b) = cols m c p q C := by
  pointwise [Proof.Xbc.prod, cols, PAD]
  rw [dif_pos (by omega)]
  refine Finset.sum_congr rfl fun k _ => congrArg₂ (fun p q : EReal => p * q) ((x_at m c t a k).trans ?_) ((w_at m c t k _).trans ?_)
  all_goals blk_ext

/-- A point leaves the other column blocks' tails alone. -/
theorem carry_off (c : Dev nD) (n : ℕ) (hn : n < 96) (x : S6x8x1024.Idx) (h : (x 0).val ≠ n % 6) : carry m c (n + 1) x = carry m c n x := by
  have hN : n < cfg0.N := lt_of_lt_of_eq hn N_0.symm
  have hj : (x 0).val ≠ (grid0.coords ⟨n, hN⟩ 1).val := by rw [(at_point ⟨n, hN⟩).2]; exact h
  refine (congrFun (carry_succ m c ⟨n, hN⟩) x).trans ((tails_off _ _ _ _ _ hj).trans ?_)
  exact if_neg fun h' => hj h'.2

/-- A point that is not on a column block's first row block finds there the last rows of the product one row block up. -/
theorem carry_at (c : Dev nD) (u t : Fin cfg0.N) (ht : t.val = u.val + 6) (x : S6x8x1024.Idx) (h : (x 0).val = t.val % 6) :
    carry m c t.val x = prod (iblk m c 0 u) (iblk m c 1 u) ((x 2).val / 256) (ix2 ⟨1016 + (x 1).val, by have : (x 1).val < 8 := (x 1).isLt; omega⟩ ⟨(x 2).val % 256, Nat.mod_lt _ (by decide)⟩) := by
  have hN := lt_of_lt_of_eq t.isLt N_0
  rw [ht, carry_off m c (u.val + 5) (by omega) x (by omega), carry_off m c (u.val + 4) (by omega) x (by omega),
    carry_off m c (u.val + 3) (by omega) x (by omega), carry_off m c (u.val + 2) (by omega) x (by omega),
    carry_off m c (u.val + 1) (by omega) x (by omega), carry_succ m c u]
  refine tails_at _ _ _ _ _ ?_
  have := (at_point u).2
  show (x 0).val = (grid0.coords u 1).val
  omega

/-- A strip is a run of rows of the padded columns, from its sixth row on. -/
theorem strip_at (c : Dev nD) (t : Fin cfg0.N) (s : ℕ) (hs : s < 4) (y : Fin 1032) (b : Fin 256) (hy : 5 ≤ y.val) (p : Fin 4) (q : Fin 4099) (C : Fin 6144)
    (hp : p.val = t.val / 24) (hq : q.val + 5 = t.val / 6 % 4 * 1024 + y.val) (hC : C.val = t.val % 6 * 1024 + 256 * s + b.val) :
    strip (iblk m c 0 t) (iblk m c 1 t) (fresh (grid0.coords t) (carry m c t.val)) (jx (grid0.coords t)) s (ix2 y b) = cols m c p q C := by
  have hN := lt_of_lt_of_eq t.isLt N_0
  obtain ⟨h1, h2⟩ := at_point t
  unfold strip glue
  by_cases h8 : y.val < 8
  · rw [dif_pos (show ((ix2 y b : S1032x256.Idx) 0).val < 8 from h8)]
    unfold head fresh
    by_cases h0 : t.val / 6 % 4 = 0
    · rw [if_pos ⟨h1.mpr h0, rfl⟩, cols_zero m c p q C (by omega)]
      show Scalar.ofBits (F := Ideal) .f32 0x00000000#32 = (0 : EReal)
      pointwise
    · rw [if_neg fun h => h0 (h1.mp h.1)]
      have hu : t.val - 6 < cfg0.N := lt_of_lt_of_eq (by omega : t.val - 6 < 96) N_0.symm
      refine (carry_at m c ⟨t.val - 6, hu⟩ t (by show t.val = t.val - 6 + 6; omega) _ h2).trans ?_
      refine (congrArg (fun s' => prod (iblk m c 0 ⟨t.val - 6, hu⟩) (iblk m c 1 ⟨t.val - 6, hu⟩) s' _) (?_ : _ = s)).trans (prod_at m c ⟨t.val - 6, hu⟩ s hs _ _ p q C ?_ ?_ ?_)
      · show (256 * s + b.val) % 1024 / 256 = s
        omega
      · show p.val = (t.val - 6) / 24
        omega
      · show q.val = (t.val - 6) / 6 % 4 * 1024 + (1016 + y.val) + 3
        omega
      · show C.val = (t.val - 6) % 6 * 1024 + 256 * s + (256 * s + b.val) % 1024 % 256
        omega
  · rw [dif_neg (show ¬ ((ix2 y b : S1032x256.Idx) 0).val < 8 from h8)]
    refine prod_at m c t s hs _ _ p q C hp ?_ hC
    show q.val = t.val / 6 % 4 * 1024 + (y.val - 8) + 3
    omega

/-! ## The chunks -/

/-- What point `t` leaves in its block is the reference's result there: its taps read the rows the reference's do. -/
theorem left_at (c : Dev nD) (t : Fin cfg0.N) (a b : Fin 1024) (r : Fin 16384) (C : Fin 6144)
    (h0 : r.val = t.val / 6 * 1024 + a.val) (h1 : C.val = t.val % 6 * 1024 + b.val) :
    left m c t (ix2 a b) = REF (m ((c : Thread nD τ).loc main_arg0)) (m ((c : Thread nD τ).loc main_arg1)) (m ((c : Thread nD τ).loc main_arg2)) (m ((c : Thread nD τ).loc main_arg3)) (ix2 r C) := by
  have hN := lt_of_lt_of_eq t.isLt N_0
  have hg : ∀ (y : Fin 1032) (d : Fin 256) (p : Fin 4) (q : Fin 4099) (C : Fin 6144), 5 ≤ y.val → p.val = t.val / 24 → q.val + 5 = t.val / 6 % 4 * 1024 + y.val →
      C.val = t.val % 6 * 1024 + 256 * (b.val / 256) + d.val →
      strip (iblk m c 0 t) (iblk m c 1 t) (fresh (grid0.coords t) (carry m c t.val)) (jx (grid0.coords t)) (b.val / 256) (ix2 y d)
      = PAD (m ((c : Thread nD τ).loc main_arg0)) (m ((c : Thread nD τ).loc main_arg1)) (ix3 p q C) :=
    fun y d p q C hy hp hq hC => strip_at m c t (b.val / 256) (by omega) y d hy p q C hp hq hC
  show chunk (rows72 (strip (iblk m c 0 t) (iblk m c 1 t) (fresh (grid0.coords t) (carry m c t.val)) (jx (grid0.coords t)) (b.val / 256)) (a.val / 64)) (tap (iblk m c 2 t) 0 _) (tap (iblk m c 2 t) 1 _) (tap (iblk m c 2 t) 2 _) (tap (iblk m c 2 t) 3 _) (bias (iblk m c 3 t) _) _
    = SILU (CONV (PAD (m ((c : Thread nD τ).loc main_arg0)) (m ((c : Thread nD τ).loc main_arg1))) _ _) _
  generalize strip (iblk m c 0 t) (iblk m c 1 t) (fresh (grid0.coords t) (carry m c t.val)) (jx (grid0.coords t)) (b.val / 256) = g at hg ⊢
  generalize PAD (m ((c : Thread nD τ).loc main_arg0)) (m ((c : Thread nD τ).loc main_arg1)) = e at hg ⊢
  pointwise [chunk, rows72, tap, bias, SILU, CONV]
  refine congrArg (fun z : EReal => z * Ideal.logistic z) ?_
  refine congrArg₂ (fun p q : EReal => p + q) (congrArg₂ (fun p q : EReal => p + q) (congrArg₂ (fun p q : EReal => p + q) (congrArg₂ (fun p q : EReal => p + q)
    (congrArg₂ (fun p q : EReal => p * q) (hg _ _ _ _ _ ?_ ?_ ?_ ?_) ((k_at m c t _ _).trans ?_)) (congrArg₂ (fun p q : EReal => p * q) (hg _ _ _ _ _ ?_ ?_ ?_ ?_) ((k_at m c t _ _).trans ?_)))
    (congrArg₂ (fun p q : EReal => p * q) (hg _ _ _ _ _ ?_ ?_ ?_ ?_) ((k_at m c t _ _).trans ?_))) (congrArg₂ (fun p q : EReal => p * q) (hg _ _ _ _ _ ?_ ?_ ?_ ?_) ((k_at m c t _ _).trans ?_)))
    ((b_at m c t _).trans ?_)
  all_goals first | blk_ext | (dsimp only; omega)

/-- Where block index `y` of point `t` sits in the result. -/
theorem place (t : Fin cfg0.N) (y : S1024x1024.Idx) :
    (((cfg0.win 4).blk t).view.emb y 0).val = t.val / 6 * 1024 + (y 0).val
    ∧ (((cfg0.win 4).blk t).view.emb y 1).val = t.val % 6 * 1024 + (y 1).val := by
  constructor <;> blk_simp [idx t] <;> simp

/-- After the call its result is the reference's value of its arguments. -/
theorem final (c : Dev nD) : (Proof.Xbc.dats m 0 c).arrAt 4 (cfgs 0).N = REF (m ((c : Thread nD τ).loc main_arg0)) (m ((c : Thread nD τ).loc main_arg1)) (m ((c : Thread nD τ).loc main_arg2)) (m ((c : Thread nD τ).loc main_arg3)) := by
  refine (Proof.Xbc.dats m 0 c).arrAt_eq_of_covers 4 _ (by decide +kernel) fun t _ y => ?_
  blk_simp
  rw [after_4]
  obtain ⟨h0, h1⟩ := place t y
  rw [eq_ix2 (((cfg0.win 4).blk t).view.emb y)]
  exact (congrArg _ (eq_ix2 y)).trans (left_at m c t (y 0) (y 1) _ _ h0 h1)

/-- The kernel and the reference, run on the same arguments, end with the same result. -/
theorem algebraic : Cert.algebraic_XbcConvIdeal_XbcConvReferenceIdeal := fun m ρ m' ρ' _ hag =>
  ⟨fun c => REF (m ((c.tc : Thread nD τ).loc main_arg0)) (m ((c.tc : Thread nD τ).loc main_arg1)) (m ((c.tc : Thread nD τ).loc main_arg2)) (m ((c.tc : Thread nD τ).loc main_arg3)),
    (θ_run _ _ _).mono (fun _ h c => ⟨(h.1 c).trans (final m c), h.2.1 c⟩) (Proof.Xbc.run m ρ),
    (θ_run _ _ _).mono (fun _ h c => ⟨(h c).1.trans (by unfold Cert.XbcConvReferenceIdeal.Value.res_main_v39; rw [(hag c).1, (hag c).2.1, (hag c).2.2.1, (hag c).2.2.2]; rfl), (h c).2⟩) (Cert.XbcConvReferenceIdeal.Value.run m' ρ')⟩

end Cert.XbcConvIdeal.RefValue

end
-- ==== Proof.lean ====
module

public import proofs.«01_k».proof.Defs
public import proofs.«01_k».proof.Proof.AttentionFrame
public import proofs.«01_k».proof.Proof.Gen.FfnIn.Frame
public import proofs.«01_k».proof.Proof.Gen.FfnInIdeal.Frame
public import proofs.«01_k».proof.Proof.Gen.FfnInReferenceIdeal.Run
public import proofs.«01_k».proof.Proof.Gen.FfnDown.Frame
public import proofs.«01_k».proof.Proof.Gen.FfnDownIdeal.Frame
public import proofs.«01_k».proof.Proof.Gen.FfnDownReferenceIdeal.Run
public import proofs.«01_k».proof.Proof.Gen.InZ.Frame
public import proofs.«01_k».proof.Proof.Gen.InZIdeal.Frame
public import proofs.«01_k».proof.Proof.Gen.InZReferenceIdeal.Run
public import proofs.«01_k».proof.Proof.Gen.InGates.Frame
public import proofs.«01_k».proof.Proof.Gen.InGatesIdeal.Frame
public import proofs.«01_k».proof.Proof.Gen.InGatesReferenceIdeal.Run
public import proofs.«01_k».proof.Proof.Gen.ProjAb.Frame
public import proofs.«01_k».proof.Proof.Gen.ProjAbIdeal.Frame
public import proofs.«01_k».proof.Proof.Gen.ProjAbReferenceIdeal.Run
public import proofs.«01_k».proof.Proof.Gen.WOut.Frame
public import proofs.«01_k».proof.Proof.Gen.WOutIdeal.Frame
public import proofs.«01_k».proof.Proof.Gen.WOutReferenceIdeal.Run
public import proofs.«01_k».proof.Proof.Gen.NormIn.Frame
public import proofs.«01_k».proof.Proof.Gen.NormInIdeal.Frame
public import proofs.«01_k».proof.Proof.Gen.NormInReferenceIdeal.Run
public import proofs.«01_k».proof.Proof.FfnInValue
public import proofs.«01_k».proof.Proof.FfnDownValue
public import proofs.«01_k».proof.Proof.InZValue
public import proofs.«01_k».proof.Proof.InGatesValue
public import proofs.«01_k».proof.Proof.ProjAbValue
public import proofs.«01_k».proof.Proof.WOutValue
public import proofs.«01_k».proof.Proof.NormInValue
public import proofs.«01_k».proof.Proof.XbcFrame
public import proofs.«01_k».proof.Proof.XbcConvValue

/-
  The claims of the certificate, put together: the attention call's frame, and for each of the other calls its frames,
  the (empty) list of rewrites, and that the call computes what its reference computes.
-/

@[expose] public section

open Idealize.ShloMosaic Idealize.ShloMosaic.TcCoe Idealize.SL.Sem

namespace Cert.Proof

/-- The reference of FfnIn runs, leaves its arguments as they were, and holds no semaphore. -/
theorem ffnIn_reference_frame : quiescent_FfnInReferenceIdeal := fun m ρ _ =>
  (θ_run _ _ _).mono (fun r h => ⟨fun c => (h c).2, sem_eq_zero_of_no_sems (by decide) r.2⟩) (Cert.FfnInReferenceIdeal.Value.run m ρ)

/-- The reference of FfnDown runs, leaves its arguments as they were, and holds no semaphore. -/
theorem ffnDown_reference_frame : quiescent_FfnDownReferenceIdeal := fun m ρ _ =>
  (θ_run _ _ _).mono (fun r h => ⟨fun c => (h c).2, sem_eq_zero_of_no_sems (by decide) r.2⟩) (Cert.FfnDownReferenceIdeal.Value.run m ρ)

/-- The reference of InZ runs, leaves its arguments as they were, and holds no semaphore. -/
theorem inZ_reference_frame : quiescent_InZReferenceIdeal := fun m ρ _ =>
  (θ_run _ _ _).mono (fun r h => ⟨fun c => (h c).2, sem_eq_zero_of_no_sems (by decide) r.2⟩) (Cert.InZReferenceIdeal.Value.run m ρ)

/-- The reference of InGates runs, leaves its arguments as they were, and holds no semaphore. -/
theorem inGates_reference_frame : quiescent_InGatesReferenceIdeal := fun m ρ _ =>
  (θ_run _ _ _).mono (fun r h => ⟨fun c => (h c).2, sem_eq_zero_of_no_sems (by decide) r.2⟩) (Cert.InGatesReferenceIdeal.Value.run m ρ)

/-- The reference of ProjAb runs, leaves its arguments as they were, and holds no semaphore. -/
theorem projAb_reference_frame : quiescent_ProjAbReferenceIdeal := fun m ρ _ =>
  (θ_run _ _ _).mono (fun r h => ⟨fun c => (h c).2, sem_eq_zero_of_no_sems (by decide) r.2⟩) (Cert.ProjAbReferenceIdeal.Value.run m ρ)

/-- The reference of WOut runs, leaves its arguments as they were, and holds no semaphore. -/
theorem wOut_reference_frame : quiescent_WOutReferenceIdeal := fun m ρ _ =>
  (θ_run _ _ _).mono (fun r h => ⟨fun c => (h c).2, sem_eq_zero_of_no_sems (by decide) r.2⟩) (Cert.WOutReferenceIdeal.Value.run m ρ)

/-- The reference of NormIn runs, leaves its arguments as they were, and holds no semaphore. -/
theorem normIn_reference_frame : quiescent_NormInReferenceIdeal := fun m ρ _ =>
  (θ_run _ _ _).mono (fun r h => ⟨fun c => (h c).2.2, sem_eq_zero_of_no_sems (by decide) r.2⟩) (Cert.NormInReferenceIdeal.Value.run m ρ)

/-- The reference of XbcConv runs, leaves its arguments as they were, and holds no semaphore. -/
theorem xbcConv_reference_frame : quiescent_XbcConvReferenceIdeal := fun m ρ _ =>
  (θ_run _ _ _).mono (fun r h => ⟨fun c => (h c).2, sem_eq_zero_of_no_sems (by decide) r.2⟩) (Cert.XbcConvReferenceIdeal.Value.run m ρ)

/-- Everything the certificate claims. -/
theorem claim : Claim :=
  ⟨Cert.Kernel.Gen.facts, Cert.FfnIn.Gen.facts, Cert.FfnInIdeal.Gen.facts, Cert.FfnInReferenceIdeal.Gen.facts, Cert.FfnDown.Gen.facts, Cert.FfnDownIdeal.Gen.facts, Cert.FfnDownReferenceIdeal.Gen.facts, Cert.InZ.Gen.facts, Cert.InZIdeal.Gen.facts, Cert.InZReferenceIdeal.Gen.facts, Cert.InGates.Gen.facts, Cert.InGatesIdeal.Gen.facts, Cert.InGatesReferenceIdeal.Gen.facts, Cert.ProjAb.Gen.facts, Cert.ProjAbIdeal.Gen.facts, Cert.ProjAbReferenceIdeal.Gen.facts, Cert.WOut.Gen.facts, Cert.WOutIdeal.Gen.facts, Cert.WOutReferenceIdeal.Gen.facts, Cert.NormIn.Gen.facts, Cert.NormInIdeal.Gen.facts, Cert.NormInReferenceIdeal.Gen.facts, Cert.XbcConv.Gen.facts, Cert.XbcConvIdeal.Gen.facts, Cert.XbcConvReferenceIdeal.Gen.facts,
    fun m ρ _ => Cert.Proof.Attention.quiescent m ρ,
    fun m ρ _ => Cert.FfnIn.Gen.frame m ρ,
    fun m ρ _ => Cert.FfnInIdeal.Gen.frame m ρ,
    ffnIn_reference_frame,
    fun m ρ _ => Cert.FfnDown.Gen.frame m ρ,
    fun m ρ _ => Cert.FfnDownIdeal.Gen.frame m ρ,
    ffnDown_reference_frame,
    fun m ρ _ => Cert.InZ.Gen.frame m ρ,
    fun m ρ _ => Cert.InZIdeal.Gen.frame m ρ,
    inZ_reference_frame,
    fun m ρ _ => Cert.InGates.Gen.frame m ρ,
    fun m ρ _ => Cert.InGatesIdeal.Gen.frame m ρ,
    inGates_reference_frame,
    fun m ρ _ => Cert.ProjAb.Gen.frame m ρ,
    fun m ρ _ => Cert.ProjAbIdeal.Gen.frame m ρ,
    projAb_reference_frame,
    fun m ρ _ => Cert.WOut.Gen.frame m ρ,
    fun m ρ _ => Cert.WOutIdeal.Gen.frame m ρ,
    wOut_reference_frame,
    fun m ρ _ => Cert.NormIn.Gen.frame m ρ,
    fun m ρ _ => Cert.NormInIdeal.Gen.frame m ρ,
    normIn_reference_frame,
    Cert.Proof.Xbc.frame_bits,
    fun m ρ _ => (θ_run _ _ _).mono (fun _ h => h.2) (Cert.Proof.Xbc.run m ρ),
    xbcConv_reference_frame,
    trivial,
    Cert.FfnInIdeal.RefValue.algebraic,
    trivial,
    Cert.FfnDownIdeal.RefValue.algebraic,
    trivial,
    Cert.InZIdeal.RefValue.algebraic,
    trivial,
    Cert.InGatesIdeal.RefValue.algebraic,
    trivial,
    Cert.ProjAbIdeal.RefValue.algebraic,
    trivial,
    Cert.WOutIdeal.RefValue.algebraic,
    trivial,
    Cert.NormInIdeal.RefValue.algebraic,
    trivial,
    Cert.XbcConvIdeal.RefValue.algebraic⟩

end Cert.Proof

end
